-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Reference41Ideal (m : (ℓ : Loc Cert.Reference41Ideal.nD Cert.Reference41Ideal.τ Cert.Reference41Ideal.sig) → Buf (Elt Ideal) ℓ) : Prop :=
  True

def Pre_Kernel42 (m : (ℓ : Loc Cert.Kernel42.nD Cert.Kernel42.τ Cert.Kernel42.sig) → Buf (Elt Bits) ℓ) : Prop :=
  True

def Pre_Kernel42Ideal (m : (ℓ : Loc Cert.Kernel42Ideal.nD Cert.Kernel42Ideal.τ Cert.Kernel42Ideal.sig) → Buf (Elt Ideal) ℓ) : Prop :=
  True

def Pre_Reference42Ideal (m : (ℓ : Loc Cert.Reference42Ideal.nD Cert.Reference42Ideal.τ Cert.Reference42Ideal.sig) → Buf (Elt Ideal) ℓ) : Prop :=
  True

def Pre_Kernel43 (m : (ℓ : Loc Cert.Kernel43.nD Cert.Kernel43.τ Cert.Kernel43.sig) → Buf (Elt Bits) ℓ) : Prop :=
  True

def Pre_Kernel43Ideal (m : (ℓ : Loc Cert.Kernel43Ideal.nD Cert.Kernel43Ideal.τ Cert.Kernel43Ideal.sig) → Buf (Elt Ideal) ℓ) : Prop :=
  True

def Pre_Reference43Ideal (m : (ℓ : Loc Cert.Reference43Ideal.nD Cert.Reference43Ideal.τ Cert.Reference43Ideal.sig) → Buf (Elt Ideal) ℓ) : Prop :=
  True

def Pre_Kernel44 (m : (ℓ : Loc Cert.Kernel44.nD Cert.Kernel44.τ Cert.Kernel44.sig) → Buf (Elt Bits) ℓ) : Prop :=
  True

def Pre_Kernel44Ideal (m : (ℓ : Loc Cert.Kernel44Ideal.nD Cert.Kernel44Ideal.τ Cert.Kernel44Ideal.sig) → Buf (Elt Ideal) ℓ) : Prop :=
  True

def Pre_Reference44Ideal (m : (ℓ : Loc Cert.Reference44Ideal.nD Cert.Reference44Ideal.τ Cert.Reference44Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2)
      ∧ r.2.mem ((c.tc : Thread Cert.Kernel38.nD Cert.Kernel38.τ).loc Cert.Kernel38.main_arg3) = m ((c.tc : Thread Cert.Kernel38.nD Cert.Kernel38.τ).loc Cert.Kernel38.main_arg3))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
      ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2)
      ∧ r.2.mem ((c.tc : Thread Cert.Kernel39.nD Cert.Kernel39.τ).loc Cert.Kernel39.main_arg3) = m ((c.tc : Thread Cert.Kernel39.nD Cert.Kernel39.τ).loc Cert.Kernel39.main_arg3))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
      ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2)
      ∧ r.2.mem ((c.tc : Thread Cert.Reference39Ideal.nD Cert.Reference39Ideal.τ).loc Cert.Reference39Ideal.main_arg3) = m ((c.tc : Thread Cert.Reference39Ideal.nD Cert.Reference39Ideal.τ).loc Cert.Reference39Ideal.main_arg3))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1)
      ∧ r.2.mem ((c.tc : Thread Cert.Kernel40.nD Cert.Kernel40.τ).loc Cert.Kernel40.main_arg2) = m ((c.tc : Thread Cert.Kernel40.nD Cert.Kernel40.τ).loc Cert.Kernel40.main_arg2)
      ∧ r.2.mem ((c.tc : Thread Cert.Kernel40.nD Cert.Kernel40.τ).loc Cert.Kernel40.main_arg3) = m ((c.tc : Thread Cert.Kernel40.nD Cert.Kernel40.τ).loc Cert.Kernel40.main_arg3))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
      ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2)
      ∧ r.2.mem ((c.tc : Thread Cert.Reference40Ideal.nD Cert.Reference40Ideal.τ).loc Cert.Reference40Ideal.main_arg3) = m ((c.tc : Thread Cert.Reference40Ideal.nD Cert.Reference40Ideal.τ).loc Cert.Reference40Ideal.main_arg3))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1))
      ∧ r.2.sem = fun _ => 0)

def quiescent_Kernel42 [hKernel42 : Cert.Kernel42.Facts] : Prop :=
  ∀ (m : (ℓ : Loc Cert.Kernel42.nD Cert.Kernel42.τ Cert.Kernel42.sig) → Buf (Elt Bits) ℓ) (g : Dev Cert.Kernel42.nD → PrngReg), Pre_Kernel42 m →
    θ_run (Cert.Kernel42.defs (F := Bits)) (onTc (τ := Cert.Kernel42.τ) (Cert.Kernel42.main (F := Bits))) ⟨m, fun _ => 0, g⟩ (fun r => (∀ c : Dev Cert.Kernel42.nD,
      r.2.mem ((c.tc : Thread Cert.Kernel42.nD Cert.Kernel42.τ).loc Cert.Kernel42.main_arg0) = m ((c.tc : Thread Cert.Kernel42.nD Cert.Kernel42.τ).loc Cert.Kernel42.main_arg0)
      ∧ r.2.mem ((c.tc : Thread Cert.Kernel42.nD Cert.Kernel42.τ).loc Cert.Kernel42.main_arg1) = m ((c.tc : Thread Cert.Kernel42.nD Cert.Kernel42.τ).loc Cert.Kernel42.main_arg1)
      ∧ r.2.mem ((c.tc : Thread Cert.Kernel42.nD Cert.Kernel42.τ).loc Cert.Kernel42.main_arg2) = m ((c.tc : Thread Cert.Kernel42.nD Cert.Kernel42.τ).loc Cert.Kernel42.main_arg2)
      ∧ r.2.mem ((c.tc : Thread Cert.Kernel42.nD Cert.Kernel42.τ).loc Cert.Kernel42.main_arg3) = m ((c.tc : Thread Cert.Kernel42.nD Cert.Kernel42.τ).loc Cert.Kernel42.main_arg3))
      ∧ r.2.sem = fun _ => 0)

def quiescent_Kernel42Ideal [hKernel42Ideal : Cert.Kernel42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
      ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
      ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2)
      ∧ r.2.mem ((c.tc : Thread Cert.Kernel42Ideal.nD Cert.Kernel42Ideal.τ).loc Cert.Kernel42Ideal.main_arg3) = m ((c.tc : Thread Cert.Kernel42Ideal.nD Cert.Kernel42Ideal.τ).loc Cert.Kernel42Ideal.main_arg3))
      ∧ r.2.sem = fun _ => 0)

def quiescent_Reference42Ideal [hReference42Ideal : Cert.Reference42Ideal.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0)
      ∧ r.2.mem ((c.tc : Thread Cert.Reference42Ideal.nD Cert.Reference42Ideal.τ).loc Cert.Reference42Ideal.main_arg1) = m ((c.tc : Thread Cert.Reference42Ideal.nD Cert.Reference42Ideal.τ).loc Cert.Reference42Ideal.main_arg1)
      ∧ r.2.mem ((c.tc : Thread Cert.Reference42Ideal.nD Cert.Reference42Ideal.τ).loc Cert.Reference42Ideal.main_arg2) = m ((c.tc : Thread Cert.Reference42Ideal.nD Cert.Reference42Ideal.τ).loc Cert.Reference42Ideal.main_arg2)
      ∧ r.2.mem ((c.tc : Thread Cert.Reference42Ideal.nD Cert.Reference42Ideal.τ).loc Cert.Reference42Ideal.main_arg3) = m ((c.tc : Thread Cert.Reference42Ideal.nD Cert.Reference42Ideal.τ).loc Cert.Reference42Ideal.main_arg3))
      ∧ r.2.sem = fun _ => 0)

def quiescent_Kernel43 [hKernel43 : Cert.Kernel43.Facts] : Prop :=
  ∀ (m : (ℓ : Loc Cert.Kernel43.nD Cert.Kernel43.τ Cert.Kernel43.sig) → Buf (Elt Bits) ℓ) (g : Dev Cert.Kernel43.nD → PrngReg), Pre_Kernel43 m →
    θ_run (Cert.Kernel43.defs (F := Bits)) (onTc (τ := Cert.Kernel43.τ) (Cert.Kernel43.main (F := Bits))) ⟨m, fun _ => 0, g⟩ (fun r => (∀ c : Dev Cert.Kernel43.nD,
      r.2.mem ((c.tc : Thread Cert.Kernel43.nD Cert.Kernel43.τ).loc Cert.Kernel43.main_arg0) = m ((c.tc : Thread Cert.Kernel43.nD Cert.Kernel43.τ).loc Cert.Kernel43.main_arg0)
      ∧ r.2.mem ((c.tc : Thread Cert.Kernel43.nD Cert.Kernel43.τ).loc Cert.Kernel43.main_arg1) = m ((c.tc : Thread Cert.Kernel43.nD Cert.Kernel43.τ).loc Cert.Kernel43.main_arg1)
      ∧ r.2.mem ((c.tc : Thread Cert.Kernel43.nD Cert.Kernel43.τ).loc Cert.Kernel43.main_arg2) = m ((c.tc : Thread Cert.Kernel43.nD Cert.Kernel43.τ).loc Cert.Kernel43.main_arg2)
      ∧ r.2.mem ((c.tc : Thread Cert.Kernel43.nD Cert.Kernel43.τ).loc Cert.Kernel43.main_arg3) = m ((c.tc : Thread Cert.Kernel43.nD Cert.Kernel43.τ).loc Cert.Kernel43.main_arg3))
      ∧ r.2.sem = fun _ => 0)

def quiescent_Kernel43Ideal [hKernel43Ideal : Cert.Kernel43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg), Pre_Kernel43Ideal m →
    θ_run (Cert.Kernel43Ideal.defs (F := Ideal)) (onTc (τ := Cert.Kernel43Ideal.τ) (Cert.Kernel43Ideal.main (F := Ideal))) ⟨m, fun _ => 0, g⟩ (fun r => (∀ c : Dev Cert.Kernel43Ideal.nD,
      r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
      ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
      ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2)
      ∧ r.2.mem ((c.tc : Thread Cert.Kernel43Ideal.nD Cert.Kernel43Ideal.τ).loc Cert.Kernel43Ideal.main_arg3) = m ((c.tc : Thread Cert.Kernel43Ideal.nD Cert.Kernel43Ideal.τ).loc Cert.Kernel43Ideal.main_arg3))
      ∧ r.2.sem = fun _ => 0)

def quiescent_Reference43Ideal [hReference43Ideal : Cert.Reference43Ideal.Facts] : Prop :=
  ∀ (m : (ℓ : Loc Cert.Reference43Ideal.nD Cert.Reference43Ideal.τ Cert.Reference43Ideal.sig) → Buf (Elt Ideal) ℓ) (g : Dev Cert.Reference43Ideal.nD → PrngReg), Pre_Reference43Ideal m →
    θ_run (Cert.Reference43Ideal.defs (F := Ideal)) (onTc (τ := Cert.Reference43Ideal.τ) (Cert.Reference43Ideal.main (F := Ideal))) ⟨m, fun _ => 0, g⟩ (fun r => (∀ c : Dev Cert.Reference43Ideal.nD,
      r.2.mem ((c.tc : Thread Cert.Reference43Ideal.nD Cert.Reference43Ideal.τ).loc Cert.Reference43Ideal.main_arg0) = m ((c.tc : Thread Cert.Reference43Ideal.nD Cert.Reference43Ideal.τ).loc Cert.Reference43Ideal.main_arg0)
      ∧ r.2.mem ((c.tc : Thread Cert.Reference43Ideal.nD Cert.Reference43Ideal.τ).loc Cert.Reference43Ideal.main_arg1) = m ((c.tc : Thread Cert.Reference43Ideal.nD Cert.Reference43Ideal.τ).loc Cert.Reference43Ideal.main_arg1)
      ∧ r.2.mem ((c.tc : Thread Cert.Reference43Ideal.nD Cert.Reference43Ideal.τ).loc Cert.Reference43Ideal.main_arg2) = m ((c.tc : Thread Cert.Reference43Ideal.nD Cert.Reference43Ideal.τ).loc Cert.Reference43Ideal.main_arg2)
      ∧ r.2.mem ((c.tc : Thread Cert.Reference43Ideal.nD Cert.Reference43Ideal.τ).loc Cert.Reference43Ideal.main_arg3) = m ((c.tc : Thread Cert.Reference43Ideal.nD Cert.Reference43Ideal.τ).loc Cert.Reference43Ideal.main_arg3))
      ∧ r.2.sem = fun _ => 0)

def quiescent_Kernel44 [hKernel44 : Cert.Kernel44.Facts] : Prop :=
  ∀ (m : (ℓ : Loc Cert.Kernel44.nD Cert.Kernel44.τ Cert.Kernel44.sig) → Buf (Elt Bits) ℓ) (g : Dev Cert.Kernel44.nD → PrngReg), Pre_Kernel44 m →
    θ_run (Cert.Kernel44.defs (F := Bits)) (onTc (τ := Cert.Kernel44.τ) (Cert.Kernel44.main (F := Bits))) ⟨m, fun _ => 0, g⟩ (fun r => (∀ c : Dev Cert.Kernel44.nD,
      r.2.mem ((c.tc : Thread Cert.Kernel44.nD Cert.Kernel44.τ).loc Cert.Kernel44.main_arg0) = m ((c.tc : Thread Cert.Kernel44.nD Cert.Kernel44.τ).loc Cert.Kernel44.main_arg0)
      ∧ r.2.mem ((c.tc : Thread Cert.Kernel44.nD Cert.Kernel44.τ).loc Cert.Kernel44.main_arg1) = m ((c.tc : Thread Cert.Kernel44.nD Cert.Kernel44.τ).loc Cert.Kernel44.main_arg1)
      ∧ r.2.mem ((c.tc : Thread Cert.Kernel44.nD Cert.Kernel44.τ).loc Cert.Kernel44.main_arg2) = m ((c.tc : Thread Cert.Kernel44.nD Cert.Kernel44.τ).loc Cert.Kernel44.main_arg2)
      ∧ r.2.mem ((c.tc : Thread Cert.Kernel44.nD Cert.Kernel44.τ).loc Cert.Kernel44.main_arg3) = m ((c.tc : Thread Cert.Kernel44.nD Cert.Kernel44.τ).loc Cert.Kernel44.main_arg3))
      ∧ r.2.sem = fun _ => 0)

def quiescent_Kernel44Ideal [hKernel44Ideal : Cert.Kernel44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg), Pre_Kernel44Ideal m →
    θ_run (Cert.Kernel44Ideal.defs (F := Ideal)) (onTc (τ := Cert.Kernel44Ideal.τ) (Cert.Kernel44Ideal.main (F := Ideal))) ⟨m, fun _ => 0, g⟩ (fun r => (∀ c : Dev Cert.Kernel44Ideal.nD,
      r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
      ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1)
      ∧ r.2.mem ((c.tc : Thread Cert.Kernel44Ideal.nD Cert.Kernel44Ideal.τ).loc Cert.Kernel44Ideal.main_arg2) = m ((c.tc : Thread Cert.Kernel44Ideal.nD Cert.Kernel44Ideal.τ).loc Cert.Kernel44Ideal.main_arg2)
      ∧ r.2.mem ((c.tc : Thread Cert.Kernel44Ideal.nD Cert.Kernel44Ideal.τ).loc Cert.Kernel44Ideal.main_arg3) = m ((c.tc : Thread Cert.Kernel44Ideal.nD Cert.Kernel44Ideal.τ).loc Cert.Kernel44Ideal.main_arg3))
      ∧ r.2.sem = fun _ => 0)

def quiescent_Reference44Ideal [hReference44Ideal : Cert.Reference44Ideal.Facts] : Prop :=
  ∀ (m : (ℓ : Loc Cert.Reference44Ideal.nD Cert.Reference44Ideal.τ Cert.Reference44Ideal.sig) → Buf (Elt Ideal) ℓ) (g : Dev Cert.Reference44Ideal.nD → PrngReg), Pre_Reference44Ideal m →
    θ_run (Cert.Reference44Ideal.defs (F := Ideal)) (onTc (τ := Cert.Reference44Ideal.τ) (Cert.Reference44Ideal.main (F := Ideal))) ⟨m, fun _ => 0, g⟩ (fun r => (∀ c : Dev Cert.Reference44Ideal.nD,
      r.2.mem ((c.tc : Thread Cert.Reference44Ideal.nD Cert.Reference44Ideal.τ).loc Cert.Reference44Ideal.main_arg0) = m ((c.tc : Thread Cert.Reference44Ideal.nD Cert.Reference44Ideal.τ).loc Cert.Reference44Ideal.main_arg0)
      ∧ r.2.mem ((c.tc : Thread Cert.Reference44Ideal.nD Cert.Reference44Ideal.τ).loc Cert.Reference44Ideal.main_arg1) = m ((c.tc : Thread Cert.Reference44Ideal.nD Cert.Reference44Ideal.τ).loc Cert.Reference44Ideal.main_arg1)
      ∧ r.2.mem ((c.tc : Thread Cert.Reference44Ideal.nD Cert.Reference44Ideal.τ).loc Cert.Reference44Ideal.main_arg2) = m ((c.tc : Thread Cert.Reference44Ideal.nD Cert.Reference44Ideal.τ).loc Cert.Reference44Ideal.main_arg2)
      ∧ r.2.mem ((c.tc : Thread Cert.Reference44Ideal.nD Cert.Reference44Ideal.τ).loc Cert.Reference44Ideal.main_arg3) = m ((c.tc : Thread Cert.Reference44Ideal.nD Cert.Reference44Ideal.τ).loc Cert.Reference44Ideal.main_arg3))
      ∧ r.2.sem = fun _ => 0)

def preserves_Kernel_KernelIdeal : Prop :=
  IdealRules.named_const.Statement Cert.KernelIdeal.κ "ln2" .f32 0x3F317218#32 ((Real.log 2 : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v98_0)) (v1 : (c : Dev Cert.KernelIdeal.nD) → Buf (Elt Ideal) ((c.tc : Thread Cert.KernelIdeal.nD Cert.KernelIdeal.τ).loc Cert.KernelIdeal.main_v98_1)) (v2 : (c : Dev Cert.KernelIdeal.nD) → Buf (Elt Ideal) ((c.tc : Thread Cert.KernelIdeal.nD Cert.KernelIdeal.τ).loc Cert.KernelIdeal.main_v98_2)) (v3 : (c : Dev Cert.KernelIdeal.nD) → Buf (Elt Ideal) ((c.tc : Thread Cert.KernelIdeal.nD Cert.KernelIdeal.τ).loc Cert.KernelIdeal.main_v98_3)) (v4 : (c : Dev Cert.KernelIdeal.nD) → Buf (Elt Ideal) ((c.tc : Thread Cert.KernelIdeal.nD Cert.KernelIdeal.τ).loc Cert.KernelIdeal.main_v98_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98_0) = v0 c
          ∧ r.2.mem ((c.tc : Thread Cert.KernelIdeal.nD Cert.KernelIdeal.τ).loc Cert.KernelIdeal.main_v98_1) = v1 c
          ∧ r.2.mem ((c.tc : Thread Cert.KernelIdeal.nD Cert.KernelIdeal.τ).loc Cert.KernelIdeal.main_v98_2) = v2 c
          ∧ r.2.mem ((c.tc : Thread Cert.KernelIdeal.nD Cert.KernelIdeal.τ).loc Cert.KernelIdeal.main_v98_3) = v3 c
          ∧ r.2.mem ((c.tc : Thread Cert.KernelIdeal.nD Cert.KernelIdeal.τ).loc Cert.KernelIdeal.main_v98_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_v61) = v2 c
          ∧ r.2.mem ((c.tc : Thread Cert.ReferenceIdeal.nD Cert.ReferenceIdeal.τ).loc Cert.ReferenceIdeal.main_v93) = v3 c
          ∧ r.2.mem ((c.tc : Thread Cert.ReferenceIdeal.nD Cert.ReferenceIdeal.τ).loc Cert.ReferenceIdeal.main_v94) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v0) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v0) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v3) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v8) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v0) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v2) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v3) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v2) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v3) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v2) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v0) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v2) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v3) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v4_0)) (v1 : (c : Dev Cert.Kernel25Ideal.nD) → Buf (Elt Ideal) ((c.tc : Thread Cert.Kernel25Ideal.nD Cert.Kernel25Ideal.τ).loc Cert.Kernel25Ideal.main_v4_1)) (v2 : (c : Dev Cert.Kernel25Ideal.nD) → Buf (Elt Ideal) ((c.tc : Thread Cert.Kernel25Ideal.nD Cert.Kernel25Ideal.τ).loc Cert.Kernel25Ideal.main_v4_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v4_0) = v0 c
          ∧ r.2.mem ((c.tc : Thread Cert.Kernel25Ideal.nD Cert.Kernel25Ideal.τ).loc Cert.Kernel25Ideal.main_v4_1) = v1 c
          ∧ r.2.mem ((c.tc : Thread Cert.Kernel25Ideal.nD Cert.Kernel25Ideal.τ).loc Cert.Kernel25Ideal.main_v4_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v24) = v0 c
          ∧ r.2.mem ((c.tc : Thread Cert.Reference25Ideal.nD Cert.Reference25Ideal.τ).loc Cert.Reference25Ideal.main_v25) = v1 c
          ∧ r.2.mem ((c.tc : Thread Cert.Reference25Ideal.nD Cert.Reference25Ideal.τ).loc Cert.Reference25Ideal.main_v26) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v23) = v0 c
          ∧ r.2.mem ((c.tc : Thread Cert.Reference26Ideal.nD Cert.Reference26Ideal.τ).loc Cert.Reference26Ideal.main_v4) = v1 c
          ∧ r.2.mem ((c.tc : Thread Cert.Reference26Ideal.nD Cert.Reference26Ideal.τ).loc Cert.Reference26Ideal.main_v10) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v4_0)) (v1 : (c : Dev Cert.Kernel27Ideal.nD) → Buf (Elt Ideal) ((c.tc : Thread Cert.Kernel27Ideal.nD Cert.Kernel27Ideal.τ).loc Cert.Kernel27Ideal.main_v4_1)) (v2 : (c : Dev Cert.Kernel27Ideal.nD) → Buf (Elt Ideal) ((c.tc : Thread Cert.Kernel27Ideal.nD Cert.Kernel27Ideal.τ).loc Cert.Kernel27Ideal.main_v4_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v4_0) = v0 c
          ∧ r.2.mem ((c.tc : Thread Cert.Kernel27Ideal.nD Cert.Kernel27Ideal.τ).loc Cert.Kernel27Ideal.main_v4_1) = v1 c
          ∧ r.2.mem ((c.tc : Thread Cert.Kernel27Ideal.nD Cert.Kernel27Ideal.τ).loc Cert.Kernel27Ideal.main_v4_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v24) = v0 c
          ∧ r.2.mem ((c.tc : Thread Cert.Reference27Ideal.nD Cert.Reference27Ideal.τ).loc Cert.Reference27Ideal.main_v25) = v1 c
          ∧ r.2.mem ((c.tc : Thread Cert.Reference27Ideal.nD Cert.Reference27Ideal.τ).loc Cert.Reference27Ideal.main_v26) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v4_0)) (v1 : (c : Dev Cert.Kernel28Ideal.nD) → Buf (Elt Ideal) ((c.tc : Thread Cert.Kernel28Ideal.nD Cert.Kernel28Ideal.τ).loc Cert.Kernel28Ideal.main_v4_1)) (v2 : (c : Dev Cert.Kernel28Ideal.nD) → Buf (Elt Ideal) ((c.tc : Thread Cert.Kernel28Ideal.nD Cert.Kernel28Ideal.τ).loc Cert.Kernel28Ideal.main_v4_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v4_0) = v0 c
          ∧ r.2.mem ((c.tc : Thread Cert.Kernel28Ideal.nD Cert.Kernel28Ideal.τ).loc Cert.Kernel28Ideal.main_v4_1) = v1 c
          ∧ r.2.mem ((c.tc : Thread Cert.Kernel28Ideal.nD Cert.Kernel28Ideal.τ).loc Cert.Kernel28Ideal.main_v4_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v24) = v0 c
          ∧ r.2.mem ((c.tc : Thread Cert.Reference28Ideal.nD Cert.Reference28Ideal.τ).loc Cert.Reference28Ideal.main_v25) = v1 c
          ∧ r.2.mem ((c.tc : Thread Cert.Reference28Ideal.nD Cert.Reference28Ideal.τ).loc Cert.Reference28Ideal.main_v26) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v4_0)) (v1 : (c : Dev Cert.Kernel29Ideal.nD) → Buf (Elt Ideal) ((c.tc : Thread Cert.Kernel29Ideal.nD Cert.Kernel29Ideal.τ).loc Cert.Kernel29Ideal.main_v4_1)) (v2 : (c : Dev Cert.Kernel29Ideal.nD) → Buf (Elt Ideal) ((c.tc : Thread Cert.Kernel29Ideal.nD Cert.Kernel29Ideal.τ).loc Cert.Kernel29Ideal.main_v4_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v4_0) = v0 c
          ∧ r.2.mem ((c.tc : Thread Cert.Kernel29Ideal.nD Cert.Kernel29Ideal.τ).loc Cert.Kernel29Ideal.main_v4_1) = v1 c
          ∧ r.2.mem ((c.tc : Thread Cert.Kernel29Ideal.nD Cert.Kernel29Ideal.τ).loc Cert.Kernel29Ideal.main_v4_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v24) = v0 c
          ∧ r.2.mem ((c.tc : Thread Cert.Reference29Ideal.nD Cert.Reference29Ideal.τ).loc Cert.Reference29Ideal.main_v25) = v1 c
          ∧ r.2.mem ((c.tc : Thread Cert.Reference29Ideal.nD Cert.Reference29Ideal.τ).loc Cert.Reference29Ideal.main_v26) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v23) = v0 c
          ∧ r.2.mem ((c.tc : Thread Cert.Reference30Ideal.nD Cert.Reference30Ideal.τ).loc Cert.Reference30Ideal.main_v4) = v1 c
          ∧ r.2.mem ((c.tc : Thread Cert.Reference30Ideal.nD Cert.Reference30Ideal.τ).loc Cert.Reference30Ideal.main_v10) = v2 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v23) = v0 c
          ∧ r.2.mem ((c.tc : Thread Cert.Reference31Ideal.nD Cert.Reference31Ideal.τ).loc Cert.Reference31Ideal.main_v4) = v1 c
          ∧ r.2.mem ((c.tc : Thread Cert.Reference31Ideal.nD Cert.Reference31Ideal.τ).loc Cert.Reference31Ideal.main_v10) = v2 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v23) = v0 c
          ∧ r.2.mem ((c.tc : Thread Cert.Reference32Ideal.nD Cert.Reference32Ideal.τ).loc Cert.Reference32Ideal.main_v4) = v1 c
          ∧ r.2.mem ((c.tc : Thread Cert.Reference32Ideal.nD Cert.Reference32Ideal.τ).loc Cert.Reference32Ideal.main_v10) = v2 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v4_0)) (v1 : (c : Dev Cert.Kernel33Ideal.nD) → Buf (Elt Ideal) ((c.tc : Thread Cert.Kernel33Ideal.nD Cert.Kernel33Ideal.τ).loc Cert.Kernel33Ideal.main_v4_1)) (v2 : (c : Dev Cert.Kernel33Ideal.nD) → Buf (Elt Ideal) ((c.tc : Thread Cert.Kernel33Ideal.nD Cert.Kernel33Ideal.τ).loc Cert.Kernel33Ideal.main_v4_2)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v4_0) = v0 c
          ∧ r.2.mem ((c.tc : Thread Cert.Kernel33Ideal.nD Cert.Kernel33Ideal.τ).loc Cert.Kernel33Ideal.main_v4_1) = v1 c
          ∧ r.2.mem ((c.tc : Thread Cert.Kernel33Ideal.nD Cert.Kernel33Ideal.τ).loc Cert.Kernel33Ideal.main_v4_2) = v2 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v24) = v0 c
          ∧ r.2.mem ((c.tc : Thread Cert.Reference33Ideal.nD Cert.Reference33Ideal.τ).loc Cert.Reference33Ideal.main_v25) = v1 c
          ∧ r.2.mem ((c.tc : Thread Cert.Reference33Ideal.nD Cert.Reference33Ideal.τ).loc Cert.Reference33Ideal.main_v26) = v2 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)) (v2 : (c : Dev Cert.Kernel34Ideal.nD) → Buf (Elt Ideal) ((c.tc : Thread Cert.Kernel34Ideal.nD Cert.Kernel34Ideal.τ).loc Cert.Kernel34Ideal.main_v0_2)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_v0_2) = v2 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v23) = v0 c
          ∧ r.2.mem ((c.tc : Thread Cert.Reference34Ideal.nD Cert.Reference34Ideal.τ).loc Cert.Reference34Ideal.main_v4) = v1 c
          ∧ r.2.mem ((c.tc : Thread Cert.Reference34Ideal.nD Cert.Reference34Ideal.τ).loc Cert.Reference34Ideal.main_v10) = v2 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)) →
    ∃ (v0 : (c : Dev Cert.Kernel35Ideal.nD) → Buf (Elt Ideal) ((c.tc : Thread Cert.Kernel35Ideal.nD Cert.Kernel35Ideal.τ).loc Cert.Kernel35Ideal.main_v4_0)) (v1 : (c : Dev Cert.Kernel35Ideal.nD) → Buf (Elt Ideal) ((c.tc : Thread Cert.Kernel35Ideal.nD Cert.Kernel35Ideal.τ).loc Cert.Kernel35Ideal.main_v4_1)) (v2 : (c : Dev Cert.Kernel35Ideal.nD) → Buf (Elt Ideal) ((c.tc : Thread Cert.Kernel35Ideal.nD Cert.Kernel35Ideal.τ).loc Cert.Kernel35Ideal.main_v4_2)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v4_0) = v0 c
          ∧ r.2.mem ((c.tc : Thread Cert.Kernel35Ideal.nD Cert.Kernel35Ideal.τ).loc Cert.Kernel35Ideal.main_v4_1) = v1 c
          ∧ r.2.mem ((c.tc : Thread Cert.Kernel35Ideal.nD Cert.Kernel35Ideal.τ).loc Cert.Kernel35Ideal.main_v4_2) = v2 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v24) = v0 c
          ∧ r.2.mem ((c.tc : Thread Cert.Reference35Ideal.nD Cert.Reference35Ideal.τ).loc Cert.Reference35Ideal.main_v25) = v1 c
          ∧ r.2.mem ((c.tc : Thread Cert.Reference35Ideal.nD Cert.Reference35Ideal.τ).loc Cert.Reference35Ideal.main_v26) = v2 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)) →
    ∃ (v0 : (c : Dev Cert.Kernel36Ideal.nD) → Buf (Elt Ideal) ((c.tc : Thread Cert.Kernel36Ideal.nD Cert.Kernel36Ideal.τ).loc Cert.Kernel36Ideal.main_v4_0)) (v1 : (c : Dev Cert.Kernel36Ideal.nD) → Buf (Elt Ideal) ((c.tc : Thread Cert.Kernel36Ideal.nD Cert.Kernel36Ideal.τ).loc Cert.Kernel36Ideal.main_v4_1)) (v2 : (c : Dev Cert.Kernel36Ideal.nD) → Buf (Elt Ideal) ((c.tc : Thread Cert.Kernel36Ideal.nD Cert.Kernel36Ideal.τ).loc Cert.Kernel36Ideal.main_v4_2)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v4_0) = v0 c
          ∧ r.2.mem ((c.tc : Thread Cert.Kernel36Ideal.nD Cert.Kernel36Ideal.τ).loc Cert.Kernel36Ideal.main_v4_1) = v1 c
          ∧ r.2.mem ((c.tc : Thread Cert.Kernel36Ideal.nD Cert.Kernel36Ideal.τ).loc Cert.Kernel36Ideal.main_v4_2) = v2 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v24) = v0 c
          ∧ r.2.mem ((c.tc : Thread Cert.Reference36Ideal.nD Cert.Reference36Ideal.τ).loc Cert.Reference36Ideal.main_v25) = v1 c
          ∧ r.2.mem ((c.tc : Thread Cert.Reference36Ideal.nD Cert.Reference36Ideal.τ).loc Cert.Reference36Ideal.main_v26) = v2 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)) →
    ∃ (v0 : (c : Dev Cert.Kernel37Ideal.nD) → Buf (Elt Ideal) ((c.tc : Thread Cert.Kernel37Ideal.nD Cert.Kernel37Ideal.τ).loc Cert.Kernel37Ideal.main_v0_0)) (v1 : (c : Dev Cert.Kernel37Ideal.nD) → Buf (Elt Ideal) ((c.tc : Thread Cert.Kernel37Ideal.nD Cert.Kernel37Ideal.τ).loc Cert.Kernel37Ideal.main_v0_1)) (v2 : (c : Dev Cert.Kernel37Ideal.nD) → Buf (Elt Ideal) ((c.tc : Thread Cert.Kernel37Ideal.nD Cert.Kernel37Ideal.τ).loc Cert.Kernel37Ideal.main_v0_2)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0_0) = v0 c
          ∧ r.2.mem ((c.tc : Thread Cert.Kernel37Ideal.nD Cert.Kernel37Ideal.τ).loc Cert.Kernel37Ideal.main_v0_1) = v1 c
          ∧ r.2.mem ((c.tc : Thread Cert.Kernel37Ideal.nD Cert.Kernel37Ideal.τ).loc Cert.Kernel37Ideal.main_v0_2) = v2 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v23) = v0 c
          ∧ r.2.mem ((c.tc : Thread Cert.Reference37Ideal.nD Cert.Reference37Ideal.τ).loc Cert.Reference37Ideal.main_v4) = v1 c
          ∧ r.2.mem ((c.tc : Thread Cert.Reference37Ideal.nD Cert.Reference37Ideal.τ).loc Cert.Reference37Ideal.main_v10) = v2 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)
      ∧ m' ((c.tc : Thread Cert.Reference38Ideal.nD Cert.Reference38Ideal.τ).loc Cert.Reference38Ideal.main_arg3) = m ((c.tc : Thread Cert.Kernel38Ideal.nD Cert.Kernel38Ideal.τ).loc Cert.Kernel38Ideal.main_arg3)) →
    ∃ (v0 : (c : Dev Cert.Kernel38Ideal.nD) → Buf (Elt Ideal) ((c.tc : Thread Cert.Kernel38Ideal.nD Cert.Kernel38Ideal.τ).loc Cert.Kernel38Ideal.main_v4_0)) (v1 : (c : Dev Cert.Kernel38Ideal.nD) → Buf (Elt Ideal) ((c.tc : Thread Cert.Kernel38Ideal.nD Cert.Kernel38Ideal.τ).loc Cert.Kernel38Ideal.main_v4_1)) (v2 : (c : Dev Cert.Kernel38Ideal.nD) → Buf (Elt Ideal) ((c.tc : Thread Cert.Kernel38Ideal.nD Cert.Kernel38Ideal.τ).loc Cert.Kernel38Ideal.main_v4_2)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v4_0) = v0 c
          ∧ r.2.mem ((c.tc : Thread Cert.Kernel38Ideal.nD Cert.Kernel38Ideal.τ).loc Cert.Kernel38Ideal.main_v4_1) = v1 c
          ∧ r.2.mem ((c.tc : Thread Cert.Kernel38Ideal.nD Cert.Kernel38Ideal.τ).loc Cert.Kernel38Ideal.main_v4_2) = v2 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
          ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v24) = v0 c
          ∧ r.2.mem ((c.tc : Thread Cert.Reference38Ideal.nD Cert.Reference38Ideal.τ).loc Cert.Reference38Ideal.main_v25) = v1 c
          ∧ r.2.mem ((c.tc : Thread Cert.Reference38Ideal.nD Cert.Reference38Ideal.τ).loc Cert.Reference38Ideal.main_v26) = v2 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2)
          ∧ r.2.mem ((c.tc : Thread Cert.Reference38Ideal.nD Cert.Reference38Ideal.τ).loc Cert.Reference38Ideal.main_arg3) = m' ((c.tc : Thread Cert.Reference38Ideal.nD Cert.Reference38Ideal.τ).loc Cert.Reference38Ideal.main_arg3))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)
      ∧ m' ((c.tc : Thread Cert.Reference39Ideal.nD Cert.Reference39Ideal.τ).loc Cert.Reference39Ideal.main_arg3) = m ((c.tc : Thread Cert.Kernel39Ideal.nD Cert.Kernel39Ideal.τ).loc Cert.Kernel39Ideal.main_arg3)) →
    ∃ (v0 : (c : Dev Cert.Kernel39Ideal.nD) → Buf (Elt Ideal) ((c.tc : Thread Cert.Kernel39Ideal.nD Cert.Kernel39Ideal.τ).loc Cert.Kernel39Ideal.main_v4_0)) (v1 : (c : Dev Cert.Kernel39Ideal.nD) → Buf (Elt Ideal) ((c.tc : Thread Cert.Kernel39Ideal.nD Cert.Kernel39Ideal.τ).loc Cert.Kernel39Ideal.main_v4_1)) (v2 : (c : Dev Cert.Kernel39Ideal.nD) → Buf (Elt Ideal) ((c.tc : Thread Cert.Kernel39Ideal.nD Cert.Kernel39Ideal.τ).loc Cert.Kernel39Ideal.main_v4_2)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v4_0) = v0 c
          ∧ r.2.mem ((c.tc : Thread Cert.Kernel39Ideal.nD Cert.Kernel39Ideal.τ).loc Cert.Kernel39Ideal.main_v4_1) = v1 c
          ∧ r.2.mem ((c.tc : Thread Cert.Kernel39Ideal.nD Cert.Kernel39Ideal.τ).loc Cert.Kernel39Ideal.main_v4_2) = v2 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
          ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v24) = v0 c
          ∧ r.2.mem ((c.tc : Thread Cert.Reference39Ideal.nD Cert.Reference39Ideal.τ).loc Cert.Reference39Ideal.main_v25) = v1 c
          ∧ r.2.mem ((c.tc : Thread Cert.Reference39Ideal.nD Cert.Reference39Ideal.τ).loc Cert.Reference39Ideal.main_v26) = v2 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2)
          ∧ r.2.mem ((c.tc : Thread Cert.Reference39Ideal.nD Cert.Reference39Ideal.τ).loc Cert.Reference39Ideal.main_arg3) = m' ((c.tc : Thread Cert.Reference39Ideal.nD Cert.Reference39Ideal.τ).loc Cert.Reference39Ideal.main_arg3))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)
      ∧ m' ((c.tc : Thread Cert.Reference40Ideal.nD Cert.Reference40Ideal.τ).loc Cert.Reference40Ideal.main_arg2) = m ((c.tc : Thread Cert.Kernel40Ideal.nD Cert.Kernel40Ideal.τ).loc Cert.Kernel40Ideal.main_arg2)
      ∧ m' ((c.tc : Thread Cert.Reference40Ideal.nD Cert.Reference40Ideal.τ).loc Cert.Reference40Ideal.main_arg3) = m ((c.tc : Thread Cert.Kernel40Ideal.nD Cert.Kernel40Ideal.τ).loc Cert.Kernel40Ideal.main_arg3)) →
    ∃ (v0 : (c : Dev Cert.Kernel40Ideal.nD) → Buf (Elt Ideal) ((c.tc : Thread Cert.Kernel40Ideal.nD Cert.Kernel40Ideal.τ).loc Cert.Kernel40Ideal.main_v4_0)) (v1 : (c : Dev Cert.Kernel40Ideal.nD) → Buf (Elt Ideal) ((c.tc : Thread Cert.Kernel40Ideal.nD Cert.Kernel40Ideal.τ).loc Cert.Kernel40Ideal.main_v4_1)) (v2 : (c : Dev Cert.Kernel40Ideal.nD) → Buf (Elt Ideal) ((c.tc : Thread Cert.Kernel40Ideal.nD Cert.Kernel40Ideal.τ).loc Cert.Kernel40Ideal.main_v4_2)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v4_0) = v0 c
          ∧ r.2.mem ((c.tc : Thread Cert.Kernel40Ideal.nD Cert.Kernel40Ideal.τ).loc Cert.Kernel40Ideal.main_v4_1) = v1 c
          ∧ r.2.mem ((c.tc : Thread Cert.Kernel40Ideal.nD Cert.Kernel40Ideal.τ).loc Cert.Kernel40Ideal.main_v4_2) = v2 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
          ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
          ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v24) = v0 c
          ∧ r.2.mem ((c.tc : Thread Cert.Reference40Ideal.nD Cert.Reference40Ideal.τ).loc Cert.Reference40Ideal.main_v25) = v1 c
          ∧ r.2.mem ((c.tc : Thread Cert.Reference40Ideal.nD Cert.Reference40Ideal.τ).loc Cert.Reference40Ideal.main_v26) = v2 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1)
          ∧ r.2.mem ((c.tc : Thread Cert.Reference40Ideal.nD Cert.Reference40Ideal.τ).loc Cert.Reference40Ideal.main_arg2) = m' ((c.tc : Thread Cert.Reference40Ideal.nD Cert.Reference40Ideal.τ).loc Cert.Reference40Ideal.main_arg2)
          ∧ r.2.mem ((c.tc : Thread Cert.Reference40Ideal.nD Cert.Reference40Ideal.τ).loc Cert.Reference40Ideal.main_arg3) = m' ((c.tc : Thread Cert.Reference40Ideal.nD Cert.Reference40Ideal.τ).loc Cert.Reference40Ideal.main_arg3))

def preserves_Kernel41_Kernel41Ideal : Prop :=
  True

def algebraic_Kernel41Ideal_Reference41Ideal [hKernel41Ideal : Cert.Kernel41Ideal.Facts] [hReference41Ideal : Cert.Reference41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)) →
    ∃ (v0 : (c : Dev Cert.Kernel41Ideal.nD) → Buf (Elt Ideal) ((c.tc : Thread Cert.Kernel41Ideal.nD Cert.Kernel41Ideal.τ).loc Cert.Kernel41Ideal.main_v0_0)) (v1 : (c : Dev Cert.Kernel41Ideal.nD) → Buf (Elt Ideal) ((c.tc : Thread Cert.Kernel41Ideal.nD Cert.Kernel41Ideal.τ).loc Cert.Kernel41Ideal.main_v0_1)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v0_0) = v0 c
          ∧ r.2.mem ((c.tc : Thread Cert.Kernel41Ideal.nD Cert.Kernel41Ideal.τ).loc Cert.Kernel41Ideal.main_v0_1) = v1 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v7) = v0 c
          ∧ r.2.mem ((c.tc : Thread Cert.Reference41Ideal.nD Cert.Reference41Ideal.τ).loc Cert.Reference41Ideal.main_v22) = v1 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1))

def preserves_Kernel42_Kernel42Ideal : Prop :=
  True

def algebraic_Kernel42Ideal_Reference42Ideal [hKernel42Ideal : Cert.Kernel42Ideal.Facts] [hReference42Ideal : Cert.Reference42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg)
    (m' : (ℓ : Loc Cert.Reference42Ideal.nD Cert.Reference42Ideal.τ Cert.Reference42Ideal.sig) → Buf (Elt Ideal) ℓ) (g' : Dev Cert.Reference42Ideal.nD → PrngReg), Pre_Kernel42Ideal m →
    (∀ c : Dev Cert.Kernel42Ideal.nD,
      m' ((c.tc : Thread Cert.Reference42Ideal.nD Cert.Reference42Ideal.τ).loc Cert.Reference42Ideal.main_arg0) = m ((c.tc : Thread Cert.Kernel42Ideal.nD Cert.Kernel42Ideal.τ).loc Cert.Kernel42Ideal.main_arg0)
      ∧ m' ((c.tc : Thread Cert.Reference42Ideal.nD Cert.Reference42Ideal.τ).loc Cert.Reference42Ideal.main_arg1) = m ((c.tc : Thread Cert.Kernel42Ideal.nD Cert.Kernel42Ideal.τ).loc Cert.Kernel42Ideal.main_arg1)
      ∧ m' ((c.tc : Thread Cert.Reference42Ideal.nD Cert.Reference42Ideal.τ).loc Cert.Reference42Ideal.main_arg2) = m ((c.tc : Thread Cert.Kernel42Ideal.nD Cert.Kernel42Ideal.τ).loc Cert.Kernel42Ideal.main_arg2)
      ∧ m' ((c.tc : Thread Cert.Reference42Ideal.nD Cert.Reference42Ideal.τ).loc Cert.Reference42Ideal.main_arg3) = m ((c.tc : Thread Cert.Kernel42Ideal.nD Cert.Kernel42Ideal.τ).loc Cert.Kernel42Ideal.main_arg3)) →
    ∃ (v0 : (c : Dev Cert.Kernel42Ideal.nD) → Buf (Elt Ideal) ((c.tc : Thread Cert.Kernel42Ideal.nD Cert.Kernel42Ideal.τ).loc Cert.Kernel42Ideal.main_v2_0)) (v1 : (c : Dev Cert.Kernel42Ideal.nD) → Buf (Elt Ideal) ((c.tc : Thread Cert.Kernel42Ideal.nD Cert.Kernel42Ideal.τ).loc Cert.Kernel42Ideal.main_v2_1)) (v2 : (c : Dev Cert.Kernel42Ideal.nD) → Buf (Elt Ideal) ((c.tc : Thread Cert.Kernel42Ideal.nD Cert.Kernel42Ideal.τ).loc Cert.Kernel42Ideal.main_v2_2)),
      θ_run (Cert.Kernel42Ideal.defs (F := Ideal)) (onTc (τ := Cert.Kernel42Ideal.τ) (Cert.Kernel42Ideal.main (F := Ideal))) ⟨m, fun _ => 0, g⟩ (fun r => ∀ c : Dev Cert.Kernel42Ideal.nD,
          r.2.mem ((c.tc : Thread Cert.Kernel42Ideal.nD Cert.Kernel42Ideal.τ).loc Cert.Kernel42Ideal.main_v2_0) = v0 c
          ∧ r.2.mem ((c.tc : Thread Cert.Kernel42Ideal.nD Cert.Kernel42Ideal.τ).loc Cert.Kernel42Ideal.main_v2_1) = v1 c
          ∧ r.2.mem ((c.tc : Thread Cert.Kernel42Ideal.nD Cert.Kernel42Ideal.τ).loc Cert.Kernel42Ideal.main_v2_2) = v2 c
          ∧ r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
          ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
          ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2)
          ∧ r.2.mem ((c.tc : Thread Cert.Kernel42Ideal.nD Cert.Kernel42Ideal.τ).loc Cert.Kernel42Ideal.main_arg3) = m ((c.tc : Thread Cert.Kernel42Ideal.nD Cert.Kernel42Ideal.τ).loc Cert.Kernel42Ideal.main_arg3))
      ∧ θ_run (Cert.Reference42Ideal.defs (F := Ideal)) (onTc (τ := Cert.Reference42Ideal.τ) (Cert.Reference42Ideal.main (F := Ideal))) ⟨m', fun _ => 0, g'⟩ (fun r => ∀ c : Dev Cert.Reference42Ideal.nD,
          r.2.mem ((c.tc : Thread Cert.Reference42Ideal.nD Cert.Reference42Ideal.τ).loc Cert.Reference42Ideal.main_v29) = v0 c
          ∧ r.2.mem ((c.tc : Thread Cert.Reference42Ideal.nD Cert.Reference42Ideal.τ).loc Cert.Reference42Ideal.main_v26) = v1 c
          ∧ r.2.mem ((c.tc : Thread Cert.Reference42Ideal.nD Cert.Reference42Ideal.τ).loc Cert.Reference42Ideal.main_v30) = v2 c
          ∧ r.2.mem ((c.tc : Thread Cert.Reference42Ideal.nD Cert.Reference42Ideal.τ).loc Cert.Reference42Ideal.main_arg0) = m' ((c.tc : Thread Cert.Reference42Ideal.nD Cert.Reference42Ideal.τ).loc Cert.Reference42Ideal.main_arg0)
          ∧ r.2.mem ((c.tc : Thread Cert.Reference42Ideal.nD Cert.Reference42Ideal.τ).loc Cert.Reference42Ideal.main_arg1) = m' ((c.tc : Thread Cert.Reference42Ideal.nD Cert.Reference42Ideal.τ).loc Cert.Reference42Ideal.main_arg1)
          ∧ r.2.mem ((c.tc : Thread Cert.Reference42Ideal.nD Cert.Reference42Ideal.τ).loc Cert.Reference42Ideal.main_arg2) = m' ((c.tc : Thread Cert.Reference42Ideal.nD Cert.Reference42Ideal.τ).loc Cert.Reference42Ideal.main_arg2)
          ∧ r.2.mem ((c.tc : Thread Cert.Reference42Ideal.nD Cert.Reference42Ideal.τ).loc Cert.Reference42Ideal.main_arg3) = m' ((c.tc : Thread Cert.Reference42Ideal.nD Cert.Reference42Ideal.τ).loc Cert.Reference42Ideal.main_arg3))

def preserves_Kernel43_Kernel43Ideal : Prop :=
  True

def algebraic_Kernel43Ideal_Reference43Ideal [hKernel43Ideal : Cert.Kernel43Ideal.Facts] [hReference43Ideal : Cert.Reference43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg)
    (m' : (ℓ : Loc Cert.Reference43Ideal.nD Cert.Reference43Ideal.τ Cert.Reference43Ideal.sig) → Buf (Elt Ideal) ℓ) (g' : Dev Cert.Reference43Ideal.nD → PrngReg), Pre_Kernel43Ideal m →
    (∀ c : Dev Cert.Kernel43Ideal.nD,
      m' ((c.tc : Thread Cert.Reference43Ideal.nD Cert.Reference43Ideal.τ).loc Cert.Reference43Ideal.main_arg0) = m ((c.tc : Thread Cert.Kernel43Ideal.nD Cert.Kernel43Ideal.τ).loc Cert.Kernel43Ideal.main_arg0)
      ∧ m' ((c.tc : Thread Cert.Reference43Ideal.nD Cert.Reference43Ideal.τ).loc Cert.Reference43Ideal.main_arg1) = m ((c.tc : Thread Cert.Kernel43Ideal.nD Cert.Kernel43Ideal.τ).loc Cert.Kernel43Ideal.main_arg1)
      ∧ m' ((c.tc : Thread Cert.Reference43Ideal.nD Cert.Reference43Ideal.τ).loc Cert.Reference43Ideal.main_arg2) = m ((c.tc : Thread Cert.Kernel43Ideal.nD Cert.Kernel43Ideal.τ).loc Cert.Kernel43Ideal.main_arg2)
      ∧ m' ((c.tc : Thread Cert.Reference43Ideal.nD Cert.Reference43Ideal.τ).loc Cert.Reference43Ideal.main_arg3) = m ((c.tc : Thread Cert.Kernel43Ideal.nD Cert.Kernel43Ideal.τ).loc Cert.Kernel43Ideal.main_arg3)) →
    ∃ (v0 : (c : Dev Cert.Kernel43Ideal.nD) → Buf (Elt Ideal) ((c.tc : Thread Cert.Kernel43Ideal.nD Cert.Kernel43Ideal.τ).loc Cert.Kernel43Ideal.main_v1_0)) (v1 : (c : Dev Cert.Kernel43Ideal.nD) → Buf (Elt Ideal) ((c.tc : Thread Cert.Kernel43Ideal.nD Cert.Kernel43Ideal.τ).loc Cert.Kernel43Ideal.main_v1_1)),
      θ_run (Cert.Kernel43Ideal.defs (F := Ideal)) (onTc (τ := Cert.Kernel43Ideal.τ) (Cert.Kernel43Ideal.main (F := Ideal))) ⟨m, fun _ => 0, g⟩ (fun r => ∀ c : Dev Cert.Kernel43Ideal.nD,
          r.2.mem ((c.tc : Thread Cert.Kernel43Ideal.nD Cert.Kernel43Ideal.τ).loc Cert.Kernel43Ideal.main_v1_0) = v0 c
          ∧ r.2.mem ((c.tc : Thread Cert.Kernel43Ideal.nD Cert.Kernel43Ideal.τ).loc Cert.Kernel43Ideal.main_v1_1) = v1 c
          ∧ r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
          ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
          ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2)
          ∧ r.2.mem ((c.tc : Thread Cert.Kernel43Ideal.nD Cert.Kernel43Ideal.τ).loc Cert.Kernel43Ideal.main_arg3) = m ((c.tc : Thread Cert.Kernel43Ideal.nD Cert.Kernel43Ideal.τ).loc Cert.Kernel43Ideal.main_arg3))
      ∧ θ_run (Cert.Reference43Ideal.defs (F := Ideal)) (onTc (τ := Cert.Reference43Ideal.τ) (Cert.Reference43Ideal.main (F := Ideal))) ⟨m', fun _ => 0, g'⟩ (fun r => ∀ c : Dev Cert.Reference43Ideal.nD,
          r.2.mem ((c.tc : Thread Cert.Reference43Ideal.nD Cert.Reference43Ideal.τ).loc Cert.Reference43Ideal.main_v10) = v0 c
          ∧ r.2.mem ((c.tc : Thread Cert.Reference43Ideal.nD Cert.Reference43Ideal.τ).loc Cert.Reference43Ideal.main_v11) = v1 c
          ∧ r.2.mem ((c.tc : Thread Cert.Reference43Ideal.nD Cert.Reference43Ideal.τ).loc Cert.Reference43Ideal.main_arg0) = m' ((c.tc : Thread Cert.Reference43Ideal.nD Cert.Reference43Ideal.τ).loc Cert.Reference43Ideal.main_arg0)
          ∧ r.2.mem ((c.tc : Thread Cert.Reference43Ideal.nD Cert.Reference43Ideal.τ).loc Cert.Reference43Ideal.main_arg1) = m' ((c.tc : Thread Cert.Reference43Ideal.nD Cert.Reference43Ideal.τ).loc Cert.Reference43Ideal.main_arg1)
          ∧ r.2.mem ((c.tc : Thread Cert.Reference43Ideal.nD Cert.Reference43Ideal.τ).loc Cert.Reference43Ideal.main_arg2) = m' ((c.tc : Thread Cert.Reference43Ideal.nD Cert.Reference43Ideal.τ).loc Cert.Reference43Ideal.main_arg2)
          ∧ r.2.mem ((c.tc : Thread Cert.Reference43Ideal.nD Cert.Reference43Ideal.τ).loc Cert.Reference43Ideal.main_arg3) = m' ((c.tc : Thread Cert.Reference43Ideal.nD Cert.Reference43Ideal.τ).loc Cert.Reference43Ideal.main_arg3))

def preserves_Kernel44_Kernel44Ideal : Prop :=
  True

def algebraic_Kernel44Ideal_Reference44Ideal [hKernel44Ideal : Cert.Kernel44Ideal.Facts] [hReference44Ideal : Cert.Reference44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg)
    (m' : (ℓ : Loc Cert.Reference44Ideal.nD Cert.Reference44Ideal.τ Cert.Reference44Ideal.sig) → Buf (Elt Ideal) ℓ) (g' : Dev Cert.Reference44Ideal.nD → PrngReg), Pre_Kernel44Ideal m →
    (∀ c : Dev Cert.Kernel44Ideal.nD,
      m' ((c.tc : Thread Cert.Reference44Ideal.nD Cert.Reference44Ideal.τ).loc Cert.Reference44Ideal.main_arg0) = m ((c.tc : Thread Cert.Kernel44Ideal.nD Cert.Kernel44Ideal.τ).loc Cert.Kernel44Ideal.main_arg0)
      ∧ m' ((c.tc : Thread Cert.Reference44Ideal.nD Cert.Reference44Ideal.τ).loc Cert.Reference44Ideal.main_arg1) = m ((c.tc : Thread Cert.Kernel44Ideal.nD Cert.Kernel44Ideal.τ).loc Cert.Kernel44Ideal.main_arg1)
      ∧ m' ((c.tc : Thread Cert.Reference44Ideal.nD Cert.Reference44Ideal.τ).loc Cert.Reference44Ideal.main_arg2) = m ((c.tc : Thread Cert.Kernel44Ideal.nD Cert.Kernel44Ideal.τ).loc Cert.Kernel44Ideal.main_arg2)
      ∧ m' ((c.tc : Thread Cert.Reference44Ideal.nD Cert.Reference44Ideal.τ).loc Cert.Reference44Ideal.main_arg3) = m ((c.tc : Thread Cert.Kernel44Ideal.nD Cert.Kernel44Ideal.τ).loc Cert.Kernel44Ideal.main_arg3)) →
    ∃ (v0 : (c : Dev Cert.Kernel44Ideal.nD) → Buf (Elt Ideal) ((c.tc : Thread Cert.Kernel44Ideal.nD Cert.Kernel44Ideal.τ).loc Cert.Kernel44Ideal.main_v1_0)) (v1 : (c : Dev Cert.Kernel44Ideal.nD) → Buf (Elt Ideal) ((c.tc : Thread Cert.Kernel44Ideal.nD Cert.Kernel44Ideal.τ).loc Cert.Kernel44Ideal.main_v1_1)) (v2 : (c : Dev Cert.Kernel44Ideal.nD) → Buf (Elt Ideal) ((c.tc : Thread Cert.Kernel44Ideal.nD Cert.Kernel44Ideal.τ).loc Cert.Kernel44Ideal.main_v1_2)),
      θ_run (Cert.Kernel44Ideal.defs (F := Ideal)) (onTc (τ := Cert.Kernel44Ideal.τ) (Cert.Kernel44Ideal.main (F := Ideal))) ⟨m, fun _ => 0, g⟩ (fun r => ∀ c : Dev Cert.Kernel44Ideal.nD,
          r.2.mem ((c.tc : Thread Cert.Kernel44Ideal.nD Cert.Kernel44Ideal.τ).loc Cert.Kernel44Ideal.main_v1_0) = v0 c
          ∧ r.2.mem ((c.tc : Thread Cert.Kernel44Ideal.nD Cert.Kernel44Ideal.τ).loc Cert.Kernel44Ideal.main_v1_1) = v1 c
          ∧ r.2.mem ((c.tc : Thread Cert.Kernel44Ideal.nD Cert.Kernel44Ideal.τ).loc Cert.Kernel44Ideal.main_v1_2) = v2 c
          ∧ r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
          ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1)
          ∧ r.2.mem ((c.tc : Thread Cert.Kernel44Ideal.nD Cert.Kernel44Ideal.τ).loc Cert.Kernel44Ideal.main_arg2) = m ((c.tc : Thread Cert.Kernel44Ideal.nD Cert.Kernel44Ideal.τ).loc Cert.Kernel44Ideal.main_arg2)
          ∧ r.2.mem ((c.tc : Thread Cert.Kernel44Ideal.nD Cert.Kernel44Ideal.τ).loc Cert.Kernel44Ideal.main_arg3) = m ((c.tc : Thread Cert.Kernel44Ideal.nD Cert.Kernel44Ideal.τ).loc Cert.Kernel44Ideal.main_arg3))
      ∧ θ_run (Cert.Reference44Ideal.defs (F := Ideal)) (onTc (τ := Cert.Reference44Ideal.τ) (Cert.Reference44Ideal.main (F := Ideal))) ⟨m', fun _ => 0, g'⟩ (fun r => ∀ c : Dev Cert.Reference44Ideal.nD,
          r.2.mem ((c.tc : Thread Cert.Reference44Ideal.nD Cert.Reference44Ideal.τ).loc Cert.Reference44Ideal.main_v19) = v0 c
          ∧ r.2.mem ((c.tc : Thread Cert.Reference44Ideal.nD Cert.Reference44Ideal.τ).loc Cert.Reference44Ideal.main_v20) = v1 c
          ∧ r.2.mem ((c.tc : Thread Cert.Reference44Ideal.nD Cert.Reference44Ideal.τ).loc Cert.Reference44Ideal.main_v21) = v2 c
          ∧ r.2.mem ((c.tc : Thread Cert.Reference44Ideal.nD Cert.Reference44Ideal.τ).loc Cert.Reference44Ideal.main_arg0) = m' ((c.tc : Thread Cert.Reference44Ideal.nD Cert.Reference44Ideal.τ).loc Cert.Reference44Ideal.main_arg0)
          ∧ r.2.mem ((c.tc : Thread Cert.Reference44Ideal.nD Cert.Reference44Ideal.τ).loc Cert.Reference44Ideal.main_arg1) = m' ((c.tc : Thread Cert.Reference44Ideal.nD Cert.Reference44Ideal.τ).loc Cert.Reference44Ideal.main_arg1)
          ∧ r.2.mem ((c.tc : Thread Cert.Reference44Ideal.nD Cert.Reference44Ideal.τ).loc Cert.Reference44Ideal.main_arg2) = m' ((c.tc : Thread Cert.Reference44Ideal.nD Cert.Reference44Ideal.τ).loc Cert.Reference44Ideal.main_arg2)
          ∧ r.2.mem ((c.tc : Thread Cert.Reference44Ideal.nD Cert.Reference44Ideal.τ).loc Cert.Reference44Ideal.main_arg3) = m' ((c.tc : Thread Cert.Reference44Ideal.nD Cert.Reference44Ideal.τ).loc Cert.Reference44Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hKernel42 : Cert.Kernel42.Facts) (hKernel42Ideal : Cert.Kernel42Ideal.Facts) (hReference42Ideal : Cert.Reference42Ideal.Facts) (hKernel43 : Cert.Kernel43.Facts) (hKernel43Ideal : Cert.Kernel43Ideal.Facts) (hReference43Ideal : Cert.Reference43Ideal.Facts) (hKernel44 : Cert.Kernel44.Facts) (hKernel44Ideal : Cert.Kernel44Ideal.Facts) (hReference44Ideal : Cert.Reference44Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Reference41Ideal (hReference41Ideal := hReference41Ideal)
    ∧ quiescent_Kernel42 (hKernel42 := hKernel42)
    ∧ quiescent_Kernel42Ideal (hKernel42Ideal := hKernel42Ideal)
    ∧ quiescent_Reference42Ideal (hReference42Ideal := hReference42Ideal)
    ∧ quiescent_Kernel43 (hKernel43 := hKernel43)
    ∧ quiescent_Kernel43Ideal (hKernel43Ideal := hKernel43Ideal)
    ∧ quiescent_Reference43Ideal (hReference43Ideal := hReference43Ideal)
    ∧ quiescent_Kernel44 (hKernel44 := hKernel44)
    ∧ quiescent_Kernel44Ideal (hKernel44Ideal := hKernel44Ideal)
    ∧ quiescent_Reference44Ideal (hReference44Ideal := hReference44Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
    ∧ preserves_Kernel41_Kernel41Ideal
    ∧ algebraic_Kernel41Ideal_Reference41Ideal (hKernel41Ideal := hKernel41Ideal) (hReference41Ideal := hReference41Ideal)
    ∧ preserves_Kernel42_Kernel42Ideal
    ∧ algebraic_Kernel42Ideal_Reference42Ideal (hKernel42Ideal := hKernel42Ideal) (hReference42Ideal := hReference42Ideal)
    ∧ preserves_Kernel43_Kernel43Ideal
    ∧ algebraic_Kernel43Ideal_Reference43Ideal (hKernel43Ideal := hKernel43Ideal) (hReference43Ideal := hReference43Ideal)
    ∧ preserves_Kernel44_Kernel44Ideal
    ∧ algebraic_Kernel44Ideal_Reference44Ideal (hKernel44Ideal := hKernel44Ideal) (hReference44Ideal := hReference44Ideal)
-- ==== Pre_finite.lean ====
abbrev S16384x1024 : Shape := ⟨2, ![16384, 1024]⟩
abbrev S16384x16 : Shape := ⟨2, ![16384, 16]⟩
abbrev S_ : Shape := ⟨0, ![]⟩

class Facts : Prop where
  bcast_S_S16384x1024 : S_.BroadcastsInDim S16384x1024 (![] : Fin 0 → Fin S16384x1024.rank)
  bcast_S_S16384x16 : S_.BroadcastsInDim S16384x16 (![] : Fin 0 → Fin S16384x16.rank)

variable [Facts]

def fn {F : FTy → Type} [FloatOps F] (main_arg0 : FVec F S16384x1024 .f32) (main_arg1 : FVec F S16384x1024 .f32) (main_arg2 : FVec F S16384x1024 .f32) (main_arg3 : FVec F S16384x16 .f32) (main_arg4 : FVec F S16384x1024 .f32) : IVec S16384x1024 1 × IVec S16384x1024 1 × IVec S16384x1024 1 × IVec S16384x16 1 × IVec S16384x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S16384x1024 .f32 := Host.absf main_arg1
  let main_cst_0 : FVec F S_ .f32 := constant S_ .f32 0x7F800000#32
  let main_v4 : FVec F S16384x1024 .f32 := broadcastInDim S16384x1024 ![] bcast_S_S16384x1024 main_cst_0
  let main_v5 : IVec S16384x1024 1 := cmpf .olt main_v3 main_v4
  let main_v6 : FVec F S16384x1024 .f32 := Host.absf main_arg2
  let main_cst_1 : FVec F S_ .f32 := constant S_ .f32 0x7F800000#32
  let main_v7 : FVec F S16384x1024 .f32 := broadcastInDim S16384x1024 ![] bcast_S_S16384x1024 main_cst_1
  let main_v8 : IVec S16384x1024 1 := cmpf .olt main_v6 main_v7
  let main_v9 : FVec F S16384x16 .f32 := Host.absf main_arg3
  let main_cst_2 : FVec F S_ .f32 := constant S_ .f32 0x7F800000#32
  let main_v10 : FVec F S16384x16 .f32 := broadcastInDim S16384x16 ![] bcast_S_S16384x16 main_cst_2
  let main_v11 : IVec S16384x16 1 := cmpf .olt main_v9 main_v10
  let main_v12 : FVec F S16384x1024 .f32 := Host.absf main_arg4
  let main_cst_3 : FVec F S_ .f32 := constant S_ .f32 0x7F800000#32
  let main_v13 : FVec F S16384x1024 .f32 := broadcastInDim S16384x1024 ![] bcast_S_S16384x1024 main_cst_3
  let main_v14 : IVec S16384x1024 1 := cmpf .olt main_v12 main_v13
  (main_v2, main_v5, main_v8, main_v11, main_v14)
-- ==== Kernel.lean ====
abbrev S16384x1024 : Shape := ⟨2, ![16384, 1024]⟩
abbrev S16384x16 : Shape := ⟨2, ![16384, 16]⟩
abbrev S16384x16x64 : Shape := ⟨3, ![16384, 16, 64]⟩
abbrev S16x16384x64 : Shape := ⟨3, ![16, 16384, 64]⟩
abbrev S16x16384x16384 : Shape := ⟨3, ![16, 16384, 16384]⟩
abbrev S_ : Shape := ⟨0, ![]⟩
abbrev S16x16384 : Shape := ⟨2, ![16, 16384]⟩
abbrev S16x1x16384 : Shape := ⟨3, ![16, 1, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S16x16384x1 : Shape := ⟨3, ![16, 16384, 1]⟩
abbrev S1024 : Shape := ⟨1, ![1024]⟩
abbrev S1x1024 : Shape := ⟨2, ![1, 1024]⟩
abbrev S8x2x16384 : Shape := ⟨3, ![8, 2, 16384]⟩
abbrev S8x1x16384 : Shape := ⟨3, ![8, 1, 16384]⟩
abbrev S8x16384 : Shape := ⟨2, ![8, 16384]⟩
abbrev S16384x8 : Shape := ⟨2, ![16384, 8]⟩
abbrev S16384x8x1 : Shape := ⟨3, ![16384, 8, 1]⟩
abbrev S16384x8x128 : Shape := ⟨3, ![16384, 8, 128]⟩
abbrev S16384x128 : Shape := ⟨2, ![16384, 128]⟩
abbrev S1024x128 : Shape := ⟨2, ![1024, 128]⟩
abbrev S1x2x1024 : Shape := ⟨3, ![1, 2, 1024]⟩
abbrev S512x128 : Shape := ⟨2, ![512, 128]⟩
abbrev S1024x512 : Shape := ⟨2, ![1024, 512]⟩
abbrev S1x1x512 : Shape := ⟨3, ![1, 1, 512]⟩
abbrev S1x512 : Shape := ⟨2, ![1, 512]⟩
abbrev S512 : Shape := ⟨1, ![512]⟩
abbrev S1024x1 : Shape := ⟨2, ![1024, 1]⟩

abbrev nBuf : Space → Nat
  | .hbm => 164
  | .vmem => 34
  | .smem => 0
  | _ => 0

abbrev hbmTy0_0 (i : Nat) : BufTy := match i % 128 with
  | 0 => ⟨S16384x1024, .f32⟩
  | 1 => ⟨S16384x1024, .f32⟩
  | 2 => ⟨S16384x1024, .f32⟩
  | 3 => ⟨S16384x16, .f32⟩
  | 4 => ⟨S16384x1024, .f32⟩
  | 5 => ⟨S16384x16x64, .f32⟩
  | 6 => ⟨S16x16384x64, .f32⟩
  | 7 => ⟨S16384x16x64, .f32⟩
  | 8 => ⟨S16x16384x64, .f32⟩
  | 9 => ⟨S16x16384x16384, .f32⟩
  | 10 => ⟨S_, .f32⟩
  | 11 => ⟨S16x16384x16384, .f32⟩
  | 12 => ⟨S16x16384x16384, .f32⟩
  | 13 => ⟨S16x16384, .f32⟩
  | 14 => ⟨S16x1x16384, .f32⟩
  | 15 => ⟨S16x16384x16384, .f32⟩
  | 16 => ⟨S16x16384x16384, .f32⟩
  | 17 => ⟨S16384, .i32⟩
  | 18 => ⟨S1x16384, .i32⟩
  | 19 => ⟨S16384x1, .i32⟩
  | 20 => ⟨S16384x16384, .i32⟩
  | 21 => ⟨S16384x16384, .i32⟩
  | 22 => ⟨S16384x16384, .i1⟩
  | 23 => ⟨S_, .f32⟩
  | 24 => ⟨S_, .f32⟩
  | 25 => ⟨S16x16384x16384, .i1⟩
  | 26 => ⟨S16x16384x16384, .f32⟩
  | 27 => ⟨S16x16384x16384, .f32⟩
  | 28 => ⟨S_, .f32⟩
  | 29 => ⟨S16x16384, .f32⟩
  | 30 => ⟨S16x16384x1, .f32⟩
  | 31 => ⟨S16x16384x16384, .f32⟩
  | 32 => ⟨S16x16384x16384, .f32⟩
  | 33 => ⟨S16x16384x16384, .f32⟩
  | 34 => ⟨S_, .f32⟩
  | 35 => ⟨S16x16384, .f32⟩
  | 36 => ⟨S16x16384x1, .f32⟩
  | 37 => ⟨S16x16384x16384, .f32⟩
  | 38 => ⟨S16x16384x16384, .f32⟩
  | 39 => ⟨S16384x16x64, .f32⟩
  | 40 => ⟨S16x16384x64, .f32⟩
  | 41 => ⟨S16x16384x64, .f32⟩
  | 42 => ⟨S_, .f32⟩
  | 43 => ⟨S_, .f32⟩
  | 44 => ⟨S16x16384x1, .f32⟩
  | 45 => ⟨S16x16384x1, .f32⟩
  | 46 => ⟨S_, .f32⟩
  | 47 => ⟨S16x16384x1, .f32⟩
  | 48 => ⟨S16x16384x1, .f32⟩
  | 49 => ⟨S16384x16x64, .f32⟩
  | 50 => ⟨S16x16384x64, .f32⟩
  | 51 => ⟨S16x16384x64, .f32⟩
  | 52 => ⟨S_, .f32⟩
  | 53 => ⟨S16x16384, .f32⟩
  | 54 => ⟨S16x16384x1, .f32⟩
  | 55 => ⟨S1024, .i32⟩
  | 56 => ⟨S_, .i32⟩
  | 57 => ⟨S_, .i32⟩
  | 58 => ⟨S_, .i32⟩
  | 59 => ⟨S_, .i1⟩
  | 60 => ⟨S_, .i32⟩
  | 61 => ⟨S_, .i32⟩
  | 62 => ⟨S1024, .i32⟩
  | 63 => ⟨S1024, .i32⟩
  | 64 => ⟨S_, .i32⟩
  | 65 => ⟨S1024, .i32⟩
  | 66 => ⟨S1024, .i1⟩
  | 67 => ⟨S_, .i32⟩
  | 68 => ⟨S1024, .i32⟩
  | 69 => ⟨S1024, .i1⟩
  | 70 => ⟨S_, .i32⟩
  | 71 => ⟨S_, .i1⟩
  | 72 => ⟨S1024, .i1⟩
  | 73 => ⟨S1024, .i1⟩
  | 74 => ⟨S1024, .i1⟩
  | 75 => ⟨S1024, .i32⟩
  | 76 => ⟨S1024, .i32⟩
  | 77 => ⟨S1024, .i32⟩
  | 78 => ⟨S_, .i32⟩
  | 79 => ⟨S1024, .i32⟩
  | 80 => ⟨S1024, .i1⟩
  | 81 => ⟨S1x1024, .i1⟩
  | 82 => ⟨S_, .f32⟩
  | 83 => ⟨S16384x1024, .f32⟩
  | 84 => ⟨S16384x1024, .f32⟩
  | 85 => ⟨S_, .f32⟩
  | 86 => ⟨S16384x1024, .f32⟩
  | 87 => ⟨S16384x1024, .f32⟩
  | 88 => ⟨S_, .f32⟩
  | 89 => ⟨S_, .f32⟩
  | 90 => ⟨S16384x1024, .i1⟩
  | 91 => ⟨S16384x1024, .f32⟩
  | 92 => ⟨S16384x1024, .f32⟩
  | 93 => ⟨S16384x1024, .bf16⟩
  | 94 => ⟨S_, .f32⟩
  | 95 => ⟨S_, .f32⟩
  | 96 => ⟨S16384x1024, .i1⟩
  | 97 => ⟨S16384x1024, .f32⟩
  | 98 => ⟨S16384x1024, .f32⟩
  | 99 => ⟨S16384x1024, .bf16⟩
  | 100 => ⟨S_, .f32⟩
  | 101 => ⟨S_, .f32⟩
  | 102 => ⟨S16384x1024, .i1⟩
  | 103 => ⟨S16384x1024, .f32⟩
  | 104 => ⟨S16384x1024, .f32⟩
  | 105 => ⟨S16384x1024, .bf16⟩
  | 106 => ⟨S_, .f32⟩
  | 107 => ⟨S_, .f32⟩
  | 108 => ⟨S16384x1024, .i1⟩
  | 109 => ⟨S16384x1024, .f32⟩
  | 110 => ⟨S16384x1024, .f32⟩
  | 111 => ⟨S16384x1024, .bf16⟩
  | 112 => ⟨S_, .f32⟩
  | 113 => ⟨S_, .f32⟩
  | 114 => ⟨S16384x1024, .i1⟩
  | 115 => ⟨S16384x1024, .f32⟩
  | 116 => ⟨S16384x1024, .f32⟩
  | 117 => ⟨S16384x1024, .bf16⟩
  | 118 => ⟨S_, .f32⟩
  | 119 => ⟨S_, .f32⟩
  | 120 => ⟨S16384x1024, .i1⟩
  | 121 => ⟨S16384x1024, .f32⟩
  | 122 => ⟨S16384x1024, .f32⟩
  | 123 => ⟨S16384x1024, .bf16⟩
  | 124 => ⟨S_, .f32⟩
  | 125 => ⟨S16384x16, .f32⟩
  | 126 => ⟨S16384x16, .f32⟩
  | 127 => ⟨S16x16384, .f32⟩
  | _ => ⟨S16384x1024, .f32⟩

abbrev hbmTy0_1 (i : Nat) : BufTy := match i % 128 with
  | 0 => ⟨S8x2x16384, .f32⟩
  | 1 => ⟨S16384x1024, .bf16⟩
  | 2 => ⟨S16384x1024, .bf16⟩
  | 3 => ⟨S8x2x16384, .f32⟩
  | 4 => ⟨S8x1x16384, .f32⟩
  | 5 => ⟨S8x16384, .f32⟩
  | 6 => ⟨S16384x8, .f32⟩
  | 7 => ⟨S16384x8x1, .f32⟩
  | 8 => ⟨S16384x8x128, .f32⟩
  | 9 => ⟨S16384x1024, .f32⟩
  | 10 => ⟨S8x2x16384, .f32⟩
  | 11 => ⟨S8x1x16384, .f32⟩
  | 12 => ⟨S8x16384, .f32⟩
  | 13 => ⟨S16384x8, .f32⟩
  | 14 => ⟨S16384x8x1, .f32⟩
  | 15 => ⟨S16384x8x128, .f32⟩
  | 16 => ⟨S16384x1024, .f32⟩
  | 17 => ⟨S8x2x16384, .f32⟩
  | 18 => ⟨S8x1x16384, .f32⟩
  | 19 => ⟨S8x16384, .f32⟩
  | 20 => ⟨S16384x8, .f32⟩
  | 21 => ⟨S16384x8x1, .f32⟩
  | 22 => ⟨S16384x8x128, .f32⟩
  | 23 => ⟨S16384x1024, .f32⟩
  | 24 => ⟨S8x2x16384, .f32⟩
  | 25 => ⟨S8x1x16384, .f32⟩
  | 26 => ⟨S8x16384, .f32⟩
  | 27 => ⟨S16384x8, .f32⟩
  | 28 => ⟨S16384x8x1, .f32⟩
  | 29 => ⟨S16384x8x128, .f32⟩
  | 30 => ⟨S16384x1024, .f32⟩
  | 31 => ⟨S16384x1024, .f32⟩
  | 32 => ⟨S16384x1024, .f32⟩
  | 33 => ⟨S16384x1024, .f32⟩
  | 34 => ⟨S8x2x16384, .f32⟩
  | 35 => ⟨S16384x128, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | .local _ .vmem, ⟨10, _⟩ => ⟨S1024x128, .bf16⟩
  | .local _ .vmem, ⟨11, _⟩ => ⟨S1024x128, .bf16⟩
  | .local _ .vmem, ⟨12, _⟩ => ⟨S1024x128, .bf16⟩
  | .local _ .vmem, ⟨13, _⟩ => ⟨S1024x128, .bf16⟩
  | .local _ .vmem, ⟨14, _⟩ => ⟨S1024x128, .bf16⟩
  | .local _ .vmem, ⟨15, _⟩ => ⟨S1024x128, .bf16⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S1024x128, .f32⟩
  | .local _ .vmem, ⟨23, _⟩ => ⟨S1024x128, .f32⟩
  | .local _ .vmem, ⟨24, _⟩ => ⟨S1x2x1024, .f32⟩
  | .local _ .vmem, ⟨25, _⟩ => ⟨S1x2x1024, .f32⟩
  | .local _ .vmem, ⟨26, _⟩ => ⟨S16384x128, .f32⟩
  | .local _ .vmem, ⟨27, _⟩ => ⟨S1024x128, .f32⟩
  | .local _ .vmem, ⟨28, _⟩ => ⟨S1024x128, .f32⟩
  | .local _ .vmem, ⟨29, _⟩ => ⟨S1024x128, .f32⟩
  | .local _ .vmem, ⟨30, _⟩ => ⟨S1024x128, .f32⟩
  | .local _ .vmem, ⟨31, _⟩ => ⟨S1x2x1024, .f32⟩
  | .local _ .vmem, ⟨32, _⟩ => ⟨S1x2x1024, .f32⟩
  | .local _ .vmem, ⟨33, _⟩ => ⟨S16384x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_4 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_c : Ref sig .tc := ⟨.hbm, 56, rfl⟩
abbrev main_call1_v0 : Ref sig .tc := ⟨.hbm, 57, rfl⟩
abbrev main_call1_c : Ref sig .tc := ⟨.hbm, 58, rfl⟩
abbrev main_call1_v1 : Ref sig .tc := ⟨.hbm, 59, rfl⟩
abbrev main_call1_c_0 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_c_1 : Ref sig .tc := ⟨.hbm, 64, rfl⟩
abbrev main_call1_v5 : Ref sig .tc := ⟨.hbm, 65, rfl⟩
abbrev main_call1_v6 : Ref sig .tc := ⟨.hbm, 66, rfl⟩
abbrev main_call1_c_2 : Ref sig .tc := ⟨.hbm, 67, rfl⟩
abbrev main_call1_v7 : Ref sig .tc := ⟨.hbm, 68, rfl⟩
abbrev main_call1_v8 : Ref sig .tc := ⟨.hbm, 69, rfl⟩
abbrev main_call1_c_3 : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_call1_v12 : Ref sig .tc := ⟨.hbm, 74, rfl⟩
abbrev main_call1_v13 : Ref sig .tc := ⟨.hbm, 75, rfl⟩
abbrev main_call1_v14 : Ref sig .tc := ⟨.hbm, 76, rfl⟩
abbrev main_v42 : Ref sig .tc := ⟨.hbm, 77, rfl⟩
abbrev main_c_5 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_cst_6 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_cst_7 : Ref sig .tc := ⟨.hbm, 88, rfl⟩
abbrev main_call2_v0 : Ref sig .tc := ⟨.hbm, 89, rfl⟩
abbrev main_call2_v1 : Ref sig .tc := ⟨.hbm, 90, rfl⟩
abbrev main_call2_v2 : Ref sig .tc := ⟨.hbm, 91, rfl⟩
abbrev main_v51 : Ref sig .tc := ⟨.hbm, 92, rfl⟩
abbrev main_v52 : Ref sig .tc := ⟨.hbm, 93, rfl⟩
abbrev main_cst_8 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_v53 : Ref sig .tc := ⟨.hbm, 98, rfl⟩
abbrev main_v54 : Ref sig .tc := ⟨.hbm, 99, rfl⟩
abbrev main_cst_9 : Ref sig .tc := ⟨.hbm, 100, rfl⟩
abbrev main_call4_v0 : Ref sig .tc := ⟨.hbm, 101, rfl⟩
abbrev main_call4_v1 : Ref sig .tc := ⟨.hbm, 102, rfl⟩
abbrev main_call4_v2 : Ref sig .tc := ⟨.hbm, 103, rfl⟩
abbrev main_v55 : Ref sig .tc := ⟨.hbm, 104, rfl⟩
abbrev main_v56 : Ref sig .tc := ⟨.hbm, 105, rfl⟩
abbrev main_cst_10 : Ref sig .tc := ⟨.hbm, 106, rfl⟩
abbrev main_call5_v0 : Ref sig .tc := ⟨.hbm, 107, rfl⟩
abbrev main_call5_v1 : Ref sig .tc := ⟨.hbm, 108, rfl⟩
abbrev main_call5_v2 : Ref sig .tc := ⟨.hbm, 109, rfl⟩
abbrev main_v57 : Ref sig .tc := ⟨.hbm, 110, rfl⟩
abbrev main_v58 : Ref sig .tc := ⟨.hbm, 111, rfl⟩
abbrev main_cst_11 : Ref sig .tc := ⟨.hbm, 112, rfl⟩
abbrev main_call6_v0 : Ref sig .tc := ⟨.hbm, 113, rfl⟩
abbrev main_call6_v1 : Ref sig .tc := ⟨.hbm, 114, rfl⟩
abbrev main_call6_v2 : Ref sig .tc := ⟨.hbm, 115, rfl⟩
abbrev main_v59 : Ref sig .tc := ⟨.hbm, 116, rfl⟩
abbrev main_v60 : Ref sig .tc := ⟨.hbm, 117, rfl⟩
abbrev main_cst_12 : Ref sig .tc := ⟨.hbm, 118, rfl⟩
abbrev main_call7_v0 : Ref sig .tc := ⟨.hbm, 119, rfl⟩
abbrev main_call7_v1 : Ref sig .tc := ⟨.hbm, 120, rfl⟩
abbrev main_call7_v2 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98_0 : Ref sig .tc := ⟨.hbm, 159, rfl⟩
abbrev main_v98_1 : Ref sig .tc := ⟨.hbm, 160, rfl⟩
abbrev main_v98_2 : Ref sig .tc := ⟨.hbm, 161, rfl⟩
abbrev main_v98_3 : Ref sig .tc := ⟨.hbm, 162, rfl⟩
abbrev main_v98_4 : Ref sig .tc := ⟨.hbm, 163, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33

abbrev nD : Nat := 1
abbrev τ : Topo := Topo.v7x

variable {F : FTy → Type} [FloatOps F]

abbrev grid0 : Pipeline.Grid := ⟨3, ![8, 16, 16], ![false, false, false]⟩

def k0_cond4 (i : grid0.Coords) : BitVec 1 :=
  let arg2 : BitVec 32 := BitVec.ofNat 32 (i 2).val
  let arg1 : BitVec 32 := BitVec.ofNat 32 (i 1).val
  let v12 : BitVec 1 := Scalar.cmpi .sgt arg2 arg1
  let v13 : BitVec 32 := Scalar.extui v12
  let c0_i32_6 : BitVec 32 := 0#32
  let v14 : BitVec 1 := Scalar.cmpi .ne v13 c0_i32_6
  v14

def k0_mult1 (i : grid0.Coords) : BitVec 32 :=
  let arg2 : BitVec 32 := BitVec.ofNat 32 (i 2).val
  let c1024_i32 : BitVec 32 := 1024#32
  let v18 : BitVec 32 := Scalar.muli arg2 c1024_i32
  v18
def k0_off1 (i : grid0.Coords) : Fin 2 → Nat :=
  let arg2 : BitVec 32 := BitVec.ofNat 32 (i 2).val
  let c1024_i32 : BitVec 32 := 1024#32
  let v18 : BitVec 32 := Scalar.muli arg2 c1024_i32
  let v19 : BitVec 32 := v18
  let v241 : Index := Scalar.indexCast v19
  let c0_159 : Index := 0#32
  ![v241.toNat, 0]
def k0_cond5 (i : grid0.Coords) : BitVec 1 :=
  let arg2 : BitVec 32 := BitVec.ofNat 32 (i 2).val
  let arg1 : BitVec 32 := BitVec.ofNat 32 (i 1).val
  let v15 : BitVec 1 := Scalar.cmpi .eq arg2 arg1
  let v16 : BitVec 32 := Scalar.extui v15
  let c0_i32_7 : BitVec 32 := 0#32
  let v17 : BitVec 1 := Scalar.cmpi .ne v16 c0_i32_7
  v17

def k0_mult2 (i : grid0.Coords) : BitVec 32 :=
  let arg2 : BitVec 32 := BitVec.ofNat 32 (i 2).val
  let c1024_i32 : BitVec 32 := 1024#32
  let v18 : BitVec 32 := Scalar.muli arg2 c1024_i32
  v18
def k0_off2 (i : grid0.Coords) : Fin 2 → Nat :=
  let arg2 : BitVec 32 := BitVec.ofNat 32 (i 2).val
  let c1024_i32 : BitVec 32 := 1024#32
  let v18 : BitVec 32 := Scalar.muli arg2 c1024_i32
  let v19 : BitVec 32 := v18
  let v269 : Index := Scalar.indexCast v19
  let c0_166 : Index := 0#32
  ![v269.toNat, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond3 (i : grid0.Coords) : BitVec 1 :=
  let arg2 : BitVec 32 := BitVec.ofNat 32 (i 2).val
  let c0_i32_4 : BitVec 32 := 0#32
  let v9 : BitVec 1 := Scalar.cmpi .eq arg2 c0_i32_4
  let v10 : BitVec 32 := Scalar.extui v9
  let c0_i32_5 : BitVec 32 := 0#32
  let v11 : BitVec 1 := Scalar.cmpi .ne v10 c0_i32_5
  v11

def k0_cond2 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let arg0 : BitVec 32 := BitVec.ofNat 32 (i 0).val
  let c0_i32_2 : BitVec 32 := 0#32
  let v5 : BitVec 1 := Scalar.cmpi .eq arg0 c0_i32_2
  let v6 : BitVec 1 := Scalar.andi v2 v5
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_16 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_17 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x2x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 1 → Memref sig .tc .vmem S16384x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, false, false]

abbrev stage0_14 : Fin 2 → Memref sig .tc .vmem S1024x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, false]

abbrev stage0_15 : Fin 2 → Memref sig .tc .vmem S1024x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, false]

abbrev stage0_16 : Fin 2 → Memref sig .tc .vmem S1x2x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, false]

abbrev stage0_17 : Fin 1 → Memref sig .tc .vmem S16384x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false, false]
-- ==== KernelIdeal.lean ====
variable {F : FTy → Type} [FloatOps F] [Named F]
def κ : String → Option EReal := fun
  | "ln2" => some ((Real.log 2 : ℝ) : EReal)
  | "mask" => some ⊥
  | _ => none
-- ==== ReferenceIdeal.lean ====
abbrev S16384x1024 : Shape := ⟨2, ![16384, 1024]⟩
abbrev S16384x16 : Shape := ⟨2, ![16384, 16]⟩
abbrev S16384x16x64 : Shape := ⟨3, ![16384, 16, 64]⟩
abbrev S16x16384x64 : Shape := ⟨3, ![16, 16384, 64]⟩
abbrev S16x16384x16384 : Shape := ⟨3, ![16, 16384, 16384]⟩
abbrev S_ : Shape := ⟨0, ![]⟩
abbrev S16x16384 : Shape := ⟨2, ![16, 16384]⟩
abbrev S16x16384x1 : Shape := ⟨3, ![16, 16384, 1]⟩
abbrev S16x1x16384 : Shape := ⟨3, ![16, 1, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S16x64x16384 : Shape := ⟨3, ![16, 64, 16384]⟩
abbrev S8x2x16384 : Shape := ⟨3, ![8, 2, 16384]⟩
abbrev S16384x128 : Shape := ⟨2, ![16384, 128]⟩

abbrev nBuf : Space → Nat
  | .hbm => 128
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x16, .f32⟩
  | .hbm, ⟨4, _⟩ => ⟨S16384x1024, .f32⟩
  | .hbm, ⟨5, _⟩ => ⟨S16384x16x64, .f32⟩
  | .hbm, ⟨6, _⟩ => ⟨S16x16384x64, .f32⟩
  | .hbm, ⟨7, _⟩ => ⟨S16384x16x64, .f32⟩
  | .hbm, ⟨8, _⟩ => ⟨S16x16384x64, .f32⟩
  | .hbm, ⟨9, _⟩ => ⟨S16x16384x16384, .f32⟩
  | .hbm, ⟨10, _⟩ => ⟨S_, .f32⟩
  | .hbm, ⟨11, _⟩ => ⟨S16x16384x16384, .f32⟩
  | .hbm, ⟨12, _⟩ => ⟨S16x16384x16384, .f32⟩
  | .hbm, ⟨13, _⟩ => ⟨S16x16384, .f32⟩
  | .hbm, ⟨14, _⟩ => ⟨S16x16384x1, .f32⟩
  | .hbm, ⟨15, _⟩ => ⟨S16x16384x16384, .f32⟩
  | .hbm, ⟨16, _⟩ => ⟨S16x16384x16384, .f32⟩
  | .hbm, ⟨17, _⟩ => ⟨S16x16384, .f32⟩
  | .hbm, ⟨18, _⟩ => ⟨S16x1x16384, .f32⟩
  | .hbm, ⟨19, _⟩ => ⟨S16x16384x16384, .f32⟩
  | .hbm, ⟨20, _⟩ => ⟨S16x16384x16384, .f32⟩
  | .hbm, ⟨21, _⟩ => ⟨S16384, .i32⟩
  | .hbm, ⟨22, _⟩ => ⟨S1x16384, .i32⟩
  | .hbm, ⟨23, _⟩ => ⟨S16384x1, .i32⟩
  | .hbm, ⟨24, _⟩ => ⟨S16384x16384, .i32⟩
  | .hbm, ⟨25, _⟩ => ⟨S16384x16384, .i32⟩
  | .hbm, ⟨26, _⟩ => ⟨S16384x16384, .i1⟩
  | .hbm, ⟨27, _⟩ => ⟨S_, .f32⟩
  | .hbm, ⟨28, _⟩ => ⟨S_, .f32⟩
  | .hbm, ⟨29, _⟩ => ⟨S16x16384x16384, .i1⟩
  | .hbm, ⟨30, _⟩ => ⟨S16x16384x16384, .f32⟩
  | .hbm, ⟨31, _⟩ => ⟨S16x16384x16384, .f32⟩
  | .hbm, ⟨32, _⟩ => ⟨S_, .f32⟩
  | .hbm, ⟨33, _⟩ => ⟨S16x16384x16384, .f32⟩
  | .hbm, ⟨34, _⟩ => ⟨S_, .f32⟩
  | .hbm, ⟨35, _⟩ => ⟨S16x16384, .f32⟩
  | .hbm, ⟨36, _⟩ => ⟨S16x16384x1, .f32⟩
  | .hbm, ⟨37, _⟩ => ⟨S16x16384x16384, .f32⟩
  | .hbm, ⟨38, _⟩ => ⟨S16x16384x16384, .i1⟩
  | .hbm, ⟨39, _⟩ => ⟨S16x16384x16384, .f32⟩
  | .hbm, ⟨40, _⟩ => ⟨S_, .f32⟩
  | .hbm, ⟨41, _⟩ => ⟨S16x16384, .f32⟩
  | .hbm, ⟨42, _⟩ => ⟨S_, .f32⟩
  | .hbm, ⟨43, _⟩ => ⟨S16x16384, .f32⟩
  | .hbm, ⟨44, _⟩ => ⟨S16x16384, .f32⟩
  | .hbm, ⟨45, _⟩ => ⟨S_, .f32⟩
  | .hbm, ⟨46, _⟩ => ⟨S16x16384, .f32⟩
  | .hbm, ⟨47, _⟩ => ⟨S16x16384, .i1⟩
  | .hbm, ⟨48, _⟩ => ⟨S_, .f32⟩
  | .hbm, ⟨49, _⟩ => ⟨S16x16384, .f32⟩
  | .hbm, ⟨50, _⟩ => ⟨S16x16384, .i1⟩
  | .hbm, ⟨51, _⟩ => ⟨S_, .f32⟩
  | .hbm, ⟨52, _⟩ => ⟨S16x16384, .f32⟩
  | .hbm, ⟨53, _⟩ => ⟨S_, .f32⟩
  | .hbm, ⟨54, _⟩ => ⟨S16x16384, .f32⟩
  | .hbm, ⟨55, _⟩ => ⟨S_, .f32⟩
  | .hbm, ⟨56, _⟩ => ⟨S16x16384, .f32⟩
  | .hbm, ⟨57, _⟩ => ⟨S16x16384, .f32⟩
  | .hbm, ⟨58, _⟩ => ⟨S16x16384, .f32⟩
  | .hbm, ⟨59, _⟩ => ⟨S16x16384x1, .f32⟩
  | .hbm, ⟨60, _⟩ => ⟨S16x16384x16384, .f32⟩
  | .hbm, ⟨61, _⟩ => ⟨S16x16384x16384, .f32⟩
  | .hbm, ⟨62, _⟩ => ⟨S16x16384x16384, .f32⟩
  | .hbm, ⟨63, _⟩ => ⟨S_, .f32⟩
  | .hbm, ⟨64, _⟩ => ⟨S16x16384, .f32⟩
  | .hbm, ⟨65, _⟩ => ⟨S16x16384x1, .f32⟩
  | .hbm, ⟨66, _⟩ => ⟨S16x16384x16384, .f32⟩
  | .hbm, ⟨67, _⟩ => ⟨S16x16384x16384, .f32⟩
  | .hbm, ⟨68, _⟩ => ⟨S16x16384x1, .f32⟩
  | .hbm, ⟨69, _⟩ => ⟨S_, .f32⟩
  | .hbm, ⟨70, _⟩ => ⟨S16x16384x1, .f32⟩
  | .hbm, ⟨71, _⟩ => ⟨S16x16384x1, .f32⟩
  | .hbm, ⟨72, _⟩ => ⟨S16384x16x64, .f32⟩
  | .hbm, ⟨73, _⟩ => ⟨S16x16384x64, .f32⟩
  | .hbm, ⟨74, _⟩ => ⟨S16x16384x64, .f32⟩
  | .hbm, ⟨75, _⟩ => ⟨S16384x16x64, .f32⟩
  | .hbm, ⟨76, _⟩ => ⟨S16384x1024, .f32⟩
  | .hbm, ⟨77, _⟩ => ⟨S16384x16x64, .f32⟩
  | .hbm, ⟨78, _⟩ => ⟨S16x16384x64, .f32⟩
  | .hbm, ⟨79, _⟩ => ⟨S16x64x16384, .f32⟩
  | .hbm, ⟨80, _⟩ => ⟨S16x16384x64, .f32⟩
  | .hbm, ⟨81, _⟩ => ⟨S16x16384x16384, .f32⟩
  | .hbm, ⟨82, _⟩ => ⟨S16384x16x64, .f32⟩
  | .hbm, ⟨83, _⟩ => ⟨S16384x1024, .f32⟩
  | .hbm, ⟨84, _⟩ => ⟨S16x16384x16384, .f32⟩
  | .hbm, ⟨85, _⟩ => ⟨S16x16384x16384, .f32⟩
  | .hbm, ⟨86, _⟩ => ⟨S16x16384x16384, .f32⟩
  | .hbm, ⟨87, _⟩ => ⟨S_, .f32⟩
  | .hbm, ⟨88, _⟩ => ⟨S16x16384, .f32⟩
  | .hbm, ⟨89, _⟩ => ⟨S16x16384x1, .f32⟩
  | .hbm, ⟨90, _⟩ => ⟨S16x16384x1, .f32⟩
  | .hbm, ⟨91, _⟩ => ⟨S16x16384x16384, .f32⟩
  | .hbm, ⟨92, _⟩ => ⟨S16x16384x16384, .f32⟩
  | .hbm, ⟨93, _⟩ => ⟨S_, .f32⟩
  | .hbm, ⟨94, _⟩ => ⟨S16x16384, .f32⟩
  | .hbm, ⟨95, _⟩ => ⟨S16x16384x16384, .f32⟩
  | .hbm, ⟨96, _⟩ => ⟨S16x16384x16384, .f32⟩
  | .hbm, ⟨97, _⟩ => ⟨S16x16384x16384, .f32⟩
  | .hbm, ⟨98, _⟩ => ⟨S_, .f32⟩
  | .hbm, ⟨99, _⟩ => ⟨S16x16384x16384, .f32⟩
  | .hbm, ⟨100, _⟩ => ⟨S16x16384x16384, .f32⟩
  | .hbm, ⟨101, _⟩ => ⟨S16x16384x16384, .f32⟩
  | .hbm, ⟨102, _⟩ => ⟨S_, .f32⟩
  | .hbm, ⟨103, _⟩ => ⟨S16x16384, .f32⟩
  | .hbm, ⟨104, _⟩ => ⟨S16x1x16384, .f32⟩
  | .hbm, ⟨105, _⟩ => ⟨S_, .f32⟩
  | .hbm, ⟨106, _⟩ => ⟨S16x16384, .f32⟩
  | .hbm, ⟨107, _⟩ => ⟨S16384x16, .f32⟩
  | .hbm, ⟨108, _⟩ => ⟨S_, .f32⟩
  | .hbm, ⟨109, _⟩ => ⟨S16x16384, .f32⟩
  | .hbm, ⟨110, _⟩ => ⟨S16x16384x1, .f32⟩
  | .hbm, ⟨111, _⟩ => ⟨S_, .f32⟩
  | .hbm, ⟨112, _⟩ => ⟨S16x16384, .f32⟩
  | .hbm, ⟨113, _⟩ => ⟨S16384x16, .f32⟩
  | .hbm, ⟨114, _⟩ => ⟨S_, .f32⟩
  | .hbm, ⟨115, _⟩ => ⟨S16x16384x16384, .f32⟩
  | .hbm, ⟨116, _⟩ => ⟨S16x16384x16384, .f32⟩
  | .hbm, ⟨117, _⟩ => ⟨S16x16384x64, .f32⟩
  | .hbm, ⟨118, _⟩ => ⟨S16x16384x64, .f32⟩
  | .hbm, ⟨119, _⟩ => ⟨S16384x16x64, .f32⟩
  | .hbm, ⟨120, _⟩ => ⟨S16384x1024, .f32⟩
  | .hbm, ⟨121, _⟩ => ⟨S16384x16x64, .f32⟩
  | .hbm, ⟨122, _⟩ => ⟨S16384x1024, .f32⟩
  | .hbm, ⟨123, _⟩ => ⟨S16x16384, .f32⟩
  | .hbm, ⟨124, _⟩ => ⟨S8x2x16384, .f32⟩
  | .hbm, ⟨125, _⟩ => ⟨S_, .i32⟩
  | .hbm, ⟨126, _⟩ => ⟨S_, .f32⟩
  | .hbm, ⟨127, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_call0_v0 : Ref sig .tc := ⟨.hbm, 28, rfl⟩
abbrev main_v21_1 : Ref sig .tc := ⟨.hbm, 29, rfl⟩
abbrev main_call0_v2 : Ref sig .tc := ⟨.hbm, 30, rfl⟩
abbrev main_v21_0 : Ref sig .tc := ⟨.hbm, 31, rfl⟩
abbrev main_call0_cst : Ref sig .tc := ⟨.hbm, 32, rfl⟩
abbrev main_v21_2 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_11 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_12 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_call1_cst : Ref sig .tc := ⟨.hbm, 98, rfl⟩
abbrev main_call1_v0 : Ref sig .tc := ⟨.hbm, 99, rfl⟩
abbrev main_v74 : Ref sig .tc := ⟨.hbm, 100, rfl⟩
abbrev main_v75 : Ref sig .tc := ⟨.hbm, 101, rfl⟩
abbrev main_cst_13 : Ref sig .tc := ⟨.hbm, 102, rfl⟩
abbrev main_v76 : Ref sig .tc := ⟨.hbm, 103, rfl⟩
abbrev main_v77 : Ref sig .tc := ⟨.hbm, 104, rfl⟩
abbrev main_cst_14 : Ref sig .tc := ⟨.hbm, 105, rfl⟩
abbrev main_v78 : Ref sig .tc := ⟨.hbm, 106, rfl⟩
abbrev main_v79 : Ref sig .tc := ⟨.hbm, 107, rfl⟩
abbrev main_cst_15 : Ref sig .tc := ⟨.hbm, 108, rfl⟩
abbrev main_v80 : Ref sig .tc := ⟨.hbm, 109, rfl⟩
abbrev main_v81 : Ref sig .tc := ⟨.hbm, 110, rfl⟩
abbrev main_cst_16 : Ref sig .tc := ⟨.hbm, 111, rfl⟩
abbrev main_v82 : Ref sig .tc := ⟨.hbm, 112, rfl⟩
abbrev main_v83 : Ref sig .tc := ⟨.hbm, 113, rfl⟩
abbrev main_cst_17 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_c : Ref sig .tc := ⟨.hbm, 125, rfl⟩
abbrev main_call2_v0 : Ref sig .tc := ⟨.hbm, 126, rfl⟩
abbrev main_v94 : Ref sig .tc := ⟨.hbm, 127, rfl⟩

abbrev nD : Nat := 1
abbrev τ : Topo := Topo.v7x

variable {F : FTy → Type} [FloatOps F]
-- ==== Kernel2.lean ====
abbrev S16384x1024 : Shape := ⟨2, ![16384, 1024]⟩
abbrev S1024x5632 : Shape := ⟨2, ![1024, 5632]⟩
abbrev S16384x5632 : Shape := ⟨2, ![16384, 5632]⟩
abbrev S2048x1024 : Shape := ⟨2, ![2048, 1024]⟩
abbrev S1024x1408 : Shape := ⟨2, ![1024, 1408]⟩
abbrev S2048x1408 : Shape := ⟨2, ![2048, 1408]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S16384x1024, .bf16⟩
  | .hbm, ⟨3, _⟩ => ⟨S1024x5632, .bf16⟩
  | .hbm, ⟨4, _⟩ => ⟨S16384x5632, .f32⟩
  | .local _ .vmem, ⟨0, _⟩ => ⟨S2048x1024, .bf16⟩
  | .local _ .vmem, ⟨1, _⟩ => ⟨S2048x1024, .bf16⟩
  | .local _ .vmem, ⟨2, _⟩ => ⟨S1024x1408, .bf16⟩
  | .local _ .vmem, ⟨3, _⟩ => ⟨S1024x1408, .bf16⟩
  | .local _ .vmem, ⟨4, _⟩ => ⟨S2048x1408, .f32⟩
  | .local _ .vmem, ⟨5, _⟩ => ⟨S2048x1408, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S16384x1024 : Shape := ⟨2, ![16384, 1024]⟩
abbrev S1024x5632 : Shape := ⟨2, ![1024, 5632]⟩
abbrev S16384x5632 : Shape := ⟨2, ![16384, 5632]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S16384x5632, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel3.lean ====
abbrev S16384x5632 : Shape := ⟨2, ![16384, 5632]⟩
abbrev S1024x5632 : Shape := ⟨2, ![1024, 5632]⟩
abbrev S16384x1024 : Shape := ⟨2, ![16384, 1024]⟩
abbrev S512x5632 : Shape := ⟨2, ![512, 5632]⟩
abbrev S1024x512 : Shape := ⟨2, ![1024, 512]⟩

abbrev nBuf : Space → Nat
  | .hbm => 6
  | .vmem => 8
  | .smem => 0
  | _ => 0

abbrev bufTy : (tb : Table) → Fin (tcTables nBuf tb) → BufTy
  | .hbm, ⟨0, _⟩ => ⟨S16384x5632, .f32⟩
  | .hbm, ⟨1, _⟩ => ⟨S1024x5632, .f32⟩
  | .hbm, ⟨2, _⟩ => ⟨S16384x1024, .f32⟩
  | .hbm, ⟨3, _⟩ => ⟨S16384x5632, .bf16⟩
  | .hbm, ⟨4, _⟩ => ⟨S1024x5632, .bf16⟩
  | .hbm, ⟨5, _⟩ => ⟨S16384x1024, .f32⟩
  | .local _ .vmem, ⟨0, _⟩ => ⟨S1024x5632, .bf16⟩
  | .local _ .vmem, ⟨1, _⟩ => ⟨S1024x5632, .bf16⟩
  | .local _ .vmem, ⟨2, _⟩ => ⟨S512x5632, .bf16⟩
  | .local _ .vmem, ⟨3, _⟩ => ⟨S512x5632, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S16384x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S16384x5632 : Shape := ⟨2, ![16384, 5632]⟩
abbrev S1024x5632 : Shape := ⟨2, ![1024, 5632]⟩
abbrev S16384x1024 : Shape := ⟨2, ![16384, 1024]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S16384x5632, .f32⟩
  | .hbm, ⟨1, _⟩ => ⟨S1024x5632, .f32⟩
  | .hbm, ⟨2, _⟩ => ⟨S16384x1024, .f32⟩
  | .hbm, ⟨3, _⟩ => ⟨S_, .f32⟩
  | .hbm, ⟨4, _⟩ => ⟨S16384x1024, .f32⟩
  | .hbm, ⟨5, _⟩ => ⟨S16384x5632, .f32⟩
  | .hbm, ⟨6, _⟩ => ⟨S_, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | _, _ => ⟨S16384x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Kernel4.lean ====
abbrev S16384x1024 : Shape := ⟨2, ![16384, 1024]⟩
abbrev S16384x5632 : Shape := ⟨2, ![16384, 5632]⟩
abbrev S1024x5632 : Shape := ⟨2, ![1024, 5632]⟩
abbrev S1024x1024 : Shape := ⟨2, ![1024, 1024]⟩
abbrev S1024x2816 : Shape := ⟨2, ![1024, 2816]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x5632, .f32⟩
  | .hbm, ⟨2, _⟩ => ⟨S16384x1024, .bf16⟩
  | .hbm, ⟨3, _⟩ => ⟨S16384x5632, .bf16⟩
  | .hbm, ⟨4, _⟩ => ⟨S1024x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .bf16⟩
  | .local _ .vmem, ⟨4, _⟩ => ⟨S1024x2816, .f32⟩
  | .local _ .vmem, ⟨5, _⟩ => ⟨S1024x2816, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 16], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S16384x1024 : Shape := ⟨2, ![16384, 1024]⟩
abbrev S16384x5632 : Shape := ⟨2, ![16384, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x5632, .f32⟩
  | .hbm, ⟨2, _⟩ => ⟨S_, .f32⟩
  | .hbm, ⟨3, _⟩ => ⟨S1024x5632, .f32⟩
  | .hbm, ⟨4, _⟩ => ⟨S16384x5632, .f32⟩
  | .hbm, ⟨5, _⟩ => ⟨S5632x1024, .f32⟩
  | .hbm, ⟨6, _⟩ => ⟨S1024x5632, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S16384x2816 : Shape := ⟨2, ![16384, 2816]⟩
abbrev S2816x1024 : Shape := ⟨2, ![2816, 1024]⟩
abbrev S16384x1024 : Shape := ⟨2, ![16384, 1024]⟩
abbrev S1024x2816 : Shape := ⟨2, ![1024, 2816]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x2816, .f32⟩
  | .hbm, ⟨1, _⟩ => ⟨S2816x1024, .f32⟩
  | .hbm, ⟨2, _⟩ => ⟨S16384x2816, .bf16⟩
  | .hbm, ⟨3, _⟩ => ⟨S2816x1024, .bf16⟩
  | .hbm, ⟨4, _⟩ => ⟨S16384x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S16384x2816 : Shape := ⟨2, ![16384, 2816]⟩
abbrev S2816x1024 : Shape := ⟨2, ![2816, 1024]⟩
abbrev S16384x1024 : Shape := ⟨2, ![16384, 1024]⟩

abbrev nBuf : Space → Nat
  | .hbm => 3
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S2816x1024, .f32⟩
  | .hbm, ⟨2, _⟩ => ⟨S16384x1024, .f32⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel6.lean ====
abbrev S16384x1024 : Shape := ⟨2, ![16384, 1024]⟩
abbrev S2816x1024 : Shape := ⟨2, ![2816, 1024]⟩
abbrev S16384x2816 : Shape := ⟨2, ![16384, 2816]⟩
abbrev S2048x1024 : Shape := ⟨2, ![2048, 1024]⟩
abbrev S1408x1024 : Shape := ⟨2, ![1408, 1024]⟩
abbrev S2048x1408 : Shape := ⟨2, ![2048, 1408]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S2816x1024, .f32⟩
  | .hbm, ⟨2, _⟩ => ⟨S16384x1024, .bf16⟩
  | .hbm, ⟨3, _⟩ => ⟨S2816x1024, .bf16⟩
  | .hbm, ⟨4, _⟩ => ⟨S16384x2816, .bf16⟩
  | .local _ .vmem, ⟨0, _⟩ => ⟨S2048x1024, .bf16⟩
  | .local _ .vmem, ⟨1, _⟩ => ⟨S2048x1024, .bf16⟩
  | .local _ .vmem, ⟨2, _⟩ => ⟨S1408x1024, .bf16⟩
  | .local _ .vmem, ⟨3, _⟩ => ⟨S1408x1024, .bf16⟩
  | .local _ .vmem, ⟨4, _⟩ => ⟨S2048x1408, .bf16⟩
  | .local _ .vmem, ⟨5, _⟩ => ⟨S2048x1408, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S16384x1024 : Shape := ⟨2, ![16384, 1024]⟩
abbrev S2816x1024 : Shape := ⟨2, ![2816, 1024]⟩
abbrev S_ : Shape := ⟨0, ![]⟩
abbrev S16384x2816 : Shape := ⟨2, ![16384, 2816]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2816x1024, .f32⟩
  | .hbm, ⟨2, _⟩ => ⟨S_, .f32⟩
  | .hbm, ⟨3, _⟩ => ⟨S16384x2816, .f32⟩
  | .hbm, ⟨4, _⟩ => ⟨S16384x1024, .f32⟩
  | .hbm, ⟨5, _⟩ => ⟨S16384x2816, .f32⟩
  | .hbm, ⟨6, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S16384x2816 : Shape := ⟨2, ![16384, 2816]⟩
abbrev S16384x1024 : Shape := ⟨2, ![16384, 1024]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x2816, .f32⟩
  | .hbm, ⟨1, _⟩ => ⟨S16384x1024, .f32⟩
  | .hbm, ⟨2, _⟩ => ⟨S16384x2816, .bf16⟩
  | .hbm, ⟨3, _⟩ => ⟨S16384x1024, .bf16⟩
  | .hbm, ⟨4, _⟩ => ⟨S2816x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .f32⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2816x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S16384x1024, .f32⟩
  | .hbm, ⟨2, _⟩ => ⟨S_, .f32⟩
  | .hbm, ⟨3, _⟩ => ⟨S2816x1024, .f32⟩
  | .hbm, ⟨4, _⟩ => ⟨S16384x1024, .f32⟩
  | .hbm, ⟨5, _⟩ => ⟨S1024x2816, .f32⟩
  | .hbm, ⟨6, _⟩ => ⟨S2816x1024, .f32⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S16384x1024 : Shape := ⟨2, ![16384, 1024]⟩
abbrev S1024x3088 : Shape := ⟨2, ![1024, 3088]⟩
abbrev S_ : Shape := ⟨0, ![]⟩
abbrev S1024x3200 : Shape := ⟨2, ![1024, 3200]⟩
abbrev S16384x3200 : Shape := ⟨2, ![16384, 3200]⟩
abbrev S2048x1024 : Shape := ⟨2, ![2048, 1024]⟩
abbrev S1024x640 : Shape := ⟨2, ![1024, 640]⟩
abbrev S2048x640 : Shape := ⟨2, ![2048, 640]⟩

abbrev nBuf : Space → Nat
  | .hbm => 8
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x3088, .f32⟩
  | .hbm, ⟨2, _⟩ => ⟨S16384x1024, .bf16⟩
  | .hbm, ⟨3, _⟩ => ⟨S1024x3088, .bf16⟩
  | .hbm, ⟨4, _⟩ => ⟨S_, .i32⟩
  | .hbm, ⟨5, _⟩ => ⟨S_, .bf16⟩
  | .hbm, ⟨6, _⟩ => ⟨S1024x3200, .bf16⟩
  | .hbm, ⟨7, _⟩ => ⟨S16384x3200, .f32⟩
  | .local _ .vmem, ⟨0, _⟩ => ⟨S2048x1024, .bf16⟩
  | .local _ .vmem, ⟨1, _⟩ => ⟨S2048x1024, .bf16⟩
  | .local _ .vmem, ⟨2, _⟩ => ⟨S1024x640, .bf16⟩
  | .local _ .vmem, ⟨3, _⟩ => ⟨S1024x640, .bf16⟩
  | .local _ .vmem, ⟨4, _⟩ => ⟨S2048x640, .f32⟩
  | .local _ .vmem, ⟨5, _⟩ => ⟨S2048x640, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S16384x1024 : Shape := ⟨2, ![16384, 1024]⟩
abbrev S1024x3088 : Shape := ⟨2, ![1024, 3088]⟩
abbrev S16384x3088 : Shape := ⟨2, ![16384, 3088]⟩
abbrev S_ : Shape := ⟨0, ![]⟩
abbrev S16384x3200 : Shape := ⟨2, ![16384, 3200]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x3088, .f32⟩
  | .hbm, ⟨2, _⟩ => ⟨S16384x3088, .f32⟩
  | .hbm, ⟨3, _⟩ => ⟨S_, .i32⟩
  | .hbm, ⟨4, _⟩ => ⟨S_, .f32⟩
  | .hbm, ⟨5, _⟩ => ⟨S16384x3200, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩

abbrev nD : Nat := 1
abbrev τ : Topo := Topo.v7x

variable {F : FTy → Type} [FloatOps F]
-- ==== Kernel9.lean ====
abbrev S16384x3200 : Shape := ⟨2, ![16384, 3200]⟩
abbrev S1024x3088 : Shape := ⟨2, ![1024, 3088]⟩
abbrev S16384x1024 : Shape := ⟨2, ![16384, 1024]⟩
abbrev S_ : Shape := ⟨0, ![]⟩
abbrev S1024x3200 : Shape := ⟨2, ![1024, 3200]⟩
abbrev S1024x1024 : Shape := ⟨2, ![1024, 1024]⟩

abbrev nBuf : Space → Nat
  | .hbm => 9
  | .vmem => 7
  | .smem => 0
  | _ => 0

abbrev bufTy : (tb : Table) → Fin (tcTables nBuf tb) → BufTy
  | .hbm, ⟨0, _⟩ => ⟨S16384x3200, .f32⟩
  | .hbm, ⟨1, _⟩ => ⟨S1024x3088, .f32⟩
  | .hbm, ⟨2, _⟩ => ⟨S16384x1024, .f32⟩
  | .hbm, ⟨3, _⟩ => ⟨S16384x3200, .bf16⟩
  | .hbm, ⟨4, _⟩ => ⟨S1024x3088, .bf16⟩
  | .hbm, ⟨5, _⟩ => ⟨S_, .i32⟩
  | .hbm, ⟨6, _⟩ => ⟨S_, .bf16⟩
  | .hbm, ⟨7, _⟩ => ⟨S1024x3200, .bf16⟩
  | .hbm, ⟨8, _⟩ => ⟨S16384x1024, .f32⟩
  | .local _ .vmem, ⟨0, _⟩ => ⟨S1024x3200, .bf16⟩
  | .local _ .vmem, ⟨1, _⟩ => ⟨S1024x3200, .bf16⟩
  | .local _ .vmem, ⟨2, _⟩ => ⟨S1024x3200, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S16384x3200 : Shape := ⟨2, ![16384, 3200]⟩
abbrev S1024x3088 : Shape := ⟨2, ![1024, 3088]⟩
abbrev S16384x1024 : Shape := ⟨2, ![16384, 1024]⟩
abbrev S_ : Shape := ⟨0, ![]⟩
abbrev S16384x3088 : Shape := ⟨2, ![16384, 3088]⟩

abbrev nBuf : Space → Nat
  | .hbm => 15
  | .vmem => 0
  | .smem => 0
  | _ => 0

abbrev bufTy : (tb : Table) → Fin (tcTables nBuf tb) → BufTy
  | .hbm, ⟨0, _⟩ => ⟨S16384x3200, .f32⟩
  | .hbm, ⟨1, _⟩ => ⟨S1024x3088, .f32⟩
  | .hbm, ⟨2, _⟩ => ⟨S16384x1024, .f32⟩
  | .hbm, ⟨3, _⟩ => ⟨S_, .f32⟩
  | .hbm, ⟨4, _⟩ => ⟨S16384x1024, .f32⟩
  | .hbm, ⟨5, _⟩ => ⟨S16384x3088, .f32⟩
  | .hbm, ⟨6, _⟩ => ⟨S_, .f32⟩
  | .hbm, ⟨7, _⟩ => ⟨S16384x1024, .f32⟩
  | .hbm, ⟨8, _⟩ => ⟨S16384x1024, .f32⟩
  | .hbm, ⟨9, _⟩ => ⟨S16384x3088, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | _, _ => ⟨S16384x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Kernel10.lean ====
abbrev S16384x1024 : Shape := ⟨2, ![16384, 1024]⟩
abbrev S16384x3200 : Shape := ⟨2, ![16384, 3200]⟩
abbrev S1024x3200 : Shape := ⟨2, ![1024, 3200]⟩
abbrev S512x1024 : Shape := ⟨2, ![512, 1024]⟩
abbrev S512x3200 : Shape := ⟨2, ![512, 3200]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S16384x3200, .f32⟩
  | .hbm, ⟨2, _⟩ => ⟨S16384x1024, .bf16⟩
  | .hbm, ⟨3, _⟩ => ⟨S16384x3200, .bf16⟩
  | .hbm, ⟨4, _⟩ => ⟨S1024x3200, .f32⟩
  | .local _ .vmem, ⟨0, _⟩ => ⟨S512x1024, .bf16⟩
  | .local _ .vmem, ⟨1, _⟩ => ⟨S512x1024, .bf16⟩
  | .local _ .vmem, ⟨2, _⟩ => ⟨S512x3200, .bf16⟩
  | .local _ .vmem, ⟨3, _⟩ => ⟨S512x3200, .bf16⟩
  | .local _ .vmem, ⟨4, _⟩ => ⟨S1024x3200, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 32], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x3200 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x3200 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S16384x1024 : Shape := ⟨2, ![16384, 1024]⟩
abbrev S16384x3200 : Shape := ⟨2, ![16384, 3200]⟩
abbrev S_ : Shape := ⟨0, ![]⟩
abbrev S1024x3200 : Shape := ⟨2, ![1024, 3200]⟩
abbrev S3200x1024 : Shape := ⟨2, ![3200, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x3200, .f32⟩
  | .hbm, ⟨2, _⟩ => ⟨S_, .f32⟩
  | .hbm, ⟨3, _⟩ => ⟨S1024x3200, .f32⟩
  | .hbm, ⟨4, _⟩ => ⟨S16384x3200, .f32⟩
  | .hbm, ⟨5, _⟩ => ⟨S3200x1024, .f32⟩
  | .hbm, ⟨6, _⟩ => ⟨S1024x3200, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .bf16⟩
  | .hbm, ⟨3, _⟩ => ⟨S1024x1024, .bf16⟩
  | .hbm, ⟨4, _⟩ => ⟨S16384x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S16384x1024 : Shape := ⟨2, ![16384, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel12.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .bf16⟩
  | .hbm, ⟨3, _⟩ => ⟨S1024x1024, .bf16⟩
  | .hbm, ⟨4, _⟩ => ⟨S16384x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S16384x1024 : Shape := ⟨2, ![16384, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S_, .f32⟩
  | .hbm, ⟨3, _⟩ => ⟨S16384x1024, .f32⟩
  | .hbm, ⟨4, _⟩ => ⟨S16384x1024, .f32⟩
  | .hbm, ⟨5, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel13.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .bf16⟩
  | .hbm, ⟨3, _⟩ => ⟨S16384x1024, .bf16⟩
  | .hbm, ⟨4, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S1024x1024, .f32⟩
  | .hbm, ⟨6, _⟩ => ⟨S1024x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S16384x1024 : Shape := ⟨2, ![16384, 1024]⟩
abbrev S1024x6176 : Shape := ⟨2, ![1024, 6176]⟩
abbrev S_ : Shape := ⟨0, ![]⟩
abbrev S1024x6272 : Shape := ⟨2, ![1024, 6272]⟩
abbrev S16384x6272 : Shape := ⟨2, ![16384, 6272]⟩
abbrev S2048x1024 : Shape := ⟨2, ![2048, 1024]⟩
abbrev S1024x896 : Shape := ⟨2, ![1024, 896]⟩
abbrev S2048x896 : Shape := ⟨2, ![2048, 896]⟩

abbrev nBuf : Space → Nat
  | .hbm => 8
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x6176, .f32⟩
  | .hbm, ⟨2, _⟩ => ⟨S16384x1024, .bf16⟩
  | .hbm, ⟨3, _⟩ => ⟨S1024x6176, .bf16⟩
  | .hbm, ⟨4, _⟩ => ⟨S_, .i32⟩
  | .hbm, ⟨5, _⟩ => ⟨S_, .bf16⟩
  | .hbm, ⟨6, _⟩ => ⟨S1024x6272, .bf16⟩
  | .hbm, ⟨7, _⟩ => ⟨S16384x6272, .f32⟩
  | .local _ .vmem, ⟨0, _⟩ => ⟨S2048x1024, .bf16⟩
  | .local _ .vmem, ⟨1, _⟩ => ⟨S2048x1024, .bf16⟩
  | .local _ .vmem, ⟨2, _⟩ => ⟨S1024x896, .bf16⟩
  | .local _ .vmem, ⟨3, _⟩ => ⟨S1024x896, .bf16⟩
  | .local _ .vmem, ⟨4, _⟩ => ⟨S2048x896, .f32⟩
  | .local _ .vmem, ⟨5, _⟩ => ⟨S2048x896, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S16384x1024 : Shape := ⟨2, ![16384, 1024]⟩
abbrev S1024x6176 : Shape := ⟨2, ![1024, 6176]⟩
abbrev S16384x6176 : Shape := ⟨2, ![16384, 6176]⟩
abbrev S_ : Shape := ⟨0, ![]⟩
abbrev S16384x6272 : Shape := ⟨2, ![16384, 6272]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x6176, .f32⟩
  | .hbm, ⟨2, _⟩ => ⟨S16384x6176, .f32⟩
  | .hbm, ⟨3, _⟩ => ⟨S_, .i32⟩
  | .hbm, ⟨4, _⟩ => ⟨S_, .f32⟩
  | .hbm, ⟨5, _⟩ => ⟨S16384x6272, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩

abbrev nD : Nat := 1
abbrev τ : Topo := Topo.v7x

variable {F : FTy → Type} [FloatOps F]
-- ==== Kernel15.lean ====
abbrev S16384x6272 : Shape := ⟨2, ![16384, 6272]⟩
abbrev S1024x6176 : Shape := ⟨2, ![1024, 6176]⟩
abbrev S16384x1024 : Shape := ⟨2, ![16384, 1024]⟩
abbrev S_ : Shape := ⟨0, ![]⟩
abbrev S1024x6272 : Shape := ⟨2, ![1024, 6272]⟩
abbrev S512x6272 : Shape := ⟨2, ![512, 6272]⟩
abbrev S1024x512 : Shape := ⟨2, ![1024, 512]⟩

abbrev nBuf : Space → Nat
  | .hbm => 9
  | .vmem => 8
  | .smem => 0
  | _ => 0

abbrev bufTy : (tb : Table) → Fin (tcTables nBuf tb) → BufTy
  | .hbm, ⟨0, _⟩ => ⟨S16384x6272, .f32⟩
  | .hbm, ⟨1, _⟩ => ⟨S1024x6176, .f32⟩
  | .hbm, ⟨2, _⟩ => ⟨S16384x1024, .f32⟩
  | .hbm, ⟨3, _⟩ => ⟨S16384x6272, .bf16⟩
  | .hbm, ⟨4, _⟩ => ⟨S1024x6176, .bf16⟩
  | .hbm, ⟨5, _⟩ => ⟨S_, .i32⟩
  | .hbm, ⟨6, _⟩ => ⟨S_, .bf16⟩
  | .hbm, ⟨7, _⟩ => ⟨S1024x6272, .bf16⟩
  | .hbm, ⟨8, _⟩ => ⟨S16384x1024, .f32⟩
  | .local _ .vmem, ⟨0, _⟩ => ⟨S1024x6272, .bf16⟩
  | .local _ .vmem, ⟨1, _⟩ => ⟨S1024x6272, .bf16⟩
  | .local _ .vmem, ⟨2, _⟩ => ⟨S512x6272, .bf16⟩
  | .local _ .vmem, ⟨3, _⟩ => ⟨S512x6272, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S16384x6272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x6272 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x6272 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference15Ideal.lean ====
abbrev S16384x6272 : Shape := ⟨2, ![16384, 6272]⟩
abbrev S1024x6176 : Shape := ⟨2, ![1024, 6176]⟩
abbrev S16384x1024 : Shape := ⟨2, ![16384, 1024]⟩
abbrev S_ : Shape := ⟨0, ![]⟩
abbrev S16384x6176 : Shape := ⟨2, ![16384, 6176]⟩

abbrev nBuf : Space → Nat
  | .hbm => 15
  | .vmem => 0
  | .smem => 0
  | _ => 0

abbrev bufTy : (tb : Table) → Fin (tcTables nBuf tb) → BufTy
  | .hbm, ⟨0, _⟩ => ⟨S16384x6272, .f32⟩
  | .hbm, ⟨1, _⟩ => ⟨S1024x6176, .f32⟩
  | .hbm, ⟨2, _⟩ => ⟨S16384x1024, .f32⟩
  | .hbm, ⟨3, _⟩ => ⟨S_, .f32⟩
  | .hbm, ⟨4, _⟩ => ⟨S16384x1024, .f32⟩
  | .hbm, ⟨5, _⟩ => ⟨S16384x6176, .f32⟩
  | .hbm, ⟨6, _⟩ => ⟨S_, .f32⟩
  | .hbm, ⟨7, _⟩ => ⟨S16384x1024, .f32⟩
  | .hbm, ⟨8, _⟩ => ⟨S16384x1024, .f32⟩
  | .hbm, ⟨9, _⟩ => ⟨S16384x6176, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | _, _ => ⟨S16384x6272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Kernel16.lean ====
abbrev S16384x1024 : Shape := ⟨2, ![16384, 1024]⟩
abbrev S16384x6272 : Shape := ⟨2, ![16384, 6272]⟩
abbrev S1024x6272 : Shape := ⟨2, ![1024, 6272]⟩
abbrev S2048x1024 : Shape := ⟨2, ![2048, 1024]⟩
abbrev S2048x896 : Shape := ⟨2, ![2048, 896]⟩
abbrev S1024x896 : Shape := ⟨2, ![1024, 896]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x6272, .f32⟩
  | .hbm, ⟨2, _⟩ => ⟨S16384x1024, .bf16⟩
  | .hbm, ⟨3, _⟩ => ⟨S16384x6272, .bf16⟩
  | .hbm, ⟨4, _⟩ => ⟨S1024x6272, .f32⟩
  | .local _ .vmem, ⟨0, _⟩ => ⟨S2048x1024, .bf16⟩
  | .local _ .vmem, ⟨1, _⟩ => ⟨S2048x1024, .bf16⟩
  | .local _ .vmem, ⟨2, _⟩ => ⟨S2048x896, .bf16⟩
  | .local _ .vmem, ⟨3, _⟩ => ⟨S2048x896, .bf16⟩
  | .local _ .vmem, ⟨4, _⟩ => ⟨S1024x896, .f32⟩
  | .local _ .vmem, ⟨5, _⟩ => ⟨S1024x896, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 7, 8], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S16384x1024 : Shape := ⟨2, ![16384, 1024]⟩
abbrev S16384x6272 : Shape := ⟨2, ![16384, 6272]⟩
abbrev S_ : Shape := ⟨0, ![]⟩
abbrev S1024x6272 : Shape := ⟨2, ![1024, 6272]⟩
abbrev S6272x1024 : Shape := ⟨2, ![6272, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x6272, .f32⟩
  | .hbm, ⟨2, _⟩ => ⟨S_, .f32⟩
  | .hbm, ⟨3, _⟩ => ⟨S1024x6272, .f32⟩
  | .hbm, ⟨4, _⟩ => ⟨S16384x6272, .f32⟩
  | .hbm, ⟨5, _⟩ => ⟨S6272x1024, .f32⟩
  | .hbm, ⟨6, _⟩ => ⟨S1024x6272, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel17.lean ====
abbrev S16384x2048 : Shape := ⟨2, ![16384, 2048]⟩
abbrev S2048x1024 : Shape := ⟨2, ![2048, 1024]⟩
abbrev S16384x1024 : Shape := ⟨2, ![16384, 1024]⟩
abbrev S2048x2048 : Shape := ⟨2, ![2048, 2048]⟩

abbrev nBuf : Space → Nat
  | .hbm => 5
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S2048x1024, .f32⟩
  | .hbm, ⟨2, _⟩ => ⟨S16384x2048, .bf16⟩
  | .hbm, ⟨3, _⟩ => ⟨S2048x1024, .bf16⟩
  | .hbm, ⟨4, _⟩ => ⟨S16384x1024, .f32⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .f32⟩
  | .local _ .vmem, ⟨4, _⟩ => ⟨S2048x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S16384x2048 : Shape := ⟨2, ![16384, 2048]⟩
abbrev S2048x1024 : Shape := ⟨2, ![2048, 1024]⟩
abbrev S16384x1024 : Shape := ⟨2, ![16384, 1024]⟩

abbrev nBuf : Space → Nat
  | .hbm => 3
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x1024, .f32⟩
  | .hbm, ⟨2, _⟩ => ⟨S16384x1024, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel18.lean ====
abbrev S16384x1024 : Shape := ⟨2, ![16384, 1024]⟩
abbrev S2048x1024 : Shape := ⟨2, ![2048, 1024]⟩
abbrev S16384x2048 : Shape := ⟨2, ![16384, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S2048x1024, .f32⟩
  | .hbm, ⟨2, _⟩ => ⟨S16384x1024, .bf16⟩
  | .hbm, ⟨3, _⟩ => ⟨S2048x1024, .bf16⟩
  | .hbm, ⟨4, _⟩ => ⟨S16384x2048, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S16384x1024 : Shape := ⟨2, ![16384, 1024]⟩
abbrev S2048x1024 : Shape := ⟨2, ![2048, 1024]⟩
abbrev S_ : Shape := ⟨0, ![]⟩
abbrev S16384x2048 : Shape := ⟨2, ![16384, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2048x1024, .f32⟩
  | .hbm, ⟨2, _⟩ => ⟨S_, .f32⟩
  | .hbm, ⟨3, _⟩ => ⟨S16384x2048, .f32⟩
  | .hbm, ⟨4, _⟩ => ⟨S16384x1024, .f32⟩
  | .hbm, ⟨5, _⟩ => ⟨S16384x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel19.lean ====
abbrev S16384x2048 : Shape := ⟨2, ![16384, 2048]⟩
abbrev S16384x1024 : Shape := ⟨2, ![16384, 1024]⟩
abbrev S2048x1024 : Shape := ⟨2, ![2048, 1024]⟩
abbrev S1024x2048 : Shape := ⟨2, ![1024, 2048]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S16384x1024, .f32⟩
  | .hbm, ⟨2, _⟩ => ⟨S16384x2048, .bf16⟩
  | .hbm, ⟨3, _⟩ => ⟨S16384x1024, .bf16⟩
  | .hbm, ⟨4, _⟩ => ⟨S2048x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference19Ideal.lean ====
abbrev S16384x2048 : Shape := ⟨2, ![16384, 2048]⟩
abbrev S16384x1024 : Shape := ⟨2, ![16384, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .f32⟩
  | .hbm, ⟨2, _⟩ => ⟨S_, .f32⟩
  | .hbm, ⟨3, _⟩ => ⟨S2048x1024, .f32⟩
  | .hbm, ⟨4, _⟩ => ⟨S16384x1024, .f32⟩
  | .hbm, ⟨5, _⟩ => ⟨S1024x2048, .f32⟩
  | .hbm, ⟨6, _⟩ => ⟨S2048x1024, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel20.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .bf16⟩
  | .hbm, ⟨3, _⟩ => ⟨S1024x1024, .bf16⟩
  | .hbm, ⟨4, _⟩ => ⟨S16384x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S16384x1024 : Shape := ⟨2, ![16384, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel21.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 6
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S16384x1024, .bf16⟩
  | .hbm, ⟨4, _⟩ => ⟨S1024x1024, .bf16⟩
  | .hbm, ⟨5, _⟩ => ⟨S16384x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference21Ideal.lean ====
abbrev S16384x1024 : Shape := ⟨2, ![16384, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S_, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel22.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .bf16⟩
  | .hbm, ⟨3, _⟩ => ⟨S16384x1024, .bf16⟩
  | .hbm, ⟨4, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference22Ideal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S1024x1024, .f32⟩
  | .hbm, ⟨6, _⟩ => ⟨S1024x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel23.lean ====
abbrev S16384x256 : Shape := ⟨2, ![16384, 256]⟩
abbrev S256x1024 : Shape := ⟨2, ![256, 1024]⟩
abbrev S16384x1024 : Shape := ⟨2, ![16384, 1024]⟩
abbrev S2048x256 : Shape := ⟨2, ![2048, 256]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x256, .f32⟩
  | .hbm, ⟨1, _⟩ => ⟨S256x1024, .f32⟩
  | .hbm, ⟨2, _⟩ => ⟨S16384x256, .bf16⟩
  | .hbm, ⟨3, _⟩ => ⟨S256x1024, .bf16⟩
  | .hbm, ⟨4, _⟩ => ⟨S16384x1024, .f32⟩
  | .local _ .vmem, ⟨0, _⟩ => ⟨S2048x256, .bf16⟩
  | .local _ .vmem, ⟨1, _⟩ => ⟨S2048x256, .bf16⟩
  | .local _ .vmem, ⟨2, _⟩ => ⟨S256x1024, .bf16⟩
  | .local _ .vmem, ⟨3, _⟩ => ⟨S2048x1024, .f32⟩
  | .local _ .vmem, ⟨4, _⟩ => ⟨S2048x1024, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S16384x256 : Shape := ⟨2, ![16384, 256]⟩
abbrev S256x1024 : Shape := ⟨2, ![256, 1024]⟩
abbrev S16384x1024 : Shape := ⟨2, ![16384, 1024]⟩

abbrev nBuf : Space → Nat
  | .hbm => 3
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S256x1024, .f32⟩
  | .hbm, ⟨2, _⟩ => ⟨S16384x1024, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel24.lean ====
abbrev S16384x256 : Shape := ⟨2, ![16384, 256]⟩
abbrev S16384x1024 : Shape := ⟨2, ![16384, 1024]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x256, .f32⟩
  | .hbm, ⟨1, _⟩ => ⟨S16384x1024, .f32⟩
  | .hbm, ⟨2, _⟩ => ⟨S16384x256, .bf16⟩
  | .hbm, ⟨3, _⟩ => ⟨S16384x1024, .bf16⟩
  | .hbm, ⟨4, _⟩ => ⟨S256x1024, .f32⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference24Ideal.lean ====
abbrev S16384x256 : Shape := ⟨2, ![16384, 256]⟩
abbrev S16384x1024 : Shape := ⟨2, ![16384, 1024]⟩
abbrev S_ : Shape := ⟨0, ![]⟩
abbrev S256x1024 : Shape := ⟨2, ![256, 1024]⟩
abbrev S1024x256 : Shape := ⟨2, ![1024, 256]⟩

abbrev nBuf : Space → Nat
  | .hbm => 7
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x1024, .f32⟩
  | .hbm, ⟨2, _⟩ => ⟨S_, .f32⟩
  | .hbm, ⟨3, _⟩ => ⟨S256x1024, .f32⟩
  | .hbm, ⟨4, _⟩ => ⟨S16384x1024, .f32⟩
  | .hbm, ⟨5, _⟩ => ⟨S1024x256, .f32⟩
  | .hbm, ⟨6, _⟩ => ⟨S256x1024, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel25.lean ====
abbrev S1x1024x772 : Shape := ⟨3, ![1, 1024, 772]⟩
abbrev S1024x772 : Shape := ⟨2, ![1024, 772]⟩
abbrev S256x772 : Shape := ⟨2, ![256, 772]⟩

abbrev nBuf : Space → Nat
  | .hbm => 11
  | .vmem => 14
  | .smem => 0
  | _ => 0

abbrev bufTy : (tb : Table) → Fin (tcTables nBuf tb) → BufTy
  | .hbm, ⟨0, _⟩ => ⟨S1x1024x772, .f32⟩
  | .hbm, ⟨1, _⟩ => ⟨S1x1024x772, .f32⟩
  | .hbm, ⟨2, _⟩ => ⟨S1x1024x772, .f32⟩
  | .hbm, ⟨3, _⟩ => ⟨S1x1024x772, .f32⟩
  | .hbm, ⟨4, _⟩ => ⟨S1024x772, .f32⟩
  | .hbm, ⟨5, _⟩ => ⟨S1024x772, .f32⟩
  | .hbm, ⟨6, _⟩ => ⟨S1024x772, .f32⟩
  | .hbm, ⟨7, _⟩ => ⟨S1024x772, .f32⟩
  | .hbm, ⟨8, _⟩ => ⟨S1024x772, .f32⟩
  | .hbm, ⟨9, _⟩ => ⟨S1024x772, .f32⟩
  | .hbm, ⟨10, _⟩ => ⟨S1024x772, .f32⟩
  | .local _ .vmem, ⟨0, _⟩ => ⟨S256x772, .f32⟩
  | .local _ .vmem, ⟨1, _⟩ => ⟨S256x772, .f32⟩
  | .local _ .vmem, ⟨2, _⟩ => ⟨S256x772, .f32⟩
  | .local _ .vmem, ⟨3, _⟩ => ⟨S256x772, .f32⟩
  | .local _ .vmem, ⟨4, _⟩ => ⟨S256x772, .f32⟩
  | .local _ .vmem, ⟨5, _⟩ => ⟨S256x772, .f32⟩
  | .local _ .vmem, ⟨6, _⟩ => ⟨S256x772, .f32⟩
  | .local _ .vmem, ⟨7, _⟩ => ⟨S256x772, .f32⟩
  | .local _ .vmem, ⟨8, _⟩ => ⟨S256x772, .f32⟩
  | .local _ .vmem, ⟨9, _⟩ => ⟨S256x772, .f32⟩
  | .local _ .vmem, ⟨10, _⟩ => ⟨S256x772, .f32⟩
  | .local _ .vmem, ⟨11, _⟩ => ⟨S256x772, .f32⟩
  | .local _ .vmem, ⟨12, _⟩ => ⟨S256x772, .f32⟩
  | .local _ .vmem, ⟨13, _⟩ => ⟨S256x772, .f32⟩
  | _, _ => ⟨S1x1024x772, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x772 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x772 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x772 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x772 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x772 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x772 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x772 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel25Ideal.lean ====
abbrev S1x1024x772 : Shape := ⟨3, ![1, 1024, 772]⟩
abbrev S1024x772 : Shape := ⟨2, ![1024, 772]⟩
abbrev S256x772 : Shape := ⟨2, ![256, 772]⟩

abbrev nBuf : Space → Nat
  | .hbm => 11
  | .vmem => 14
  | .smem => 0
  | _ => 0

abbrev bufTy : (tb : Table) → Fin (tcTables nBuf tb) → BufTy
  | .hbm, ⟨0, _⟩ => ⟨S1x1024x772, .f32⟩
  | .hbm, ⟨1, _⟩ => ⟨S1x1024x772, .f32⟩
  | .hbm, ⟨2, _⟩ => ⟨S1x1024x772, .f32⟩
  | .hbm, ⟨3, _⟩ => ⟨S1x1024x772, .f32⟩
  | .hbm, ⟨4, _⟩ => ⟨S1024x772, .f32⟩
  | .hbm, ⟨5, _⟩ => ⟨S1024x772, .f32⟩
  | .hbm, ⟨6, _⟩ => ⟨S1024x772, .f32⟩
  | .hbm, ⟨7, _⟩ => ⟨S1024x772, .f32⟩
  | .hbm, ⟨8, _⟩ => ⟨S1024x772, .f32⟩
  | .hbm, ⟨9, _⟩ => ⟨S1024x772, .f32⟩
  | .hbm, ⟨10, _⟩ => ⟨S1024x772, .f32⟩
  | .local _ .vmem, ⟨0, _⟩ => ⟨S256x772, .f32⟩
  | .local _ .vmem, ⟨1, _⟩ => ⟨S256x772, .f32⟩
  | .local _ .vmem, ⟨2, _⟩ => ⟨S256x772, .f32⟩
  | .local _ .vmem, ⟨3, _⟩ => ⟨S256x772, .f32⟩
  | .local _ .vmem, ⟨4, _⟩ => ⟨S256x772, .f32⟩
  | .local _ .vmem, ⟨5, _⟩ => ⟨S256x772, .f32⟩
  | .local _ .vmem, ⟨6, _⟩ => ⟨S256x772, .f32⟩
  | .local _ .vmem, ⟨7, _⟩ => ⟨S256x772, .f32⟩
  | .local _ .vmem, ⟨8, _⟩ => ⟨S256x772, .f32⟩
  | .local _ .vmem, ⟨9, _⟩ => ⟨S256x772, .f32⟩
  | .local _ .vmem, ⟨10, _⟩ => ⟨S256x772, .f32⟩
  | .local _ .vmem, ⟨11, _⟩ => ⟨S256x772, .f32⟩
  | .local _ .vmem, ⟨12, _⟩ => ⟨S256x772, .f32⟩
  | .local _ .vmem, ⟨13, _⟩ => ⟨S256x772, .f32⟩
  | _, _ => ⟨S1x1024x772, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x772 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x772 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x772 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x772 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x772 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x772 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x772 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference25Ideal.lean ====
abbrev S1x1024x772 : Shape := ⟨3, ![1, 1024, 772]⟩
abbrev S_ : Shape := ⟨0, ![]⟩
abbrev S1024x772 : Shape := ⟨2, ![1024, 772]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x772, .f32⟩
  | .hbm, ⟨1, _⟩ => ⟨S1x1024x772, .f32⟩
  | .hbm, ⟨2, _⟩ => ⟨S1x1024x772, .f32⟩
  | .hbm, ⟨3, _⟩ => ⟨S1x1024x772, .f32⟩
  | .hbm, ⟨4, _⟩ => ⟨S_, .f32⟩
  | .hbm, ⟨5, _⟩ => ⟨S1x1024x772, .f32⟩
  | .hbm, ⟨6, _⟩ => ⟨S1x1024x772, .f32⟩
  | .hbm, ⟨7, _⟩ => ⟨S_, .f32⟩
  | .hbm, ⟨8, _⟩ => ⟨S1x1024x772, .f32⟩
  | .hbm, ⟨9, _⟩ => ⟨S1x1024x772, .f32⟩
  | .hbm, ⟨10, _⟩ => ⟨S1x1024x772, .f32⟩
  | .hbm, ⟨11, _⟩ => ⟨S_, .f32⟩
  | .hbm, ⟨12, _⟩ => ⟨S1x1024x772, .f32⟩
  | .hbm, ⟨13, _⟩ => ⟨S1x1024x772, .f32⟩
  | .hbm, ⟨14, _⟩ => ⟨S1x1024x772, .f32⟩
  | .hbm, ⟨15, _⟩ => ⟨S_, .f32⟩
  | .hbm, ⟨16, _⟩ => ⟨S1x1024x772, .f32⟩
  | .hbm, ⟨17, _⟩ => ⟨S1x1024x772, .f32⟩
  | .hbm, ⟨18, _⟩ => ⟨S1x1024x772, .f32⟩
  | .hbm, ⟨19, _⟩ => ⟨S_, .f32⟩
  | .hbm, ⟨20, _⟩ => ⟨S1x1024x772, .f32⟩
  | .hbm, ⟨21, _⟩ => ⟨S1x1024x772, .f32⟩
  | .hbm, ⟨22, _⟩ => ⟨S_, .f32⟩
  | .hbm, ⟨23, _⟩ => ⟨S1x1024x772, .f32⟩
  | .hbm, ⟨24, _⟩ => ⟨S1x1024x772, .f32⟩
  | .hbm, ⟨25, _⟩ => ⟨S1x1024x772, .f32⟩
  | .hbm, ⟨26, _⟩ => ⟨S_, .f32⟩
  | .hbm, ⟨27, _⟩ => ⟨S1x1024x772, .f32⟩
  | .hbm, ⟨28, _⟩ => ⟨S1x1024x772, .f32⟩
  | .hbm, ⟨29, _⟩ => ⟨S1x1024x772, .f32⟩
  | .hbm, ⟨30, _⟩ => ⟨S_, .f32⟩
  | .hbm, ⟨31, _⟩ => ⟨S1x1024x772, .f32⟩
  | .hbm, ⟨32, _⟩ => ⟨S1x1024x772, .f32⟩
  | .hbm, ⟨33, _⟩ => ⟨S1x1024x772, .f32⟩
  | .hbm, ⟨34, _⟩ => ⟨S_, .f32⟩
  | .hbm, ⟨35, _⟩ => ⟨S1x1024x772, .f32⟩
  | .hbm, ⟨36, _⟩ => ⟨S1x1024x772, .f32⟩
  | .hbm, ⟨37, _⟩ => ⟨S1024x772, .f32⟩
  | .hbm, ⟨38, _⟩ => ⟨S1024x772, .f32⟩
  | .hbm, ⟨39, _⟩ => ⟨S1024x772, .f32⟩
  | _, _ => ⟨S1x1024x772, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel26.lean ====
abbrev S1x16 : Shape := ⟨2, ![1, 16]⟩

abbrev nBuf : Space → Nat
  | .hbm => 7
  | .vmem => 7
  | .smem => 0
  | _ => 0

abbrev bufTy : (tb : Table) → Fin (tcTables nBuf tb) → BufTy
  | .hbm, ⟨0, _⟩ => ⟨S1x16, .f32⟩
  | .hbm, ⟨1, _⟩ => ⟨S1x16, .f32⟩
  | .hbm, ⟨2, _⟩ => ⟨S1x16, .f32⟩
  | .hbm, ⟨3, _⟩ => ⟨S1x16, .f32⟩
  | .hbm, ⟨4, _⟩ => ⟨S1x16, .f32⟩
  | .hbm, ⟨5, _⟩ => ⟨S1x16, .f32⟩
  | .hbm, ⟨6, _⟩ => ⟨S1x16, .f32⟩
  | .local _ .vmem, ⟨0, _⟩ => ⟨S1x16, .f32⟩
  | .local _ .vmem, ⟨1, _⟩ => ⟨S1x16, .f32⟩
  | .local _ .vmem, ⟨2, _⟩ => ⟨S1x16, .f32⟩
  | .local _ .vmem, ⟨3, _⟩ => ⟨S1x16, .f32⟩
  | .local _ .vmem, ⟨4, _⟩ => ⟨S1x16, .f32⟩
  | .local _ .vmem, ⟨5, _⟩ => ⟨S1x16, .f32⟩
  | .local _ .vmem, ⟨6, _⟩ => ⟨S1x16, .f32⟩
  | _, _ => ⟨S1x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel26Ideal.lean ====
abbrev S1x16 : Shape := ⟨2, ![1, 16]⟩

abbrev nBuf : Space → Nat
  | .hbm => 7
  | .vmem => 7
  | .smem => 0
  | _ => 0

abbrev bufTy : (tb : Table) → Fin (tcTables nBuf tb) → BufTy
  | .hbm, ⟨0, _⟩ => ⟨S1x16, .f32⟩
  | .hbm, ⟨1, _⟩ => ⟨S1x16, .f32⟩
  | .hbm, ⟨2, _⟩ => ⟨S1x16, .f32⟩
  | .hbm, ⟨3, _⟩ => ⟨S1x16, .f32⟩
  | .hbm, ⟨4, _⟩ => ⟨S1x16, .f32⟩
  | .hbm, ⟨5, _⟩ => ⟨S1x16, .f32⟩
  | .hbm, ⟨6, _⟩ => ⟨S1x16, .f32⟩
  | .local _ .vmem, ⟨0, _⟩ => ⟨S1x16, .f32⟩
  | .local _ .vmem, ⟨1, _⟩ => ⟨S1x16, .f32⟩
  | .local _ .vmem, ⟨2, _⟩ => ⟨S1x16, .f32⟩
  | .local _ .vmem, ⟨3, _⟩ => ⟨S1x16, .f32⟩
  | .local _ .vmem, ⟨4, _⟩ => ⟨S1x16, .f32⟩
  | .local _ .vmem, ⟨5, _⟩ => ⟨S1x16, .f32⟩
  | .local _ .vmem, ⟨6, _⟩ => ⟨S1x16, .f32⟩
  | _, _ => ⟨S1x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference26Ideal.lean ====
abbrev S1x16 : Shape := ⟨2, ![1, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x16, .f32⟩
  | .hbm, ⟨1, _⟩ => ⟨S1x16, .f32⟩
  | .hbm, ⟨2, _⟩ => ⟨S1x16, .f32⟩
  | .hbm, ⟨3, _⟩ => ⟨S1x16, .f32⟩
  | .hbm, ⟨4, _⟩ => ⟨S_, .f32⟩
  | .hbm, ⟨5, _⟩ => ⟨S1x16, .f32⟩
  | .hbm, ⟨6, _⟩ => ⟨S1x16, .f32⟩
  | .hbm, ⟨7, _⟩ => ⟨S_, .f32⟩
  | .hbm, ⟨8, _⟩ => ⟨S1x16, .f32⟩
  | .hbm, ⟨9, _⟩ => ⟨S1x16, .f32⟩
  | .hbm, ⟨10, _⟩ => ⟨S1x16, .f32⟩
  | .hbm, ⟨11, _⟩ => ⟨S_, .f32⟩
  | .hbm, ⟨12, _⟩ => ⟨S1x16, .f32⟩
  | .hbm, ⟨13, _⟩ => ⟨S1x16, .f32⟩
  | .hbm, ⟨14, _⟩ => ⟨S1x16, .f32⟩
  | .hbm, ⟨15, _⟩ => ⟨S_, .f32⟩
  | .hbm, ⟨16, _⟩ => ⟨S1x16, .f32⟩
  | .hbm, ⟨17, _⟩ => ⟨S1x16, .f32⟩
  | .hbm, ⟨18, _⟩ => ⟨S1x16, .f32⟩
  | .hbm, ⟨19, _⟩ => ⟨S_, .f32⟩
  | .hbm, ⟨20, _⟩ => ⟨S1x16, .f32⟩
  | .hbm, ⟨21, _⟩ => ⟨S1x16, .f32⟩
  | .hbm, ⟨22, _⟩ => ⟨S_, .f32⟩
  | .hbm, ⟨23, _⟩ => ⟨S1x16, .f32⟩
  | .hbm, ⟨24, _⟩ => ⟨S1x16, .f32⟩
  | .hbm, ⟨25, _⟩ => ⟨S1x16, .f32⟩
  | .hbm, ⟨26, _⟩ => ⟨S_, .f32⟩
  | .hbm, ⟨27, _⟩ => ⟨S1x16, .f32⟩
  | .hbm, ⟨28, _⟩ => ⟨S1x16, .f32⟩
  | .hbm, ⟨29, _⟩ => ⟨S1x16, .f32⟩
  | .hbm, ⟨30, _⟩ => ⟨S_, .f32⟩
  | .hbm, ⟨31, _⟩ => ⟨S1x16, .f32⟩
  | .hbm, ⟨32, _⟩ => ⟨S1x16, .f32⟩
  | .hbm, ⟨33, _⟩ => ⟨S1x16, .f32⟩
  | .hbm, ⟨34, _⟩ => ⟨S_, .f32⟩
  | .hbm, ⟨35, _⟩ => ⟨S1x16, .f32⟩
  | .hbm, ⟨36, _⟩ => ⟨S1x16, .f32⟩
  | _, _ => ⟨S1x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel27.lean ====
abbrev S1x256x1024 : Shape := ⟨3, ![1, 256, 1024]⟩
abbrev S256x1024 : Shape := ⟨2, ![256, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel27Ideal.lean ====
abbrev S1x256x1024 : Shape := ⟨3, ![1, 256, 1024]⟩
abbrev S256x1024 : Shape := ⟨2, ![256, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference27Ideal.lean ====
abbrev S1x256x1024 : Shape := ⟨3, ![1, 256, 1024]⟩
abbrev S_ : Shape := ⟨0, ![]⟩
abbrev S256x1024 : Shape := ⟨2, ![256, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S_, .f32⟩
  | .hbm, ⟨5, _⟩ => ⟨S1x256x1024, .f32⟩
  | .hbm, ⟨6, _⟩ => ⟨S1x256x1024, .f32⟩
  | .hbm, ⟨7, _⟩ => ⟨S_, .f32⟩
  | .hbm, ⟨8, _⟩ => ⟨S1x256x1024, .f32⟩
  | .hbm, ⟨9, _⟩ => ⟨S1x256x1024, .f32⟩
  | .hbm, ⟨10, _⟩ => ⟨S1x256x1024, .f32⟩
  | .hbm, ⟨11, _⟩ => ⟨S_, .f32⟩
  | .hbm, ⟨12, _⟩ => ⟨S1x256x1024, .f32⟩
  | .hbm, ⟨13, _⟩ => ⟨S1x256x1024, .f32⟩
  | .hbm, ⟨14, _⟩ => ⟨S1x256x1024, .f32⟩
  | .hbm, ⟨15, _⟩ => ⟨S_, .f32⟩
  | .hbm, ⟨16, _⟩ => ⟨S1x256x1024, .f32⟩
  | .hbm, ⟨17, _⟩ => ⟨S1x256x1024, .f32⟩
  | .hbm, ⟨18, _⟩ => ⟨S1x256x1024, .f32⟩
  | .hbm, ⟨19, _⟩ => ⟨S_, .f32⟩
  | .hbm, ⟨20, _⟩ => ⟨S1x256x1024, .f32⟩
  | .hbm, ⟨21, _⟩ => ⟨S1x256x1024, .f32⟩
  | .hbm, ⟨22, _⟩ => ⟨S_, .f32⟩
  | .hbm, ⟨23, _⟩ => ⟨S1x256x1024, .f32⟩
  | .hbm, ⟨24, _⟩ => ⟨S1x256x1024, .f32⟩
  | .hbm, ⟨25, _⟩ => ⟨S1x256x1024, .f32⟩
  | .hbm, ⟨26, _⟩ => ⟨S_, .f32⟩
  | .hbm, ⟨27, _⟩ => ⟨S1x256x1024, .f32⟩
  | .hbm, ⟨28, _⟩ => ⟨S1x256x1024, .f32⟩
  | .hbm, ⟨29, _⟩ => ⟨S1x256x1024, .f32⟩
  | .hbm, ⟨30, _⟩ => ⟨S_, .f32⟩
  | .hbm, ⟨31, _⟩ => ⟨S1x256x1024, .f32⟩
  | .hbm, ⟨32, _⟩ => ⟨S1x256x1024, .f32⟩
  | .hbm, ⟨33, _⟩ => ⟨S1x256x1024, .f32⟩
  | .hbm, ⟨34, _⟩ => ⟨S_, .f32⟩
  | .hbm, ⟨35, _⟩ => ⟨S1x256x1024, .f32⟩
  | .hbm, ⟨36, _⟩ => ⟨S1x256x1024, .f32⟩
  | .hbm, ⟨37, _⟩ => ⟨S256x1024, .f32⟩
  | .hbm, ⟨38, _⟩ => ⟨S256x1024, .f32⟩
  | .hbm, ⟨39, _⟩ => ⟨S256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel28.lean ====
abbrev S1x1024x1544 : Shape := ⟨3, ![1, 1024, 1544]⟩
abbrev S1024x1544 : Shape := ⟨2, ![1024, 1544]⟩
abbrev S256x1544 : Shape := ⟨2, ![256, 1544]⟩

abbrev nBuf : Space → Nat
  | .hbm => 11
  | .vmem => 14
  | .smem => 0
  | _ => 0

abbrev bufTy : (tb : Table) → Fin (tcTables nBuf tb) → BufTy
  | .hbm, ⟨0, _⟩ => ⟨S1x1024x1544, .f32⟩
  | .hbm, ⟨1, _⟩ => ⟨S1x1024x1544, .f32⟩
  | .hbm, ⟨2, _⟩ => ⟨S1x1024x1544, .f32⟩
  | .hbm, ⟨3, _⟩ => ⟨S1x1024x1544, .f32⟩
  | .hbm, ⟨4, _⟩ => ⟨S1024x1544, .f32⟩
  | .hbm, ⟨5, _⟩ => ⟨S1024x1544, .f32⟩
  | .hbm, ⟨6, _⟩ => ⟨S1024x1544, .f32⟩
  | .hbm, ⟨7, _⟩ => ⟨S1024x1544, .f32⟩
  | .hbm, ⟨8, _⟩ => ⟨S1024x1544, .f32⟩
  | .hbm, ⟨9, _⟩ => ⟨S1024x1544, .f32⟩
  | .hbm, ⟨10, _⟩ => ⟨S1024x1544, .f32⟩
  | .local _ .vmem, ⟨0, _⟩ => ⟨S256x1544, .f32⟩
  | .local _ .vmem, ⟨1, _⟩ => ⟨S256x1544, .f32⟩
  | .local _ .vmem, ⟨2, _⟩ => ⟨S256x1544, .f32⟩
  | .local _ .vmem, ⟨3, _⟩ => ⟨S256x1544, .f32⟩
  | .local _ .vmem, ⟨4, _⟩ => ⟨S256x1544, .f32⟩
  | .local _ .vmem, ⟨5, _⟩ => ⟨S256x1544, .f32⟩
  | .local _ .vmem, ⟨6, _⟩ => ⟨S256x1544, .f32⟩
  | .local _ .vmem, ⟨7, _⟩ => ⟨S256x1544, .f32⟩
  | .local _ .vmem, ⟨8, _⟩ => ⟨S256x1544, .f32⟩
  | .local _ .vmem, ⟨9, _⟩ => ⟨S256x1544, .f32⟩
  | .local _ .vmem, ⟨10, _⟩ => ⟨S256x1544, .f32⟩
  | .local _ .vmem, ⟨11, _⟩ => ⟨S256x1544, .f32⟩
  | .local _ .vmem, ⟨12, _⟩ => ⟨S256x1544, .f32⟩
  | .local _ .vmem, ⟨13, _⟩ => ⟨S256x1544, .f32⟩
  | _, _ => ⟨S1x1024x1544, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1544 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1544 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1544 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1544 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1544 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1544 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1544 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel28Ideal.lean ====
abbrev S1x1024x1544 : Shape := ⟨3, ![1, 1024, 1544]⟩
abbrev S1024x1544 : Shape := ⟨2, ![1024, 1544]⟩
abbrev S256x1544 : Shape := ⟨2, ![256, 1544]⟩

abbrev nBuf : Space → Nat
  | .hbm => 11
  | .vmem => 14
  | .smem => 0
  | _ => 0

abbrev bufTy : (tb : Table) → Fin (tcTables nBuf tb) → BufTy
  | .hbm, ⟨0, _⟩ => ⟨S1x1024x1544, .f32⟩
  | .hbm, ⟨1, _⟩ => ⟨S1x1024x1544, .f32⟩
  | .hbm, ⟨2, _⟩ => ⟨S1x1024x1544, .f32⟩
  | .hbm, ⟨3, _⟩ => ⟨S1x1024x1544, .f32⟩
  | .hbm, ⟨4, _⟩ => ⟨S1024x1544, .f32⟩
  | .hbm, ⟨5, _⟩ => ⟨S1024x1544, .f32⟩
  | .hbm, ⟨6, _⟩ => ⟨S1024x1544, .f32⟩
  | .hbm, ⟨7, _⟩ => ⟨S1024x1544, .f32⟩
  | .hbm, ⟨8, _⟩ => ⟨S1024x1544, .f32⟩
  | .hbm, ⟨9, _⟩ => ⟨S1024x1544, .f32⟩
  | .hbm, ⟨10, _⟩ => ⟨S1024x1544, .f32⟩
  | .local _ .vmem, ⟨0, _⟩ => ⟨S256x1544, .f32⟩
  | .local _ .vmem, ⟨1, _⟩ => ⟨S256x1544, .f32⟩
  | .local _ .vmem, ⟨2, _⟩ => ⟨S256x1544, .f32⟩
  | .local _ .vmem, ⟨3, _⟩ => ⟨S256x1544, .f32⟩
  | .local _ .vmem, ⟨4, _⟩ => ⟨S256x1544, .f32⟩
  | .local _ .vmem, ⟨5, _⟩ => ⟨S256x1544, .f32⟩
  | .local _ .vmem, ⟨6, _⟩ => ⟨S256x1544, .f32⟩
  | .local _ .vmem, ⟨7, _⟩ => ⟨S256x1544, .f32⟩
  | .local _ .vmem, ⟨8, _⟩ => ⟨S256x1544, .f32⟩
  | .local _ .vmem, ⟨9, _⟩ => ⟨S256x1544, .f32⟩
  | .local _ .vmem, ⟨10, _⟩ => ⟨S256x1544, .f32⟩
  | .local _ .vmem, ⟨11, _⟩ => ⟨S256x1544, .f32⟩
  | .local _ .vmem, ⟨12, _⟩ => ⟨S256x1544, .f32⟩
  | .local _ .vmem, ⟨13, _⟩ => ⟨S256x1544, .f32⟩
  | _, _ => ⟨S1x1024x1544, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1544 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1544 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1544 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1544 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1544 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1544 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1544 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference28Ideal.lean ====
abbrev S1x1024x1544 : Shape := ⟨3, ![1, 1024, 1544]⟩
abbrev S_ : Shape := ⟨0, ![]⟩
abbrev S1024x1544 : Shape := ⟨2, ![1024, 1544]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x1544, .f32⟩
  | .hbm, ⟨1, _⟩ => ⟨S1x1024x1544, .f32⟩
  | .hbm, ⟨2, _⟩ => ⟨S1x1024x1544, .f32⟩
  | .hbm, ⟨3, _⟩ => ⟨S1x1024x1544, .f32⟩
  | .hbm, ⟨4, _⟩ => ⟨S_, .f32⟩
  | .hbm, ⟨5, _⟩ => ⟨S1x1024x1544, .f32⟩
  | .hbm, ⟨6, _⟩ => ⟨S1x1024x1544, .f32⟩
  | .hbm, ⟨7, _⟩ => ⟨S_, .f32⟩
  | .hbm, ⟨8, _⟩ => ⟨S1x1024x1544, .f32⟩
  | .hbm, ⟨9, _⟩ => ⟨S1x1024x1544, .f32⟩
  | .hbm, ⟨10, _⟩ => ⟨S1x1024x1544, .f32⟩
  | .hbm, ⟨11, _⟩ => ⟨S_, .f32⟩
  | .hbm, ⟨12, _⟩ => ⟨S1x1024x1544, .f32⟩
  | .hbm, ⟨13, _⟩ => ⟨S1x1024x1544, .f32⟩
  | .hbm, ⟨14, _⟩ => ⟨S1x1024x1544, .f32⟩
  | .hbm, ⟨15, _⟩ => ⟨S_, .f32⟩
  | .hbm, ⟨16, _⟩ => ⟨S1x1024x1544, .f32⟩
  | .hbm, ⟨17, _⟩ => ⟨S1x1024x1544, .f32⟩
  | .hbm, ⟨18, _⟩ => ⟨S1x1024x1544, .f32⟩
  | .hbm, ⟨19, _⟩ => ⟨S_, .f32⟩
  | .hbm, ⟨20, _⟩ => ⟨S1x1024x1544, .f32⟩
  | .hbm, ⟨21, _⟩ => ⟨S1x1024x1544, .f32⟩
  | .hbm, ⟨22, _⟩ => ⟨S_, .f32⟩
  | .hbm, ⟨23, _⟩ => ⟨S1x1024x1544, .f32⟩
  | .hbm, ⟨24, _⟩ => ⟨S1x1024x1544, .f32⟩
  | .hbm, ⟨25, _⟩ => ⟨S1x1024x1544, .f32⟩
  | .hbm, ⟨26, _⟩ => ⟨S_, .f32⟩
  | .hbm, ⟨27, _⟩ => ⟨S1x1024x1544, .f32⟩
  | .hbm, ⟨28, _⟩ => ⟨S1x1024x1544, .f32⟩
  | .hbm, ⟨29, _⟩ => ⟨S1x1024x1544, .f32⟩
  | .hbm, ⟨30, _⟩ => ⟨S_, .f32⟩
  | .hbm, ⟨31, _⟩ => ⟨S1x1024x1544, .f32⟩
  | .hbm, ⟨32, _⟩ => ⟨S1x1024x1544, .f32⟩
  | .hbm, ⟨33, _⟩ => ⟨S1x1024x1544, .f32⟩
  | .hbm, ⟨34, _⟩ => ⟨S_, .f32⟩
  | .hbm, ⟨35, _⟩ => ⟨S1x1024x1544, .f32⟩
  | .hbm, ⟨36, _⟩ => ⟨S1x1024x1544, .f32⟩
  | .hbm, ⟨37, _⟩ => ⟨S1024x1544, .f32⟩
  | .hbm, ⟨38, _⟩ => ⟨S1024x1544, .f32⟩
  | .hbm, ⟨39, _⟩ => ⟨S1024x1544, .f32⟩
  | _, _ => ⟨S1x1024x1544, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel29.lean ====
abbrev S1x4x1024 : Shape := ⟨3, ![1, 4, 1024]⟩
abbrev S4x1024 : Shape := ⟨2, ![4, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1x4x1024, .f32⟩
  | .hbm, ⟨1, _⟩ => ⟨S1x4x1024, .f32⟩
  | .hbm, ⟨2, _⟩ => ⟨S1x4x1024, .f32⟩
  | .hbm, ⟨3, _⟩ => ⟨S1x4x1024, .f32⟩
  | .hbm, ⟨4, _⟩ => ⟨S4x1024, .f32⟩
  | .hbm, ⟨5, _⟩ => ⟨S4x1024, .f32⟩
  | .hbm, ⟨6, _⟩ => ⟨S4x1024, .f32⟩
  | .hbm, ⟨7, _⟩ => ⟨S4x1024, .f32⟩
  | .hbm, ⟨8, _⟩ => ⟨S4x1024, .f32⟩
  | .hbm, ⟨9, _⟩ => ⟨S4x1024, .f32⟩
  | .hbm, ⟨10, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S1x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel29Ideal.lean ====
abbrev S1x4x1024 : Shape := ⟨3, ![1, 4, 1024]⟩
abbrev S4x1024 : Shape := ⟨2, ![4, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1x4x1024, .f32⟩
  | .hbm, ⟨1, _⟩ => ⟨S1x4x1024, .f32⟩
  | .hbm, ⟨2, _⟩ => ⟨S1x4x1024, .f32⟩
  | .hbm, ⟨3, _⟩ => ⟨S1x4x1024, .f32⟩
  | .hbm, ⟨4, _⟩ => ⟨S4x1024, .f32⟩
  | .hbm, ⟨5, _⟩ => ⟨S4x1024, .f32⟩
  | .hbm, ⟨6, _⟩ => ⟨S4x1024, .f32⟩
  | .hbm, ⟨7, _⟩ => ⟨S4x1024, .f32⟩
  | .hbm, ⟨8, _⟩ => ⟨S4x1024, .f32⟩
  | .hbm, ⟨9, _⟩ => ⟨S4x1024, .f32⟩
  | .hbm, ⟨10, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S1x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference29Ideal.lean ====
abbrev S1x4x1024 : Shape := ⟨3, ![1, 4, 1024]⟩
abbrev S_ : Shape := ⟨0, ![]⟩
abbrev S4x1024 : Shape := ⟨2, ![4, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1x4x1024, .f32⟩
  | .hbm, ⟨1, _⟩ => ⟨S1x4x1024, .f32⟩
  | .hbm, ⟨2, _⟩ => ⟨S1x4x1024, .f32⟩
  | .hbm, ⟨3, _⟩ => ⟨S1x4x1024, .f32⟩
  | .hbm, ⟨4, _⟩ => ⟨S_, .f32⟩
  | .hbm, ⟨5, _⟩ => ⟨S1x4x1024, .f32⟩
  | .hbm, ⟨6, _⟩ => ⟨S1x4x1024, .f32⟩
  | .hbm, ⟨7, _⟩ => ⟨S_, .f32⟩
  | .hbm, ⟨8, _⟩ => ⟨S1x4x1024, .f32⟩
  | .hbm, ⟨9, _⟩ => ⟨S1x4x1024, .f32⟩
  | .hbm, ⟨10, _⟩ => ⟨S1x4x1024, .f32⟩
  | .hbm, ⟨11, _⟩ => ⟨S_, .f32⟩
  | .hbm, ⟨12, _⟩ => ⟨S1x4x1024, .f32⟩
  | .hbm, ⟨13, _⟩ => ⟨S1x4x1024, .f32⟩
  | .hbm, ⟨14, _⟩ => ⟨S1x4x1024, .f32⟩
  | .hbm, ⟨15, _⟩ => ⟨S_, .f32⟩
  | .hbm, ⟨16, _⟩ => ⟨S1x4x1024, .f32⟩
  | .hbm, ⟨17, _⟩ => ⟨S1x4x1024, .f32⟩
  | .hbm, ⟨18, _⟩ => ⟨S1x4x1024, .f32⟩
  | .hbm, ⟨19, _⟩ => ⟨S_, .f32⟩
  | .hbm, ⟨20, _⟩ => ⟨S1x4x1024, .f32⟩
  | .hbm, ⟨21, _⟩ => ⟨S1x4x1024, .f32⟩
  | .hbm, ⟨22, _⟩ => ⟨S_, .f32⟩
  | .hbm, ⟨23, _⟩ => ⟨S1x4x1024, .f32⟩
  | .hbm, ⟨24, _⟩ => ⟨S1x4x1024, .f32⟩
  | .hbm, ⟨25, _⟩ => ⟨S1x4x1024, .f32⟩
  | .hbm, ⟨26, _⟩ => ⟨S_, .f32⟩
  | .hbm, ⟨27, _⟩ => ⟨S1x4x1024, .f32⟩
  | .hbm, ⟨28, _⟩ => ⟨S1x4x1024, .f32⟩
  | .hbm, ⟨29, _⟩ => ⟨S1x4x1024, .f32⟩
  | .hbm, ⟨30, _⟩ => ⟨S_, .f32⟩
  | .hbm, ⟨31, _⟩ => ⟨S1x4x1024, .f32⟩
  | .hbm, ⟨32, _⟩ => ⟨S1x4x1024, .f32⟩
  | .hbm, ⟨33, _⟩ => ⟨S1x4x1024, .f32⟩
  | .hbm, ⟨34, _⟩ => ⟨S_, .f32⟩
  | .hbm, ⟨35, _⟩ => ⟨S1x4x1024, .f32⟩
  | .hbm, ⟨36, _⟩ => ⟨S1x4x1024, .f32⟩
  | .hbm, ⟨37, _⟩ => ⟨S4x1024, .f32⟩
  | .hbm, ⟨38, _⟩ => ⟨S4x1024, .f32⟩
  | .hbm, ⟨39, _⟩ => ⟨S4x1024, .f32⟩
  | _, _ => ⟨S1x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel30.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel30Ideal.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference30Ideal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel31.lean ====
abbrev S1x32 : Shape := ⟨2, ![1, 32]⟩

abbrev nBuf : Space → Nat
  | .hbm => 7
  | .vmem => 7
  | .smem => 0
  | _ => 0

abbrev bufTy : (tb : Table) → Fin (tcTables nBuf tb) → BufTy
  | .hbm, ⟨0, _⟩ => ⟨S1x32, .f32⟩
  | .hbm, ⟨1, _⟩ => ⟨S1x32, .f32⟩
  | .hbm, ⟨2, _⟩ => ⟨S1x32, .f32⟩
  | .hbm, ⟨3, _⟩ => ⟨S1x32, .f32⟩
  | .hbm, ⟨4, _⟩ => ⟨S1x32, .f32⟩
  | .hbm, ⟨5, _⟩ => ⟨S1x32, .f32⟩
  | .hbm, ⟨6, _⟩ => ⟨S1x32, .f32⟩
  | .local _ .vmem, ⟨0, _⟩ => ⟨S1x32, .f32⟩
  | .local _ .vmem, ⟨1, _⟩ => ⟨S1x32, .f32⟩
  | .local _ .vmem, ⟨2, _⟩ => ⟨S1x32, .f32⟩
  | .local _ .vmem, ⟨3, _⟩ => ⟨S1x32, .f32⟩
  | .local _ .vmem, ⟨4, _⟩ => ⟨S1x32, .f32⟩
  | .local _ .vmem, ⟨5, _⟩ => ⟨S1x32, .f32⟩
  | .local _ .vmem, ⟨6, _⟩ => ⟨S1x32, .f32⟩
  | _, _ => ⟨S1x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel31Ideal.lean ====
abbrev S1x32 : Shape := ⟨2, ![1, 32]⟩

abbrev nBuf : Space → Nat
  | .hbm => 7
  | .vmem => 7
  | .smem => 0
  | _ => 0

abbrev bufTy : (tb : Table) → Fin (tcTables nBuf tb) → BufTy
  | .hbm, ⟨0, _⟩ => ⟨S1x32, .f32⟩
  | .hbm, ⟨1, _⟩ => ⟨S1x32, .f32⟩
  | .hbm, ⟨2, _⟩ => ⟨S1x32, .f32⟩
  | .hbm, ⟨3, _⟩ => ⟨S1x32, .f32⟩
  | .hbm, ⟨4, _⟩ => ⟨S1x32, .f32⟩
  | .hbm, ⟨5, _⟩ => ⟨S1x32, .f32⟩
  | .hbm, ⟨6, _⟩ => ⟨S1x32, .f32⟩
  | .local _ .vmem, ⟨0, _⟩ => ⟨S1x32, .f32⟩
  | .local _ .vmem, ⟨1, _⟩ => ⟨S1x32, .f32⟩
  | .local _ .vmem, ⟨2, _⟩ => ⟨S1x32, .f32⟩
  | .local _ .vmem, ⟨3, _⟩ => ⟨S1x32, .f32⟩
  | .local _ .vmem, ⟨4, _⟩ => ⟨S1x32, .f32⟩
  | .local _ .vmem, ⟨5, _⟩ => ⟨S1x32, .f32⟩
  | .local _ .vmem, ⟨6, _⟩ => ⟨S1x32, .f32⟩
  | _, _ => ⟨S1x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference31Ideal.lean ====
abbrev S1x32 : Shape := ⟨2, ![1, 32]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x32, .f32⟩
  | .hbm, ⟨1, _⟩ => ⟨S1x32, .f32⟩
  | .hbm, ⟨2, _⟩ => ⟨S1x32, .f32⟩
  | .hbm, ⟨3, _⟩ => ⟨S1x32, .f32⟩
  | .hbm, ⟨4, _⟩ => ⟨S_, .f32⟩
  | .hbm, ⟨5, _⟩ => ⟨S1x32, .f32⟩
  | .hbm, ⟨6, _⟩ => ⟨S1x32, .f32⟩
  | .hbm, ⟨7, _⟩ => ⟨S_, .f32⟩
  | .hbm, ⟨8, _⟩ => ⟨S1x32, .f32⟩
  | .hbm, ⟨9, _⟩ => ⟨S1x32, .f32⟩
  | .hbm, ⟨10, _⟩ => ⟨S1x32, .f32⟩
  | .hbm, ⟨11, _⟩ => ⟨S_, .f32⟩
  | .hbm, ⟨12, _⟩ => ⟨S1x32, .f32⟩
  | .hbm, ⟨13, _⟩ => ⟨S1x32, .f32⟩
  | .hbm, ⟨14, _⟩ => ⟨S1x32, .f32⟩
  | .hbm, ⟨15, _⟩ => ⟨S_, .f32⟩
  | .hbm, ⟨16, _⟩ => ⟨S1x32, .f32⟩
  | .hbm, ⟨17, _⟩ => ⟨S1x32, .f32⟩
  | .hbm, ⟨18, _⟩ => ⟨S1x32, .f32⟩
  | .hbm, ⟨19, _⟩ => ⟨S_, .f32⟩
  | .hbm, ⟨20, _⟩ => ⟨S1x32, .f32⟩
  | .hbm, ⟨21, _⟩ => ⟨S1x32, .f32⟩
  | .hbm, ⟨22, _⟩ => ⟨S_, .f32⟩
  | .hbm, ⟨23, _⟩ => ⟨S1x32, .f32⟩
  | .hbm, ⟨24, _⟩ => ⟨S1x32, .f32⟩
  | .hbm, ⟨25, _⟩ => ⟨S1x32, .f32⟩
  | .hbm, ⟨26, _⟩ => ⟨S_, .f32⟩
  | .hbm, ⟨27, _⟩ => ⟨S1x32, .f32⟩
  | .hbm, ⟨28, _⟩ => ⟨S1x32, .f32⟩
  | .hbm, ⟨29, _⟩ => ⟨S1x32, .f32⟩
  | .hbm, ⟨30, _⟩ => ⟨S_, .f32⟩
  | .hbm, ⟨31, _⟩ => ⟨S1x32, .f32⟩
  | .hbm, ⟨32, _⟩ => ⟨S1x32, .f32⟩
  | .hbm, ⟨33, _⟩ => ⟨S1x32, .f32⟩
  | .hbm, ⟨34, _⟩ => ⟨S_, .f32⟩
  | .hbm, ⟨35, _⟩ => ⟨S1x32, .f32⟩
  | .hbm, ⟨36, _⟩ => ⟨S1x32, .f32⟩
  | _, _ => ⟨S1x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel32.lean ====
abbrev S1x512 : Shape := ⟨2, ![1, 512]⟩

abbrev nBuf : Space → Nat
  | .hbm => 7
  | .vmem => 7
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel32Ideal.lean ====
abbrev S1x512 : Shape := ⟨2, ![1, 512]⟩

abbrev nBuf : Space → Nat
  | .hbm => 7
  | .vmem => 7
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference32Ideal.lean ====
abbrev S1x512 : Shape := ⟨2, ![1, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S_, .f32⟩
  | .hbm, ⟨5, _⟩ => ⟨S1x512, .f32⟩
  | .hbm, ⟨6, _⟩ => ⟨S1x512, .f32⟩
  | .hbm, ⟨7, _⟩ => ⟨S_, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S_, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S_, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S_, .f32⟩
  | .hbm, ⟨20, _⟩ => ⟨S1x512, .f32⟩
  | .hbm, ⟨21, _⟩ => ⟨S1x512, .f32⟩
  | .hbm, ⟨22, _⟩ => ⟨S_, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S_, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S_, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S_, .f32⟩
  | .hbm, ⟨35, _⟩ => ⟨S1x512, .f32⟩
  | .hbm, ⟨36, _⟩ => ⟨S1x512, .f32⟩
  | _, _ => ⟨S1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel33.lean ====
abbrev S1x512x1024 : Shape := ⟨3, ![1, 512, 1024]⟩
abbrev S512x1024 : Shape := ⟨2, ![512, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S1x512x1024, .f32⟩
  | .hbm, ⟨1, _⟩ => ⟨S1x512x1024, .f32⟩
  | .hbm, ⟨2, _⟩ => ⟨S1x512x1024, .f32⟩
  | .hbm, ⟨3, _⟩ => ⟨S1x512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel33Ideal.lean ====
abbrev S1x512x1024 : Shape := ⟨3, ![1, 512, 1024]⟩
abbrev S512x1024 : Shape := ⟨2, ![512, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S1x512x1024, .f32⟩
  | .hbm, ⟨1, _⟩ => ⟨S1x512x1024, .f32⟩
  | .hbm, ⟨2, _⟩ => ⟨S1x512x1024, .f32⟩
  | .hbm, ⟨3, _⟩ => ⟨S1x512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference33Ideal.lean ====
abbrev S1x512x1024 : Shape := ⟨3, ![1, 512, 1024]⟩
abbrev S_ : Shape := ⟨0, ![]⟩
abbrev S512x1024 : Shape := ⟨2, ![512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1x512x1024, .f32⟩
  | .hbm, ⟨1, _⟩ => ⟨S1x512x1024, .f32⟩
  | .hbm, ⟨2, _⟩ => ⟨S1x512x1024, .f32⟩
  | .hbm, ⟨3, _⟩ => ⟨S1x512x1024, .f32⟩
  | .hbm, ⟨4, _⟩ => ⟨S_, .f32⟩
  | .hbm, ⟨5, _⟩ => ⟨S1x512x1024, .f32⟩
  | .hbm, ⟨6, _⟩ => ⟨S1x512x1024, .f32⟩
  | .hbm, ⟨7, _⟩ => ⟨S_, .f32⟩
  | .hbm, ⟨8, _⟩ => ⟨S1x512x1024, .f32⟩
  | .hbm, ⟨9, _⟩ => ⟨S1x512x1024, .f32⟩
  | .hbm, ⟨10, _⟩ => ⟨S1x512x1024, .f32⟩
  | .hbm, ⟨11, _⟩ => ⟨S_, .f32⟩
  | .hbm, ⟨12, _⟩ => ⟨S1x512x1024, .f32⟩
  | .hbm, ⟨13, _⟩ => ⟨S1x512x1024, .f32⟩
  | .hbm, ⟨14, _⟩ => ⟨S1x512x1024, .f32⟩
  | .hbm, ⟨15, _⟩ => ⟨S_, .f32⟩
  | .hbm, ⟨16, _⟩ => ⟨S1x512x1024, .f32⟩
  | .hbm, ⟨17, _⟩ => ⟨S1x512x1024, .f32⟩
  | .hbm, ⟨18, _⟩ => ⟨S1x512x1024, .f32⟩
  | .hbm, ⟨19, _⟩ => ⟨S_, .f32⟩
  | .hbm, ⟨20, _⟩ => ⟨S1x512x1024, .f32⟩
  | .hbm, ⟨21, _⟩ => ⟨S1x512x1024, .f32⟩
  | .hbm, ⟨22, _⟩ => ⟨S_, .f32⟩
  | .hbm, ⟨23, _⟩ => ⟨S1x512x1024, .f32⟩
  | .hbm, ⟨24, _⟩ => ⟨S1x512x1024, .f32⟩
  | .hbm, ⟨25, _⟩ => ⟨S1x512x1024, .f32⟩
  | .hbm, ⟨26, _⟩ => ⟨S_, .f32⟩
  | .hbm, ⟨27, _⟩ => ⟨S1x512x1024, .f32⟩
  | .hbm, ⟨28, _⟩ => ⟨S1x512x1024, .f32⟩
  | .hbm, ⟨29, _⟩ => ⟨S1x512x1024, .f32⟩
  | .hbm, ⟨30, _⟩ => ⟨S_, .f32⟩
  | .hbm, ⟨31, _⟩ => ⟨S1x512x1024, .f32⟩
  | .hbm, ⟨32, _⟩ => ⟨S1x512x1024, .f32⟩
  | .hbm, ⟨33, _⟩ => ⟨S1x512x1024, .f32⟩
  | .hbm, ⟨34, _⟩ => ⟨S_, .f32⟩
  | .hbm, ⟨35, _⟩ => ⟨S1x512x1024, .f32⟩
  | .hbm, ⟨36, _⟩ => ⟨S1x512x1024, .f32⟩
  | .hbm, ⟨37, _⟩ => ⟨S512x1024, .f32⟩
  | .hbm, ⟨38, _⟩ => ⟨S512x1024, .f32⟩
  | .hbm, ⟨39, _⟩ => ⟨S512x1024, .f32⟩
  | _, _ => ⟨S1x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel34.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel34Ideal.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference34Ideal.lean ====
abbrev S2x1024 : Shape := ⟨2, ![2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel35.lean ====
abbrev S2x1024x1408 : Shape := ⟨3, ![2, 1024, 1408]⟩
abbrev S2048x1408 : Shape := ⟨2, ![2048, 1408]⟩
abbrev S256x1408 : Shape := ⟨2, ![256, 1408]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .hbm, ⟨9, _⟩ => ⟨S2048x1408, .f32⟩
  | .hbm, ⟨10, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel35Ideal.lean ====
abbrev S2x1024x1408 : Shape := ⟨3, ![2, 1024, 1408]⟩
abbrev S2048x1408 : Shape := ⟨2, ![2048, 1408]⟩
abbrev S256x1408 : Shape := ⟨2, ![256, 1408]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .hbm, ⟨9, _⟩ => ⟨S2048x1408, .f32⟩
  | .hbm, ⟨10, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference35Ideal.lean ====
abbrev S2x1024x1408 : Shape := ⟨3, ![2, 1024, 1408]⟩
abbrev S_ : Shape := ⟨0, ![]⟩
abbrev S2048x1408 : Shape := ⟨2, ![2048, 1408]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S_, .f32⟩
  | .hbm, ⟨5, _⟩ => ⟨S2x1024x1408, .f32⟩
  | .hbm, ⟨6, _⟩ => ⟨S2x1024x1408, .f32⟩
  | .hbm, ⟨7, _⟩ => ⟨S_, .f32⟩
  | .hbm, ⟨8, _⟩ => ⟨S2x1024x1408, .f32⟩
  | .hbm, ⟨9, _⟩ => ⟨S2x1024x1408, .f32⟩
  | .hbm, ⟨10, _⟩ => ⟨S2x1024x1408, .f32⟩
  | .hbm, ⟨11, _⟩ => ⟨S_, .f32⟩
  | .hbm, ⟨12, _⟩ => ⟨S2x1024x1408, .f32⟩
  | .hbm, ⟨13, _⟩ => ⟨S2x1024x1408, .f32⟩
  | .hbm, ⟨14, _⟩ => ⟨S2x1024x1408, .f32⟩
  | .hbm, ⟨15, _⟩ => ⟨S_, .f32⟩
  | .hbm, ⟨16, _⟩ => ⟨S2x1024x1408, .f32⟩
  | .hbm, ⟨17, _⟩ => ⟨S2x1024x1408, .f32⟩
  | .hbm, ⟨18, _⟩ => ⟨S2x1024x1408, .f32⟩
  | .hbm, ⟨19, _⟩ => ⟨S_, .f32⟩
  | .hbm, ⟨20, _⟩ => ⟨S2x1024x1408, .f32⟩
  | .hbm, ⟨21, _⟩ => ⟨S2x1024x1408, .f32⟩
  | .hbm, ⟨22, _⟩ => ⟨S_, .f32⟩
  | .hbm, ⟨23, _⟩ => ⟨S2x1024x1408, .f32⟩
  | .hbm, ⟨24, _⟩ => ⟨S2x1024x1408, .f32⟩
  | .hbm, ⟨25, _⟩ => ⟨S2x1024x1408, .f32⟩
  | .hbm, ⟨26, _⟩ => ⟨S_, .f32⟩
  | .hbm, ⟨27, _⟩ => ⟨S2x1024x1408, .f32⟩
  | .hbm, ⟨28, _⟩ => ⟨S2x1024x1408, .f32⟩
  | .hbm, ⟨29, _⟩ => ⟨S2x1024x1408, .f32⟩
  | .hbm, ⟨30, _⟩ => ⟨S_, .f32⟩
  | .hbm, ⟨31, _⟩ => ⟨S2x1024x1408, .f32⟩
  | .hbm, ⟨32, _⟩ => ⟨S2x1024x1408, .f32⟩
  | .hbm, ⟨33, _⟩ => ⟨S2x1024x1408, .f32⟩
  | .hbm, ⟨34, _⟩ => ⟨S_, .f32⟩
  | .hbm, ⟨35, _⟩ => ⟨S2x1024x1408, .f32⟩
  | .hbm, ⟨36, _⟩ => ⟨S2x1024x1408, .f32⟩
  | .hbm, ⟨37, _⟩ => ⟨S2048x1408, .f32⟩
  | .hbm, ⟨38, _⟩ => ⟨S2048x1408, .f32⟩
  | .hbm, ⟨39, _⟩ => ⟨S2048x1408, .f32⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel36.lean ====
abbrev S2x3x704 : Shape := ⟨3, ![2, 3, 704]⟩
abbrev S6x704 : Shape := ⟨2, ![6, 704]⟩

abbrev nBuf : Space → Nat
  | .hbm => 11
  | .vmem => 7
  | .smem => 0
  | _ => 0

abbrev bufTy : (tb : Table) → Fin (tcTables nBuf tb) → BufTy
  | .hbm, ⟨0, _⟩ => ⟨S2x3x704, .f32⟩
  | .hbm, ⟨1, _⟩ => ⟨S2x3x704, .f32⟩
  | .hbm, ⟨2, _⟩ => ⟨S2x3x704, .f32⟩
  | .hbm, ⟨3, _⟩ => ⟨S2x3x704, .f32⟩
  | .hbm, ⟨4, _⟩ => ⟨S6x704, .f32⟩
  | .hbm, ⟨5, _⟩ => ⟨S6x704, .f32⟩
  | .hbm, ⟨6, _⟩ => ⟨S6x704, .f32⟩
  | .hbm, ⟨7, _⟩ => ⟨S6x704, .f32⟩
  | .hbm, ⟨8, _⟩ => ⟨S6x704, .f32⟩
  | .hbm, ⟨9, _⟩ => ⟨S6x704, .f32⟩
  | .hbm, ⟨10, _⟩ => ⟨S6x704, .f32⟩
  | .local _ .vmem, ⟨0, _⟩ => ⟨S6x704, .f32⟩
  | .local _ .vmem, ⟨1, _⟩ => ⟨S6x704, .f32⟩
  | .local _ .vmem, ⟨2, _⟩ => ⟨S6x704, .f32⟩
  | .local _ .vmem, ⟨3, _⟩ => ⟨S6x704, .f32⟩
  | .local _ .vmem, ⟨4, _⟩ => ⟨S6x704, .f32⟩
  | .local _ .vmem, ⟨5, _⟩ => ⟨S6x704, .f32⟩
  | .local _ .vmem, ⟨6, _⟩ => ⟨S6x704, .f32⟩
  | _, _ => ⟨S2x3x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S6x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S6x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S6x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S6x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S6x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S6x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S6x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel36Ideal.lean ====
abbrev S2x3x704 : Shape := ⟨3, ![2, 3, 704]⟩
abbrev S6x704 : Shape := ⟨2, ![6, 704]⟩

abbrev nBuf : Space → Nat
  | .hbm => 11
  | .vmem => 7
  | .smem => 0
  | _ => 0

abbrev bufTy : (tb : Table) → Fin (tcTables nBuf tb) → BufTy
  | .hbm, ⟨0, _⟩ => ⟨S2x3x704, .f32⟩
  | .hbm, ⟨1, _⟩ => ⟨S2x3x704, .f32⟩
  | .hbm, ⟨2, _⟩ => ⟨S2x3x704, .f32⟩
  | .hbm, ⟨3, _⟩ => ⟨S2x3x704, .f32⟩
  | .hbm, ⟨4, _⟩ => ⟨S6x704, .f32⟩
  | .hbm, ⟨5, _⟩ => ⟨S6x704, .f32⟩
  | .hbm, ⟨6, _⟩ => ⟨S6x704, .f32⟩
  | .hbm, ⟨7, _⟩ => ⟨S6x704, .f32⟩
  | .hbm, ⟨8, _⟩ => ⟨S6x704, .f32⟩
  | .hbm, ⟨9, _⟩ => ⟨S6x704, .f32⟩
  | .hbm, ⟨10, _⟩ => ⟨S6x704, .f32⟩
  | .local _ .vmem, ⟨0, _⟩ => ⟨S6x704, .f32⟩
  | .local _ .vmem, ⟨1, _⟩ => ⟨S6x704, .f32⟩
  | .local _ .vmem, ⟨2, _⟩ => ⟨S6x704, .f32⟩
  | .local _ .vmem, ⟨3, _⟩ => ⟨S6x704, .f32⟩
  | .local _ .vmem, ⟨4, _⟩ => ⟨S6x704, .f32⟩
  | .local _ .vmem, ⟨5, _⟩ => ⟨S6x704, .f32⟩
  | .local _ .vmem, ⟨6, _⟩ => ⟨S6x704, .f32⟩
  | _, _ => ⟨S2x3x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S6x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S6x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S6x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S6x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S6x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S6x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S6x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference36Ideal.lean ====
abbrev S2x3x704 : Shape := ⟨3, ![2, 3, 704]⟩
abbrev S_ : Shape := ⟨0, ![]⟩
abbrev S6x704 : Shape := ⟨2, ![6, 704]⟩

abbrev nBuf : Space → Nat
  | .hbm => 40
  | .vmem => 0
  | .smem => 0
  | _ => 0

abbrev bufTy : (tb : Table) → Fin (tcTables nBuf tb) → BufTy
  | .hbm, ⟨0, _⟩ => ⟨S2x3x704, .f32⟩
  | .hbm, ⟨1, _⟩ => ⟨S2x3x704, .f32⟩
  | .hbm, ⟨2, _⟩ => ⟨S2x3x704, .f32⟩
  | .hbm, ⟨3, _⟩ => ⟨S2x3x704, .f32⟩
  | .hbm, ⟨4, _⟩ => ⟨S_, .f32⟩
  | .hbm, ⟨5, _⟩ => ⟨S2x3x704, .f32⟩
  | .hbm, ⟨6, _⟩ => ⟨S2x3x704, .f32⟩
  | .hbm, ⟨7, _⟩ => ⟨S_, .f32⟩
  | .hbm, ⟨8, _⟩ => ⟨S2x3x704, .f32⟩
  | .hbm, ⟨9, _⟩ => ⟨S2x3x704, .f32⟩
  | .hbm, ⟨10, _⟩ => ⟨S2x3x704, .f32⟩
  | .hbm, ⟨11, _⟩ => ⟨S_, .f32⟩
  | .hbm, ⟨12, _⟩ => ⟨S2x3x704, .f32⟩
  | .hbm, ⟨13, _⟩ => ⟨S2x3x704, .f32⟩
  | .hbm, ⟨14, _⟩ => ⟨S2x3x704, .f32⟩
  | .hbm, ⟨15, _⟩ => ⟨S_, .f32⟩
  | .hbm, ⟨16, _⟩ => ⟨S2x3x704, .f32⟩
  | .hbm, ⟨17, _⟩ => ⟨S2x3x704, .f32⟩
  | .hbm, ⟨18, _⟩ => ⟨S2x3x704, .f32⟩
  | .hbm, ⟨19, _⟩ => ⟨S_, .f32⟩
  | .hbm, ⟨20, _⟩ => ⟨S2x3x704, .f32⟩
  | .hbm, ⟨21, _⟩ => ⟨S2x3x704, .f32⟩
  | .hbm, ⟨22, _⟩ => ⟨S_, .f32⟩
  | .hbm, ⟨23, _⟩ => ⟨S2x3x704, .f32⟩
  | .hbm, ⟨24, _⟩ => ⟨S2x3x704, .f32⟩
  | .hbm, ⟨25, _⟩ => ⟨S2x3x704, .f32⟩
  | .hbm, ⟨26, _⟩ => ⟨S_, .f32⟩
  | .hbm, ⟨27, _⟩ => ⟨S2x3x704, .f32⟩
  | .hbm, ⟨28, _⟩ => ⟨S2x3x704, .f32⟩
  | .hbm, ⟨29, _⟩ => ⟨S2x3x704, .f32⟩
  | .hbm, ⟨30, _⟩ => ⟨S_, .f32⟩
  | .hbm, ⟨31, _⟩ => ⟨S2x3x704, .f32⟩
  | .hbm, ⟨32, _⟩ => ⟨S2x3x704, .f32⟩
  | .hbm, ⟨33, _⟩ => ⟨S2x3x704, .f32⟩
  | .hbm, ⟨34, _⟩ => ⟨S_, .f32⟩
  | .hbm, ⟨35, _⟩ => ⟨S2x3x704, .f32⟩
  | .hbm, ⟨36, _⟩ => ⟨S2x3x704, .f32⟩
  | .hbm, ⟨37, _⟩ => ⟨S6x704, .f32⟩
  | .hbm, ⟨38, _⟩ => ⟨S6x704, .f32⟩
  | .hbm, ⟨39, _⟩ => ⟨S6x704, .f32⟩
  | _, _ => ⟨S2x3x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel37.lean ====
abbrev S2x2816 : Shape := ⟨2, ![2, 2816]⟩

abbrev nBuf : Space → Nat
  | .hbm => 7
  | .vmem => 7
  | .smem => 0
  | _ => 0

abbrev bufTy : (tb : Table) → Fin (tcTables nBuf tb) → BufTy
  | .hbm, ⟨0, _⟩ => ⟨S2x2816, .f32⟩
  | .hbm, ⟨1, _⟩ => ⟨S2x2816, .f32⟩
  | .hbm, ⟨2, _⟩ => ⟨S2x2816, .f32⟩
  | .hbm, ⟨3, _⟩ => ⟨S2x2816, .f32⟩
  | .hbm, ⟨4, _⟩ => ⟨S2x2816, .f32⟩
  | .hbm, ⟨5, _⟩ => ⟨S2x2816, .f32⟩
  | .hbm, ⟨6, _⟩ => ⟨S2x2816, .f32⟩
  | .local _ .vmem, ⟨0, _⟩ => ⟨S2x2816, .f32⟩
  | .local _ .vmem, ⟨1, _⟩ => ⟨S2x2816, .f32⟩
  | .local _ .vmem, ⟨2, _⟩ => ⟨S2x2816, .f32⟩
  | .local _ .vmem, ⟨3, _⟩ => ⟨S2x2816, .f32⟩
  | .local _ .vmem, ⟨4, _⟩ => ⟨S2x2816, .f32⟩
  | .local _ .vmem, ⟨5, _⟩ => ⟨S2x2816, .f32⟩
  | .local _ .vmem, ⟨6, _⟩ => ⟨S2x2816, .f32⟩
  | _, _ => ⟨S2x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x2816 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x2816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel37Ideal.lean ====
abbrev S2x2816 : Shape := ⟨2, ![2, 2816]⟩

abbrev nBuf : Space → Nat
  | .hbm => 7
  | .vmem => 7
  | .smem => 0
  | _ => 0

abbrev bufTy : (tb : Table) → Fin (tcTables nBuf tb) → BufTy
  | .hbm, ⟨0, _⟩ => ⟨S2x2816, .f32⟩
  | .hbm, ⟨1, _⟩ => ⟨S2x2816, .f32⟩
  | .hbm, ⟨2, _⟩ => ⟨S2x2816, .f32⟩
  | .hbm, ⟨3, _⟩ => ⟨S2x2816, .f32⟩
  | .hbm, ⟨4, _⟩ => ⟨S2x2816, .f32⟩
  | .hbm, ⟨5, _⟩ => ⟨S2x2816, .f32⟩
  | .hbm, ⟨6, _⟩ => ⟨S2x2816, .f32⟩
  | .local _ .vmem, ⟨0, _⟩ => ⟨S2x2816, .f32⟩
  | .local _ .vmem, ⟨1, _⟩ => ⟨S2x2816, .f32⟩
  | .local _ .vmem, ⟨2, _⟩ => ⟨S2x2816, .f32⟩
  | .local _ .vmem, ⟨3, _⟩ => ⟨S2x2816, .f32⟩
  | .local _ .vmem, ⟨4, _⟩ => ⟨S2x2816, .f32⟩
  | .local _ .vmem, ⟨5, _⟩ => ⟨S2x2816, .f32⟩
  | .local _ .vmem, ⟨6, _⟩ => ⟨S2x2816, .f32⟩
  | _, _ => ⟨S2x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x2816 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x2816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference37Ideal.lean ====
abbrev S2x2816 : Shape := ⟨2, ![2, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x2816, .f32⟩
  | .hbm, ⟨1, _⟩ => ⟨S2x2816, .f32⟩
  | .hbm, ⟨2, _⟩ => ⟨S2x2816, .f32⟩
  | .hbm, ⟨3, _⟩ => ⟨S2x2816, .f32⟩
  | .hbm, ⟨4, _⟩ => ⟨S_, .f32⟩
  | .hbm, ⟨5, _⟩ => ⟨S2x2816, .f32⟩
  | .hbm, ⟨6, _⟩ => ⟨S2x2816, .f32⟩
  | .hbm, ⟨7, _⟩ => ⟨S_, .f32⟩
  | .hbm, ⟨8, _⟩ => ⟨S2x2816, .f32⟩
  | .hbm, ⟨9, _⟩ => ⟨S2x2816, .f32⟩
  | .hbm, ⟨10, _⟩ => ⟨S2x2816, .f32⟩
  | .hbm, ⟨11, _⟩ => ⟨S_, .f32⟩
  | .hbm, ⟨12, _⟩ => ⟨S2x2816, .f32⟩
  | .hbm, ⟨13, _⟩ => ⟨S2x2816, .f32⟩
  | .hbm, ⟨14, _⟩ => ⟨S2x2816, .f32⟩
  | .hbm, ⟨15, _⟩ => ⟨S_, .f32⟩
  | .hbm, ⟨16, _⟩ => ⟨S2x2816, .f32⟩
  | .hbm, ⟨17, _⟩ => ⟨S2x2816, .f32⟩
  | .hbm, ⟨18, _⟩ => ⟨S2x2816, .f32⟩
  | .hbm, ⟨19, _⟩ => ⟨S_, .f32⟩
  | .hbm, ⟨20, _⟩ => ⟨S2x2816, .f32⟩
  | .hbm, ⟨21, _⟩ => ⟨S2x2816, .f32⟩
  | .hbm, ⟨22, _⟩ => ⟨S_, .f32⟩
  | .hbm, ⟨23, _⟩ => ⟨S2x2816, .f32⟩
  | .hbm, ⟨24, _⟩ => ⟨S2x2816, .f32⟩
  | .hbm, ⟨25, _⟩ => ⟨S2x2816, .f32⟩
  | .hbm, ⟨26, _⟩ => ⟨S_, .f32⟩
  | .hbm, ⟨27, _⟩ => ⟨S2x2816, .f32⟩
  | .hbm, ⟨28, _⟩ => ⟨S2x2816, .f32⟩
  | .hbm, ⟨29, _⟩ => ⟨S2x2816, .f32⟩
  | .hbm, ⟨30, _⟩ => ⟨S_, .f32⟩
  | .hbm, ⟨31, _⟩ => ⟨S2x2816, .f32⟩
  | .hbm, ⟨32, _⟩ => ⟨S2x2816, .f32⟩
  | .hbm, ⟨33, _⟩ => ⟨S2x2816, .f32⟩
  | .hbm, ⟨34, _⟩ => ⟨S_, .f32⟩
  | .hbm, ⟨35, _⟩ => ⟨S2x2816, .f32⟩
  | .hbm, ⟨36, _⟩ => ⟨S2x2816, .f32⟩
  | _, _ => ⟨S2x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel38.lean ====
abbrev S2x704x1024 : Shape := ⟨3, ![2, 704, 1024]⟩
abbrev S1408x1024 : Shape := ⟨2, ![1408, 1024]⟩
abbrev S176x1024 : Shape := ⟨2, ![176, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel38Ideal.lean ====
abbrev S2x704x1024 : Shape := ⟨3, ![2, 704, 1024]⟩
abbrev S1408x1024 : Shape := ⟨2, ![1408, 1024]⟩
abbrev S176x1024 : Shape := ⟨2, ![176, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference38Ideal.lean ====
abbrev S2x704x1024 : Shape := ⟨3, ![2, 704, 1024]⟩
abbrev S_ : Shape := ⟨0, ![]⟩
abbrev S1408x1024 : Shape := ⟨2, ![1408, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S_, .f32⟩
  | .hbm, ⟨5, _⟩ => ⟨S2x704x1024, .f32⟩
  | .hbm, ⟨6, _⟩ => ⟨S2x704x1024, .f32⟩
  | .hbm, ⟨7, _⟩ => ⟨S_, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S_, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S_, .f32⟩
  | .hbm, ⟨23, _⟩ => ⟨S2x704x1024, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | .hbm, ⟨37, _⟩ => ⟨S1408x1024, .f32⟩
  | .hbm, ⟨38, _⟩ => ⟨S1408x1024, .f32⟩
  | .hbm, ⟨39, _⟩ => ⟨S1408x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel39.lean ====
abbrev S2x256x256 : Shape := ⟨3, ![2, 256, 256]⟩
abbrev S512x256 : Shape := ⟨2, ![512, 256]⟩
abbrev S256x256 : Shape := ⟨2, ![256, 256]⟩

abbrev nBuf : Space → Nat
  | .hbm => 11
  | .vmem => 14
  | .smem => 0
  | _ => 0

abbrev bufTy : (tb : Table) → Fin (tcTables nBuf tb) → BufTy
  | .hbm, ⟨0, _⟩ => ⟨S2x256x256, .f32⟩
  | .hbm, ⟨1, _⟩ => ⟨S2x256x256, .f32⟩
  | .hbm, ⟨2, _⟩ => ⟨S2x256x256, .f32⟩
  | .hbm, ⟨3, _⟩ => ⟨S2x256x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .hbm, ⟨9, _⟩ => ⟨S512x256, .f32⟩
  | .hbm, ⟨10, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S2x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel39Ideal.lean ====
abbrev S2x256x256 : Shape := ⟨3, ![2, 256, 256]⟩
abbrev S512x256 : Shape := ⟨2, ![512, 256]⟩
abbrev S256x256 : Shape := ⟨2, ![256, 256]⟩

abbrev nBuf : Space → Nat
  | .hbm => 11
  | .vmem => 14
  | .smem => 0
  | _ => 0

abbrev bufTy : (tb : Table) → Fin (tcTables nBuf tb) → BufTy
  | .hbm, ⟨0, _⟩ => ⟨S2x256x256, .f32⟩
  | .hbm, ⟨1, _⟩ => ⟨S2x256x256, .f32⟩
  | .hbm, ⟨2, _⟩ => ⟨S2x256x256, .f32⟩
  | .hbm, ⟨3, _⟩ => ⟨S2x256x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .hbm, ⟨9, _⟩ => ⟨S512x256, .f32⟩
  | .hbm, ⟨10, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S2x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference39Ideal.lean ====
abbrev S2x256x256 : Shape := ⟨3, ![2, 256, 256]⟩
abbrev S_ : Shape := ⟨0, ![]⟩
abbrev S512x256 : Shape := ⟨2, ![512, 256]⟩

abbrev nBuf : Space → Nat
  | .hbm => 40
  | .vmem => 0
  | .smem => 0
  | _ => 0

abbrev bufTy : (tb : Table) → Fin (tcTables nBuf tb) → BufTy
  | .hbm, ⟨0, _⟩ => ⟨S2x256x256, .f32⟩
  | .hbm, ⟨1, _⟩ => ⟨S2x256x256, .f32⟩
  | .hbm, ⟨2, _⟩ => ⟨S2x256x256, .f32⟩
  | .hbm, ⟨3, _⟩ => ⟨S2x256x256, .f32⟩
  | .hbm, ⟨4, _⟩ => ⟨S_, .f32⟩
  | .hbm, ⟨5, _⟩ => ⟨S2x256x256, .f32⟩
  | .hbm, ⟨6, _⟩ => ⟨S2x256x256, .f32⟩
  | .hbm, ⟨7, _⟩ => ⟨S_, .f32⟩
  | .hbm, ⟨8, _⟩ => ⟨S2x256x256, .f32⟩
  | .hbm, ⟨9, _⟩ => ⟨S2x256x256, .f32⟩
  | .hbm, ⟨10, _⟩ => ⟨S2x256x256, .f32⟩
  | .hbm, ⟨11, _⟩ => ⟨S_, .f32⟩
  | .hbm, ⟨12, _⟩ => ⟨S2x256x256, .f32⟩
  | .hbm, ⟨13, _⟩ => ⟨S2x256x256, .f32⟩
  | .hbm, ⟨14, _⟩ => ⟨S2x256x256, .f32⟩
  | .hbm, ⟨15, _⟩ => ⟨S_, .f32⟩
  | .hbm, ⟨16, _⟩ => ⟨S2x256x256, .f32⟩
  | .hbm, ⟨17, _⟩ => ⟨S2x256x256, .f32⟩
  | .hbm, ⟨18, _⟩ => ⟨S2x256x256, .f32⟩
  | .hbm, ⟨19, _⟩ => ⟨S_, .f32⟩
  | .hbm, ⟨20, _⟩ => ⟨S2x256x256, .f32⟩
  | .hbm, ⟨21, _⟩ => ⟨S2x256x256, .f32⟩
  | .hbm, ⟨22, _⟩ => ⟨S_, .f32⟩
  | .hbm, ⟨23, _⟩ => ⟨S2x256x256, .f32⟩
  | .hbm, ⟨24, _⟩ => ⟨S2x256x256, .f32⟩
  | .hbm, ⟨25, _⟩ => ⟨S2x256x256, .f32⟩
  | .hbm, ⟨26, _⟩ => ⟨S_, .f32⟩
  | .hbm, ⟨27, _⟩ => ⟨S2x256x256, .f32⟩
  | .hbm, ⟨28, _⟩ => ⟨S2x256x256, .f32⟩
  | .hbm, ⟨29, _⟩ => ⟨S2x256x256, .f32⟩
  | .hbm, ⟨30, _⟩ => ⟨S_, .f32⟩
  | .hbm, ⟨31, _⟩ => ⟨S2x256x256, .f32⟩
  | .hbm, ⟨32, _⟩ => ⟨S2x256x256, .f32⟩
  | .hbm, ⟨33, _⟩ => ⟨S2x256x256, .f32⟩
  | .hbm, ⟨34, _⟩ => ⟨S_, .f32⟩
  | .hbm, ⟨35, _⟩ => ⟨S2x256x256, .f32⟩
  | .hbm, ⟨36, _⟩ => ⟨S2x256x256, .f32⟩
  | .hbm, ⟨37, _⟩ => ⟨S512x256, .f32⟩
  | .hbm, ⟨38, _⟩ => ⟨S512x256, .f32⟩
  | .hbm, ⟨39, _⟩ => ⟨S512x256, .f32⟩
  | _, _ => ⟨S2x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel40.lean ====
abbrev S2x256x1024 : Shape := ⟨3, ![2, 256, 1024]⟩
abbrev S512x1024 : Shape := ⟨2, ![512, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference40Ideal.lean ====
abbrev S2x256x1024 : Shape := ⟨3, ![2, 256, 1024]⟩
abbrev S_ : Shape := ⟨0, ![]⟩
abbrev S512x1024 : Shape := ⟨2, ![512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | .hbm, ⟨37, _⟩ => ⟨S512x1024, .f32⟩
  | .hbm, ⟨38, _⟩ => ⟨S512x1024, .f32⟩
  | .hbm, ⟨39, _⟩ => ⟨S512x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel41.lean ====
abbrev S16384x1024 : Shape := ⟨2, ![16384, 1024]⟩
abbrev S1x1024 : Shape := ⟨2, ![1, 1024]⟩
abbrev S512x1024 : Shape := ⟨2, ![512, 1024]⟩
abbrev S1024 : Shape := ⟨1, ![1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference41Ideal.lean ====
abbrev S16384x1024 : Shape := ⟨2, ![16384, 1024]⟩
abbrev S_ : Shape := ⟨0, ![]⟩
abbrev S1024 : Shape := ⟨1, ![1024]⟩
abbrev S1x1024 : Shape := ⟨2, ![1, 1024]⟩
abbrev S16384 : Shape := ⟨1, ![16384]⟩

abbrev nBuf : Space → Nat
  | .hbm => 36
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S1024, .f32⟩
  | .hbm, ⟨9, _⟩ => ⟨S_, .f32⟩
  | .hbm, ⟨10, _⟩ => ⟨S1024, .f32⟩
  | .hbm, ⟨11, _⟩ => ⟨S1024, .f32⟩
  | .hbm, ⟨12, _⟩ => ⟨S1x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384, .f32⟩
  | .hbm, ⟨20, _⟩ => ⟨S_, .f32⟩
  | .hbm, ⟨21, _⟩ => ⟨S16384, .f32⟩
  | .hbm, ⟨22, _⟩ => ⟨S16384, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S16384, .f32⟩
  | .hbm, ⟨31, _⟩ => ⟨S_, .f32⟩
  | .hbm, ⟨32, _⟩ => ⟨S16384, .f32⟩
  | .hbm, ⟨33, _⟩ => ⟨S16384, .f32⟩
  | .hbm, ⟨34, _⟩ => ⟨S16384x1024, .f32⟩
  | .hbm, ⟨35, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_v14 : Ref sig .tc := ⟨.hbm, 22, rfl⟩
abbrev main_cst_5 : Ref sig .tc := ⟨.hbm, 23, rfl⟩
abbrev main_v15 : Ref sig .tc := ⟨.hbm, 24, rfl⟩
abbrev main_cst_6 : Ref sig .tc := ⟨.hbm, 25, rfl⟩
abbrev main_v16 : Ref sig .tc := ⟨.hbm, 26, rfl⟩
abbrev main_cst_7 : Ref sig .tc := ⟨.hbm, 27, rfl⟩
abbrev main_cst_8 : Ref sig .tc := ⟨.hbm, 28, rfl⟩
abbrev main_v17 : Ref sig .tc := ⟨.hbm, 29, rfl⟩
abbrev main_v18 : Ref sig .tc := ⟨.hbm, 30, rfl⟩
abbrev main_cst_9 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩

abbrev nD : Nat := 1
abbrev τ : Topo := Topo.v7x

variable {F : FTy → Type} [FloatOps F]
-- ==== Kernel42.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S16384x1024, .f32⟩
  | .hbm, ⟨7, _⟩ => ⟨S16384x1024, .f32⟩
  | .hbm, ⟨8, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference42Ideal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Kernel43.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩

abbrev nBuf : Space → Nat
  | .hbm => 7
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S16384x1024, .f32⟩
  | .hbm, ⟨4, _⟩ => ⟨S1x1024, .f32⟩
  | .hbm, ⟨5, _⟩ => ⟨S16384x1024, .f32⟩
  | .hbm, ⟨6, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference43Ideal.lean ====
abbrev S16384x1024 : Shape := ⟨2, ![16384, 1024]⟩
abbrev S1024 : Shape := ⟨1, ![1024]⟩
abbrev S1x1024 : Shape := ⟨2, ![1, 1024]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S16384x1024, .f32⟩
  | .hbm, ⟨4, _⟩ => ⟨S1x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Kernel44.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩

abbrev nBuf : Space → Nat
  | .hbm => 8
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S16384x1024, .f32⟩
  | .hbm, ⟨4, _⟩ => ⟨S1x1024, .f32⟩
  | .hbm, ⟨5, _⟩ => ⟨S16384x1024, .bf16⟩
  | .hbm, ⟨6, _⟩ => ⟨S16384x1024, .bf16⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference44Ideal.lean ====
abbrev S16384x1024 : Shape := ⟨2, ![16384, 1024]⟩
abbrev S1024 : Shape := ⟨1, ![1024]⟩
abbrev S1x1024 : Shape := ⟨2, ![1, 1024]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S16384x1024, .f32⟩
  | .hbm, ⟨4, _⟩ => ⟨S1x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S_, .f32⟩
  | .hbm, ⟨27, _⟩ => ⟨S1024, .f32⟩
  | .hbm, ⟨28, _⟩ => ⟨S16384x1024, .bf16⟩
  | .hbm, ⟨29, _⟩ => ⟨S16384x1024, .bf16⟩
  | .hbm, ⟨30, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Proof.Fox.Gradient.lean ====
/-
  The gradient of causal softmax attention with a forget gate, over the real numbers.

  `q k v ct` are the queries, keys, values and the cotangent of the output, one row a position, the 16 heads of 64 features side by side; `c` has the cumulative log
  forget gates, one column a head. Position `i` of head `h` attends the positions `j ≤ i` with the weights `exp (q_i · k_j / 8 - c_j)`: the row's own constant `c_i` cancels
  in the quotient (`quot_shift`). `dQ`, `dK`, `dV`, `dQgate`, `dKgate` are the five gradients.
-/
module

public import Mathlib.Analysis.SpecialFunctions.Log.Basic
public import Mathlib.Analysis.SpecialFunctions.Pow.Real
public import Mathlib.Algebra.BigOperators.Field

@[expose] public section

noncomputable section

open scoped BigOperators

namespace Fox

/-! ## One row of causal weights -/

section Row
variable {n : ℕ}

/-- The weight of position `j` in row `i`, for scores `s`: zero after the diagonal. -/
def weight (s : Fin n → Fin n → ℝ) (i j : Fin n) : ℝ := if j ≤ i then Real.exp (s i j) else 0
/-- The sum of a row's weights. -/
def total (s : Fin n → Fin n → ℝ) (i : Fin n) : ℝ := ∑ j, weight s i j
/-- The softmax of a row. -/
def prob (s : Fin n → Fin n → ℝ) (i j : Fin n) : ℝ := weight s i j / total s i

theorem weight_nonneg (s : Fin n → Fin n → ℝ) (i j : Fin n) : 0 ≤ weight s i j := by
  unfold weight; split
  · exact (Real.exp_pos _).le
  · exact le_rfl

theorem total_pos (s : Fin n → Fin n → ℝ) (i : Fin n) : 0 < total s i := by
  refine Finset.sum_pos' (fun j _ => weight_nonneg s i j) ⟨i, Finset.mem_univ i, ?_⟩
  simp [weight, Real.exp_pos]

/-- Subtracting `a` from every score of row `i` scales the weights by `exp (-a)`. -/
theorem weight_shift (s : Fin n → Fin n → ℝ) (a : Fin n → ℝ) (i j : Fin n) :
    weight (fun i j => s i j - a i) i j = Real.exp (-a i) * weight s i j := by
  unfold weight; split
  · rw [← Real.exp_add]; congr 1; ring
  · simp

theorem total_shift (s : Fin n → Fin n → ℝ) (a : Fin n → ℝ) (i : Fin n) :
    total (fun i j => s i j - a i) i = Real.exp (-a i) * total s i := by
  unfold total; rw [Finset.mul_sum]; exact Finset.sum_congr rfl fun j _ => weight_shift s a i j

/-- … and leaves the softmax as it is. -/
theorem prob_shift (s : Fin n → Fin n → ℝ) (a : Fin n → ℝ) (i j : Fin n) :
    prob (fun i j => s i j - a i) i j = prob s i j := by
  unfold prob; rw [weight_shift, total_shift, mul_div_mul_left _ _ (Real.exp_pos _).ne']

/-- The softmax from the base-two logarithm of the row's total, which a shift by `m` enters: `2 ^ (s / ln 2 - (m + ln total') / ln 2)`. -/
theorem prob_exp2 (s : Fin n → Fin n → ℝ) (m : Fin n → ℝ) (i j : Fin n) (h : j ≤ i) :
    Real.rpow 2 (s i j / Real.log 2 - (m i + Real.log (total (fun i j => s i j - m i) i)) / Real.log 2) = prob s i j := by
  have h2 : Real.log 2 ≠ 0 := (Real.log_pos one_lt_two).ne'
  have ht := total_pos s i
  rw [Real.rpow_eq_pow]
  rw [total_shift, Real.log_mul (Real.exp_pos _).ne' ht.ne', Real.log_exp, Real.rpow_def_of_pos two_pos]
  have : Real.log 2 * (s i j / Real.log 2 - (m i + (-m i + Real.log (total s i))) / Real.log 2) = s i j - Real.log (total s i) := by
    field_simp; ring
  rw [this, Real.exp_sub, Real.exp_log ht, prob, weight, if_pos h]

/-- After the diagonal the softmax is zero. -/
theorem prob_eq_zero (s : Fin n → Fin n → ℝ) (i j : Fin n) (h : ¬ j ≤ i) : prob s i j = 0 := by
  simp [prob, weight, h]

/-- The gradient of a row's softmax at its scores, for the cotangent `d` of the probabilities. -/
def dScore (s d : Fin n → Fin n → ℝ) (i j : Fin n) : ℝ := prob s i j * (d i j - ∑ j', prob s i j' * d i j')

/-- The same gradient in the form that differentiating `exp / total` gives. -/
theorem dScore_quot (s d : Fin n → Fin n → ℝ) (i j : Fin n) :
    (d i j / total s i + -(∑ j', d i j' * (1 / (total s i * total s i)) * weight s i j')) * weight s i j = dScore s d i j := by
  have ht := (total_pos s i).ne'
  have : ∑ j', d i j' * (1 / (total s i * total s i)) * weight s i j' = (∑ j', prob s i j' * d i j') / total s i := by
    rw [Finset.sum_div]; refine Finset.sum_congr rfl fun j' _ => ?_
    unfold prob; field_simp
  rw [this, dScore, prob]; field_simp; ring

theorem dScore_shift (s d : Fin n → Fin n → ℝ) (a : Fin n → ℝ) (i j : Fin n) :
    dScore (fun i j => s i j - a i) d i j = dScore s d i j := by
  unfold dScore; simp only [prob_shift]

theorem dScore_eq_zero (s d : Fin n → Fin n → ℝ) (i j : Fin n) (h : ¬ j ≤ i) : dScore s d i j = 0 := by
  rw [dScore, prob_eq_zero s i j h, zero_mul]

end Row

/-! ## The sixteen heads -/

/-- Feature `d` of head `h` among the 1024 features. -/
def feat (h : Fin 16) (d : Fin 64) : Fin 1024 := ⟨h.val * 64 + d.val, by omega⟩
/-- The head of a feature. -/
def headOf (l : Fin 1024) : Fin 16 := ⟨l.val / 64, by omega⟩

abbrev Mat : Type := Fin 16384 → Fin 1024 → ℝ
abbrev Gates : Type := Fin 16384 → Fin 16 → ℝ

variable (q k v ct : Mat) (c : Gates)

/-- The scores of head `h`, without the row's own gate. -/
def score (h : Fin 16) (i j : Fin 16384) : ℝ := (∑ d : Fin 64, q i (feat h d) * k j (feat h d)) * (1 / 8) - c j h
/-- The probabilities of head `h`. -/
def probs (h : Fin 16) : Fin 16384 → Fin 16384 → ℝ := prob (score q k c h)
/-- The cotangent of the probabilities of head `h`. -/
def dProbs (h : Fin 16) (i j : Fin 16384) : ℝ := ∑ d : Fin 64, ct i (feat h d) * v j (feat h d)
/-- The cotangent of the scores of head `h`. -/
def dScores (h : Fin 16) : Fin 16384 → Fin 16384 → ℝ := dScore (score q k c h) (dProbs v ct h)
/-- Each row's sum of cotangent times output, as the sum of probability times its cotangent. -/
def delta (h : Fin 16) (i : Fin 16384) : ℝ := ∑ j, probs q k c h i j * dProbs v ct h i j

/-- The gradient of the queries. -/
def dQ (i : Fin 16384) (l : Fin 1024) : ℝ := ∑ j, dScores q k v ct c (headOf l) i j * (1 / 8) * k j l
/-- The gradient of the keys. -/
def dK (j : Fin 16384) (l : Fin 1024) : ℝ := ∑ i, dScores q k v ct c (headOf l) i j * (1 / 8) * q i l
/-- The gradient of the values. -/
def dV (j : Fin 16384) (l : Fin 1024) : ℝ := ∑ i, ct i l * probs q k c (headOf l) i j
/-- The gradient of the rows' gates. -/
def dQgate (i : Fin 16384) (h : Fin 16) : ℝ := ∑ j, dScores q k v ct c h i j
/-- The gradient of the columns' gates. -/
def dKgate (j : Fin 16384) (h : Fin 16) : ℝ := ∑ i, -dScores q k v ct c h i j

/-- `delta` is the sum over the features of cotangent times output. -/
theorem delta_eq (h : Fin 16) (i : Fin 16384) :
    ∑ d : Fin 64, ct i (feat h d) * ∑ j, probs q k c h i j * v j (feat h d) = delta q k v ct c h i := by
  unfold delta dProbs
  simp only [Finset.mul_sum]
  rw [Finset.sum_comm]
  refine Finset.sum_congr rfl fun j _ => Finset.sum_congr rfl fun d _ => by ring

end Fox

end
-- ==== Proof.Fox.Extended.lean ====
/-
  Real numbers inside the extended reals: sums, quotients, a row's maximum, the literals of the two programs, and the causal mask as a one-bit word.
-/
module

public import proofs.«01_k».proof.Proof.Fox.Gradient
public import Idealize.ShloMosaic.PureOps.Ideal.Laws
public import Idealize.ShloMosaic.Lib.IdealHost
public import Idealize.ShloMosaic.Lib.ValueIdx

@[expose] public section

noncomputable section

open scoped BigOperators
open Idealize.ShloMosaic

namespace Fox

/-- A real sum in the extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A quotient of reals with a divisor that is not zero. -/
theorem div_coe_coe {x y : ℝ} (h : y ≠ 0) : Ideal.div (x : EReal) (y : EReal) = ((x / y : ℝ) : EReal) := by
  rw [Ideal.div_coe h, ← EReal.coe_mul, mul_one_div]

/-- The maximum of finitely many extended reals, from `⊥`, is a real number when none is `⊤` and one is not `⊥`. -/
theorem exists_fold_max {ι : Type*} [Fintype ι] (x : ι → EReal) (ht : ∀ i, x i ≠ ⊤) (i₀ : ι) (hb : x i₀ ≠ ⊥) :
    ∃ r : ℝ, (Finset.univ : Finset ι).fold max ⊥ x = (r : EReal) := by
  have h1 : (Finset.univ : Finset ι).fold max ⊥ x ≠ ⊤ := by
    refine ne_of_lt ((Finset.fold_max_lt _).2 ⟨bot_lt_top, fun i _ => lt_of_le_of_ne le_top (ht i)⟩)
  have h2 : (Finset.univ : Finset ι).fold max ⊥ x ≠ ⊥ := by
    refine ne_of_gt ((Finset.lt_fold_max _).2 (Or.inr ⟨i₀, Finset.mem_univ _, bot_lt_iff_ne_bot.2 hb⟩))
  exact ⟨_, (EReal.coe_toReal h1 h2).symm⟩

theorem ofBits_neg_inf : Ideal.ofBits .f32 0xFF800000#32 = ⊥ := by simp [Ideal.ofBits, Ideal.ieee]
theorem ofBits_pos_inf : Ideal.ofBits .f32 0x7F800000#32 = ⊤ := by simp [Ideal.ofBits, Ideal.ieee]
theorem ofBits_eighth : Ideal.ofBits .f32 0x3E000000#32 = ((1 / 8 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num

/-- The signed comparison of two small naturals as words. -/
theorem sle_ofNat {a b : ℕ} (ha : a < 2 ^ 31) (hb : b < 2 ^ 31) :
    IntOp.cmpi .sle (BitVec.ofNat 32 a) (BitVec.ofNat 32 b) = if a ≤ b then 1#1 else 0#1 := by
  have e : (BitVec.ofNat 32 a).sle (BitVec.ofNat 32 b) = decide (a ≤ b) := by
    rw [BitVec.sle_eq_decide]
    have h (c : ℕ) (hc : c < 2 ^ 31) : (BitVec.ofNat 32 c).toInt = (c : ℤ) := by
      rw [BitVec.toInt_eq_toNat_of_lt (by rw [BitVec.toNat_ofNat]; omega), BitVec.toNat_ofNat]; omega
    rw [h a ha, h b hb]; simp
  show BitVec.ofBool ((BitVec.ofNat 32 a).sle (BitVec.ofNat 32 b)) = _
  rw [e]; by_cases h : a ≤ b <;> simp [h]

/-- A select on a decided bit. -/
theorem select_ite {α : Type} {p : Prop} [Decidable p] (x y : α) :
    Scalar.select (if p then 1#1 else 0#1) x y = if p then x else y := by
  split <;> simp [Scalar.select]

/-- A matrix of reals as an array of extended reals. -/
def up {n m : ℕ} (f : Fin n → Fin m → ℝ) : (⟨2, ![n, m]⟩ : Shape).Idx → EReal := fun i => ((f (i 0) (i 1) : ℝ) : EReal)

/-- An array none of whose elements is infinite is a matrix of reals. -/
theorem exists_up {n m : ℕ} (x : (⟨2, ![n, m]⟩ : Shape).Idx → EReal) (h : ∀ i, x i ≠ ⊤ ∧ x i ≠ ⊥) : ∃ f : Fin n → Fin m → ℝ, x = up f :=
  ⟨fun a b => (x (ValueIdx.ix2 a b)).toReal, funext fun i => by
    show x i = (((x (ValueIdx.ix2 (i 0) (i 1))).toReal : ℝ) : EReal)
    exact (congrArg x (ValueIdx.eq_ix2 i)).trans (EReal.coe_toReal (h _).1 (h _).2).symm⟩

end Fox

end
-- ==== Proof.Fox.Block.lean ====
/-
  One step of the kernel on one block of rows and half a block of columns: the operations that its body is made of, and what each computes on
  real blocks.
-/
module

public import proofs.«01_k».proof.Proof.Fox.Extended
public import proofs.«01_k».proof.Proof.Gen.KernelIdeal.Skeleton
public import Idealize.ShloMosaic.Lib.Pointwise

@[expose] public section

set_option maxRecDepth 16384

noncomputable section

open scoped BigOperators
open Idealize.ShloMosaic Idealize.SL.Sem Cert.KernelIdeal Cert.KernelIdeal.Gen TcCoe

namespace Fox.Block

/-- Blocks of 1024 rows, of 512 columns, and of the scores between them. -/
abbrev Rows (φ : FTy) := FVec Ideal S1024x128 φ
abbrev Half (φ : FTy) := FVec Ideal S512x128 φ
abbrev Tile (φ : FTy) := FVec Ideal S1024x512 φ
abbrev Strip := FVec Ideal S1x1x512 .f32

/-! ## The operations -/

/-- A row's number, four times side by side. -/
def wide (l : Rows .f32) : Tile .f32 :=
  concatenate S1024x512 1 [⟨S1024x128, shapeCast S1024x128 l shapeCasts_S1024x128_S1024x128⟩, ⟨S1024x128, shapeCast S1024x128 l shapeCasts_S1024x128_S1024x128⟩,
    ⟨S1024x128, shapeCast S1024x128 l shapeCasts_S1024x128_S1024x128⟩, ⟨S1024x128, shapeCast S1024x128 l shapeCasts_S1024x128_S1024x128⟩] concatenates_S1024x128_S1024x128_S1024x128_S1024x128_S1024x512_d1
def prodT (q : Rows .bf16) (k : Half .bf16) : Tile .f32 :=
  matmul dot_S1024x128_S512x128_S1024x512_1_1_0_0_n_n none q (shapeCast S512x128 k shapeCasts_S512x128_S512x128) (constant S1024x512 .f32 0x00000000#32)
def scoreT (q : Rows .bf16) (k : Half .bf16) (c : Strip) : Tile .f32 :=
  subf (prodT q k) (broadcastTo S1024x512 (shapeCast S1x512 c shapeCasts_S1x1x512_S1x512) broadcasts_S1x512_S1024x512)
def maskT (o : BitVec 32) (s : Tile .f32) : Tile .f32 :=
  select (cmpi .sle (addi (iota .tc S1024x512 32 [1] iota_S1024x512_d1_w32) (broadcast S1024x512 o)) (iota .tc S1024x512 32 [0] iota_S1024x512_d0_w32)) s
    (broadcast S1024x512 (Named.named κ "mask" 0xF149F2CA#32))
def probT (s : Tile .f32) (l : Rows .f32) : Tile .f32 := exp2 (subf s (wide l))
def gradT (p : Tile .f32) (o : Rows .bf16) (v : Half .bf16) (d : Rows .f32) : Tile .f32 := mulf p (subf (prodT o v) (wide d))
def dcT (x : Strip) (ds : Tile .f32) : Strip :=
  shapeCast S1x1x512 (subf (shapeCast S1x512 x shapeCasts_S1x1x512_S1x512)
    (shapeCast S1x512 (multiReduction .add [0] S512 ds 0x00000000#32 reduces_S1024x512_S512 (.inl rfl) rfl) shapeCasts_S512_S1x512)) shapeCasts_S1x512_S1x1x512
def backT (p : Tile .f32) (o : Rows .bf16) : Half .f32 :=
  matmul dot_S1024x512_S1024x128_S512x128_0_0_1_1_n_n none (truncf .bf16 p bitsLt_bf16_f32) o (constant S512x128 .f32 0x00000000#32)
def dvT (x : Half .f32) (p : Tile .f32) (o : Rows .bf16) : Half .f32 := addf (shapeCast S512x128 x shapeCasts_S512x128_S512x128) (backT p o)
def dkT (x : Half .f32) (ds : Tile .f32) (q : Rows .bf16) : Half .f32 :=
  addf (shapeCast S512x128 x shapeCasts_S512x128_S512x128) (mulf (backT ds q) (broadcast S512x128 (Named.named κ "ln2" 0x3F317218#32)))
def rowT (ds : Tile .f32) : FVec Ideal S1024x1 .f32 :=
  shapeCast S1024x1 (multiReduction .add [1] S1024 ds 0x00000000#32 reduces_S1024x512_S1024 (.inl rfl) rfl) shapeCasts_S1024_S1024x1
def forthT (ds : Tile .f32) (k : Half .bf16) : Rows .f32 :=
  matmul dot_S1024x512_S512x128_S1024x128_1_0_0_1_n_n none (truncf .bf16 ds bitsLt_bf16_f32) (shapeCast S512x128 k shapeCasts_S512x128_S512x128) (constant S1024x128 .f32 0x00000000#32)
def dqT (x t : Rows .f32) : Rows .f32 :=
  addf (shapeCast S1024x128 x shapeCasts_S1024x128_S1024x128) (mulf t (broadcast S1024x128 (Scalar.ofBits .f32 0x3E000000#32)))
def laneT (h : BitVec 32) (r : FVec Ideal S1024x1 .f32) (x : Rows .f32) : Rows .f32 :=
  select (cmpi .eq (iota .tc S1024x128 32 [1] iota_S1024x128_d1_w32) (broadcast S1024x128 h))
    (broadcastTo S1024x128 (shapeCast S1024x1 r shapeCasts_S1024x1_S1024x1) broadcasts_S1024x1_S1024x128) x
def dcqT (x y : Rows .f32) : Rows .f32 := addf (shapeCast S1024x128 x shapeCasts_S1024x128_S1024x128) y

/-! ## Real blocks -/

/-- A real block of rows, of half a block's columns, of scores, and a strip of 512 reals, as arrays of extended reals. -/
def upR {φ : FTy} (f : Fin 1024 → Fin 128 → ℝ) : Rows φ := fun i => ((f (i 0) (i 1) : ℝ) : EReal)
def upH {φ : FTy} (f : Fin 512 → Fin 128 → ℝ) : Half φ := fun i => ((f (i 0) (i 1) : ℝ) : EReal)
def upT {φ : FTy} (f : Fin 1024 → Fin 512 → ℝ) : Tile φ := fun i => ((f (i 0) (i 1) : ℝ) : EReal)
def upS (f : Fin 512 → ℝ) : Strip := fun i => ((f (i 2) : ℝ) : EReal)

theorem rows_shapeCast {φ : FTy} (x : Rows φ) : shapeCast S1024x128 x shapeCasts_S1024x128_S1024x128 = x := by
  funext i; pointwise

/-- A number of each row, alike in all lanes, is itself in every column. -/
theorem wide_up (f : Fin 1024 → ℝ) : wide (upR fun r _ => f r) = upT fun r _ => f r := by
  funext i; unfold wide; rw [rows_shapeCast]; pointwise; unfold upR upT; split_ifs <;> rfl

theorem prodT_up (f : Fin 1024 → Fin 128 → ℝ) (g : Fin 512 → Fin 128 → ℝ) :
    prodT (upR f) (upH g) = upT fun r j => ∑ l, f r l * g j l := by
  funext i; unfold prodT; pointwise; unfold upT; rw [← coe_sum]
  exact Finset.sum_congr rfl fun l _ => (EReal.coe_mul _ _).symm

theorem scoreT_up (f : Fin 1024 → Fin 128 → ℝ) (g : Fin 512 → Fin 128 → ℝ) (c : Fin 512 → ℝ) :
    scoreT (upR f) (upH g) (upS c) = upT fun r j => (∑ l, f r l * g j l) - c j := by
  funext i; unfold scoreT; rw [prodT_up]; pointwise; exact (EReal.coe_sub _ _).symm

/-- A step below the diagonal: the scores' powers of two. -/
theorem probT_up (s : Fin 1024 → Fin 512 → ℝ) (l : Fin 1024 → ℝ) :
    probT (upT s) (upR fun r _ => l r) = upT fun r j => Real.rpow 2 (s r j - l r) := by
  funext i; unfold probT; rw [wide_up]; pointwise
  exact (congrArg _ (EReal.coe_sub _ _).symm).trans (Ideal.exp2_coe _)

/-- The step on the diagonal: the powers of two of the columns up to the row's, and zero. -/
theorem probT_mask_up (o : ℕ) (ho : o ≤ 512) (s : Fin 1024 → Fin 512 → ℝ) (l : Fin 1024 → ℝ) :
    probT (maskT (BitVec.ofNat 32 o) (upT s)) (upR fun r _ => l r) = upT fun r j => if o + j.val ≤ r.val then Real.rpow 2 (s r j - l r) else 0 := by
  funext i; unfold probT maskT; rw [wide_up]; pointwise
  have hi : (i 0).val < 1024 := (i 0).isLt
  have hj : (i 1).val < 512 := (i 1).isLt
  have e : IntOp.addi (BitVec.ofNat 32 (i 1).val) (BitVec.ofNat 32 o) = BitVec.ofNat 32 (o + (i 1).val) := by
    rw [Nat.add_comm]; exact (BitVec.ofNat_add _ _).symm
  rw [e, sle_ofNat (by omega) (by omega), select_ite, IdealRules.named_const.ideal_named_scalar _ _ _ _ rfl]
  unfold upT
  by_cases h : o + (i 1).val ≤ (i 0).val
  · simp only [if_pos h]; exact (congrArg Ideal.exp2 (EReal.coe_sub _ _).symm).trans (Ideal.exp2_coe _)
  · simp only [if_neg h]; exact (congrArg Ideal.exp2 (EReal.bot_sub _)).trans Ideal.exp2_bot

theorem gradT_up (p : Fin 1024 → Fin 512 → ℝ) (f : Fin 1024 → Fin 128 → ℝ) (g : Fin 512 → Fin 128 → ℝ) (d : Fin 1024 → ℝ) :
    gradT (upT p) (upR f) (upH g) (upR fun r _ => d r) = upT fun r j => p r j * ((∑ l, f r l * g j l) - d r) := by
  funext i; unfold gradT; rw [prodT_up, wide_up]; pointwise; unfold upT; rw [← EReal.coe_sub, ← EReal.coe_mul]

theorem dcT_up (x : Strip) (ds : Fin 1024 → Fin 512 → ℝ) (i : S1x1x512.Idx) :
    dcT x (upT ds) i = x i + ((-∑ r, ds r (i 2) : ℝ) : EReal) := by
  unfold dcT; pointwise; unfold upT; rw [EReal.coe_neg, ← coe_sum, sub_eq_add_neg]; rfl

theorem backT_up (p : Fin 1024 → Fin 512 → ℝ) (f : Fin 1024 → Fin 128 → ℝ) : backT (upT p) (upR f) = upH fun j l => ∑ r, p r j * f r l := by
  funext i; unfold backT; pointwise; unfold upH; rw [← coe_sum]
  exact Finset.sum_congr rfl fun l _ => (EReal.coe_mul _ _).symm

theorem dvT_up (x : Half .f32) (p : Fin 1024 → Fin 512 → ℝ) (f : Fin 1024 → Fin 128 → ℝ) (i : S512x128.Idx) :
    dvT x (upT p) (upR f) i = x i + ((∑ r, p r (i 0) * f r (i 1) : ℝ) : EReal) := by
  unfold dvT; rw [backT_up]; pointwise; rfl

theorem dkT_up (x : Half .f32) (p : Fin 1024 → Fin 512 → ℝ) (f : Fin 1024 → Fin 128 → ℝ) (i : S512x128.Idx) :
    dkT x (upT p) (upR f) i = x i + (((∑ r, p r (i 0) * f r (i 1)) * Real.log 2 : ℝ) : EReal) := by
  unfold dkT; rw [backT_up]; pointwise; rw [IdealRules.named_const.ideal_named_scalar _ _ _ _ rfl, EReal.coe_mul]; rfl

theorem rowT_up (ds : Fin 1024 → Fin 512 → ℝ) (i : S1024x1.Idx) : rowT (upT ds) i = ((∑ j, ds (i 0) j : ℝ) : EReal) := by
  unfold rowT; pointwise; rw [← coe_sum]; rfl

theorem forthT_up (ds : Fin 1024 → Fin 512 → ℝ) (g : Fin 512 → Fin 128 → ℝ) : forthT (upT ds) (upH g) = upR fun r l => ∑ j, ds r j * g j l := by
  funext i; unfold forthT; pointwise; unfold upR; rw [← coe_sum]
  exact Finset.sum_congr rfl fun l _ => (EReal.coe_mul _ _).symm

theorem dqT_up (x : Rows .f32) (t : Fin 1024 → Fin 128 → ℝ) (i : S1024x128.Idx) :
    dqT x (upR t) i = x i + ((t (i 0) (i 1) * (1 / 8) : ℝ) : EReal) := by
  unfold dqT; pointwise; rw [ofBits_eighth, EReal.coe_mul]; rfl

theorem addf_up (f g : Fin 1024 → Fin 128 → ℝ) : addf (upR f) (upR g) = (upR fun r l => f r l + g r l : Rows .f32) := by
  funext i; pointwise; exact (EReal.coe_add _ _).symm

theorem laneT_up (h : ℕ) (hh : h < 128) (r : FVec Ideal S1024x1 .f32) (x : Rows .f32) (i : S1024x128.Idx) :
    laneT (BitVec.ofNat 32 h) r x i = if (i 1).val = h then r (ValueIdx.ix2 (n0 := 1024) (n1 := 1) (i 0) 0) else x i := by
  unfold laneT; pointwise
  have hi : (i 1).val < 128 := (i 1).isLt
  have e : IntOp.cmpi CmpIPredicate.eq (BitVec.ofNat 32 (i 1).val) (BitVec.ofNat 32 h) = if (i 1).val = h then 1#1 else 0#1 := by
    have e : (BitVec.ofNat 32 (i 1).val == BitVec.ofNat 32 h) = decide ((i 1).val = h) := by
      rw [beq_eq_decide, decide_eq_decide]
      refine ⟨fun hb => ?_, fun hb => by rw [hb]⟩
      have := congrArg BitVec.toNat hb
      rw [BitVec.toNat_ofNat, BitVec.toNat_ofNat] at this; omega
    show BitVec.ofBool (BitVec.ofNat 32 (i 1).val == BitVec.ofNat 32 h) = _
    rw [e]; by_cases hd : (i 1).val = h <;> simp [hd]
  rw [e, select_ite]; rfl

end Fox.Block

end
-- ==== Proof.Fox.Step.lean ====
/-
  One step of the kernel on real blocks: the probabilities and the scores' gradients that it computes for two heads, and what it adds to each result.
-/
module

public import proofs.«01_k».proof.Proof.Fox.Block
public import Idealize.ShloMosaic.Lib.Pipeline.ReadBack
public import Idealize.ShloMosaic.Lib.Pipeline.ValueKit

@[expose] public section

set_option maxRecDepth 16384

noncomputable section

open scoped BigOperators
open Idealize.ShloMosaic Idealize.SL.Sem Cert.KernelIdeal Cert.KernelIdeal.Gen TcCoe

namespace Fox.Block

/-! ## The step's tiles and what it stores, over any blocks -/

/-- A tile of probabilities, masked on the diagonal (`dg`) with the tile's first column `w`. -/
def tileT (dg : Bool) (w : BitVec 32) (q : Rows .bf16) (k : Half .bf16) (c : Strip) (l : Rows .f32) : Tile .f32 :=
  match dg with
  | false => probT (scoreT q k c) l
  | true => probT (maskT w (scoreT q k c)) l
def gradAt (dg : Bool) (w : BitVec 32) (q : Rows .bf16) (k : Half .bf16) (c : Strip) (l : Rows .f32) (o : Rows .bf16) (v : Half .bf16) (d : Rows .f32) : Tile .f32 :=
  gradT (tileT dg w q k c l) o v d
def dkAt (dg : Bool) (w : BitVec 32) (X : Half .f32) (q0 q1 : Rows .bf16) (k : Half .bf16) (c0 c1 : Strip) (l0 l1 : Rows .f32) (o0 o1 : Rows .bf16) (v : Half .bf16)
    (d0 d1 : Rows .f32) : Half .f32 :=
  dkT (dkT X (gradAt dg w q0 k c0 l0 o0 v d0) q0) (gradAt dg w q1 k c1 l1 o1 v d1) q1
def dvAt (dg : Bool) (w : BitVec 32) (X : Half .f32) (q0 q1 : Rows .bf16) (k : Half .bf16) (c0 c1 : Strip) (l0 l1 : Rows .f32) (o0 o1 : Rows .bf16) : Half .f32 :=
  dvT (dvT X (tileT dg w q0 k c0 l0) o0) (tileT dg w q1 k c1 l1) o1
def dqAt (dg : Bool) (X : Rows .f32) (q0 q1 : Rows .bf16) (k0 k1 : Half .bf16) (c00 c01 c10 c11 : Strip) (l0 l1 : Rows .f32) (o0 o1 : Rows .bf16) (v0 v1 : Half .bf16)
    (d0 d1 : Rows .f32) (m00 m01 m10 m11 : Half .bf16) : Rows .f32 :=
  dqT X (addf (addf (addf (forthT (gradAt dg 0#32 q0 k0 c00 l0 o0 v0 d0) m00) (forthT (gradAt dg 512#32 q0 k1 c01 l0 o0 v1 d0) m01))
    (forthT (gradAt dg 0#32 q1 k0 c10 l1 o1 v0 d1) m10)) (forthT (gradAt dg 512#32 q1 k1 c11 l1 o1 v1 d1) m11))
def dcqAt (dg : Bool) (w0 w1 : BitVec 32) (X : Rows .f32) (q0 q1 : Rows .bf16) (k0 k1 : Half .bf16) (c00 c01 c10 c11 : Strip) (l0 l1 : Rows .f32) (o0 o1 : Rows .bf16)
    (v0 v1 : Half .bf16) (d0 d1 : Rows .f32) : Rows .f32 :=
  dcqT X (laneT w1 (addf (rowT (gradAt dg 0#32 q1 k0 c10 l1 o1 v0 d1)) (rowT (gradAt dg 512#32 q1 k1 c11 l1 o1 v1 d1)))
    (laneT w0 (addf (rowT (gradAt dg 0#32 q0 k0 c00 l0 o0 v0 d0)) (rowT (gradAt dg 512#32 q0 k1 c01 l0 o0 v1 d0))) (constant S1024x128 .f32 0x00000000#32)))

/-- The real blocks of one step: of each head the queries, the output's gradients, the keys in that head's lanes, the rows' logarithms of sums and the rows'
    corrections, and the columns' gates; the keys and values of both heads side by side. -/
structure Ins where
  Q : Fin 2 → Fin 1024 → Fin 128 → ℝ
  O : Fin 2 → Fin 1024 → Fin 128 → ℝ
  KM : Fin 2 → Fin 1024 → Fin 128 → ℝ
  K : Fin 1024 → Fin 128 → ℝ
  V : Fin 1024 → Fin 128 → ℝ
  L : Fin 2 → Fin 1024 → ℝ
  D : Fin 2 → Fin 1024 → ℝ
  C : Fin 2 → Fin 1024 → ℝ

/-- Column `j` of half `a` of a block. -/
def col (a : Fin 2) (j : Fin 512) : Fin 1024 := ⟨a.val * 512 + j.val, by omega⟩

namespace Ins

variable (B : Ins) (dg : Bool)

/-- Head `h`'s probability at row `r` and column `j`; on the diagonal (`dg`) a column after the row has none. -/
def p (h : Fin 2) (r j : Fin 1024) : ℝ :=
  if dg = true → j.val ≤ r.val then Real.rpow 2 ((∑ l, B.Q h r l * B.K j l) - B.C h j - B.L h r) else 0
/-- The score's gradient there. -/
def ds (h : Fin 2) (r j : Fin 1024) : ℝ := B.p dg h r j * ((∑ l, B.O h r l * B.V j l) - B.D h r)

def upC : FVec Ideal S1x2x1024 .f32 := fun i => ((B.C (i 1) (i 2) : ℝ) : EReal)

/-- The tiles as the step computes them. -/
def k (a : Fin 2) : Half .bf16 := upH fun j l => B.K (col a j) l
def v (a : Fin 2) : Half .bf16 := upH fun j l => B.V (col a j) l
def km (h a : Fin 2) : Half .bf16 := upH fun j l => B.KM h (col a j) l
def c (h a : Fin 2) : Strip := upS fun j => B.C h (col a j)
def q (h : Fin 2) : Rows .bf16 := upR (B.Q h)
def o (h : Fin 2) : Rows .bf16 := upR (B.O h)
def l (h : Fin 2) : Rows .f32 := upR fun r _ => B.L h r
def d (h : Fin 2) : Rows .f32 := upR fun r _ => B.D h r

theorem tile_eq (h a : Fin 2) : tileT dg (BitVec.ofNat 32 (a.val * 512)) (B.q h) (B.k a) (B.c h a) (B.l h) = upT fun r j => B.p dg h r (col a j) := by
  unfold q k c l
  cases dg
  · simp only [tileT, scoreT_up, probT_up]; rfl
  · simp only [tileT, scoreT_up]; rw [probT_mask_up _ (by omega)]; simp only [p, col, forall_const]

theorem grad_eq (h a : Fin 2) : gradAt dg (BitVec.ofNat 32 (a.val * 512)) (B.q h) (B.k a) (B.c h a) (B.l h) (B.o h) (B.v a) (B.d h) = upT fun r j => B.ds dg h r (col a j) := by
  rw [gradAt, tile_eq, o, v, d, gradT_up]; rfl

theorem tile0 (h : Fin 2) : tileT dg 0#32 (B.q h) (B.k 0) (B.c h 0) (B.l h) = upT fun r j => B.p dg h r (col 0 j) := B.tile_eq dg h 0
theorem tile1 (h : Fin 2) : tileT dg 512#32 (B.q h) (B.k 1) (B.c h 1) (B.l h) = upT fun r j => B.p dg h r (col 1 j) := B.tile_eq dg h 1
theorem grad0 (h : Fin 2) : gradAt dg 0#32 (B.q h) (B.k 0) (B.c h 0) (B.l h) (B.o h) (B.v 0) (B.d h) = upT fun r j => B.ds dg h r (col 0 j) := B.grad_eq dg h 0
theorem grad1 (h : Fin 2) : gradAt dg 512#32 (B.q h) (B.k 1) (B.c h 1) (B.l h) (B.o h) (B.v 1) (B.d h) = upT fun r j => B.ds dg h r (col 1 j) := B.grad_eq dg h 1

/-! ## What the step adds to each result -/

def dk (j : Fin 1024) (l : Fin 128) : ℝ := (∑ r, B.ds dg 0 r j * B.Q 0 r l) * Real.log 2 + (∑ r, B.ds dg 1 r j * B.Q 1 r l) * Real.log 2
def dv (j : Fin 1024) (l : Fin 128) : ℝ := (∑ r, B.p dg 0 r j * B.O 0 r l) + ∑ r, B.p dg 1 r j * B.O 1 r l
def dc (h : Fin 2) (j : Fin 1024) : ℝ := -∑ r, B.ds dg h r j
def dq (r : Fin 1024) (l : Fin 128) : ℝ := ((∑ j, B.ds dg 0 r j * B.KM 0 j l) + ∑ j, B.ds dg 1 r j * B.KM 1 j l) * (1 / 8)
/-- Head `h` of the pair has lane `n + h`. -/
def dcq (n : ℕ) (r : Fin 1024) (l : Fin 128) : ℝ := if l.val = n + 1 then ∑ j, B.ds dg 1 r j else if l.val = n then ∑ j, B.ds dg 0 r j else 0

/-- A sum over the columns, half by half. -/
theorem sum_halves (f : Fin 1024 → ℝ) : ∑ j, f j = ∑ j, f (col 0 j) + ∑ j, f (col 1 j) := by
  rw [Fin.sum_univ_add (a := 512) (b := 512) f]
  exact congrArg₂ (· + ·) (Finset.sum_congr rfl fun j _ => congrArg f (Fin.ext (by simp [col]))) (Finset.sum_congr rfl fun j _ => congrArg f (Fin.ext (by simp [col, Nat.add_comm])))

theorem dkAt_apply (X : Half .f32) (a : Fin 2) (i : S512x128.Idx) :
    dkAt dg (BitVec.ofNat 32 (a.val * 512)) X (B.q 0) (B.q 1) (B.k a) (B.c 0 a) (B.c 1 a) (B.l 0) (B.l 1) (B.o 0) (B.o 1) (B.v a) (B.d 0) (B.d 1) i
      = X i + ((B.dk dg (col a (i 0)) (i 1) : ℝ) : EReal) := by
  rw [dkAt, grad_eq, grad_eq, q, q, dkT_up, dkT_up, add_assoc]; exact congrArg (X i + ·) (EReal.coe_add _ _).symm

theorem dvAt_apply (X : Half .f32) (a : Fin 2) (i : S512x128.Idx) :
    dvAt dg (BitVec.ofNat 32 (a.val * 512)) X (B.q 0) (B.q 1) (B.k a) (B.c 0 a) (B.c 1 a) (B.l 0) (B.l 1) (B.o 0) (B.o 1) i
      = X i + ((B.dv dg (col a (i 0)) (i 1) : ℝ) : EReal) := by
  rw [dvAt, tile_eq, tile_eq, o, o, dvT_up, dvT_up, add_assoc]; exact congrArg (X i + ·) (EReal.coe_add _ _).symm

theorem dcAt_apply (X : Strip) (h a : Fin 2) (i : S1x1x512.Idx) :
    dcT X (gradAt dg (BitVec.ofNat 32 (a.val * 512)) (B.q h) (B.k a) (B.c h a) (B.l h) (B.o h) (B.v a) (B.d h)) i = X i + ((B.dc dg h (col a (i 2)) : ℝ) : EReal) := by
  rw [grad_eq, dcT_up]; rfl

theorem dqAt_apply (X : Rows .f32) (i : S1024x128.Idx) :
    dqAt dg X (B.q 0) (B.q 1) (B.k 0) (B.k 1) (B.c 0 0) (B.c 0 1) (B.c 1 0) (B.c 1 1) (B.l 0) (B.l 1) (B.o 0) (B.o 1) (B.v 0) (B.v 1) (B.d 0) (B.d 1)
      (B.km 0 0) (B.km 0 1) (B.km 1 0) (B.km 1 1) i = X i + ((B.dq dg (i 0) (i 1) : ℝ) : EReal) := by
  rw [dqAt, grad0, grad1, grad0, grad1, km, km, km, km, forthT_up, forthT_up, forthT_up, forthT_up, addf_up, addf_up, addf_up, dqT_up]
  refine congrArg (fun x : ℝ => X i + (x : EReal)) ?_
  unfold dq; rw [sum_halves, sum_halves (fun j => B.ds dg 1 (i 0) j * _), ← add_assoc]

theorem dcqAt_apply (n : ℕ) (hn : n + 1 < 128) (X : Rows .f32) (i : S1024x128.Idx) :
    dcqAt dg (BitVec.ofNat 32 n) (BitVec.ofNat 32 (n + 1)) X (B.q 0) (B.q 1) (B.k 0) (B.k 1) (B.c 0 0) (B.c 0 1) (B.c 1 0) (B.c 1 1) (B.l 0) (B.l 1) (B.o 0) (B.o 1)
      (B.v 0) (B.v 1) (B.d 0) (B.d 1) i = X i + ((B.dcq dg n (i 0) (i 1) : ℝ) : EReal) := by
  have row (h : Fin 2) : addf (rowT (upT fun r j => B.ds dg h r (col 0 j))) (rowT (upT fun r j => B.ds dg h r (col 1 j)))
      (ValueIdx.ix2 (n0 := 1024) (n1 := 1) (i 0) 0) = ((∑ j, B.ds dg h (i 0) j : ℝ) : EReal) := by
    rw [sum_halves, EReal.coe_add]
    exact congrArg₂ (· + ·) (rowT_up _ _) (rowT_up _ _)
  rw [dcqAt, grad0, grad1, grad0, grad1, dcqT, rows_shapeCast]
  refine congrArg (X i + ·) ?_
  rw [laneT_up _ hn, row 1, laneT_up _ (by omega), row 0]
  unfold dcq
  split_ifs
  · rfl
  · rfl
  · pointwise; rfl

/-! ## Blocks that a load of half an array leaves -/

theorem ld_half0 (f : Fin 1024 → Fin 128 → ℝ) (inb) :
    View.ld (Val := Elt Ideal) (e' := .bf16) (upR f : Rows .bf16) (Rect.unit (s := S1024x128) ![0, 0] ![512, 128] inb) = (upH fun j l => f (col 0 j) l : Half .bf16) := by
  funext i; pointwise
  exact congrArg (fun r => ((f r (i 1) : ℝ) : EReal)) (Fin.ext (by simp [col]))

theorem ld_half1 (f : Fin 1024 → Fin 128 → ℝ) (inb) :
    View.ld (Val := Elt Ideal) (e' := .bf16) (upR f : Rows .bf16) (Rect.unit (s := S1024x128) ![512, 0] ![512, 128] inb) = (upH fun j l => f (col 1 j) l : Half .bf16) := by
  funext i; pointwise; rfl

theorem ld_strip00 (inb) : View.ld (Val := Elt Ideal) (e' := .f32) B.upC (Rect.unit (s := S1x2x1024) ![0, 0, 0] ![1, 1, 512] inb) = B.c 0 0 := by
  funext i; pointwise
  exact congrArg (fun r => ((B.C 0 r : ℝ) : EReal)) (Fin.ext (by simp [col]))
theorem ld_strip01 (inb) : View.ld (Val := Elt Ideal) (e' := .f32) B.upC (Rect.unit (s := S1x2x1024) ![0, 0, 512] ![1, 1, 512] inb) = B.c 0 1 := by
  funext i; pointwise; rfl
theorem ld_strip10 (inb) : View.ld (Val := Elt Ideal) (e' := .f32) B.upC (Rect.unit (s := S1x2x1024) ![0, 1, 0] ![1, 1, 512] inb) = B.c 1 0 := by
  funext i; pointwise
  exact congrArg (fun r => ((B.C 1 r : ℝ) : EReal)) (Fin.ext (by simp [col]))
theorem ld_strip11 (inb) : View.ld (Val := Elt Ideal) (e' := .f32) B.upC (Rect.unit (s := S1x2x1024) ![0, 1, 512] ![1, 1, 512] inb) = B.c 1 1 := by
  funext i; pointwise; rfl

/-! ## What the stores of a step leave -/

/-- The lower and upper half of a block, and strip (head, half) of a block of gates, as stored pieces. -/
abbrev lo (P : Half .f32) : View.Piece (Elt Ideal) S1024x128 .f32 := ⟨Rect.unit (s := S1024x128) ![0, 0] ![512, 128] (by decide), P⟩
abbrev hi (P : Half .f32) : View.Piece (Elt Ideal) S1024x128 .f32 := ⟨Rect.unit (s := S1024x128) ![512, 0] ![512, 128] (by decide), P⟩
abbrev st00 (P : Strip) : View.Piece (Elt Ideal) S1x2x1024 .f32 := ⟨Rect.unit (s := S1x2x1024) ![0, 0, 0] ![1, 1, 512] (by decide), P⟩
abbrev st01 (P : Strip) : View.Piece (Elt Ideal) S1x2x1024 .f32 := ⟨Rect.unit (s := S1x2x1024) ![0, 0, 512] ![1, 1, 512] (by decide), P⟩
abbrev st10 (P : Strip) : View.Piece (Elt Ideal) S1x2x1024 .f32 := ⟨Rect.unit (s := S1x2x1024) ![0, 1, 0] ![1, 1, 512] (by decide), P⟩
abbrev st11 (P : Strip) : View.Piece (Elt Ideal) S1x2x1024 .f32 := ⟨Rect.unit (s := S1x2x1024) ![0, 1, 512] ![1, 1, 512] (by decide), P⟩

/-- Two halves of a block, each a half of `G`, over anything. -/
theorem canon_halves (P0 P1 : Half .f32) (L : List (View.Piece (Elt Ideal) S1024x128 .f32)) (G : S1024x128.Idx → EReal) (i0 i1)
    (h0 : ∀ i, P0 i = G (ValueIdx.ix2 (n0 := 1024) (n1 := 128) (col 0 (i 0)) (i 1))) (h1 : ∀ i, P1 i = G (ValueIdx.ix2 (n0 := 1024) (n1 := 128) (col 1 (i 0)) (i 1)))
    (y : S1024x128.Idx) :
    View.canon (Val := Elt Ideal) (e := .f32) (⟨Rect.unit (s := S1024x128) ![512, 0] ![512, 128] i1, P1⟩ :: ⟨Rect.unit (s := S1024x128) ![0, 0] ![512, 128] i0, P0⟩ :: L) y = G y := by
  refine View.canon_append_of_piecesOf (Val := Elt Ideal) (e := .f32) G L [⟨Rect.unit (s := S1024x128) ![512, 0] ![512, 128] i1, P1⟩, ⟨Rect.unit (s := S1024x128) ![0, 0] ![512, 128] i0, P0⟩]
    ⟨fun x => (h1 x).trans (congrArg G ?_), fun x => (h0 x).trans (congrArg G ?_), trivial⟩ y ?_
  · exact (funext (Fin.forall_fin_two.mpr ⟨Fin.ext (by show 1 * 512 + (x 0).val = 512 + 1 * (x 0).val; omega), Fin.ext (by show (x 1).val = 0 + 1 * (x 1).val; omega)⟩))
  · exact (funext (Fin.forall_fin_two.mpr ⟨Fin.ext (by show 0 * 512 + (x 0).val = 0 + 1 * (x 0).val; omega), Fin.ext (by show (x 1).val = 0 + 1 * (x 1).val; omega)⟩))
  · have hy : (y 1).val < 128 := (y 1).isLt
    have hx : (y 0).val < 1024 := (y 0).isLt
    by_cases h : (y 0).val < 512
    · exact ⟨_, List.mem_cons_of_mem _ List.mem_cons_self, (Rect.mem_set_unit (inb := i0)).mpr (Fin.forall_fin_two.mpr ⟨⟨Nat.zero_le _, by show (y 0).val < 0 + 512; omega⟩, Nat.zero_le _, by show (y 1).val < 0 + 128; omega⟩)⟩
    · exact ⟨_, List.mem_cons_self, (Rect.mem_set_unit (inb := i1)).mpr (Fin.forall_fin_two.mpr ⟨⟨by show 512 ≤ (y 0).val; omega, by show (y 0).val < 512 + 512; omega⟩, Nat.zero_le _, by show (y 1).val < 0 + 128; omega⟩)⟩

/-- The four strips of a block of gates, each a strip of `G`, over anything. -/
theorem canon_strips (P00 P01 P10 P11 : Strip) (L : List (View.Piece (Elt Ideal) S1x2x1024 .f32)) (G : S1x2x1024.Idx → EReal) (i00 i01 i10 i11)
    (h00 : ∀ i, P00 i = G (ValueIdx.ix3 (n0 := 1) (n1 := 2) (n2 := 1024) 0 0 (col 0 (i 2)))) (h01 : ∀ i, P01 i = G (ValueIdx.ix3 (n0 := 1) (n1 := 2) (n2 := 1024) 0 0 (col 1 (i 2))))
    (h10 : ∀ i, P10 i = G (ValueIdx.ix3 (n0 := 1) (n1 := 2) (n2 := 1024) 0 1 (col 0 (i 2)))) (h11 : ∀ i, P11 i = G (ValueIdx.ix3 (n0 := 1) (n1 := 2) (n2 := 1024) 0 1 (col 1 (i 2))))
    (y : S1x2x1024.Idx) :
    View.canon (Val := Elt Ideal) (e := .f32) (⟨Rect.unit (s := S1x2x1024) ![0, 1, 512] ![1, 1, 512] i11, P11⟩ :: ⟨Rect.unit (s := S1x2x1024) ![0, 1, 0] ![1, 1, 512] i10, P10⟩
      :: ⟨Rect.unit (s := S1x2x1024) ![0, 0, 512] ![1, 1, 512] i01, P01⟩ :: ⟨Rect.unit (s := S1x2x1024) ![0, 0, 0] ![1, 1, 512] i00, P00⟩ :: L) y = G y := by
  have e (h a : ℕ) (hh : h < 2) (ha : a < 2) (inb) (x : S1x1x512.Idx) :
      ValueIdx.ix3 (n0 := 1) (n1 := 2) (n2 := 1024) 0 ⟨h, hh⟩ (col ⟨a, ha⟩ (x 2)) = (Rect.unit (s := S1x2x1024) ![0, h, a * 512] ![1, 1, 512] inb).emb x := by
    have h0 : (x 0).val < 1 := (x 0).isLt
    have h1 : (x 1).val < 1 := (x 1).isLt
    exact funext (Fin.forall_fin_succ.mpr ⟨Fin.ext (by show 0 = 0 + 1 * (x 0).val; omega), Fin.forall_fin_two.mpr
      ⟨Fin.ext (by show h = h + 1 * (x 1).val; omega), Fin.ext (by show a * 512 + (x 2).val = a * 512 + 1 * (x 2).val; omega)⟩⟩)
  have cov (h a : ℕ) (hh : (y 1).val = h) (ha : a * 512 ≤ (y 2).val ∧ (y 2).val < a * 512 + 512) (inb) :
      y ∈ (Rect.unit (s := S1x2x1024) ![0, h, a * 512] ![1, 1, 512] inb).set := by
    have h0 : (y 0).val < 1 := (y 0).isLt
    exact Rect.mem_set_unit.mpr (Fin.forall_fin_succ.mpr ⟨⟨Nat.zero_le _, by show (y 0).val < 0 + 1; omega⟩, Fin.forall_fin_two.mpr
      ⟨⟨by show h ≤ (y 1).val; omega, by show (y 1).val < h + 1; omega⟩, ha⟩⟩)
  have hy : (y 1).val < 2 := (y 1).isLt
  have hx : (y 2).val < 1024 := (y 2).isLt
  refine View.canon_append_of_piecesOf (Val := Elt Ideal) (e := .f32) G L [⟨Rect.unit (s := S1x2x1024) ![0, 1, 512] ![1, 1, 512] i11, P11⟩, ⟨Rect.unit (s := S1x2x1024) ![0, 1, 0] ![1, 1, 512] i10, P10⟩,
      ⟨Rect.unit (s := S1x2x1024) ![0, 0, 512] ![1, 1, 512] i01, P01⟩, ⟨Rect.unit (s := S1x2x1024) ![0, 0, 0] ![1, 1, 512] i00, P00⟩]
    ⟨fun x => (h11 x).trans (congrArg G (e 1 1 (by omega) (by omega) i11 x)), fun x => (h10 x).trans (congrArg G (e 1 0 (by omega) (by omega) i10 x)),
      fun x => (h01 x).trans (congrArg G (e 0 1 (by omega) (by omega) i01 x)), fun x => (h00 x).trans (congrArg G (e 0 0 (by omega) (by omega) i00 x)), trivial⟩ y ?_
  by_cases h1 : (y 1).val = 1 <;> by_cases h2 : (y 2).val < 512
  · exact ⟨_, List.mem_cons_of_mem _ List.mem_cons_self, cov 1 0 h1 (by omega) i10⟩
  · exact ⟨_, List.mem_cons_self, cov 1 1 h1 (by omega) i11⟩
  · exact ⟨_, List.mem_cons_of_mem _ (List.mem_cons_of_mem _ (List.mem_cons_of_mem _ List.mem_cons_self)), cov 0 0 (by omega) (by omega) i00⟩
  · exact ⟨_, List.mem_cons_of_mem _ (List.mem_cons_of_mem _ List.mem_cons_self), cov 0 1 (by omega) (by omega) i01⟩

/-- The two halves of the keys' gradient after a step, over what stood there. -/
theorem dk_canon (X : S1024x128.Idx → EReal) (L) (i0 i1 j0 j1) (y : S1024x128.Idx) :
    View.canon (Val := Elt Ideal) (e := .f32)
      (⟨Rect.unit (s := S1024x128) ![512, 0] ![512, 128] i1, dkAt dg 512#32 (View.ld (Val := Elt Ideal) (e' := .f32) X (Rect.unit (s := S1024x128) ![512, 0] ![512, 128] j1))
          (B.q 0) (B.q 1) (B.k 1) (B.c 0 1) (B.c 1 1) (B.l 0) (B.l 1) (B.o 0) (B.o 1) (B.v 1) (B.d 0) (B.d 1)⟩
        :: ⟨Rect.unit (s := S1024x128) ![0, 0] ![512, 128] i0, dkAt dg 0#32 (View.ld (Val := Elt Ideal) (e' := .f32) X (Rect.unit (s := S1024x128) ![0, 0] ![512, 128] j0))
          (B.q 0) (B.q 1) (B.k 0) (B.c 0 0) (B.c 1 0) (B.l 0) (B.l 1) (B.o 0) (B.o 1) (B.v 0) (B.d 0) (B.d 1)⟩ :: L) y
      = X y + ((B.dk dg (y 0) (y 1) : ℝ) : EReal) := by
  refine canon_halves _ _ L (fun y => X y + ((B.dk dg (y 0) (y 1) : ℝ) : EReal)) i0 i1 (fun i => (B.dkAt_apply dg _ 0 i).trans ?_) (fun i => (B.dkAt_apply dg _ 1 i).trans ?_) y
  · refine congrArg₂ (· + ·) ?_ rfl
    pointwise; exact congrArg X (funext (Fin.forall_fin_two.mpr ⟨Fin.ext (by simp [col]), rfl⟩))
  · refine congrArg₂ (· + ·) ?_ rfl
    pointwise; rfl

theorem dv_canon (X : S1024x128.Idx → EReal) (L) (i0 i1 j0 j1) (y : S1024x128.Idx) :
    View.canon (Val := Elt Ideal) (e := .f32)
      (⟨Rect.unit (s := S1024x128) ![512, 0] ![512, 128] i1, dvAt dg 512#32 (View.ld (Val := Elt Ideal) (e' := .f32) X (Rect.unit (s := S1024x128) ![512, 0] ![512, 128] j1))
          (B.q 0) (B.q 1) (B.k 1) (B.c 0 1) (B.c 1 1) (B.l 0) (B.l 1) (B.o 0) (B.o 1)⟩
        :: ⟨Rect.unit (s := S1024x128) ![0, 0] ![512, 128] i0, dvAt dg 0#32 (View.ld (Val := Elt Ideal) (e' := .f32) X (Rect.unit (s := S1024x128) ![0, 0] ![512, 128] j0))
          (B.q 0) (B.q 1) (B.k 0) (B.c 0 0) (B.c 1 0) (B.l 0) (B.l 1) (B.o 0) (B.o 1)⟩ :: L) y
      = X y + ((B.dv dg (y 0) (y 1) : ℝ) : EReal) := by
  refine canon_halves _ _ L (fun y => X y + ((B.dv dg (y 0) (y 1) : ℝ) : EReal)) i0 i1 (fun i => (B.dvAt_apply dg _ 0 i).trans ?_) (fun i => (B.dvAt_apply dg _ 1 i).trans ?_) y
  · refine congrArg₂ (· + ·) ?_ rfl
    pointwise; exact congrArg X (funext (Fin.forall_fin_two.mpr ⟨Fin.ext (by simp [col]), rfl⟩))
  · refine congrArg₂ (· + ·) ?_ rfl
    pointwise; rfl

theorem dc_canon (X : S1x2x1024.Idx → EReal) (L) (i00 i01 i10 i11 j00 j01 j10 j11) (y : S1x2x1024.Idx) :
    View.canon (Val := Elt Ideal) (e := .f32)
      (⟨Rect.unit (s := S1x2x1024) ![0, 1, 512] ![1, 1, 512] i11, dcT (View.ld (Val := Elt Ideal) (e' := .f32) X (Rect.unit (s := S1x2x1024) ![0, 1, 512] ![1, 1, 512] j11))
          (gradAt dg 512#32 (B.q 1) (B.k 1) (B.c 1 1) (B.l 1) (B.o 1) (B.v 1) (B.d 1))⟩
        :: ⟨Rect.unit (s := S1x2x1024) ![0, 1, 0] ![1, 1, 512] i10, dcT (View.ld (Val := Elt Ideal) (e' := .f32) X (Rect.unit (s := S1x2x1024) ![0, 1, 0] ![1, 1, 512] j10))
          (gradAt dg 0#32 (B.q 1) (B.k 0) (B.c 1 0) (B.l 1) (B.o 1) (B.v 0) (B.d 1))⟩
        :: ⟨Rect.unit (s := S1x2x1024) ![0, 0, 512] ![1, 1, 512] i01, dcT (View.ld (Val := Elt Ideal) (e' := .f32) X (Rect.unit (s := S1x2x1024) ![0, 0, 512] ![1, 1, 512] j01))
          (gradAt dg 512#32 (B.q 0) (B.k 1) (B.c 0 1) (B.l 0) (B.o 0) (B.v 1) (B.d 0))⟩
        :: ⟨Rect.unit (s := S1x2x1024) ![0, 0, 0] ![1, 1, 512] i00, dcT (View.ld (Val := Elt Ideal) (e' := .f32) X (Rect.unit (s := S1x2x1024) ![0, 0, 0] ![1, 1, 512] j00))
          (gradAt dg 0#32 (B.q 0) (B.k 0) (B.c 0 0) (B.l 0) (B.o 0) (B.v 0) (B.d 0))⟩ :: L) y
      = X y + ((B.dc dg (y 1) (y 2) : ℝ) : EReal) := by
  refine canon_strips _ _ _ _ L (fun y => X y + ((B.dc dg (y 1) (y 2) : ℝ) : EReal)) i00 i01 i10 i11 (fun i => (B.dcAt_apply dg _ 0 0 i).trans ?_)
    (fun i => (B.dcAt_apply dg _ 0 1 i).trans ?_) (fun i => (B.dcAt_apply dg _ 1 0 i).trans ?_) (fun i => (B.dcAt_apply dg _ 1 1 i).trans ?_) y
  all_goals refine congrArg₂ (· + ·) ?_ rfl
  all_goals pointwise
  all_goals first | rfl | exact congrArg X (funext (Fin.forall_fin_succ.mpr ⟨rfl, Fin.forall_fin_two.mpr ⟨rfl, Fin.ext (by simp [col])⟩⟩))

end Ins

end Fox.Block

end
-- ==== Proof.Fox.Reads.lean ====
/-
  What a grid point reads, as real blocks.
-/
module

public import proofs.«01_k».proof.Proof.Fox.Step
public import proofs.«01_k».proof.Proof.Gen.KernelIdeal.Frame

@[expose] public section

set_option maxRecDepth 16384

noncomputable section

open scoped BigOperators
open Idealize.ShloMosaic Idealize.SL.Sem Cert.KernelIdeal Cert.KernelIdeal.Gen TcCoe

namespace Fox.Block

/-- The blocks that grid point `t` reads are `B`. -/
structure Reads (m : (ℓ : Loc nD τ sig) → Buf (Elt Ideal) ℓ) (c : Dev nD) (t : Fin cfg0.N) (B : Ins) : Prop where
  b0 : iblk m c 0 t = B.q 0
  b1 : iblk m c 1 t = B.q 1
  b2 : iblk m c 2 t = (upR B.K : Rows .bf16)
  b3 : iblk m c 3 t = (upR (B.KM 0) : Rows .bf16)
  b4 : iblk m c 4 t = (upR (B.KM 1) : Rows .bf16)
  b5 : iblk m c 5 t = (upR B.V : Rows .bf16)
  b6 : iblk m c 6 t = B.o 0
  b7 : iblk m c 7 t = B.o 1
  b8 : iblk m c 8 t = B.l 0
  b9 : iblk m c 9 t = B.l 1
  b10 : iblk m c 10 t = B.d 0
  b11 : iblk m c 11 t = B.d 1
  b12 : iblk m c 12 t = B.upC

/-- A cast of a block to its own shape leaves it. -/
theorem pays : (∀ x, k0_pay9 (F := Ideal) x = x) ∧ (∀ x, k0_pay10 (F := Ideal) x = x) ∧ (∀ x, k0_pay32 (F := Ideal) x = x) ∧ (∀ x, k0_pay33 (F := Ideal) x = x)
    ∧ (∀ x, k0_pay35 (F := Ideal) x = x) ∧ (∀ x, k0_pay56 (F := Ideal) x = x) ∧ (∀ x, k0_pay57 (F := Ideal) x = x) ∧ (∀ x, k0_pay67 (F := Ideal) x = x)
    ∧ (∀ x, k0_pay77 (F := Ideal) x = x) ∧ ∀ x, k0_pay78 (F := Ideal) x = x := by
  refine ⟨?_, ?_, ?_, ?_, ?_, ?_, ?_, ?_, ?_, ?_⟩
  all_goals exact fun x => shapeCast_self x _

/-- The blocks that resets store hold zeros. -/
theorem pay1_apply (y : S16384x128.Idx) : (k0_pay1 (F := Ideal)) y = 0 := by unfold k0_pay1; pointwise
theorem pay2_apply (y : S16384x128.Idx) : (k0_pay2 (F := Ideal)) y = 0 := by unfold k0_pay2; pointwise
theorem pay3_apply (y : S1024x128.Idx) : (k0_pay3 (F := Ideal)) y = 0 := by unfold k0_pay3; pointwise
theorem pay4_apply (y : S1024x128.Idx) : (k0_pay4 (F := Ideal)) y = 0 := by unfold k0_pay4; pointwise
theorem pay5_apply (y : S1x2x1024.Idx) : (k0_pay5 (F := Ideal)) y = 0 := by unfold k0_pay5; pointwise

/-- What stands before grid point `t`. -/
abbrev before (m : (ℓ : Loc nD τ sig) → Buf (Elt Ideal) ℓ) (c : Dev nD) (t : Fin cfg0.N) := outsAt0 m c (t.val - 1) (Nat.lt_of_le_of_lt (Nat.sub_le _ _) t.isLt)

end Fox.Block

end
-- ==== Proof.Fox.Rows.lean ====
/-
  Sums that the kernel keeps for all query rows at once, of which one grid point adds to the rows of its own query block.
-/
module

public import proofs.«01_k».proof.Proof.Fox.Reads
public import Idealize.ShloMosaic.Lib.WritesUnit

@[expose] public section

set_option maxRecDepth 16384

noncomputable section

open scoped BigOperators
open Idealize.ShloMosaic Idealize.SL.Sem Cert.KernelIdeal Cert.KernelIdeal.Gen TcCoe

namespace Fox.Block

/-- The addend `f` in the rows of query block `n`, nothing elsewhere. -/
def inRows (n : ℕ) (f : Fin 1024 → Fin 128 → ℝ) (r : Fin 16384) (l : Fin 128) : ℝ := if r.val / 1024 = n then f ⟨r.val % 1024, Nat.mod_lt _ (by omega)⟩ l else 0

abbrev Acc := S16384x128.Idx → EReal

/-- A block of 1024 rows of an array of all rows, as a stored piece. -/
abbrev rowsAt (off : Fin 2 → ℕ) (inb : ∀ a, off a + (![1024, 128] : Fin 2 → ℕ) a ≤ S16384x128.size a) (P : Rows .f32) : View.Piece (Elt Ideal) S16384x128 .f32 :=
  ⟨Rect.unit (s := S16384x128) off ![1024, 128] inb, P⟩

/-- What the piece of block `n` holds at the position of row `y 0`. -/
theorem rows_piece {n : ℕ} (inb) (P : Rows .f32) (X : Acc) (f : Fin 1024 → Fin 128 → ℝ)
    (hP : ∀ i : S1024x128.Idx, P i = View.ld (Val := Elt Ideal) (e' := .f32) X (Rect.unit (s := S16384x128) ![1024 * n, 0] ![1024, 128] inb) i + ((f (i 0) (i 1) : ℝ) : EReal))
    (y : S16384x128.Idx) (x : S1024x128.Idx) (h0 : (y 0).val = 1024 * n + (x 0).val) (h1 : (y 1).val = (x 1).val) :
    P x = X y + ((inRows n f (y 0) (y 1) : ℝ) : EReal) := by
  have hx : (x 0).val < 1024 := (x 0).isLt
  rw [hP]
  refine congrArg₂ (· + ·) ?_ ?_
  · exact View.ld_unit_apply_of (Val := Elt Ideal) (e := .f32) X ![1024 * n, 0] ![1024, 128] inb x y (Fin.forall_fin_two.mpr ⟨h0, by show (y 1).val = 0 + (x 1).val; omega⟩)
  · unfold inRows
    rw [if_pos (by omega)]
    exact congrArg₂ (fun a b => ((f a b : ℝ) : EReal)) (Fin.ext (by show (x 0).val = (y 0).val % 1024; omega)) (Fin.ext h1.symm)

theorem rows_outside {n : ℕ} (X : Acc) (f : Fin 1024 → Fin 128 → ℝ) (y : S16384x128.Idx) (h : (y 0).val / 1024 ≠ n) :
    X y = X y + ((inRows n f (y 0) (y 1) : ℝ) : EReal) := by
  unfold inRows; rw [if_neg h, EReal.coe_zero, add_zero]

/-- A block of rows stored over `X`, read back. -/
theorem rows_read {κ : Kind} {sp : Space} (v : View sig κ sp S16384x128 .f32) (g : v.ty.Contents (Elt Ideal)) {off : Fin 2 → ℕ} {n : ℕ} (hoff : off = ![1024 * n, 0]) (inb)
    (P : Rows .f32) (X : Acc) (hX : v.read (Elt Ideal) g = X) (f : Fin 1024 → Fin 128 → ℝ)
    (hP : ∀ i : S1024x128.Idx, P i = View.ld (Val := Elt Ideal) (e' := .f32) X (Rect.unit (s := S16384x128) off ![1024, 128] inb) i + ((f (i 0) (i 1) : ℝ) : EReal))
    (y : S16384x128.Idx) : v.read (Elt Ideal) (v.writes (Elt Ideal) g [rowsAt off inb P]) y = X y + ((inRows n f (y 0) (y 1) : ℝ) : EReal) := by
  subst hoff
  have hy : (y 0).val < 16384 := (y 0).isLt
  by_cases h : (y 0).val / 1024 = n
  · have e0 : (y 0).val = 1024 * n + (y 0).val % 1024 := by omega
    refine (View.read_writes_cons_rows_of_mem v g (o := 1024 * n) inb P [] y (ValueIdx.ix2 (n0 := 1024) (n1 := 128) ⟨(y 0).val % 1024, Nat.mod_lt _ (by omega)⟩ (y 1)) rfl e0 rfl).trans ?_
    exact rows_piece inb P X f hP y _ e0 rfl
  · refine (View.read_writes_cons_rows_of_not_mem v g (o := 1024 * n) (W := 1024) inb P [] y rfl rfl (by omega)).trans ?_
    exact (congrFun hX y).trans (rows_outside X f y h)

/-- The same over a store of the whole array. -/
theorem rows_canon {off : Fin 2 → ℕ} {n : ℕ} (hoff : off = ![1024 * n, 0]) (inb) (P : Rows .f32) (X : Acc) (iw) (f : Fin 1024 → Fin 128 → ℝ)
    (hP : ∀ i : S1024x128.Idx, P i = View.ld (Val := Elt Ideal) (e' := .f32) X (Rect.unit (s := S16384x128) off ![1024, 128] inb) i + ((f (i 0) (i 1) : ℝ) : EReal))
    (y : S16384x128.Idx) :
    View.canon (Val := Elt Ideal) (e := .f32) [rowsAt off inb P, ⟨Rect.unit (s := S16384x128) ![0, 0] ![16384, 128] iw, X⟩] y = X y + ((inRows n f (y 0) (y 1) : ℝ) : EReal) := by
  subst hoff
  have hy : (y 0).val < 16384 := (y 0).isLt
  by_cases h : (y 0).val / 1024 = n
  · have e0 : (y 0).val = 1024 * n + (y 0).val % 1024 := by omega
    have ey : y = (Rect.unit (s := S16384x128) ![1024 * n, 0] ![1024, 128] inb).emb (ValueIdx.ix2 (n0 := 1024) (n1 := 128) ⟨(y 0).val % 1024, Nat.mod_lt _ (by omega)⟩ (y 1)) :=
      funext (Fin.forall_fin_two.mpr ⟨Fin.ext (by show (y 0).val = 1024 * n + 1 * ((y 0).val % 1024); omega), Fin.ext (by show (y 1).val = 0 + 1 * (y 1).val; omega)⟩)
    have e1 := View.canon_cons_emb (Val := Elt Ideal) (e := .f32) (Rect.unit (s := S16384x128) ![1024 * n, 0] ![1024, 128] inb) P
      [⟨Rect.unit (s := S16384x128) ![0, 0] ![16384, 128] iw, X⟩] (ValueIdx.ix2 (n0 := 1024) (n1 := 128) ⟨(y 0).val % 1024, Nat.mod_lt _ (by omega)⟩ (y 1))
    rw [← ey] at e1
    refine e1.trans ?_
    exact rows_piece inb P X f hP y _ e0 rfl
  · refine (View.canon_cons_of_not_mem (Val := Elt Ideal) (e := .f32) (rowsAt ![1024 * n, 0] inb P) _ fun hm => h ?_).trans ?_
    · have := (Rect.mem_set_unit (inb := inb)).mp hm 0
      have a : 1024 * n ≤ (y 0).val := this.1
      have b : (y 0).val < 1024 * n + 1024 := this.2
      omega
    · rw [View.canon_cons_unit_lit' (Val := Elt Ideal) (e := .f32) (S := S16384x128) iw X [] (by decide)]
      exact rows_outside X f y h

/-- The word that the kernel computes for head `h` of the pair. -/
def headWord (i : grid0.Coords) (h : BitVec 32) : BitVec 32 := Scalar.addi (Scalar.muli 2#32 (Scalar.addi (Scalar.muli 1#32 (BitVec.ofNat 32 (i 0).val)) 0#32)) h

theorem headWord_eq (i : grid0.Coords) : headWord i 0#32 = BitVec.ofNat 32 (2 * (i 0).val) ∧ headWord i 1#32 = BitVec.ofNat 32 (2 * (i 0).val + 1) := by
  have h : ∀ g : Fin 8, Scalar.addi (Scalar.muli 2#32 (Scalar.addi (Scalar.muli 1#32 (BitVec.ofNat 32 g.val)) 0#32)) 0#32 = BitVec.ofNat 32 (2 * g.val)
    ∧ Scalar.addi (Scalar.muli 2#32 (Scalar.addi (Scalar.muli 1#32 (BitVec.ofNat 32 g.val)) 0#32)) 1#32 = BitVec.ofNat 32 (2 * g.val + 1) := by decide
  exact h ⟨(i 0).val, (i 0).isLt⟩

theorem coord0 (t : Fin cfg0.N) : (grid0.coords t 0).val = t.val / 256 % 8 := Pipeline.Grid.coords_val t 0 (by decide) rfl
theorem coord1 (t : Fin cfg0.N) : (grid0.coords t 1).val = t.val / 16 % 16 := Pipeline.Grid.coords_val t 1 (by decide) rfl
theorem coord2 (t : Fin cfg0.N) : (grid0.coords t 2).val = t.val % 16 := by
  have h : (grid0.coords t 2).val = t.val / 1 % 16 := Pipeline.Grid.coords_val t 2 (by decide) rfl
  rw [h, Nat.div_one]

theorem off1 (t : Fin cfg0.N) : k0_off1 (grid0.coords t) = ![1024 * (t.val % 16), 0] := by rw [k0_off1_eq, coord2]
theorem off2 (t : Fin cfg0.N) : k0_off2 (grid0.coords t) = ![1024 * (t.val % 16), 0] := by rw [k0_off2_eq, coord2]

end Fox.Block

end
-- ==== Proof.Fox.HostOps.lean ====
/-
  What the host prepares for the kernel: each array that the kernel reads, as a function of the arguments.
-/
module

public import proofs.«01_k».proof.Proof.Fox.Extended
public import proofs.«01_k».proof.Proof.Gen.KernelIdeal.Launch
public import Idealize.ShloMosaic.Lib.StableHlo.ReadAt
public import Idealize.ShloMosaic.Lib.KernelVsHost
public import Idealize.ShloMosaic.Lib.Pointwise

@[expose] public section

noncomputable section

open scoped BigOperators
open Idealize.ShloMosaic Idealize.SL.Sem Cert.KernelIdeal Cert.KernelIdeal.Gen TcCoe

namespace Fox.Host
variable (m : (ℓ : Loc nD τ sig) → Buf (Elt Ideal) ℓ) (c : Dev nD)
abbrev V (b : Ref sig .tc) : Buf (Elt Ideal) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]) (fun b => m (c, b)) b
set_option maxRecDepth 16384

/-! ## The host's operations as functions of arrays -/

abbrev R3 := FVec Ideal S16x16384x16384 .f32
abbrev R2 := FVec Ideal S16x16384 .f32

def headsT (X : FVec Ideal S16384x1024 .f32) : FVec Ideal S16x16384x64 .f32 :=
  transpose S16x16384x64 [1, 0, 2] (shapeCast S16384x16x64 X shapeCasts_S16384x1024_S16384x16x64) transposes_S16384x16x64_S16x16384x64_1_0_2
def scoreT (A B : FVec Ideal S16x16384x64 .f32) (C : FVec Ideal S16384x16 .f32) : R3 :=
  subf (mulf (Host.dotGeneral dot_S16x16384x64_S16x16384x64_S16x16384x16384_2_2_1_1_0_0 none A B) (broadcastInDim S16x16384x16384 ![] bcast_S_S16x16384x16384 (constant S_ .f32 0x3E000000#32)))
    (broadcastInDim S16x16384x16384 ![0, 1, 2] bcast_S16x1x16384_S16x16384x16384_0_1_2 (broadcastInDim S16x1x16384 ![0, 2] bcast_S16x16384_S16x1x16384_0_2 (transpose S16x16384 [1, 0] C transposes_S16384x16_S16x16384_1_0)))
def maskedT (X : R3) : R3 :=
  select (broadcastInDim S16x16384x16384 ![1, 2] bcast_S16384x16384_S16x16384x16384_1_2 (cmpi .sle
    (broadcastInDim S16384x16384 ![0, 1] bcast_S1x16384_S16384x16384_0_1 (broadcastInDim S1x16384 ![1] bcast_S16384_S1x16384_1 (iotaInDim S16384 32 0)))
    (broadcastInDim S16384x16384 ![0, 1] bcast_S16384x1_S16384x16384_0_1 (broadcastInDim S16384x1 ![0] bcast_S16384_S16384x1_0 (iotaInDim S16384 32 0)))))
    X (broadcastInDim S16x16384x16384 ![] bcast_S_S16x16384x16384 (constant S_ .f32 0xFF800000#32))
def maxT (X : R3) : R2 := Host.reduce FloatOps.maximumf X (constant S_ .f32 0xFF800000#32) reducesTo_S16x16384x16384_S16x16384_d2 h_S_
def colT (M : R2) : FVec Ideal S16x16384x1 .f32 := broadcastInDim S16x16384x1 ![0, 1] bcast_S16x16384_S16x16384x1_0_1 M
def wideT (M : R2) : R3 := broadcastInDim S16x16384x16384 ![0, 1, 2] bcast_S16x16384x1_S16x16384x16384_0_1_2 (colT M)
def weightT (X : R3) (M : R2) : R3 := Host.exp (subf X (wideT M))
def totalT (E : R3) : R2 := Host.reduceAdd E (constant S_ .f32 0x00000000#32) reducesTo_S16x16384x16384_S16x16384_d2 h_S_
def outT (E : R3) (L : R2) (X : FVec Ideal S16x16384x64 .f32) : FVec Ideal S16x16384x64 .f32 :=
  Host.dotGeneral dot_S16x16384x16384_S16x16384x64_S16x16384x64_2_1_1_2_0_0 none (Host.divf E (wideT L)) X
def lseT (M L : R2) : FVec Ideal S16x16384x1 .f32 :=
  Host.divf (addf (colT M) (Host.log (colT L))) (broadcastInDim S16x16384x1 ![] bcast_S_S16x16384x1 (Host.log (constant S_ .f32 0x40000000#32)))
def dltT (A B : FVec Ideal S16x16384x64 .f32) : FVec Ideal S16x16384x1 .f32 :=
  colT (Host.reduceAdd (mulf A B) (constant S_ .f32 0x00000000#32) reducesTo_S16x16384x64_S16x16384_d2 h_S_)
def lanesT0 (X : FVec Ideal S16x16384x1 .f32) : FVec Ideal S16384x1024 .f32 :=
  shapeCast S16384x1024 (broadcastInDim S16384x8x128 ![0, 1, 2] bcast_S16384x8x1_S16384x8x128_0_1_2 (broadcastInDim S16384x8x1 ![0, 1] bcast_S16384x8_S16384x8x1_0_1
    (transpose S16384x8 [1, 0] (shapeCast S8x16384 (extractStridedSlice S8x1x16384 ![0, 0, 0] (shapeCast S8x2x16384 X shapeCasts_S16x16384x1_S8x2x16384) slices_S8x2x16384_S8x1x16384_0_0_0)
      shapeCasts_S8x1x16384_S8x16384) transposes_S8x16384_S16384x8_1_0))) shapeCasts_S16384x8x128_S16384x1024
def lanesT1 (X : FVec Ideal S16x16384x1 .f32) : FVec Ideal S16384x1024 .f32 :=
  shapeCast S16384x1024 (broadcastInDim S16384x8x128 ![0, 1, 2] bcast_S16384x8x1_S16384x8x128_0_1_2 (broadcastInDim S16384x8x1 ![0, 1] bcast_S16384x8_S16384x8x1_0_1
    (transpose S16384x8 [1, 0] (shapeCast S8x16384 (extractStridedSlice S8x1x16384 ![0, 1, 0] (shapeCast S8x2x16384 X shapeCasts_S16x16384x1_S8x2x16384) slices_S8x2x16384_S8x1x16384_0_1_0)
      shapeCasts_S8x1x16384_S8x16384) transposes_S8x16384_S16384x8_1_0))) shapeCasts_S16384x8x128_S16384x1024
def scaledT (X : FVec Ideal S16384x1024 .f32) : FVec Ideal S16384x1024 .f32 :=
  Host.divf (mulf X (broadcastInDim S16384x1024 ![] bcast_S_S16384x1024 (constant S_ .f32 0x3E000000#32)))
    (broadcastInDim S16384x1024 ![] bcast_S_S16384x1024 (Host.log (constant S_ .f32 0x40000000#32)))
def gatesT (X : FVec Ideal S16384x16 .f32) : FVec Ideal S8x2x16384 .f32 :=
  shapeCast S8x2x16384 (transpose S16x16384 [1, 0] (Host.divf X (broadcastInDim S16384x16 ![] bcast_S_S16384x16 (Host.log (constant S_ .f32 0x40000000#32)))) transposes_S16384x16_S16x16384_1_0) shapeCasts_S16x16384_S8x2x16384
def zeroT : FVec Ideal S16384x1024 .f32 := broadcastInDim S16384x1024 ![] bcast_S_S16384x1024 (constant S_ .f32 0x00000000#32)
def firstT (L : IVec S1x1024 1) (X : FVec Ideal S16384x1024 .f32) : FVec Ideal S16384x1024 .bf16 :=
  truncf .bf16 (select (broadcastInDim S16384x1024 ![0, 1] bcast_S1x1024_S16384x1024_0_1 L) X zeroT) bitsLt_bf16_f32
def secondT (L : IVec S1x1024 1) (X : FVec Ideal S16384x1024 .f32) : FVec Ideal S16384x1024 .bf16 :=
  truncf .bf16 (select (broadcastInDim S16384x1024 ![0, 1] bcast_S1x1024_S16384x1024_0_1 L) zeroT X) bitsLt_bf16_f32

/-! ## The functions at an index -/

theorem headsT_apply (X) (i : S16x16384x64.Idx) : headsT X i = X (ValueIdx.ix2 (n0 := 16384) (n1 := 1024) (i 1) (feat (i 0) (i 2))) := by
  unfold headsT; pointwise; rfl
theorem scoreT_apply (A B C) (i : S16x16384x16384.Idx) : scoreT A B C i
    = (∑ d, A (ValueIdx.ix3 (i 0) (i 1) d) * B (ValueIdx.ix3 (i 0) (i 2) d)) * Ideal.ofBits .f32 0x3E000000#32 - C (ValueIdx.ix2 (i 2) (i 0)) := by
  unfold scoreT; pointwise; rfl
theorem maskedT_apply (X) (i : S16x16384x16384.Idx) :
    maskedT X i = Scalar.select (IntOp.cmpi .sle (BitVec.ofNat 32 (i 2).val) (BitVec.ofNat 32 (i 1).val)) (X i) (Ideal.ofBits .f32 0xFF800000#32) := by
  unfold maskedT; pointwise
theorem weightT_apply (X M) (i : S16x16384x16384.Idx) : weightT X M i = Ideal.exp (X i - M (ValueIdx.ix2 (i 0) (i 1))) := by
  unfold weightT wideT colT; pointwise; rfl
theorem totalT_apply (X) (i : S16x16384.Idx) : totalT X i = ∑ j, X (ValueIdx.ix3 (i 0) (i 1) j) := by unfold totalT; pointwise; rfl
theorem outT_apply (E L X) (i : S16x16384x64.Idx) :
    outT E L X i = ∑ j, Ideal.div (E (ValueIdx.ix3 (i 0) (i 1) j)) (L (ValueIdx.ix2 (i 0) (i 1))) * X (ValueIdx.ix3 (i 0) j (i 2)) := by
  unfold outT wideT colT; pointwise; rfl
theorem lseT_apply (M L) (i : S16x16384x1.Idx) : lseT M L i
    = Ideal.div (M (ValueIdx.ix2 (i 0) (i 1)) + Ideal.log (L (ValueIdx.ix2 (i 0) (i 1)))) (Ideal.log (Ideal.ofBits .f32 0x40000000#32)) := by
  unfold lseT colT; pointwise; rfl
theorem dltT_apply (A B) (i : S16x16384x1.Idx) : dltT A B i = ∑ d, A (ValueIdx.ix3 (i 0) (i 1) d) * B (ValueIdx.ix3 (i 0) (i 1) d) := by
  unfold dltT colT; pointwise; rfl

/-- The head of a lane's pair. -/
def headAt (l : Fin 1024) (h : ℕ) (hh : h < 2) : Fin 16 := ⟨l.val / 128 * 2 + h, by omega⟩

theorem lanesT0_apply (X) (i : S16384x1024.Idx) :
    lanesT0 X i = X (ValueIdx.ix3 (n0 := 16) (n1 := 16384) (n2 := 1) (headAt (i 1) 0 (by decide)) (i 0) 0) := by unfold lanesT0; pointwise; rfl
theorem lanesT1_apply (X) (i : S16384x1024.Idx) :
    lanesT1 X i = X (ValueIdx.ix3 (n0 := 16) (n1 := 16384) (n2 := 1) (headAt (i 1) 1 (by decide)) (i 0) 0) := by unfold lanesT1; pointwise; rfl
theorem scaledT_apply (X) (i : S16384x1024.Idx) :
    scaledT X i = Ideal.div (X i * Ideal.ofBits .f32 0x3E000000#32) (Ideal.log (Ideal.ofBits .f32 0x40000000#32)) := by unfold scaledT; pointwise
theorem gatesT_apply (X) (i : S8x2x16384.Idx) (h : Fin 16) (hh : h.val = (i 0).val * 2 + (i 1).val) :
    gatesT X i = Ideal.div (X (ValueIdx.ix2 (n0 := 16384) (n1 := 16) (i 2) h)) (Ideal.log (Ideal.ofBits .f32 0x40000000#32)) := by
  obtain ⟨h, hl⟩ := h
  subst hh
  unfold gatesT; pointwise; rfl
theorem firstT_apply (L X) (i : S16384x1024.Idx) : firstT L X i = Scalar.select (L (ValueIdx.ix2 (n0 := 1) (n1 := 1024) 0 (i 1))) (X i) 0 := by
  unfold firstT zeroT; pointwise; rfl
theorem secondT_apply (L X) (i : S16384x1024.Idx) : secondT L X i = Scalar.select (L (ValueIdx.ix2 (n0 := 1) (n1 := 1024) 0 (i 1))) 0 (X i) := by
  unfold secondT zeroT; pointwise; rfl

/-! ## What the buffers hold when the kernel begins -/

/-- The masked scores. -/
def maskedV (Q K : FVec Ideal S16384x1024 .f32) (C : FVec Ideal S16384x16 .f32) : R3 := maskedT (scoreT (headsT Q) (headsT K) C)

theorem V_masked : V m c main_v17 = maskedV (m ((c : Thread nD τ).loc main_arg0)) (m ((c : Thread nD τ).loc main_arg1)) (m ((c : Thread nD τ).loc main_arg3)) := by
  unfold V
  after_reads_simp
  rfl
theorem V_max : V m c main_v18 = maxT (V m c main_v17) := by
  unfold V
  after_reads_simp
  rfl
theorem V_weight : V m c main_v22 = weightT (V m c main_v17) (V m c main_v18) := by
  unfold V
  after_reads_simp
  rfl
theorem V_total : V m c main_v23 = totalT (V m c main_v22) := by
  unfold V
  after_reads_simp
  rfl
theorem V_out : V m c main_v29 = outT (V m c main_v22) (V m c main_v23) (headsT (m ((c : Thread nD τ).loc main_arg2))) := by
  unfold V
  after_reads_simp
  rfl
theorem V_lse : V m c main_v35 = lseT (V m c main_v18) (V m c main_v23) := by
  unfold V
  after_reads_simp
  rfl
theorem V_dlt : V m c main_v40 = dltT (headsT (m ((c : Thread nD τ).loc main_arg4))) (V m c main_v29) := by
  unfold V
  after_reads_simp
  rfl
theorem V_lse0 : V m c main_v76 = lanesT0 (V m c main_v35) := by
  unfold V
  after_reads_simp
  rfl
theorem V_lse1 : V m c main_v83 = lanesT1 (V m c main_v35) := by
  unfold V
  after_reads_simp
  rfl
theorem V_dlt0 : V m c main_v90 = lanesT0 (V m c main_v40) := by
  unfold V
  after_reads_simp
  rfl
theorem V_dlt1 : V m c main_v97 = lanesT1 (V m c main_v40) := by
  unfold V
  after_reads_simp
  rfl
theorem V_gates : V m c main_v67 = gatesT (m ((c : Thread nD τ).loc main_arg3)) := by
  unfold V
  after_reads_simp
  rfl
theorem V_qa : V m c main_v52 = firstT (V m c main_v45) (scaledT (m ((c : Thread nD τ).loc main_arg0))) := by
  unfold V
  after_reads_simp
  rfl
theorem V_qb : V m c main_v54 = secondT (V m c main_v45) (scaledT (m ((c : Thread nD τ).loc main_arg0))) := by
  unfold V
  after_reads_simp
  rfl
theorem V_ka : V m c main_v56 = firstT (V m c main_v45) (m ((c : Thread nD τ).loc main_arg1)) := by
  unfold V
  after_reads_simp
  rfl
theorem V_kb : V m c main_v58 = secondT (V m c main_v45) (m ((c : Thread nD τ).loc main_arg1)) := by
  unfold V
  after_reads_simp
  rfl
theorem V_doa : V m c main_v60 = firstT (V m c main_v45) (m ((c : Thread nD τ).loc main_arg4)) := by
  unfold V
  after_reads_simp
  rfl
theorem V_dob : V m c main_v62 = secondT (V m c main_v45) (m ((c : Thread nD τ).loc main_arg4)) := by
  unfold V
  after_reads_simp
  rfl
theorem V_k : V m c main_v68 = m ((c : Thread nD τ).loc main_arg1) := by
  unfold V
  after_reads_simp
  rfl
theorem V_v : V m c main_v69 = m ((c : Thread nD τ).loc main_arg2) := by
  unfold V
  after_reads_simp
  rfl

theorem mod_table : ∀ l : Fin 1024, Scalar.select
      (IntOp.andi (IntOp.cmpi .ne (IntOp.cmpi .slt (IntOp.remsi ArithUnit.host (BitVec.ofNat 32 l.val) (Scalar.select (IntOp.cmpi .eq 128#32 0#32) 1#32 128#32)) 0#32)
            (IntOp.cmpi .slt (Scalar.select (IntOp.cmpi .eq 128#32 0#32) 1#32 128#32) 0#32))
        (IntOp.cmpi .ne (IntOp.remsi ArithUnit.host (BitVec.ofNat 32 l.val) (Scalar.select (IntOp.cmpi .eq 128#32 0#32) 1#32 128#32)) 0#32))
      (IntOp.addi (IntOp.remsi ArithUnit.host (BitVec.ofNat 32 l.val) (Scalar.select (IntOp.cmpi .eq 128#32 0#32) 1#32 128#32))
        (Scalar.select (IntOp.cmpi .eq 128#32 0#32) 1#32 128#32))
      (IntOp.remsi ArithUnit.host (BitVec.ofNat 32 l.val) (Scalar.select (IntOp.cmpi .eq 128#32 0#32) 1#32 128#32))
    = BitVec.ofNat 32 (l.val % 128) := by decide +kernel

theorem V_mod (i : S1024.Idx) : V m c main_v42 i = BitVec.ofNat 32 ((i 0).val % 128) := by
  unfold V
  after_reads_at
  exact mod_table (i 0)

theorem half_table : ∀ l : Fin 1024, IntOp.cmpi .slt (BitVec.ofNat 32 (l.val % 128)) 64#32 = if l.val % 128 < 64 then 1#1 else 0#1 := by decide +kernel

theorem V_half (i : S1x1024.Idx) : V m c main_v45 i = if (i 1).val % 128 < 64 then 1#1 else 0#1 := by
  have e : V m c main_v45 = broadcastInDim S1x1024 ![1] bcast_S1024_S1x1024_1 (cmpi .slt (V m c main_v42) (broadcastInDim S1024 ![] bcast_S_S1024 (constantI S_ 32 64#32))) := by
    unfold V
    after_reads_simp
  rw [e]
  generalize hX : (V m c main_v42 : IVec S1024 32) = X
  have hX' : ∀ j, X j = BitVec.ofNat 32 ((j 0).val % 128) := fun j => hX ▸ V_mod m c j
  pointwise
  rw [hX']
  exact half_table (i 1)

end Fox.Host

end
-- ==== Proof.Fox.Host.lean ====
/-
  What the host prepares for the kernel, on real arguments: the halves of the operands, the rows' log-sums in base 2, the rows' sums of
  gradient times output, the gates.
-/
module

public import proofs.«01_k».proof.Proof.Fox.HostOps

@[expose] public section

noncomputable section

open scoped BigOperators
open Idealize.ShloMosaic Idealize.SL.Sem Cert.KernelIdeal Cert.KernelIdeal.Gen TcCoe

namespace Fox.Host

variable (m : (ℓ : Loc nD τ sig) → Buf (Elt Ideal) ℓ) (c : Dev nD)

/-! ## The values on real arguments -/

/-- The arguments in memory are real arrays. -/
structure Holds (q k v : Mat) (g : Gates) (ct : Mat) : Prop where
  hq : m ((c : Thread nD τ).loc main_arg0) = up q
  hk : m ((c : Thread nD τ).loc main_arg1) = up k
  hv : m ((c : Thread nD τ).loc main_arg2) = up v
  hg : m ((c : Thread nD τ).loc main_arg3) = up g
  hct : m ((c : Thread nD τ).loc main_arg4) = up ct

variable (q k v ct : Mat) (g : Gates)

theorem heads_up (f : Mat) (i : S16x16384x64.Idx) : headsT (up f) i = ((f (i 1) (feat (i 0) (i 2)) : ℝ) : EReal) := headsT_apply _ i

theorem masked_up (i : S16x16384x16384.Idx) :
    maskedV (up q) (up k) (up g) i = if (i 2 : Fin 16384) ≤ (i 1 : Fin 16384) then ((score q k g (i 0) (i 1) (i 2) : ℝ) : EReal) else ⊥ := by
  have h1 : (i 1).val < 16384 := (i 1).isLt
  have h2 : (i 2).val < 16384 := (i 2).isLt
  have e : scoreT (headsT (up q)) (headsT (up k)) (up g) i = ((score q k g (i 0) (i 1) (i 2) : ℝ) : EReal) := by
    rw [scoreT_apply]
    simp only [heads_up, ofBits_eighth, ← EReal.coe_mul, coe_sum]
    exact (EReal.coe_sub _ _).symm
  unfold maskedV
  rw [maskedT_apply, sle_ofNat (a := (i 2).val) (b := (i 1).val) (by omega) (by omega), select_ite, e, ofBits_neg_inf]
  rfl

/-- A row's maximum is a real number. -/
theorem exists_max (h : Fin 16) (r : Fin 16384) :
    ∃ x : ℝ, maxT (maskedV (up q) (up k) (up g)) (ValueIdx.ix2 (n0 := 16) (n1 := 16384) h r) = (x : EReal) := by
  have hr : S16x16384x16384.Reduces [2] S16x16384 := by decide
  obtain ⟨x, hx⟩ := exists_fold_max (fun j : Fin 16384 => maskedV (up q) (up k) (up g) (hr.lift (ValueIdx.ix2 (n0 := 16) (n1 := 16384) h r) j))
    (fun j => by rw [masked_up]; split; exacts [EReal.coe_ne_top _, bot_ne_top]) r (by
      rw [masked_up, if_pos]
      · exact EReal.coe_ne_bot _
      · exact le_of_eq rfl)
  refine ⟨x, ?_⟩
  unfold maxT
  rw [Host.reduce_eq_fold_single FloatOps.maximumf _ _ _ hr]
  refine Eq.trans ?_ hx
  rw [show constant (F := Ideal) S_ .f32 0xFF800000#32 _ = ⊥ from ofBits_neg_inf]
  rfl

/-- A row's maximum. -/
def rowMax (h : Fin 16) (r : Fin 16384) : ℝ := Classical.choose (exists_max q k g h r)

theorem max_up (i : S16x16384.Idx) : maxT (maskedV (up q) (up k) (up g)) i = ((rowMax q k g (i 0) (i 1) : ℝ) : EReal) :=
  (congrArg _ (ValueIdx.eq_ix2 i)).trans (Classical.choose_spec (exists_max q k g (i 0) (i 1)))

/-- The scores with a row's maximum subtracted. -/
def shifted (h : Fin 16) : Fin 16384 → Fin 16384 → ℝ := fun i j => score q k g h i j - rowMax q k g h i

theorem exp_up (j r : Fin 16384) (s s' : Fin 16384 → Fin 16384 → ℝ) (b : ℝ) (hs : s' r j = s r j - b) :
    Ideal.exp ((if j ≤ r then ((s r j : ℝ) : EReal) else ⊥) - ((b : ℝ) : EReal)) = ((weight s' r j : ℝ) : EReal) := by
  unfold weight
  split
  · rw [hs, ← EReal.coe_sub, Ideal.exp_coe]
  · rw [EReal.bot_sub, Ideal.exp_bot, EReal.coe_zero]

/-- The exponentials. -/
def expV (Q K : FVec Ideal S16384x1024 .f32) (C : FVec Ideal S16384x16 .f32) : R3 := weightT (maskedV Q K C) (maxT (maskedV Q K C))

theorem weight_up (i : S16x16384x16384.Idx) :
    expV (up q) (up k) (up g) i = ((weight (shifted q k g (i 0)) (i 1) (i 2) : ℝ) : EReal) := by
  unfold expV
  rw [weightT_apply, masked_up, max_up]
  exact exp_up (i 2 : Fin 16384) (i 1 : Fin 16384) (score q k g (i 0)) _ (rowMax q k g (i 0) (i 1)) rfl

theorem total_up (i : S16x16384.Idx) : totalT (expV (up q) (up k) (up g)) i = ((total (shifted q k g (i 0)) (i 1) : ℝ) : EReal) := by
  rw [totalT_apply]
  simp only [weight_up]
  exact coe_sum _ _

theorem prob_up (h : Fin 16) (r j : Fin 16384) :
    Ideal.div ((weight (shifted q k g h) r j : ℝ) : EReal) ((total (shifted q k g h) r : ℝ) : EReal) = ((probs q k g h r j : ℝ) : EReal) :=
  (div_coe_coe (total_pos _ _).ne').trans (congrArg (fun x : ℝ => (x : EReal)) (prob_shift (score q k g h) (rowMax q k g h) r j))

theorem out_up (i : S16x16384x64.Idx) :
    outT (expV (up q) (up k) (up g)) (totalT (expV (up q) (up k) (up g))) (headsT (up v)) i
      = ((∑ j, probs q k g (i 0) (i 1) j * v j (feat (i 0) (i 2)) : ℝ) : EReal) := by
  rw [outT_apply, ← coe_sum]
  refine Finset.sum_congr rfl fun j _ => ?_
  rw [weight_up, total_up, heads_up, EReal.coe_mul]
  exact congrArg (fun x : EReal => x * _) (prob_up q k g (i 0) (i 1) j)

/-- The log-sum of a row, in base 2. -/
def lse (h : Fin 16) (r : Fin 16384) : ℝ := (rowMax q k g h r + Real.log (total (shifted q k g h) r)) / Real.log 2

theorem log_two : Ideal.log (Ideal.ofBits .f32 0x40000000#32) = ((Real.log 2 : ℝ) : EReal) := by
  rw [ofBits_two]
  exact (Ideal.log_coe 2).trans (if_neg (by norm_num))

theorem log_two_ne : Real.log 2 ≠ 0 := (Real.log_pos (by norm_num)).ne'

theorem lse_term (a t : ℝ) (ht : 0 < t) :
    Ideal.div ((a : EReal) + Ideal.log (t : EReal)) (Ideal.log (Ideal.ofBits .f32 0x40000000#32)) = (((a + Real.log t) / Real.log 2 : ℝ) : EReal) := by
  rw [log_two, Ideal.log_coe, if_neg (not_le.mpr ht), ← EReal.coe_add, div_coe_coe log_two_ne]

theorem lse_up (i : S16x16384x1.Idx) :
    lseT (maxT (maskedV (up q) (up k) (up g))) (totalT (expV (up q) (up k) (up g))) i = ((lse q k g (i 0) (i 1) : ℝ) : EReal) := by
  rw [lseT_apply, max_up, total_up]
  exact lse_term _ _ (total_pos _ _)

theorem dlt_up (i : S16x16384x1.Idx) :
    dltT (headsT (up ct)) (outT (expV (up q) (up k) (up g)) (totalT (expV (up q) (up k) (up g))) (headsT (up v))) i
      = ((delta q k v ct g (i 0) (i 1) : ℝ) : EReal) := by
  rw [dltT_apply]
  refine Eq.trans ?_ (congrArg (fun x : ℝ => (x : EReal)) (delta_eq q k v ct g (i 0) (i 1)))
  rw [← coe_sum]
  refine Finset.sum_congr rfl fun d _ => ?_
  rw [heads_up, out_up, EReal.coe_mul]

variable {m c q k v ct g} (H : Holds m c q k v g ct)
include H

theorem lse0_at (i : S16384x1024.Idx) : V m c main_v76 i = ((lse q k g (headAt (i 1) 0 (by decide)) (i 0) : ℝ) : EReal) := by
  rw [V_lse0, V_lse, V_total, V_weight, V_max, V_masked, H.hq, H.hk, H.hg, lanesT0_apply]; exact lse_up q k g _
theorem lse1_at (i : S16384x1024.Idx) : V m c main_v83 i = ((lse q k g (headAt (i 1) 1 (by decide)) (i 0) : ℝ) : EReal) := by
  rw [V_lse1, V_lse, V_total, V_weight, V_max, V_masked, H.hq, H.hk, H.hg, lanesT1_apply]; exact lse_up q k g _
theorem dlt0_at (i : S16384x1024.Idx) : V m c main_v90 i = ((delta q k v ct g (headAt (i 1) 0 (by decide)) (i 0) : ℝ) : EReal) := by
  rw [V_dlt0, V_dlt, V_out, V_total, V_weight, V_max, V_masked, H.hq, H.hk, H.hg, H.hv, H.hct, lanesT0_apply]; exact dlt_up q k v ct g _
theorem dlt1_at (i : S16384x1024.Idx) : V m c main_v97 i = ((delta q k v ct g (headAt (i 1) 1 (by decide)) (i 0) : ℝ) : EReal) := by
  rw [V_dlt1, V_dlt, V_out, V_total, V_weight, V_max, V_masked, H.hq, H.hk, H.hg, H.hv, H.hct, lanesT1_apply]; exact dlt_up q k v ct g _

theorem gates_at (i : S8x2x16384.Idx) (h : Fin 16) (hh : h.val = (i 0).val * 2 + (i 1).val) :
    V m c main_v67 i = ((g (i 2) h / Real.log 2 : ℝ) : EReal) := by
  rw [V_gates, H.hg, gatesT_apply _ i h hh, log_two]; exact div_coe_coe log_two_ne

theorem scaled_up (f : Mat) (i : S16384x1024.Idx) : scaledT (up f) i = ((f (i 0) (i 1) * (1 / 8) / Real.log 2 : ℝ) : EReal) := by
  rw [scaledT_apply, log_two, ofBits_eighth]
  exact (congrArg (fun x : EReal => Ideal.div x _) (EReal.coe_mul _ _).symm).trans (div_coe_coe log_two_ne)

theorem first_at {X : FVec Ideal S16384x1024 .f32} (f : Mat) (i : S16384x1024.Idx) (hX : X i = ((f (i 0) (i 1) : ℝ) : EReal)) :
    firstT (V m c main_v45) X i = ((if (i 1).val % 128 < 64 then f (i 0) (i 1) else 0 : ℝ) : EReal) := by
  rw [firstT_apply, V_half]
  refine (select_ite _ _).trans ?_
  show (if (i 1).val % 128 < 64 then X i else 0) = _
  rw [hX]
  split <;> simp
theorem second_at {X : FVec Ideal S16384x1024 .f32} (f : Mat) (i : S16384x1024.Idx) (hX : X i = ((f (i 0) (i 1) : ℝ) : EReal)) :
    secondT (V m c main_v45) X i = ((if (i 1).val % 128 < 64 then 0 else f (i 0) (i 1) : ℝ) : EReal) := by
  rw [secondT_apply, V_half]
  refine (select_ite _ _).trans ?_
  show (if (i 1).val % 128 < 64 then 0 else X i) = _
  rw [hX]
  split <;> simp

theorem qa_at (i : S16384x1024.Idx) : V m c main_v52 i = ((if (i 1).val % 128 < 64 then q (i 0) (i 1) * (1 / 8) / Real.log 2 else 0 : ℝ) : EReal) := by
  rw [V_qa, H.hq]; exact first_at H (fun a b => q a b * (1 / 8) / Real.log 2) i (scaled_up H q i)
theorem qb_at (i : S16384x1024.Idx) : V m c main_v54 i = ((if (i 1).val % 128 < 64 then 0 else q (i 0) (i 1) * (1 / 8) / Real.log 2 : ℝ) : EReal) := by
  rw [V_qb, H.hq]; exact second_at H (fun a b => q a b * (1 / 8) / Real.log 2) i (scaled_up H q i)
theorem ka_at (i : S16384x1024.Idx) : V m c main_v56 i = ((if (i 1).val % 128 < 64 then k (i 0) (i 1) else 0 : ℝ) : EReal) := by
  rw [V_ka, H.hk]; exact first_at H k i rfl
theorem kb_at (i : S16384x1024.Idx) : V m c main_v58 i = ((if (i 1).val % 128 < 64 then 0 else k (i 0) (i 1) : ℝ) : EReal) := by
  rw [V_kb, H.hk]; exact second_at H k i rfl
theorem doa_at (i : S16384x1024.Idx) : V m c main_v60 i = ((if (i 1).val % 128 < 64 then ct (i 0) (i 1) else 0 : ℝ) : EReal) := by
  rw [V_doa, H.hct]; exact first_at H ct i rfl
theorem dob_at (i : S16384x1024.Idx) : V m c main_v62 i = ((if (i 1).val % 128 < 64 then 0 else ct (i 0) (i 1) : ℝ) : EReal) := by
  rw [V_dob, H.hct]; exact second_at H ct i rfl
theorem k_at (i : S16384x1024.Idx) : V m c main_v68 i = ((k (i 0) (i 1) : ℝ) : EReal) := by rw [V_k, H.hk]; rfl
theorem v_at (i : S16384x1024.Idx) : V m c main_v69 i = ((v (i 0) (i 1) : ℝ) : EReal) := by rw [V_v, H.hv]; rfl

end Fox.Host

end
-- ==== Proof.Fox.Inputs.lean ====
/-
  The real blocks that a grid point reads, out of the matrices that the arguments hold.
-/
module

public import proofs.«01_k».proof.Proof.Fox.Rows
public import proofs.«01_k».proof.Proof.Fox.Host

@[expose] public section

set_option maxRecDepth 16384

noncomputable section

open scoped BigOperators
open Idealize.ShloMosaic Idealize.SL.Sem Cert.KernelIdeal Cert.KernelIdeal.Gen TcCoe

namespace Fox.Block

/-- Row `r` of block `b`. -/
def row (b : ℕ) (r : Fin 1024) : Fin 16384 := ⟨b % 16 * 1024 + r.val, by omega⟩
/-- Point `n`'s pair of heads; its lane `l` and its head `h` among all. -/
def pair (n : ℕ) : ℕ := n / 256 % 8
def lane (n : ℕ) (l : Fin 128) : Fin 1024 := ⟨pair n * 128 + l.val, by unfold pair; omega⟩
def head (n : ℕ) (h : Fin 2) : Fin 16 := ⟨pair n * 2 + h.val, by unfold pair; omega⟩
/-- Its key block, and the query block that it reads. -/
def kblk (n : ℕ) : ℕ := n / 16 % 16
def qblk (n : ℕ) : ℕ := max (n % 16) (n / 16 % 16)

/-- Lanes of head `h` only. -/
def only (h : Fin 2) (l : Fin 128) (x : ℝ) : ℝ := if l.val / 64 = h.val then x else 0

/-- What point `n` reads. -/
def blocksAt (q k v ct : Mat) (g : Gates) (n : ℕ) : Ins where
  Q h r l := only h l (q (row (qblk n) r) (lane n l) * (1 / 8) / Real.log 2)
  O h r l := only h l (ct (row (qblk n) r) (lane n l))
  KM h j l := only h l (k (row (kblk n) j) (lane n l))
  K j l := k (row (kblk n) j) (lane n l)
  V j l := v (row (kblk n) j) (lane n l)
  L h r := Host.lse q k g (head n h) (row (qblk n) r)
  D h r := delta q k v ct g (head n h) (row (qblk n) r)
  C h j := g (row (kblk n) j) (head n h) / Real.log 2

/-! ## Where the windows' blocks lie -/

theorem word_max : ∀ a b : Fin 16, (Scalar.maxsi (BitVec.ofNat 32 a.val) (BitVec.ofNat 32 b.val)).toNat = max a.val b.val := by decide

theorem word_nat {a : ℕ} (h : a < 2048) : (BitVec.ofNat 32 a).toNat = a := by rw [BitVec.toNat_ofNat]; omega

theorem idx_q (t : Fin cfg0.N) : cc0_transform_0 (grid0.coords t) = ![max (t.val % 16) (t.val / 16 % 16), t.val / 256 % 8] := by
  have e0 := coord0 t
  have e1 := coord1 t
  have e2 := coord2 t
  have h := word_max ⟨(grid0.coords t 2).val, (grid0.coords t 2).isLt⟩ ⟨(grid0.coords t 1).val, (grid0.coords t 1).isLt⟩
  refine funext (Fin.forall_fin_two.mpr ⟨h.trans ?_, (word_nat ?_).trans e0⟩)
  · show max (grid0.coords t 2).val (grid0.coords t 1).val = _
    rw [e1, e2]; rfl
  · omega

theorem idx_k (t : Fin cfg0.N) : cc0_transform_2 (grid0.coords t) = ![t.val / 16 % 16, t.val / 256 % 8] := by
  have e0 := coord0 t
  have e1 := coord1 t
  exact funext (Fin.forall_fin_two.mpr ⟨(word_nat (by omega)).trans e1, (word_nat (by omega)).trans e0⟩)

theorem idx_c (t : Fin cfg0.N) : cc0_transform_12 (grid0.coords t) = ![t.val / 256 % 8, 0, t.val / 16 % 16] := by
  have e0 := coord0 t
  have e1 := coord1 t
  exact funext (Fin.forall_fin_succ.mpr ⟨(word_nat (by omega)).trans e0, Fin.forall_fin_two.mpr ⟨rfl, (word_nat (by omega)).trans e1⟩⟩)

theorem q0 (t : Fin cfg0.N) (r : Fin 1024) : cc0_transform_0 (grid0.coords t) 0 * 1024 + r.val = (row (qblk t.val) r).val := by
  rw [idx_q]; show max (t.val % 16) (t.val / 16 % 16) * 1024 + r.val = max (t.val % 16) (t.val / 16 % 16) % 16 * 1024 + r.val; omega
theorem q1 (t : Fin cfg0.N) (l : Fin 128) : cc0_transform_0 (grid0.coords t) 1 * 128 + l.val = (lane t.val l).val := by rw [idx_q]; rfl
theorem k0 (t : Fin cfg0.N) (r : Fin 1024) : cc0_transform_2 (grid0.coords t) 0 * 1024 + r.val = (row (kblk t.val) r).val := by
  rw [idx_k]; show t.val / 16 % 16 * 1024 + r.val = t.val / 16 % 16 % 16 * 1024 + r.val; omega
theorem k1 (t : Fin cfg0.N) (l : Fin 128) : cc0_transform_2 (grid0.coords t) 1 * 128 + l.val = (lane t.val l).val := by rw [idx_k]; rfl

theorem place {z : S16384x1024.Idx} {a : Fin 16384} {b : Fin 1024} (h0 : (z 0).val = a.val) (h1 : (z 1).val = b.val) : z = ValueIdx.ix2 (n0 := 16384) (n1 := 1024) a b :=
  funext (Fin.forall_fin_two.mpr ⟨Fin.ext h0, Fin.ext h1⟩)

/-! ## The blocks -/

abbrev at2 (a : ℕ) (n : ℕ) (y : S1024x128.Idx) : S16384x1024.Idx := ValueIdx.ix2 (n0 := 16384) (n1 := 1024) (row a (y 0)) (lane n (y 1))

section
variable (m : (ℓ : Loc nD τ sig) → Buf (Elt Ideal) ℓ) (c : Dev nD) (t : Fin cfg0.N) (y : S1024x128.Idx)

theorem at_0 : iblk m c 0 t y = V m c main_v52 (at2 (qblk t.val) t.val y) := by
  blk_simp [iblk]; exact congrArg (V m c main_v52) (place (by blk_simp; exact q0 t (y 0)) (by blk_simp; exact q1 t (y 1)))
theorem at_1 : iblk m c 1 t y = V m c main_v54 (at2 (qblk t.val) t.val y) := by
  blk_simp [iblk]; exact congrArg (V m c main_v54) (place (by blk_simp; exact q0 t (y 0)) (by blk_simp; exact q1 t (y 1)))
theorem at_2 : iblk m c 2 t y = V m c main_v68 (at2 (kblk t.val) t.val y) := by
  blk_simp [iblk]; exact congrArg (V m c main_v68) (place (by blk_simp; exact k0 t (y 0)) (by blk_simp; exact k1 t (y 1)))
theorem at_3 : iblk m c 3 t y = V m c main_v56 (at2 (kblk t.val) t.val y) := by
  blk_simp [iblk]; exact congrArg (V m c main_v56) (place (by blk_simp; exact k0 t (y 0)) (by blk_simp; exact k1 t (y 1)))
theorem at_4 : iblk m c 4 t y = V m c main_v58 (at2 (kblk t.val) t.val y) := by
  blk_simp [iblk]; exact congrArg (V m c main_v58) (place (by blk_simp; exact k0 t (y 0)) (by blk_simp; exact k1 t (y 1)))
theorem at_5 : iblk m c 5 t y = V m c main_v69 (at2 (kblk t.val) t.val y) := by
  blk_simp [iblk]; exact congrArg (V m c main_v69) (place (by blk_simp; exact k0 t (y 0)) (by blk_simp; exact k1 t (y 1)))
theorem at_6 : iblk m c 6 t y = V m c main_v60 (at2 (qblk t.val) t.val y) := by
  blk_simp [iblk]; exact congrArg (V m c main_v60) (place (by blk_simp; exact q0 t (y 0)) (by blk_simp; exact q1 t (y 1)))
theorem at_7 : iblk m c 7 t y = V m c main_v62 (at2 (qblk t.val) t.val y) := by
  blk_simp [iblk]; exact congrArg (V m c main_v62) (place (by blk_simp; exact q0 t (y 0)) (by blk_simp; exact q1 t (y 1)))
theorem at_8 : iblk m c 8 t y = V m c main_v76 (at2 (qblk t.val) t.val y) := by
  blk_simp [iblk]; exact congrArg (V m c main_v76) (place (by blk_simp; exact q0 t (y 0)) (by blk_simp; exact q1 t (y 1)))
theorem at_9 : iblk m c 9 t y = V m c main_v83 (at2 (qblk t.val) t.val y) := by
  blk_simp [iblk]; exact congrArg (V m c main_v83) (place (by blk_simp; exact q0 t (y 0)) (by blk_simp; exact q1 t (y 1)))
theorem at_10 : iblk m c 10 t y = V m c main_v90 (at2 (qblk t.val) t.val y) := by
  blk_simp [iblk]; exact congrArg (V m c main_v90) (place (by blk_simp; exact q0 t (y 0)) (by blk_simp; exact q1 t (y 1)))
theorem at_11 : iblk m c 11 t y = V m c main_v97 (at2 (qblk t.val) t.val y) := by
  blk_simp [iblk]; exact congrArg (V m c main_v97) (place (by blk_simp; exact q0 t (y 0)) (by blk_simp; exact q1 t (y 1)))

theorem at_12 (y : S1x2x1024.Idx) : iblk m c 12 t y = V m c main_v67 (ValueIdx.ix3 (n0 := 8) (n1 := 2) (n2 := 16384) ⟨pair t.val, by unfold pair; omega⟩ (y 1) (row (kblk t.val) (y 2))) := by
  blk_simp [iblk]
  refine congrArg (V m c main_v67) (funext (Fin.forall_fin_succ.mpr ⟨Fin.ext ?_, Fin.forall_fin_two.mpr ⟨Fin.ext ?_, Fin.ext ?_⟩⟩))
  · blk_simp; show cc0_transform_12 (grid0.coords t) 0 = pair t.val
    rw [idx_c]; rfl
  · blk_simp; show cc0_transform_12 (grid0.coords t) 1 * 2 + (y 1).val = (y 1).val
    rw [idx_c]; show 0 * 2 + (y 1).val = (y 1).val; omega
  · blk_simp; show cc0_transform_12 (grid0.coords t) 2 * 1024 + (y 2).val = (row (kblk t.val) (y 2)).val
    rw [idx_c]; show t.val / 16 % 16 * 1024 + (y 2).val = t.val / 16 % 16 % 16 * 1024 + (y 2).val; omega
end

theorem only0 (n : ℕ) (l : Fin 128) (x : ℝ) : (if (lane n l).val % 128 < 64 then x else 0) = only 0 l x := by
  have : (lane n l).val % 128 = l.val := by show (pair n * 128 + l.val) % 128 = l.val; omega
  unfold only; rw [this]; exact if_congr (by show l.val < 64 ↔ l.val / 64 = 0; omega) rfl rfl
theorem only1 (n : ℕ) (l : Fin 128) (x : ℝ) : (if (lane n l).val % 128 < 64 then 0 else x) = only 1 l x := by
  have : (lane n l).val % 128 = l.val := by show (pair n * 128 + l.val) % 128 = l.val; omega
  unfold only; rw [this, ← ite_not]; exact if_congr (by show ¬l.val < 64 ↔ l.val / 64 = 1; omega) rfl rfl
theorem headAt_lane (n : ℕ) (l : Fin 128) (h : Fin 2) : Host.headAt (lane n l) h.val h.isLt = head n h :=
  Fin.ext (by show (pair n * 128 + l.val) / 128 * 2 + h.val = pair n * 2 + h.val; omega)

section
variable {m : (ℓ : Loc nD τ sig) → Buf (Elt Ideal) ℓ} {c : Dev nD} {q k v ct : Mat} {g : Gates} (H : Host.Holds m c q k v g ct) (t : Fin cfg0.N) (y : S1024x128.Idx)
include H

theorem val_0 : V m c main_v52 (at2 (qblk t.val) t.val y) = (((blocksAt q k v ct g t.val).Q 0 (y 0) (y 1) : ℝ) : EReal) :=
  (Host.qa_at H _).trans (congrArg (fun x : ℝ => (x : EReal)) (only0 _ (y 1) _))
theorem val_1 : V m c main_v54 (at2 (qblk t.val) t.val y) = (((blocksAt q k v ct g t.val).Q 1 (y 0) (y 1) : ℝ) : EReal) :=
  (Host.qb_at H _).trans (congrArg (fun x : ℝ => (x : EReal)) (only1 _ (y 1) _))
theorem val_2 : V m c main_v68 (at2 (kblk t.val) t.val y) = (((blocksAt q k v ct g t.val).K (y 0) (y 1) : ℝ) : EReal) :=
  Host.k_at H _
theorem val_3 : V m c main_v56 (at2 (kblk t.val) t.val y) = (((blocksAt q k v ct g t.val).KM 0 (y 0) (y 1) : ℝ) : EReal) :=
  (Host.ka_at H _).trans (congrArg (fun x : ℝ => (x : EReal)) (only0 _ (y 1) _))
theorem val_4 : V m c main_v58 (at2 (kblk t.val) t.val y) = (((blocksAt q k v ct g t.val).KM 1 (y 0) (y 1) : ℝ) : EReal) :=
  (Host.kb_at H _).trans (congrArg (fun x : ℝ => (x : EReal)) (only1 _ (y 1) _))
theorem val_5 : V m c main_v69 (at2 (kblk t.val) t.val y) = (((blocksAt q k v ct g t.val).V (y 0) (y 1) : ℝ) : EReal) :=
  Host.v_at H _
theorem val_6 : V m c main_v60 (at2 (qblk t.val) t.val y) = (((blocksAt q k v ct g t.val).O 0 (y 0) (y 1) : ℝ) : EReal) :=
  (Host.doa_at H _).trans (congrArg (fun x : ℝ => (x : EReal)) (only0 _ (y 1) _))
theorem val_7 : V m c main_v62 (at2 (qblk t.val) t.val y) = (((blocksAt q k v ct g t.val).O 1 (y 0) (y 1) : ℝ) : EReal) :=
  (Host.dob_at H _).trans (congrArg (fun x : ℝ => (x : EReal)) (only1 _ (y 1) _))
theorem val_8 : V m c main_v76 (at2 (qblk t.val) t.val y) = (((blocksAt q k v ct g t.val).L 0 (y 0) : ℝ) : EReal) :=
  (Host.lse0_at H _).trans (congrArg (fun h => ((Host.lse q k g h (row (qblk t.val) (y 0)) : ℝ) : EReal)) (headAt_lane _ (y 1) 0))
theorem val_9 : V m c main_v83 (at2 (qblk t.val) t.val y) = (((blocksAt q k v ct g t.val).L 1 (y 0) : ℝ) : EReal) :=
  (Host.lse1_at H _).trans (congrArg (fun h => ((Host.lse q k g h (row (qblk t.val) (y 0)) : ℝ) : EReal)) (headAt_lane _ (y 1) 1))
theorem val_10 : V m c main_v90 (at2 (qblk t.val) t.val y) = (((blocksAt q k v ct g t.val).D 0 (y 0) : ℝ) : EReal) := by
  have e := Host.dlt0_at H (at2 (qblk t.val) t.val y)
  rw [show Host.headAt ((at2 (qblk t.val) t.val y) 1) 0 (by decide) = head t.val 0 from headAt_lane _ (y 1) 0] at e
  dsimp only [blocksAt]
  exact e
theorem val_11 : V m c main_v97 (at2 (qblk t.val) t.val y) = (((blocksAt q k v ct g t.val).D 1 (y 0) : ℝ) : EReal) := by
  have e := Host.dlt1_at H (at2 (qblk t.val) t.val y)
  rw [show Host.headAt ((at2 (qblk t.val) t.val y) 1) 1 (by decide) = head t.val 1 from headAt_lane _ (y 1) 1] at e
  dsimp only [blocksAt]
  exact e
omit y in
theorem reads : Reads m c t (blocksAt q k v ct g t.val) where
  b0 := funext fun y => (at_0 m c t y).trans (val_0 H t y)
  b1 := funext fun y => (at_1 m c t y).trans (val_1 H t y)
  b2 := funext fun y => (at_2 m c t y).trans (val_2 H t y)
  b3 := funext fun y => (at_3 m c t y).trans (val_3 H t y)
  b4 := funext fun y => (at_4 m c t y).trans (val_4 H t y)
  b5 := funext fun y => (at_5 m c t y).trans (val_5 H t y)
  b6 := funext fun y => (at_6 m c t y).trans (val_6 H t y)
  b7 := funext fun y => (at_7 m c t y).trans (val_7 H t y)
  b8 := funext fun y => (at_8 m c t y).trans (val_8 H t y)
  b9 := funext fun y => (at_9 m c t y).trans (val_9 H t y)
  b10 := funext fun y => (at_10 m c t y).trans (val_10 H t y)
  b11 := funext fun y => (at_11 m c t y).trans (val_11 H t y)
  b12 := funext fun y => (at_12 m c t y).trans (Host.gates_at H _ (head t.val (y 1)) rfl)

end

end Fox.Block

end
-- ==== Proof.Fox.Terms.lean ====
/-
  What one grid point adds to each gradient, in terms of the whole matrices, and the sums of these over the grid.
-/
module

public import proofs.«01_k».proof.Proof.Fox.Inputs

@[expose] public section

set_option maxRecDepth 16384

noncomputable section

open scoped BigOperators

namespace Fox.Block

variable (q k v ct : Mat) (g : Gates) (n : ℕ)

/-! ## One point -/

theorem sum_only (h : Fin 2) (f : Fin 128 → ℝ) : ∑ l, only h l (f l) = ∑ d : Fin 64, f ⟨h.val * 64 + d.val, by omega⟩ := by
  have e0 (d : Fin 64) : (Fin.castAdd 64 d : Fin 128).val / 64 = 0 := by show d.val / 64 = 0; omega
  have e1 (d : Fin 64) : (Fin.natAdd 64 d : Fin 128).val / 64 = 1 := by show (64 + d.val) / 64 = 1; omega
  rw [Fin.sum_univ_add (a := 64) (b := 64) (fun l : Fin 128 => only h l (f l))]
  unfold only
  simp only [e0, e1]
  obtain ⟨h, hh⟩ := h
  obtain rfl | rfl : h = 0 ∨ h = 1 := by omega
  · simp only [if_true, Nat.one_ne_zero, if_false, Finset.sum_const_zero, add_zero]
    exact Finset.sum_congr rfl fun d _ => congrArg f (Fin.ext (by simp))
  · simp only [if_true, Nat.zero_ne_one, if_false, Finset.sum_const_zero, zero_add]
    exact Finset.sum_congr rfl fun d _ => congrArg f (Fin.ext (by simp [Nat.add_comm]))

theorem lane_feat (h : Fin 2) (d : Fin 64) : lane n ⟨h.val * 64 + d.val, by omega⟩ = feat (head n h) d :=
  Fin.ext (by show pair n * 128 + (h.val * 64 + d.val) = (pair n * 2 + h.val) * 64 + d.val; omega)

/-- A product with one head's lanes, as a sum over that head's features. -/
theorem sum_head (h : Fin 2) (a b : Fin 1024 → ℝ) : ∑ l, only h l (a (lane n l)) * b (lane n l) = ∑ d : Fin 64, a (feat (head n h) d) * b (feat (head n h) d) := by
  have : ∀ l, only h l (a (lane n l)) * b (lane n l) = only h l (a (lane n l) * b (lane n l)) := fun l => by unfold only; split <;> simp
  simp only [this, sum_only, lane_feat]

theorem head_lane (h : Fin 2) (l : Fin 128) (hl : l.val / 64 = h.val) : head n h = headOf (lane n l) :=
  Fin.ext (by show pair n * 2 + h.val = (pair n * 128 + l.val) / 64; omega)

section Active
variable (ha : n / 16 % 16 ≤ n % 16)
include ha

theorem qblk_active : qblk n = n % 16 := max_eq_left ha

theorem le_row (r j : Fin 1024) : row (kblk n) j ≤ row (n % 16) r ↔ (decide (n / 16 % 16 = n % 16) = true → j.val ≤ r.val) := by
  rw [decide_eq_true_iff]
  show n / 16 % 16 % 16 * 1024 + j.val ≤ n % 16 % 16 * 1024 + r.val ↔ _
  constructor
  · intro h e; omega
  · intro h
    by_cases e : n / 16 % 16 = n % 16
    · have := h e; omega
    · omega

theorem p_eq (h : Fin 2) (r j : Fin 1024) : (blocksAt q k v ct g n).p (decide (n / 16 % 16 = n % 16)) h r j = probs q k g (head n h) (row (n % 16) r) (row (kblk n) j) := by
  unfold Ins.p
  by_cases hle : row (kblk n) j ≤ row (n % 16) r
  · rw [if_pos ((le_row n ha r j).mp hle)]
    refine Eq.trans ?_ (prob_exp2 (score q k g (head n h)) (Host.rowMax q k g (head n h)) _ _ hle)
    dsimp only [blocksAt]
    rw [qblk_active n ha, sum_head n h (fun l => q (row (n % 16) r) l * (1 / 8) / Real.log 2) (fun l => k (row (kblk n) j) l)]
    refine congrArg (Real.rpow 2) (congrArg₂ (· - ·) ?_ rfl)
    unfold score
    rw [sub_div, Finset.sum_mul, Finset.sum_div]
    exact congrArg (· - _) (Finset.sum_congr rfl fun d _ => by ring)
  · rw [if_neg (fun h' => hle ((le_row n ha r j).mpr h'))]
    exact (prob_eq_zero _ _ _ hle).symm

theorem ds_eq (h : Fin 2) (r j : Fin 1024) : (blocksAt q k v ct g n).ds (decide (n / 16 % 16 = n % 16)) h r j = dScores q k v ct g (head n h) (row (n % 16) r) (row (kblk n) j) := by
  unfold Ins.ds
  rw [p_eq q k v ct g n ha]
  dsimp only [blocksAt]
  rw [qblk_active n ha, sum_head n h (fun l => ct (row (n % 16) r) l) (fun l => v (row (kblk n) j) l)]
  unfold dScores dScore delta probs dProbs
  rfl

end Active

theorem row_lt (h : ¬n / 16 % 16 ≤ n % 16) (r j : Fin 1024) : ¬row (kblk n) j ≤ row (n % 16) r := by
  show ¬n / 16 % 16 % 16 * 1024 + j.val ≤ n % 16 % 16 * 1024 + r.val; omega

/-- What point `n` adds; nothing where the query block lies before the key block. -/
def tk (j : Fin 1024) (l : Fin 128) : ℝ := if n / 16 % 16 ≤ n % 16 then (blocksAt q k v ct g n).dk (decide (n / 16 % 16 = n % 16)) j l else 0
def tv (j : Fin 1024) (l : Fin 128) : ℝ := if n / 16 % 16 ≤ n % 16 then (blocksAt q k v ct g n).dv (decide (n / 16 % 16 = n % 16)) j l else 0
def tc (h : Fin 2) (j : Fin 1024) : ℝ := if n / 16 % 16 ≤ n % 16 then (blocksAt q k v ct g n).dc (decide (n / 16 % 16 = n % 16)) h j else 0
def tq (r : Fin 1024) (l : Fin 128) : ℝ := if n / 16 % 16 ≤ n % 16 then (blocksAt q k v ct g n).dq (decide (n / 16 % 16 = n % 16)) r l else 0
def tcq (r : Fin 1024) (l : Fin 128) : ℝ := if n / 16 % 16 ≤ n % 16 then (blocksAt q k v ct g n).dcq (decide (n / 16 % 16 = n % 16)) (2 * (n / 256 % 8)) r l else 0

theorem only_self {h : Fin 2} {l : Fin 128} (hl : l.val / 64 = h.val) (x : ℝ) : only h l x = x := if_pos hl
theorem only_other {h : Fin 2} {l : Fin 128} (hl : l.val / 64 ≠ h.val) (x : ℝ) : only h l x = 0 := if_neg hl

/-- Of a sum of one term per head, the term of a lane's own head. -/
theorem two_heads (l : Fin 128) (f : Fin 2 → ℝ) (F : ℝ) (h1 : ∀ h : Fin 2, l.val / 64 = h.val → f h = F) (h0 : ∀ h : Fin 2, l.val / 64 ≠ h.val → f h = 0) : f 0 + f 1 = F := by
  obtain h | h : l.val / 64 = 0 ∨ l.val / 64 = 1 := by omega
  · rw [h1 0 h, h0 1 (by rw [h]; decide), add_zero]
  · rw [h1 1 h, h0 0 (by rw [h]; decide), zero_add]

theorem tk_eq (j : Fin 1024) (l : Fin 128) :
    tk q k v ct g n j l = ∑ r, dScores q k v ct g (headOf (lane n l)) (row (n % 16) r) (row (kblk n) j) * (1 / 8) * q (row (n % 16) r) (lane n l) := by
  unfold tk
  split
  case isTrue ha =>
    unfold Ins.dk
    simp only [ds_eq q k v ct g n ha]
    refine two_heads l (fun h => (∑ r, dScores q k v ct g (head n h) (row (n % 16) r) (row (kblk n) j) * (blocksAt q k v ct g n).Q h r l) * Real.log 2) _ (fun h hl => ?_) fun h hl => ?_
    · dsimp only [blocksAt]
      rw [qblk_active n ha, Finset.sum_mul]
      refine Finset.sum_congr rfl fun r _ => ?_
      rw [only_self hl, head_lane n h l hl]
      field_simp [Host.log_two_ne]
    · dsimp only [blocksAt]
      simp only [only_other hl, mul_zero, Finset.sum_const_zero, zero_mul]
  case isFalse ha =>
    exact (Finset.sum_eq_zero fun r _ => by rw [dScores, dScore_eq_zero _ _ _ _ (row_lt n ha r j), zero_mul, zero_mul]).symm

theorem tv_eq (j : Fin 1024) (l : Fin 128) :
    tv q k v ct g n j l = ∑ r, ct (row (n % 16) r) (lane n l) * probs q k g (headOf (lane n l)) (row (n % 16) r) (row (kblk n) j) := by
  unfold tv
  split
  case isTrue ha =>
    unfold Ins.dv
    simp only [p_eq q k v ct g n ha]
    refine two_heads l (fun h => ∑ r, probs q k g (head n h) (row (n % 16) r) (row (kblk n) j) * (blocksAt q k v ct g n).O h r l) _ (fun h hl => ?_) fun h hl => ?_
    · dsimp only [blocksAt]
      rw [qblk_active n ha]
      refine Finset.sum_congr rfl fun r _ => ?_
      rw [only_self hl, head_lane n h l hl, mul_comm]
    · dsimp only [blocksAt]
      simp only [only_other hl, mul_zero, Finset.sum_const_zero]
  case isFalse ha =>
    exact (Finset.sum_eq_zero fun r _ => by rw [probs, prob_eq_zero _ _ _ (row_lt n ha r j), mul_zero]).symm

theorem tc_eq (h : Fin 2) (j : Fin 1024) : tc q k v ct g n h j = ∑ r, -dScores q k v ct g (head n h) (row (n % 16) r) (row (kblk n) j) := by
  unfold tc
  split
  case isTrue ha =>
    unfold Ins.dc
    simp only [ds_eq q k v ct g n ha, Finset.sum_neg_distrib]
  case isFalse ha =>
    exact (Finset.sum_eq_zero fun r _ => by rw [dScores, dScore_eq_zero _ _ _ _ (row_lt n ha r j), neg_zero]).symm

theorem tq_eq (r : Fin 1024) (l : Fin 128) :
    tq q k v ct g n r l = ∑ j, dScores q k v ct g (headOf (lane n l)) (row (n % 16) r) (row (kblk n) j) * (1 / 8) * k (row (kblk n) j) (lane n l) := by
  unfold tq
  split
  case isTrue ha =>
    unfold Ins.dq
    simp only [ds_eq q k v ct g n ha]
    rw [add_mul]
    refine two_heads l (fun h => (∑ j, dScores q k v ct g (head n h) (row (n % 16) r) (row (kblk n) j) * (blocksAt q k v ct g n).KM h j l) * (1 / 8)) _ (fun h hl => ?_) fun h hl => ?_
    · dsimp only [blocksAt]
      rw [Finset.sum_mul]
      refine Finset.sum_congr rfl fun j _ => ?_
      rw [only_self hl, head_lane n h l hl]
      ring
    · dsimp only [blocksAt]
      simp only [only_other hl, mul_zero, Finset.sum_const_zero, zero_mul]
  case isFalse ha =>
    exact (Finset.sum_eq_zero fun j _ => by rw [dScores, dScore_eq_zero _ _ _ _ (row_lt n ha r j), zero_mul, zero_mul]).symm

/-- Head `a` of the sixteen. -/
def headN (a : ℕ) : Fin 16 := ⟨a % 16, Nat.mod_lt _ (by decide)⟩

theorem head_eq (h : Fin 2) (l : ℕ) (hl : l = 2 * pair n + h.val) : head n h = headN l :=
  Fin.ext (by subst hl; show pair n * 2 + h.val = (2 * pair n + h.val) % 16; unfold pair; omega)

theorem tcq_eq (r : Fin 1024) (l : Fin 128) :
    tcq q k v ct g n r l = if l.val / 2 = pair n then ∑ j, dScores q k v ct g (headN l.val) (row (n % 16) r) (row (kblk n) j) else 0 := by
  unfold tcq
  split
  case isTrue ha =>
    unfold Ins.dcq
    simp only [ds_eq q k v ct g n ha]
    by_cases h1 : l.val = 2 * (n / 256 % 8) + 1
    · rw [if_pos h1, if_pos (by unfold pair; omega), head_eq n 1 l.val h1]
    · rw [if_neg h1]
      by_cases h0 : l.val = 2 * (n / 256 % 8)
      · rw [if_pos h0, if_pos (by unfold pair; omega), head_eq n 0 l.val h0]
      · rw [if_neg h0, if_neg (by unfold pair; omega)]
  case isFalse ha =>
    have : ∑ j, dScores q k v ct g (headN l.val) (row (n % 16) r) (row (kblk n) j) = 0 :=
      Finset.sum_eq_zero fun j _ => by rw [dScores, dScore_eq_zero _ _ _ _ (row_lt n ha r j)]
    rw [this, ite_self]

/-! ## Sums over the grid -/

/-- A sum over all rows, block by block. -/
theorem sum_rows (f : Fin 16384 → ℝ) : ∑ b ∈ Finset.range 16, ∑ r, f (row b r) = ∑ i, f i := by
  rw [Finset.sum_range, ← Fintype.sum_prod_type' (fun (b : Fin 16) (r : Fin 1024) => f (row b r))]
  refine Fintype.sum_equiv (finProdFinEquiv (m := 16) (n := 1024)) _ _ fun x => congrArg f (Fin.ext ?_)
  show x.1.val % 16 * 1024 + x.2.val = x.2.val + 1024 * x.1.val
  have := x.1.isLt
  omega

/-- A sum over the numbers below a product. -/
theorem sum_range_mul (a b : ℕ) (f : ℕ → ℝ) : ∑ n ∈ Finset.range (a * b), f n = ∑ i ∈ Finset.range a, ∑ j ∈ Finset.range b, f (b * i + j) := by
  induction a with
  | zero => simp
  | succ a ih => rw [Nat.succ_mul, Finset.sum_range_add, ih, Finset.sum_range_succ, Nat.mul_comm a b]

end Fox.Block

end
-- ==== Proof.Fox.Cases.Dk.lean ====
/-
  The keys' gradient, grid point by grid point.
-/
module

public import proofs.«01_k».proof.Proof.Fox.Reads

@[expose] public section

set_option maxRecDepth 16384
set_option maxHeartbeats 1000000

noncomputable section

open scoped BigOperators
open Idealize.ShloMosaic Idealize.SL.Sem Cert.KernelIdeal Cert.KernelIdeal.Gen TcCoe

namespace Fox.Block

variable {m : (ℓ : Loc nD τ sig) → Buf (Elt Ideal) ℓ} {c : Dev nD} {t : Fin cfg0.N} {B : Ins}

/-- A point whose query block is no earlier than its key block adds its sum, to zero where a key block begins. -/
theorem dk_active (H : Reads m c t B) (ha : t.val / 16 % 16 ≤ t.val % 16) (y : S1024x128.Idx) :
    (outsAt0 m c t.val t.isLt).2.1 y
      = (if t.val % 16 = 0 then 0 else (before m c t).2.1 y) + ((B.dk (decide (t.val / 16 % 16 = t.val % 16)) (y 0) (y 1) : ℝ) : EReal) := by
  by_cases h4 : t.val / 16 % 16 = t.val % 16
  · simp only [h4, decide_true]
    by_cases h2 : t.val % 16 = 0
    on_goal 1 => by_cases h1 : t.val % 2048 = 0
    on_goal 1 => rw [if_pos h2, ← pay3_apply y, outsAt0_A m c t (by omega) h1 h2 (by omega) h4]
    on_goal 2 => rw [if_pos h2, ← pay3_apply y, outsAt0_F m c t (by omega) h1 h2 (by omega) h4]
    on_goal 3 => rw [if_neg h2, outsAt0_D m c t (by omega) (by omega) h2 (by omega) h4]
    all_goals
      frame_open
      simp (disch := decide) only [↓ View.readCov_skip, ↓ View.readCov_cons_toLoadRect, ↓ View.readCov_fill, View.read_writes_junk_eq_canon]
      change View.canon (Ins.hi (dkAt true 512#32 _ _ _ _ _ _ _ _ _ _ _ _ _) :: Ins.lo (dkAt true 0#32 _ _ _ _ _ _ _ _ _ _ _ _ _) :: _) y = _
      simp (disch := decide) only [View.ld_unit_lit', View.readAt_eq_ld, Memref.IsWhole.read_unread, rows_shapeCast, pays, H.b0, H.b1, H.b2, H.b3, H.b4, H.b5, H.b6, H.b7,
    H.b8, H.b9, H.b10, H.b11, H.b12, Ins.ld_half0, Ins.ld_half1, Ins.ld_strip00, Ins.ld_strip01, Ins.ld_strip10, Ins.ld_strip11]
    · exact B.dk_canon true (k0_pay3 (F := Ideal)) _ _ _ _ _ y
    · exact B.dk_canon true (k0_pay3 (F := Ideal)) _ _ _ _ _ y
    · exact B.dk_canon true (before m c t).2.1 _ _ _ _ _ y
  · simp only [h4, decide_false]
    rw [if_neg (by omega), outsAt0_B m c t (by omega) (by omega) (by omega) (by omega) h4]
    frame_open
    simp (disch := decide) only [↓ View.readCov_skip, ↓ View.readCov_cons_toLoadRect, ↓ View.readCov_fill, View.read_writes_junk_eq_canon]
    change View.canon (Ins.hi (dkAt false 512#32 _ _ _ _ _ _ _ _ _ _ _ _ _) :: Ins.lo (dkAt false 0#32 _ _ _ _ _ _ _ _ _ _ _ _ _) :: _) y = _
    simp (disch := decide) only [View.ld_unit_lit', View.readAt_eq_ld, Memref.IsWhole.read_unread, rows_shapeCast, pays, H.b0, H.b1, H.b2, H.b3, H.b4, H.b5, H.b6, H.b7,
    H.b8, H.b9, H.b10, H.b11, H.b12, Ins.ld_half0, Ins.ld_half1, Ins.ld_strip00, Ins.ld_strip01, Ins.ld_strip10, Ins.ld_strip11]
    exact B.dk_canon false (before m c t).2.1 _ _ _ _ _ y

/-- Any other point adds nothing. -/
theorem dk_idle (ha : ¬t.val / 16 % 16 ≤ t.val % 16) (y : S1024x128.Idx) :
    (outsAt0 m c t.val t.isLt).2.1 y = (if t.val % 16 = 0 then 0 else (before m c t).2.1 y) := by
  by_cases h2 : t.val % 16 = 0
  · rw [if_pos h2, outsAt0_C m c t (by omega) (by omega) h2 (by omega) (by omega)]
    frame_out
    exact pay3_apply y
  · rw [if_neg h2, outsAt0_E m c t (by omega) (by omega) h2 (by omega) (by omega)]
    frame_open
    rfl

end Fox.Block

end
-- ==== Proof.Fox.Cases.Dv.lean ====
/-
  The values' gradient, grid point by grid point.
-/
module

public import proofs.«01_k».proof.Proof.Fox.Reads

@[expose] public section

set_option maxRecDepth 16384
set_option maxHeartbeats 1000000

noncomputable section

open scoped BigOperators
open Idealize.ShloMosaic Idealize.SL.Sem Cert.KernelIdeal Cert.KernelIdeal.Gen TcCoe

namespace Fox.Block

variable {m : (ℓ : Loc nD τ sig) → Buf (Elt Ideal) ℓ} {c : Dev nD} {t : Fin cfg0.N} {B : Ins}

/-- A point whose query block is no earlier than its key block adds its sum, to zero where a key block begins. -/
theorem dv_active (H : Reads m c t B) (ha : t.val / 16 % 16 ≤ t.val % 16) (y : S1024x128.Idx) :
    (outsAt0 m c t.val t.isLt).2.2.1 y
      = (if t.val % 16 = 0 then 0 else (before m c t).2.2.1 y) + ((B.dv (decide (t.val / 16 % 16 = t.val % 16)) (y 0) (y 1) : ℝ) : EReal) := by
  by_cases h4 : t.val / 16 % 16 = t.val % 16
  · simp only [h4, decide_true]
    by_cases h2 : t.val % 16 = 0
    on_goal 1 => by_cases h1 : t.val % 2048 = 0
    on_goal 1 => rw [if_pos h2, ← pay4_apply y, outsAt0_A m c t (by omega) h1 h2 (by omega) h4]
    on_goal 2 => rw [if_pos h2, ← pay4_apply y, outsAt0_F m c t (by omega) h1 h2 (by omega) h4]
    on_goal 3 => rw [if_neg h2, outsAt0_D m c t (by omega) (by omega) h2 (by omega) h4]
    all_goals
      frame_open
      simp (disch := decide) only [↓ View.readCov_skip, ↓ View.readCov_cons_toLoadRect, ↓ View.readCov_fill, View.read_writes_junk_eq_canon]
      change View.canon (Ins.hi (dvAt true 512#32 _ _ _ _ _ _ _ _ _ _) :: Ins.lo (dvAt true 0#32 _ _ _ _ _ _ _ _ _ _) :: _) y = _
      simp (disch := decide) only [View.ld_unit_lit', View.readAt_eq_ld, Memref.IsWhole.read_unread, rows_shapeCast, pays, H.b0, H.b1, H.b2, H.b3, H.b4, H.b5, H.b6, H.b7,
    H.b8, H.b9, H.b10, H.b11, H.b12, Ins.ld_half0, Ins.ld_half1, Ins.ld_strip00, Ins.ld_strip01, Ins.ld_strip10, Ins.ld_strip11]
    · exact B.dv_canon true (k0_pay4 (F := Ideal)) _ _ _ _ _ y
    · exact B.dv_canon true (k0_pay4 (F := Ideal)) _ _ _ _ _ y
    · exact B.dv_canon true (before m c t).2.2.1 _ _ _ _ _ y
  · simp only [h4, decide_false]
    rw [if_neg (by omega), outsAt0_B m c t (by omega) (by omega) (by omega) (by omega) h4]
    frame_open
    simp (disch := decide) only [↓ View.readCov_skip, ↓ View.readCov_cons_toLoadRect, ↓ View.readCov_fill, View.read_writes_junk_eq_canon]
    change View.canon (Ins.hi (dvAt false 512#32 _ _ _ _ _ _ _ _ _ _) :: Ins.lo (dvAt false 0#32 _ _ _ _ _ _ _ _ _ _) :: _) y = _
    simp (disch := decide) only [View.ld_unit_lit', View.readAt_eq_ld, Memref.IsWhole.read_unread, rows_shapeCast, pays, H.b0, H.b1, H.b2, H.b3, H.b4, H.b5, H.b6, H.b7,
    H.b8, H.b9, H.b10, H.b11, H.b12, Ins.ld_half0, Ins.ld_half1, Ins.ld_strip00, Ins.ld_strip01, Ins.ld_strip10, Ins.ld_strip11]
    exact B.dv_canon false (before m c t).2.2.1 _ _ _ _ _ y

/-- Any other point adds nothing. -/
theorem dv_idle (ha : ¬t.val / 16 % 16 ≤ t.val % 16) (y : S1024x128.Idx) :
    (outsAt0 m c t.val t.isLt).2.2.1 y = (if t.val % 16 = 0 then 0 else (before m c t).2.2.1 y) := by
  by_cases h2 : t.val % 16 = 0
  · rw [if_pos h2, outsAt0_C m c t (by omega) (by omega) h2 (by omega) (by omega)]
    frame_out
    exact pay4_apply y
  · rw [if_neg h2, outsAt0_E m c t (by omega) (by omega) h2 (by omega) (by omega)]
    frame_open
    rfl

end Fox.Block

end
-- ==== Proof.Fox.Cases.Dc.lean ====
/-
  The keys' gate gradient, grid point by grid point.
-/
module

public import proofs.«01_k».proof.Proof.Fox.Reads

@[expose] public section

set_option maxRecDepth 16384
set_option maxHeartbeats 1000000

noncomputable section

open scoped BigOperators
open Idealize.ShloMosaic Idealize.SL.Sem Cert.KernelIdeal Cert.KernelIdeal.Gen TcCoe

namespace Fox.Block

variable {m : (ℓ : Loc nD τ sig) → Buf (Elt Ideal) ℓ} {c : Dev nD} {t : Fin cfg0.N} {B : Ins}

/-- A point whose query block is no earlier than its key block adds its sum, to zero where a key block begins. -/
theorem dc_active (H : Reads m c t B) (ha : t.val / 16 % 16 ≤ t.val % 16) (y : S1x2x1024.Idx) :
    (outsAt0 m c t.val t.isLt).2.2.2.1 y
      = (if t.val % 16 = 0 then 0 else (before m c t).2.2.2.1 y) + ((B.dc (decide (t.val / 16 % 16 = t.val % 16)) (y 1) (y 2) : ℝ) : EReal) := by
  by_cases h4 : t.val / 16 % 16 = t.val % 16
  · simp only [h4, decide_true]
    by_cases h2 : t.val % 16 = 0
    on_goal 1 => by_cases h1 : t.val % 2048 = 0
    on_goal 1 => rw [if_pos h2, ← pay5_apply y, outsAt0_A m c t (by omega) h1 h2 (by omega) h4]
    on_goal 2 => rw [if_pos h2, ← pay5_apply y, outsAt0_F m c t (by omega) h1 h2 (by omega) h4]
    on_goal 3 => rw [if_neg h2, outsAt0_D m c t (by omega) (by omega) h2 (by omega) h4]
    all_goals
      frame_open
      simp (disch := decide) only [↓ View.readCov_skip, ↓ View.readCov_cons_toLoadRect, ↓ View.readCov_fill, View.read_writes_junk_eq_canon]
      change View.canon (Ins.st11 (dcT _ (gradAt true 512#32 _ _ _ _ _ _ _)) :: Ins.st10 (dcT _ (gradAt true 0#32 _ _ _ _ _ _ _)) :: Ins.st01 (dcT _ (gradAt true 512#32 _ _ _ _ _ _ _)) :: Ins.st00 (dcT _ (gradAt true 0#32 _ _ _ _ _ _ _)) :: _) y = _
      simp (disch := decide) only [View.ld_unit_lit', View.readAt_eq_ld, Memref.IsWhole.read_unread, rows_shapeCast, pays, H.b0, H.b1, H.b2, H.b3, H.b4, H.b5, H.b6, H.b7,
    H.b8, H.b9, H.b10, H.b11, H.b12, Ins.ld_half0, Ins.ld_half1, Ins.ld_strip00, Ins.ld_strip01, Ins.ld_strip10, Ins.ld_strip11]
    · exact B.dc_canon true (k0_pay5 (F := Ideal)) _ _ _ _ _ _ _ _ _ y
    · exact B.dc_canon true (k0_pay5 (F := Ideal)) _ _ _ _ _ _ _ _ _ y
    · exact B.dc_canon true (before m c t).2.2.2.1 _ _ _ _ _ _ _ _ _ y
  · simp only [h4, decide_false]
    rw [if_neg (by omega), outsAt0_B m c t (by omega) (by omega) (by omega) (by omega) h4]
    frame_open
    simp (disch := decide) only [↓ View.readCov_skip, ↓ View.readCov_cons_toLoadRect, ↓ View.readCov_fill, View.read_writes_junk_eq_canon]
    change View.canon (Ins.st11 (dcT _ (gradAt false 512#32 _ _ _ _ _ _ _)) :: Ins.st10 (dcT _ (gradAt false 0#32 _ _ _ _ _ _ _)) :: Ins.st01 (dcT _ (gradAt false 512#32 _ _ _ _ _ _ _)) :: Ins.st00 (dcT _ (gradAt false 0#32 _ _ _ _ _ _ _)) :: _) y = _
    simp (disch := decide) only [View.ld_unit_lit', View.readAt_eq_ld, Memref.IsWhole.read_unread, rows_shapeCast, pays, H.b0, H.b1, H.b2, H.b3, H.b4, H.b5, H.b6, H.b7,
    H.b8, H.b9, H.b10, H.b11, H.b12, Ins.ld_half0, Ins.ld_half1, Ins.ld_strip00, Ins.ld_strip01, Ins.ld_strip10, Ins.ld_strip11]
    exact B.dc_canon false (before m c t).2.2.2.1 _ _ _ _ _ _ _ _ _ y

/-- Any other point adds nothing. -/
theorem dc_idle (ha : ¬t.val / 16 % 16 ≤ t.val % 16) (y : S1x2x1024.Idx) :
    (outsAt0 m c t.val t.isLt).2.2.2.1 y = (if t.val % 16 = 0 then 0 else (before m c t).2.2.2.1 y) := by
  by_cases h2 : t.val % 16 = 0
  · rw [if_pos h2, outsAt0_C m c t (by omega) (by omega) h2 (by omega) (by omega)]
    frame_out
    exact pay5_apply y
  · rw [if_neg h2, outsAt0_E m c t (by omega) (by omega) h2 (by omega) (by omega)]
    frame_open
    rfl

end Fox.Block

end
-- ==== Proof.Fox.Cases.Dq.lean ====
/-
  The queries' gradient, grid point by grid point.
-/
module

public import proofs.«01_k».proof.Proof.Fox.Rows

@[expose] public section

set_option maxRecDepth 16384
set_option maxHeartbeats 1000000

noncomputable section

open scoped BigOperators
open Idealize.ShloMosaic Idealize.SL.Sem Cert.KernelIdeal Cert.KernelIdeal.Gen TcCoe

namespace Fox.Block

variable {m : (ℓ : Loc nD τ sig) → Buf (Elt Ideal) ℓ} {c : Dev nD} {t : Fin cfg0.N} {B : Ins}

/-- A point whose query block is no earlier than its key block adds its sum in that query block's rows. -/
theorem dq_active (H : Reads m c t B) (ha : t.val / 16 % 16 ≤ t.val % 16) (y : S16384x128.Idx) :
    (outsAt0 m c t.val t.isLt).1 y
      = (if t.val % 256 = 0 then 0 else (before m c t).1 y)
        + ((inRows (t.val % 16) (B.dq (decide (t.val / 16 % 16 = t.val % 16))) (y 0) (y 1) : ℝ) : EReal) := by
  by_cases h4 : t.val / 16 % 16 = t.val % 16
  · simp only [h4, decide_true]
    by_cases h2 : t.val % 16 = 0
    on_goal 1 => by_cases h1 : t.val % 2048 = 0
    on_goal 1 => rw [if_pos (by omega), ← pay1_apply y, outsAt0_A m c t (by omega) h1 h2 (by omega) h4]
    on_goal 2 => rw [if_pos (by omega), ← pay1_apply y, outsAt0_F m c t (by omega) h1 h2 (by omega) h4]
    on_goal 3 => rw [if_neg (by omega), outsAt0_D m c t (by omega) (by omega) h2 (by omega) h4]
    · frame_open
      simp (disch := decide) only [↓ View.readCov_skip, ↓ View.readCov_cons_toLoadRect, ↓ View.readCov_fill, View.read_writes_junk_eq_canon]
      change View.canon [rowsAt _ _ (dqAt true _ _ _ _ _ _ _ _ _ _ _ _ _ _ _ _ _ _ _ _ _), _] y = _
      simp (disch := decide) only [View.ld_unit_lit', View.readAt_eq_ld, Memref.IsWhole.read_unread, rows_shapeCast, pays, H.b0, H.b1, H.b2, H.b3, H.b4, H.b5, H.b6, H.b7,
        H.b8, H.b9, H.b10, H.b11, H.b12, Ins.ld_half0, Ins.ld_half1, Ins.ld_strip00, Ins.ld_strip01, Ins.ld_strip10, Ins.ld_strip11, View.read_writes_junk_eq_canon,
        View.canon_cons_unit_lit']
      exact rows_canon (off2 t) _ _ (k0_pay1 (F := Ideal)) _ _ (B.dqAt_apply true _) y
    · frame_open
      simp (disch := decide) only [↓ View.readCov_skip, ↓ View.readCov_cons_toLoadRect, ↓ View.readCov_fill, View.read_writes_junk_eq_canon]
      change View.canon [rowsAt _ _ (dqAt true _ _ _ _ _ _ _ _ _ _ _ _ _ _ _ _ _ _ _ _ _), _] y = _
      simp (disch := decide) only [View.ld_unit_lit', View.readAt_eq_ld, Memref.IsWhole.read_unread, rows_shapeCast, pays, H.b0, H.b1, H.b2, H.b3, H.b4, H.b5, H.b6, H.b7,
        H.b8, H.b9, H.b10, H.b11, H.b12, Ins.ld_half0, Ins.ld_half1, Ins.ld_strip00, Ins.ld_strip01, Ins.ld_strip10, Ins.ld_strip11, View.read_writes_junk_eq_canon,
        View.canon_cons_unit_lit']
      exact rows_canon (off2 t) _ _ (k0_pay1 (F := Ideal)) _ _ (B.dqAt_apply true _) y
    · frame_open
      simp (disch := decide) only [↓ View.readCov_skip, ↓ View.readCov_cons_toLoadRect, ↓ View.readCov_fill, View.read_writes_junk_eq_canon]
      change View.read (Elt Ideal) _ (View.writes _ (Elt Ideal) _ [rowsAt _ _ (dqAt true _ _ _ _ _ _ _ _ _ _ _ _ _ _ _ _ _ _ _ _ _)]) y = _
      simp (disch := decide) only [View.ld_unit_lit', View.readAt_eq_ld, Memref.IsWhole.read_unread, rows_shapeCast, pays, H.b0, H.b1, H.b2, H.b3, H.b4, H.b5, H.b6, H.b7,
        H.b8, H.b9, H.b10, H.b11, H.b12, Ins.ld_half0, Ins.ld_half1, Ins.ld_strip00, Ins.ld_strip01, Ins.ld_strip10, Ins.ld_strip11, View.read_writes_junk_eq_canon,
        View.canon_cons_unit_lit']
      exact rows_read _ _ (off2 t) _ _ (before m c t).1 (Memref.IsWhole.read_unread _ _) _ (B.dqAt_apply true _) y
  · simp only [h4, decide_false]
    rw [if_neg (by omega), outsAt0_B m c t (by omega) (by omega) (by omega) (by omega) h4]
    · frame_open
      simp (disch := decide) only [↓ View.readCov_skip, ↓ View.readCov_cons_toLoadRect, ↓ View.readCov_fill, View.read_writes_junk_eq_canon]
      change View.read (Elt Ideal) _ (View.writes _ (Elt Ideal) _ [rowsAt _ _ (dqAt false _ _ _ _ _ _ _ _ _ _ _ _ _ _ _ _ _ _ _ _ _)]) y = _
      simp (disch := decide) only [View.ld_unit_lit', View.readAt_eq_ld, Memref.IsWhole.read_unread, rows_shapeCast, pays, H.b0, H.b1, H.b2, H.b3, H.b4, H.b5, H.b6, H.b7,
        H.b8, H.b9, H.b10, H.b11, H.b12, Ins.ld_half0, Ins.ld_half1, Ins.ld_strip00, Ins.ld_strip01, Ins.ld_strip10, Ins.ld_strip11, View.read_writes_junk_eq_canon,
        View.canon_cons_unit_lit']
      exact rows_read _ _ (off1 t) _ _ (before m c t).1 (Memref.IsWhole.read_unread _ _) _ (B.dqAt_apply false _) y

/-- Any other point adds nothing. -/
theorem dq_idle (ha : ¬t.val / 16 % 16 ≤ t.val % 16) (y : S16384x128.Idx) : (outsAt0 m c t.val t.isLt).1 y = (before m c t).1 y := by
  by_cases h2 : t.val % 16 = 0
  · rw [outsAt0_C m c t (by omega) (by omega) h2 (by omega) (by omega)]
    frame_open
    rfl
  · rw [outsAt0_E m c t (by omega) (by omega) h2 (by omega) (by omega)]
    frame_open
    rfl

end Fox.Block

end
-- ==== Proof.Fox.Cases.Dcq.lean ====
/-
  The queries' gate gradient, grid point by grid point.
-/
module

public import proofs.«01_k».proof.Proof.Fox.Rows

@[expose] public section

set_option maxRecDepth 16384
set_option maxHeartbeats 1000000

noncomputable section

open scoped BigOperators
open Idealize.ShloMosaic Idealize.SL.Sem Cert.KernelIdeal Cert.KernelIdeal.Gen TcCoe

namespace Fox.Block

variable {m : (ℓ : Loc nD τ sig) → Buf (Elt Ideal) ℓ} {c : Dev nD} {t : Fin cfg0.N} {B : Ins}

/-- A point whose query block is no earlier than its key block adds its sum in that query block's rows. -/
theorem dcq_active (H : Reads m c t B) (ha : t.val / 16 % 16 ≤ t.val % 16) (y : S16384x128.Idx) :
    (outsAt0 m c t.val t.isLt).2.2.2.2 y
      = (if t.val % 2048 = 0 then 0 else (before m c t).2.2.2.2 y)
        + ((inRows (t.val % 16) (B.dcq (decide (t.val / 16 % 16 = t.val % 16)) (2 * (t.val / 256 % 8))) (y 0) (y 1) : ℝ) : EReal) := by
  have hn : 2 * (t.val / 256 % 8) + 1 < 128 := by omega
  have hw := headWord_eq (grid0.coords t)
  rw [coord0] at hw
  by_cases h4 : t.val / 16 % 16 = t.val % 16
  · simp only [h4, decide_true]
    by_cases h2 : t.val % 16 = 0
    on_goal 1 => by_cases h1 : t.val % 2048 = 0
    on_goal 1 => rw [if_pos (by omega), ← pay2_apply y, outsAt0_A m c t (by omega) h1 h2 (by omega) h4]
    on_goal 2 => rw [if_neg h1, outsAt0_F m c t (by omega) h1 h2 (by omega) h4]
    on_goal 3 => rw [if_neg (by omega), outsAt0_D m c t (by omega) (by omega) h2 (by omega) h4]
    · frame_open
      simp (disch := decide) only [↓ View.readCov_skip, ↓ View.readCov_cons_toLoadRect, ↓ View.readCov_fill, View.read_writes_junk_eq_canon]
      change View.canon [rowsAt _ _ (dcqAt true (headWord (grid0.coords t) 0#32) (headWord (grid0.coords t) 1#32) _ _ _ _ _ _ _ _ _ _ _ _ _ _ _ _ _), _] y = _
      simp (disch := decide) only [View.ld_unit_lit', View.readAt_eq_ld, Memref.IsWhole.read_unread, rows_shapeCast, pays, H.b0, H.b1, H.b2, H.b3, H.b4, H.b5, H.b6, H.b7,
        H.b8, H.b9, H.b10, H.b11, H.b12, Ins.ld_half0, Ins.ld_half1, Ins.ld_strip00, Ins.ld_strip01, Ins.ld_strip10, Ins.ld_strip11, View.read_writes_junk_eq_canon,
        View.canon_cons_unit_lit', hw.1, hw.2]
      exact rows_canon (off2 t) _ _ (k0_pay2 (F := Ideal)) _ _ (B.dcqAt_apply true _ hn _) y
    · frame_open
      simp (disch := decide) only [↓ View.readCov_skip, ↓ View.readCov_cons_toLoadRect, ↓ View.readCov_fill, View.read_writes_junk_eq_canon]
      change View.read (Elt Ideal) _ (View.writes _ (Elt Ideal) _ [rowsAt _ _ (dcqAt true (headWord (grid0.coords t) 0#32) (headWord (grid0.coords t) 1#32) _ _ _ _ _ _ _ _ _ _ _ _ _ _ _ _ _)]) y = _
      simp (disch := decide) only [View.ld_unit_lit', View.readAt_eq_ld, Memref.IsWhole.read_unread, rows_shapeCast, pays, H.b0, H.b1, H.b2, H.b3, H.b4, H.b5, H.b6, H.b7,
        H.b8, H.b9, H.b10, H.b11, H.b12, Ins.ld_half0, Ins.ld_half1, Ins.ld_strip00, Ins.ld_strip01, Ins.ld_strip10, Ins.ld_strip11, View.read_writes_junk_eq_canon,
        View.canon_cons_unit_lit', hw.1, hw.2]
      exact rows_read _ _ (off2 t) _ _ (before m c t).2.2.2.2 (Memref.IsWhole.read_unread _ _) _ (B.dcqAt_apply true _ hn _) y
    · frame_open
      simp (disch := decide) only [↓ View.readCov_skip, ↓ View.readCov_cons_toLoadRect, ↓ View.readCov_fill, View.read_writes_junk_eq_canon]
      change View.read (Elt Ideal) _ (View.writes _ (Elt Ideal) _ [rowsAt _ _ (dcqAt true (headWord (grid0.coords t) 0#32) (headWord (grid0.coords t) 1#32) _ _ _ _ _ _ _ _ _ _ _ _ _ _ _ _ _)]) y = _
      simp (disch := decide) only [View.ld_unit_lit', View.readAt_eq_ld, Memref.IsWhole.read_unread, rows_shapeCast, pays, H.b0, H.b1, H.b2, H.b3, H.b4, H.b5, H.b6, H.b7,
        H.b8, H.b9, H.b10, H.b11, H.b12, Ins.ld_half0, Ins.ld_half1, Ins.ld_strip00, Ins.ld_strip01, Ins.ld_strip10, Ins.ld_strip11, View.read_writes_junk_eq_canon,
        View.canon_cons_unit_lit', hw.1, hw.2]
      exact rows_read _ _ (off2 t) _ _ (before m c t).2.2.2.2 (Memref.IsWhole.read_unread _ _) _ (B.dcqAt_apply true _ hn _) y
  · simp only [h4, decide_false]
    rw [if_neg (by omega), outsAt0_B m c t (by omega) (by omega) (by omega) (by omega) h4]
    · frame_open
      simp (disch := decide) only [↓ View.readCov_skip, ↓ View.readCov_cons_toLoadRect, ↓ View.readCov_fill, View.read_writes_junk_eq_canon]
      change View.read (Elt Ideal) _ (View.writes _ (Elt Ideal) _ [rowsAt _ _ (dcqAt false (headWord (grid0.coords t) 0#32) (headWord (grid0.coords t) 1#32) _ _ _ _ _ _ _ _ _ _ _ _ _ _ _ _ _)]) y = _
      simp (disch := decide) only [View.ld_unit_lit', View.readAt_eq_ld, Memref.IsWhole.read_unread, rows_shapeCast, pays, H.b0, H.b1, H.b2, H.b3, H.b4, H.b5, H.b6, H.b7,
        H.b8, H.b9, H.b10, H.b11, H.b12, Ins.ld_half0, Ins.ld_half1, Ins.ld_strip00, Ins.ld_strip01, Ins.ld_strip10, Ins.ld_strip11, View.read_writes_junk_eq_canon,
        View.canon_cons_unit_lit', hw.1, hw.2]
      exact rows_read _ _ (off1 t) _ _ (before m c t).2.2.2.2 (Memref.IsWhole.read_unread _ _) _ (B.dcqAt_apply false _ hn _) y

/-- Any other point adds nothing. -/
theorem dcq_idle (ha : ¬t.val / 16 % 16 ≤ t.val % 16) (y : S16384x128.Idx) : (outsAt0 m c t.val t.isLt).2.2.2.2 y = (before m c t).2.2.2.2 y := by
  by_cases h2 : t.val % 16 = 0
  · rw [outsAt0_C m c t (by omega) (by omega) h2 (by omega) (by omega)]
    frame_open
    rfl
  · rw [outsAt0_E m c t (by omega) (by omega) h2 (by omega) (by omega)]
    frame_open
    rfl

end Fox.Block

end
-- ==== Proof.Fox.Totals.lean ====
/-
  What each output buffer holds when it is written back: the gradients' sums over the grid points since its last reset.
-/
module

public import proofs.«01_k».proof.Proof.Fox.Terms
public import proofs.«01_k».proof.Proof.Fox.Cases.Dk
public import proofs.«01_k».proof.Proof.Fox.Cases.Dv
public import proofs.«01_k».proof.Proof.Fox.Cases.Dc
public import proofs.«01_k».proof.Proof.Fox.Cases.Dq
public import proofs.«01_k».proof.Proof.Fox.Cases.Dcq

@[expose] public section

set_option maxRecDepth 16384

noncomputable section

open scoped BigOperators
open Idealize.ShloMosaic Idealize.SL.Sem Cert.KernelIdeal Cert.KernelIdeal.Gen TcCoe

namespace Fox.Block

/-- A buffer that is reset every `J` points and otherwise added to holds the sum of the terms since its reset. -/
theorem total_of_step {ι : Type} (f : (n : ℕ) → n < cfg0.N → ι → EReal) (J : ℕ) (term : ℕ → ι → ℝ)
    (h : ∀ (t : Fin cfg0.N) (y : ι), f t.val t.isLt y = (if t.val % J = 0 then 0 else f (t.val - 1) (Nat.lt_of_le_of_lt (Nat.sub_le _ _) t.isLt) y) + ((term t.val y : ℝ) : EReal))
    (t : Fin cfg0.N) {r : ℕ} (hr : t.val % J = r) (y : ι) :
    f t.val t.isLt y = ((∑ k ∈ Finset.range (r + 1), term (J * (t.val / J) + k) y : ℝ) : EReal) := by
  refine (Pipeline.eq_sum_of_reset_step_apply_of_mod f J (fun _ => 0) (fun n y => ((term n y : ℝ) : EReal)) (fun t h0 y => ?_) (fun t h0 y => ?_) t hr y).trans ?_
  · rw [h t y, if_pos h0]
  · rw [h t y, if_neg h0]
  · rw [zero_add, coe_sum]

section Sums
variable (q k v ct : Mat) (g : Gates) (n : ℕ)

theorem kblk_add (a : ℕ) (b : ℕ) (hb : b < 16) : kblk (16 * a + b) = a % 16 := by unfold kblk; omega
theorem lane_of_pair {n n' : ℕ} (h : n / 256 % 8 = n' / 256 % 8) (l : Fin 128) : lane n l = lane n' l := Fin.ext (by show pair n * 128 + l.val = pair n' * 128 + l.val; unfold pair; rw [h])
theorem head_of_pair {n n' : ℕ} (h : n / 256 % 8 = n' / 256 % 8) (a : Fin 2) : head n a = head n' a := Fin.ext (by show pair n * 2 + a.val = pair n' * 2 + a.val; unfold pair; rw [h])

theorem tk_sum (j : Fin 1024) (l : Fin 128) : ∑ b ∈ Finset.range 16, tk q k v ct g (16 * (n / 16) + b) j l = dK q k v ct g (row (kblk n) j) (lane n l) := by
  refine Eq.trans ?_ (sum_rows fun i => dScores q k v ct g (headOf (lane n l)) i (row (kblk n) j) * (1 / 8) * q i (lane n l))
  refine Finset.sum_congr rfl fun b hb => ?_
  have hb := Finset.mem_range.mp hb
  rw [tk_eq, show (16 * (n / 16) + b) % 16 = b by omega, kblk_add _ _ hb, lane_of_pair (n' := n) (by omega)]
  rfl

theorem tv_sum (j : Fin 1024) (l : Fin 128) : ∑ b ∈ Finset.range 16, tv q k v ct g (16 * (n / 16) + b) j l = dV q k ct g (row (kblk n) j) (lane n l) := by
  refine Eq.trans ?_ (sum_rows fun i => ct i (lane n l) * probs q k g (headOf (lane n l)) i (row (kblk n) j))
  refine Finset.sum_congr rfl fun b hb => ?_
  have hb := Finset.mem_range.mp hb
  rw [tv_eq, show (16 * (n / 16) + b) % 16 = b by omega, kblk_add _ _ hb, lane_of_pair (n' := n) (by omega)]
  rfl

theorem tc_sum (h : Fin 2) (j : Fin 1024) : ∑ b ∈ Finset.range 16, tc q k v ct g (16 * (n / 16) + b) h j = dKgate q k v ct g (row (kblk n) j) (head n h) := by
  refine Eq.trans ?_ (sum_rows fun i => -dScores q k v ct g (head n h) i (row (kblk n) j))
  refine Finset.sum_congr rfl fun b hb => ?_
  have hb := Finset.mem_range.mp hb
  rw [tc_eq, show (16 * (n / 16) + b) % 16 = b by omega, kblk_add _ _ hb, head_of_pair (n' := n) (by omega)]
  rfl

theorem row_self (i : Fin 16384) (h : i.val / 1024 = n % 16) : row (n % 16) ⟨i.val % 1024, Nat.mod_lt _ (by omega)⟩ = i :=
  Fin.ext (by show n % 16 % 16 * 1024 + i.val % 1024 = i.val; omega)

/-- One term among sixteen, the one of a row's own block. -/
theorem sum_own (i : Fin 16384) (x : ℝ) : ∑ b ∈ Finset.range 16, (if i.val / 1024 = b then x else 0) = x := by
  rw [Finset.sum_ite_eq, if_pos (Finset.mem_range.mpr (by omega))]

theorem inRows_tq (i : Fin 16384) (l : Fin 128) : inRows (n % 16) (tq q k v ct g n) i l
    = if i.val / 1024 = n % 16 then ∑ j, dScores q k v ct g (headOf (lane n l)) i (row (kblk n) j) * (1 / 8) * k (row (kblk n) j) (lane n l) else 0 := by
  unfold inRows
  split
  case isTrue h => rw [tq_eq, row_self n i h]
  case isFalse => rfl

theorem tq_sum (i : Fin 16384) (l : Fin 128) :
    ∑ b ∈ Finset.range 256, inRows ((256 * (n / 256) + b) % 16) (tq q k v ct g (256 * (n / 256) + b)) i l = dQ q k v ct g i (lane n l) := by
  refine (sum_range_mul 16 16 _).trans (Eq.trans ?_ (sum_rows fun j => dScores q k v ct g (headOf (lane n l)) i j * (1 / 8) * k j (lane n l)))
  refine Finset.sum_congr rfl fun a ha => (Finset.sum_congr rfl fun b hb => ?_).trans (sum_own i _)
  have ha := Finset.mem_range.mp ha
  have hb := Finset.mem_range.mp hb
  rw [inRows_tq, show (256 * (n / 256) + (16 * a + b)) % 16 = b by omega, show kblk (256 * (n / 256) + (16 * a + b)) = a by unfold kblk; omega, lane_of_pair (n' := n) (by omega)]

theorem inRows_tcq (i : Fin 16384) (l : Fin 128) : inRows (n % 16) (tcq q k v ct g n) i l
    = if i.val / 1024 = n % 16 then if l.val / 2 = pair n then ∑ j, dScores q k v ct g (headN l.val) i (row (kblk n) j) else 0 else 0 := by
  unfold inRows
  split
  case isTrue h => rw [tcq_eq, row_self n i h]
  case isFalse => rfl

theorem tcq_sum (i : Fin 16384) (l : Fin 128) :
    ∑ b ∈ Finset.range 2048, inRows ((2048 * (n / 2048) + b) % 16) (tcq q k v ct g (2048 * (n / 2048) + b)) i l = if l.val < 16 then dQgate q k v ct g i (headN l.val) else 0 := by
  refine (sum_range_mul 128 16 _).trans ((sum_range_mul 8 16 _).trans ?_)
  have e : ∀ p ∈ Finset.range 8, (∑ s ∈ Finset.range 16, ∑ b ∈ Finset.range 16,
      inRows ((2048 * (n / 2048) + (16 * (16 * p + s) + b)) % 16) (tcq q k v ct g (2048 * (n / 2048) + (16 * (16 * p + s) + b))) i l)
        = if l.val / 2 = p then dQgate q k v ct g i (headN l.val) else 0 := fun p hp => by
    have hp := Finset.mem_range.mp hp
    have e' : ∀ s ∈ Finset.range 16, (∑ b ∈ Finset.range 16,
        inRows ((2048 * (n / 2048) + (16 * (16 * p + s) + b)) % 16) (tcq q k v ct g (2048 * (n / 2048) + (16 * (16 * p + s) + b))) i l)
          = if l.val / 2 = p then ∑ j, dScores q k v ct g (headN l.val) i (row s j) else 0 := fun s hs => by
      have hs := Finset.mem_range.mp hs
      refine (Finset.sum_congr rfl fun b hb => ?_).trans (sum_own i _)
      have hb := Finset.mem_range.mp hb
      rw [inRows_tcq, show (2048 * (n / 2048) + (16 * (16 * p + s) + b)) % 16 = b by omega, show kblk (2048 * (n / 2048) + (16 * (16 * p + s) + b)) = s by unfold kblk; omega,
        show pair (2048 * (n / 2048) + (16 * (16 * p + s) + b)) = p by unfold pair; omega]
    rw [Finset.sum_congr rfl e']
    split
    case isTrue => exact sum_rows fun j => dScores q k v ct g (headN l.val) i j
    case isFalse => exact Finset.sum_const_zero
  rw [Finset.sum_congr rfl e, Finset.sum_ite_eq]
  exact if_congr (by rw [Finset.mem_range]; omega) rfl rfl

end Sums

/-! ## The buffers at the write-backs -/

variable {m : (ℓ : Loc nD τ sig) → Buf (Elt Ideal) ℓ} {c : Dev nD} {q k v ct : Mat} {g : Gates} (H : Host.Holds m c q k v g ct) (t : Fin cfg0.N)
include H

omit H in
theorem add_idle (x : EReal) {y : EReal} {r : ℝ} (h : y = x) (hr : r = 0) : y = x + ((r : ℝ) : EReal) := by rw [h, hr, EReal.coe_zero, add_zero]

theorem dk_step (y : S1024x128.Idx) : (outsAt0 m c t.val t.isLt).2.1 y = (if t.val % 16 = 0 then 0 else (before m c t).2.1 y) + ((tk q k v ct g t.val (y 0) (y 1) : ℝ) : EReal) := by
  by_cases ha : t.val / 16 % 16 ≤ t.val % 16
  · unfold tk; rw [if_pos ha]; exact dk_active (reads H t) ha y
  · exact add_idle _ (dk_idle ha y) (if_neg ha)

theorem dv_step (y : S1024x128.Idx) : (outsAt0 m c t.val t.isLt).2.2.1 y = (if t.val % 16 = 0 then 0 else (before m c t).2.2.1 y) + ((tv q k v ct g t.val (y 0) (y 1) : ℝ) : EReal) := by
  by_cases ha : t.val / 16 % 16 ≤ t.val % 16
  · unfold tv; rw [if_pos ha]; exact dv_active (reads H t) ha y
  · exact add_idle _ (dv_idle ha y) (if_neg ha)

theorem dc_step (y : S1x2x1024.Idx) : (outsAt0 m c t.val t.isLt).2.2.2.1 y = (if t.val % 16 = 0 then 0 else (before m c t).2.2.2.1 y) + ((tc q k v ct g t.val (y 1) (y 2) : ℝ) : EReal) := by
  by_cases ha : t.val / 16 % 16 ≤ t.val % 16
  · unfold tc; rw [if_pos ha]; exact dc_active (reads H t) ha y
  · exact add_idle _ (dc_idle ha y) (if_neg ha)

theorem dq_step (y : S16384x128.Idx) :
    (outsAt0 m c t.val t.isLt).1 y = (if t.val % 256 = 0 then 0 else (before m c t).1 y) + ((inRows (t.val % 16) (tq q k v ct g t.val) (y 0) (y 1) : ℝ) : EReal) := by
  by_cases ha : t.val / 16 % 16 ≤ t.val % 16
  · rw [show tq q k v ct g t.val = (blocksAt q k v ct g t.val).dq (decide (t.val / 16 % 16 = t.val % 16)) from funext fun r => funext fun l => if_pos ha]
    exact dq_active (reads H t) ha y
  · rw [if_neg (by omega)]
    exact add_idle _ (dq_idle ha y) (by unfold inRows tq; rw [if_neg ha, ite_self])

theorem dcq_step (y : S16384x128.Idx) :
    (outsAt0 m c t.val t.isLt).2.2.2.2 y = (if t.val % 2048 = 0 then 0 else (before m c t).2.2.2.2 y) + ((inRows (t.val % 16) (tcq q k v ct g t.val) (y 0) (y 1) : ℝ) : EReal) := by
  by_cases ha : t.val / 16 % 16 ≤ t.val % 16
  · rw [show tcq q k v ct g t.val = (blocksAt q k v ct g t.val).dcq (decide (t.val / 16 % 16 = t.val % 16)) (2 * (t.val / 256 % 8)) from funext fun r => funext fun l => if_pos ha]
    exact dcq_active (reads H t) ha y
  · rw [if_neg (by omega)]
    exact add_idle _ (dcq_idle ha y) (by unfold inRows tcq; rw [if_neg ha, ite_self])

theorem dk_total (ht : t.val % 16 = 15) (y : S1024x128.Idx) : (outsAt0 m c t.val t.isLt).2.1 y = ((dK q k v ct g (row (kblk t.val) (y 0)) (lane t.val (y 1)) : ℝ) : EReal) :=
  (total_of_step (fun n h => (outsAt0 m c n h).2.1) 16 (fun n y => tk q k v ct g n (y 0) (y 1)) (fun t y => dk_step H t y) t ht y).trans
    (congrArg (fun x : ℝ => (x : EReal)) (tk_sum q k v ct g t.val (y 0) (y 1)))

theorem dv_total (ht : t.val % 16 = 15) (y : S1024x128.Idx) : (outsAt0 m c t.val t.isLt).2.2.1 y = ((dV q k ct g (row (kblk t.val) (y 0)) (lane t.val (y 1)) : ℝ) : EReal) :=
  (total_of_step (fun n h => (outsAt0 m c n h).2.2.1) 16 (fun n y => tv q k v ct g n (y 0) (y 1)) (fun t y => dv_step H t y) t ht y).trans
    (congrArg (fun x : ℝ => (x : EReal)) (tv_sum q k v ct g t.val (y 0) (y 1)))

theorem dc_total (ht : t.val % 16 = 15) (y : S1x2x1024.Idx) : (outsAt0 m c t.val t.isLt).2.2.2.1 y = ((dKgate q k v ct g (row (kblk t.val) (y 2)) (head t.val (y 1)) : ℝ) : EReal) :=
  (total_of_step (fun n h => (outsAt0 m c n h).2.2.2.1) 16 (fun n y => tc q k v ct g n (y 1) (y 2)) (fun t y => dc_step H t y) t ht y).trans
    (congrArg (fun x : ℝ => (x : EReal)) (tc_sum q k v ct g t.val (y 1) (y 2)))

theorem dq_total (ht : t.val % 256 = 255) (y : S16384x128.Idx) : (outsAt0 m c t.val t.isLt).1 y = ((dQ q k v ct g (y 0) (lane t.val (y 1)) : ℝ) : EReal) :=
  (total_of_step (fun n h => (outsAt0 m c n h).1) 256 (fun n y => inRows (n % 16) (tq q k v ct g n) (y 0) (y 1)) (fun t y => dq_step H t y) t ht y).trans
    (congrArg (fun x : ℝ => (x : EReal)) (tq_sum q k v ct g t.val (y 0) (y 1)))

theorem dcq_total (ht : t.val % 2048 = 2047) (y : S16384x128.Idx) :
    (outsAt0 m c t.val t.isLt).2.2.2.2 y = ((if (y 1).val < 16 then dQgate q k v ct g (y 0) (headN (y 1).val) else 0 : ℝ) : EReal) :=
  (total_of_step (fun n h => (outsAt0 m c n h).2.2.2.2) 2048 (fun n y => inRows (n % 16) (tcq q k v ct g n) (y 0) (y 1)) (fun t y => dcq_step H t y) t ht y).trans
    (congrArg (fun x : ℝ => (x : EReal)) (tcq_sum q k v ct g t.val (y 0) (y 1)))

end Fox.Block

end
-- ==== Proof.Fox.Arrays.lean ====
/-
  The kernel's five result arrays, once every block of them is written back.
-/
module

public import proofs.«01_k».proof.Proof.Fox.Totals

@[expose] public section

set_option maxRecDepth 16384

noncomputable section

open scoped BigOperators
open Idealize.ShloMosaic Idealize.SL.Sem Cert.KernelIdeal Cert.KernelIdeal.Gen TcCoe

namespace Fox.Block

/-! ## Where the results' blocks lie -/

theorem idx_13 (t : Fin cfg0.N) : cc0_transform_13 (grid0.coords t) = ![0, t.val / 256 % 8] := by
  have e0 := coord0 t
  exact funext (Fin.forall_fin_two.mpr ⟨rfl, (word_nat (by omega)).trans e0⟩)

theorem idx_14 (t : Fin cfg0.N) : cc0_transform_14 (grid0.coords t) = ![t.val / 16 % 16, t.val / 256 % 8] := by
  have e0 := coord0 t
  have e1 := coord1 t
  exact funext (Fin.forall_fin_two.mpr ⟨(word_nat (by omega)).trans e1, (word_nat (by omega)).trans e0⟩)

theorem idx_16 (t : Fin cfg0.N) : cc0_transform_16 (grid0.coords t) = ![t.val / 256 % 8, 0, t.val / 16 % 16] := idx_c t

theorem kb0 (t : Fin cfg0.N) (r : Fin 1024) : cc0_transform_14 (grid0.coords t) 0 * 1024 + r.val = (row (kblk t.val) r).val := by
  rw [idx_14]; show t.val / 16 % 16 * 1024 + r.val = t.val / 16 % 16 % 16 * 1024 + r.val; omega
theorem kb1 (t : Fin cfg0.N) (l : Fin 128) : cc0_transform_14 (grid0.coords t) 1 * 128 + l.val = (lane t.val l).val := by rw [idx_14]; rfl

/-! ## The arrays -/

/-- The columns' gates: by pair of heads, head of the pair, row. -/
def gatesOut (f : Gates) : S8x2x16384.Idx → EReal := fun i => ((f (i 2) ⟨(i 0).val * 2 + (i 1).val, by have h0 : (i 0).val < 8 := (i 0).isLt; have h1 : (i 1).val < 2 := (i 1).isLt; omega⟩ : ℝ) : EReal)

/-- The rows' gates in the first sixteen of 128 lanes. -/
def padOut (f : Gates) : S16384x128.Idx → EReal := fun i => ((if (i 1).val < 16 then f (i 0) (headN (i 1).val) else 0 : ℝ) : EReal)

section
variable (m : (ℓ : Loc nD τ sig) → Buf (Elt Ideal) ℓ) (c : Dev nD)

theorem emb_13 (t : Fin cfg0.N) (y : S16384x128.Idx) : (win0_13.blk t).view.emb y = ValueIdx.ix2 (n0 := 16384) (n1 := 1024) (y 0) (lane t.val (y 1)) := by
  refine place ?_ ?_
  · blk_simp; show cc0_transform_13 (grid0.coords t) 0 * 16384 + (y 0).val = (y 0).val
    rw [idx_13]; show 0 * 16384 + (y 0).val = (y 0).val; omega
  · blk_simp; show cc0_transform_13 (grid0.coords t) 1 * 128 + (y 1).val = (lane t.val (y 1)).val
    rw [idx_13]; rfl

theorem emb_14 (t : Fin cfg0.N) (y : S1024x128.Idx) : (win0_14.blk t).view.emb y = at2 (kblk t.val) t.val y :=
  place (by blk_simp; exact kb0 t (y 0)) (by blk_simp; exact kb1 t (y 1))

theorem emb_15 (t : Fin cfg0.N) (y : S1024x128.Idx) : (win0_15.blk t).view.emb y = at2 (kblk t.val) t.val y :=
  place (by blk_simp; exact kb0 t (y 0)) (by blk_simp; exact kb1 t (y 1))

theorem emb_16 (t : Fin cfg0.N) (y : S1x2x1024.Idx) :
    (win0_16.blk t).view.emb y = ValueIdx.ix3 (n0 := 8) (n1 := 2) (n2 := 16384) ⟨pair t.val, by unfold pair; omega⟩ (y 1) (row (kblk t.val) (y 2)) := by
  refine funext (Fin.forall_fin_succ.mpr ⟨Fin.ext ?_, Fin.forall_fin_two.mpr ⟨Fin.ext ?_, Fin.ext ?_⟩⟩)
  · blk_simp; show cc0_transform_16 (grid0.coords t) 0 = pair t.val
    rw [idx_16]; rfl
  · blk_simp; show cc0_transform_16 (grid0.coords t) 1 * 2 + (y 1).val = (y 1).val
    rw [idx_16]; show 0 * 2 + (y 1).val = (y 1).val; omega
  · blk_simp; show cc0_transform_16 (grid0.coords t) 2 * 1024 + (y 2).val = (row (kblk t.val) (y 2)).val
    rw [idx_16]; show t.val / 16 % 16 * 1024 + (y 2).val = t.val / 16 % 16 % 16 * 1024 + (y 2).val; omega

theorem emb_17 (t : Fin cfg0.N) (y : S16384x128.Idx) : (win0_17.blk t).view.emb y = y := by
  refine funext (Fin.forall_fin_two.mpr ⟨Fin.ext ?_, Fin.ext ?_⟩)
  · blk_simp; show 0 * 16384 + (y 0).val = (y 0).val; omega
  · blk_simp; show 0 * 128 + (y 1).val = (y 1).val; omega

theorem array_13 (G : Mat) (h : ∀ (t : Fin cfg0.N), t.val % 256 = 255 → ∀ y : S16384x128.Idx, (outsAt0 m c t.val t.isLt).1 y = ((G (y 0) (lane t.val (y 1)) : ℝ) : EReal)) :
    (dats m 0 c).arrAt 13 cfg0.N = up G := by
  refine (dats m 0 c).arrAt_eq_of_covers 13 _ (by decide +kernel) fun t hf y => ?_
  blk_simp
  rw [after0_13]
  exact (h t ((flush0_13 t).mp hf) y).trans (congrArg (up G) (emb_13 t y)).symm

theorem array_14 (G : Mat) (h : ∀ (t : Fin cfg0.N), t.val % 16 = 15 → ∀ y : S1024x128.Idx, (outsAt0 m c t.val t.isLt).2.1 y = ((G (row (kblk t.val) (y 0)) (lane t.val (y 1)) : ℝ) : EReal)) :
    (dats m 0 c).arrAt 14 cfg0.N = up G := by
  refine (dats m 0 c).arrAt_eq_of_covers 14 _ (by decide +kernel) fun t hf y => ?_
  blk_simp
  rw [after0_14]
  exact (h t ((flush0_14 t).mp hf) y).trans (congrArg (up G) (emb_14 t y)).symm

theorem array_15 (G : Mat) (h : ∀ (t : Fin cfg0.N), t.val % 16 = 15 → ∀ y : S1024x128.Idx, (outsAt0 m c t.val t.isLt).2.2.1 y = ((G (row (kblk t.val) (y 0)) (lane t.val (y 1)) : ℝ) : EReal)) :
    (dats m 0 c).arrAt 15 cfg0.N = up G := by
  refine (dats m 0 c).arrAt_eq_of_covers 15 _ (by decide +kernel) fun t hf y => ?_
  blk_simp
  rw [after0_15]
  exact (h t ((flush0_15 t).mp hf) y).trans (congrArg (up G) (emb_15 t y)).symm

theorem array_16 (G : Gates) (h : ∀ (t : Fin cfg0.N), t.val % 16 = 15 → ∀ y : S1x2x1024.Idx, (outsAt0 m c t.val t.isLt).2.2.2.1 y = ((G (row (kblk t.val) (y 2)) (head t.val (y 1)) : ℝ) : EReal)) :
    (dats m 0 c).arrAt 16 cfg0.N = gatesOut G := by
  refine (dats m 0 c).arrAt_eq_of_covers 16 _ (by decide +kernel) fun t hf y => ?_
  blk_simp
  rw [after0_16]
  exact (h t ((flush0_16 t).mp hf) y).trans (congrArg (gatesOut G) (emb_16 t y)).symm

theorem array_17 (G : Gates) (h : ∀ (t : Fin cfg0.N), t.val % 2048 = 2047 → ∀ y : S16384x128.Idx, (outsAt0 m c t.val t.isLt).2.2.2.2 y = padOut G y) :
    (dats m 0 c).arrAt 17 cfg0.N = padOut G := by
  refine (dats m 0 c).arrAt_eq_of_covers 17 _ (by decide +kernel) fun t hf y => ?_
  blk_simp
  rw [after0_17]
  exact (h t ((flush0_17 t).mp hf) y).trans (congrArg (padOut G) (emb_17 t y)).symm
end

variable {m : (ℓ : Loc nD τ sig) → Buf (Elt Ideal) ℓ} {c : Dev nD} {q k v ct : Mat} {g : Gates} (H : Host.Holds m c q k v g ct)
include H

theorem arr_dq : (dats m 0 c).arrAt 13 cfg0.N = up (dQ q k v ct g) := array_13 m c _ (dq_total H)
theorem arr_dk : (dats m 0 c).arrAt 14 cfg0.N = up (dK q k v ct g) := array_14 m c _ (dk_total H)
theorem arr_dv : (dats m 0 c).arrAt 15 cfg0.N = up (dV q k ct g) := array_15 m c _ (dv_total H)
theorem arr_dc : (dats m 0 c).arrAt 16 cfg0.N = gatesOut (dKgate q k v ct g) := array_16 m c _ (dc_total H)
theorem arr_dcq : (dats m 0 c).arrAt 17 cfg0.N = padOut (dQgate q k v ct g) := array_17 m c _ (dcq_total H)

end Fox.Block

end
-- ==== Proof.Fox.Reference.lean ====
/-
  What the reference computes on real arguments: the five gradients of `Gradient.lean`.
-/
module

public import proofs.«01_k».proof.Proof.Fox.Extended
public import proofs.«01_k».proof.Proof.Gen.ReferenceIdeal.Read
public import Idealize.ShloMosaic.Lib.KernelVsHost

@[expose] public section

noncomputable section

open scoped BigOperators
open Idealize.ShloMosaic Cert.ReferenceIdeal Cert.ReferenceIdeal.Gen Cert.ReferenceIdeal.Read

namespace Fox.Ref

variable (q k v ct : Mat) (c : Gates)

/-! ## The heads of an argument -/

theorem feat_split (i : Fin 16384) (h : Fin 16) (d : Fin 64) (f : Mat) {a : S16384x1024.Idx}
    (h0 : (a 0).val = ((i.val * 16 + h.val) * 64 + d.val) / 1024) (h1 : (a 1).val = ((i.val * 16 + h.val) * 64 + d.val) % 1024) :
    up f a = ((f i (feat h d) : ℝ) : EReal) := by
  have e0 : a 0 = i := Fin.ext (by rw [h0]; omega)
  have e1 : a 1 = feat h d := Fin.ext (by rw [h1]; simp only [feat]; omega)
  show ((f (a 0) (a 1) : ℝ) : EReal) = _
  rw [e0, e1]

theorem q_at (i : S16x16384x64.Idx) : val_main_v1 (F := Ideal) (up q) i = ((q (i 1) (feat (i 0) (i 2)) : ℝ) : EReal) := by
  rw [val_main_v1_apply, val_main_v0_apply]; exact feat_split _ _ _ _ rfl rfl
theorem k_at (i : S16x16384x64.Idx) : val_main_v3 (F := Ideal) (up k) i = ((k (i 1) (feat (i 0) (i 2)) : ℝ) : EReal) := by
  rw [val_main_v3_apply, val_main_v2_apply]; exact feat_split _ _ _ _ rfl rfl
theorem v_at (i : S16x16384x64.Idx) : val_main_v51 (F := Ideal) (up v) i = ((v (i 1) (feat (i 0) (i 2)) : ℝ) : EReal) := by
  rw [val_main_v51_apply, val_main_v50_apply]; exact feat_split _ _ _ _ rfl rfl
theorem ct_at (i : S16x16384x64.Idx) : val_main_v56 (F := Ideal) (up ct) i = ((ct (i 1) (feat (i 0) (i 2)) : ℝ) : EReal) := by
  rw [val_main_v56_apply, val_main_v55_apply]; exact feat_split _ _ _ _ rfl rfl

/-! ## The weights -/

theorem mask_at (i : S16x16384x16384.Idx) : val_main_v21_1 (F := Ideal) i = if (i 2 : Fin 16384) ≤ (i 1 : Fin 16384) then 1#1 else 0#1 := by
  rw [val_main_v21_1_apply, val_main_v20_apply, val_main_v18_apply, val_main_v19_apply, val_main_v16_apply, val_main_v17_apply, val_main_v15_apply,
    val_main_v15_apply]
  have h1 : (i 1).val < 16384 := (i 1).isLt
  have h2 : (i 2).val < 16384 := (i 2).isLt
  exact sle_ofNat (a := (i 2).val) (b := (i 1).val) (by omega) (by omega)

theorem score_at (i : S16x16384x16384.Idx) :
    val_main_v14 (F := Ideal) (up q) (up k) (up c) i = ((score q k c (i 0) (i 1) (i 2) + c (i 1) (i 0) : ℝ) : EReal) := by
  rw [val_main_v14_apply, val_main_v10_apply, val_main_v6_apply, val_main_v4_apply, val_main_v5_apply, val_main_cst_apply, val_main_v9_apply,
    val_main_v8_apply, val_main_v7_apply, val_main_v13_apply, val_main_v12_apply, val_main_v11_apply]
  simp only [q_at, k_at, Ideal.subf_def, Ideal.addf_def, Ideal.mulf_def, Ideal.ofBits_def, ofBits_eighth, ← EReal.coe_mul, coe_sum]
  show ((_ : ℝ) : EReal) + ((c (i 1) (i 0) : ℝ) : EReal) - ((c (i 2) (i 0) : ℝ) : EReal) = _
  rw [← EReal.coe_add, ← EReal.coe_sub]
  congr 1
  show (∑ d : Fin 64, q (i 1) (feat (i 0) d) * k (i 2) (feat (i 0) d)) * (1 / 8) + c (i 1) (i 0) - c (i 2) (i 0) = _
  unfold score; ring

theorem masked_at (i : S16x16384x16384.Idx) :
    val_main_v21_0 (F := Ideal) (up q) (up k) (up c) i
      = if (i 2 : Fin 16384) ≤ (i 1 : Fin 16384) then ((score q k c (i 0) (i 1) (i 2) + c (i 1) (i 0) : ℝ) : EReal) else ⊥ := by
  rw [val_main_v21_0_apply, mask_at, score_at, val_main_call0_v2_apply, select_ite, val_main_call0_v0_apply, val_main_cst_0_apply,
    Ideal.ofBits_def, ofBits_neg_inf]

/-- A row's maximum is a real number. -/
theorem exists_max (i : S16x16384.Idx) : ∃ r : ℝ, val_main_v22 (F := Ideal) (up q) (up k) (up c) i = (r : EReal) := by
  have hr : S16x16384x16384.Reduces [2] S16x16384 := by decide
  obtain ⟨r, hr'⟩ := exists_fold_max (fun j : Fin 16384 => val_main_v21_0 (F := Ideal) (up q) (up k) (up c) (hr.lift i j))
    (fun j => by rw [masked_at]; split; exacts [EReal.coe_ne_top _, bot_ne_top]) (i 1) (by
      rw [masked_at, if_pos]
      · exact EReal.coe_ne_bot _
      · exact le_of_eq rfl)
  refine ⟨r, ?_⟩
  unfold val_main_v22
  rw [Host.reduce_eq_fold_single FloatOps.maximumf _ _ _ hr]
  rw [val_main_cst_1_apply, Ideal.ofBits_def, ofBits_neg_inf]
  exact hr'

/-- A row's maximum. -/
def rowMax (h : Fin 16) (i : Fin 16384) : ℝ := Classical.choose (exists_max q k c (ValueIdx.ix2 h i))

theorem max_at (i : S16x16384.Idx) : val_main_v29 (F := Ideal) (up q) (up k) (up c) i = ((rowMax q k c (i 0) (i 1) : ℝ) : EReal) := by
  have e : val_main_v22 (F := Ideal) (up q) (up k) (up c) i = _ := (congrArg _ (ValueIdx.eq_ix2 i)).trans (Classical.choose_spec (exists_max q k c (ValueIdx.ix2 (i 0) (i 1))))
  rw [val_main_v29_apply, e, val_main_v28_apply, val_main_cst_3_apply, Ideal.ofBits_def, ofBits_neg_inf, Ideal.maximumf_def]
  exact max_eq_right bot_le

/-- The scores as the reference shifts them: a row's gate added, its maximum subtracted. -/
def shifted (h : Fin 16) : Fin 16384 → Fin 16384 → ℝ := fun i j => score q k c h i j - (rowMax q k c h i - c i h)

theorem weight_term (j r : Fin 16384) (s : Fin 16384 → Fin 16384 → ℝ) (a b : ℝ) (s' : Fin 16384 → Fin 16384 → ℝ) (hs : s' r j = s r j - (b - a)) :
    Ideal.exp ((if j ≤ r then ((s r j + a : ℝ) : EReal) else ⊥) - ((b : ℝ) : EReal)) = ((weight s' r j : ℝ) : EReal) := by
  unfold weight
  split
  · rw [hs, ← EReal.coe_sub, Ideal.exp_coe, show s r j + a - b = s r j - (b - a) by ring]
  · rw [EReal.bot_sub, Ideal.exp_bot, EReal.coe_zero]

theorem weight_at (i : S16x16384x16384.Idx) :
    val_main_v42 (F := Ideal) (up q) (up k) (up c) i = ((weight (shifted q k c (i 0)) (i 1) (i 2) : ℝ) : EReal) := by
  rw [val_main_v42_apply, val_main_v41_apply, masked_at, val_main_v40_apply, val_main_v39_apply, max_at, Ideal.subf_def, Ideal.hostUnary_exp_def]
  exact weight_term (i 2 : Fin 16384) (i 1 : Fin 16384) (score q k c (i 0)) (c (i 1) (i 0)) (rowMax q k c (i 0) (i 1)) _ rfl

theorem total_at (i : S16x16384.Idx) :
    val_main_v43 (F := Ideal) (up q) (up k) (up c) i = ((total (shifted q k c (i 0)) (i 1) : ℝ) : EReal) := by
  rw [val_main_v43_apply, val_main_cst_9_apply, Ideal.ofBits_def, Ideal.ofBits_zero_f32, zero_add]
  simp only [weight_at]
  exact coe_sum _ _

theorem prob_at (i : S16x16384x16384.Idx) :
    val_main_v46 (F := Ideal) (up q) (up k) (up c) i = ((probs q k c (i 0) (i 1) (i 2) : ℝ) : EReal) := by
  rw [val_main_v46_apply, val_main_v45_apply, val_main_v44_apply, weight_at, total_at, Ideal.hostDivf_def]
  refine (div_coe_coe (total_pos _ _).ne').trans ?_
  exact congrArg _ (prob_shift (score q k c (i 0)) (fun i' => rowMax q k c (i 0) i' - c i' (i 0)) (i 1) (i 2))

theorem dprob_at (i : S16x16384x16384.Idx) :
    val_main_v59 (F := Ideal) (up v) (up ct) i = ((dProbs v ct (i 0) (i 1) (i 2) : ℝ) : EReal) := by
  rw [val_main_v59_apply]
  simp only [ct_at, v_at, ← EReal.coe_mul, coe_sum]
  rfl

theorem inner_term (d t w : ℝ) (ht : t ≠ 0) :
    (d : EReal) * Ideal.div 1 ((t : EReal) * (t : EReal)) * (w : EReal) = ((d * (1 / (t * t)) * w : ℝ) : EReal) := by
  rw [← EReal.coe_mul, ← EReal.coe_one, div_coe_coe (mul_ne_zero ht ht), ← EReal.coe_mul, ← EReal.coe_mul]

theorem grad_term (d t w a : ℝ) (ht : t ≠ 0) :
    (Ideal.div (d : EReal) (t : EReal) + ((-a : ℝ) : EReal)) * (w : EReal) = (((d / t + -a) * w : ℝ) : EReal) := by
  rw [div_coe_coe ht, ← EReal.coe_add, ← EReal.coe_mul]

theorem inner_at (i : S16x16384.Idx) :
    val_main_v65 (F := Ideal) (up q) (up k) (up v) (up c) (up ct) i
      = ((∑ j, dProbs v ct (i 0) (i 1) j * (1 / (total (shifted q k c (i 0)) (i 1) * total (shifted q k c (i 0)) (i 1)))
          * weight (shifted q k c (i 0)) (i 1) j : ℝ) : EReal) := by
  have ht := (total_pos (shifted q k c (i 0)) (i 1)).ne'
  rw [val_main_v65_apply, val_main_cst_11_apply, Ideal.ofBits_def, Ideal.ofBits_zero_f32, zero_add, ← coe_sum]
  refine Finset.sum_congr rfl fun j _ => ?_
  rw [val_main_v64_apply, val_main_v63_apply, dprob_at, val_main_v62_apply, val_main_v49_apply, val_main_v48_apply, val_main_cst_10_apply,
    val_main_v47_apply, val_main_v44_apply, total_at, weight_at, Ideal.ofBits_def, Ideal.ofBits_one_f32]
  exact inner_term _ _ _ ht

theorem dscore_at (i : S16x16384x16384.Idx) :
    val_main_v74 (F := Ideal) (up q) (up k) (up v) (up c) (up ct) i = ((dScores q k v ct c (i 0) (i 1) (i 2) : ℝ) : EReal) := by
  have ht := (total_pos (shifted q k c (i 0)) (i 1)).ne'
  have e70 : val_main_v70 (F := Ideal) (up q) (up k) (up v) (up c) (up ct) (idx_main_v71 i)
      = ((-(∑ j, dProbs v ct (i 0) (i 1) j * (1 / (total (shifted q k c (i 0)) (i 1) * total (shifted q k c (i 0)) (i 1)))
          * weight (shifted q k c (i 0)) (i 1) j) : ℝ) : EReal) := by
    rw [val_main_v70_apply, val_main_cst_12_apply, Ideal.ofBits_def, Ideal.ofBits_zero_f32, zero_add, Fin.sum_univ_one, val_main_v67_apply,
      val_main_v66_apply, Ideal.hostNegf_def, Ideal.negf_def, EReal.coe_neg, ← inner_at q k v ct c (ValueIdx.ix2 (i 0) (i 1))]
    congr 2
    funext a
    have h0 : (i 0).val < 16 := (i 0).isLt
    have h1 : (i 1).val < 16384 := (i 1).isLt
    match a with
    | ⟨0, _⟩ => exact Fin.ext (show ((((i 0).val * 16384 + (i 1).val) * 1 + 0) / 16384 = (i 0).val) by omega)
    | ⟨1, _⟩ => exact Fin.ext (show ((((i 0).val * 16384 + (i 1).val) * 1 + 0) % 16384 = (i 1).val) by omega)
  rw [val_main_v74_apply, mask_at, select_ite, val_main_v73_apply, val_main_v72_apply, val_main_v71_apply, e70, val_main_v69_apply, dprob_at,
    val_main_v68_apply, val_main_v44_apply, total_at, weight_at, val_main_call1_v0_apply, val_main_call1_cst_apply, Ideal.ofBits_def,
    Ideal.ofBits_zero_f32]
  split
  · refine (grad_term _ _ _ _ ht).trans (congrArg _ ?_)
    refine (dScore_quot (shifted q k c (i 0)) (dProbs v ct (i 0)) (i 1) (i 2)).trans ?_
    exact dScore_shift (score q k c (i 0)) _ (fun i' => rowMax q k c (i 0) i' - c i' (i 0)) (i 1) (i 2)
  · rename_i h
    exact EReal.coe_zero.symm.trans (congrArg (fun x : ℝ => (x : EReal)) (dScore_eq_zero (score q k c (i 0)) (dProbs v ct (i 0)) (i 1) (i 2) h)).symm

/-! ## The five results -/

theorem headOf_feat (h : Fin 16) (d : Fin 64) : headOf (feat h d) = h := Fin.ext (by simp only [feat, headOf]; omega)

/-- The heads laid side by side again. -/
theorem merge (f : Mat) (i : S16384x1024.Idx) {r : Fin 16384} {h : Fin 16} {d : Fin 64} (hr : r.val = ((i 0).val * 1024 + (i 1).val) / 1024)
    (hh : h.val = ((i 0).val * 1024 + (i 1).val) / 64 % 16) (hd : d.val = ((i 0).val * 1024 + (i 1).val) % 64) :
    ((f r (feat h d) : ℝ) : EReal) = up f i := by
  have h0 : (i 0).val < 16384 := (i 0).isLt
  have h1 : (i 1).val < 1024 := (i 1).isLt
  have e0 : r = i 0 := Fin.ext (by rw [hr]; omega)
  have e1 : feat h d = i 1 := Fin.ext (by simp only [feat]; rw [hh, hd]; omega)
  rw [e0, e1]; rfl

theorem dq_at (i : S16x16384x64.Idx) :
    val_main_v87 (F := Ideal) (up q) (up k) (up v) (up c) (up ct) i = ((dQ q k v ct c (i 1) (feat (i 0) (i 2)) : ℝ) : EReal) := by
  rw [val_main_v87_apply]
  unfold dQ
  rw [← coe_sum]
  refine Finset.sum_congr rfl fun j _ => ?_
  rw [val_main_v85_apply, dscore_at, k_at, val_main_v84_apply, val_main_cst_17_apply, Ideal.ofBits_def, ofBits_eighth, Ideal.mulf_def, EReal.coe_mul,
    EReal.coe_mul]
  exact congrArg (fun h => ((dScores q k v ct c h (i 1) j : ℝ) : EReal) * ((1 / 8 : ℝ) : EReal) * ((k j (feat (i 0) (i 2)) : ℝ) : EReal)) (headOf_feat (i 0) (i 2)).symm

theorem dk_at (i : S16x16384x64.Idx) :
    val_main_v86 (F := Ideal) (up q) (up k) (up v) (up c) (up ct) i = ((dK q k v ct c (i 1) (feat (i 0) (i 2)) : ℝ) : EReal) := by
  rw [val_main_v86_apply]
  unfold dK
  rw [← coe_sum]
  refine Finset.sum_congr rfl fun j _ => ?_
  rw [val_main_v85_apply, dscore_at, q_at, val_main_v84_apply, val_main_cst_17_apply, Ideal.ofBits_def, ofBits_eighth, Ideal.mulf_def, EReal.coe_mul,
    EReal.coe_mul]
  exact congrArg (fun h => ((dScores q k v ct c h j (i 1) : ℝ) : EReal) * ((1 / 8 : ℝ) : EReal) * ((q j (feat (i 0) (i 2)) : ℝ) : EReal)) (headOf_feat (i 0) (i 2)).symm

theorem dv_at (i : S16x64x16384.Idx) :
    val_main_v57 (F := Ideal) (up q) (up k) (up c) (up ct) i = ((dV q k ct c (i 2) (feat (i 0) (i 1)) : ℝ) : EReal) := by
  rw [val_main_v57_apply]
  unfold dV
  rw [← coe_sum]
  refine Finset.sum_congr rfl fun j _ => ?_
  rw [prob_at, ct_at, EReal.coe_mul]
  exact congrArg (fun h => ((ct j (feat (i 0) (i 1)) : ℝ) : EReal) * ((probs q k c h j (i 2) : ℝ) : EReal)) (headOf_feat (i 0) (i 1)).symm

/-- The first result is the gradient of the queries. -/
theorem dq_eq : val_main_v91 (F := Ideal) (up q) (up k) (up v) (up c) (up ct) = up (dQ q k v ct c) := by
  funext i
  rw [val_main_v91_apply, val_main_v90_apply, dq_at]
  exact merge _ i rfl rfl rfl

/-- The second is the gradient of the keys. -/
theorem dk_eq : val_main_v89 (F := Ideal) (up q) (up k) (up v) (up c) (up ct) = up (dK q k v ct c) := by
  funext i
  rw [val_main_v89_apply, val_main_v88_apply, dk_at]
  exact merge _ i rfl rfl rfl

/-- The third is the gradient of the values. -/
theorem dv_eq : val_main_v61 (F := Ideal) (up q) (up k) (up c) (up ct) = up (dV q k ct c) := by
  funext i
  rw [val_main_v61_apply, val_main_v60_apply, val_main_v58_apply, dv_at]
  exact merge _ i rfl rfl rfl

theorem dkgate_at (i : S16x16384.Idx) :
    val_main_v78 (F := Ideal) (up q) (up k) (up v) (up c) (up ct) i = ((dKgate q k v ct c (i 1) (i 0) : ℝ) : EReal) := by
  have h0 : (i 0).val < 16 := (i 0).isLt
  have h1 : (i 1).val < 16384 := (i 1).isLt
  have e : idx_main_v77 (idx_main_v78 i 0) = ValueIdx.ix2 (n0 := 16) (n1 := 16384) (i 0) (i 1) := by
    funext a
    match a with
    | ⟨0, _⟩ => exact Fin.ext (show ((((i 0).val * 1 + 0) * 16384 + (i 1).val) / 16384 = (i 0).val) by omega)
    | ⟨1, _⟩ => exact Fin.ext (show ((((i 0).val * 1 + 0) * 16384 + (i 1).val) % 16384 = (i 1).val) by omega)
  rw [val_main_v78_apply, val_main_cst_14_apply, Ideal.ofBits_def, Ideal.ofBits_zero_f32, zero_add, Fin.sum_univ_one, val_main_v77_apply, e,
    val_main_v76_apply, val_main_cst_13_apply, Ideal.ofBits_def, Ideal.ofBits_zero_f32, zero_add]
  unfold dKgate
  rw [← coe_sum]
  refine Finset.sum_congr rfl fun j _ => ?_
  rw [val_main_v75_apply, dscore_at, Ideal.hostNegf_def, Ideal.negf_def, EReal.coe_neg]
  rfl

theorem dqgate_at (i : S16384x16.Idx) :
    val_main_v83 (F := Ideal) (up q) (up k) (up v) (up c) (up ct) i = ((dQgate q k v ct c (i 0) (i 1) : ℝ) : EReal) := by
  have h0 : (i 0).val < 16384 := (i 0).isLt
  have h1 : (i 1).val < 16 := (i 1).isLt
  have e : idx_main_v81 (idx_main_v82 (idx_main_v83 i) 0) = ValueIdx.ix2 (n0 := 16) (n1 := 16384) (i 1) (i 0) := by
    funext a
    match a with
    | ⟨0, _⟩ => exact Fin.ext (show ((((i 1).val * 16384 + (i 0).val) * 1 + 0) / 16384 = (i 1).val) by omega)
    | ⟨1, _⟩ => exact Fin.ext (show ((((i 1).val * 16384 + (i 0).val) * 1 + 0) % 16384 = (i 0).val) by omega)
  rw [val_main_v83_apply, val_main_v82_apply, val_main_cst_16_apply, Ideal.ofBits_def, Ideal.ofBits_zero_f32, zero_add, Fin.sum_univ_one,
    val_main_v81_apply, e, val_main_v80_apply, val_main_cst_15_apply, Ideal.ofBits_def, Ideal.ofBits_zero_f32, zero_add]
  unfold dQgate
  rw [← coe_sum]
  refine Finset.sum_congr rfl fun j _ => ?_
  rw [dscore_at]
  rfl

/-- The fourth is the gradient of the columns' gates, the heads in pairs. -/
theorem dkgate_eq (i : S8x2x16384.Idx) (h : Fin 16) (hh : h.val = (i 0).val * 2 + (i 1).val) :
    val_main_v93 (F := Ideal) (up q) (up k) (up v) (up c) (up ct) i = ((dKgate q k v ct c (i 2) h : ℝ) : EReal) := by
  have h2 : (i 2).val < 16384 := (i 2).isLt
  rw [val_main_v93_apply, val_main_v92_apply, val_main_v79_apply, dkgate_at]
  have e0 : (idx_main_v79 (idx_main_v92 (idx_main_v93 i)) 0 : Fin 16) = h :=
    Fin.ext (show (((i 0).val * 2 + (i 1).val) * 16384 + (i 2).val) / 16384 = h.val by rw [hh]; omega)
  have e1 : (idx_main_v79 (idx_main_v92 (idx_main_v93 i)) 1 : Fin 16384) = (i 2 : Fin 16384) :=
    Fin.ext (show (((i 0).val * 2 + (i 1).val) * 16384 + (i 2).val) % 16384 = (i 2).val by omega)
  exact congrArg₂ (fun (a : Fin 16384) (b : Fin 16) => ((dKgate q k v ct c a b : ℝ) : EReal)) e1 e0

/-- The fifth is the gradient of the rows' gates, in the first 16 lanes of 128. -/
theorem dqgate_eq (i : S16384x128.Idx) :
    val_main_v94 (F := Ideal) (up q) (up k) (up v) (up c) (up ct) i
      = if hl : (i 1).val < 16 then ((dQgate q k v ct c (i 0) ⟨(i 1).val, hl⟩ : ℝ) : EReal) else 0 := by
  unfold val_main_v94
  split
  · rename_i hl
    refine (pad_apply_of_inside _ _ _ _ _ _ _ i (ValueIdx.ix2 (n0 := 16384) (n1 := 16) (i 0) ⟨(i 1).val, hl⟩) (fun a => ?_)).trans
      (dqgate_at q k v ct c _)
    match a with
    | ⟨0, _⟩ => show (i 0).val = 0 + (i 0).val * (0 + 1); omega
    | ⟨1, _⟩ => show (i 1).val = 0 + (i 1).val * (0 + 1); omega
  · rename_i hl
    refine (pad_apply_of_not_inside _ _ _ _ _ _ _ i (1 : Fin 2) (fun hc => hl ?_)).trans ?_
    · have h3 : ((i 1).val - 0) / (0 + 1) < 16 := hc.2.2
      omega
    · rw [val_main_call2_v0_apply, val_main_c_apply]
      show ((((0#32 : BitVec 32).toInt : ℤ) : ℝ) : EReal) = 0
      simp

end Fox.Ref

end
-- ==== Proof.Fox.Claims.lean ====
/-
  The five claims: the three frames, the two named constants, and the equality of the kernel's results with the
  reference's on finite arguments.
-/
module

public import proofs.«01_k».proof.Defs
public import proofs.«01_k».proof.Proof.Fox.Arrays
public import proofs.«01_k».proof.Proof.Fox.Reference
public import proofs.«01_k».proof.Proof.Gen.Kernel.Frame
public import proofs.«01_k».proof.Proof.Gen.KernelIdeal.Value
public import proofs.«01_k».proof.Proof.Gen.ReferenceIdeal.Run
public import Idealize.ShloMosaic.Adequacy
public import Idealize.ShloMosaic.Init

@[expose] public section

set_option maxRecDepth 16384

noncomputable section

open Idealize.ShloMosaic Idealize.SL.Sem TcCoe

namespace Fox

/-! ## Finite arguments are real arguments -/

theorem pre_facts : Cert.Pre_finite.Facts where
  bcast_S_S16384x1024 := by decide
  bcast_S_S16384x16 := by decide

/-- An entry whose absolute value compares below infinity is neither infinity. -/
theorem finite_of_lt {x : EReal} (h : Ideal.cmp .olt (max x (-x)) (Ideal.ofBits .f32 0x7F800000#32) = 1#1) : x ≠ ⊤ ∧ x ≠ ⊥ := by
  rw [ofBits_pos_inf] at h
  constructor
  all_goals
    rintro rfl
    simp [Ideal.cmp] at h

theorem real_of_lt {n k : ℕ} (x : (⟨2, ![n, k]⟩ : Shape).Idx → EReal)
    (h : ∀ i, Ideal.cmp .olt (max (x i) (-(x i))) (Ideal.ofBits .f32 0x7F800000#32) = 1#1) : ∃ f : Fin n → Fin k → ℝ, x = up f :=
  exists_up x fun i => finite_of_lt (h i)

attribute [local instance] pre_facts Cert.Kernel.Gen.facts Cert.KernelIdeal.Gen.facts Cert.ReferenceIdeal.Gen.facts

/-- Under the precondition the arguments in memory are real arrays. -/
theorem holds_of_pre {m : (ℓ : Loc Cert.KernelIdeal.nD Cert.KernelIdeal.τ Cert.KernelIdeal.sig) → Buf (Elt Ideal) ℓ} (h : Cert.Pre_KernelIdeal_finite m)
    (c : Dev Cert.KernelIdeal.nD) : ∃ q k v g ct, Host.Holds m c q k v g ct := by
  obtain ⟨h0, h1, h2, h3, h4⟩ := h c
  obtain ⟨q, hq⟩ := real_of_lt _ fun i => congrFun h0 i
  obtain ⟨k, hk⟩ := real_of_lt _ fun i => congrFun h1 i
  obtain ⟨v, hv⟩ := real_of_lt _ fun i => congrFun h2 i
  obtain ⟨g, hg⟩ := real_of_lt _ fun i => congrFun h3 i
  obtain ⟨ct, hct⟩ := real_of_lt _ fun i => congrFun h4 i
  exact ⟨q, k, v, g, ct, hq, hk, hv, hg, hct⟩

/-! ## The gates' layouts -/

theorem ref_dkgate (q k v ct : Mat) (g : Gates) :
    Cert.ReferenceIdeal.Read.val_main_v93 (F := Ideal) (up q) (up k) (up v) (up g) (up ct) = Block.gatesOut (dKgate q k v ct g) :=
  funext fun i => Ref.dkgate_eq q k v ct g i _ rfl

theorem ref_dqgate (q k v ct : Mat) (g : Gates) :
    Cert.ReferenceIdeal.Read.val_main_v94 (F := Ideal) (up q) (up k) (up v) (up g) (up ct) = Block.padOut (dQgate q k v ct g) := by
  funext i
  rw [Ref.dqgate_eq]
  unfold Block.padOut
  split
  case isTrue h => exact congrArg (fun a : Fin 16 => ((dQgate q k v ct g (i 0) a : ℝ) : EReal)) (Fin.ext (Nat.mod_eq_of_lt h).symm)
  case isFalse => exact EReal.coe_zero.symm

/-! ## The claims -/

theorem frame_kernel : Cert.quiescent_Kernel := fun m ρ _ => Cert.Kernel.Gen.frame m ρ
theorem frame_ideal : Cert.quiescent_KernelIdeal := fun m ρ _ => Cert.KernelIdeal.Gen.frame m ρ
theorem frame_ideal_finite : Cert.quiescent_KernelIdeal_pre_finite := fun m ρ _ => Cert.KernelIdeal.Gen.frame m ρ

/-- The reference starts no transfer and signals nothing: its run leaves the arguments and every counter as they were. -/
theorem frame_reference : Cert.quiescent_ReferenceIdeal := fun m ρ _ =>
  (θ_run Cert.ReferenceIdeal.defs _ _).mono
    (fun r h => ⟨fun c => (h c).2.2.2.2.2, sem_eq_zero_of_no_sems (by decide) r.2⟩) (Cert.ReferenceIdeal.Value.run (F := Ideal) m ρ)
theorem frame_reference_finite : Cert.quiescent_ReferenceIdeal_pre_finite := fun m ρ _ => frame_reference m ρ trivial

theorem constants : Cert.preserves_Kernel_KernelIdeal :=
  ⟨IdealRules.named_const.statement Cert.KernelIdeal.κ "ln2" .f32 0x3F317218#32 ((Real.log 2 : ℝ) : EReal) rfl,
    IdealRules.named_const.statement Cert.KernelIdeal.κ "mask" .f32 0xF149F2CA#32 ⊥ rfl⟩

theorem congr_five {α β γ δ ε ζ : Type} (f : α → β → γ → δ → ε → ζ) {a a' : α} {b b' : β} {x x' : γ} {y y' : δ} {z z' : ε}
    (ha : a = a') (hb : b = b') (hx : x = x') (hy : y = y') (hz : z = z') : f a b x y z = f a' b' x' y' z' := by
  subst ha hb hx hy hz; rfl

section Results
open Cert.KernelIdeal Cert.KernelIdeal.Gen

theorem results {m : (ℓ : Loc nD τ sig) → Buf (Elt Ideal) ℓ} {m' : (ℓ : Loc Cert.ReferenceIdeal.nD Cert.ReferenceIdeal.τ Cert.ReferenceIdeal.sig) → Buf (Elt Ideal) ℓ} {c : Dev nD}
    {q k v ct : Mat} {g : Gates} (H : Host.Holds m c q k v g ct)
    (hq : m' ((c.tc : Thread Cert.ReferenceIdeal.nD Cert.ReferenceIdeal.τ).loc Cert.ReferenceIdeal.main_arg0) = up q)
    (hk : m' ((c.tc : Thread Cert.ReferenceIdeal.nD Cert.ReferenceIdeal.τ).loc Cert.ReferenceIdeal.main_arg1) = up k)
    (hv : m' ((c.tc : Thread Cert.ReferenceIdeal.nD Cert.ReferenceIdeal.τ).loc Cert.ReferenceIdeal.main_arg2) = up v)
    (hg : m' ((c.tc : Thread Cert.ReferenceIdeal.nD Cert.ReferenceIdeal.τ).loc Cert.ReferenceIdeal.main_arg3) = up g)
    (hct : m' ((c.tc : Thread Cert.ReferenceIdeal.nD Cert.ReferenceIdeal.τ).loc Cert.ReferenceIdeal.main_arg4) = up ct) :
    Cert.ReferenceIdeal.Value.res_main_v91 m' c = (dats m 0 c).arrAt 13 cfg0.N ∧ Cert.ReferenceIdeal.Value.res_main_v89 m' c = (dats m 0 c).arrAt 14 cfg0.N
      ∧ Cert.ReferenceIdeal.Value.res_main_v61 m' c = (dats m 0 c).arrAt 15 cfg0.N ∧ Cert.ReferenceIdeal.Value.res_main_v93 m' c = (dats m 0 c).arrAt 16 cfg0.N
      ∧ Cert.ReferenceIdeal.Value.res_main_v94 m' c = (dats m 0 c).arrAt 17 cfg0.N := by
  refine ⟨?_, ?_, ?_, ?_, ?_⟩
  · exact ((Cert.ReferenceIdeal.Read.val_main_v91_eq m' c).trans (congr_five (Cert.ReferenceIdeal.Read.val_main_v91 (F := Ideal)) hq hk hv hg hct)).trans ((Ref.dq_eq q k v ct g).trans (Block.arr_dq H).symm)
  · exact ((Cert.ReferenceIdeal.Read.val_main_v89_eq m' c).trans (congr_five (Cert.ReferenceIdeal.Read.val_main_v89 (F := Ideal)) hq hk hv hg hct)).trans ((Ref.dk_eq q k v ct g).trans (Block.arr_dk H).symm)
  · exact ((Cert.ReferenceIdeal.Read.val_main_v61_eq m' c).trans (congr_five (fun x0 x1 (_ : Unit) => Cert.ReferenceIdeal.Read.val_main_v61 (F := Ideal) x0 x1) hq hk (rfl : () = ()) hg hct)).trans ((Ref.dv_eq q k ct g).trans (Block.arr_dv H).symm)
  · exact ((Cert.ReferenceIdeal.Read.val_main_v93_eq m' c).trans (congr_five (Cert.ReferenceIdeal.Read.val_main_v93 (F := Ideal)) hq hk hv hg hct)).trans ((ref_dkgate q k v ct g).trans (Block.arr_dc H).symm)
  · exact ((Cert.ReferenceIdeal.Read.val_main_v94_eq m' c).trans (congr_five (Cert.ReferenceIdeal.Read.val_main_v94 (F := Ideal)) hq hk hv hg hct)).trans ((ref_dqgate q k v ct g).trans (Block.arr_dcq H).symm)

theorem gradients : Cert.algebraic_KernelIdeal_ReferenceIdeal_pre_finite := by
  intro m ρ m' ρ' hpre hag
  refine ⟨fun c => (dats m 0 c).arrAt 13 cfg0.N, fun c => (dats m 0 c).arrAt 14 cfg0.N, fun c => (dats m 0 c).arrAt 15 cfg0.N,
    fun c => (dats m 0 c).arrAt 16 cfg0.N, fun c => (dats m 0 c).arrAt 17 cfg0.N, Value.run_blocks m ρ, ?_⟩
  refine (θ_run Cert.ReferenceIdeal.defs _ _).mono (fun r h c => ?_) (Cert.ReferenceIdeal.Value.run (F := Ideal) m' ρ')
  obtain ⟨q, k, v, g, ct, H⟩ := holds_of_pre hpre c
  obtain ⟨a0, a1, a2, a3, a4⟩ := hag c
  obtain ⟨r0, r1, r2, r3, r4⟩ := results H (a0.trans H.hq) (a1.trans H.hk) (a2.trans H.hv) (a3.trans H.hg) (a4.trans H.hct)
  obtain ⟨h0, h1, h2, h3, h4, hargs⟩ := h c
  exact ⟨h0.trans r0, h1.trans r1, h2.trans r2, h3.trans r3, h4.trans r4, hargs⟩

end Results

end Fox

end
-- ==== Proof.Fox.Products.Common.lean ====
/-
  Products of matrices, entry by entry: their blocks, and their sums block by block.
-/
module

public import Idealize.ShloMosaic.Lib.KernelVsHost
public import Idealize.ShloMosaic.Lib.Pointwise
public import Idealize.ShloMosaic.PureOps.Ideal

@[expose] public section

noncomputable section

open scoped BigOperators
open Idealize.ShloMosaic

namespace Fox.Products

abbrev Mat (a b : ℕ) := (⟨2, ![a, b]⟩ : Shape).Idx → EReal

section
variable {a b k a' b' : ℕ}

/-- The product of two matrices, of the first with the second transposed, and of the first transposed with the second. -/
def mulNN (x : Mat a k) (w : Mat k b) : Mat a b := fun i => ∑ l : Fin k, x (ValueIdx.ix2 (i 0) l) * w (ValueIdx.ix2 l (i 1))
def mulNT (x : Mat a k) (w : Mat b k) : Mat a b := fun i => ∑ l : Fin k, x (ValueIdx.ix2 (i 0) l) * w (ValueIdx.ix2 (i 1) l)
def mulTN (x : Mat k a) (d : Mat k b) : Mat a b := fun i => ∑ l : Fin k, x (ValueIdx.ix2 l (i 0)) * d (ValueIdx.ix2 l (i 1))

/-- The second with a multiple of the third added: the stream's gradient through a layer's first product and past the layer. -/
def addScaled (s : EReal) (p z : Mat a b) : Mat a b := fun i => p i + s * z i

/-- A block of a product is the product of a block of rows and a block of columns. -/
theorem mulNN_block {x : Mat a k} {w : Mat k b} {x' : Mat a' k} {w' : Mat k b'} (r : Fin a' → Fin a) (q : Fin b' → Fin b)
    (hx : ∀ y, x' y = x (ValueIdx.ix2 (r (y 0)) (y 1))) (hw : ∀ y, w' y = w (ValueIdx.ix2 (y 0) (q (y 1)))) (y : (⟨2, ![a', b']⟩ : Shape).Idx) :
    mulNN x' w' y = mulNN x w (ValueIdx.ix2 (r (y 0)) (q (y 1))) :=
  Finset.sum_congr rfl fun _ _ => congrArg₂ (· * ·) (hx _) (hw _)

theorem mulNT_block {x : Mat a k} {w : Mat b k} {x' : Mat a' k} {w' : Mat b' k} (r : Fin a' → Fin a) (q : Fin b' → Fin b)
    (hx : ∀ y, x' y = x (ValueIdx.ix2 (r (y 0)) (y 1))) (hw : ∀ y, w' y = w (ValueIdx.ix2 (q (y 0)) (y 1))) (y : (⟨2, ![a', b']⟩ : Shape).Idx) :
    mulNT x' w' y = mulNT x w (ValueIdx.ix2 (r (y 0)) (q (y 1))) :=
  Finset.sum_congr rfl fun _ _ => congrArg₂ (· * ·) (hx _) (hw _)

/-- An index is given by its two coordinates. -/
theorem place (i : (⟨2, ![a, b]⟩ : Shape).Idx) (r : Fin a) (q : Fin b) (h0 : (i 0).val = r.val) (h1 : (i 1).val = q.val) : i = ValueIdx.ix2 r q :=
  funext (Fin.forall_fin_two.mpr ⟨Fin.ext h0, Fin.ext h1⟩)
end

/-- A matrix with columns of zeros after its own. -/
def padCols {a b b' : ℕ} (x : Mat a b) : Mat a b' := fun i =>
  if h : (i 1).val < b then x (ValueIdx.ix2 (n0 := a) (n1 := b) (i 0) ⟨(i 1).val, h⟩) else 0

theorem pad_eq {a b b' n : ℕ} (x : Mat a b) {u : Shape} (v : u.Idx → EReal) (hp : (⟨2, ![a, b]⟩ : Shape).Pads ![0, 0] ![0, n] ![0, 0] ⟨2, ![a, b']⟩)
    (hu : 0 < u.numel) (hv : ∀ i, v i = 0) : pad ⟨2, ![a, b']⟩ ![0, 0] ![0, n] ![0, 0] x v hp hu = padCols x := by
  funext i
  unfold padCols
  split
  · rename_i hl
    refine pad_apply_of_inside _ _ _ _ _ _ _ i (ValueIdx.ix2 (n0 := a) (n1 := b) (i 0) ⟨(i 1).val, hl⟩) (Fin.forall_fin_two.mpr ⟨?_, ?_⟩)
    · show (i 0).val = 0 + (i 0).val * (0 + 1); omega
    · show (i 1).val = 0 + (i 1).val * (0 + 1); omega
  · rename_i hl
    refine (pad_apply_of_not_inside _ _ _ _ _ _ _ i (1 : Fin 2) (fun hc => hl ?_)).trans (hv _)
    have h : ((i 1).val - 0) / (0 + 1) < b := hc.2.2
    omega

/-- The integer zero that the padding is made of, as a number. -/
theorem zero_cast : ((((0#32 : BitVec 32).toInt : ℤ) : ℝ) : EReal) = 0 := by simp

theorem mulNN_padCols {a b b' k : ℕ} (x : Mat a k) (w : Mat k b) : mulNN x (padCols w) = (padCols (mulNN x w) : Mat a b') := by
  funext i
  unfold padCols mulNN
  by_cases h : (i 1).val < b
  · rw [dif_pos h]
    exact Finset.sum_congr rfl fun l _ => congrArg (_ * ·) (dif_pos h)
  · rw [dif_neg h]
    exact Finset.sum_eq_zero fun l _ => (congrArg (_ * ·) (dif_neg h)).trans (mul_zero _)

theorem mulNT_padCols {a b k k' : ℕ} (hk : k ≤ k') (d : Mat a k') (w : Mat b k) (i : (⟨2, ![a, b]⟩ : Shape).Idx) :
    mulNT d (padCols w) i = ∑ l : Fin k, d (ValueIdx.ix2 (n0 := a) (n1 := k') (i 0) (l.castLE hk)) * w (ValueIdx.ix2 (n0 := b) (n1 := k) (i 1) l) := by
  obtain ⟨r, rfl⟩ := Nat.exists_eq_add_of_le hk
  unfold mulNT
  rw [Fin.sum_univ_add]
  have h1 (l : Fin k) : padCols w (ValueIdx.ix2 (i 1) (Fin.castAdd r l)) = w (ValueIdx.ix2 (n0 := b) (n1 := k) (i 1) l) := dif_pos l.isLt
  have h2 (l : Fin r) : padCols w (ValueIdx.ix2 (i 1) (Fin.natAdd k l)) = 0 := dif_neg (show ¬k + l.val < k by omega)
  simp only [h1, h2, mul_zero, Finset.sum_const_zero, add_zero]
  rfl

/-- The row or column of a number, counted around. -/
def wrap (n : ℕ) [NeZero n] (i : ℕ) : Fin n := ⟨i % n, Nat.mod_lt _ (Nat.pos_of_neZero n)⟩
theorem wrap_val {n : ℕ} [NeZero n] {i : ℕ} (h : i < n) : (wrap n i).val = i := Nat.mod_eq_of_lt h

section
variable {a b k k' b' : ℕ} [NeZero k] [NeZero b]

/-- The contribution of row `i` to the entry of columns `p` and `q`. -/
def term (x : Mat k a) (d : Mat k b) (p : Fin a) (q : Fin b) (i : ℕ) : EReal := x (ValueIdx.ix2 (wrap k i) p) * d (ValueIdx.ix2 (wrap k i) q)

theorem mulTN_range (x : Mat k a) (d : Mat k b) (p : Fin a) (q : Fin b) :
    mulTN x d (ValueIdx.ix2 p q) = ∑ i ∈ Finset.range k, term x d p q i := by
  rw [Finset.sum_range]
  refine Finset.sum_congr rfl fun l _ => ?_
  have h : wrap k l.val = l := Fin.ext (Nat.mod_eq_of_lt l.isLt)
  unfold term
  rw [h]
  rfl

/-- The product over one block of rows, for a block of columns. -/
theorem mulTN_block {x : Mat k a} {d : Mat k b} {x' : Mat k' a} {d' : Mat k' b'} (n j : ℕ)
    (hx : ∀ y, x' y = x (ValueIdx.ix2 (wrap k (n + (y 0).val)) (y 1))) (hd : ∀ y, d' y = d (ValueIdx.ix2 (wrap k (n + (y 0).val)) (wrap b (j + (y 1).val))))
    (y : (⟨2, ![a, b']⟩ : Shape).Idx) :
    mulTN x' d' y = ∑ i ∈ Finset.range k', term x d (y 0) (wrap b (j + (y 1).val)) (n + i) := by
  rw [Finset.sum_range]
  exact Finset.sum_congr rfl fun l _ => congrArg₂ (· * ·) (hx _) (hd _)
end

/-- A sum begun anew at every `p`-th point, to which each point adds one block's terms, holds the terms up to the point's block. -/
theorem accumulate {p w N : ℕ} (out pay : (n : ℕ) → n < N → EReal) (f : ℕ → ℕ → EReal)
    (first : ∀ n hn, n % p = 0 → out n hn = pay n hn)
    (next : ∀ n hn, ¬n % p = 0 → out n hn = out (n - 1) (Nat.lt_of_le_of_lt (Nat.sub_le _ _) hn) + pay n hn)
    (hpay : ∀ n hn, pay n hn = ∑ i ∈ Finset.range w, f (n / p) (n % p * w + i)) (n : ℕ) :
    ∀ hn, out n hn = ∑ i ∈ Finset.range (n % p * w + w), f (n / p) i := by
  induction n with
  | zero =>
    intro hn
    rw [first 0 hn (Nat.zero_mod _), hpay, Finset.sum_range_add]
    simp
  | succ n ih =>
    intro hn
    by_cases h : (n + 1) % p = 0
    · rw [first _ hn h, hpay, Finset.sum_range_add, h]
      simp
    · have hd : (n + 1) / p = n / p := Nat.succ_div_of_not_dvd fun hd => h (Nat.mod_eq_zero_of_dvd hd)
      have hm : (n + 1) % p = n % p + 1 := by
        have h1 := Nat.div_add_mod (n + 1) p
        have h2 := Nat.div_add_mod n p
        rw [hd] at h1
        omega
      rw [next _ hn h, hpay, Finset.sum_range_add]
      refine congrArg (· + _) ((ih (by omega)).trans ?_)
      rw [hd, hm, Nat.succ_mul]

end Fox.Products

end
-- ==== Proof.Fox.Products.FfnUp.lean ====
/-
  The feed-forward layer's first product: its result.
-/
module

public import proofs.«01_k».proof.Defs
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Fox.Products.Common
public import Idealize.ShloMosaic.Adequacy
public import Idealize.ShloMosaic.Init
public import Idealize.ShloMosaic.Lib.Pipeline.ValueKit
public import Idealize.ShloMosaic.Lib.Pointwise
public import Idealize.ShloMosaic.Lib.StableHlo.ReadAt

@[expose] public section

set_option maxRecDepth 16384

noncomputable section

open scoped BigOperators
open Idealize.ShloMosaic Idealize.SL.Sem Cert.Kernel2Ideal Cert.Kernel2Ideal.Gen TcCoe Fox.Products

namespace Fox.FfnUp

/-- What the body computes on one pair of blocks. -/
theorem pay_apply (x0 : FVec Ideal S2048x1024 .bf16) (x1 : FVec Ideal S1024x1408 .bf16) :
    k0_pay1 (F := Ideal) x0 x1 = mulNN (a := 2048) (b := 1408) (k := 1024) x0 x1 := by
  funext y; unfold k0_pay1; pointwise; rfl

section
variable (m : (ℓ : Loc nD τ sig) → Buf (Elt Ideal) ℓ) (c : Dev nD)

theorem V_0 : V m c main_v0 = m ((c : Thread nD τ).loc main_arg0) := by
  unfold V
  after_reads_simp
  rfl

theorem V_1 : V m c main_v1 = m ((c : Thread nD τ).loc main_arg1) := by
  unfold V
  after_reads_simp
  rfl

/-- Which block each grid point works on. -/
theorem idx : ∀ t : Fin grid0.N, cc0_transform_0 (grid0.coords t) = ![t.val / 4, 0] ∧ cc0_transform_1 (grid0.coords t) = ![0, t.val % 4] ∧ cc0_transform_2 (grid0.coords t) = ![t.val / 4, t.val % 4] := by decide +kernel

theorem at_0 (t : Fin grid0.N) (y : S2048x1024.Idx) :
    iblk m c 0 t y = m ((c : Thread nD τ).loc main_arg0) (ValueIdx.ix2 (wrap 16384 (t.val / 4 * 2048 + (y 0).val)) (y 1)) := by
  have hN : t.val < 32 := lt_of_lt_of_eq t.isLt N_0
  refine Eq.trans ?_ (congrFun (V_0 m c) _)
  blk_simp [iblk]
  refine congrArg (V m c main_v0) (place _ _ _ ?_ ?_)
  · have hy : (y 0).val < 2048 := (y 0).isLt
    blk_simp; show cc0_transform_0 (grid0.coords t) 0 * 2048 + (y 0).val = (wrap 16384 (t.val / 4 * 2048 + (y 0).val)).val
    rw [(idx t).1, wrap_val (by omega)]; rfl
  · blk_simp; show cc0_transform_0 (grid0.coords t) 1 * 1024 + (y 1).val = (y 1).val
    rw [(idx t).1]; show 0 * 1024 + (y 1).val = (y 1).val; omega

theorem at_1 (t : Fin grid0.N) (y : S1024x1408.Idx) :
    iblk m c 1 t y = m ((c : Thread nD τ).loc main_arg1) (ValueIdx.ix2 (y 0) (wrap 5632 (t.val % 4 * 1408 + (y 1).val))) := by
  have hN : t.val < 32 := lt_of_lt_of_eq t.isLt N_0
  refine Eq.trans ?_ (congrFun (V_1 m c) _)
  blk_simp [iblk]
  refine congrArg (V m c main_v1) (place _ _ _ ?_ ?_)
  · blk_simp; show cc0_transform_1 (grid0.coords t) 0 * 1024 + (y 0).val = (y 0).val
    rw [(idx t).2.1]; show 0 * 1024 + (y 0).val = (y 0).val; omega
  · have hy : (y 1).val < 1408 := (y 1).isLt
    blk_simp; show cc0_transform_1 (grid0.coords t) 1 * 1408 + (y 1).val = (wrap 5632 (t.val % 4 * 1408 + (y 1).val)).val
    rw [(idx t).2.1, wrap_val (by omega)]; rfl

theorem emb (t : Fin grid0.N) (y : S2048x1408.Idx) : (win0_2.blk t).view.emb y = ValueIdx.ix2 (wrap 16384 (t.val / 4 * 2048 + (y 0).val)) (wrap 5632 (t.val % 4 * 1408 + (y 1).val)) := by
  have hN : t.val < 32 := lt_of_lt_of_eq t.isLt N_0
  refine place _ _ _ ?_ ?_
  · have hy : (y 0).val < 2048 := (y 0).isLt
    blk_simp; show cc0_transform_2 (grid0.coords t) 0 * 2048 + (y 0).val = (wrap 16384 (t.val / 4 * 2048 + (y 0).val)).val
    rw [(idx t).2.2, wrap_val (by omega)]; rfl
  · have hy : (y 1).val < 1408 := (y 1).isLt
    blk_simp; show cc0_transform_2 (grid0.coords t) 1 * 1408 + (y 1).val = (wrap 5632 (t.val % 4 * 1408 + (y 1).val)).val
    rw [(idx t).2.2, wrap_val (by omega)]; rfl

/-- The kernel's result. -/
theorem array : (dats m 0 c).arrAt 2 cfg0.N = mulNN (a := 16384) (b := 5632) (k := 1024) (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay_apply, show (win0_2.blk t).view.emb y = _ from emb t y]
  exact mulNN_block (fun r => wrap 16384 (t.val / 4 * 2048 + r.val)) (fun r => wrap 5632 (t.val % 4 * 1408 + r.val)) (at_0 m c t) (at_1 m c t) y
end

/-- The reference's result. -/
theorem reference (x0 : Mat 16384 1024) (x1 : Mat 1024 5632) : Cert.Reference2Ideal.Read.val_main_v0 (F := Ideal) x0 x1 = mulNN x0 x1 := by
  funext i
  refine (Cert.Reference2Ideal.Read.val_main_v0_apply x0 x1 i).trans (Finset.sum_congr rfl fun k _ => congrArg₂ (· * ·) (congrArg x0 ?_) (congrArg x1 ?_))
  all_goals exact funext (Fin.forall_fin_two.mpr ⟨rfl, rfl⟩)

attribute [local instance] Cert.Kernel2.Gen.facts Cert.Kernel2Ideal.Gen.facts Cert.Reference2Ideal.Gen.facts

theorem frame_kernel : Cert.quiescent_Kernel2 := fun m ρ _ => Cert.Kernel2.Gen.frame m ρ
theorem frame_ideal : Cert.quiescent_Kernel2Ideal := fun m ρ _ => Cert.Kernel2Ideal.Gen.frame m ρ
theorem frame_reference : Cert.quiescent_Reference2Ideal := fun m ρ _ =>
  (θ_run Cert.Reference2Ideal.defs _ _).mono
    (fun r h => ⟨fun c => (h c).2, sem_eq_zero_of_no_sems (by decide) r.2⟩) (Cert.Reference2Ideal.Value.run (F := Ideal) m ρ)
theorem constants : Cert.preserves_Kernel2_Kernel2Ideal := trivial

theorem value : Cert.algebraic_Kernel2Ideal_Reference2Ideal := by
  intro m ρ m' ρ' _ hag
  refine ⟨fun c => (dats m 0 c).arrAt 2 cfg0.N, Value.run_blocks m ρ, ?_⟩
  refine (θ_run Cert.Reference2Ideal.defs _ _).mono (fun r h c => ?_) (Cert.Reference2Ideal.Value.run (F := Ideal) m' ρ')
  obtain ⟨a0, a1⟩ := hag c
  obtain ⟨h0, hargs⟩ := h c
  refine ⟨h0.trans ?_, hargs⟩
  refine Eq.trans ?_ (array m c).symm
  rw [a0, a1]
  exact reference _ _

end Fox.FfnUp

end
-- ==== Proof.Fox.Products.FfnUpDx.lean ====
/-
  The feed-forward layer's first product: the gradient of its input.
-/
module

public import proofs.«01_k».proof.Defs
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Fox.Products.Common
public import Idealize.ShloMosaic.Adequacy
public import Idealize.ShloMosaic.Init
public import Idealize.ShloMosaic.Lib.Pipeline.ValueKit
public import Idealize.ShloMosaic.Lib.Pointwise
public import Idealize.ShloMosaic.Lib.StableHlo.ReadAt

@[expose] public section

set_option maxRecDepth 16384

noncomputable section

open scoped BigOperators
open Idealize.ShloMosaic Idealize.SL.Sem Cert.Kernel3Ideal Cert.Kernel3Ideal.Gen TcCoe Fox.Products

namespace Fox.FfnUpDx

/-- What the body computes on one pair of blocks. -/
theorem pay_apply (x0 : FVec Ideal S1024x5632 .bf16) (x1 : FVec Ideal S512x5632 .bf16) (x2 : FVec Ideal S1024x512 .f32) :
    k0_pay1 (F := Ideal) x0 x1 x2 = addScaled (Ideal.ofBits .f32 0x3FB504F3#32) (mulNT (a := 1024) (b := 512) (k := 5632) x0 x1) x2 := by
  funext y; unfold k0_pay1; pointwise; rfl

section
variable (m : (ℓ : Loc nD τ sig) → Buf (Elt Ideal) ℓ) (c : Dev nD)

theorem V_0 : V m c main_v0 = m ((c : Thread nD τ).loc main_arg0) := by
  unfold V
  after_reads_simp
  rfl

theorem V_1 : V m c main_v1 = m ((c : Thread nD τ).loc main_arg1) := by
  unfold V
  after_reads_simp
  rfl

/-- Which block each grid point works on. -/
theorem idx : ∀ t : Fin grid0.N, cc0_transform_0 (grid0.coords t) = ![t.val / 2, 0] ∧ cc0_transform_1 (grid0.coords t) = ![t.val % 2, 0] ∧ cc0_transform_2 (grid0.coords t) = ![t.val / 2, t.val % 2] ∧ cc0_transform_3 (grid0.coords t) = ![t.val / 2, t.val % 2] := by decide +kernel

theorem at_0 (t : Fin grid0.N) (y : S1024x5632.Idx) :
    iblk m c 0 t y = m ((c : Thread nD τ).loc main_arg0) (ValueIdx.ix2 (wrap 16384 (t.val / 2 * 1024 + (y 0).val)) (y 1)) := by
  have hN : t.val < 32 := lt_of_lt_of_eq t.isLt N_0
  refine Eq.trans ?_ (congrFun (V_0 m c) _)
  blk_simp [iblk]
  refine congrArg (V m c main_v0) (place _ _ _ ?_ ?_)
  · have hy : (y 0).val < 1024 := (y 0).isLt
    blk_simp; show cc0_transform_0 (grid0.coords t) 0 * 1024 + (y 0).val = (wrap 16384 (t.val / 2 * 1024 + (y 0).val)).val
    rw [(idx t).1, wrap_val (by omega)]; rfl
  · blk_simp; show cc0_transform_0 (grid0.coords t) 1 * 5632 + (y 1).val = (y 1).val
    rw [(idx t).1]; show 0 * 5632 + (y 1).val = (y 1).val; omega

theorem at_1 (t : Fin grid0.N) (y : S512x5632.Idx) :
    iblk m c 1 t y = m ((c : Thread nD τ).loc main_arg1) (ValueIdx.ix2 (wrap 1024 (t.val % 2 * 512 + (y 0).val)) (y 1)) := by
  have hN : t.val < 32 := lt_of_lt_of_eq t.isLt N_0
  refine Eq.trans ?_ (congrFun (V_1 m c) _)
  blk_simp [iblk]
  refine congrArg (V m c main_v1) (place _ _ _ ?_ ?_)
  · have hy : (y 0).val < 512 := (y 0).isLt
    blk_simp; show cc0_transform_1 (grid0.coords t) 0 * 512 + (y 0).val = (wrap 1024 (t.val % 2 * 512 + (y 0).val)).val
    rw [(idx t).2.1, wrap_val (by omega)]; rfl
  · blk_simp; show cc0_transform_1 (grid0.coords t) 1 * 5632 + (y 1).val = (y 1).val
    rw [(idx t).2.1]; show 0 * 5632 + (y 1).val = (y 1).val; omega

theorem at_2 (t : Fin grid0.N) (y : S1024x512.Idx) :
    iblk m c 2 t y = m ((c : Thread nD τ).loc main_arg2) (ValueIdx.ix2 (wrap 16384 (t.val / 2 * 1024 + (y 0).val)) (wrap 1024 (t.val % 2 * 512 + (y 1).val))) := by
  have hN : t.val < 32 := lt_of_lt_of_eq t.isLt N_0
  refine Eq.trans ?_ (congrFun (V_main_arg2 m c) _)
  blk_simp [iblk]
  refine congrArg (V m c main_arg2) (place _ _ _ ?_ ?_)
  · have hy : (y 0).val < 1024 := (y 0).isLt
    blk_simp; show cc0_transform_2 (grid0.coords t) 0 * 1024 + (y 0).val = (wrap 16384 (t.val / 2 * 1024 + (y 0).val)).val
    rw [(idx t).2.2.1, wrap_val (by omega)]; rfl
  · have hy : (y 1).val < 512 := (y 1).isLt
    blk_simp; show cc0_transform_2 (grid0.coords t) 1 * 512 + (y 1).val = (wrap 1024 (t.val % 2 * 512 + (y 1).val)).val
    rw [(idx t).2.2.1, wrap_val (by omega)]; rfl

theorem emb (t : Fin grid0.N) (y : S1024x512.Idx) : (win0_3.blk t).view.emb y = ValueIdx.ix2 (wrap 16384 (t.val / 2 * 1024 + (y 0).val)) (wrap 1024 (t.val % 2 * 512 + (y 1).val)) := by
  have hN : t.val < 32 := lt_of_lt_of_eq t.isLt N_0
  refine place _ _ _ ?_ ?_
  · have hy : (y 0).val < 1024 := (y 0).isLt
    blk_simp; show cc0_transform_3 (grid0.coords t) 0 * 1024 + (y 0).val = (wrap 16384 (t.val / 2 * 1024 + (y 0).val)).val
    rw [(idx t).2.2.2, wrap_val (by omega)]; rfl
  · have hy : (y 1).val < 512 := (y 1).isLt
    blk_simp; show cc0_transform_3 (grid0.coords t) 1 * 512 + (y 1).val = (wrap 1024 (t.val % 2 * 512 + (y 1).val)).val
    rw [(idx t).2.2.2, wrap_val (by omega)]; rfl

/-- The kernel's result. -/
theorem array : (dats m 0 c).arrAt 3 cfg0.N = addScaled (Ideal.ofBits .f32 0x3FB504F3#32) (mulNT (a := 16384) (b := 1024) (k := 5632) (m ((c : Thread nD τ).loc main_arg0)) (m ((c : Thread nD τ).loc main_arg1))) (m ((c : Thread nD τ).loc main_arg2)) := by
  refine (dats m 0 c).arrAt_eq_of_covers 3 _ (by decide +kernel) fun t hf y => ?_
  blk_simp
  rw [after0_3]
  frame_out
  rw [pay_apply, show (win0_3.blk t).view.emb y = _ from emb t y]
  exact congrArg₂ (· + ·) (mulNT_block (fun r => wrap 16384 (t.val / 2 * 1024 + r.val)) (fun r => wrap 1024 (t.val % 2 * 512 + r.val)) (at_0 m c t) (at_1 m c t) y) (congrArg (_ * ·) (at_2 m c t y))
end

/-- The reference's result. -/
theorem reference (x0 : Mat 16384 5632) (x1 : Mat 1024 5632) (x2 : Mat 16384 1024) : Cert.Reference3Ideal.Read.val_main_v7 (F := Ideal) x0 x1 x2 = addScaled (Ideal.ofBits .f32 0x3FB504F3#32) (mulNT x0 x1) x2 := by
  funext i
  rw [Cert.Reference3Ideal.Read.val_main_v7_apply, Cert.Reference3Ideal.Read.val_main_v5_apply, Cert.Reference3Ideal.Read.val_main_v4_apply, Cert.Reference3Ideal.Read.val_main_cst_1_apply, Cert.Reference3Ideal.Read.val_main_v6_apply]
  refine (add_comm _ _).trans (congrArg (· + _) (Finset.sum_congr rfl fun k _ => congrArg₂ (· * ·) (congrArg x0 ?_) (congrArg x1 ?_)))
  all_goals exact funext (Fin.forall_fin_two.mpr ⟨rfl, rfl⟩)

attribute [local instance] Cert.Kernel3.Gen.facts Cert.Kernel3Ideal.Gen.facts Cert.Reference3Ideal.Gen.facts

theorem frame_kernel : Cert.quiescent_Kernel3 := fun m ρ _ => Cert.Kernel3.Gen.frame m ρ
theorem frame_ideal : Cert.quiescent_Kernel3Ideal := fun m ρ _ => Cert.Kernel3Ideal.Gen.frame m ρ
theorem frame_reference : Cert.quiescent_Reference3Ideal := fun m ρ _ =>
  (θ_run Cert.Reference3Ideal.defs _ _).mono
    (fun r h => ⟨fun c => (h c).2, sem_eq_zero_of_no_sems (by decide) r.2⟩) (Cert.Reference3Ideal.Value.run (F := Ideal) m ρ)
theorem constants : Cert.preserves_Kernel3_Kernel3Ideal := trivial

theorem value : Cert.algebraic_Kernel3Ideal_Reference3Ideal := by
  intro m ρ m' ρ' _ hag
  refine ⟨fun c => (dats m 0 c).arrAt 3 cfg0.N, Value.run_blocks m ρ, ?_⟩
  refine (θ_run Cert.Reference3Ideal.defs _ _).mono (fun r h c => ?_) (Cert.Reference3Ideal.Value.run (F := Ideal) m' ρ')
  obtain ⟨a0, a1, a2⟩ := hag c
  obtain ⟨h0, hargs⟩ := h c
  refine ⟨h0.trans ?_, hargs⟩
  refine Eq.trans ?_ (array m c).symm
  rw [a0, a1, a2]
  exact reference _ _ _

end Fox.FfnUpDx

end
-- ==== Proof.Fox.Products.FfnUpDw.lean ====
/-
  The feed-forward layer's first product: the gradient of its weight.
-/
module

public import proofs.«01_k».proof.Defs
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Fox.Products.Common
public import Idealize.ShloMosaic.Adequacy
public import Idealize.ShloMosaic.Init
public import Idealize.ShloMosaic.Lib.Pipeline.ValueKit
public import Idealize.ShloMosaic.Lib.Pointwise
public import Idealize.ShloMosaic.Lib.StableHlo.ReadAt

@[expose] public section

set_option maxRecDepth 16384

noncomputable section

open scoped BigOperators
open Idealize.ShloMosaic Idealize.SL.Sem Cert.Kernel4Ideal Cert.Kernel4Ideal.Gen TcCoe Fox.Products

namespace Fox.FfnUpDw

/-- What the body computes on one pair of blocks. -/
theorem pay_apply (x0 : FVec Ideal S1024x1024 .bf16) (x1 : FVec Ideal S1024x2816 .bf16) :
    k0_pay1 (F := Ideal) x0 x1 = mulTN (a := 1024) (b := 2816) (k := 1024) x0 x1 := by
  funext y; unfold k0_pay1; pointwise; rfl

theorem pay_next (x0 : FVec Ideal S1024x1024 .bf16) (x1 : FVec Ideal S1024x2816 .bf16) (x2 : FVec Ideal S1024x2816 .f32) (y : S1024x2816.Idx) :
    k0_pay2 (F := Ideal) x0 x1 x2 y = x2 y + k0_pay1 (F := Ideal) x0 x1 y := by
  unfold k0_pay2; pointwise

section
variable (m : (ℓ : Loc nD τ sig) → Buf (Elt Ideal) ℓ) (c : Dev nD)

theorem V_0 : V m c main_v0 = m ((c : Thread nD τ).loc main_arg0) := by
  unfold V
  after_reads_simp
  rfl

theorem V_1 : V m c main_v1 = m ((c : Thread nD τ).loc main_arg1) := by
  unfold V
  after_reads_simp
  rfl

/-- Which block each grid point works on. -/
theorem idx : ∀ t : Fin grid0.N, cc0_transform_0 (grid0.coords t) = ![t.val % 16, 0] ∧ cc0_transform_1 (grid0.coords t) = ![t.val % 16, t.val / 16] ∧ cc0_transform_2 (grid0.coords t) = ![0, t.val / 16] := by decide +kernel

theorem at_0 (t : Fin grid0.N) (y : S1024x1024.Idx) :
    iblk m c 0 t y = m ((c : Thread nD τ).loc main_arg0) (ValueIdx.ix2 (wrap 16384 (t.val % 16 * 1024 + (y 0).val)) (y 1)) := by
  have hN : t.val < 32 := lt_of_lt_of_eq t.isLt N_0
  refine Eq.trans ?_ (congrFun (V_0 m c) _)
  blk_simp [iblk]
  refine congrArg (V m c main_v0) (place _ _ _ ?_ ?_)
  · have hy : (y 0).val < 1024 := (y 0).isLt
    blk_simp; show cc0_transform_0 (grid0.coords t) 0 * 1024 + (y 0).val = (wrap 16384 (t.val % 16 * 1024 + (y 0).val)).val
    rw [(idx t).1, wrap_val (by omega)]; rfl
  · blk_simp; show cc0_transform_0 (grid0.coords t) 1 * 1024 + (y 1).val = (y 1).val
    rw [(idx t).1]; show 0 * 1024 + (y 1).val = (y 1).val; omega

theorem at_1 (t : Fin grid0.N) (y : S1024x2816.Idx) :
    iblk m c 1 t y = m ((c : Thread nD τ).loc main_arg1) (ValueIdx.ix2 (wrap 16384 (t.val % 16 * 1024 + (y 0).val)) (wrap 5632 (t.val / 16 * 2816 + (y 1).val))) := by
  have hN : t.val < 32 := lt_of_lt_of_eq t.isLt N_0
  refine Eq.trans ?_ (congrFun (V_1 m c) _)
  blk_simp [iblk]
  refine congrArg (V m c main_v1) (place _ _ _ ?_ ?_)
  · have hy : (y 0).val < 1024 := (y 0).isLt
    blk_simp; show cc0_transform_1 (grid0.coords t) 0 * 1024 + (y 0).val = (wrap 16384 (t.val % 16 * 1024 + (y 0).val)).val
    rw [(idx t).2.1, wrap_val (by omega)]; rfl
  · have hy : (y 1).val < 2816 := (y 1).isLt
    blk_simp; show cc0_transform_1 (grid0.coords t) 1 * 2816 + (y 1).val = (wrap 5632 (t.val / 16 * 2816 + (y 1).val)).val
    rw [(idx t).2.1, wrap_val (by omega)]; rfl

theorem emb (t : Fin grid0.N) (y : S1024x2816.Idx) : (win0_2.blk t).view.emb y = ValueIdx.ix2 (y 0) (wrap 5632 (t.val / 16 * 2816 + (y 1).val)) := by
  have hN : t.val < 32 := lt_of_lt_of_eq t.isLt N_0
  refine place _ _ _ ?_ ?_
  · blk_simp; show cc0_transform_2 (grid0.coords t) 0 * 1024 + (y 0).val = (y 0).val
    rw [(idx t).2.2]; show 0 * 1024 + (y 0).val = (y 0).val; omega
  · have hy : (y 1).val < 2816 := (y 1).isLt
    blk_simp; show cc0_transform_2 (grid0.coords t) 1 * 2816 + (y 1).val = (wrap 5632 (t.val / 16 * 2816 + (y 1).val)).val
    rw [(idx t).2.2, wrap_val (by omega)]; rfl

/-- After point `n` the output block holds the contributions of all rows up to the point's block. -/
theorem out_eq (y : S1024x2816.Idx) (n : ℕ) (hn : n < cfg0.N) : outsAt0 m c n hn y
    = ∑ i ∈ Finset.range (n % 16 * 1024 + 1024), term (k := 16384) (a := 1024) (b := 5632) (m ((c : Thread nD τ).loc main_arg0)) (m ((c : Thread nD τ).loc main_arg1)) (y 0) (wrap 5632 (n / 16 * 2816 + (y 1).val)) i := by
  have hlt : ∀ j < cfg0.N, j < 32 := fun j h => lt_of_lt_of_eq h N_0
  refine accumulate (p := 16) (w := 1024) (fun n hn => outsAt0 m c n hn y) (fun n hn => k0_pay1 (F := Ideal) (iblk m c 0 ⟨n, hn⟩) (iblk m c 1 ⟨n, hn⟩) y)
    (fun j => term (k := 16384) (a := 1024) (b := 5632) (m ((c : Thread nD τ).loc main_arg0)) (m ((c : Thread nD τ).loc main_arg1)) (y 0) (wrap 5632 (j * 2816 + (y 1).val)))
    (fun j hj h => ?_) (fun j hj h => ?_) (fun j hj => ?_) n hn
  · have := hlt j hj
    show outsAt0 m c (⟨j, hj⟩ : Fin cfg0.N).val _ y = _
    rw [outsAt0_A m c ⟨j, hj⟩ h (by dsimp only; omega)]
    frame_out
  · have := hlt j hj
    show outsAt0 m c (⟨j, hj⟩ : Fin cfg0.N).val _ y = _
    rw [outsAt0_B m c ⟨j, hj⟩ h (by dsimp only; omega)]
    frame_out
    exact pay_next _ _ _ y
  · dsimp only
    rw [pay_apply]
    exact mulTN_block (j % 16 * 1024) (j / 16 * 2816) (at_0 m c ⟨j, hj⟩) (at_1 m c ⟨j, hj⟩) y

/-- The kernel's result. -/
theorem array : (dats m 0 c).arrAt 2 cfg0.N = mulTN (a := 1024) (b := 5632) (k := 16384) (m ((c : Thread nD τ).loc main_arg0)) (m ((c : Thread nD τ).loc main_arg1)) := by
  refine (dats m 0 c).arrAt_eq_of_covers 2 _ (by decide +kernel) fun t hf y => ?_
  have h : t.val % 16 = 15 := (flush0_2 t).mp hf
  blk_simp
  rw [after0_2]
  refine (out_eq m c y t.val t.isLt).trans ?_
  rw [show (win0_2.blk t).view.emb y = _ from emb t y, h]
  exact (mulTN_range _ _ _ _).symm
end

/-- The reference's result. -/
theorem reference (x0 : Mat 16384 1024) (x1 : Mat 16384 5632) : Cert.Reference4Ideal.Read.val_main_v3 (F := Ideal) x0 x1 = mulTN x0 x1 := by
  funext i
  rw [Cert.Reference4Ideal.Read.val_main_v3_apply, Cert.Reference4Ideal.Read.val_main_v2_apply]
  refine Finset.sum_congr rfl fun k _ => (mul_comm _ _).trans (congrArg₂ (· * ·) (congrArg x0 ?_) (congrArg x1 ?_))
  all_goals exact funext (Fin.forall_fin_two.mpr ⟨rfl, rfl⟩)

attribute [local instance] Cert.Kernel4.Gen.facts Cert.Kernel4Ideal.Gen.facts Cert.Reference4Ideal.Gen.facts

theorem frame_kernel : Cert.quiescent_Kernel4 := fun m ρ _ => Cert.Kernel4.Gen.frame m ρ
theorem frame_ideal : Cert.quiescent_Kernel4Ideal := fun m ρ _ => Cert.Kernel4Ideal.Gen.frame m ρ
theorem frame_reference : Cert.quiescent_Reference4Ideal := fun m ρ _ =>
  (θ_run Cert.Reference4Ideal.defs _ _).mono
    (fun r h => ⟨fun c => (h c).2, sem_eq_zero_of_no_sems (by decide) r.2⟩) (Cert.Reference4Ideal.Value.run (F := Ideal) m ρ)
theorem constants : Cert.preserves_Kernel4_Kernel4Ideal := trivial

theorem value : Cert.algebraic_Kernel4Ideal_Reference4Ideal := by
  intro m ρ m' ρ' _ hag
  refine ⟨fun c => (dats m 0 c).arrAt 2 cfg0.N, Value.run_blocks m ρ, ?_⟩
  refine (θ_run Cert.Reference4Ideal.defs _ _).mono (fun r h c => ?_) (Cert.Reference4Ideal.Value.run (F := Ideal) m' ρ')
  obtain ⟨a0, a1⟩ := hag c
  obtain ⟨h0, hargs⟩ := h c
  refine ⟨h0.trans ?_, hargs⟩
  refine Eq.trans ?_ (array m c).symm
  rw [a0, a1]
  exact reference _ _

end Fox.FfnUpDw

end
-- ==== Proof.Fox.Products.FfnDown.lean ====
/-
  The feed-forward layer's second product: its result.
-/
module

public import proofs.«01_k».proof.Defs
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Fox.Products.Common
public import Idealize.ShloMosaic.Adequacy
public import Idealize.ShloMosaic.Init
public import Idealize.ShloMosaic.Lib.Pipeline.ValueKit
public import Idealize.ShloMosaic.Lib.Pointwise
public import Idealize.ShloMosaic.Lib.StableHlo.ReadAt

@[expose] public section

set_option maxRecDepth 16384

noncomputable section

open scoped BigOperators
open Idealize.ShloMosaic Idealize.SL.Sem Cert.Kernel5Ideal Cert.Kernel5Ideal.Gen TcCoe Fox.Products

namespace Fox.FfnDown

/-- What the body computes on one pair of blocks. -/
theorem pay_apply (x0 : FVec Ideal S1024x2816 .bf16) (x1 : FVec Ideal S2816x1024 .bf16) :
    k0_pay1 (F := Ideal) x0 x1 = mulNN (a := 1024) (b := 1024) (k := 2816) x0 x1 := by
  funext y; unfold k0_pay1; pointwise; rfl

section
variable (m : (ℓ : Loc nD τ sig) → Buf (Elt Ideal) ℓ) (c : Dev nD)

theorem V_0 : V m c main_v0 = m ((c : Thread nD τ).loc main_arg0) := by
  unfold V
  after_reads_simp
  rfl

theorem V_1 : V m c main_v1 = m ((c : Thread nD τ).loc main_arg1) := by
  unfold V
  after_reads_simp
  rfl

/-- Which block each grid point works on. -/
theorem idx : ∀ t : Fin grid0.N, cc0_transform_0 (grid0.coords t) = ![t.val / 1, 0] ∧ cc0_transform_1 (grid0.coords t) = ![0, t.val % 1] ∧ cc0_transform_2 (grid0.coords t) = ![t.val / 1, t.val % 1] := by decide +kernel

theorem at_0 (t : Fin grid0.N) (y : S1024x2816.Idx) :
    iblk m c 0 t y = m ((c : Thread nD τ).loc main_arg0) (ValueIdx.ix2 (wrap 16384 (t.val / 1 * 1024 + (y 0).val)) (y 1)) := by
  have hN : t.val < 16 := lt_of_lt_of_eq t.isLt N_0
  refine Eq.trans ?_ (congrFun (V_0 m c) _)
  blk_simp [iblk]
  refine congrArg (V m c main_v0) (place _ _ _ ?_ ?_)
  · have hy : (y 0).val < 1024 := (y 0).isLt
    blk_simp; show cc0_transform_0 (grid0.coords t) 0 * 1024 + (y 0).val = (wrap 16384 (t.val / 1 * 1024 + (y 0).val)).val
    rw [(idx t).1, wrap_val (by omega)]; rfl
  · blk_simp; show cc0_transform_0 (grid0.coords t) 1 * 2816 + (y 1).val = (y 1).val
    rw [(idx t).1]; show 0 * 2816 + (y 1).val = (y 1).val; omega

theorem at_1 (t : Fin grid0.N) (y : S2816x1024.Idx) :
    iblk m c 1 t y = m ((c : Thread nD τ).loc main_arg1) (ValueIdx.ix2 (y 0) (wrap 1024 (t.val % 1 * 1024 + (y 1).val))) := by
  have hN : t.val < 16 := lt_of_lt_of_eq t.isLt N_0
  refine Eq.trans ?_ (congrFun (V_1 m c) _)
  blk_simp [iblk]
  refine congrArg (V m c main_v1) (place _ _ _ ?_ ?_)
  · blk_simp; show cc0_transform_1 (grid0.coords t) 0 * 2816 + (y 0).val = (y 0).val
    rw [(idx t).2.1]; show 0 * 2816 + (y 0).val = (y 0).val; omega
  · have hy : (y 1).val < 1024 := (y 1).isLt
    blk_simp; show cc0_transform_1 (grid0.coords t) 1 * 1024 + (y 1).val = (wrap 1024 (t.val % 1 * 1024 + (y 1).val)).val
    rw [(idx t).2.1, wrap_val (by omega)]; rfl

theorem emb (t : Fin grid0.N) (y : S1024x1024.Idx) : (win0_2.blk t).view.emb y = ValueIdx.ix2 (wrap 16384 (t.val / 1 * 1024 + (y 0).val)) (wrap 1024 (t.val % 1 * 1024 + (y 1).val)) := by
  have hN : t.val < 16 := lt_of_lt_of_eq t.isLt N_0
  refine place _ _ _ ?_ ?_
  · have hy : (y 0).val < 1024 := (y 0).isLt
    blk_simp; show cc0_transform_2 (grid0.coords t) 0 * 1024 + (y 0).val = (wrap 16384 (t.val / 1 * 1024 + (y 0).val)).val
    rw [(idx t).2.2, wrap_val (by omega)]; rfl
  · have hy : (y 1).val < 1024 := (y 1).isLt
    blk_simp; show cc0_transform_2 (grid0.coords t) 1 * 1024 + (y 1).val = (wrap 1024 (t.val % 1 * 1024 + (y 1).val)).val
    rw [(idx t).2.2, wrap_val (by omega)]; rfl

/-- The kernel's result. -/
theorem array : (dats m 0 c).arrAt 2 cfg0.N = mulNN (a := 16384) (b := 1024) (k := 2816) (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay_apply, show (win0_2.blk t).view.emb y = _ from emb t y]
  exact mulNN_block (fun r => wrap 16384 (t.val / 1 * 1024 + r.val)) (fun r => wrap 1024 (t.val % 1 * 1024 + r.val)) (at_0 m c t) (at_1 m c t) y
end

/-- The reference's result. -/
theorem reference (x0 : Mat 16384 2816) (x1 : Mat 2816 1024) : Cert.Reference5Ideal.Read.val_main_v0 (F := Ideal) x0 x1 = mulNN x0 x1 := by
  funext i
  refine (Cert.Reference5Ideal.Read.val_main_v0_apply x0 x1 i).trans (Finset.sum_congr rfl fun k _ => congrArg₂ (· * ·) (congrArg x0 ?_) (congrArg x1 ?_))
  all_goals exact funext (Fin.forall_fin_two.mpr ⟨rfl, rfl⟩)

attribute [local instance] Cert.Kernel5.Gen.facts Cert.Kernel5Ideal.Gen.facts Cert.Reference5Ideal.Gen.facts

theorem frame_kernel : Cert.quiescent_Kernel5 := fun m ρ _ => Cert.Kernel5.Gen.frame m ρ
theorem frame_ideal : Cert.quiescent_Kernel5Ideal := fun m ρ _ => Cert.Kernel5Ideal.Gen.frame m ρ
theorem frame_reference : Cert.quiescent_Reference5Ideal := fun m ρ _ =>
  (θ_run Cert.Reference5Ideal.defs _ _).mono
    (fun r h => ⟨fun c => (h c).2, sem_eq_zero_of_no_sems (by decide) r.2⟩) (Cert.Reference5Ideal.Value.run (F := Ideal) m ρ)
theorem constants : Cert.preserves_Kernel5_Kernel5Ideal := trivial

theorem value : Cert.algebraic_Kernel5Ideal_Reference5Ideal := by
  intro m ρ m' ρ' _ hag
  refine ⟨fun c => (dats m 0 c).arrAt 2 cfg0.N, Value.run_blocks m ρ, ?_⟩
  refine (θ_run Cert.Reference5Ideal.defs _ _).mono (fun r h c => ?_) (Cert.Reference5Ideal.Value.run (F := Ideal) m' ρ')
  obtain ⟨a0, a1⟩ := hag c
  obtain ⟨h0, hargs⟩ := h c
  refine ⟨h0.trans ?_, hargs⟩
  refine Eq.trans ?_ (array m c).symm
  rw [a0, a1]
  exact reference _ _

end Fox.FfnDown

end
-- ==== Proof.Fox.Products.FfnDownDx.lean ====
/-
  The feed-forward layer's second product: the gradient of its input.
-/
module

public import proofs.«01_k».proof.Defs
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Fox.Products.Common
public import Idealize.ShloMosaic.Adequacy
public import Idealize.ShloMosaic.Init
public import Idealize.ShloMosaic.Lib.Pipeline.ValueKit
public import Idealize.ShloMosaic.Lib.Pointwise
public import Idealize.ShloMosaic.Lib.StableHlo.ReadAt

@[expose] public section

set_option maxRecDepth 16384

noncomputable section

open scoped BigOperators
open Idealize.ShloMosaic Idealize.SL.Sem Cert.Kernel6Ideal Cert.Kernel6Ideal.Gen TcCoe Fox.Products

namespace Fox.FfnDownDx

/-- What the body computes on one pair of blocks. -/
theorem pay_apply (x0 : FVec Ideal S2048x1024 .bf16) (x1 : FVec Ideal S1408x1024 .bf16) :
    k0_pay1 (F := Ideal) x0 x1 = mulNT (a := 2048) (b := 1408) (k := 1024) x0 x1 := by
  funext y; unfold k0_pay1; pointwise; rfl

section
variable (m : (ℓ : Loc nD τ sig) → Buf (Elt Ideal) ℓ) (c : Dev nD)

theorem V_0 : V m c main_v0 = m ((c : Thread nD τ).loc main_arg0) := by
  unfold V
  after_reads_simp
  rfl

theorem V_1 : V m c main_v1 = m ((c : Thread nD τ).loc main_arg1) := by
  unfold V
  after_reads_simp
  rfl

/-- Which block each grid point works on. -/
theorem idx : ∀ t : Fin grid0.N, cc0_transform_0 (grid0.coords t) = ![t.val / 2, 0] ∧ cc0_transform_1 (grid0.coords t) = ![t.val % 2, 0] ∧ cc0_transform_2 (grid0.coords t) = ![t.val / 2, t.val % 2] := by decide +kernel

theorem at_0 (t : Fin grid0.N) (y : S2048x1024.Idx) :
    iblk m c 0 t y = m ((c : Thread nD τ).loc main_arg0) (ValueIdx.ix2 (wrap 16384 (t.val / 2 * 2048 + (y 0).val)) (y 1)) := by
  have hN : t.val < 16 := lt_of_lt_of_eq t.isLt N_0
  refine Eq.trans ?_ (congrFun (V_0 m c) _)
  blk_simp [iblk]
  refine congrArg (V m c main_v0) (place _ _ _ ?_ ?_)
  · have hy : (y 0).val < 2048 := (y 0).isLt
    blk_simp; show cc0_transform_0 (grid0.coords t) 0 * 2048 + (y 0).val = (wrap 16384 (t.val / 2 * 2048 + (y 0).val)).val
    rw [(idx t).1, wrap_val (by omega)]; rfl
  · blk_simp; show cc0_transform_0 (grid0.coords t) 1 * 1024 + (y 1).val = (y 1).val
    rw [(idx t).1]; show 0 * 1024 + (y 1).val = (y 1).val; omega

theorem at_1 (t : Fin grid0.N) (y : S1408x1024.Idx) :
    iblk m c 1 t y = m ((c : Thread nD τ).loc main_arg1) (ValueIdx.ix2 (wrap 2816 (t.val % 2 * 1408 + (y 0).val)) (y 1)) := by
  have hN : t.val < 16 := lt_of_lt_of_eq t.isLt N_0
  refine Eq.trans ?_ (congrFun (V_1 m c) _)
  blk_simp [iblk]
  refine congrArg (V m c main_v1) (place _ _ _ ?_ ?_)
  · have hy : (y 0).val < 1408 := (y 0).isLt
    blk_simp; show cc0_transform_1 (grid0.coords t) 0 * 1408 + (y 0).val = (wrap 2816 (t.val % 2 * 1408 + (y 0).val)).val
    rw [(idx t).2.1, wrap_val (by omega)]; rfl
  · blk_simp; show cc0_transform_1 (grid0.coords t) 1 * 1024 + (y 1).val = (y 1).val
    rw [(idx t).2.1]; show 0 * 1024 + (y 1).val = (y 1).val; omega

theorem emb (t : Fin grid0.N) (y : S2048x1408.Idx) : (win0_2.blk t).view.emb y = ValueIdx.ix2 (wrap 16384 (t.val / 2 * 2048 + (y 0).val)) (wrap 2816 (t.val % 2 * 1408 + (y 1).val)) := by
  have hN : t.val < 16 := lt_of_lt_of_eq t.isLt N_0
  refine place _ _ _ ?_ ?_
  · have hy : (y 0).val < 2048 := (y 0).isLt
    blk_simp; show cc0_transform_2 (grid0.coords t) 0 * 2048 + (y 0).val = (wrap 16384 (t.val / 2 * 2048 + (y 0).val)).val
    rw [(idx t).2.2, wrap_val (by omega)]; rfl
  · have hy : (y 1).val < 1408 := (y 1).isLt
    blk_simp; show cc0_transform_2 (grid0.coords t) 1 * 1408 + (y 1).val = (wrap 2816 (t.val % 2 * 1408 + (y 1).val)).val
    rw [(idx t).2.2, wrap_val (by omega)]; rfl

/-- The kernel's result. -/
theorem array : (dats m 0 c).arrAt 2 cfg0.N = mulNT (a := 16384) (b := 2816) (k := 1024) (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay_apply, show (win0_2.blk t).view.emb y = _ from emb t y]
  exact mulNT_block (fun r => wrap 16384 (t.val / 2 * 2048 + r.val)) (fun r => wrap 2816 (t.val % 2 * 1408 + r.val)) (at_0 m c t) (at_1 m c t) y
end

/-- The reference's result. -/
theorem reference (x0 : Mat 16384 1024) (x1 : Mat 2816 1024) : Cert.Reference6Ideal.Read.val_main_v3 (F := Ideal) x0 x1 = mulNT x0 x1 := by
  funext i
  refine (Cert.Reference6Ideal.Read.val_main_v2_apply x0 x1 i).trans (Finset.sum_congr rfl fun k _ => congrArg₂ (· * ·) (congrArg x0 ?_) (congrArg x1 ?_))
  all_goals exact funext (Fin.forall_fin_two.mpr ⟨rfl, rfl⟩)

attribute [local instance] Cert.Kernel6.Gen.facts Cert.Kernel6Ideal.Gen.facts Cert.Reference6Ideal.Gen.facts

theorem frame_kernel : Cert.quiescent_Kernel6 := fun m ρ _ => Cert.Kernel6.Gen.frame m ρ
theorem frame_ideal : Cert.quiescent_Kernel6Ideal := fun m ρ _ => Cert.Kernel6Ideal.Gen.frame m ρ
theorem frame_reference : Cert.quiescent_Reference6Ideal := fun m ρ _ =>
  (θ_run Cert.Reference6Ideal.defs _ _).mono
    (fun r h => ⟨fun c => (h c).2, sem_eq_zero_of_no_sems (by decide) r.2⟩) (Cert.Reference6Ideal.Value.run (F := Ideal) m ρ)
theorem constants : Cert.preserves_Kernel6_Kernel6Ideal := trivial

theorem value : Cert.algebraic_Kernel6Ideal_Reference6Ideal := by
  intro m ρ m' ρ' _ hag
  refine ⟨fun c => (dats m 0 c).arrAt 2 cfg0.N, Value.run_blocks m ρ, ?_⟩
  refine (θ_run Cert.Reference6Ideal.defs _ _).mono (fun r h c => ?_) (Cert.Reference6Ideal.Value.run (F := Ideal) m' ρ')
  obtain ⟨a0, a1⟩ := hag c
  obtain ⟨h0, hargs⟩ := h c
  refine ⟨h0.trans ?_, hargs⟩
  refine Eq.trans ?_ (array m c).symm
  rw [a0, a1]
  exact reference _ _

end Fox.FfnDownDx

end
-- ==== Proof.Fox.Products.FfnDownDw.lean ====
/-
  The feed-forward layer's second product: the gradient of its weight.
-/
module

public import proofs.«01_k».proof.Defs
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Fox.Products.Common
public import Idealize.ShloMosaic.Adequacy
public import Idealize.ShloMosaic.Init
public import Idealize.ShloMosaic.Lib.Pipeline.ValueKit
public import Idealize.ShloMosaic.Lib.Pointwise
public import Idealize.ShloMosaic.Lib.StableHlo.ReadAt

@[expose] public section

set_option maxRecDepth 16384

noncomputable section

open scoped BigOperators
open Idealize.ShloMosaic Idealize.SL.Sem Cert.Kernel7Ideal Cert.Kernel7Ideal.Gen TcCoe Fox.Products

namespace Fox.FfnDownDw

/-- What the body computes on one pair of blocks. -/
theorem pay_apply (x0 : FVec Ideal S1024x2816 .bf16) (x1 : FVec Ideal S1024x1024 .bf16) :
    k0_pay1 (F := Ideal) x0 x1 = mulTN (a := 2816) (b := 1024) (k := 1024) x0 x1 := by
  funext y; unfold k0_pay1; pointwise; rfl

theorem pay_next (x0 : FVec Ideal S1024x2816 .bf16) (x1 : FVec Ideal S1024x1024 .bf16) (x2 : FVec Ideal S2816x1024 .f32) (y : S2816x1024.Idx) :
    k0_pay2 (F := Ideal) x0 x1 x2 y = x2 y + k0_pay1 (F := Ideal) x0 x1 y := by
  unfold k0_pay2; pointwise

section
variable (m : (ℓ : Loc nD τ sig) → Buf (Elt Ideal) ℓ) (c : Dev nD)

theorem V_0 : V m c main_v0 = m ((c : Thread nD τ).loc main_arg0) := by
  unfold V
  after_reads_simp
  rfl

theorem V_1 : V m c main_v1 = m ((c : Thread nD τ).loc main_arg1) := by
  unfold V
  after_reads_simp
  rfl

/-- Which block each grid point works on. -/
theorem idx : ∀ t : Fin grid0.N, cc0_transform_0 (grid0.coords t) = ![t.val % 16, 0] ∧ cc0_transform_1 (grid0.coords t) = ![t.val % 16, t.val / 16] ∧ cc0_transform_2 (grid0.coords t) = ![0, t.val / 16] := by decide +kernel

theorem at_0 (t : Fin grid0.N) (y : S1024x2816.Idx) :
    iblk m c 0 t y = m ((c : Thread nD τ).loc main_arg0) (ValueIdx.ix2 (wrap 16384 (t.val % 16 * 1024 + (y 0).val)) (y 1)) := by
  have hN : t.val < 16 := lt_of_lt_of_eq t.isLt N_0
  refine Eq.trans ?_ (congrFun (V_0 m c) _)
  blk_simp [iblk]
  refine congrArg (V m c main_v0) (place _ _ _ ?_ ?_)
  · have hy : (y 0).val < 1024 := (y 0).isLt
    blk_simp; show cc0_transform_0 (grid0.coords t) 0 * 1024 + (y 0).val = (wrap 16384 (t.val % 16 * 1024 + (y 0).val)).val
    rw [(idx t).1, wrap_val (by omega)]; rfl
  · blk_simp; show cc0_transform_0 (grid0.coords t) 1 * 2816 + (y 1).val = (y 1).val
    rw [(idx t).1]; show 0 * 2816 + (y 1).val = (y 1).val; omega

theorem at_1 (t : Fin grid0.N) (y : S1024x1024.Idx) :
    iblk m c 1 t y = m ((c : Thread nD τ).loc main_arg1) (ValueIdx.ix2 (wrap 16384 (t.val % 16 * 1024 + (y 0).val)) (wrap 1024 (t.val / 16 * 1024 + (y 1).val))) := by
  have hN : t.val < 16 := lt_of_lt_of_eq t.isLt N_0
  refine Eq.trans ?_ (congrFun (V_1 m c) _)
  blk_simp [iblk]
  refine congrArg (V m c main_v1) (place _ _ _ ?_ ?_)
  · have hy : (y 0).val < 1024 := (y 0).isLt
    blk_simp; show cc0_transform_1 (grid0.coords t) 0 * 1024 + (y 0).val = (wrap 16384 (t.val % 16 * 1024 + (y 0).val)).val
    rw [(idx t).2.1, wrap_val (by omega)]; rfl
  · have hy : (y 1).val < 1024 := (y 1).isLt
    blk_simp; show cc0_transform_1 (grid0.coords t) 1 * 1024 + (y 1).val = (wrap 1024 (t.val / 16 * 1024 + (y 1).val)).val
    rw [(idx t).2.1, wrap_val (by omega)]; rfl

theorem emb (t : Fin grid0.N) (y : S2816x1024.Idx) : (win0_2.blk t).view.emb y = ValueIdx.ix2 (y 0) (wrap 1024 (t.val / 16 * 1024 + (y 1).val)) := by
  have hN : t.val < 16 := lt_of_lt_of_eq t.isLt N_0
  refine place _ _ _ ?_ ?_
  · blk_simp; show cc0_transform_2 (grid0.coords t) 0 * 2816 + (y 0).val = (y 0).val
    rw [(idx t).2.2]; show 0 * 2816 + (y 0).val = (y 0).val; omega
  · have hy : (y 1).val < 1024 := (y 1).isLt
    blk_simp; show cc0_transform_2 (grid0.coords t) 1 * 1024 + (y 1).val = (wrap 1024 (t.val / 16 * 1024 + (y 1).val)).val
    rw [(idx t).2.2, wrap_val (by omega)]; rfl

/-- After point `n` the output block holds the contributions of all rows up to the point's block. -/
theorem out_eq (y : S2816x1024.Idx) (n : ℕ) (hn : n < cfg0.N) : outsAt0 m c n hn y
    = ∑ i ∈ Finset.range (n % 16 * 1024 + 1024), term (k := 16384) (a := 2816) (b := 1024) (m ((c : Thread nD τ).loc main_arg0)) (m ((c : Thread nD τ).loc main_arg1)) (y 0) (wrap 1024 (n / 16 * 1024 + (y 1).val)) i := by
  have hlt : ∀ j < cfg0.N, j < 16 := fun j h => lt_of_lt_of_eq h N_0
  refine accumulate (p := 16) (w := 1024) (fun n hn => outsAt0 m c n hn y) (fun n hn => k0_pay1 (F := Ideal) (iblk m c 0 ⟨n, hn⟩) (iblk m c 1 ⟨n, hn⟩) y)
    (fun j => term (k := 16384) (a := 2816) (b := 1024) (m ((c : Thread nD τ).loc main_arg0)) (m ((c : Thread nD τ).loc main_arg1)) (y 0) (wrap 1024 (j * 1024 + (y 1).val)))
    (fun j hj h => ?_) (fun j hj h => ?_) (fun j hj => ?_) n hn
  · have := hlt j hj
    show outsAt0 m c (⟨j, hj⟩ : Fin cfg0.N).val _ y = _
    rw [outsAt0_A m c ⟨j, hj⟩ h (by dsimp only; omega)]
    frame_out
  · have := hlt j hj
    show outsAt0 m c (⟨j, hj⟩ : Fin cfg0.N).val _ y = _
    rw [outsAt0_B m c ⟨j, hj⟩ h (by dsimp only; omega)]
    frame_out
    exact pay_next _ _ _ y
  · dsimp only
    rw [pay_apply]
    exact mulTN_block (j % 16 * 1024) (j / 16 * 1024) (at_0 m c ⟨j, hj⟩) (at_1 m c ⟨j, hj⟩) y

/-- The kernel's result. -/
theorem array : (dats m 0 c).arrAt 2 cfg0.N = mulTN (a := 2816) (b := 1024) (k := 16384) (m ((c : Thread nD τ).loc main_arg0)) (m ((c : Thread nD τ).loc main_arg1)) := by
  refine (dats m 0 c).arrAt_eq_of_covers 2 _ (by decide +kernel) fun t hf y => ?_
  have h : t.val % 16 = 15 := (flush0_2 t).mp hf
  blk_simp
  rw [after0_2]
  refine (out_eq m c y t.val t.isLt).trans ?_
  rw [show (win0_2.blk t).view.emb y = _ from emb t y, h]
  exact (mulTN_range _ _ _ _).symm
end

/-- The reference's result. -/
theorem reference (x0 : Mat 16384 2816) (x1 : Mat 16384 1024) : Cert.Reference7Ideal.Read.val_main_v3 (F := Ideal) x0 x1 = mulTN x0 x1 := by
  funext i
  rw [Cert.Reference7Ideal.Read.val_main_v3_apply, Cert.Reference7Ideal.Read.val_main_v2_apply]
  refine Finset.sum_congr rfl fun k _ => (mul_comm _ _).trans (congrArg₂ (· * ·) (congrArg x0 ?_) (congrArg x1 ?_))
  all_goals exact funext (Fin.forall_fin_two.mpr ⟨rfl, rfl⟩)

attribute [local instance] Cert.Kernel7.Gen.facts Cert.Kernel7Ideal.Gen.facts Cert.Reference7Ideal.Gen.facts

theorem frame_kernel : Cert.quiescent_Kernel7 := fun m ρ _ => Cert.Kernel7.Gen.frame m ρ
theorem frame_ideal : Cert.quiescent_Kernel7Ideal := fun m ρ _ => Cert.Kernel7Ideal.Gen.frame m ρ
theorem frame_reference : Cert.quiescent_Reference7Ideal := fun m ρ _ =>
  (θ_run Cert.Reference7Ideal.defs _ _).mono
    (fun r h => ⟨fun c => (h c).2, sem_eq_zero_of_no_sems (by decide) r.2⟩) (Cert.Reference7Ideal.Value.run (F := Ideal) m ρ)
theorem constants : Cert.preserves_Kernel7_Kernel7Ideal := trivial

theorem value : Cert.algebraic_Kernel7Ideal_Reference7Ideal := by
  intro m ρ m' ρ' _ hag
  refine ⟨fun c => (dats m 0 c).arrAt 2 cfg0.N, Value.run_blocks m ρ, ?_⟩
  refine (θ_run Cert.Reference7Ideal.defs _ _).mono (fun r h c => ?_) (Cert.Reference7Ideal.Value.run (F := Ideal) m' ρ')
  obtain ⟨a0, a1⟩ := hag c
  obtain ⟨h0, hargs⟩ := h c
  refine ⟨h0.trans ?_, hargs⟩
  refine Eq.trans ?_ (array m c).symm
  rw [a0, a1]
  exact reference _ _

end Fox.FfnDownDw

end
-- ==== Proof.Fox.Products.AttnIn.lean ====
/-
  The attention's input projection: its result.
-/
module

public import proofs.«01_k».proof.Defs
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Fox.Products.Common
public import Idealize.ShloMosaic.Adequacy
public import Idealize.ShloMosaic.Init
public import Idealize.ShloMosaic.Lib.Pipeline.ValueKit
public import Idealize.ShloMosaic.Lib.Pointwise
public import Idealize.ShloMosaic.Lib.StableHlo.ReadAt

@[expose] public section

set_option maxRecDepth 16384

noncomputable section

open scoped BigOperators
open Idealize.ShloMosaic Idealize.SL.Sem Cert.Kernel8Ideal Cert.Kernel8Ideal.Gen TcCoe Fox.Products

namespace Fox.AttnIn

/-- What the body computes on one pair of blocks. -/
theorem pay_apply (x0 : FVec Ideal S2048x1024 .bf16) (x1 : FVec Ideal S1024x640 .bf16) :
    k0_pay1 (F := Ideal) x0 x1 = mulNN (a := 2048) (b := 640) (k := 1024) x0 x1 := by
  funext y; unfold k0_pay1; pointwise; rfl

section
variable (m : (ℓ : Loc nD τ sig) → Buf (Elt Ideal) ℓ) (c : Dev nD)

theorem V_0 : V m c main_v0 = m ((c : Thread nD τ).loc main_arg0) := by
  unfold V
  after_reads_simp
  rfl

theorem V_1 : V m c main_v2 = (padCols (m ((c : Thread nD τ).loc main_arg1)) : Mat 1024 3200) := by
  unfold V
  after_reads_simp
  exact Eq.trans rfl (pad_eq (n := 112) (m ((c : Thread nD τ).loc main_arg1)) (sitofp (F := Ideal) .bf16 (constantI S_ 32 0#32)) pads_S1024x3088_S1024x3200_000_01120 h_S_ fun _ => zero_cast)

/-- Which block each grid point works on. -/
theorem idx : ∀ t : Fin grid0.N, cc0_transform_0 (grid0.coords t) = ![t.val / 5, 0] ∧ cc0_transform_1 (grid0.coords t) = ![0, t.val % 5] ∧ cc0_transform_2 (grid0.coords t) = ![t.val / 5, t.val % 5] := by decide +kernel

theorem at_0 (t : Fin grid0.N) (y : S2048x1024.Idx) :
    iblk m c 0 t y = m ((c : Thread nD τ).loc main_arg0) (ValueIdx.ix2 (wrap 16384 (t.val / 5 * 2048 + (y 0).val)) (y 1)) := by
  have hN : t.val < 40 := lt_of_lt_of_eq t.isLt N_0
  refine Eq.trans ?_ (congrFun (V_0 m c) _)
  blk_simp [iblk]
  refine congrArg (V m c main_v0) (place _ _ _ ?_ ?_)
  · have hy : (y 0).val < 2048 := (y 0).isLt
    blk_simp; show cc0_transform_0 (grid0.coords t) 0 * 2048 + (y 0).val = (wrap 16384 (t.val / 5 * 2048 + (y 0).val)).val
    rw [(idx t).1, wrap_val (by omega)]; rfl
  · blk_simp; show cc0_transform_0 (grid0.coords t) 1 * 1024 + (y 1).val = (y 1).val
    rw [(idx t).1]; show 0 * 1024 + (y 1).val = (y 1).val; omega

theorem at_1 (t : Fin grid0.N) (y : S1024x640.Idx) :
    iblk m c 1 t y = (padCols (m ((c : Thread nD τ).loc main_arg1)) : Mat 1024 3200) (ValueIdx.ix2 (y 0) (wrap 3200 (t.val % 5 * 640 + (y 1).val))) := by
  have hN : t.val < 40 := lt_of_lt_of_eq t.isLt N_0
  refine Eq.trans ?_ (congrFun (V_1 m c) _)
  blk_simp [iblk]
  refine congrArg (V m c main_v2) (place _ _ _ ?_ ?_)
  · blk_simp; show cc0_transform_1 (grid0.coords t) 0 * 1024 + (y 0).val = (y 0).val
    rw [(idx t).2.1]; show 0 * 1024 + (y 0).val = (y 0).val; omega
  · have hy : (y 1).val < 640 := (y 1).isLt
    blk_simp; show cc0_transform_1 (grid0.coords t) 1 * 640 + (y 1).val = (wrap 3200 (t.val % 5 * 640 + (y 1).val)).val
    rw [(idx t).2.1, wrap_val (by omega)]; rfl

theorem emb (t : Fin grid0.N) (y : S2048x640.Idx) : (win0_2.blk t).view.emb y = ValueIdx.ix2 (wrap 16384 (t.val / 5 * 2048 + (y 0).val)) (wrap 3200 (t.val % 5 * 640 + (y 1).val)) := by
  have hN : t.val < 40 := lt_of_lt_of_eq t.isLt N_0
  refine place _ _ _ ?_ ?_
  · have hy : (y 0).val < 2048 := (y 0).isLt
    blk_simp; show cc0_transform_2 (grid0.coords t) 0 * 2048 + (y 0).val = (wrap 16384 (t.val / 5 * 2048 + (y 0).val)).val
    rw [(idx t).2.2, wrap_val (by omega)]; rfl
  · have hy : (y 1).val < 640 := (y 1).isLt
    blk_simp; show cc0_transform_2 (grid0.coords t) 1 * 640 + (y 1).val = (wrap 3200 (t.val % 5 * 640 + (y 1).val)).val
    rw [(idx t).2.2, wrap_val (by omega)]; rfl

/-- The kernel's result. -/
theorem array : (dats m 0 c).arrAt 2 cfg0.N = mulNN (a := 16384) (b := 3200) (k := 1024) (m ((c : Thread nD τ).loc main_arg0)) (padCols (m ((c : Thread nD τ).loc main_arg1)) : Mat 1024 3200) := by
  refine (dats m 0 c).arrAt_eq_of_covers 2 _ (by decide +kernel) fun t hf y => ?_
  blk_simp
  rw [after0_2]
  frame_out
  rw [pay_apply, show (win0_2.blk t).view.emb y = _ from emb t y]
  exact mulNN_block (fun r => wrap 16384 (t.val / 5 * 2048 + r.val)) (fun r => wrap 3200 (t.val % 5 * 640 + r.val)) (at_0 m c t) (at_1 m c t) y
end

/-- The reference's result. -/
theorem reference (x0 : Mat 16384 1024) (x1 : Mat 1024 3088) : Cert.Reference8Ideal.Read.val_main_v1 (F := Ideal) x0 x1 = mulNN x0 (padCols x1 : Mat 1024 3200) := by
  rw [mulNN_padCols]
  refine (pad_eq _ _ _ _ fun _ => zero_cast).trans (congrArg padCols (funext fun i => ?_))
  refine (Cert.Reference8Ideal.Read.val_main_v0_apply x0 x1 i).trans (Finset.sum_congr rfl fun k _ => congrArg₂ (· * ·) (congrArg x0 ?_) (congrArg x1 ?_))
  all_goals exact funext (Fin.forall_fin_two.mpr ⟨rfl, rfl⟩)

attribute [local instance] Cert.Kernel8.Gen.facts Cert.Kernel8Ideal.Gen.facts Cert.Reference8Ideal.Gen.facts

theorem frame_kernel : Cert.quiescent_Kernel8 := fun m ρ _ => Cert.Kernel8.Gen.frame m ρ
theorem frame_ideal : Cert.quiescent_Kernel8Ideal := fun m ρ _ => Cert.Kernel8Ideal.Gen.frame m ρ
theorem frame_reference : Cert.quiescent_Reference8Ideal := fun m ρ _ =>
  (θ_run Cert.Reference8Ideal.defs _ _).mono
    (fun r h => ⟨fun c => (h c).2, sem_eq_zero_of_no_sems (by decide) r.2⟩) (Cert.Reference8Ideal.Value.run (F := Ideal) m ρ)
theorem constants : Cert.preserves_Kernel8_Kernel8Ideal := trivial

theorem value : Cert.algebraic_Kernel8Ideal_Reference8Ideal := by
  intro m ρ m' ρ' _ hag
  refine ⟨fun c => (dats m 0 c).arrAt 2 cfg0.N, Value.run_blocks m ρ, ?_⟩
  refine (θ_run Cert.Reference8Ideal.defs _ _).mono (fun r h c => ?_) (Cert.Reference8Ideal.Value.run (F := Ideal) m' ρ')
  obtain ⟨a0, a1⟩ := hag c
  obtain ⟨h0, hargs⟩ := h c
  refine ⟨h0.trans ?_, hargs⟩
  refine Eq.trans ?_ (array m c).symm
  rw [a0, a1]
  exact reference _ _

end Fox.AttnIn

end
-- ==== Proof.Fox.Products.AttnInDx.lean ====
/-
  The attention's input projection: the gradient of its input.
-/
module

public import proofs.«01_k».proof.Defs
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Fox.Products.Common
public import Idealize.ShloMosaic.Adequacy
public import Idealize.ShloMosaic.Init
public import Idealize.ShloMosaic.Lib.Pipeline.ValueKit
public import Idealize.ShloMosaic.Lib.Pointwise
public import Idealize.ShloMosaic.Lib.StableHlo.ReadAt

@[expose] public section

set_option maxRecDepth 16384

noncomputable section

open scoped BigOperators
open Idealize.ShloMosaic Idealize.SL.Sem Cert.Kernel9Ideal Cert.Kernel9Ideal.Gen TcCoe Fox.Products

namespace Fox.AttnInDx

/-- What the body computes on one pair of blocks. -/
theorem pay_apply (x0 : FVec Ideal S1024x3200 .bf16) (x1 : FVec Ideal S1024x3200 .bf16) (x2 : FVec Ideal S1024x1024 .f32) :
    k0_pay1 (F := Ideal) x0 x1 x2 = addScaled (Ideal.ofBits .f32 0x3FB504F3#32) (mulNT (a := 1024) (b := 1024) (k := 3200) x0 x1) x2 := by
  funext y; unfold k0_pay1; pointwise; rfl

section
variable (m : (ℓ : Loc nD τ sig) → Buf (Elt Ideal) ℓ) (c : Dev nD)

theorem V_0 : V m c main_v0 = m ((c : Thread nD τ).loc main_arg0) := by
  unfold V
  after_reads_simp
  rfl

theorem V_1 : V m c main_v2 = (padCols (m ((c : Thread nD τ).loc main_arg1)) : Mat 1024 3200) := by
  unfold V
  after_reads_simp
  exact Eq.trans rfl (pad_eq (n := 112) (m ((c : Thread nD τ).loc main_arg1)) (sitofp (F := Ideal) .bf16 (constantI S_ 32 0#32)) pads_S1024x3088_S1024x3200_000_01120 h_S_ fun _ => zero_cast)

/-- Which block each grid point works on. -/
theorem idx : ∀ t : Fin grid0.N, cc0_transform_0 (grid0.coords t) = ![t.val / 1, 0] ∧ cc0_transform_1 (grid0.coords t) = ![t.val % 1, 0] ∧ cc0_transform_2 (grid0.coords t) = ![t.val / 1, t.val % 1] ∧ cc0_transform_3 (grid0.coords t) = ![t.val / 1, t.val % 1] := by decide +kernel

theorem at_0 (t : Fin grid0.N) (y : S1024x3200.Idx) :
    iblk m c 0 t y = m ((c : Thread nD τ).loc main_arg0) (ValueIdx.ix2 (wrap 16384 (t.val / 1 * 1024 + (y 0).val)) (y 1)) := by
  have hN : t.val < 16 := lt_of_lt_of_eq t.isLt N_0
  refine Eq.trans ?_ (congrFun (V_0 m c) _)
  blk_simp [iblk]
  refine congrArg (V m c main_v0) (place _ _ _ ?_ ?_)
  · have hy : (y 0).val < 1024 := (y 0).isLt
    blk_simp; show cc0_transform_0 (grid0.coords t) 0 * 1024 + (y 0).val = (wrap 16384 (t.val / 1 * 1024 + (y 0).val)).val
    rw [(idx t).1, wrap_val (by omega)]; rfl
  · blk_simp; show cc0_transform_0 (grid0.coords t) 1 * 3200 + (y 1).val = (y 1).val
    rw [(idx t).1]; show 0 * 3200 + (y 1).val = (y 1).val; omega

theorem at_1 (t : Fin grid0.N) (y : S1024x3200.Idx) :
    iblk m c 1 t y = (padCols (m ((c : Thread nD τ).loc main_arg1)) : Mat 1024 3200) (ValueIdx.ix2 (wrap 1024 (t.val % 1 * 1024 + (y 0).val)) (y 1)) := by
  have hN : t.val < 16 := lt_of_lt_of_eq t.isLt N_0
  refine Eq.trans ?_ (congrFun (V_1 m c) _)
  blk_simp [iblk]
  refine congrArg (V m c main_v2) (place _ _ _ ?_ ?_)
  · have hy : (y 0).val < 1024 := (y 0).isLt
    blk_simp; show cc0_transform_1 (grid0.coords t) 0 * 1024 + (y 0).val = (wrap 1024 (t.val % 1 * 1024 + (y 0).val)).val
    rw [(idx t).2.1, wrap_val (by omega)]; rfl
  · blk_simp; show cc0_transform_1 (grid0.coords t) 1 * 3200 + (y 1).val = (y 1).val
    rw [(idx t).2.1]; show 0 * 3200 + (y 1).val = (y 1).val; omega

theorem at_2 (t : Fin grid0.N) (y : S1024x1024.Idx) :
    iblk m c 2 t y = m ((c : Thread nD τ).loc main_arg2) (ValueIdx.ix2 (wrap 16384 (t.val / 1 * 1024 + (y 0).val)) (wrap 1024 (t.val % 1 * 1024 + (y 1).val))) := by
  have hN : t.val < 16 := lt_of_lt_of_eq t.isLt N_0
  refine Eq.trans ?_ (congrFun (V_main_arg2 m c) _)
  blk_simp [iblk]
  refine congrArg (V m c main_arg2) (place _ _ _ ?_ ?_)
  · have hy : (y 0).val < 1024 := (y 0).isLt
    blk_simp; show cc0_transform_2 (grid0.coords t) 0 * 1024 + (y 0).val = (wrap 16384 (t.val / 1 * 1024 + (y 0).val)).val
    rw [(idx t).2.2.1, wrap_val (by omega)]; rfl
  · have hy : (y 1).val < 1024 := (y 1).isLt
    blk_simp; show cc0_transform_2 (grid0.coords t) 1 * 1024 + (y 1).val = (wrap 1024 (t.val % 1 * 1024 + (y 1).val)).val
    rw [(idx t).2.2.1, wrap_val (by omega)]; rfl

theorem emb (t : Fin grid0.N) (y : S1024x1024.Idx) : (win0_3.blk t).view.emb y = ValueIdx.ix2 (wrap 16384 (t.val / 1 * 1024 + (y 0).val)) (wrap 1024 (t.val % 1 * 1024 + (y 1).val)) := by
  have hN : t.val < 16 := lt_of_lt_of_eq t.isLt N_0
  refine place _ _ _ ?_ ?_
  · have hy : (y 0).val < 1024 := (y 0).isLt
    blk_simp; show cc0_transform_3 (grid0.coords t) 0 * 1024 + (y 0).val = (wrap 16384 (t.val / 1 * 1024 + (y 0).val)).val
    rw [(idx t).2.2.2, wrap_val (by omega)]; rfl
  · have hy : (y 1).val < 1024 := (y 1).isLt
    blk_simp; show cc0_transform_3 (grid0.coords t) 1 * 1024 + (y 1).val = (wrap 1024 (t.val % 1 * 1024 + (y 1).val)).val
    rw [(idx t).2.2.2, wrap_val (by omega)]; rfl

/-- The kernel's result. -/
theorem array : (dats m 0 c).arrAt 3 cfg0.N = addScaled (Ideal.ofBits .f32 0x3FB504F3#32) (mulNT (a := 16384) (b := 1024) (k := 3200) (m ((c : Thread nD τ).loc main_arg0)) (padCols (m ((c : Thread nD τ).loc main_arg1)) : Mat 1024 3200)) (m ((c : Thread nD τ).loc main_arg2)) := by
  refine (dats m 0 c).arrAt_eq_of_covers 3 _ (by decide +kernel) fun t hf y => ?_
  blk_simp
  rw [after0_3]
  frame_out
  rw [pay_apply, show (win0_3.blk t).view.emb y = _ from emb t y]
  exact congrArg₂ (· + ·) (mulNT_block (fun r => wrap 16384 (t.val / 1 * 1024 + r.val)) (fun r => wrap 1024 (t.val % 1 * 1024 + r.val)) (at_0 m c t) (at_1 m c t) y) (congrArg (_ * ·) (at_2 m c t y))
end

/-- The reference's result. -/
theorem reference (x0 : Mat 16384 3200) (x1 : Mat 1024 3088) (x2 : Mat 16384 1024) : Cert.Reference9Ideal.Read.val_main_v8 (F := Ideal) x0 x1 x2 = addScaled (Ideal.ofBits .f32 0x3FB504F3#32) (mulNT x0 (padCols x1 : Mat 1024 3200)) x2 := by
  funext i
  unfold addScaled
  rw [mulNT_padCols (by decide), Cert.Reference9Ideal.Read.val_main_v8_apply, Cert.Reference9Ideal.Read.val_main_v6_apply, Cert.Reference9Ideal.Read.val_main_v5_apply, Cert.Reference9Ideal.Read.val_main_cst_1_apply, Cert.Reference9Ideal.Read.val_main_v7_apply]
  refine (add_comm _ _).trans (congrArg (· + _) (Finset.sum_congr rfl fun k _ => congrArg₂ (· * ·) ((Cert.Reference9Ideal.Read.val_main_v4_apply (F := Ideal) x0 _).trans (congrArg x0 ?_)) (congrArg x1 ?_)))
  all_goals exact funext (Fin.forall_fin_two.mpr ⟨rfl, rfl⟩)

attribute [local instance] Cert.Kernel9.Gen.facts Cert.Kernel9Ideal.Gen.facts Cert.Reference9Ideal.Gen.facts

theorem frame_kernel : Cert.quiescent_Kernel9 := fun m ρ _ => Cert.Kernel9.Gen.frame m ρ
theorem frame_ideal : Cert.quiescent_Kernel9Ideal := fun m ρ _ => Cert.Kernel9Ideal.Gen.frame m ρ
theorem frame_reference : Cert.quiescent_Reference9Ideal := fun m ρ _ =>
  (θ_run Cert.Reference9Ideal.defs _ _).mono
    (fun r h => ⟨fun c => (h c).2, sem_eq_zero_of_no_sems (by decide) r.2⟩) (Cert.Reference9Ideal.Value.run (F := Ideal) m ρ)
theorem constants : Cert.preserves_Kernel9_Kernel9Ideal := trivial

theorem value : Cert.algebraic_Kernel9Ideal_Reference9Ideal := by
  intro m ρ m' ρ' _ hag
  refine ⟨fun c => (dats m 0 c).arrAt 3 cfg0.N, Value.run_blocks m ρ, ?_⟩
  refine (θ_run Cert.Reference9Ideal.defs _ _).mono (fun r h c => ?_) (Cert.Reference9Ideal.Value.run (F := Ideal) m' ρ')
  obtain ⟨a0, a1, a2⟩ := hag c
  obtain ⟨h0, hargs⟩ := h c
  refine ⟨h0.trans ?_, hargs⟩
  refine Eq.trans ?_ (array m c).symm
  rw [a0, a1, a2]
  exact reference _ _ _

end Fox.AttnInDx

end
-- ==== Proof.Fox.Products.AttnInDw.lean ====
/-
  The attention's input projection: the gradient of its weight.
-/
module

public import proofs.«01_k».proof.Defs
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Fox.Products.Common
public import Idealize.ShloMosaic.Adequacy
public import Idealize.ShloMosaic.Init
public import Idealize.ShloMosaic.Lib.Pipeline.ValueKit
public import Idealize.ShloMosaic.Lib.Pointwise
public import Idealize.ShloMosaic.Lib.StableHlo.ReadAt

@[expose] public section

set_option maxRecDepth 16384

noncomputable section

open scoped BigOperators
open Idealize.ShloMosaic Idealize.SL.Sem Cert.Kernel10Ideal Cert.Kernel10Ideal.Gen TcCoe Fox.Products

namespace Fox.AttnInDw

/-- What the body computes on one pair of blocks. -/
theorem pay_apply (x0 : FVec Ideal S512x1024 .bf16) (x1 : FVec Ideal S512x3200 .bf16) :
    k0_pay1 (F := Ideal) x0 x1 = mulTN (a := 1024) (b := 3200) (k := 512) x0 x1 := by
  funext y; unfold k0_pay1; pointwise; rfl

theorem pay_next (x0 : FVec Ideal S512x1024 .bf16) (x1 : FVec Ideal S512x3200 .bf16) (x2 : FVec Ideal S1024x3200 .f32) (y : S1024x3200.Idx) :
    k0_pay2 (F := Ideal) x0 x1 x2 y = x2 y + k0_pay1 (F := Ideal) x0 x1 y := by
  unfold k0_pay2; pointwise

section
variable (m : (ℓ : Loc nD τ sig) → Buf (Elt Ideal) ℓ) (c : Dev nD)

theorem V_0 : V m c main_v0 = m ((c : Thread nD τ).loc main_arg0) := by
  unfold V
  after_reads_simp
  rfl

theorem V_1 : V m c main_v1 = m ((c : Thread nD τ).loc main_arg1) := by
  unfold V
  after_reads_simp
  rfl

/-- Which block each grid point works on. -/
theorem idx : ∀ t : Fin grid0.N, cc0_transform_0 (grid0.coords t) = ![t.val % 32, 0] ∧ cc0_transform_1 (grid0.coords t) = ![t.val % 32, t.val / 32] ∧ cc0_transform_2 (grid0.coords t) = ![0, t.val / 32] := by decide +kernel

theorem at_0 (t : Fin grid0.N) (y : S512x1024.Idx) :
    iblk m c 0 t y = m ((c : Thread nD τ).loc main_arg0) (ValueIdx.ix2 (wrap 16384 (t.val % 32 * 512 + (y 0).val)) (y 1)) := by
  have hN : t.val < 32 := lt_of_lt_of_eq t.isLt N_0
  refine Eq.trans ?_ (congrFun (V_0 m c) _)
  blk_simp [iblk]
  refine congrArg (V m c main_v0) (place _ _ _ ?_ ?_)
  · have hy : (y 0).val < 512 := (y 0).isLt
    blk_simp; show cc0_transform_0 (grid0.coords t) 0 * 512 + (y 0).val = (wrap 16384 (t.val % 32 * 512 + (y 0).val)).val
    rw [(idx t).1, wrap_val (by omega)]; rfl
  · blk_simp; show cc0_transform_0 (grid0.coords t) 1 * 1024 + (y 1).val = (y 1).val
    rw [(idx t).1]; show 0 * 1024 + (y 1).val = (y 1).val; omega

theorem at_1 (t : Fin grid0.N) (y : S512x3200.Idx) :
    iblk m c 1 t y = m ((c : Thread nD τ).loc main_arg1) (ValueIdx.ix2 (wrap 16384 (t.val % 32 * 512 + (y 0).val)) (wrap 3200 (t.val / 32 * 3200 + (y 1).val))) := by
  have hN : t.val < 32 := lt_of_lt_of_eq t.isLt N_0
  refine Eq.trans ?_ (congrFun (V_1 m c) _)
  blk_simp [iblk]
  refine congrArg (V m c main_v1) (place _ _ _ ?_ ?_)
  · have hy : (y 0).val < 512 := (y 0).isLt
    blk_simp; show cc0_transform_1 (grid0.coords t) 0 * 512 + (y 0).val = (wrap 16384 (t.val % 32 * 512 + (y 0).val)).val
    rw [(idx t).2.1, wrap_val (by omega)]; rfl
  · have hy : (y 1).val < 3200 := (y 1).isLt
    blk_simp; show cc0_transform_1 (grid0.coords t) 1 * 3200 + (y 1).val = (wrap 3200 (t.val / 32 * 3200 + (y 1).val)).val
    rw [(idx t).2.1, wrap_val (by omega)]; rfl

theorem emb (t : Fin grid0.N) (y : S1024x3200.Idx) : (win0_2.blk t).view.emb y = ValueIdx.ix2 (y 0) (wrap 3200 (t.val / 32 * 3200 + (y 1).val)) := by
  have hN : t.val < 32 := lt_of_lt_of_eq t.isLt N_0
  refine place _ _ _ ?_ ?_
  · blk_simp; show cc0_transform_2 (grid0.coords t) 0 * 1024 + (y 0).val = (y 0).val
    rw [(idx t).2.2]; show 0 * 1024 + (y 0).val = (y 0).val; omega
  · have hy : (y 1).val < 3200 := (y 1).isLt
    blk_simp; show cc0_transform_2 (grid0.coords t) 1 * 3200 + (y 1).val = (wrap 3200 (t.val / 32 * 3200 + (y 1).val)).val
    rw [(idx t).2.2, wrap_val (by omega)]; rfl

/-- After point `n` the output block holds the contributions of all rows up to the point's block. -/
theorem out_eq (y : S1024x3200.Idx) (n : ℕ) (hn : n < cfg0.N) : outsAt0 m c n hn y
    = ∑ i ∈ Finset.range (n % 32 * 512 + 512), term (k := 16384) (a := 1024) (b := 3200) (m ((c : Thread nD τ).loc main_arg0)) (m ((c : Thread nD τ).loc main_arg1)) (y 0) (wrap 3200 (n / 32 * 3200 + (y 1).val)) i := by
  have hlt : ∀ j < cfg0.N, j < 32 := fun j h => lt_of_lt_of_eq h N_0
  refine accumulate (p := 32) (w := 512) (fun n hn => outsAt0 m c n hn y) (fun n hn => k0_pay1 (F := Ideal) (iblk m c 0 ⟨n, hn⟩) (iblk m c 1 ⟨n, hn⟩) y)
    (fun j => term (k := 16384) (a := 1024) (b := 3200) (m ((c : Thread nD τ).loc main_arg0)) (m ((c : Thread nD τ).loc main_arg1)) (y 0) (wrap 3200 (j * 3200 + (y 1).val)))
    (fun j hj h => ?_) (fun j hj h => ?_) (fun j hj => ?_) n hn
  · have := hlt j hj
    show outsAt0 m c (⟨j, hj⟩ : Fin cfg0.N).val _ y = _
    rw [outsAt0_A m c ⟨j, hj⟩ h (by dsimp only; omega)]
    frame_out
  · have := hlt j hj
    show outsAt0 m c (⟨j, hj⟩ : Fin cfg0.N).val _ y = _
    rw [outsAt0_B m c ⟨j, hj⟩ h (by dsimp only; omega)]
    frame_out
    exact pay_next _ _ _ y
  · dsimp only
    rw [pay_apply]
    exact mulTN_block (j % 32 * 512) (j / 32 * 3200) (at_0 m c ⟨j, hj⟩) (at_1 m c ⟨j, hj⟩) y

/-- The kernel's result. -/
theorem array : (dats m 0 c).arrAt 2 cfg0.N = mulTN (a := 1024) (b := 3200) (k := 16384) (m ((c : Thread nD τ).loc main_arg0)) (m ((c : Thread nD τ).loc main_arg1)) := by
  refine (dats m 0 c).arrAt_eq_of_covers 2 _ (by decide +kernel) fun t hf y => ?_
  have h : t.val % 32 = 31 := (flush0_2 t).mp hf
  blk_simp
  rw [after0_2]
  refine (out_eq m c y t.val t.isLt).trans ?_
  rw [show (win0_2.blk t).view.emb y = _ from emb t y, h]
  exact (mulTN_range _ _ _ _).symm
end

/-- The reference's result. -/
theorem reference (x0 : Mat 16384 1024) (x1 : Mat 16384 3200) : Cert.Reference10Ideal.Read.val_main_v3 (F := Ideal) x0 x1 = mulTN x0 x1 := by
  funext i
  rw [Cert.Reference10Ideal.Read.val_main_v3_apply, Cert.Reference10Ideal.Read.val_main_v2_apply]
  refine Finset.sum_congr rfl fun k _ => (mul_comm _ _).trans (congrArg₂ (· * ·) (congrArg x0 ?_) (congrArg x1 ?_))
  all_goals exact funext (Fin.forall_fin_two.mpr ⟨rfl, rfl⟩)

attribute [local instance] Cert.Kernel10.Gen.facts Cert.Kernel10Ideal.Gen.facts Cert.Reference10Ideal.Gen.facts

theorem frame_kernel : Cert.quiescent_Kernel10 := fun m ρ _ => Cert.Kernel10.Gen.frame m ρ
theorem frame_ideal : Cert.quiescent_Kernel10Ideal := fun m ρ _ => Cert.Kernel10Ideal.Gen.frame m ρ
theorem frame_reference : Cert.quiescent_Reference10Ideal := fun m ρ _ =>
  (θ_run Cert.Reference10Ideal.defs _ _).mono
    (fun r h => ⟨fun c => (h c).2, sem_eq_zero_of_no_sems (by decide) r.2⟩) (Cert.Reference10Ideal.Value.run (F := Ideal) m ρ)
theorem constants : Cert.preserves_Kernel10_Kernel10Ideal := trivial

theorem value : Cert.algebraic_Kernel10Ideal_Reference10Ideal := by
  intro m ρ m' ρ' _ hag
  refine ⟨fun c => (dats m 0 c).arrAt 2 cfg0.N, Value.run_blocks m ρ, ?_⟩
  refine (θ_run Cert.Reference10Ideal.defs _ _).mono (fun r h c => ?_) (Cert.Reference10Ideal.Value.run (F := Ideal) m' ρ')
  obtain ⟨a0, a1⟩ := hag c
  obtain ⟨h0, hargs⟩ := h c
  refine ⟨h0.trans ?_, hargs⟩
  refine Eq.trans ?_ (array m c).symm
  rw [a0, a1]
  exact reference _ _

end Fox.AttnInDw

end
-- ==== Proof.Fox.Products.AttnOut.lean ====
/-
  The attention's output projection: its result.
-/
module

public import proofs.«01_k».proof.Defs
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Fox.Products.Common
public import Idealize.ShloMosaic.Adequacy
public import Idealize.ShloMosaic.Init
public import Idealize.ShloMosaic.Lib.Pipeline.ValueKit
public import Idealize.ShloMosaic.Lib.Pointwise
public import Idealize.ShloMosaic.Lib.StableHlo.ReadAt

@[expose] public section

set_option maxRecDepth 16384

noncomputable section

open scoped BigOperators
open Idealize.ShloMosaic Idealize.SL.Sem Cert.Kernel11Ideal Cert.Kernel11Ideal.Gen TcCoe Fox.Products

namespace Fox.AttnOut

/-- What the body computes on one pair of blocks. -/
theorem pay_apply (x0 : FVec Ideal S2048x1024 .bf16) (x1 : FVec Ideal S1024x1024 .bf16) :
    k0_pay1 (F := Ideal) x0 x1 = mulNN (a := 2048) (b := 1024) (k := 1024) x0 x1 := by
  funext y; unfold k0_pay1; pointwise; rfl

section
variable (m : (ℓ : Loc nD τ sig) → Buf (Elt Ideal) ℓ) (c : Dev nD)

theorem V_0 : V m c main_v0 = m ((c : Thread nD τ).loc main_arg0) := by
  unfold V
  after_reads_simp
  rfl

theorem V_1 : V m c main_v1 = m ((c : Thread nD τ).loc main_arg1) := by
  unfold V
  after_reads_simp
  rfl

/-- Which block each grid point works on. -/
theorem idx : ∀ t : Fin grid0.N, cc0_transform_0 (grid0.coords t) = ![t.val / 1, 0] ∧ cc0_transform_1 (grid0.coords t) = ![0, t.val % 1] ∧ cc0_transform_2 (grid0.coords t) = ![t.val / 1, t.val % 1] := by decide +kernel

theorem at_0 (t : Fin grid0.N) (y : S2048x1024.Idx) :
    iblk m c 0 t y = m ((c : Thread nD τ).loc main_arg0) (ValueIdx.ix2 (wrap 16384 (t.val / 1 * 2048 + (y 0).val)) (y 1)) := by
  have hN : t.val < 8 := lt_of_lt_of_eq t.isLt N_0
  refine Eq.trans ?_ (congrFun (V_0 m c) _)
  blk_simp [iblk]
  refine congrArg (V m c main_v0) (place _ _ _ ?_ ?_)
  · have hy : (y 0).val < 2048 := (y 0).isLt
    blk_simp; show cc0_transform_0 (grid0.coords t) 0 * 2048 + (y 0).val = (wrap 16384 (t.val / 1 * 2048 + (y 0).val)).val
    rw [(idx t).1, wrap_val (by omega)]; rfl
  · blk_simp; show cc0_transform_0 (grid0.coords t) 1 * 1024 + (y 1).val = (y 1).val
    rw [(idx t).1]; show 0 * 1024 + (y 1).val = (y 1).val; omega

theorem at_1 (t : Fin grid0.N) (y : S1024x1024.Idx) :
    iblk m c 1 t y = m ((c : Thread nD τ).loc main_arg1) (ValueIdx.ix2 (y 0) (wrap 1024 (t.val % 1 * 1024 + (y 1).val))) := by
  have hN : t.val < 8 := lt_of_lt_of_eq t.isLt N_0
  refine Eq.trans ?_ (congrFun (V_1 m c) _)
  blk_simp [iblk]
  refine congrArg (V m c main_v1) (place _ _ _ ?_ ?_)
  · blk_simp; show cc0_transform_1 (grid0.coords t) 0 * 1024 + (y 0).val = (y 0).val
    rw [(idx t).2.1]; show 0 * 1024 + (y 0).val = (y 0).val; omega
  · have hy : (y 1).val < 1024 := (y 1).isLt
    blk_simp; show cc0_transform_1 (grid0.coords t) 1 * 1024 + (y 1).val = (wrap 1024 (t.val % 1 * 1024 + (y 1).val)).val
    rw [(idx t).2.1, wrap_val (by omega)]; rfl

theorem emb (t : Fin grid0.N) (y : S2048x1024.Idx) : (win0_2.blk t).view.emb y = ValueIdx.ix2 (wrap 16384 (t.val / 1 * 2048 + (y 0).val)) (wrap 1024 (t.val % 1 * 1024 + (y 1).val)) := by
  have hN : t.val < 8 := lt_of_lt_of_eq t.isLt N_0
  refine place _ _ _ ?_ ?_
  · have hy : (y 0).val < 2048 := (y 0).isLt
    blk_simp; show cc0_transform_2 (grid0.coords t) 0 * 2048 + (y 0).val = (wrap 16384 (t.val / 1 * 2048 + (y 0).val)).val
    rw [(idx t).2.2, wrap_val (by omega)]; rfl
  · have hy : (y 1).val < 1024 := (y 1).isLt
    blk_simp; show cc0_transform_2 (grid0.coords t) 1 * 1024 + (y 1).val = (wrap 1024 (t.val % 1 * 1024 + (y 1).val)).val
    rw [(idx t).2.2, wrap_val (by omega)]; rfl

/-- The kernel's result. -/
theorem array : (dats m 0 c).arrAt 2 cfg0.N = mulNN (a := 16384) (b := 1024) (k := 1024) (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay_apply, show (win0_2.blk t).view.emb y = _ from emb t y]
  exact mulNN_block (fun r => wrap 16384 (t.val / 1 * 2048 + r.val)) (fun r => wrap 1024 (t.val % 1 * 1024 + r.val)) (at_0 m c t) (at_1 m c t) y
end

/-- The reference's result. -/
theorem reference (x0 : Mat 16384 1024) (x1 : Mat 1024 1024) : Cert.Reference11Ideal.Read.val_main_v0 (F := Ideal) x0 x1 = mulNN x0 x1 := by
  funext i
  refine (Cert.Reference11Ideal.Read.val_main_v0_apply x0 x1 i).trans (Finset.sum_congr rfl fun k _ => congrArg₂ (· * ·) (congrArg x0 ?_) (congrArg x1 ?_))
  all_goals exact funext (Fin.forall_fin_two.mpr ⟨rfl, rfl⟩)

attribute [local instance] Cert.Kernel11.Gen.facts Cert.Kernel11Ideal.Gen.facts Cert.Reference11Ideal.Gen.facts

theorem frame_kernel : Cert.quiescent_Kernel11 := fun m ρ _ => Cert.Kernel11.Gen.frame m ρ
theorem frame_ideal : Cert.quiescent_Kernel11Ideal := fun m ρ _ => Cert.Kernel11Ideal.Gen.frame m ρ
theorem frame_reference : Cert.quiescent_Reference11Ideal := fun m ρ _ =>
  (θ_run Cert.Reference11Ideal.defs _ _).mono
    (fun r h => ⟨fun c => (h c).2, sem_eq_zero_of_no_sems (by decide) r.2⟩) (Cert.Reference11Ideal.Value.run (F := Ideal) m ρ)
theorem constants : Cert.preserves_Kernel11_Kernel11Ideal := trivial

theorem value : Cert.algebraic_Kernel11Ideal_Reference11Ideal := by
  intro m ρ m' ρ' _ hag
  refine ⟨fun c => (dats m 0 c).arrAt 2 cfg0.N, Value.run_blocks m ρ, ?_⟩
  refine (θ_run Cert.Reference11Ideal.defs _ _).mono (fun r h c => ?_) (Cert.Reference11Ideal.Value.run (F := Ideal) m' ρ')
  obtain ⟨a0, a1⟩ := hag c
  obtain ⟨h0, hargs⟩ := h c
  refine ⟨h0.trans ?_, hargs⟩
  refine Eq.trans ?_ (array m c).symm
  rw [a0, a1]
  exact reference _ _

end Fox.AttnOut

end
-- ==== Proof.Fox.Products.AttnOutDx.lean ====
/-
  The attention's output projection: the gradient of its input.
-/
module

public import proofs.«01_k».proof.Defs
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Fox.Products.Common
public import Idealize.ShloMosaic.Adequacy
public import Idealize.ShloMosaic.Init
public import Idealize.ShloMosaic.Lib.Pipeline.ValueKit
public import Idealize.ShloMosaic.Lib.Pointwise
public import Idealize.ShloMosaic.Lib.StableHlo.ReadAt

@[expose] public section

set_option maxRecDepth 16384

noncomputable section

open scoped BigOperators
open Idealize.ShloMosaic Idealize.SL.Sem Cert.Kernel12Ideal Cert.Kernel12Ideal.Gen TcCoe Fox.Products

namespace Fox.AttnOutDx

/-- What the body computes on one pair of blocks. -/
theorem pay_apply (x0 : FVec Ideal S2048x1024 .bf16) (x1 : FVec Ideal S1024x1024 .bf16) :
    k0_pay1 (F := Ideal) x0 x1 = mulNT (a := 2048) (b := 1024) (k := 1024) x0 x1 := by
  funext y; unfold k0_pay1; pointwise; rfl

section
variable (m : (ℓ : Loc nD τ sig) → Buf (Elt Ideal) ℓ) (c : Dev nD)

theorem V_0 : V m c main_v0 = m ((c : Thread nD τ).loc main_arg0) := by
  unfold V
  after_reads_simp
  rfl

theorem V_1 : V m c main_v1 = m ((c : Thread nD τ).loc main_arg1) := by
  unfold V
  after_reads_simp
  rfl

/-- Which block each grid point works on. -/
theorem idx : ∀ t : Fin grid0.N, cc0_transform_0 (grid0.coords t) = ![t.val / 1, 0] ∧ cc0_transform_1 (grid0.coords t) = ![t.val % 1, 0] ∧ cc0_transform_2 (grid0.coords t) = ![t.val / 1, t.val % 1] := by decide +kernel

theorem at_0 (t : Fin grid0.N) (y : S2048x1024.Idx) :
    iblk m c 0 t y = m ((c : Thread nD τ).loc main_arg0) (ValueIdx.ix2 (wrap 16384 (t.val / 1 * 2048 + (y 0).val)) (y 1)) := by
  have hN : t.val < 8 := lt_of_lt_of_eq t.isLt N_0
  refine Eq.trans ?_ (congrFun (V_0 m c) _)
  blk_simp [iblk]
  refine congrArg (V m c main_v0) (place _ _ _ ?_ ?_)
  · have hy : (y 0).val < 2048 := (y 0).isLt
    blk_simp; show cc0_transform_0 (grid0.coords t) 0 * 2048 + (y 0).val = (wrap 16384 (t.val / 1 * 2048 + (y 0).val)).val
    rw [(idx t).1, wrap_val (by omega)]; rfl
  · blk_simp; show cc0_transform_0 (grid0.coords t) 1 * 1024 + (y 1).val = (y 1).val
    rw [(idx t).1]; show 0 * 1024 + (y 1).val = (y 1).val; omega

theorem at_1 (t : Fin grid0.N) (y : S1024x1024.Idx) :
    iblk m c 1 t y = m ((c : Thread nD τ).loc main_arg1) (ValueIdx.ix2 (wrap 1024 (t.val % 1 * 1024 + (y 0).val)) (y 1)) := by
  have hN : t.val < 8 := lt_of_lt_of_eq t.isLt N_0
  refine Eq.trans ?_ (congrFun (V_1 m c) _)
  blk_simp [iblk]
  refine congrArg (V m c main_v1) (place _ _ _ ?_ ?_)
  · have hy : (y 0).val < 1024 := (y 0).isLt
    blk_simp; show cc0_transform_1 (grid0.coords t) 0 * 1024 + (y 0).val = (wrap 1024 (t.val % 1 * 1024 + (y 0).val)).val
    rw [(idx t).2.1, wrap_val (by omega)]; rfl
  · blk_simp; show cc0_transform_1 (grid0.coords t) 1 * 1024 + (y 1).val = (y 1).val
    rw [(idx t).2.1]; show 0 * 1024 + (y 1).val = (y 1).val; omega

theorem emb (t : Fin grid0.N) (y : S2048x1024.Idx) : (win0_2.blk t).view.emb y = ValueIdx.ix2 (wrap 16384 (t.val / 1 * 2048 + (y 0).val)) (wrap 1024 (t.val % 1 * 1024 + (y 1).val)) := by
  have hN : t.val < 8 := lt_of_lt_of_eq t.isLt N_0
  refine place _ _ _ ?_ ?_
  · have hy : (y 0).val < 2048 := (y 0).isLt
    blk_simp; show cc0_transform_2 (grid0.coords t) 0 * 2048 + (y 0).val = (wrap 16384 (t.val / 1 * 2048 + (y 0).val)).val
    rw [(idx t).2.2, wrap_val (by omega)]; rfl
  · have hy : (y 1).val < 1024 := (y 1).isLt
    blk_simp; show cc0_transform_2 (grid0.coords t) 1 * 1024 + (y 1).val = (wrap 1024 (t.val % 1 * 1024 + (y 1).val)).val
    rw [(idx t).2.2, wrap_val (by omega)]; rfl

/-- The kernel's result. -/
theorem array : (dats m 0 c).arrAt 2 cfg0.N = mulNT (a := 16384) (b := 1024) (k := 1024) (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay_apply, show (win0_2.blk t).view.emb y = _ from emb t y]
  exact mulNT_block (fun r => wrap 16384 (t.val / 1 * 2048 + r.val)) (fun r => wrap 1024 (t.val % 1 * 1024 + r.val)) (at_0 m c t) (at_1 m c t) y
end

/-- The reference's result. -/
theorem reference (x0 : Mat 16384 1024) (x1 : Mat 1024 1024) : Cert.Reference12Ideal.Read.val_main_v2 (F := Ideal) x0 x1 = mulNT x0 x1 := by
  funext i
  refine (Cert.Reference12Ideal.Read.val_main_v2_apply x0 x1 i).trans (Finset.sum_congr rfl fun k _ => congrArg₂ (· * ·) (congrArg x0 ?_) (congrArg x1 ?_))
  all_goals exact funext (Fin.forall_fin_two.mpr ⟨rfl, rfl⟩)

attribute [local instance] Cert.Kernel12.Gen.facts Cert.Kernel12Ideal.Gen.facts Cert.Reference12Ideal.Gen.facts

theorem frame_kernel : Cert.quiescent_Kernel12 := fun m ρ _ => Cert.Kernel12.Gen.frame m ρ
theorem frame_ideal : Cert.quiescent_Kernel12Ideal := fun m ρ _ => Cert.Kernel12Ideal.Gen.frame m ρ
theorem frame_reference : Cert.quiescent_Reference12Ideal := fun m ρ _ =>
  (θ_run Cert.Reference12Ideal.defs _ _).mono
    (fun r h => ⟨fun c => (h c).2, sem_eq_zero_of_no_sems (by decide) r.2⟩) (Cert.Reference12Ideal.Value.run (F := Ideal) m ρ)
theorem constants : Cert.preserves_Kernel12_Kernel12Ideal := trivial

theorem value : Cert.algebraic_Kernel12Ideal_Reference12Ideal := by
  intro m ρ m' ρ' _ hag
  refine ⟨fun c => (dats m 0 c).arrAt 2 cfg0.N, Value.run_blocks m ρ, ?_⟩
  refine (θ_run Cert.Reference12Ideal.defs _ _).mono (fun r h c => ?_) (Cert.Reference12Ideal.Value.run (F := Ideal) m' ρ')
  obtain ⟨a0, a1⟩ := hag c
  obtain ⟨h0, hargs⟩ := h c
  refine ⟨h0.trans ?_, hargs⟩
  refine Eq.trans ?_ (array m c).symm
  rw [a0, a1]
  exact reference _ _

end Fox.AttnOutDx

end
-- ==== Proof.Fox.Products.AttnOutDw.lean ====
/-
  The attention's output projection: the gradient of its weight.
-/
module

public import proofs.«01_k».proof.Defs
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Fox.Products.Common
public import Idealize.ShloMosaic.Adequacy
public import Idealize.ShloMosaic.Init
public import Idealize.ShloMosaic.Lib.Pipeline.ValueKit
public import Idealize.ShloMosaic.Lib.Pointwise
public import Idealize.ShloMosaic.Lib.StableHlo.ReadAt

@[expose] public section

set_option maxRecDepth 16384

noncomputable section

open scoped BigOperators
open Idealize.ShloMosaic Idealize.SL.Sem Cert.Kernel13Ideal Cert.Kernel13Ideal.Gen TcCoe Fox.Products

namespace Fox.AttnOutDw

/-- What the body computes on one pair of blocks. -/
theorem pay_apply (x0 : FVec Ideal S2048x1024 .bf16) (x1 : FVec Ideal S2048x1024 .bf16) :
    k0_pay1 (F := Ideal) x0 x1 = mulTN (a := 1024) (b := 1024) (k := 2048) x0 x1 := by
  funext y; unfold k0_pay1; pointwise; rfl

theorem pay_next (x0 : FVec Ideal S2048x1024 .bf16) (x1 : FVec Ideal S2048x1024 .bf16) (x2 : FVec Ideal S1024x1024 .f32) (y : S1024x1024.Idx) :
    k0_pay2 (F := Ideal) x0 x1 x2 y = x2 y + k0_pay1 (F := Ideal) x0 x1 y := by
  unfold k0_pay2; pointwise

section
variable (m : (ℓ : Loc nD τ sig) → Buf (Elt Ideal) ℓ) (c : Dev nD)

theorem V_0 : V m c main_v0 = m ((c : Thread nD τ).loc main_arg0) := by
  unfold V
  after_reads_simp
  rfl

theorem V_1 : V m c main_v1 = m ((c : Thread nD τ).loc main_arg1) := by
  unfold V
  after_reads_simp
  rfl

/-- Which block each grid point works on. -/
theorem idx : ∀ t : Fin grid0.N, cc0_transform_0 (grid0.coords t) = ![t.val % 8, 0] ∧ cc0_transform_1 (grid0.coords t) = ![t.val % 8, t.val / 8] ∧ cc0_transform_2 (grid0.coords t) = ![0, t.val / 8] := by decide +kernel

theorem at_0 (t : Fin grid0.N) (y : S2048x1024.Idx) :
    iblk m c 0 t y = m ((c : Thread nD τ).loc main_arg0) (ValueIdx.ix2 (wrap 16384 (t.val % 8 * 2048 + (y 0).val)) (y 1)) := by
  have hN : t.val < 8 := lt_of_lt_of_eq t.isLt N_0
  refine Eq.trans ?_ (congrFun (V_0 m c) _)
  blk_simp [iblk]
  refine congrArg (V m c main_v0) (place _ _ _ ?_ ?_)
  · have hy : (y 0).val < 2048 := (y 0).isLt
    blk_simp; show cc0_transform_0 (grid0.coords t) 0 * 2048 + (y 0).val = (wrap 16384 (t.val % 8 * 2048 + (y 0).val)).val
    rw [(idx t).1, wrap_val (by omega)]; rfl
  · blk_simp; show cc0_transform_0 (grid0.coords t) 1 * 1024 + (y 1).val = (y 1).val
    rw [(idx t).1]; show 0 * 1024 + (y 1).val = (y 1).val; omega

theorem at_1 (t : Fin grid0.N) (y : S2048x1024.Idx) :
    iblk m c 1 t y = m ((c : Thread nD τ).loc main_arg1) (ValueIdx.ix2 (wrap 16384 (t.val % 8 * 2048 + (y 0).val)) (wrap 1024 (t.val / 8 * 1024 + (y 1).val))) := by
  have hN : t.val < 8 := lt_of_lt_of_eq t.isLt N_0
  refine Eq.trans ?_ (congrFun (V_1 m c) _)
  blk_simp [iblk]
  refine congrArg (V m c main_v1) (place _ _ _ ?_ ?_)
  · have hy : (y 0).val < 2048 := (y 0).isLt
    blk_simp; show cc0_transform_1 (grid0.coords t) 0 * 2048 + (y 0).val = (wrap 16384 (t.val % 8 * 2048 + (y 0).val)).val
    rw [(idx t).2.1, wrap_val (by omega)]; rfl
  · have hy : (y 1).val < 1024 := (y 1).isLt
    blk_simp; show cc0_transform_1 (grid0.coords t) 1 * 1024 + (y 1).val = (wrap 1024 (t.val / 8 * 1024 + (y 1).val)).val
    rw [(idx t).2.1, wrap_val (by omega)]; rfl

theorem emb (t : Fin grid0.N) (y : S1024x1024.Idx) : (win0_2.blk t).view.emb y = ValueIdx.ix2 (y 0) (wrap 1024 (t.val / 8 * 1024 + (y 1).val)) := by
  have hN : t.val < 8 := lt_of_lt_of_eq t.isLt N_0
  refine place _ _ _ ?_ ?_
  · blk_simp; show cc0_transform_2 (grid0.coords t) 0 * 1024 + (y 0).val = (y 0).val
    rw [(idx t).2.2]; show 0 * 1024 + (y 0).val = (y 0).val; omega
  · have hy : (y 1).val < 1024 := (y 1).isLt
    blk_simp; show cc0_transform_2 (grid0.coords t) 1 * 1024 + (y 1).val = (wrap 1024 (t.val / 8 * 1024 + (y 1).val)).val
    rw [(idx t).2.2, wrap_val (by omega)]; rfl

/-- After point `n` the output block holds the contributions of all rows up to the point's block. -/
theorem out_eq (y : S1024x1024.Idx) (n : ℕ) (hn : n < cfg0.N) : outsAt0 m c n hn y
    = ∑ i ∈ Finset.range (n % 8 * 2048 + 2048), term (k := 16384) (a := 1024) (b := 1024) (m ((c : Thread nD τ).loc main_arg0)) (m ((c : Thread nD τ).loc main_arg1)) (y 0) (wrap 1024 (n / 8 * 1024 + (y 1).val)) i := by
  have hlt : ∀ j < cfg0.N, j < 8 := fun j h => lt_of_lt_of_eq h N_0
  refine accumulate (p := 8) (w := 2048) (fun n hn => outsAt0 m c n hn y) (fun n hn => k0_pay1 (F := Ideal) (iblk m c 0 ⟨n, hn⟩) (iblk m c 1 ⟨n, hn⟩) y)
    (fun j => term (k := 16384) (a := 1024) (b := 1024) (m ((c : Thread nD τ).loc main_arg0)) (m ((c : Thread nD τ).loc main_arg1)) (y 0) (wrap 1024 (j * 1024 + (y 1).val)))
    (fun j hj h => ?_) (fun j hj h => ?_) (fun j hj => ?_) n hn
  · have := hlt j hj
    show outsAt0 m c (⟨j, hj⟩ : Fin cfg0.N).val _ y = _
    rw [outsAt0_A m c ⟨j, hj⟩ h (by dsimp only; omega)]
    frame_out
  · have := hlt j hj
    show outsAt0 m c (⟨j, hj⟩ : Fin cfg0.N).val _ y = _
    rw [outsAt0_B m c ⟨j, hj⟩ h (by dsimp only; omega)]
    frame_out
    exact pay_next _ _ _ y
  · dsimp only
    rw [pay_apply]
    exact mulTN_block (j % 8 * 2048) (j / 8 * 1024) (at_0 m c ⟨j, hj⟩) (at_1 m c ⟨j, hj⟩) y

/-- The kernel's result. -/
theorem array : (dats m 0 c).arrAt 2 cfg0.N = mulTN (a := 1024) (b := 1024) (k := 16384) (m ((c : Thread nD τ).loc main_arg0)) (m ((c : Thread nD τ).loc main_arg1)) := by
  refine (dats m 0 c).arrAt_eq_of_covers 2 _ (by decide +kernel) fun t hf y => ?_
  have h : t.val % 8 = 7 := (flush0_2 t).mp hf
  blk_simp
  rw [after0_2]
  refine (out_eq m c y t.val t.isLt).trans ?_
  rw [show (win0_2.blk t).view.emb y = _ from emb t y, h]
  exact (mulTN_range _ _ _ _).symm
end

/-- The reference's result. -/
theorem reference (x0 : Mat 16384 1024) (x1 : Mat 16384 1024) : Cert.Reference13Ideal.Read.val_main_v3 (F := Ideal) x0 x1 = mulTN x0 x1 := by
  funext i
  rw [Cert.Reference13Ideal.Read.val_main_v3_apply, Cert.Reference13Ideal.Read.val_main_v2_apply]
  refine Finset.sum_congr rfl fun k _ => (mul_comm _ _).trans (congrArg₂ (· * ·) (congrArg x0 ?_) (congrArg x1 ?_))
  all_goals exact funext (Fin.forall_fin_two.mpr ⟨rfl, rfl⟩)

attribute [local instance] Cert.Kernel13.Gen.facts Cert.Kernel13Ideal.Gen.facts Cert.Reference13Ideal.Gen.facts

theorem frame_kernel : Cert.quiescent_Kernel13 := fun m ρ _ => Cert.Kernel13.Gen.frame m ρ
theorem frame_ideal : Cert.quiescent_Kernel13Ideal := fun m ρ _ => Cert.Kernel13Ideal.Gen.frame m ρ
theorem frame_reference : Cert.quiescent_Reference13Ideal := fun m ρ _ =>
  (θ_run Cert.Reference13Ideal.defs _ _).mono
    (fun r h => ⟨fun c => (h c).2, sem_eq_zero_of_no_sems (by decide) r.2⟩) (Cert.Reference13Ideal.Value.run (F := Ideal) m ρ)
theorem constants : Cert.preserves_Kernel13_Kernel13Ideal := trivial

theorem value : Cert.algebraic_Kernel13Ideal_Reference13Ideal := by
  intro m ρ m' ρ' _ hag
  refine ⟨fun c => (dats m 0 c).arrAt 2 cfg0.N, Value.run_blocks m ρ, ?_⟩
  refine (θ_run Cert.Reference13Ideal.defs _ _).mono (fun r h c => ?_) (Cert.Reference13Ideal.Value.run (F := Ideal) m' ρ')
  obtain ⟨a0, a1⟩ := hag c
  obtain ⟨h0, hargs⟩ := h c
  refine ⟨h0.trans ?_, hargs⟩
  refine Eq.trans ?_ (array m c).symm
  rw [a0, a1]
  exact reference _ _

end Fox.AttnOutDw

end
-- ==== Proof.Fox.Products.SsmIn.lean ====
/-
  The SSD mixer's input projection: its result.
-/
module

public import proofs.«01_k».proof.Defs
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Fox.Products.Common
public import Idealize.ShloMosaic.Adequacy
public import Idealize.ShloMosaic.Init
public import Idealize.ShloMosaic.Lib.Pipeline.ValueKit
public import Idealize.ShloMosaic.Lib.Pointwise
public import Idealize.ShloMosaic.Lib.StableHlo.ReadAt

@[expose] public section

set_option maxRecDepth 16384

noncomputable section

open scoped BigOperators
open Idealize.ShloMosaic Idealize.SL.Sem Cert.Kernel14Ideal Cert.Kernel14Ideal.Gen TcCoe Fox.Products

namespace Fox.SsmIn

/-- What the body computes on one pair of blocks. -/
theorem pay_apply (x0 : FVec Ideal S2048x1024 .bf16) (x1 : FVec Ideal S1024x896 .bf16) :
    k0_pay1 (F := Ideal) x0 x1 = mulNN (a := 2048) (b := 896) (k := 1024) x0 x1 := by
  funext y; unfold k0_pay1; pointwise; rfl

section
variable (m : (ℓ : Loc nD τ sig) → Buf (Elt Ideal) ℓ) (c : Dev nD)

theorem V_0 : V m c main_v0 = m ((c : Thread nD τ).loc main_arg0) := by
  unfold V
  after_reads_simp
  rfl

theorem V_1 : V m c main_v2 = (padCols (m ((c : Thread nD τ).loc main_arg1)) : Mat 1024 6272) := by
  unfold V
  after_reads_simp
  exact Eq.trans rfl (pad_eq (n := 96) (m ((c : Thread nD τ).loc main_arg1)) (sitofp (F := Ideal) .bf16 (constantI S_ 32 0#32)) pads_S1024x6176_S1024x6272_000_0960 h_S_ fun _ => zero_cast)

/-- Which block each grid point works on. -/
theorem idx : ∀ t : Fin grid0.N, cc0_transform_0 (grid0.coords t) = ![t.val / 7, 0] ∧ cc0_transform_1 (grid0.coords t) = ![0, t.val % 7] ∧ cc0_transform_2 (grid0.coords t) = ![t.val / 7, t.val % 7] := by decide +kernel

theorem at_0 (t : Fin grid0.N) (y : S2048x1024.Idx) :
    iblk m c 0 t y = m ((c : Thread nD τ).loc main_arg0) (ValueIdx.ix2 (wrap 16384 (t.val / 7 * 2048 + (y 0).val)) (y 1)) := by
  have hN : t.val < 56 := lt_of_lt_of_eq t.isLt N_0
  refine Eq.trans ?_ (congrFun (V_0 m c) _)
  blk_simp [iblk]
  refine congrArg (V m c main_v0) (place _ _ _ ?_ ?_)
  · have hy : (y 0).val < 2048 := (y 0).isLt
    blk_simp; show cc0_transform_0 (grid0.coords t) 0 * 2048 + (y 0).val = (wrap 16384 (t.val / 7 * 2048 + (y 0).val)).val
    rw [(idx t).1, wrap_val (by omega)]; rfl
  · blk_simp; show cc0_transform_0 (grid0.coords t) 1 * 1024 + (y 1).val = (y 1).val
    rw [(idx t).1]; show 0 * 1024 + (y 1).val = (y 1).val; omega

theorem at_1 (t : Fin grid0.N) (y : S1024x896.Idx) :
    iblk m c 1 t y = (padCols (m ((c : Thread nD τ).loc main_arg1)) : Mat 1024 6272) (ValueIdx.ix2 (y 0) (wrap 6272 (t.val % 7 * 896 + (y 1).val))) := by
  have hN : t.val < 56 := lt_of_lt_of_eq t.isLt N_0
  refine Eq.trans ?_ (congrFun (V_1 m c) _)
  blk_simp [iblk]
  refine congrArg (V m c main_v2) (place _ _ _ ?_ ?_)
  · blk_simp; show cc0_transform_1 (grid0.coords t) 0 * 1024 + (y 0).val = (y 0).val
    rw [(idx t).2.1]; show 0 * 1024 + (y 0).val = (y 0).val; omega
  · have hy : (y 1).val < 896 := (y 1).isLt
    blk_simp; show cc0_transform_1 (grid0.coords t) 1 * 896 + (y 1).val = (wrap 6272 (t.val % 7 * 896 + (y 1).val)).val
    rw [(idx t).2.1, wrap_val (by omega)]; rfl

theorem emb (t : Fin grid0.N) (y : S2048x896.Idx) : (win0_2.blk t).view.emb y = ValueIdx.ix2 (wrap 16384 (t.val / 7 * 2048 + (y 0).val)) (wrap 6272 (t.val % 7 * 896 + (y 1).val)) := by
  have hN : t.val < 56 := lt_of_lt_of_eq t.isLt N_0
  refine place _ _ _ ?_ ?_
  · have hy : (y 0).val < 2048 := (y 0).isLt
    blk_simp; show cc0_transform_2 (grid0.coords t) 0 * 2048 + (y 0).val = (wrap 16384 (t.val / 7 * 2048 + (y 0).val)).val
    rw [(idx t).2.2, wrap_val (by omega)]; rfl
  · have hy : (y 1).val < 896 := (y 1).isLt
    blk_simp; show cc0_transform_2 (grid0.coords t) 1 * 896 + (y 1).val = (wrap 6272 (t.val % 7 * 896 + (y 1).val)).val
    rw [(idx t).2.2, wrap_val (by omega)]; rfl

/-- The kernel's result. -/
theorem array : (dats m 0 c).arrAt 2 cfg0.N = mulNN (a := 16384) (b := 6272) (k := 1024) (m ((c : Thread nD τ).loc main_arg0)) (padCols (m ((c : Thread nD τ).loc main_arg1)) : Mat 1024 6272) := by
  refine (dats m 0 c).arrAt_eq_of_covers 2 _ (by decide +kernel) fun t hf y => ?_
  blk_simp
  rw [after0_2]
  frame_out
  rw [pay_apply, show (win0_2.blk t).view.emb y = _ from emb t y]
  exact mulNN_block (fun r => wrap 16384 (t.val / 7 * 2048 + r.val)) (fun r => wrap 6272 (t.val % 7 * 896 + r.val)) (at_0 m c t) (at_1 m c t) y
end

/-- The reference's result. -/
theorem reference (x0 : Mat 16384 1024) (x1 : Mat 1024 6176) : Cert.Reference14Ideal.Read.val_main_v1 (F := Ideal) x0 x1 = mulNN x0 (padCols x1 : Mat 1024 6272) := by
  rw [mulNN_padCols]
  refine (pad_eq _ _ _ _ fun _ => zero_cast).trans (congrArg padCols (funext fun i => ?_))
  refine (Cert.Reference14Ideal.Read.val_main_v0_apply x0 x1 i).trans (Finset.sum_congr rfl fun k _ => congrArg₂ (· * ·) (congrArg x0 ?_) (congrArg x1 ?_))
  all_goals exact funext (Fin.forall_fin_two.mpr ⟨rfl, rfl⟩)

attribute [local instance] Cert.Kernel14.Gen.facts Cert.Kernel14Ideal.Gen.facts Cert.Reference14Ideal.Gen.facts

theorem frame_kernel : Cert.quiescent_Kernel14 := fun m ρ _ => Cert.Kernel14.Gen.frame m ρ
theorem frame_ideal : Cert.quiescent_Kernel14Ideal := fun m ρ _ => Cert.Kernel14Ideal.Gen.frame m ρ
theorem frame_reference : Cert.quiescent_Reference14Ideal := fun m ρ _ =>
  (θ_run Cert.Reference14Ideal.defs _ _).mono
    (fun r h => ⟨fun c => (h c).2, sem_eq_zero_of_no_sems (by decide) r.2⟩) (Cert.Reference14Ideal.Value.run (F := Ideal) m ρ)
theorem constants : Cert.preserves_Kernel14_Kernel14Ideal := trivial

theorem value : Cert.algebraic_Kernel14Ideal_Reference14Ideal := by
  intro m ρ m' ρ' _ hag
  refine ⟨fun c => (dats m 0 c).arrAt 2 cfg0.N, Value.run_blocks m ρ, ?_⟩
  refine (θ_run Cert.Reference14Ideal.defs _ _).mono (fun r h c => ?_) (Cert.Reference14Ideal.Value.run (F := Ideal) m' ρ')
  obtain ⟨a0, a1⟩ := hag c
  obtain ⟨h0, hargs⟩ := h c
  refine ⟨h0.trans ?_, hargs⟩
  refine Eq.trans ?_ (array m c).symm
  rw [a0, a1]
  exact reference _ _

end Fox.SsmIn

end
-- ==== Proof.Fox.Products.SsmInDx.lean ====
/-
  The SSD mixer's input projection: the gradient of its input.
-/
module

public import proofs.«01_k».proof.Defs
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Fox.Products.Common
public import Idealize.ShloMosaic.Adequacy
public import Idealize.ShloMosaic.Init
public import Idealize.ShloMosaic.Lib.Pipeline.ValueKit
public import Idealize.ShloMosaic.Lib.Pointwise
public import Idealize.ShloMosaic.Lib.StableHlo.ReadAt

@[expose] public section

set_option maxRecDepth 16384

noncomputable section

open scoped BigOperators
open Idealize.ShloMosaic Idealize.SL.Sem Cert.Kernel15Ideal Cert.Kernel15Ideal.Gen TcCoe Fox.Products

namespace Fox.SsmInDx

/-- What the body computes on one pair of blocks. -/
theorem pay_apply (x0 : FVec Ideal S1024x6272 .bf16) (x1 : FVec Ideal S512x6272 .bf16) (x2 : FVec Ideal S1024x512 .f32) :
    k0_pay1 (F := Ideal) x0 x1 x2 = addScaled (Ideal.ofBits .f32 0x3FB504F3#32) (mulNT (a := 1024) (b := 512) (k := 6272) x0 x1) x2 := by
  funext y; unfold k0_pay1; pointwise; rfl

section
variable (m : (ℓ : Loc nD τ sig) → Buf (Elt Ideal) ℓ) (c : Dev nD)

theorem V_0 : V m c main_v0 = m ((c : Thread nD τ).loc main_arg0) := by
  unfold V
  after_reads_simp
  rfl

theorem V_1 : V m c main_v2 = (padCols (m ((c : Thread nD τ).loc main_arg1)) : Mat 1024 6272) := by
  unfold V
  after_reads_simp
  exact Eq.trans rfl (pad_eq (n := 96) (m ((c : Thread nD τ).loc main_arg1)) (sitofp (F := Ideal) .bf16 (constantI S_ 32 0#32)) pads_S1024x6176_S1024x6272_000_0960 h_S_ fun _ => zero_cast)

/-- Which block each grid point works on. -/
theorem idx : ∀ t : Fin grid0.N, cc0_transform_0 (grid0.coords t) = ![t.val / 2, 0] ∧ cc0_transform_1 (grid0.coords t) = ![t.val % 2, 0] ∧ cc0_transform_2 (grid0.coords t) = ![t.val / 2, t.val % 2] ∧ cc0_transform_3 (grid0.coords t) = ![t.val / 2, t.val % 2] := by decide +kernel

theorem at_0 (t : Fin grid0.N) (y : S1024x6272.Idx) :
    iblk m c 0 t y = m ((c : Thread nD τ).loc main_arg0) (ValueIdx.ix2 (wrap 16384 (t.val / 2 * 1024 + (y 0).val)) (y 1)) := by
  have hN : t.val < 32 := lt_of_lt_of_eq t.isLt N_0
  refine Eq.trans ?_ (congrFun (V_0 m c) _)
  blk_simp [iblk]
  refine congrArg (V m c main_v0) (place _ _ _ ?_ ?_)
  · have hy : (y 0).val < 1024 := (y 0).isLt
    blk_simp; show cc0_transform_0 (grid0.coords t) 0 * 1024 + (y 0).val = (wrap 16384 (t.val / 2 * 1024 + (y 0).val)).val
    rw [(idx t).1, wrap_val (by omega)]; rfl
  · blk_simp; show cc0_transform_0 (grid0.coords t) 1 * 6272 + (y 1).val = (y 1).val
    rw [(idx t).1]; show 0 * 6272 + (y 1).val = (y 1).val; omega

theorem at_1 (t : Fin grid0.N) (y : S512x6272.Idx) :
    iblk m c 1 t y = (padCols (m ((c : Thread nD τ).loc main_arg1)) : Mat 1024 6272) (ValueIdx.ix2 (wrap 1024 (t.val % 2 * 512 + (y 0).val)) (y 1)) := by
  have hN : t.val < 32 := lt_of_lt_of_eq t.isLt N_0
  refine Eq.trans ?_ (congrFun (V_1 m c) _)
  blk_simp [iblk]
  refine congrArg (V m c main_v2) (place _ _ _ ?_ ?_)
  · have hy : (y 0).val < 512 := (y 0).isLt
    blk_simp; show cc0_transform_1 (grid0.coords t) 0 * 512 + (y 0).val = (wrap 1024 (t.val % 2 * 512 + (y 0).val)).val
    rw [(idx t).2.1, wrap_val (by omega)]; rfl
  · blk_simp; show cc0_transform_1 (grid0.coords t) 1 * 6272 + (y 1).val = (y 1).val
    rw [(idx t).2.1]; show 0 * 6272 + (y 1).val = (y 1).val; omega

theorem at_2 (t : Fin grid0.N) (y : S1024x512.Idx) :
    iblk m c 2 t y = m ((c : Thread nD τ).loc main_arg2) (ValueIdx.ix2 (wrap 16384 (t.val / 2 * 1024 + (y 0).val)) (wrap 1024 (t.val % 2 * 512 + (y 1).val))) := by
  have hN : t.val < 32 := lt_of_lt_of_eq t.isLt N_0
  refine Eq.trans ?_ (congrFun (V_main_arg2 m c) _)
  blk_simp [iblk]
  refine congrArg (V m c main_arg2) (place _ _ _ ?_ ?_)
  · have hy : (y 0).val < 1024 := (y 0).isLt
    blk_simp; show cc0_transform_2 (grid0.coords t) 0 * 1024 + (y 0).val = (wrap 16384 (t.val / 2 * 1024 + (y 0).val)).val
    rw [(idx t).2.2.1, wrap_val (by omega)]; rfl
  · have hy : (y 1).val < 512 := (y 1).isLt
    blk_simp; show cc0_transform_2 (grid0.coords t) 1 * 512 + (y 1).val = (wrap 1024 (t.val % 2 * 512 + (y 1).val)).val
    rw [(idx t).2.2.1, wrap_val (by omega)]; rfl

theorem emb (t : Fin grid0.N) (y : S1024x512.Idx) : (win0_3.blk t).view.emb y = ValueIdx.ix2 (wrap 16384 (t.val / 2 * 1024 + (y 0).val)) (wrap 1024 (t.val % 2 * 512 + (y 1).val)) := by
  have hN : t.val < 32 := lt_of_lt_of_eq t.isLt N_0
  refine place _ _ _ ?_ ?_
  · have hy : (y 0).val < 1024 := (y 0).isLt
    blk_simp; show cc0_transform_3 (grid0.coords t) 0 * 1024 + (y 0).val = (wrap 16384 (t.val / 2 * 1024 + (y 0).val)).val
    rw [(idx t).2.2.2, wrap_val (by omega)]; rfl
  · have hy : (y 1).val < 512 := (y 1).isLt
    blk_simp; show cc0_transform_3 (grid0.coords t) 1 * 512 + (y 1).val = (wrap 1024 (t.val % 2 * 512 + (y 1).val)).val
    rw [(idx t).2.2.2, wrap_val (by omega)]; rfl

/-- The kernel's result. -/
theorem array : (dats m 0 c).arrAt 3 cfg0.N = addScaled (Ideal.ofBits .f32 0x3FB504F3#32) (mulNT (a := 16384) (b := 1024) (k := 6272) (m ((c : Thread nD τ).loc main_arg0)) (padCols (m ((c : Thread nD τ).loc main_arg1)) : Mat 1024 6272)) (m ((c : Thread nD τ).loc main_arg2)) := by
  refine (dats m 0 c).arrAt_eq_of_covers 3 _ (by decide +kernel) fun t hf y => ?_
  blk_simp
  rw [after0_3]
  frame_out
  rw [pay_apply, show (win0_3.blk t).view.emb y = _ from emb t y]
  exact congrArg₂ (· + ·) (mulNT_block (fun r => wrap 16384 (t.val / 2 * 1024 + r.val)) (fun r => wrap 1024 (t.val % 2 * 512 + r.val)) (at_0 m c t) (at_1 m c t) y) (congrArg (_ * ·) (at_2 m c t y))
end

/-- The reference's result. -/
theorem reference (x0 : Mat 16384 6272) (x1 : Mat 1024 6176) (x2 : Mat 16384 1024) : Cert.Reference15Ideal.Read.val_main_v8 (F := Ideal) x0 x1 x2 = addScaled (Ideal.ofBits .f32 0x3FB504F3#32) (mulNT x0 (padCols x1 : Mat 1024 6272)) x2 := by
  funext i
  unfold addScaled
  rw [mulNT_padCols (by decide), Cert.Reference15Ideal.Read.val_main_v8_apply, Cert.Reference15Ideal.Read.val_main_v6_apply, Cert.Reference15Ideal.Read.val_main_v5_apply, Cert.Reference15Ideal.Read.val_main_cst_1_apply, Cert.Reference15Ideal.Read.val_main_v7_apply]
  refine (add_comm _ _).trans (congrArg (· + _) (Finset.sum_congr rfl fun k _ => congrArg₂ (· * ·) ((Cert.Reference15Ideal.Read.val_main_v4_apply (F := Ideal) x0 _).trans (congrArg x0 ?_)) (congrArg x1 ?_)))
  all_goals exact funext (Fin.forall_fin_two.mpr ⟨rfl, rfl⟩)

attribute [local instance] Cert.Kernel15.Gen.facts Cert.Kernel15Ideal.Gen.facts Cert.Reference15Ideal.Gen.facts

theorem frame_kernel : Cert.quiescent_Kernel15 := fun m ρ _ => Cert.Kernel15.Gen.frame m ρ
theorem frame_ideal : Cert.quiescent_Kernel15Ideal := fun m ρ _ => Cert.Kernel15Ideal.Gen.frame m ρ
theorem frame_reference : Cert.quiescent_Reference15Ideal := fun m ρ _ =>
  (θ_run Cert.Reference15Ideal.defs _ _).mono
    (fun r h => ⟨fun c => (h c).2, sem_eq_zero_of_no_sems (by decide) r.2⟩) (Cert.Reference15Ideal.Value.run (F := Ideal) m ρ)
theorem constants : Cert.preserves_Kernel15_Kernel15Ideal := trivial

theorem value : Cert.algebraic_Kernel15Ideal_Reference15Ideal := by
  intro m ρ m' ρ' _ hag
  refine ⟨fun c => (dats m 0 c).arrAt 3 cfg0.N, Value.run_blocks m ρ, ?_⟩
  refine (θ_run Cert.Reference15Ideal.defs _ _).mono (fun r h c => ?_) (Cert.Reference15Ideal.Value.run (F := Ideal) m' ρ')
  obtain ⟨a0, a1, a2⟩ := hag c
  obtain ⟨h0, hargs⟩ := h c
  refine ⟨h0.trans ?_, hargs⟩
  refine Eq.trans ?_ (array m c).symm
  rw [a0, a1, a2]
  exact reference _ _ _

end Fox.SsmInDx

end
-- ==== Proof.Fox.Products.SsmInDw.lean ====
/-
  The SSD mixer's input projection: the gradient of its weight.
-/
module

public import proofs.«01_k».proof.Defs
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Fox.Products.Common
public import Idealize.ShloMosaic.Adequacy
public import Idealize.ShloMosaic.Init
public import Idealize.ShloMosaic.Lib.Pipeline.ValueKit
public import Idealize.ShloMosaic.Lib.Pointwise
public import Idealize.ShloMosaic.Lib.StableHlo.ReadAt

@[expose] public section

set_option maxRecDepth 16384

noncomputable section

open scoped BigOperators
open Idealize.ShloMosaic Idealize.SL.Sem Cert.Kernel16Ideal Cert.Kernel16Ideal.Gen TcCoe Fox.Products

namespace Fox.SsmInDw

/-- What the body computes on one pair of blocks. -/
theorem pay_apply (x0 : FVec Ideal S2048x1024 .bf16) (x1 : FVec Ideal S2048x896 .bf16) :
    k0_pay1 (F := Ideal) x0 x1 = mulTN (a := 1024) (b := 896) (k := 2048) x0 x1 := by
  funext y; unfold k0_pay1; pointwise; rfl

theorem pay_next (x0 : FVec Ideal S2048x1024 .bf16) (x1 : FVec Ideal S2048x896 .bf16) (x2 : FVec Ideal S1024x896 .f32) (y : S1024x896.Idx) :
    k0_pay2 (F := Ideal) x0 x1 x2 y = x2 y + k0_pay1 (F := Ideal) x0 x1 y := by
  unfold k0_pay2; pointwise

section
variable (m : (ℓ : Loc nD τ sig) → Buf (Elt Ideal) ℓ) (c : Dev nD)

theorem V_0 : V m c main_v0 = m ((c : Thread nD τ).loc main_arg0) := by
  unfold V
  after_reads_simp
  rfl

theorem V_1 : V m c main_v1 = m ((c : Thread nD τ).loc main_arg1) := by
  unfold V
  after_reads_simp
  rfl

/-- Which block each grid point works on. -/
theorem idx : ∀ t : Fin grid0.N, cc0_transform_0 (grid0.coords t) = ![t.val % 8, 0] ∧ cc0_transform_1 (grid0.coords t) = ![t.val % 8, t.val / 8] ∧ cc0_transform_2 (grid0.coords t) = ![0, t.val / 8] := by decide +kernel

theorem at_0 (t : Fin grid0.N) (y : S2048x1024.Idx) :
    iblk m c 0 t y = m ((c : Thread nD τ).loc main_arg0) (ValueIdx.ix2 (wrap 16384 (t.val % 8 * 2048 + (y 0).val)) (y 1)) := by
  have hN : t.val < 56 := lt_of_lt_of_eq t.isLt N_0
  refine Eq.trans ?_ (congrFun (V_0 m c) _)
  blk_simp [iblk]
  refine congrArg (V m c main_v0) (place _ _ _ ?_ ?_)
  · have hy : (y 0).val < 2048 := (y 0).isLt
    blk_simp; show cc0_transform_0 (grid0.coords t) 0 * 2048 + (y 0).val = (wrap 16384 (t.val % 8 * 2048 + (y 0).val)).val
    rw [(idx t).1, wrap_val (by omega)]; rfl
  · blk_simp; show cc0_transform_0 (grid0.coords t) 1 * 1024 + (y 1).val = (y 1).val
    rw [(idx t).1]; show 0 * 1024 + (y 1).val = (y 1).val; omega

theorem at_1 (t : Fin grid0.N) (y : S2048x896.Idx) :
    iblk m c 1 t y = m ((c : Thread nD τ).loc main_arg1) (ValueIdx.ix2 (wrap 16384 (t.val % 8 * 2048 + (y 0).val)) (wrap 6272 (t.val / 8 * 896 + (y 1).val))) := by
  have hN : t.val < 56 := lt_of_lt_of_eq t.isLt N_0
  refine Eq.trans ?_ (congrFun (V_1 m c) _)
  blk_simp [iblk]
  refine congrArg (V m c main_v1) (place _ _ _ ?_ ?_)
  · have hy : (y 0).val < 2048 := (y 0).isLt
    blk_simp; show cc0_transform_1 (grid0.coords t) 0 * 2048 + (y 0).val = (wrap 16384 (t.val % 8 * 2048 + (y 0).val)).val
    rw [(idx t).2.1, wrap_val (by omega)]; rfl
  · have hy : (y 1).val < 896 := (y 1).isLt
    blk_simp; show cc0_transform_1 (grid0.coords t) 1 * 896 + (y 1).val = (wrap 6272 (t.val / 8 * 896 + (y 1).val)).val
    rw [(idx t).2.1, wrap_val (by omega)]; rfl

theorem emb (t : Fin grid0.N) (y : S1024x896.Idx) : (win0_2.blk t).view.emb y = ValueIdx.ix2 (y 0) (wrap 6272 (t.val / 8 * 896 + (y 1).val)) := by
  have hN : t.val < 56 := lt_of_lt_of_eq t.isLt N_0
  refine place _ _ _ ?_ ?_
  · blk_simp; show cc0_transform_2 (grid0.coords t) 0 * 1024 + (y 0).val = (y 0).val
    rw [(idx t).2.2]; show 0 * 1024 + (y 0).val = (y 0).val; omega
  · have hy : (y 1).val < 896 := (y 1).isLt
    blk_simp; show cc0_transform_2 (grid0.coords t) 1 * 896 + (y 1).val = (wrap 6272 (t.val / 8 * 896 + (y 1).val)).val
    rw [(idx t).2.2, wrap_val (by omega)]; rfl

/-- After point `n` the output block holds the contributions of all rows up to the point's block. -/
theorem out_eq (y : S1024x896.Idx) (n : ℕ) (hn : n < cfg0.N) : outsAt0 m c n hn y
    = ∑ i ∈ Finset.range (n % 8 * 2048 + 2048), term (k := 16384) (a := 1024) (b := 6272) (m ((c : Thread nD τ).loc main_arg0)) (m ((c : Thread nD τ).loc main_arg1)) (y 0) (wrap 6272 (n / 8 * 896 + (y 1).val)) i := by
  have hlt : ∀ j < cfg0.N, j < 56 := fun j h => lt_of_lt_of_eq h N_0
  refine accumulate (p := 8) (w := 2048) (fun n hn => outsAt0 m c n hn y) (fun n hn => k0_pay1 (F := Ideal) (iblk m c 0 ⟨n, hn⟩) (iblk m c 1 ⟨n, hn⟩) y)
    (fun j => term (k := 16384) (a := 1024) (b := 6272) (m ((c : Thread nD τ).loc main_arg0)) (m ((c : Thread nD τ).loc main_arg1)) (y 0) (wrap 6272 (j * 896 + (y 1).val)))
    (fun j hj h => ?_) (fun j hj h => ?_) (fun j hj => ?_) n hn
  · have := hlt j hj
    show outsAt0 m c (⟨j, hj⟩ : Fin cfg0.N).val _ y = _
    rw [outsAt0_A m c ⟨j, hj⟩ h (by dsimp only; omega)]
    frame_out
  · have := hlt j hj
    show outsAt0 m c (⟨j, hj⟩ : Fin cfg0.N).val _ y = _
    rw [outsAt0_B m c ⟨j, hj⟩ h (by dsimp only; omega)]
    frame_out
    exact pay_next _ _ _ y
  · dsimp only
    rw [pay_apply]
    exact mulTN_block (j % 8 * 2048) (j / 8 * 896) (at_0 m c ⟨j, hj⟩) (at_1 m c ⟨j, hj⟩) y

/-- The kernel's result. -/
theorem array : (dats m 0 c).arrAt 2 cfg0.N = mulTN (a := 1024) (b := 6272) (k := 16384) (m ((c : Thread nD τ).loc main_arg0)) (m ((c : Thread nD τ).loc main_arg1)) := by
  refine (dats m 0 c).arrAt_eq_of_covers 2 _ (by decide +kernel) fun t hf y => ?_
  have h : t.val % 8 = 7 := (flush0_2 t).mp hf
  blk_simp
  rw [after0_2]
  refine (out_eq m c y t.val t.isLt).trans ?_
  rw [show (win0_2.blk t).view.emb y = _ from emb t y, h]
  exact (mulTN_range _ _ _ _).symm
end

/-- The reference's result. -/
theorem reference (x0 : Mat 16384 1024) (x1 : Mat 16384 6272) : Cert.Reference16Ideal.Read.val_main_v3 (F := Ideal) x0 x1 = mulTN x0 x1 := by
  funext i
  rw [Cert.Reference16Ideal.Read.val_main_v3_apply, Cert.Reference16Ideal.Read.val_main_v2_apply]
  refine Finset.sum_congr rfl fun k _ => (mul_comm _ _).trans (congrArg₂ (· * ·) (congrArg x0 ?_) (congrArg x1 ?_))
  all_goals exact funext (Fin.forall_fin_two.mpr ⟨rfl, rfl⟩)

attribute [local instance] Cert.Kernel16.Gen.facts Cert.Kernel16Ideal.Gen.facts Cert.Reference16Ideal.Gen.facts

theorem frame_kernel : Cert.quiescent_Kernel16 := fun m ρ _ => Cert.Kernel16.Gen.frame m ρ
theorem frame_ideal : Cert.quiescent_Kernel16Ideal := fun m ρ _ => Cert.Kernel16Ideal.Gen.frame m ρ
theorem frame_reference : Cert.quiescent_Reference16Ideal := fun m ρ _ =>
  (θ_run Cert.Reference16Ideal.defs _ _).mono
    (fun r h => ⟨fun c => (h c).2, sem_eq_zero_of_no_sems (by decide) r.2⟩) (Cert.Reference16Ideal.Value.run (F := Ideal) m ρ)
theorem constants : Cert.preserves_Kernel16_Kernel16Ideal := trivial

theorem value : Cert.algebraic_Kernel16Ideal_Reference16Ideal := by
  intro m ρ m' ρ' _ hag
  refine ⟨fun c => (dats m 0 c).arrAt 2 cfg0.N, Value.run_blocks m ρ, ?_⟩
  refine (θ_run Cert.Reference16Ideal.defs _ _).mono (fun r h c => ?_) (Cert.Reference16Ideal.Value.run (F := Ideal) m' ρ')
  obtain ⟨a0, a1⟩ := hag c
  obtain ⟨h0, hargs⟩ := h c
  refine ⟨h0.trans ?_, hargs⟩
  refine Eq.trans ?_ (array m c).symm
  rw [a0, a1]
  exact reference _ _

end Fox.SsmInDw

end
-- ==== Proof.Fox.Products.SsmOut.lean ====
/-
  The SSD mixer's output projection: its result.
-/
module

public import proofs.«01_k».proof.Defs
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Fox.Products.Common
public import Idealize.ShloMosaic.Adequacy
public import Idealize.ShloMosaic.Init
public import Idealize.ShloMosaic.Lib.Pipeline.ValueKit
public import Idealize.ShloMosaic.Lib.Pointwise
public import Idealize.ShloMosaic.Lib.StableHlo.ReadAt

@[expose] public section

set_option maxRecDepth 16384

noncomputable section

open scoped BigOperators
open Idealize.ShloMosaic Idealize.SL.Sem Cert.Kernel17Ideal Cert.Kernel17Ideal.Gen TcCoe Fox.Products

namespace Fox.SsmOut

/-- What the body computes on one pair of blocks. -/
theorem pay_apply (x0 : FVec Ideal S2048x2048 .bf16) (x1 : FVec Ideal S2048x1024 .bf16) :
    k0_pay1 (F := Ideal) x0 x1 = mulNN (a := 2048) (b := 1024) (k := 2048) x0 x1 := by
  funext y; unfold k0_pay1; pointwise; rfl

section
variable (m : (ℓ : Loc nD τ sig) → Buf (Elt Ideal) ℓ) (c : Dev nD)

theorem V_0 : V m c main_v0 = m ((c : Thread nD τ).loc main_arg0) := by
  unfold V
  after_reads_simp
  rfl

theorem V_1 : V m c main_v1 = m ((c : Thread nD τ).loc main_arg1) := by
  unfold V
  after_reads_simp
  rfl

/-- Which block each grid point works on. -/
theorem idx : ∀ t : Fin grid0.N, cc0_transform_0 (grid0.coords t) = ![t.val / 1, 0] ∧ cc0_transform_1 (grid0.coords t) = ![0, t.val % 1] ∧ cc0_transform_2 (grid0.coords t) = ![t.val / 1, t.val % 1] := by decide +kernel

theorem at_0 (t : Fin grid0.N) (y : S2048x2048.Idx) :
    iblk m c 0 t y = m ((c : Thread nD τ).loc main_arg0) (ValueIdx.ix2 (wrap 16384 (t.val / 1 * 2048 + (y 0).val)) (y 1)) := by
  have hN : t.val < 8 := lt_of_lt_of_eq t.isLt N_0
  refine Eq.trans ?_ (congrFun (V_0 m c) _)
  blk_simp [iblk]
  refine congrArg (V m c main_v0) (place _ _ _ ?_ ?_)
  · have hy : (y 0).val < 2048 := (y 0).isLt
    blk_simp; show cc0_transform_0 (grid0.coords t) 0 * 2048 + (y 0).val = (wrap 16384 (t.val / 1 * 2048 + (y 0).val)).val
    rw [(idx t).1, wrap_val (by omega)]; rfl
  · blk_simp; show cc0_transform_0 (grid0.coords t) 1 * 2048 + (y 1).val = (y 1).val
    rw [(idx t).1]; show 0 * 2048 + (y 1).val = (y 1).val; omega

theorem at_1 (t : Fin grid0.N) (y : S2048x1024.Idx) :
    iblk m c 1 t y = m ((c : Thread nD τ).loc main_arg1) (ValueIdx.ix2 (y 0) (wrap 1024 (t.val % 1 * 1024 + (y 1).val))) := by
  have hN : t.val < 8 := lt_of_lt_of_eq t.isLt N_0
  refine Eq.trans ?_ (congrFun (V_1 m c) _)
  blk_simp [iblk]
  refine congrArg (V m c main_v1) (place _ _ _ ?_ ?_)
  · blk_simp; show cc0_transform_1 (grid0.coords t) 0 * 2048 + (y 0).val = (y 0).val
    rw [(idx t).2.1]; show 0 * 2048 + (y 0).val = (y 0).val; omega
  · have hy : (y 1).val < 1024 := (y 1).isLt
    blk_simp; show cc0_transform_1 (grid0.coords t) 1 * 1024 + (y 1).val = (wrap 1024 (t.val % 1 * 1024 + (y 1).val)).val
    rw [(idx t).2.1, wrap_val (by omega)]; rfl

theorem emb (t : Fin grid0.N) (y : S2048x1024.Idx) : (win0_2.blk t).view.emb y = ValueIdx.ix2 (wrap 16384 (t.val / 1 * 2048 + (y 0).val)) (wrap 1024 (t.val % 1 * 1024 + (y 1).val)) := by
  have hN : t.val < 8 := lt_of_lt_of_eq t.isLt N_0
  refine place _ _ _ ?_ ?_
  · have hy : (y 0).val < 2048 := (y 0).isLt
    blk_simp; show cc0_transform_2 (grid0.coords t) 0 * 2048 + (y 0).val = (wrap 16384 (t.val / 1 * 2048 + (y 0).val)).val
    rw [(idx t).2.2, wrap_val (by omega)]; rfl
  · have hy : (y 1).val < 1024 := (y 1).isLt
    blk_simp; show cc0_transform_2 (grid0.coords t) 1 * 1024 + (y 1).val = (wrap 1024 (t.val % 1 * 1024 + (y 1).val)).val
    rw [(idx t).2.2, wrap_val (by omega)]; rfl

/-- The kernel's result. -/
theorem array : (dats m 0 c).arrAt 2 cfg0.N = mulNN (a := 16384) (b := 1024) (k := 2048) (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay_apply, show (win0_2.blk t).view.emb y = _ from emb t y]
  exact mulNN_block (fun r => wrap 16384 (t.val / 1 * 2048 + r.val)) (fun r => wrap 1024 (t.val % 1 * 1024 + r.val)) (at_0 m c t) (at_1 m c t) y
end

/-- The reference's result. -/
theorem reference (x0 : Mat 16384 2048) (x1 : Mat 2048 1024) : Cert.Reference17Ideal.Read.val_main_v0 (F := Ideal) x0 x1 = mulNN x0 x1 := by
  funext i
  refine (Cert.Reference17Ideal.Read.val_main_v0_apply x0 x1 i).trans (Finset.sum_congr rfl fun k _ => congrArg₂ (· * ·) (congrArg x0 ?_) (congrArg x1 ?_))
  all_goals exact funext (Fin.forall_fin_two.mpr ⟨rfl, rfl⟩)

attribute [local instance] Cert.Kernel17.Gen.facts Cert.Kernel17Ideal.Gen.facts Cert.Reference17Ideal.Gen.facts

theorem frame_kernel : Cert.quiescent_Kernel17 := fun m ρ _ => Cert.Kernel17.Gen.frame m ρ
theorem frame_ideal : Cert.quiescent_Kernel17Ideal := fun m ρ _ => Cert.Kernel17Ideal.Gen.frame m ρ
theorem frame_reference : Cert.quiescent_Reference17Ideal := fun m ρ _ =>
  (θ_run Cert.Reference17Ideal.defs _ _).mono
    (fun r h => ⟨fun c => (h c).2, sem_eq_zero_of_no_sems (by decide) r.2⟩) (Cert.Reference17Ideal.Value.run (F := Ideal) m ρ)
theorem constants : Cert.preserves_Kernel17_Kernel17Ideal := trivial

theorem value : Cert.algebraic_Kernel17Ideal_Reference17Ideal := by
  intro m ρ m' ρ' _ hag
  refine ⟨fun c => (dats m 0 c).arrAt 2 cfg0.N, Value.run_blocks m ρ, ?_⟩
  refine (θ_run Cert.Reference17Ideal.defs _ _).mono (fun r h c => ?_) (Cert.Reference17Ideal.Value.run (F := Ideal) m' ρ')
  obtain ⟨a0, a1⟩ := hag c
  obtain ⟨h0, hargs⟩ := h c
  refine ⟨h0.trans ?_, hargs⟩
  refine Eq.trans ?_ (array m c).symm
  rw [a0, a1]
  exact reference _ _

end Fox.SsmOut

end
-- ==== Proof.Fox.Products.SsmOutDx.lean ====
/-
  The SSD mixer's output projection: the gradient of its input.
-/
module

public import proofs.«01_k».proof.Defs
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Fox.Products.Common
public import Idealize.ShloMosaic.Adequacy
public import Idealize.ShloMosaic.Init
public import Idealize.ShloMosaic.Lib.Pipeline.ValueKit
public import Idealize.ShloMosaic.Lib.Pointwise
public import Idealize.ShloMosaic.Lib.StableHlo.ReadAt

@[expose] public section

set_option maxRecDepth 16384

noncomputable section

open scoped BigOperators
open Idealize.ShloMosaic Idealize.SL.Sem Cert.Kernel18Ideal Cert.Kernel18Ideal.Gen TcCoe Fox.Products

namespace Fox.SsmOutDx

/-- What the body computes on one pair of blocks. -/
theorem pay_apply (x0 : FVec Ideal S2048x1024 .bf16) (x1 : FVec Ideal S1024x1024 .bf16) :
    k0_pay1 (F := Ideal) x0 x1 = mulNT (a := 2048) (b := 1024) (k := 1024) x0 x1 := by
  funext y; unfold k0_pay1; pointwise; rfl

section
variable (m : (ℓ : Loc nD τ sig) → Buf (Elt Ideal) ℓ) (c : Dev nD)

theorem V_0 : V m c main_v0 = m ((c : Thread nD τ).loc main_arg0) := by
  unfold V
  after_reads_simp
  rfl

theorem V_1 : V m c main_v1 = m ((c : Thread nD τ).loc main_arg1) := by
  unfold V
  after_reads_simp
  rfl

/-- Which block each grid point works on. -/
theorem idx : ∀ t : Fin grid0.N, cc0_transform_0 (grid0.coords t) = ![t.val / 2, 0] ∧ cc0_transform_1 (grid0.coords t) = ![t.val % 2, 0] ∧ cc0_transform_2 (grid0.coords t) = ![t.val / 2, t.val % 2] := by decide +kernel

theorem at_0 (t : Fin grid0.N) (y : S2048x1024.Idx) :
    iblk m c 0 t y = m ((c : Thread nD τ).loc main_arg0) (ValueIdx.ix2 (wrap 16384 (t.val / 2 * 2048 + (y 0).val)) (y 1)) := by
  have hN : t.val < 16 := lt_of_lt_of_eq t.isLt N_0
  refine Eq.trans ?_ (congrFun (V_0 m c) _)
  blk_simp [iblk]
  refine congrArg (V m c main_v0) (place _ _ _ ?_ ?_)
  · have hy : (y 0).val < 2048 := (y 0).isLt
    blk_simp; show cc0_transform_0 (grid0.coords t) 0 * 2048 + (y 0).val = (wrap 16384 (t.val / 2 * 2048 + (y 0).val)).val
    rw [(idx t).1, wrap_val (by omega)]; rfl
  · blk_simp; show cc0_transform_0 (grid0.coords t) 1 * 1024 + (y 1).val = (y 1).val
    rw [(idx t).1]; show 0 * 1024 + (y 1).val = (y 1).val; omega

theorem at_1 (t : Fin grid0.N) (y : S1024x1024.Idx) :
    iblk m c 1 t y = m ((c : Thread nD τ).loc main_arg1) (ValueIdx.ix2 (wrap 2048 (t.val % 2 * 1024 + (y 0).val)) (y 1)) := by
  have hN : t.val < 16 := lt_of_lt_of_eq t.isLt N_0
  refine Eq.trans ?_ (congrFun (V_1 m c) _)
  blk_simp [iblk]
  refine congrArg (V m c main_v1) (place _ _ _ ?_ ?_)
  · have hy : (y 0).val < 1024 := (y 0).isLt
    blk_simp; show cc0_transform_1 (grid0.coords t) 0 * 1024 + (y 0).val = (wrap 2048 (t.val % 2 * 1024 + (y 0).val)).val
    rw [(idx t).2.1, wrap_val (by omega)]; rfl
  · blk_simp; show cc0_transform_1 (grid0.coords t) 1 * 1024 + (y 1).val = (y 1).val
    rw [(idx t).2.1]; show 0 * 1024 + (y 1).val = (y 1).val; omega

theorem emb (t : Fin grid0.N) (y : S2048x1024.Idx) : (win0_2.blk t).view.emb y = ValueIdx.ix2 (wrap 16384 (t.val / 2 * 2048 + (y 0).val)) (wrap 2048 (t.val % 2 * 1024 + (y 1).val)) := by
  have hN : t.val < 16 := lt_of_lt_of_eq t.isLt N_0
  refine place _ _ _ ?_ ?_
  · have hy : (y 0).val < 2048 := (y 0).isLt
    blk_simp; show cc0_transform_2 (grid0.coords t) 0 * 2048 + (y 0).val = (wrap 16384 (t.val / 2 * 2048 + (y 0).val)).val
    rw [(idx t).2.2, wrap_val (by omega)]; rfl
  · have hy : (y 1).val < 1024 := (y 1).isLt
    blk_simp; show cc0_transform_2 (grid0.coords t) 1 * 1024 + (y 1).val = (wrap 2048 (t.val % 2 * 1024 + (y 1).val)).val
    rw [(idx t).2.2, wrap_val (by omega)]; rfl

/-- The kernel's result. -/
theorem array : (dats m 0 c).arrAt 2 cfg0.N = mulNT (a := 16384) (b := 2048) (k := 1024) (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay_apply, show (win0_2.blk t).view.emb y = _ from emb t y]
  exact mulNT_block (fun r => wrap 16384 (t.val / 2 * 2048 + r.val)) (fun r => wrap 2048 (t.val % 2 * 1024 + r.val)) (at_0 m c t) (at_1 m c t) y
end

/-- The reference's result. -/
theorem reference (x0 : Mat 16384 1024) (x1 : Mat 2048 1024) : Cert.Reference18Ideal.Read.val_main_v2 (F := Ideal) x0 x1 = mulNT x0 x1 := by
  funext i
  refine (Cert.Reference18Ideal.Read.val_main_v2_apply x0 x1 i).trans (Finset.sum_congr rfl fun k _ => congrArg₂ (· * ·) (congrArg x0 ?_) (congrArg x1 ?_))
  all_goals exact funext (Fin.forall_fin_two.mpr ⟨rfl, rfl⟩)

attribute [local instance] Cert.Kernel18.Gen.facts Cert.Kernel18Ideal.Gen.facts Cert.Reference18Ideal.Gen.facts

theorem frame_kernel : Cert.quiescent_Kernel18 := fun m ρ _ => Cert.Kernel18.Gen.frame m ρ
theorem frame_ideal : Cert.quiescent_Kernel18Ideal := fun m ρ _ => Cert.Kernel18Ideal.Gen.frame m ρ
theorem frame_reference : Cert.quiescent_Reference18Ideal := fun m ρ _ =>
  (θ_run Cert.Reference18Ideal.defs _ _).mono
    (fun r h => ⟨fun c => (h c).2, sem_eq_zero_of_no_sems (by decide) r.2⟩) (Cert.Reference18Ideal.Value.run (F := Ideal) m ρ)
theorem constants : Cert.preserves_Kernel18_Kernel18Ideal := trivial

theorem value : Cert.algebraic_Kernel18Ideal_Reference18Ideal := by
  intro m ρ m' ρ' _ hag
  refine ⟨fun c => (dats m 0 c).arrAt 2 cfg0.N, Value.run_blocks m ρ, ?_⟩
  refine (θ_run Cert.Reference18Ideal.defs _ _).mono (fun r h c => ?_) (Cert.Reference18Ideal.Value.run (F := Ideal) m' ρ')
  obtain ⟨a0, a1⟩ := hag c
  obtain ⟨h0, hargs⟩ := h c
  refine ⟨h0.trans ?_, hargs⟩
  refine Eq.trans ?_ (array m c).symm
  rw [a0, a1]
  exact reference _ _

end Fox.SsmOutDx

end
-- ==== Proof.Fox.Products.SsmOutDw.lean ====
/-
  The SSD mixer's output projection: the gradient of its weight.
-/
module

public import proofs.«01_k».proof.Defs
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Fox.Products.Common
public import Idealize.ShloMosaic.Adequacy
public import Idealize.ShloMosaic.Init
public import Idealize.ShloMosaic.Lib.Pipeline.ValueKit
public import Idealize.ShloMosaic.Lib.Pointwise
public import Idealize.ShloMosaic.Lib.StableHlo.ReadAt

@[expose] public section

set_option maxRecDepth 16384

noncomputable section

open scoped BigOperators
open Idealize.ShloMosaic Idealize.SL.Sem Cert.Kernel19Ideal Cert.Kernel19Ideal.Gen TcCoe Fox.Products

namespace Fox.SsmOutDw

/-- What the body computes on one pair of blocks. -/
theorem pay_apply (x0 : FVec Ideal S1024x2048 .bf16) (x1 : FVec Ideal S1024x1024 .bf16) :
    k0_pay1 (F := Ideal) x0 x1 = mulTN (a := 2048) (b := 1024) (k := 1024) x0 x1 := by
  funext y; unfold k0_pay1; pointwise; rfl

theorem pay_next (x0 : FVec Ideal S1024x2048 .bf16) (x1 : FVec Ideal S1024x1024 .bf16) (x2 : FVec Ideal S2048x1024 .f32) (y : S2048x1024.Idx) :
    k0_pay2 (F := Ideal) x0 x1 x2 y = x2 y + k0_pay1 (F := Ideal) x0 x1 y := by
  unfold k0_pay2; pointwise

section
variable (m : (ℓ : Loc nD τ sig) → Buf (Elt Ideal) ℓ) (c : Dev nD)

theorem V_0 : V m c main_v0 = m ((c : Thread nD τ).loc main_arg0) := by
  unfold V
  after_reads_simp
  rfl

theorem V_1 : V m c main_v1 = m ((c : Thread nD τ).loc main_arg1) := by
  unfold V
  after_reads_simp
  rfl

/-- Which block each grid point works on. -/
theorem idx : ∀ t : Fin grid0.N, cc0_transform_0 (grid0.coords t) = ![t.val % 16, 0] ∧ cc0_transform_1 (grid0.coords t) = ![t.val % 16, t.val / 16] ∧ cc0_transform_2 (grid0.coords t) = ![0, t.val / 16] := by decide +kernel

theorem at_0 (t : Fin grid0.N) (y : S1024x2048.Idx) :
    iblk m c 0 t y = m ((c : Thread nD τ).loc main_arg0) (ValueIdx.ix2 (wrap 16384 (t.val % 16 * 1024 + (y 0).val)) (y 1)) := by
  have hN : t.val < 16 := lt_of_lt_of_eq t.isLt N_0
  refine Eq.trans ?_ (congrFun (V_0 m c) _)
  blk_simp [iblk]
  refine congrArg (V m c main_v0) (place _ _ _ ?_ ?_)
  · have hy : (y 0).val < 1024 := (y 0).isLt
    blk_simp; show cc0_transform_0 (grid0.coords t) 0 * 1024 + (y 0).val = (wrap 16384 (t.val % 16 * 1024 + (y 0).val)).val
    rw [(idx t).1, wrap_val (by omega)]; rfl
  · blk_simp; show cc0_transform_0 (grid0.coords t) 1 * 2048 + (y 1).val = (y 1).val
    rw [(idx t).1]; show 0 * 2048 + (y 1).val = (y 1).val; omega

theorem at_1 (t : Fin grid0.N) (y : S1024x1024.Idx) :
    iblk m c 1 t y = m ((c : Thread nD τ).loc main_arg1) (ValueIdx.ix2 (wrap 16384 (t.val % 16 * 1024 + (y 0).val)) (wrap 1024 (t.val / 16 * 1024 + (y 1).val))) := by
  have hN : t.val < 16 := lt_of_lt_of_eq t.isLt N_0
  refine Eq.trans ?_ (congrFun (V_1 m c) _)
  blk_simp [iblk]
  refine congrArg (V m c main_v1) (place _ _ _ ?_ ?_)
  · have hy : (y 0).val < 1024 := (y 0).isLt
    blk_simp; show cc0_transform_1 (grid0.coords t) 0 * 1024 + (y 0).val = (wrap 16384 (t.val % 16 * 1024 + (y 0).val)).val
    rw [(idx t).2.1, wrap_val (by omega)]; rfl
  · have hy : (y 1).val < 1024 := (y 1).isLt
    blk_simp; show cc0_transform_1 (grid0.coords t) 1 * 1024 + (y 1).val = (wrap 1024 (t.val / 16 * 1024 + (y 1).val)).val
    rw [(idx t).2.1, wrap_val (by omega)]; rfl

theorem emb (t : Fin grid0.N) (y : S2048x1024.Idx) : (win0_2.blk t).view.emb y = ValueIdx.ix2 (y 0) (wrap 1024 (t.val / 16 * 1024 + (y 1).val)) := by
  have hN : t.val < 16 := lt_of_lt_of_eq t.isLt N_0
  refine place _ _ _ ?_ ?_
  · blk_simp; show cc0_transform_2 (grid0.coords t) 0 * 2048 + (y 0).val = (y 0).val
    rw [(idx t).2.2]; show 0 * 2048 + (y 0).val = (y 0).val; omega
  · have hy : (y 1).val < 1024 := (y 1).isLt
    blk_simp; show cc0_transform_2 (grid0.coords t) 1 * 1024 + (y 1).val = (wrap 1024 (t.val / 16 * 1024 + (y 1).val)).val
    rw [(idx t).2.2, wrap_val (by omega)]; rfl

/-- After point `n` the output block holds the contributions of all rows up to the point's block. -/
theorem out_eq (y : S2048x1024.Idx) (n : ℕ) (hn : n < cfg0.N) : outsAt0 m c n hn y
    = ∑ i ∈ Finset.range (n % 16 * 1024 + 1024), term (k := 16384) (a := 2048) (b := 1024) (m ((c : Thread nD τ).loc main_arg0)) (m ((c : Thread nD τ).loc main_arg1)) (y 0) (wrap 1024 (n / 16 * 1024 + (y 1).val)) i := by
  have hlt : ∀ j < cfg0.N, j < 16 := fun j h => lt_of_lt_of_eq h N_0
  refine accumulate (p := 16) (w := 1024) (fun n hn => outsAt0 m c n hn y) (fun n hn => k0_pay1 (F := Ideal) (iblk m c 0 ⟨n, hn⟩) (iblk m c 1 ⟨n, hn⟩) y)
    (fun j => term (k := 16384) (a := 2048) (b := 1024) (m ((c : Thread nD τ).loc main_arg0)) (m ((c : Thread nD τ).loc main_arg1)) (y 0) (wrap 1024 (j * 1024 + (y 1).val)))
    (fun j hj h => ?_) (fun j hj h => ?_) (fun j hj => ?_) n hn
  · have := hlt j hj
    show outsAt0 m c (⟨j, hj⟩ : Fin cfg0.N).val _ y = _
    rw [outsAt0_A m c ⟨j, hj⟩ h (by dsimp only; omega)]
    frame_out
  · have := hlt j hj
    show outsAt0 m c (⟨j, hj⟩ : Fin cfg0.N).val _ y = _
    rw [outsAt0_B m c ⟨j, hj⟩ h (by dsimp only; omega)]
    frame_out
    exact pay_next _ _ _ y
  · dsimp only
    rw [pay_apply]
    exact mulTN_block (j % 16 * 1024) (j / 16 * 1024) (at_0 m c ⟨j, hj⟩) (at_1 m c ⟨j, hj⟩) y

/-- The kernel's result. -/
theorem array : (dats m 0 c).arrAt 2 cfg0.N = mulTN (a := 2048) (b := 1024) (k := 16384) (m ((c : Thread nD τ).loc main_arg0)) (m ((c : Thread nD τ).loc main_arg1)) := by
  refine (dats m 0 c).arrAt_eq_of_covers 2 _ (by decide +kernel) fun t hf y => ?_
  have h : t.val % 16 = 15 := (flush0_2 t).mp hf
  blk_simp
  rw [after0_2]
  refine (out_eq m c y t.val t.isLt).trans ?_
  rw [show (win0_2.blk t).view.emb y = _ from emb t y, h]
  exact (mulTN_range _ _ _ _).symm
end

/-- The reference's result. -/
theorem reference (x0 : Mat 16384 2048) (x1 : Mat 16384 1024) : Cert.Reference19Ideal.Read.val_main_v3 (F := Ideal) x0 x1 = mulTN x0 x1 := by
  funext i
  rw [Cert.Reference19Ideal.Read.val_main_v3_apply, Cert.Reference19Ideal.Read.val_main_v2_apply]
  refine Finset.sum_congr rfl fun k _ => (mul_comm _ _).trans (congrArg₂ (· * ·) (congrArg x0 ?_) (congrArg x1 ?_))
  all_goals exact funext (Fin.forall_fin_two.mpr ⟨rfl, rfl⟩)

attribute [local instance] Cert.Kernel19.Gen.facts Cert.Kernel19Ideal.Gen.facts Cert.Reference19Ideal.Gen.facts

theorem frame_kernel : Cert.quiescent_Kernel19 := fun m ρ _ => Cert.Kernel19.Gen.frame m ρ
theorem frame_ideal : Cert.quiescent_Kernel19Ideal := fun m ρ _ => Cert.Kernel19Ideal.Gen.frame m ρ
theorem frame_reference : Cert.quiescent_Reference19Ideal := fun m ρ _ =>
  (θ_run Cert.Reference19Ideal.defs _ _).mono
    (fun r h => ⟨fun c => (h c).2, sem_eq_zero_of_no_sems (by decide) r.2⟩) (Cert.Reference19Ideal.Value.run (F := Ideal) m ρ)
theorem constants : Cert.preserves_Kernel19_Kernel19Ideal := trivial

theorem value : Cert.algebraic_Kernel19Ideal_Reference19Ideal := by
  intro m ρ m' ρ' _ hag
  refine ⟨fun c => (dats m 0 c).arrAt 2 cfg0.N, Value.run_blocks m ρ, ?_⟩
  refine (θ_run Cert.Reference19Ideal.defs _ _).mono (fun r h c => ?_) (Cert.Reference19Ideal.Value.run (F := Ideal) m' ρ')
  obtain ⟨a0, a1⟩ := hag c
  obtain ⟨h0, hargs⟩ := h c
  refine ⟨h0.trans ?_, hargs⟩
  refine Eq.trans ?_ (array m c).symm
  rw [a0, a1]
  exact reference _ _

end Fox.SsmOutDw

end
-- ==== Proof.Fox.Products.PleGateMm.lean ====
/-
  The per-layer embedding's gate projection: its result.
-/
module

public import proofs.«01_k».proof.Defs
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.Fox.Products.Common
public import Idealize.ShloMosaic.Adequacy
public import Idealize.ShloMosaic.Init
public import Idealize.ShloMosaic.Lib.Pipeline.ValueKit
public import Idealize.ShloMosaic.Lib.Pointwise
public import Idealize.ShloMosaic.Lib.StableHlo.ReadAt

@[expose] public section

set_option maxRecDepth 16384

noncomputable section

open scoped BigOperators
open Idealize.ShloMosaic Idealize.SL.Sem Cert.Kernel20Ideal Cert.Kernel20Ideal.Gen TcCoe Fox.Products

namespace Fox.PleGateMm

/-- What the body computes on one pair of blocks. -/
theorem pay_apply (x0 : FVec Ideal S2048x1024 .bf16) (x1 : FVec Ideal S1024x1024 .bf16) :
    k0_pay1 (F := Ideal) x0 x1 = mulNN (a := 2048) (b := 1024) (k := 1024) x0 x1 := by
  funext y; unfold k0_pay1; pointwise; rfl

section
variable (m : (ℓ : Loc nD τ sig) → Buf (Elt Ideal) ℓ) (c : Dev nD)

theorem V_0 : V m c main_v0 = m ((c : Thread nD τ).loc main_arg0) := by
  unfold V
  after_reads_simp
  rfl

theorem V_1 : V m c main_v1 = m ((c : Thread nD τ).loc main_arg1) := by
  unfold V
  after_reads_simp
  rfl

/-- Which block each grid point works on. -/
theorem idx : ∀ t : Fin grid0.N, cc0_transform_0 (grid0.coords t) = ![t.val / 1, 0] ∧ cc0_transform_1 (grid0.coords t) = ![0, t.val % 1] ∧ cc0_transform_2 (grid0.coords t) = ![t.val / 1, t.val % 1] := by decide +kernel

theorem at_0 (t : Fin grid0.N) (y : S2048x1024.Idx) :
    iblk m c 0 t y = m ((c : Thread nD τ).loc main_arg0) (ValueIdx.ix2 (wrap 16384 (t.val / 1 * 2048 + (y 0).val)) (y 1)) := by
  have hN : t.val < 8 := lt_of_lt_of_eq t.isLt N_0
  refine Eq.trans ?_ (congrFun (V_0 m c) _)
  blk_simp [iblk]
  refine congrArg (V m c main_v0) (place _ _ _ ?_ ?_)
  · have hy : (y 0).val < 2048 := (y 0).isLt
    blk_simp; show cc0_transform_0 (grid0.coords t) 0 * 2048 + (y 0).val = (wrap 16384 (t.val / 1 * 2048 + (y 0).val)).val
    rw [(idx t).1, wrap_val (by omega)]; rfl
  · blk_simp; show cc0_transform_0 (grid0.coords t) 1 * 1024 + (y 1).val = (y 1).val
    rw [(idx t).1]; show 0 * 1024 + (y 1).val = (y 1).val; omega

theorem at_1 (t : Fin grid0.N) (y : S1024x1024.Idx) :
    iblk m c 1 t y = m ((c : Thread nD τ).loc main_arg1) (ValueIdx.ix2 (y 0) (wrap 1024 (t.val % 1 * 1024 + (y 1).val))) := by
  have hN : t.val < 8 := lt_of_lt_of_eq t.isLt N_0
  refine Eq.trans ?_ (congrFun (V_1 m c) _)
  blk_simp [iblk]
  refine congrArg (V m c main_v1) (place _ _ _ ?_ ?_)
  · blk_simp; show cc0_transform_1 (grid0.coords t) 0 * 1024 + (y 0).val = (y 0).val
    rw [(idx t).2.1]; show 0 * 1024 + (y 0).val = (y 0).val; omega
  · have hy : (y 1).val < 1024 := (y 1).isLt
    blk_simp; show cc0_transform_1 (grid0.coords t) 1 * 1024 + (y 1).val = (wrap 1024 (t.val % 1 * 1024 + (y 1).val)).val
    rw [(idx t).2.1, wrap_val (by omega)]; rfl

theorem emb (t : Fin grid0.N) (y : S2048x1024.Idx) : (win0_2.blk t).view.emb y = ValueIdx.ix2 (wrap 16384 (t.val / 1 * 2048 + (y 0).val)) (wrap 1024 (t.val % 1 * 1024 + (y 1).val)) := by
  have hN : t.val < 8 := lt_of_lt_of_eq t.isLt N_0
  refine place _ _ _ ?_ ?_
  · have hy : (y 0).val < 2048 := (y 0).isLt
    blk_simp; show cc0_transform_2 (grid0.coords t) 0 * 2048 + (y 0).val = (wrap 16384 (t.val / 1 * 2048 + (y 0).val)).val
    rw [(idx t).2.2, wrap_val (by omega)]; rfl
  · have hy : (y 1).val < 1024 := (y 1).isLt
    blk_simp; show cc0_transform_2 (grid0.coords t) 1 * 1024 + (y 1).val = (wrap 1024 (t.val % 1 * 1024 + (y 1).val)).val
    rw [(idx t).2.2, wrap_val (by omega)]; rfl

/-- The kernel's result. -/
theorem array : (dats m 0 c).arrAt 2 cfg0.N = mulNN (a := 16384) (b := 1024) (k := 1024) (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay_apply, show (win0_2.blk t).view.emb y = _ from emb t y]
  exact mulNN_block (fun r => wrap 16384 (t.val / 1 * 2048 + r.val)) (fun r => wrap 1024 (t.val % 1 * 1024 + r.val)) (at_0 m c t) (at_1 m c t) y
end

/-- The reference's result. -/
theorem reference (x0 : Mat 16384 1024) (x1 : Mat 1024 1024) : Cert.Reference20Ideal.Read.val_main_v0 (F := Ideal) x0 x1 = mulNN x0 x1 := by
  funext i
  refine (Cert.Reference20Ideal.Read.val_main_v0_apply x0 x1 i).trans (Finset.sum_congr rfl fun k _ => congrArg₂ (· * ·) (congrArg x0 ?_) (congrArg x1 ?_))
  all_goals exact funext (Fin.forall_fin_two.mpr ⟨rfl, rfl⟩)

attribute [local instance] Cert.Kernel20.Gen.facts Cert.Kernel20Ideal.Gen.facts Cert.Reference20Ideal.Gen.facts

theorem frame_kernel : Cert.quiescent_Kernel20 := fun m ρ _ => Cert.Kernel20.Gen.frame m ρ
theorem frame_ideal : Cert.quiescent_Kernel20Ideal := fun m ρ _ => Cert.Kernel20Ideal.Gen.frame m ρ
theorem frame_reference : Cert.quiescent_Reference20Ideal := fun m ρ _ =>
  (θ_run Cert.Reference20Ideal.defs _ _).mono
    (fun r h => ⟨fun c => (h c).2, sem_eq_zero_of_no_sems (by decide) r.2⟩) (Cert.Reference20Ideal.Value.run (F := Ideal) m ρ)
theorem constants : Cert.preserves_Kernel20_Kernel20Ideal := trivial

theorem value : Cert.algebraic_Kernel20Ideal_Reference20Ideal := by
  intro m ρ m' ρ' _ hag
  refine ⟨fun c => (dats m 0 c).arrAt 2 cfg0.N, Value.run_blocks m ρ, ?_⟩
  refine (θ_run Cert.Reference20Ideal.defs _ _).mono (fun r h c => ?_) (Cert.Reference20Ideal.Value.run (F := Ideal) m' ρ')
  obtain ⟨a0, a1⟩ := hag c
  obtain ⟨h0, hargs⟩ := h c
  refine ⟨h0.trans ?_, hargs⟩
  refine Eq.trans ?_ (array m c).symm
  rw [a0, a1]
  exact reference _ _

end Fox.PleGateMm

end
-- ==== Proof.Fox.Products.PleGateDx.lean ====
/-
  The per-layer embedding's gate projection: the gradient of its input.
-/
module

public import proofs.«01_k».proof.Defs
public import proofs.«01_k».proof.Proof.Gen.Kernel21.Frame
public import proofs.«01_k».proof.Proof.Gen.Kernel21Ideal.Value
public import proofs.«01_k».proof.Proof.Gen.Reference21Ideal.Run
public import proofs.«01_k».proof.Proof.Gen.Reference21Ideal.Read
public import proofs.«01_k».proof.Proof.Fox.Products.Common
public import Idealize.ShloMosaic.Adequacy
public import Idealize.ShloMosaic.Init
public import Idealize.ShloMosaic.Lib.Pipeline.ValueKit
public import Idealize.ShloMosaic.Lib.Pointwise
public import Idealize.ShloMosaic.Lib.StableHlo.ReadAt

@[expose] public section

set_option maxRecDepth 16384

noncomputable section

open scoped BigOperators
open Idealize.ShloMosaic Idealize.SL.Sem Cert.Kernel21Ideal Cert.Kernel21Ideal.Gen TcCoe Fox.Products

namespace Fox.PleGateDx

/-- What the body computes on one pair of blocks. -/
theorem pay_apply (x0 : FVec Ideal S2048x1024 .bf16) (x1 : FVec Ideal S1024x1024 .bf16) (x2 : FVec Ideal S2048x1024 .f32) :
    k0_pay1 (F := Ideal) x0 x1 x2 = addScaled 1 (mulNT (a := 2048) (b := 1024) (k := 1024) x0 x1) x2 := by
  funext y; unfold k0_pay1; pointwise; exact congrArg (_ + ·) (one_mul _).symm

section
variable (m : (ℓ : Loc nD τ sig) → Buf (Elt Ideal) ℓ) (c : Dev nD)

theorem V_0 : V m c main_v0 = m ((c : Thread nD τ).loc main_arg0) := by
  unfold V
  after_reads_simp
  rfl

theorem V_1 : V m c main_v1 = m ((c : Thread nD τ).loc main_arg1) := by
  unfold V
  after_reads_simp
  rfl

/-- Which block each grid point works on. -/
theorem idx : ∀ t : Fin grid0.N, cc0_transform_0 (grid0.coords t) = ![t.val / 1, 0] ∧ cc0_transform_1 (grid0.coords t) = ![t.val % 1, 0] ∧ cc0_transform_2 (grid0.coords t) = ![t.val / 1, t.val % 1] ∧ cc0_transform_3 (grid0.coords t) = ![t.val / 1, t.val % 1] := by decide +kernel

theorem at_0 (t : Fin grid0.N) (y : S2048x1024.Idx) :
    iblk m c 0 t y = m ((c : Thread nD τ).loc main_arg0) (ValueIdx.ix2 (wrap 16384 (t.val / 1 * 2048 + (y 0).val)) (y 1)) := by
  have hN : t.val < 8 := lt_of_lt_of_eq t.isLt N_0
  refine Eq.trans ?_ (congrFun (V_0 m c) _)
  blk_simp [iblk]
  refine congrArg (V m c main_v0) (place _ _ _ ?_ ?_)
  · have hy : (y 0).val < 2048 := (y 0).isLt
    blk_simp; show cc0_transform_0 (grid0.coords t) 0 * 2048 + (y 0).val = (wrap 16384 (t.val / 1 * 2048 + (y 0).val)).val
    rw [(idx t).1, wrap_val (by omega)]; rfl
  · blk_simp; show cc0_transform_0 (grid0.coords t) 1 * 1024 + (y 1).val = (y 1).val
    rw [(idx t).1]; show 0 * 1024 + (y 1).val = (y 1).val; omega

theorem at_1 (t : Fin grid0.N) (y : S1024x1024.Idx) :
    iblk m c 1 t y = m ((c : Thread nD τ).loc main_arg1) (ValueIdx.ix2 (wrap 1024 (t.val % 1 * 1024 + (y 0).val)) (y 1)) := by
  have hN : t.val < 8 := lt_of_lt_of_eq t.isLt N_0
  refine Eq.trans ?_ (congrFun (V_1 m c) _)
  blk_simp [iblk]
  refine congrArg (V m c main_v1) (place _ _ _ ?_ ?_)
  · have hy : (y 0).val < 1024 := (y 0).isLt
    blk_simp; show cc0_transform_1 (grid0.coords t) 0 * 1024 + (y 0).val = (wrap 1024 (t.val % 1 * 1024 + (y 0).val)).val
    rw [(idx t).2.1, wrap_val (by omega)]; rfl
  · blk_simp; show cc0_transform_1 (grid0.coords t) 1 * 1024 + (y 1).val = (y 1).val
    rw [(idx t).2.1]; show 0 * 1024 + (y 1).val = (y 1).val; omega

theorem at_2 (t : Fin grid0.N) (y : S2048x1024.Idx) :
    iblk m c 2 t y = m ((c : Thread nD τ).loc main_arg2) (ValueIdx.ix2 (wrap 16384 (t.val / 1 * 2048 + (y 0).val)) (wrap 1024 (t.val % 1 * 1024 + (y 1).val))) := by
  have hN : t.val < 8 := lt_of_lt_of_eq t.isLt N_0
  refine Eq.trans ?_ (congrFun (V_main_arg2 m c) _)
  blk_simp [iblk]
  refine congrArg (V m c main_arg2) (place _ _ _ ?_ ?_)
  · have hy : (y 0).val < 2048 := (y 0).isLt
    blk_simp; show cc0_transform_2 (grid0.coords t) 0 * 2048 + (y 0).val = (wrap 16384 (t.val / 1 * 2048 + (y 0).val)).val
    rw [(idx t).2.2.1, wrap_val (by omega)]; rfl
  · have hy : (y 1).val < 1024 := (y 1).isLt
    blk_simp; show cc0_transform_2 (grid0.coords t) 1 * 1024 + (y 1).val = (wrap 1024 (t.val % 1 * 1024 + (y 1).val)).val
    rw [(idx t).2.2.1, wrap_val (by omega)]; rfl

theorem emb (t : Fin grid0.N) (y : S2048x1024.Idx) : (win0_3.blk t).view.emb y = ValueIdx.ix2 (wrap 16384 (t.val / 1 * 2048 + (y 0).val)) (wrap 1024 (t.val % 1 * 1024 + (y 1).val)) := by
  have hN : t.val < 8 := lt_of_lt_of_eq t.isLt N_0
  refine place _ _ _ ?_ ?_
  · have hy : (y 0).val < 2048 := (y 0).isLt
    blk_simp; show cc0_transform_3 (grid0.coords t) 0 * 2048 + (y 0).val = (wrap 16384 (t.val / 1 * 2048 + (y 0).val)).val
    rw [(idx t).2.2.2, wrap_val (by omega)]; rfl
  · have hy : (y 1).val < 1024 := (y 1).isLt
    blk_simp; show cc0_transform_3 (grid0.coords t) 1 * 1024 + (y 1).val = (wrap 1024 (t.val % 1 * 1024 + (y 1).val)).val
    rw [(idx t).2.2.2, wrap_val (by omega)]; rfl

/-- The kernel's result. -/
theorem array : (dats m 0 c).arrAt 3 cfg0.N = addScaled 1 (mulNT (a := 16384) (b := 1024) (k := 1024) (m ((c : Thread nD τ).loc main_arg0)) (m ((c : Thread nD τ).loc main_arg1))) (m ((c : Thread nD τ).loc main_arg2)) := by
  refine (dats m 0 c).arrAt_eq_of_covers 3 _ (by decide +kernel) fun t hf y => ?_
  blk_simp
  rw [after0_3]
  frame_out
  rw [pay_apply, show (win0_3.blk t).view.emb y = _ from emb t y]
  exact congrArg₂ (· + ·) (mulNT_block (fun r => wrap 16384 (t.val / 1 * 2048 + r.val)) (fun r => wrap 1024 (t.val % 1 * 1024 + r.val)) (at_0 m c t) (at_1 m c t) y) (congrArg (_ * ·) (at_2 m c t y))
end

/-- The reference's result. -/
theorem reference (x0 : Mat 16384 1024) (x1 : Mat 1024 1024) (x2 : Mat 16384 1024) : Cert.Reference21Ideal.Read.val_main_v3 (F := Ideal) x0 x1 x2 = addScaled 1 (mulNT x0 x1) x2 := by
  funext i
  rw [Cert.Reference21Ideal.Read.val_main_v3_apply, Cert.Reference21Ideal.Read.val_main_v2_apply]
  refine (add_comm _ _).trans (congrArg₂ (· + ·) (Finset.sum_congr rfl fun k _ => congrArg₂ (· * ·) (congrArg x0 ?_) (congrArg x1 ?_)) (one_mul _).symm)
  all_goals exact funext (Fin.forall_fin_two.mpr ⟨rfl, rfl⟩)

attribute [local instance] Cert.Kernel21.Gen.facts Cert.Kernel21Ideal.Gen.facts Cert.Reference21Ideal.Gen.facts

theorem frame_kernel : Cert.quiescent_Kernel21 := fun m ρ _ => Cert.Kernel21.Gen.frame m ρ
theorem frame_ideal : Cert.quiescent_Kernel21Ideal := fun m ρ _ => Cert.Kernel21Ideal.Gen.frame m ρ
theorem frame_reference : Cert.quiescent_Reference21Ideal := fun m ρ _ =>
  (θ_run Cert.Reference21Ideal.defs _ _).mono
    (fun r h => ⟨fun c => (h c).2, sem_eq_zero_of_no_sems (by decide) r.2⟩) (Cert.Reference21Ideal.Value.run (F := Ideal) m ρ)
theorem constants : Cert.preserves_Kernel21_Kernel21Ideal := trivial

theorem value : Cert.algebraic_Kernel21Ideal_Reference21Ideal := by
  intro m ρ m' ρ' _ hag
  refine ⟨fun c => (dats m 0 c).arrAt 3 cfg0.N, Value.run_blocks m ρ, ?_⟩
  refine (θ_run Cert.Reference21Ideal.defs _ _).mono (fun r h c => ?_) (Cert.Reference21Ideal.Value.run (F := Ideal) m' ρ')
  obtain ⟨a0, a1, a2⟩ := hag c
  obtain ⟨h0, hargs⟩ := h c
  refine ⟨h0.trans ?_, hargs⟩
  refine Eq.trans ?_ (array m c).symm
  rw [a0, a1, a2]
  exact reference _ _ _

end Fox.PleGateDx

end
-- ==== Proof.Fox.Products.PleGateDw.lean ====
/-
  The per-layer embedding's gate projection: the gradient of its weight.
-/
module

public import proofs.«01_k».proof.Defs
public import proofs.«01_k».proof.Proof.Gen.Kernel22.Frame
public import proofs.«01_k».proof.Proof.Gen.Kernel22Ideal.Value
public import proofs.«01_k».proof.Proof.Gen.Reference22Ideal.Run
public import proofs.«01_k».proof.Proof.Gen.Reference22Ideal.Read
public import proofs.«01_k».proof.Proof.Fox.Products.Common
public import Idealize.ShloMosaic.Adequacy
public import Idealize.ShloMosaic.Init
public import Idealize.ShloMosaic.Lib.Pipeline.ValueKit
public import Idealize.ShloMosaic.Lib.Pointwise
public import Idealize.ShloMosaic.Lib.StableHlo.ReadAt

@[expose] public section

set_option maxRecDepth 16384

noncomputable section

open scoped BigOperators
open Idealize.ShloMosaic Idealize.SL.Sem Cert.Kernel22Ideal Cert.Kernel22Ideal.Gen TcCoe Fox.Products

namespace Fox.PleGateDw

/-- What the body computes on one pair of blocks. -/
theorem pay_apply (x0 : FVec Ideal S2048x1024 .bf16) (x1 : FVec Ideal S2048x1024 .bf16) :
    k0_pay1 (F := Ideal) x0 x1 = mulTN (a := 1024) (b := 1024) (k := 2048) x0 x1 := by
  funext y; unfold k0_pay1; pointwise; rfl

theorem pay_next (x0 : FVec Ideal S2048x1024 .bf16) (x1 : FVec Ideal S2048x1024 .bf16) (x2 : FVec Ideal S1024x1024 .f32) (y : S1024x1024.Idx) :
    k0_pay2 (F := Ideal) x0 x1 x2 y = x2 y + k0_pay1 (F := Ideal) x0 x1 y := by
  unfold k0_pay2; pointwise

section
variable (m : (ℓ : Loc nD τ sig) → Buf (Elt Ideal) ℓ) (c : Dev nD)

theorem V_0 : V m c main_v0 = m ((c : Thread nD τ).loc main_arg0) := by
  unfold V
  after_reads_simp
  rfl

theorem V_1 : V m c main_v1 = m ((c : Thread nD τ).loc main_arg1) := by
  unfold V
  after_reads_simp
  rfl

/-- Which block each grid point works on. -/
theorem idx : ∀ t : Fin grid0.N, cc0_transform_0 (grid0.coords t) = ![t.val % 8, 0] ∧ cc0_transform_1 (grid0.coords t) = ![t.val % 8, t.val / 8] ∧ cc0_transform_2 (grid0.coords t) = ![0, t.val / 8] := by decide +kernel

theorem at_0 (t : Fin grid0.N) (y : S2048x1024.Idx) :
    iblk m c 0 t y = m ((c : Thread nD τ).loc main_arg0) (ValueIdx.ix2 (wrap 16384 (t.val % 8 * 2048 + (y 0).val)) (y 1)) := by
  have hN : t.val < 8 := lt_of_lt_of_eq t.isLt N_0
  refine Eq.trans ?_ (congrFun (V_0 m c) _)
  blk_simp [iblk]
  refine congrArg (V m c main_v0) (place _ _ _ ?_ ?_)
  · have hy : (y 0).val < 2048 := (y 0).isLt
    blk_simp; show cc0_transform_0 (grid0.coords t) 0 * 2048 + (y 0).val = (wrap 16384 (t.val % 8 * 2048 + (y 0).val)).val
    rw [(idx t).1, wrap_val (by omega)]; rfl
  · blk_simp; show cc0_transform_0 (grid0.coords t) 1 * 1024 + (y 1).val = (y 1).val
    rw [(idx t).1]; show 0 * 1024 + (y 1).val = (y 1).val; omega

theorem at_1 (t : Fin grid0.N) (y : S2048x1024.Idx) :
    iblk m c 1 t y = m ((c : Thread nD τ).loc main_arg1) (ValueIdx.ix2 (wrap 16384 (t.val % 8 * 2048 + (y 0).val)) (wrap 1024 (t.val / 8 * 1024 + (y 1).val))) := by
  have hN : t.val < 8 := lt_of_lt_of_eq t.isLt N_0
  refine Eq.trans ?_ (congrFun (V_1 m c) _)
  blk_simp [iblk]
  refine congrArg (V m c main_v1) (place _ _ _ ?_ ?_)
  · have hy : (y 0).val < 2048 := (y 0).isLt
    blk_simp; show cc0_transform_1 (grid0.coords t) 0 * 2048 + (y 0).val = (wrap 16384 (t.val % 8 * 2048 + (y 0).val)).val
    rw [(idx t).2.1, wrap_val (by omega)]; rfl
  · have hy : (y 1).val < 1024 := (y 1).isLt
    blk_simp; show cc0_transform_1 (grid0.coords t) 1 * 1024 + (y 1).val = (wrap 1024 (t.val / 8 * 1024 + (y 1).val)).val
    rw [(idx t).2.1, wrap_val (by omega)]; rfl

theorem emb (t : Fin grid0.N) (y : S1024x1024.Idx) : (win0_2.blk t).view.emb y = ValueIdx.ix2 (y 0) (wrap 1024 (t.val / 8 * 1024 + (y 1).val)) := by
  have hN : t.val < 8 := lt_of_lt_of_eq t.isLt N_0
  refine place _ _ _ ?_ ?_
  · blk_simp; show cc0_transform_2 (grid0.coords t) 0 * 1024 + (y 0).val = (y 0).val
    rw [(idx t).2.2]; show 0 * 1024 + (y 0).val = (y 0).val; omega
  · have hy : (y 1).val < 1024 := (y 1).isLt
    blk_simp; show cc0_transform_2 (grid0.coords t) 1 * 1024 + (y 1).val = (wrap 1024 (t.val / 8 * 1024 + (y 1).val)).val
    rw [(idx t).2.2, wrap_val (by omega)]; rfl

/-- After point `n` the output block holds the contributions of all rows up to the point's block. -/
theorem out_eq (y : S1024x1024.Idx) (n : ℕ) (hn : n < cfg0.N) : outsAt0 m c n hn y
    = ∑ i ∈ Finset.range (n % 8 * 2048 + 2048), term (k := 16384) (a := 1024) (b := 1024) (m ((c : Thread nD τ).loc main_arg0)) (m ((c : Thread nD τ).loc main_arg1)) (y 0) (wrap 1024 (n / 8 * 1024 + (y 1).val)) i := by
  have hlt : ∀ j < cfg0.N, j < 8 := fun j h => lt_of_lt_of_eq h N_0
  refine accumulate (p := 8) (w := 2048) (fun n hn => outsAt0 m c n hn y) (fun n hn => k0_pay1 (F := Ideal) (iblk m c 0 ⟨n, hn⟩) (iblk m c 1 ⟨n, hn⟩) y)
    (fun j => term (k := 16384) (a := 1024) (b := 1024) (m ((c : Thread nD τ).loc main_arg0)) (m ((c : Thread nD τ).loc main_arg1)) (y 0) (wrap 1024 (j * 1024 + (y 1).val)))
    (fun j hj h => ?_) (fun j hj h => ?_) (fun j hj => ?_) n hn
  · have := hlt j hj
    show outsAt0 m c (⟨j, hj⟩ : Fin cfg0.N).val _ y = _
    rw [outsAt0_A m c ⟨j, hj⟩ h (by dsimp only; omega)]
    frame_out
  · have := hlt j hj
    show outsAt0 m c (⟨j, hj⟩ : Fin cfg0.N).val _ y = _
    rw [outsAt0_B m c ⟨j, hj⟩ h (by dsimp only; omega)]
    frame_out
    exact pay_next _ _ _ y
  · dsimp only
    rw [pay_apply]
    exact mulTN_block (j % 8 * 2048) (j / 8 * 1024) (at_0 m c ⟨j, hj⟩) (at_1 m c ⟨j, hj⟩) y

/-- The kernel's result. -/
theorem array : (dats m 0 c).arrAt 2 cfg0.N = mulTN (a := 1024) (b := 1024) (k := 16384) (m ((c : Thread nD τ).loc main_arg0)) (m ((c : Thread nD τ).loc main_arg1)) := by
  refine (dats m 0 c).arrAt_eq_of_covers 2 _ (by decide +kernel) fun t hf y => ?_
  have h : t.val % 8 = 7 := (flush0_2 t).mp hf
  blk_simp
  rw [after0_2]
  refine (out_eq m c y t.val t.isLt).trans ?_
  rw [show (win0_2.blk t).view.emb y = _ from emb t y, h]
  exact (mulTN_range _ _ _ _).symm
end

/-- The reference's result. -/
theorem reference (x0 : Mat 16384 1024) (x1 : Mat 16384 1024) : Cert.Reference22Ideal.Read.val_main_v3 (F := Ideal) x0 x1 = mulTN x0 x1 := by
  funext i
  rw [Cert.Reference22Ideal.Read.val_main_v3_apply, Cert.Reference22Ideal.Read.val_main_v2_apply]
  refine Finset.sum_congr rfl fun k _ => (mul_comm _ _).trans (congrArg₂ (· * ·) (congrArg x0 ?_) (congrArg x1 ?_))
  all_goals exact funext (Fin.forall_fin_two.mpr ⟨rfl, rfl⟩)

attribute [local instance] Cert.Kernel22.Gen.facts Cert.Kernel22Ideal.Gen.facts Cert.Reference22Ideal.Gen.facts

theorem frame_kernel : Cert.quiescent_Kernel22 := fun m ρ _ => Cert.Kernel22.Gen.frame m ρ
theorem frame_ideal : Cert.quiescent_Kernel22Ideal := fun m ρ _ => Cert.Kernel22Ideal.Gen.frame m ρ
theorem frame_reference : Cert.quiescent_Reference22Ideal := fun m ρ _ =>
  (θ_run Cert.Reference22Ideal.defs _ _).mono
    (fun r h => ⟨fun c => (h c).2, sem_eq_zero_of_no_sems (by decide) r.2⟩) (Cert.Reference22Ideal.Value.run (F := Ideal) m ρ)
theorem constants : Cert.preserves_Kernel22_Kernel22Ideal := trivial

theorem value : Cert.algebraic_Kernel22Ideal_Reference22Ideal := by
  intro m ρ m' ρ' _ hag
  refine ⟨fun c => (dats m 0 c).arrAt 2 cfg0.N, Value.run_blocks m ρ, ?_⟩
  refine (θ_run Cert.Reference22Ideal.defs _ _).mono (fun r h c => ?_) (Cert.Reference22Ideal.Value.run (F := Ideal) m' ρ')
  obtain ⟨a0, a1⟩ := hag c
  obtain ⟨h0, hargs⟩ := h c
  refine ⟨h0.trans ?_, hargs⟩
  refine Eq.trans ?_ (array m c).symm
  rw [a0, a1]
  exact reference _ _

end Fox.PleGateDw

end
-- ==== Proof.Fox.Products.PleProjMm.lean ====
/-
  The per-layer embedding's projection: its result.
-/
module

public import proofs.«01_k».proof.Defs
public import proofs.«01_k».proof.Proof.Gen.Kernel23.Frame
public import proofs.«01_k».proof.Proof.Gen.Kernel23Ideal.Value
public import proofs.«01_k».proof.Proof.Gen.Reference23Ideal.Run
public import proofs.«01_k».proof.Proof.Gen.Reference23Ideal.Read
public import proofs.«01_k».proof.Proof.Fox.Products.Common
public import Idealize.ShloMosaic.Adequacy
public import Idealize.ShloMosaic.Init
public import Idealize.ShloMosaic.Lib.Pipeline.ValueKit
public import Idealize.ShloMosaic.Lib.Pointwise
public import Idealize.ShloMosaic.Lib.StableHlo.ReadAt

@[expose] public section

set_option maxRecDepth 16384

noncomputable section

open scoped BigOperators
open Idealize.ShloMosaic Idealize.SL.Sem Cert.Kernel23Ideal Cert.Kernel23Ideal.Gen TcCoe Fox.Products

namespace Fox.PleProjMm

/-- What the body computes on one pair of blocks. -/
theorem pay_apply (x0 : FVec Ideal S2048x256 .bf16) (x1 : FVec Ideal S256x1024 .bf16) :
    k0_pay1 (F := Ideal) x0 x1 = mulNN (a := 2048) (b := 1024) (k := 256) x0 x1 := by
  funext y; unfold k0_pay1; pointwise; rfl

section
variable (m : (ℓ : Loc nD τ sig) → Buf (Elt Ideal) ℓ) (c : Dev nD)

theorem V_0 : V m c main_v0 = m ((c : Thread nD τ).loc main_arg0) := by
  unfold V
  after_reads_simp
  rfl

theorem V_1 : V m c main_v1 = m ((c : Thread nD τ).loc main_arg1) := by
  unfold V
  after_reads_simp
  rfl

/-- Which block each grid point works on. -/
theorem idx : ∀ t : Fin grid0.N, cc0_transform_0 (grid0.coords t) = ![t.val / 1, 0] ∧ cc0_transform_1 (grid0.coords t) = ![0, t.val % 1] ∧ cc0_transform_2 (grid0.coords t) = ![t.val / 1, t.val % 1] := by decide +kernel

theorem at_0 (t : Fin grid0.N) (y : S2048x256.Idx) :
    iblk m c 0 t y = m ((c : Thread nD τ).loc main_arg0) (ValueIdx.ix2 (wrap 16384 (t.val / 1 * 2048 + (y 0).val)) (y 1)) := by
  have hN : t.val < 8 := lt_of_lt_of_eq t.isLt N_0
  refine Eq.trans ?_ (congrFun (V_0 m c) _)
  blk_simp [iblk]
  refine congrArg (V m c main_v0) (place _ _ _ ?_ ?_)
  · have hy : (y 0).val < 2048 := (y 0).isLt
    blk_simp; show cc0_transform_0 (grid0.coords t) 0 * 2048 + (y 0).val = (wrap 16384 (t.val / 1 * 2048 + (y 0).val)).val
    rw [(idx t).1, wrap_val (by omega)]; rfl
  · blk_simp; show cc0_transform_0 (grid0.coords t) 1 * 256 + (y 1).val = (y 1).val
    rw [(idx t).1]; show 0 * 256 + (y 1).val = (y 1).val; omega

theorem at_1 (t : Fin grid0.N) (y : S256x1024.Idx) :
    iblk m c 1 t y = m ((c : Thread nD τ).loc main_arg1) (ValueIdx.ix2 (y 0) (wrap 1024 (t.val % 1 * 1024 + (y 1).val))) := by
  have hN : t.val < 8 := lt_of_lt_of_eq t.isLt N_0
  refine Eq.trans ?_ (congrFun (V_1 m c) _)
  blk_simp [iblk]
  refine congrArg (V m c main_v1) (place _ _ _ ?_ ?_)
  · blk_simp; show cc0_transform_1 (grid0.coords t) 0 * 256 + (y 0).val = (y 0).val
    rw [(idx t).2.1]; show 0 * 256 + (y 0).val = (y 0).val; omega
  · have hy : (y 1).val < 1024 := (y 1).isLt
    blk_simp; show cc0_transform_1 (grid0.coords t) 1 * 1024 + (y 1).val = (wrap 1024 (t.val % 1 * 1024 + (y 1).val)).val
    rw [(idx t).2.1, wrap_val (by omega)]; rfl

theorem emb (t : Fin grid0.N) (y : S2048x1024.Idx) : (win0_2.blk t).view.emb y = ValueIdx.ix2 (wrap 16384 (t.val / 1 * 2048 + (y 0).val)) (wrap 1024 (t.val % 1 * 1024 + (y 1).val)) := by
  have hN : t.val < 8 := lt_of_lt_of_eq t.isLt N_0
  refine place _ _ _ ?_ ?_
  · have hy : (y 0).val < 2048 := (y 0).isLt
    blk_simp; show cc0_transform_2 (grid0.coords t) 0 * 2048 + (y 0).val = (wrap 16384 (t.val / 1 * 2048 + (y 0).val)).val
    rw [(idx t).2.2, wrap_val (by omega)]; rfl
  · have hy : (y 1).val < 1024 := (y 1).isLt
    blk_simp; show cc0_transform_2 (grid0.coords t) 1 * 1024 + (y 1).val = (wrap 1024 (t.val % 1 * 1024 + (y 1).val)).val
    rw [(idx t).2.2, wrap_val (by omega)]; rfl

/-- The kernel's result. -/
theorem array : (dats m 0 c).arrAt 2 cfg0.N = mulNN (a := 16384) (b := 1024) (k := 256) (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay_apply, show (win0_2.blk t).view.emb y = _ from emb t y]
  exact mulNN_block (fun r => wrap 16384 (t.val / 1 * 2048 + r.val)) (fun r => wrap 1024 (t.val % 1 * 1024 + r.val)) (at_0 m c t) (at_1 m c t) y
end

/-- The reference's result. -/
theorem reference (x0 : Mat 16384 256) (x1 : Mat 256 1024) : Cert.Reference23Ideal.Read.val_main_v0 (F := Ideal) x0 x1 = mulNN x0 x1 := by
  funext i
  refine (Cert.Reference23Ideal.Read.val_main_v0_apply x0 x1 i).trans (Finset.sum_congr rfl fun k _ => congrArg₂ (· * ·) (congrArg x0 ?_) (congrArg x1 ?_))
  all_goals exact funext (Fin.forall_fin_two.mpr ⟨rfl, rfl⟩)

attribute [local instance] Cert.Kernel23.Gen.facts Cert.Kernel23Ideal.Gen.facts Cert.Reference23Ideal.Gen.facts

theorem frame_kernel : Cert.quiescent_Kernel23 := fun m ρ _ => Cert.Kernel23.Gen.frame m ρ
theorem frame_ideal : Cert.quiescent_Kernel23Ideal := fun m ρ _ => Cert.Kernel23Ideal.Gen.frame m ρ
theorem frame_reference : Cert.quiescent_Reference23Ideal := fun m ρ _ =>
  (θ_run Cert.Reference23Ideal.defs _ _).mono
    (fun r h => ⟨fun c => (h c).2, sem_eq_zero_of_no_sems (by decide) r.2⟩) (Cert.Reference23Ideal.Value.run (F := Ideal) m ρ)
theorem constants : Cert.preserves_Kernel23_Kernel23Ideal := trivial

theorem value : Cert.algebraic_Kernel23Ideal_Reference23Ideal := by
  intro m ρ m' ρ' _ hag
  refine ⟨fun c => (dats m 0 c).arrAt 2 cfg0.N, Value.run_blocks m ρ, ?_⟩
  refine (θ_run Cert.Reference23Ideal.defs _ _).mono (fun r h c => ?_) (Cert.Reference23Ideal.Value.run (F := Ideal) m' ρ')
  obtain ⟨a0, a1⟩ := hag c
  obtain ⟨h0, hargs⟩ := h c
  refine ⟨h0.trans ?_, hargs⟩
  refine Eq.trans ?_ (array m c).symm
  rw [a0, a1]
  exact reference _ _

end Fox.PleProjMm

end
-- ==== Proof.Fox.Products.PleProjDw.lean ====
/-
  The per-layer embedding's projection: the gradient of its weight.
-/
module

public import proofs.«01_k».proof.Defs
public import proofs.«01_k».proof.Proof.Gen.Kernel24.Frame
public import proofs.«01_k».proof.Proof.Gen.Kernel24Ideal.Value
public import proofs.«01_k».proof.Proof.Gen.Reference24Ideal.Run
public import proofs.«01_k».proof.Proof.Gen.Reference24Ideal.Read
public import proofs.«01_k».proof.Proof.Fox.Products.Common
public import Idealize.ShloMosaic.Adequacy
public import Idealize.ShloMosaic.Init
public import Idealize.ShloMosaic.Lib.Pipeline.ValueKit
public import Idealize.ShloMosaic.Lib.Pointwise
public import Idealize.ShloMosaic.Lib.StableHlo.ReadAt

@[expose] public section

set_option maxRecDepth 16384

noncomputable section

open scoped BigOperators
open Idealize.ShloMosaic Idealize.SL.Sem Cert.Kernel24Ideal Cert.Kernel24Ideal.Gen TcCoe Fox.Products

namespace Fox.PleProjDw

/-- What the body computes on one pair of blocks. -/
theorem pay_apply (x0 : FVec Ideal S2048x256 .bf16) (x1 : FVec Ideal S2048x1024 .bf16) :
    k0_pay1 (F := Ideal) x0 x1 = mulTN (a := 256) (b := 1024) (k := 2048) x0 x1 := by
  funext y; unfold k0_pay1; pointwise; rfl

theorem pay_next (x0 : FVec Ideal S2048x256 .bf16) (x1 : FVec Ideal S2048x1024 .bf16) (x2 : FVec Ideal S256x1024 .f32) (y : S256x1024.Idx) :
    k0_pay2 (F := Ideal) x0 x1 x2 y = x2 y + k0_pay1 (F := Ideal) x0 x1 y := by
  unfold k0_pay2; pointwise

section
variable (m : (ℓ : Loc nD τ sig) → Buf (Elt Ideal) ℓ) (c : Dev nD)

theorem V_0 : V m c main_v0 = m ((c : Thread nD τ).loc main_arg0) := by
  unfold V
  after_reads_simp
  rfl

theorem V_1 : V m c main_v1 = m ((c : Thread nD τ).loc main_arg1) := by
  unfold V
  after_reads_simp
  rfl

/-- Which block each grid point works on. -/
theorem idx : ∀ t : Fin grid0.N, cc0_transform_0 (grid0.coords t) = ![t.val % 8, 0] ∧ cc0_transform_1 (grid0.coords t) = ![t.val % 8, t.val / 8] ∧ cc0_transform_2 (grid0.coords t) = ![0, t.val / 8] := by decide +kernel

theorem at_0 (t : Fin grid0.N) (y : S2048x256.Idx) :
    iblk m c 0 t y = m ((c : Thread nD τ).loc main_arg0) (ValueIdx.ix2 (wrap 16384 (t.val % 8 * 2048 + (y 0).val)) (y 1)) := by
  have hN : t.val < 8 := lt_of_lt_of_eq t.isLt N_0
  refine Eq.trans ?_ (congrFun (V_0 m c) _)
  blk_simp [iblk]
  refine congrArg (V m c main_v0) (place _ _ _ ?_ ?_)
  · have hy : (y 0).val < 2048 := (y 0).isLt
    blk_simp; show cc0_transform_0 (grid0.coords t) 0 * 2048 + (y 0).val = (wrap 16384 (t.val % 8 * 2048 + (y 0).val)).val
    rw [(idx t).1, wrap_val (by omega)]; rfl
  · blk_simp; show cc0_transform_0 (grid0.coords t) 1 * 256 + (y 1).val = (y 1).val
    rw [(idx t).1]; show 0 * 256 + (y 1).val = (y 1).val; omega

theorem at_1 (t : Fin grid0.N) (y : S2048x1024.Idx) :
    iblk m c 1 t y = m ((c : Thread nD τ).loc main_arg1) (ValueIdx.ix2 (wrap 16384 (t.val % 8 * 2048 + (y 0).val)) (wrap 1024 (t.val / 8 * 1024 + (y 1).val))) := by
  have hN : t.val < 8 := lt_of_lt_of_eq t.isLt N_0
  refine Eq.trans ?_ (congrFun (V_1 m c) _)
  blk_simp [iblk]
  refine congrArg (V m c main_v1) (place _ _ _ ?_ ?_)
  · have hy : (y 0).val < 2048 := (y 0).isLt
    blk_simp; show cc0_transform_1 (grid0.coords t) 0 * 2048 + (y 0).val = (wrap 16384 (t.val % 8 * 2048 + (y 0).val)).val
    rw [(idx t).2.1, wrap_val (by omega)]; rfl
  · have hy : (y 1).val < 1024 := (y 1).isLt
    blk_simp; show cc0_transform_1 (grid0.coords t) 1 * 1024 + (y 1).val = (wrap 1024 (t.val / 8 * 1024 + (y 1).val)).val
    rw [(idx t).2.1, wrap_val (by omega)]; rfl

theorem emb (t : Fin grid0.N) (y : S256x1024.Idx) : (win0_2.blk t).view.emb y = ValueIdx.ix2 (y 0) (wrap 1024 (t.val / 8 * 1024 + (y 1).val)) := by
  have hN : t.val < 8 := lt_of_lt_of_eq t.isLt N_0
  refine place _ _ _ ?_ ?_
  · blk_simp; show cc0_transform_2 (grid0.coords t) 0 * 256 + (y 0).val = (y 0).val
    rw [(idx t).2.2]; show 0 * 256 + (y 0).val = (y 0).val; omega
  · have hy : (y 1).val < 1024 := (y 1).isLt
    blk_simp; show cc0_transform_2 (grid0.coords t) 1 * 1024 + (y 1).val = (wrap 1024 (t.val / 8 * 1024 + (y 1).val)).val
    rw [(idx t).2.2, wrap_val (by omega)]; rfl

/-- After point `n` the output block holds the contributions of all rows up to the point's block. -/
theorem out_eq (y : S256x1024.Idx) (n : ℕ) (hn : n < cfg0.N) : outsAt0 m c n hn y
    = ∑ i ∈ Finset.range (n % 8 * 2048 + 2048), term (k := 16384) (a := 256) (b := 1024) (m ((c : Thread nD τ).loc main_arg0)) (m ((c : Thread nD τ).loc main_arg1)) (y 0) (wrap 1024 (n / 8 * 1024 + (y 1).val)) i := by
  have hlt : ∀ j < cfg0.N, j < 8 := fun j h => lt_of_lt_of_eq h N_0
  refine accumulate (p := 8) (w := 2048) (fun n hn => outsAt0 m c n hn y) (fun n hn => k0_pay1 (F := Ideal) (iblk m c 0 ⟨n, hn⟩) (iblk m c 1 ⟨n, hn⟩) y)
    (fun j => term (k := 16384) (a := 256) (b := 1024) (m ((c : Thread nD τ).loc main_arg0)) (m ((c : Thread nD τ).loc main_arg1)) (y 0) (wrap 1024 (j * 1024 + (y 1).val)))
    (fun j hj h => ?_) (fun j hj h => ?_) (fun j hj => ?_) n hn
  · have := hlt j hj
    show outsAt0 m c (⟨j, hj⟩ : Fin cfg0.N).val _ y = _
    rw [outsAt0_A m c ⟨j, hj⟩ h (by dsimp only; omega)]
    frame_out
  · have := hlt j hj
    show outsAt0 m c (⟨j, hj⟩ : Fin cfg0.N).val _ y = _
    rw [outsAt0_B m c ⟨j, hj⟩ h (by dsimp only; omega)]
    frame_out
    exact pay_next _ _ _ y
  · dsimp only
    rw [pay_apply]
    exact mulTN_block (j % 8 * 2048) (j / 8 * 1024) (at_0 m c ⟨j, hj⟩) (at_1 m c ⟨j, hj⟩) y

/-- The kernel's result. -/
theorem array : (dats m 0 c).arrAt 2 cfg0.N = mulTN (a := 256) (b := 1024) (k := 16384) (m ((c : Thread nD τ).loc main_arg0)) (m ((c : Thread nD τ).loc main_arg1)) := by
  refine (dats m 0 c).arrAt_eq_of_covers 2 _ (by decide +kernel) fun t hf y => ?_
  have h : t.val % 8 = 7 := (flush0_2 t).mp hf
  blk_simp
  rw [after0_2]
  refine (out_eq m c y t.val t.isLt).trans ?_
  rw [show (win0_2.blk t).view.emb y = _ from emb t y, h]
  exact (mulTN_range _ _ _ _).symm
end

/-- The reference's result. -/
theorem reference (x0 : Mat 16384 256) (x1 : Mat 16384 1024) : Cert.Reference24Ideal.Read.val_main_v3 (F := Ideal) x0 x1 = mulTN x0 x1 := by
  funext i
  rw [Cert.Reference24Ideal.Read.val_main_v3_apply, Cert.Reference24Ideal.Read.val_main_v2_apply]
  refine Finset.sum_congr rfl fun k _ => (mul_comm _ _).trans (congrArg₂ (· * ·) (congrArg x0 ?_) (congrArg x1 ?_))
  all_goals exact funext (Fin.forall_fin_two.mpr ⟨rfl, rfl⟩)

attribute [local instance] Cert.Kernel24.Gen.facts Cert.Kernel24Ideal.Gen.facts Cert.Reference24Ideal.Gen.facts

theorem frame_kernel : Cert.quiescent_Kernel24 := fun m ρ _ => Cert.Kernel24.Gen.frame m ρ
theorem frame_ideal : Cert.quiescent_Kernel24Ideal := fun m ρ _ => Cert.Kernel24Ideal.Gen.frame m ρ
theorem frame_reference : Cert.quiescent_Reference24Ideal := fun m ρ _ =>
  (θ_run Cert.Reference24Ideal.defs _ _).mono
    (fun r h => ⟨fun c => (h c).2, sem_eq_zero_of_no_sems (by decide) r.2⟩) (Cert.Reference24Ideal.Value.run (F := Ideal) m ρ)
theorem constants : Cert.preserves_Kernel24_Kernel24Ideal := trivial

theorem value : Cert.algebraic_Kernel24Ideal_Reference24Ideal := by
  intro m ρ m' ρ' _ hag
  refine ⟨fun c => (dats m 0 c).arrAt 2 cfg0.N, Value.run_blocks m ρ, ?_⟩
  refine (θ_run Cert.Reference24Ideal.defs _ _).mono (fun r h c => ?_) (Cert.Reference24Ideal.Value.run (F := Ideal) m' ρ')
  obtain ⟨a0, a1⟩ := hag c
  obtain ⟨h0, hargs⟩ := h c
  refine ⟨h0.trans ?_, hargs⟩
  refine Eq.trans ?_ (array m c).symm
  rw [a0, a1]
  exact reference _ _

end Fox.PleProjDw

end
-- ==== Proof.Fox.Optimiser.Common.lean ====
/-
  One AdamW step of one entry.
-/
module

public import Idealize.ShloMosaic.Lib.Pointwise
public import Idealize.ShloMosaic.PureOps.Ideal

@[expose] public section

noncomputable section

open Idealize.ShloMosaic

namespace Fox.Optimiser

abbrev Arr (s : Shape) := s.Idx → EReal

/-- The running averages of the gradient and of its square. -/
def average (m g : EReal) : EReal := Ideal.ofBits .f32 0x3F666666#32 * m + Ideal.ofBits .f32 0x3DCCCCCD#32 * g
def average2 (v g : EReal) : EReal := Ideal.ofBits .f32 0x3F7FBE77#32 * v + Ideal.ofBits .f32 0x3A83126F#32 * (g * g)

/-- The step: minus the rate times the quotient of the corrected averages and the decay. -/
def change (w g m v : EReal) : EReal :=
  Ideal.ofBits .f32 0xBA83126F#32 * (FloatOps.divf (F := Ideal) (φ := .f32) (FloatOps.divf (F := Ideal) (φ := .f32) (average m g) (Ideal.ofBits .f32 0x3F26BD02#32))
      (FloatOps.sqrt (F := Ideal) (φ := .f32) (FloatOps.divf (F := Ideal) (φ := .f32) (average2 v g) (Ideal.ofBits .f32 0x3C231ACC#32)) + Ideal.ofBits .f32 0x322BCC77#32)
    + Ideal.ofBits .f32 0x3C23D70A#32 * w)

end Fox.Optimiser

end
-- ==== Proof.Fox.Optimiser.AttnIn.lean ====
/-
  The AdamW step at the shape of attn_w_in.
-/
module

public import proofs.«01_k».proof.Defs
public import proofs.«01_k».proof.Proof.Gen.Kernel25.Frame
public import proofs.«01_k».proof.Proof.Gen.Kernel25Ideal.Value
public import proofs.«01_k».proof.Proof.Gen.Reference25Ideal.Run
public import proofs.«01_k».proof.Proof.Gen.Reference25Ideal.Read
public import proofs.«01_k».proof.Proof.Fox.Optimiser.Common
public import Idealize.ShloMosaic.Adequacy
public import Idealize.ShloMosaic.Init
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.SL.Sem Cert.Kernel25Ideal Cert.Kernel25Ideal.Gen TcCoe Fox.Optimiser

namespace Fox.Optimiser.AttnIn

/-- What the body computes on one block: the two averages and the step. -/
theorem pay_average (g m : FVec Ideal S256x772 .f32) (y : S256x772.Idx) : k0_pay2 (F := Ideal) g m y = average (m y) (g y) := by
  unfold k0_pay2 k0_pay1; pointwise; rfl
theorem pay_average2 (g v : FVec Ideal S256x772 .f32) (y : S256x772.Idx) : k0_pay3 (F := Ideal) g v y = average2 (v y) (g y) := by
  unfold k0_pay3 k0_pay1; pointwise; rfl
theorem pay_change (g m v w : FVec Ideal S256x772 .f32) (y : S256x772.Idx) :
    k0_pay4 (F := Ideal) g m v w y = change (w y) (g y) (m y) (v y) := by
  unfold k0_pay4; pointwise; rw [pay_average, pay_average2]; rfl

section
variable (m : (ℓ : Loc nD τ sig) → Buf (Elt Ideal) ℓ) (c : Dev nD)

theorem V_0 : V m c main_v0 = (shapeCast S1024x772 (m ((c : Thread nD τ).loc main_arg0)) shapeCasts_S1x1024x772_S1024x772) := by
  unfold V
  after_reads_simp
  rfl
theorem V_1 : V m c main_v1 = (shapeCast S1024x772 (m ((c : Thread nD τ).loc main_arg1)) shapeCasts_S1x1024x772_S1024x772) := by
  unfold V
  after_reads_simp
  rfl
theorem V_2 : V m c main_v2 = (shapeCast S1024x772 (m ((c : Thread nD τ).loc main_arg2)) shapeCasts_S1x1024x772_S1024x772) := by
  unfold V
  after_reads_simp
  rfl
theorem V_3 : V m c main_v3 = (shapeCast S1024x772 (m ((c : Thread nD τ).loc main_arg3)) shapeCasts_S1x1024x772_S1024x772) := by
  unfold V
  after_reads_simp
  rfl

theorem array_change : (dats m 0 c).arrAt 4 cfg0.N = fun i => change (V m c main_v0 i) (V m c main_v1 i) (V m c main_v2 i) (V m c main_v3 i) := by
  refine (dats m 0 c).arrAt_eq_of_covers 4 _ (by decide +kernel) fun t hf y => ?_
  blk_simp
  rw [after0_4]
  frame_out
  exact (pay_change _ _ _ _ y).trans rfl

theorem array_average : (dats m 0 c).arrAt 5 cfg0.N = fun i => average (V m c main_v2 i) (V m c main_v1 i) := by
  refine (dats m 0 c).arrAt_eq_of_covers 5 _ (by decide +kernel) fun t hf y => ?_
  blk_simp
  rw [after0_5]
  frame_out
  exact (pay_average _ _ y).trans rfl

theorem array_average2 : (dats m 0 c).arrAt 6 cfg0.N = fun i => average2 (V m c main_v3 i) (V m c main_v1 i) := by
  refine (dats m 0 c).arrAt_eq_of_covers 6 _ (by decide +kernel) fun t hf y => ?_
  blk_simp
  rw [after0_6]
  frame_out
  exact (pay_average2 _ _ y).trans rfl

end

section
variable (x0 x1 x2 x3 : Arr S1x1024x772)

/-- The reference's three results. -/
theorem reference_change : Cert.Reference25Ideal.Read.val_main_v24 (F := Ideal) x0 x1 x2 x3 = fun i => change ((shapeCast S1024x772 x0 shapeCasts_S1x1024x772_S1024x772) i) ((shapeCast S1024x772 x1 shapeCasts_S1x1024x772_S1024x772) i) ((shapeCast S1024x772 x2 shapeCasts_S1x1024x772_S1024x772) i) ((shapeCast S1024x772 x3 shapeCasts_S1x1024x772_S1024x772) i) := rfl
theorem reference_average : Cert.Reference25Ideal.Read.val_main_v25 (F := Ideal) x1 x2 = fun i => average ((shapeCast S1024x772 x2 shapeCasts_S1x1024x772_S1024x772) i) ((shapeCast S1024x772 x1 shapeCasts_S1x1024x772_S1024x772) i) := rfl
theorem reference_average2 : Cert.Reference25Ideal.Read.val_main_v26 (F := Ideal) x1 x3 = fun i => average2 ((shapeCast S1024x772 x3 shapeCasts_S1x1024x772_S1024x772) i) ((shapeCast S1024x772 x1 shapeCasts_S1x1024x772_S1024x772) i) := rfl
end

attribute [local instance] Cert.Kernel25.Gen.facts Cert.Kernel25Ideal.Gen.facts Cert.Reference25Ideal.Gen.facts

theorem frame_kernel : Cert.quiescent_Kernel25 := fun m ρ _ => Cert.Kernel25.Gen.frame m ρ
theorem frame_ideal : Cert.quiescent_Kernel25Ideal := fun m ρ _ => Cert.Kernel25Ideal.Gen.frame m ρ
theorem frame_reference : Cert.quiescent_Reference25Ideal := fun m ρ _ =>
  (θ_run Cert.Reference25Ideal.defs _ _).mono
    (fun r h => ⟨fun c => (h c).2.2.2, sem_eq_zero_of_no_sems (by decide) r.2⟩) (Cert.Reference25Ideal.Value.run (F := Ideal) m ρ)
theorem constants : Cert.preserves_Kernel25_Kernel25Ideal := trivial

theorem value : Cert.algebraic_Kernel25Ideal_Reference25Ideal := by
  intro m ρ m' ρ' _ hag
  refine ⟨fun c => (dats m 0 c).arrAt 4 cfg0.N, fun c => (dats m 0 c).arrAt 5 cfg0.N, fun c => (dats m 0 c).arrAt 6 cfg0.N, Value.run_blocks m ρ, ?_⟩
  refine (θ_run Cert.Reference25Ideal.defs _ _).mono (fun r h c => ?_) (Cert.Reference25Ideal.Value.run (F := Ideal) m' ρ')
  obtain ⟨a0, a1, a2, a3⟩ := hag c
  obtain ⟨h0, h1, h2, hargs⟩ := h c
  refine ⟨h0.trans ?_, h1.trans ?_, h2.trans ?_, hargs⟩
  · refine Eq.trans ?_ (array_change m c).symm
    rw [V_0, V_1, V_2, V_3, a0, a1, a2, a3]
    exact reference_change _ _ _ _
  · refine Eq.trans ?_ (array_average m c).symm
    rw [V_2, V_1, a2, a1]
    exact reference_average _ _
  · refine Eq.trans ?_ (array_average2 m c).symm
    rw [V_3, V_1, a3, a1]
    exact reference_average2 _ _

end Fox.Optimiser.AttnIn

end
-- ==== Proof.Fox.Optimiser.AttnBias.lean ====
/-
  The AdamW step at the shape of attn_b_f.
-/
module

public import proofs.«01_k».proof.Defs
public import proofs.«01_k».proof.Proof.Gen.Kernel26.Frame
public import proofs.«01_k».proof.Proof.Gen.Kernel26Ideal.Value
public import proofs.«01_k».proof.Proof.Gen.Reference26Ideal.Run
public import proofs.«01_k».proof.Proof.Gen.Reference26Ideal.Read
public import proofs.«01_k».proof.Proof.Fox.Optimiser.Common
public import Idealize.ShloMosaic.Adequacy
public import Idealize.ShloMosaic.Init
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.SL.Sem Cert.Kernel26Ideal Cert.Kernel26Ideal.Gen TcCoe Fox.Optimiser

namespace Fox.Optimiser.AttnBias

/-- What the body computes on one block: the two averages and the step. -/
theorem pay_average (g m : FVec Ideal S1x16 .f32) (y : S1x16.Idx) : k0_pay1 (F := Ideal) g m y = average (m y) (g y) := by
  unfold k0_pay1; pointwise; rfl
theorem pay_average2 (g v : FVec Ideal S1x16 .f32) (y : S1x16.Idx) : k0_pay2 (F := Ideal) g v y = average2 (v y) (g y) := by
  unfold k0_pay2; pointwise; rfl
theorem pay_change (g m v w : FVec Ideal S1x16 .f32) (y : S1x16.Idx) :
    k0_pay3 (F := Ideal) g m v w y = change (w y) (g y) (m y) (v y) := by
  unfold k0_pay3; pointwise; rw [pay_average, pay_average2]; rfl

section
variable (m : (ℓ : Loc nD τ sig) → Buf (Elt Ideal) ℓ) (c : Dev nD)

theorem array_change : (dats m 0 c).arrAt 4 cfg0.N = fun i => change (V m c main_arg0 i) (V m c main_arg1 i) (V m c main_arg2 i) (V m c main_arg3 i) := by
  refine (dats m 0 c).arrAt_eq_of_covers 4 _ (by decide +kernel) fun t hf y => ?_
  blk_simp
  rw [after0_4]
  frame_out
  exact (pay_change _ _ _ _ y).trans rfl

theorem array_average : (dats m 0 c).arrAt 5 cfg0.N = fun i => average (V m c main_arg2 i) (V m c main_arg1 i) := by
  refine (dats m 0 c).arrAt_eq_of_covers 5 _ (by decide +kernel) fun t hf y => ?_
  blk_simp
  rw [after0_5]
  frame_out
  exact (pay_average _ _ y).trans rfl

theorem array_average2 : (dats m 0 c).arrAt 6 cfg0.N = fun i => average2 (V m c main_arg3 i) (V m c main_arg1 i) := by
  refine (dats m 0 c).arrAt_eq_of_covers 6 _ (by decide +kernel) fun t hf y => ?_
  blk_simp
  rw [after0_6]
  frame_out
  exact (pay_average2 _ _ y).trans rfl

end

section
variable (x0 x1 x2 x3 : Arr S1x16)

/-- The reference's three results. -/
theorem reference_change : Cert.Reference26Ideal.Read.val_main_v23 (F := Ideal) x0 x1 x2 x3 = fun i => change (x0 i) (x1 i) (x2 i) (x3 i) := rfl
theorem reference_average : Cert.Reference26Ideal.Read.val_main_v4 (F := Ideal) x1 x2 = fun i => average (x2 i) (x1 i) := rfl
theorem reference_average2 : Cert.Reference26Ideal.Read.val_main_v10 (F := Ideal) x1 x3 = fun i => average2 (x3 i) (x1 i) := rfl
end

attribute [local instance] Cert.Kernel26.Gen.facts Cert.Kernel26Ideal.Gen.facts Cert.Reference26Ideal.Gen.facts

theorem frame_kernel : Cert.quiescent_Kernel26 := fun m ρ _ => Cert.Kernel26.Gen.frame m ρ
theorem frame_ideal : Cert.quiescent_Kernel26Ideal := fun m ρ _ => Cert.Kernel26Ideal.Gen.frame m ρ
theorem frame_reference : Cert.quiescent_Reference26Ideal := fun m ρ _ =>
  (θ_run Cert.Reference26Ideal.defs _ _).mono
    (fun r h => ⟨fun c => (h c).2.2.2, sem_eq_zero_of_no_sems (by decide) r.2⟩) (Cert.Reference26Ideal.Value.run (F := Ideal) m ρ)
theorem constants : Cert.preserves_Kernel26_Kernel26Ideal := trivial

theorem value : Cert.algebraic_Kernel26Ideal_Reference26Ideal := by
  intro m ρ m' ρ' _ hag
  refine ⟨fun c => (dats m 0 c).arrAt 4 cfg0.N, fun c => (dats m 0 c).arrAt 5 cfg0.N, fun c => (dats m 0 c).arrAt 6 cfg0.N, Value.run_blocks m ρ, ?_⟩
  refine (θ_run Cert.Reference26Ideal.defs _ _).mono (fun r h c => ?_) (Cert.Reference26Ideal.Value.run (F := Ideal) m' ρ')
  obtain ⟨a0, a1, a2, a3⟩ := hag c
  obtain ⟨h0, h1, h2, hargs⟩ := h c
  refine ⟨h0.trans ?_, h1.trans ?_, h2.trans ?_, hargs⟩
  · refine Eq.trans ?_ (array_change m c).symm
    rw [V_main_arg0, V_main_arg1, V_main_arg2, V_main_arg3, a0, a1, a2, a3]
    exact reference_change _ _ _ _
  · refine Eq.trans ?_ (array_average m c).symm
    rw [V_main_arg2, V_main_arg1, a2, a1]
    exact reference_average _ _
  · refine Eq.trans ?_ (array_average2 m c).symm
    rw [V_main_arg3, V_main_arg1, a3, a1]
    exact reference_average2 _ _

end Fox.Optimiser.AttnBias

end
-- ==== Proof.Fox.Optimiser.AttnOut.lean ====
/-
  The AdamW step at the shape of attn_w_out.
-/
module

public import proofs.«01_k».proof.Defs
public import proofs.«01_k».proof.Proof.Gen.Kernel27.Frame
public import proofs.«01_k».proof.Proof.Gen.Kernel27Ideal.Value
public import proofs.«01_k».proof.Proof.Gen.Reference27Ideal.Run
public import proofs.«01_k».proof.Proof.Gen.Reference27Ideal.Read
public import proofs.«01_k».proof.Proof.Fox.Optimiser.Common
public import Idealize.ShloMosaic.Adequacy
public import Idealize.ShloMosaic.Init
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.SL.Sem Cert.Kernel27Ideal Cert.Kernel27Ideal.Gen TcCoe Fox.Optimiser

namespace Fox.Optimiser.AttnOut

/-- What the body computes on one block: the two averages and the step. -/
theorem pay_average (g m : FVec Ideal S256x1024 .f32) (y : S256x1024.Idx) : k0_pay2 (F := Ideal) g m y = average (m y) (g y) := by
  unfold k0_pay2 k0_pay1; pointwise; rfl
theorem pay_average2 (g v : FVec Ideal S256x1024 .f32) (y : S256x1024.Idx) : k0_pay3 (F := Ideal) g v y = average2 (v y) (g y) := by
  unfold k0_pay3 k0_pay1; pointwise; rfl
theorem pay_change (g m v w : FVec Ideal S256x1024 .f32) (y : S256x1024.Idx) :
    k0_pay4 (F := Ideal) g m v w y = change (w y) (g y) (m y) (v y) := by
  unfold k0_pay4; pointwise; rw [pay_average, pay_average2]; rfl

section
variable (m : (ℓ : Loc nD τ sig) → Buf (Elt Ideal) ℓ) (c : Dev nD)

theorem V_0 : V m c main_v0 = (shapeCast S256x1024 (m ((c : Thread nD τ).loc main_arg0)) shapeCasts_S1x256x1024_S256x1024) := by
  unfold V
  after_reads_simp
  rfl
theorem V_1 : V m c main_v1 = (shapeCast S256x1024 (m ((c : Thread nD τ).loc main_arg1)) shapeCasts_S1x256x1024_S256x1024) := by
  unfold V
  after_reads_simp
  rfl
theorem V_2 : V m c main_v2 = (shapeCast S256x1024 (m ((c : Thread nD τ).loc main_arg2)) shapeCasts_S1x256x1024_S256x1024) := by
  unfold V
  after_reads_simp
  rfl
theorem V_3 : V m c main_v3 = (shapeCast S256x1024 (m ((c : Thread nD τ).loc main_arg3)) shapeCasts_S1x256x1024_S256x1024) := by
  unfold V
  after_reads_simp
  rfl

theorem array_change : (dats m 0 c).arrAt 4 cfg0.N = fun i => change (V m c main_v0 i) (V m c main_v1 i) (V m c main_v2 i) (V m c main_v3 i) := by
  refine (dats m 0 c).arrAt_eq_of_covers 4 _ (by decide +kernel) fun t hf y => ?_
  blk_simp
  rw [after0_4]
  frame_out
  exact (pay_change _ _ _ _ y).trans rfl

theorem array_average : (dats m 0 c).arrAt 5 cfg0.N = fun i => average (V m c main_v2 i) (V m c main_v1 i) := by
  refine (dats m 0 c).arrAt_eq_of_covers 5 _ (by decide +kernel) fun t hf y => ?_
  blk_simp
  rw [after0_5]
  frame_out
  exact (pay_average _ _ y).trans rfl

theorem array_average2 : (dats m 0 c).arrAt 6 cfg0.N = fun i => average2 (V m c main_v3 i) (V m c main_v1 i) := by
  refine (dats m 0 c).arrAt_eq_of_covers 6 _ (by decide +kernel) fun t hf y => ?_
  blk_simp
  rw [after0_6]
  frame_out
  exact (pay_average2 _ _ y).trans rfl

end

section
variable (x0 x1 x2 x3 : Arr S1x256x1024)

/-- The reference's three results. -/
theorem reference_change : Cert.Reference27Ideal.Read.val_main_v24 (F := Ideal) x0 x1 x2 x3 = fun i => change ((shapeCast S256x1024 x0 shapeCasts_S1x256x1024_S256x1024) i) ((shapeCast S256x1024 x1 shapeCasts_S1x256x1024_S256x1024) i) ((shapeCast S256x1024 x2 shapeCasts_S1x256x1024_S256x1024) i) ((shapeCast S256x1024 x3 shapeCasts_S1x256x1024_S256x1024) i) := rfl
theorem reference_average : Cert.Reference27Ideal.Read.val_main_v25 (F := Ideal) x1 x2 = fun i => average ((shapeCast S256x1024 x2 shapeCasts_S1x256x1024_S256x1024) i) ((shapeCast S256x1024 x1 shapeCasts_S1x256x1024_S256x1024) i) := rfl
theorem reference_average2 : Cert.Reference27Ideal.Read.val_main_v26 (F := Ideal) x1 x3 = fun i => average2 ((shapeCast S256x1024 x3 shapeCasts_S1x256x1024_S256x1024) i) ((shapeCast S256x1024 x1 shapeCasts_S1x256x1024_S256x1024) i) := rfl
end

attribute [local instance] Cert.Kernel27.Gen.facts Cert.Kernel27Ideal.Gen.facts Cert.Reference27Ideal.Gen.facts

theorem frame_kernel : Cert.quiescent_Kernel27 := fun m ρ _ => Cert.Kernel27.Gen.frame m ρ
theorem frame_ideal : Cert.quiescent_Kernel27Ideal := fun m ρ _ => Cert.Kernel27Ideal.Gen.frame m ρ
theorem frame_reference : Cert.quiescent_Reference27Ideal := fun m ρ _ =>
  (θ_run Cert.Reference27Ideal.defs _ _).mono
    (fun r h => ⟨fun c => (h c).2.2.2, sem_eq_zero_of_no_sems (by decide) r.2⟩) (Cert.Reference27Ideal.Value.run (F := Ideal) m ρ)
theorem constants : Cert.preserves_Kernel27_Kernel27Ideal := trivial

theorem value : Cert.algebraic_Kernel27Ideal_Reference27Ideal := by
  intro m ρ m' ρ' _ hag
  refine ⟨fun c => (dats m 0 c).arrAt 4 cfg0.N, fun c => (dats m 0 c).arrAt 5 cfg0.N, fun c => (dats m 0 c).arrAt 6 cfg0.N, Value.run_blocks m ρ, ?_⟩
  refine (θ_run Cert.Reference27Ideal.defs _ _).mono (fun r h c => ?_) (Cert.Reference27Ideal.Value.run (F := Ideal) m' ρ')
  obtain ⟨a0, a1, a2, a3⟩ := hag c
  obtain ⟨h0, h1, h2, hargs⟩ := h c
  refine ⟨h0.trans ?_, h1.trans ?_, h2.trans ?_, hargs⟩
  · refine Eq.trans ?_ (array_change m c).symm
    rw [V_0, V_1, V_2, V_3, a0, a1, a2, a3]
    exact reference_change _ _ _ _
  · refine Eq.trans ?_ (array_average m c).symm
    rw [V_2, V_1, a2, a1]
    exact reference_average _ _
  · refine Eq.trans ?_ (array_average2 m c).symm
    rw [V_3, V_1, a3, a1]
    exact reference_average2 _ _

end Fox.Optimiser.AttnOut

end
-- ==== Proof.Fox.Optimiser.SsmIn.lean ====
/-
  The AdamW step at the shape of ssm_w_in.
-/
module

public import proofs.«01_k».proof.Defs
public import proofs.«01_k».proof.Proof.Gen.Kernel28.Frame
public import proofs.«01_k».proof.Proof.Gen.Kernel28Ideal.Value
public import proofs.«01_k».proof.Proof.Gen.Reference28Ideal.Run
public import proofs.«01_k».proof.Proof.Gen.Reference28Ideal.Read
public import proofs.«01_k».proof.Proof.Fox.Optimiser.Common
public import Idealize.ShloMosaic.Adequacy
public import Idealize.ShloMosaic.Init
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.SL.Sem Cert.Kernel28Ideal Cert.Kernel28Ideal.Gen TcCoe Fox.Optimiser

namespace Fox.Optimiser.SsmIn

/-- What the body computes on one block: the two averages and the step. -/
theorem pay_average (g m : FVec Ideal S256x1544 .f32) (y : S256x1544.Idx) : k0_pay2 (F := Ideal) g m y = average (m y) (g y) := by
  unfold k0_pay2 k0_pay1; pointwise; rfl
theorem pay_average2 (g v : FVec Ideal S256x1544 .f32) (y : S256x1544.Idx) : k0_pay3 (F := Ideal) g v y = average2 (v y) (g y) := by
  unfold k0_pay3 k0_pay1; pointwise; rfl
theorem pay_change (g m v w : FVec Ideal S256x1544 .f32) (y : S256x1544.Idx) :
    k0_pay4 (F := Ideal) g m v w y = change (w y) (g y) (m y) (v y) := by
  unfold k0_pay4; pointwise; rw [pay_average, pay_average2]; rfl

section
variable (m : (ℓ : Loc nD τ sig) → Buf (Elt Ideal) ℓ) (c : Dev nD)

theorem V_0 : V m c main_v0 = (shapeCast S1024x1544 (m ((c : Thread nD τ).loc main_arg0)) shapeCasts_S1x1024x1544_S1024x1544) := by
  unfold V
  after_reads_simp
  rfl
theorem V_1 : V m c main_v1 = (shapeCast S1024x1544 (m ((c : Thread nD τ).loc main_arg1)) shapeCasts_S1x1024x1544_S1024x1544) := by
  unfold V
  after_reads_simp
  rfl
theorem V_2 : V m c main_v2 = (shapeCast S1024x1544 (m ((c : Thread nD τ).loc main_arg2)) shapeCasts_S1x1024x1544_S1024x1544) := by
  unfold V
  after_reads_simp
  rfl
theorem V_3 : V m c main_v3 = (shapeCast S1024x1544 (m ((c : Thread nD τ).loc main_arg3)) shapeCasts_S1x1024x1544_S1024x1544) := by
  unfold V
  after_reads_simp
  rfl

theorem array_change : (dats m 0 c).arrAt 4 cfg0.N = fun i => change (V m c main_v0 i) (V m c main_v1 i) (V m c main_v2 i) (V m c main_v3 i) := by
  refine (dats m 0 c).arrAt_eq_of_covers 4 _ (by decide +kernel) fun t hf y => ?_
  blk_simp
  rw [after0_4]
  frame_out
  exact (pay_change _ _ _ _ y).trans rfl

theorem array_average : (dats m 0 c).arrAt 5 cfg0.N = fun i => average (V m c main_v2 i) (V m c main_v1 i) := by
  refine (dats m 0 c).arrAt_eq_of_covers 5 _ (by decide +kernel) fun t hf y => ?_
  blk_simp
  rw [after0_5]
  frame_out
  exact (pay_average _ _ y).trans rfl

theorem array_average2 : (dats m 0 c).arrAt 6 cfg0.N = fun i => average2 (V m c main_v3 i) (V m c main_v1 i) := by
  refine (dats m 0 c).arrAt_eq_of_covers 6 _ (by decide +kernel) fun t hf y => ?_
  blk_simp
  rw [after0_6]
  frame_out
  exact (pay_average2 _ _ y).trans rfl

end

section
variable (x0 x1 x2 x3 : Arr S1x1024x1544)

/-- The reference's three results. -/
theorem reference_change : Cert.Reference28Ideal.Read.val_main_v24 (F := Ideal) x0 x1 x2 x3 = fun i => change ((shapeCast S1024x1544 x0 shapeCasts_S1x1024x1544_S1024x1544) i) ((shapeCast S1024x1544 x1 shapeCasts_S1x1024x1544_S1024x1544) i) ((shapeCast S1024x1544 x2 shapeCasts_S1x1024x1544_S1024x1544) i) ((shapeCast S1024x1544 x3 shapeCasts_S1x1024x1544_S1024x1544) i) := rfl
theorem reference_average : Cert.Reference28Ideal.Read.val_main_v25 (F := Ideal) x1 x2 = fun i => average ((shapeCast S1024x1544 x2 shapeCasts_S1x1024x1544_S1024x1544) i) ((shapeCast S1024x1544 x1 shapeCasts_S1x1024x1544_S1024x1544) i) := rfl
theorem reference_average2 : Cert.Reference28Ideal.Read.val_main_v26 (F := Ideal) x1 x3 = fun i => average2 ((shapeCast S1024x1544 x3 shapeCasts_S1x1024x1544_S1024x1544) i) ((shapeCast S1024x1544 x1 shapeCasts_S1x1024x1544_S1024x1544) i) := rfl
end

attribute [local instance] Cert.Kernel28.Gen.facts Cert.Kernel28Ideal.Gen.facts Cert.Reference28Ideal.Gen.facts

theorem frame_kernel : Cert.quiescent_Kernel28 := fun m ρ _ => Cert.Kernel28.Gen.frame m ρ
theorem frame_ideal : Cert.quiescent_Kernel28Ideal := fun m ρ _ => Cert.Kernel28Ideal.Gen.frame m ρ
theorem frame_reference : Cert.quiescent_Reference28Ideal := fun m ρ _ =>
  (θ_run Cert.Reference28Ideal.defs _ _).mono
    (fun r h => ⟨fun c => (h c).2.2.2, sem_eq_zero_of_no_sems (by decide) r.2⟩) (Cert.Reference28Ideal.Value.run (F := Ideal) m ρ)
theorem constants : Cert.preserves_Kernel28_Kernel28Ideal := trivial

theorem value : Cert.algebraic_Kernel28Ideal_Reference28Ideal := by
  intro m ρ m' ρ' _ hag
  refine ⟨fun c => (dats m 0 c).arrAt 4 cfg0.N, fun c => (dats m 0 c).arrAt 5 cfg0.N, fun c => (dats m 0 c).arrAt 6 cfg0.N, Value.run_blocks m ρ, ?_⟩
  refine (θ_run Cert.Reference28Ideal.defs _ _).mono (fun r h c => ?_) (Cert.Reference28Ideal.Value.run (F := Ideal) m' ρ')
  obtain ⟨a0, a1, a2, a3⟩ := hag c
  obtain ⟨h0, h1, h2, hargs⟩ := h c
  refine ⟨h0.trans ?_, h1.trans ?_, h2.trans ?_, hargs⟩
  · refine Eq.trans ?_ (array_change m c).symm
    rw [V_0, V_1, V_2, V_3, a0, a1, a2, a3]
    exact reference_change _ _ _ _
  · refine Eq.trans ?_ (array_average m c).symm
    rw [V_2, V_1, a2, a1]
    exact reference_average _ _
  · refine Eq.trans ?_ (array_average2 m c).symm
    rw [V_3, V_1, a3, a1]
    exact reference_average2 _ _

end Fox.Optimiser.SsmIn

end
-- ==== Proof.Fox.Optimiser.SsmConv.lean ====
/-
  The AdamW step at the shape of ssm_conv_w.
-/
module

public import proofs.«01_k».proof.Defs
public import proofs.«01_k».proof.Proof.Gen.Kernel29.Frame
public import proofs.«01_k».proof.Proof.Gen.Kernel29Ideal.Value
public import proofs.«01_k».proof.Proof.Gen.Reference29Ideal.Run
public import proofs.«01_k».proof.Proof.Gen.Reference29Ideal.Read
public import proofs.«01_k».proof.Proof.Fox.Optimiser.Common
public import Idealize.ShloMosaic.Adequacy
public import Idealize.ShloMosaic.Init
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.SL.Sem Cert.Kernel29Ideal Cert.Kernel29Ideal.Gen TcCoe Fox.Optimiser

namespace Fox.Optimiser.SsmConv

/-- What the body computes on one block: the two averages and the step. -/
theorem pay_average (g m : FVec Ideal S4x1024 .f32) (y : S4x1024.Idx) : k0_pay2 (F := Ideal) g m y = average (m y) (g y) := by
  unfold k0_pay2 k0_pay1; pointwise; rfl
theorem pay_average2 (g v : FVec Ideal S4x1024 .f32) (y : S4x1024.Idx) : k0_pay3 (F := Ideal) g v y = average2 (v y) (g y) := by
  unfold k0_pay3 k0_pay1; pointwise; rfl
theorem pay_change (g m v w : FVec Ideal S4x1024 .f32) (y : S4x1024.Idx) :
    k0_pay4 (F := Ideal) g m v w y = change (w y) (g y) (m y) (v y) := by
  unfold k0_pay4; pointwise; rw [pay_average, pay_average2]; rfl

section
variable (m : (ℓ : Loc nD τ sig) → Buf (Elt Ideal) ℓ) (c : Dev nD)

theorem V_0 : V m c main_v0 = (shapeCast S4x1024 (m ((c : Thread nD τ).loc main_arg0)) shapeCasts_S1x4x1024_S4x1024) := by
  unfold V
  after_reads_simp
  rfl
theorem V_1 : V m c main_v1 = (shapeCast S4x1024 (m ((c : Thread nD τ).loc main_arg1)) shapeCasts_S1x4x1024_S4x1024) := by
  unfold V
  after_reads_simp
  rfl
theorem V_2 : V m c main_v2 = (shapeCast S4x1024 (m ((c : Thread nD τ).loc main_arg2)) shapeCasts_S1x4x1024_S4x1024) := by
  unfold V
  after_reads_simp
  rfl
theorem V_3 : V m c main_v3 = (shapeCast S4x1024 (m ((c : Thread nD τ).loc main_arg3)) shapeCasts_S1x4x1024_S4x1024) := by
  unfold V
  after_reads_simp
  rfl

theorem array_change : (dats m 0 c).arrAt 4 cfg0.N = fun i => change (V m c main_v0 i) (V m c main_v1 i) (V m c main_v2 i) (V m c main_v3 i) := by
  refine (dats m 0 c).arrAt_eq_of_covers 4 _ (by decide +kernel) fun t hf y => ?_
  blk_simp
  rw [after0_4]
  frame_out
  exact (pay_change _ _ _ _ y).trans rfl

theorem array_average : (dats m 0 c).arrAt 5 cfg0.N = fun i => average (V m c main_v2 i) (V m c main_v1 i) := by
  refine (dats m 0 c).arrAt_eq_of_covers 5 _ (by decide +kernel) fun t hf y => ?_
  blk_simp
  rw [after0_5]
  frame_out
  exact (pay_average _ _ y).trans rfl

theorem array_average2 : (dats m 0 c).arrAt 6 cfg0.N = fun i => average2 (V m c main_v3 i) (V m c main_v1 i) := by
  refine (dats m 0 c).arrAt_eq_of_covers 6 _ (by decide +kernel) fun t hf y => ?_
  blk_simp
  rw [after0_6]
  frame_out
  exact (pay_average2 _ _ y).trans rfl

end

section
variable (x0 x1 x2 x3 : Arr S1x4x1024)

/-- The reference's three results. -/
theorem reference_change : Cert.Reference29Ideal.Read.val_main_v24 (F := Ideal) x0 x1 x2 x3 = fun i => change ((shapeCast S4x1024 x0 shapeCasts_S1x4x1024_S4x1024) i) ((shapeCast S4x1024 x1 shapeCasts_S1x4x1024_S4x1024) i) ((shapeCast S4x1024 x2 shapeCasts_S1x4x1024_S4x1024) i) ((shapeCast S4x1024 x3 shapeCasts_S1x4x1024_S4x1024) i) := rfl
theorem reference_average : Cert.Reference29Ideal.Read.val_main_v25 (F := Ideal) x1 x2 = fun i => average ((shapeCast S4x1024 x2 shapeCasts_S1x4x1024_S4x1024) i) ((shapeCast S4x1024 x1 shapeCasts_S1x4x1024_S4x1024) i) := rfl
theorem reference_average2 : Cert.Reference29Ideal.Read.val_main_v26 (F := Ideal) x1 x3 = fun i => average2 ((shapeCast S4x1024 x3 shapeCasts_S1x4x1024_S4x1024) i) ((shapeCast S4x1024 x1 shapeCasts_S1x4x1024_S4x1024) i) := rfl
end

attribute [local instance] Cert.Kernel29.Gen.facts Cert.Kernel29Ideal.Gen.facts Cert.Reference29Ideal.Gen.facts

theorem frame_kernel : Cert.quiescent_Kernel29 := fun m ρ _ => Cert.Kernel29.Gen.frame m ρ
theorem frame_ideal : Cert.quiescent_Kernel29Ideal := fun m ρ _ => Cert.Kernel29Ideal.Gen.frame m ρ
theorem frame_reference : Cert.quiescent_Reference29Ideal := fun m ρ _ =>
  (θ_run Cert.Reference29Ideal.defs _ _).mono
    (fun r h => ⟨fun c => (h c).2.2.2, sem_eq_zero_of_no_sems (by decide) r.2⟩) (Cert.Reference29Ideal.Value.run (F := Ideal) m ρ)
theorem constants : Cert.preserves_Kernel29_Kernel29Ideal := trivial

theorem value : Cert.algebraic_Kernel29Ideal_Reference29Ideal := by
  intro m ρ m' ρ' _ hag
  refine ⟨fun c => (dats m 0 c).arrAt 4 cfg0.N, fun c => (dats m 0 c).arrAt 5 cfg0.N, fun c => (dats m 0 c).arrAt 6 cfg0.N, Value.run_blocks m ρ, ?_⟩
  refine (θ_run Cert.Reference29Ideal.defs _ _).mono (fun r h c => ?_) (Cert.Reference29Ideal.Value.run (F := Ideal) m' ρ')
  obtain ⟨a0, a1, a2, a3⟩ := hag c
  obtain ⟨h0, h1, h2, hargs⟩ := h c
  refine ⟨h0.trans ?_, h1.trans ?_, h2.trans ?_, hargs⟩
  · refine Eq.trans ?_ (array_change m c).symm
    rw [V_0, V_1, V_2, V_3, a0, a1, a2, a3]
    exact reference_change _ _ _ _
  · refine Eq.trans ?_ (array_average m c).symm
    rw [V_2, V_1, a2, a1]
    exact reference_average _ _
  · refine Eq.trans ?_ (array_average2 m c).symm
    rw [V_3, V_1, a3, a1]
    exact reference_average2 _ _

end Fox.Optimiser.SsmConv

end
-- ==== Proof.Fox.Optimiser.SsmConvBias.lean ====
/-
  The AdamW step at the shape of ssm_conv_b.
-/
module

public import proofs.«01_k».proof.Defs
public import proofs.«01_k».proof.Proof.Gen.Kernel30.Frame
public import proofs.«01_k».proof.Proof.Gen.Kernel30Ideal.Value
public import proofs.«01_k».proof.Proof.Gen.Reference30Ideal.Run
public import proofs.«01_k».proof.Proof.Gen.Reference30Ideal.Read
public import proofs.«01_k».proof.Proof.Fox.Optimiser.Common
public import Idealize.ShloMosaic.Adequacy
public import Idealize.ShloMosaic.Init
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.SL.Sem Cert.Kernel30Ideal Cert.Kernel30Ideal.Gen TcCoe Fox.Optimiser

namespace Fox.Optimiser.SsmConvBias

/-- What the body computes on one block: the two averages and the step. -/
theorem pay_average (g m : FVec Ideal S1x1024 .f32) (y : S1x1024.Idx) : k0_pay1 (F := Ideal) g m y = average (m y) (g y) := by
  unfold k0_pay1; pointwise; rfl
theorem pay_average2 (g v : FVec Ideal S1x1024 .f32) (y : S1x1024.Idx) : k0_pay2 (F := Ideal) g v y = average2 (v y) (g y) := by
  unfold k0_pay2; pointwise; rfl
theorem pay_change (g m v w : FVec Ideal S1x1024 .f32) (y : S1x1024.Idx) :
    k0_pay3 (F := Ideal) g m v w y = change (w y) (g y) (m y) (v y) := by
  unfold k0_pay3; pointwise; rw [pay_average, pay_average2]; rfl

section
variable (m : (ℓ : Loc nD τ sig) → Buf (Elt Ideal) ℓ) (c : Dev nD)

theorem array_change : (dats m 0 c).arrAt 4 cfg0.N = fun i => change (V m c main_arg0 i) (V m c main_arg1 i) (V m c main_arg2 i) (V m c main_arg3 i) := by
  refine (dats m 0 c).arrAt_eq_of_covers 4 _ (by decide +kernel) fun t hf y => ?_
  blk_simp
  rw [after0_4]
  frame_out
  exact (pay_change _ _ _ _ y).trans rfl

theorem array_average : (dats m 0 c).arrAt 5 cfg0.N = fun i => average (V m c main_arg2 i) (V m c main_arg1 i) := by
  refine (dats m 0 c).arrAt_eq_of_covers 5 _ (by decide +kernel) fun t hf y => ?_
  blk_simp
  rw [after0_5]
  frame_out
  exact (pay_average _ _ y).trans rfl

theorem array_average2 : (dats m 0 c).arrAt 6 cfg0.N = fun i => average2 (V m c main_arg3 i) (V m c main_arg1 i) := by
  refine (dats m 0 c).arrAt_eq_of_covers 6 _ (by decide +kernel) fun t hf y => ?_
  blk_simp
  rw [after0_6]
  frame_out
  exact (pay_average2 _ _ y).trans rfl

end

section
variable (x0 x1 x2 x3 : Arr S1x1024)

/-- The reference's three results. -/
theorem reference_change : Cert.Reference30Ideal.Read.val_main_v23 (F := Ideal) x0 x1 x2 x3 = fun i => change (x0 i) (x1 i) (x2 i) (x3 i) := rfl
theorem reference_average : Cert.Reference30Ideal.Read.val_main_v4 (F := Ideal) x1 x2 = fun i => average (x2 i) (x1 i) := rfl
theorem reference_average2 : Cert.Reference30Ideal.Read.val_main_v10 (F := Ideal) x1 x3 = fun i => average2 (x3 i) (x1 i) := rfl
end

attribute [local instance] Cert.Kernel30.Gen.facts Cert.Kernel30Ideal.Gen.facts Cert.Reference30Ideal.Gen.facts

theorem frame_kernel : Cert.quiescent_Kernel30 := fun m ρ _ => Cert.Kernel30.Gen.frame m ρ
theorem frame_ideal : Cert.quiescent_Kernel30Ideal := fun m ρ _ => Cert.Kernel30Ideal.Gen.frame m ρ
theorem frame_reference : Cert.quiescent_Reference30Ideal := fun m ρ _ =>
  (θ_run Cert.Reference30Ideal.defs _ _).mono
    (fun r h => ⟨fun c => (h c).2.2.2, sem_eq_zero_of_no_sems (by decide) r.2⟩) (Cert.Reference30Ideal.Value.run (F := Ideal) m ρ)
theorem constants : Cert.preserves_Kernel30_Kernel30Ideal := trivial

theorem value : Cert.algebraic_Kernel30Ideal_Reference30Ideal := by
  intro m ρ m' ρ' _ hag
  refine ⟨fun c => (dats m 0 c).arrAt 4 cfg0.N, fun c => (dats m 0 c).arrAt 5 cfg0.N, fun c => (dats m 0 c).arrAt 6 cfg0.N, Value.run_blocks m ρ, ?_⟩
  refine (θ_run Cert.Reference30Ideal.defs _ _).mono (fun r h c => ?_) (Cert.Reference30Ideal.Value.run (F := Ideal) m' ρ')
  obtain ⟨a0, a1, a2, a3⟩ := hag c
  obtain ⟨h0, h1, h2, hargs⟩ := h c
  refine ⟨h0.trans ?_, h1.trans ?_, h2.trans ?_, hargs⟩
  · refine Eq.trans ?_ (array_change m c).symm
    rw [V_main_arg0, V_main_arg1, V_main_arg2, V_main_arg3, a0, a1, a2, a3]
    exact reference_change _ _ _ _
  · refine Eq.trans ?_ (array_average m c).symm
    rw [V_main_arg2, V_main_arg1, a2, a1]
    exact reference_average _ _
  · refine Eq.trans ?_ (array_average2 m c).symm
    rw [V_main_arg3, V_main_arg1, a3, a1]
    exact reference_average2 _ _

end Fox.Optimiser.SsmConvBias

end
-- ==== Proof.Fox.Optimiser.SsmHeads.lean ====
/-
  The AdamW step at the shape of ssm_dt_bias, ssm_A_log, ssm_D.
-/
module

public import proofs.«01_k».proof.Defs
public import proofs.«01_k».proof.Proof.Gen.Kernel31.Frame
public import proofs.«01_k».proof.Proof.Gen.Kernel31Ideal.Value
public import proofs.«01_k».proof.Proof.Gen.Reference31Ideal.Run
public import proofs.«01_k».proof.Proof.Gen.Reference31Ideal.Read
public import proofs.«01_k».proof.Proof.Fox.Optimiser.Common
public import Idealize.ShloMosaic.Adequacy
public import Idealize.ShloMosaic.Init
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.SL.Sem Cert.Kernel31Ideal Cert.Kernel31Ideal.Gen TcCoe Fox.Optimiser

namespace Fox.Optimiser.SsmHeads

/-- What the body computes on one block: the two averages and the step. -/
theorem pay_average (g m : FVec Ideal S1x32 .f32) (y : S1x32.Idx) : k0_pay1 (F := Ideal) g m y = average (m y) (g y) := by
  unfold k0_pay1; pointwise; rfl
theorem pay_average2 (g v : FVec Ideal S1x32 .f32) (y : S1x32.Idx) : k0_pay2 (F := Ideal) g v y = average2 (v y) (g y) := by
  unfold k0_pay2; pointwise; rfl
theorem pay_change (g m v w : FVec Ideal S1x32 .f32) (y : S1x32.Idx) :
    k0_pay3 (F := Ideal) g m v w y = change (w y) (g y) (m y) (v y) := by
  unfold k0_pay3; pointwise; rw [pay_average, pay_average2]; rfl

section
variable (m : (ℓ : Loc nD τ sig) → Buf (Elt Ideal) ℓ) (c : Dev nD)

theorem array_change : (dats m 0 c).arrAt 4 cfg0.N = fun i => change (V m c main_arg0 i) (V m c main_arg1 i) (V m c main_arg2 i) (V m c main_arg3 i) := by
  refine (dats m 0 c).arrAt_eq_of_covers 4 _ (by decide +kernel) fun t hf y => ?_
  blk_simp
  rw [after0_4]
  frame_out
  exact (pay_change _ _ _ _ y).trans rfl

theorem array_average : (dats m 0 c).arrAt 5 cfg0.N = fun i => average (V m c main_arg2 i) (V m c main_arg1 i) := by
  refine (dats m 0 c).arrAt_eq_of_covers 5 _ (by decide +kernel) fun t hf y => ?_
  blk_simp
  rw [after0_5]
  frame_out
  exact (pay_average _ _ y).trans rfl

theorem array_average2 : (dats m 0 c).arrAt 6 cfg0.N = fun i => average2 (V m c main_arg3 i) (V m c main_arg1 i) := by
  refine (dats m 0 c).arrAt_eq_of_covers 6 _ (by decide +kernel) fun t hf y => ?_
  blk_simp
  rw [after0_6]
  frame_out
  exact (pay_average2 _ _ y).trans rfl

end

section
variable (x0 x1 x2 x3 : Arr S1x32)

/-- The reference's three results. -/
theorem reference_change : Cert.Reference31Ideal.Read.val_main_v23 (F := Ideal) x0 x1 x2 x3 = fun i => change (x0 i) (x1 i) (x2 i) (x3 i) := rfl
theorem reference_average : Cert.Reference31Ideal.Read.val_main_v4 (F := Ideal) x1 x2 = fun i => average (x2 i) (x1 i) := rfl
theorem reference_average2 : Cert.Reference31Ideal.Read.val_main_v10 (F := Ideal) x1 x3 = fun i => average2 (x3 i) (x1 i) := rfl
end

attribute [local instance] Cert.Kernel31.Gen.facts Cert.Kernel31Ideal.Gen.facts Cert.Reference31Ideal.Gen.facts

theorem frame_kernel : Cert.quiescent_Kernel31 := fun m ρ _ => Cert.Kernel31.Gen.frame m ρ
theorem frame_ideal : Cert.quiescent_Kernel31Ideal := fun m ρ _ => Cert.Kernel31Ideal.Gen.frame m ρ
theorem frame_reference : Cert.quiescent_Reference31Ideal := fun m ρ _ =>
  (θ_run Cert.Reference31Ideal.defs _ _).mono
    (fun r h => ⟨fun c => (h c).2.2.2, sem_eq_zero_of_no_sems (by decide) r.2⟩) (Cert.Reference31Ideal.Value.run (F := Ideal) m ρ)
theorem constants : Cert.preserves_Kernel31_Kernel31Ideal := trivial

theorem value : Cert.algebraic_Kernel31Ideal_Reference31Ideal := by
  intro m ρ m' ρ' _ hag
  refine ⟨fun c => (dats m 0 c).arrAt 4 cfg0.N, fun c => (dats m 0 c).arrAt 5 cfg0.N, fun c => (dats m 0 c).arrAt 6 cfg0.N, Value.run_blocks m ρ, ?_⟩
  refine (θ_run Cert.Reference31Ideal.defs _ _).mono (fun r h c => ?_) (Cert.Reference31Ideal.Value.run (F := Ideal) m' ρ')
  obtain ⟨a0, a1, a2, a3⟩ := hag c
  obtain ⟨h0, h1, h2, hargs⟩ := h c
  refine ⟨h0.trans ?_, h1.trans ?_, h2.trans ?_, hargs⟩
  · refine Eq.trans ?_ (array_change m c).symm
    rw [V_main_arg0, V_main_arg1, V_main_arg2, V_main_arg3, a0, a1, a2, a3]
    exact reference_change _ _ _ _
  · refine Eq.trans ?_ (array_average m c).symm
    rw [V_main_arg2, V_main_arg1, a2, a1]
    exact reference_average _ _
  · refine Eq.trans ?_ (array_average2 m c).symm
    rw [V_main_arg3, V_main_arg1, a3, a1]
    exact reference_average2 _ _

end Fox.Optimiser.SsmHeads

end
-- ==== Proof.Fox.Optimiser.SsmNorm.lean ====
/-
  The AdamW step at the shape of ssm_norm_w.
-/
module

public import proofs.«01_k».proof.Defs
public import proofs.«01_k».proof.Proof.Gen.Kernel32.Frame
public import proofs.«01_k».proof.Proof.Gen.Kernel32Ideal.Value
public import proofs.«01_k».proof.Proof.Gen.Reference32Ideal.Run
public import proofs.«01_k».proof.Proof.Gen.Reference32Ideal.Read
public import proofs.«01_k».proof.Proof.Fox.Optimiser.Common
public import Idealize.ShloMosaic.Adequacy
public import Idealize.ShloMosaic.Init
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.SL.Sem Cert.Kernel32Ideal Cert.Kernel32Ideal.Gen TcCoe Fox.Optimiser

namespace Fox.Optimiser.SsmNorm

/-- What the body computes on one block: the two averages and the step. -/
theorem pay_average (g m : FVec Ideal S1x512 .f32) (y : S1x512.Idx) : k0_pay1 (F := Ideal) g m y = average (m y) (g y) := by
  unfold k0_pay1; pointwise; rfl
theorem pay_average2 (g v : FVec Ideal S1x512 .f32) (y : S1x512.Idx) : k0_pay2 (F := Ideal) g v y = average2 (v y) (g y) := by
  unfold k0_pay2; pointwise; rfl
theorem pay_change (g m v w : FVec Ideal S1x512 .f32) (y : S1x512.Idx) :
    k0_pay3 (F := Ideal) g m v w y = change (w y) (g y) (m y) (v y) := by
  unfold k0_pay3; pointwise; rw [pay_average, pay_average2]; rfl

section
variable (m : (ℓ : Loc nD τ sig) → Buf (Elt Ideal) ℓ) (c : Dev nD)

theorem array_change : (dats m 0 c).arrAt 4 cfg0.N = fun i => change (V m c main_arg0 i) (V m c main_arg1 i) (V m c main_arg2 i) (V m c main_arg3 i) := by
  refine (dats m 0 c).arrAt_eq_of_covers 4 _ (by decide +kernel) fun t hf y => ?_
  blk_simp
  rw [after0_4]
  frame_out
  exact (pay_change _ _ _ _ y).trans rfl

theorem array_average : (dats m 0 c).arrAt 5 cfg0.N = fun i => average (V m c main_arg2 i) (V m c main_arg1 i) := by
  refine (dats m 0 c).arrAt_eq_of_covers 5 _ (by decide +kernel) fun t hf y => ?_
  blk_simp
  rw [after0_5]
  frame_out
  exact (pay_average _ _ y).trans rfl

theorem array_average2 : (dats m 0 c).arrAt 6 cfg0.N = fun i => average2 (V m c main_arg3 i) (V m c main_arg1 i) := by
  refine (dats m 0 c).arrAt_eq_of_covers 6 _ (by decide +kernel) fun t hf y => ?_
  blk_simp
  rw [after0_6]
  frame_out
  exact (pay_average2 _ _ y).trans rfl

end

section
variable (x0 x1 x2 x3 : Arr S1x512)

/-- The reference's three results. -/
theorem reference_change : Cert.Reference32Ideal.Read.val_main_v23 (F := Ideal) x0 x1 x2 x3 = fun i => change (x0 i) (x1 i) (x2 i) (x3 i) := rfl
theorem reference_average : Cert.Reference32Ideal.Read.val_main_v4 (F := Ideal) x1 x2 = fun i => average (x2 i) (x1 i) := rfl
theorem reference_average2 : Cert.Reference32Ideal.Read.val_main_v10 (F := Ideal) x1 x3 = fun i => average2 (x3 i) (x1 i) := rfl
end

attribute [local instance] Cert.Kernel32.Gen.facts Cert.Kernel32Ideal.Gen.facts Cert.Reference32Ideal.Gen.facts

theorem frame_kernel : Cert.quiescent_Kernel32 := fun m ρ _ => Cert.Kernel32.Gen.frame m ρ
theorem frame_ideal : Cert.quiescent_Kernel32Ideal := fun m ρ _ => Cert.Kernel32Ideal.Gen.frame m ρ
theorem frame_reference : Cert.quiescent_Reference32Ideal := fun m ρ _ =>
  (θ_run Cert.Reference32Ideal.defs _ _).mono
    (fun r h => ⟨fun c => (h c).2.2.2, sem_eq_zero_of_no_sems (by decide) r.2⟩) (Cert.Reference32Ideal.Value.run (F := Ideal) m ρ)
theorem constants : Cert.preserves_Kernel32_Kernel32Ideal := trivial

theorem value : Cert.algebraic_Kernel32Ideal_Reference32Ideal := by
  intro m ρ m' ρ' _ hag
  refine ⟨fun c => (dats m 0 c).arrAt 4 cfg0.N, fun c => (dats m 0 c).arrAt 5 cfg0.N, fun c => (dats m 0 c).arrAt 6 cfg0.N, Value.run_blocks m ρ, ?_⟩
  refine (θ_run Cert.Reference32Ideal.defs _ _).mono (fun r h c => ?_) (Cert.Reference32Ideal.Value.run (F := Ideal) m' ρ')
  obtain ⟨a0, a1, a2, a3⟩ := hag c
  obtain ⟨h0, h1, h2, hargs⟩ := h c
  refine ⟨h0.trans ?_, h1.trans ?_, h2.trans ?_, hargs⟩
  · refine Eq.trans ?_ (array_change m c).symm
    rw [V_main_arg0, V_main_arg1, V_main_arg2, V_main_arg3, a0, a1, a2, a3]
    exact reference_change _ _ _ _
  · refine Eq.trans ?_ (array_average m c).symm
    rw [V_main_arg2, V_main_arg1, a2, a1]
    exact reference_average _ _
  · refine Eq.trans ?_ (array_average2 m c).symm
    rw [V_main_arg3, V_main_arg1, a3, a1]
    exact reference_average2 _ _

end Fox.Optimiser.SsmNorm

end
-- ==== Proof.Fox.Optimiser.SsmOut.lean ====
/-
  The AdamW step at the shape of ssm_w_out.
-/
module

public import proofs.«01_k».proof.Defs
public import proofs.«01_k».proof.Proof.Gen.Kernel33.Frame
public import proofs.«01_k».proof.Proof.Gen.Kernel33Ideal.Value
public import proofs.«01_k».proof.Proof.Gen.Reference33Ideal.Run
public import proofs.«01_k».proof.Proof.Gen.Reference33Ideal.Read
public import proofs.«01_k».proof.Proof.Fox.Optimiser.Common
public import Idealize.ShloMosaic.Adequacy
public import Idealize.ShloMosaic.Init
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.SL.Sem Cert.Kernel33Ideal Cert.Kernel33Ideal.Gen TcCoe Fox.Optimiser

namespace Fox.Optimiser.SsmOut

/-- What the body computes on one block: the two averages and the step. -/
theorem pay_average (g m : FVec Ideal S256x1024 .f32) (y : S256x1024.Idx) : k0_pay2 (F := Ideal) g m y = average (m y) (g y) := by
  unfold k0_pay2 k0_pay1; pointwise; rfl
theorem pay_average2 (g v : FVec Ideal S256x1024 .f32) (y : S256x1024.Idx) : k0_pay3 (F := Ideal) g v y = average2 (v y) (g y) := by
  unfold k0_pay3 k0_pay1; pointwise; rfl
theorem pay_change (g m v w : FVec Ideal S256x1024 .f32) (y : S256x1024.Idx) :
    k0_pay4 (F := Ideal) g m v w y = change (w y) (g y) (m y) (v y) := by
  unfold k0_pay4; pointwise; rw [pay_average, pay_average2]; rfl

section
variable (m : (ℓ : Loc nD τ sig) → Buf (Elt Ideal) ℓ) (c : Dev nD)

theorem V_0 : V m c main_v0 = (shapeCast S512x1024 (m ((c : Thread nD τ).loc main_arg0)) shapeCasts_S1x512x1024_S512x1024) := by
  unfold V
  after_reads_simp
  rfl
theorem V_1 : V m c main_v1 = (shapeCast S512x1024 (m ((c : Thread nD τ).loc main_arg1)) shapeCasts_S1x512x1024_S512x1024) := by
  unfold V
  after_reads_simp
  rfl
theorem V_2 : V m c main_v2 = (shapeCast S512x1024 (m ((c : Thread nD τ).loc main_arg2)) shapeCasts_S1x512x1024_S512x1024) := by
  unfold V
  after_reads_simp
  rfl
theorem V_3 : V m c main_v3 = (shapeCast S512x1024 (m ((c : Thread nD τ).loc main_arg3)) shapeCasts_S1x512x1024_S512x1024) := by
  unfold V
  after_reads_simp
  rfl

theorem array_change : (dats m 0 c).arrAt 4 cfg0.N = fun i => change (V m c main_v0 i) (V m c main_v1 i) (V m c main_v2 i) (V m c main_v3 i) := by
  refine (dats m 0 c).arrAt_eq_of_covers 4 _ (by decide +kernel) fun t hf y => ?_
  blk_simp
  rw [after0_4]
  frame_out
  exact (pay_change _ _ _ _ y).trans rfl

theorem array_average : (dats m 0 c).arrAt 5 cfg0.N = fun i => average (V m c main_v2 i) (V m c main_v1 i) := by
  refine (dats m 0 c).arrAt_eq_of_covers 5 _ (by decide +kernel) fun t hf y => ?_
  blk_simp
  rw [after0_5]
  frame_out
  exact (pay_average _ _ y).trans rfl

theorem array_average2 : (dats m 0 c).arrAt 6 cfg0.N = fun i => average2 (V m c main_v3 i) (V m c main_v1 i) := by
  refine (dats m 0 c).arrAt_eq_of_covers 6 _ (by decide +kernel) fun t hf y => ?_
  blk_simp
  rw [after0_6]
  frame_out
  exact (pay_average2 _ _ y).trans rfl

end

section
variable (x0 x1 x2 x3 : Arr S1x512x1024)

/-- The reference's three results. -/
theorem reference_change : Cert.Reference33Ideal.Read.val_main_v24 (F := Ideal) x0 x1 x2 x3 = fun i => change ((shapeCast S512x1024 x0 shapeCasts_S1x512x1024_S512x1024) i) ((shapeCast S512x1024 x1 shapeCasts_S1x512x1024_S512x1024) i) ((shapeCast S512x1024 x2 shapeCasts_S1x512x1024_S512x1024) i) ((shapeCast S512x1024 x3 shapeCasts_S1x512x1024_S512x1024) i) := rfl
theorem reference_average : Cert.Reference33Ideal.Read.val_main_v25 (F := Ideal) x1 x2 = fun i => average ((shapeCast S512x1024 x2 shapeCasts_S1x512x1024_S512x1024) i) ((shapeCast S512x1024 x1 shapeCasts_S1x512x1024_S512x1024) i) := rfl
theorem reference_average2 : Cert.Reference33Ideal.Read.val_main_v26 (F := Ideal) x1 x3 = fun i => average2 ((shapeCast S512x1024 x3 shapeCasts_S1x512x1024_S512x1024) i) ((shapeCast S512x1024 x1 shapeCasts_S1x512x1024_S512x1024) i) := rfl
end

attribute [local instance] Cert.Kernel33.Gen.facts Cert.Kernel33Ideal.Gen.facts Cert.Reference33Ideal.Gen.facts

theorem frame_kernel : Cert.quiescent_Kernel33 := fun m ρ _ => Cert.Kernel33.Gen.frame m ρ
theorem frame_ideal : Cert.quiescent_Kernel33Ideal := fun m ρ _ => Cert.Kernel33Ideal.Gen.frame m ρ
theorem frame_reference : Cert.quiescent_Reference33Ideal := fun m ρ _ =>
  (θ_run Cert.Reference33Ideal.defs _ _).mono
    (fun r h => ⟨fun c => (h c).2.2.2, sem_eq_zero_of_no_sems (by decide) r.2⟩) (Cert.Reference33Ideal.Value.run (F := Ideal) m ρ)
theorem constants : Cert.preserves_Kernel33_Kernel33Ideal := trivial

theorem value : Cert.algebraic_Kernel33Ideal_Reference33Ideal := by
  intro m ρ m' ρ' _ hag
  refine ⟨fun c => (dats m 0 c).arrAt 4 cfg0.N, fun c => (dats m 0 c).arrAt 5 cfg0.N, fun c => (dats m 0 c).arrAt 6 cfg0.N, Value.run_blocks m ρ, ?_⟩
  refine (θ_run Cert.Reference33Ideal.defs _ _).mono (fun r h c => ?_) (Cert.Reference33Ideal.Value.run (F := Ideal) m' ρ')
  obtain ⟨a0, a1, a2, a3⟩ := hag c
  obtain ⟨h0, h1, h2, hargs⟩ := h c
  refine ⟨h0.trans ?_, h1.trans ?_, h2.trans ?_, hargs⟩
  · refine Eq.trans ?_ (array_change m c).symm
    rw [V_0, V_1, V_2, V_3, a0, a1, a2, a3]
    exact reference_change _ _ _ _
  · refine Eq.trans ?_ (array_average m c).symm
    rw [V_2, V_1, a2, a1]
    exact reference_average _ _
  · refine Eq.trans ?_ (array_average2 m c).symm
    rw [V_3, V_1, a3, a1]
    exact reference_average2 _ _

end Fox.Optimiser.SsmOut

end
-- ==== Proof.Fox.Optimiser.Vectors.lean ====
/-
  The AdamW step at the shape of ln_mix_g, ln_mix_b, ln_ffn_g, ln_ffn_b, ple_b_gate.
-/
module

public import proofs.«01_k».proof.Defs
public import proofs.«01_k».proof.Proof.Gen.Kernel34.Frame
public import proofs.«01_k».proof.Proof.Gen.Kernel34Ideal.Value
public import proofs.«01_k».proof.Proof.Gen.Reference34Ideal.Run
public import proofs.«01_k».proof.Proof.Gen.Reference34Ideal.Read
public import proofs.«01_k».proof.Proof.Fox.Optimiser.Common
public import Idealize.ShloMosaic.Adequacy
public import Idealize.ShloMosaic.Init
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.SL.Sem Cert.Kernel34Ideal Cert.Kernel34Ideal.Gen TcCoe Fox.Optimiser

namespace Fox.Optimiser.Vectors

/-- What the body computes on one block: the two averages and the step. -/
theorem pay_average (g m : FVec Ideal S2x1024 .f32) (y : S2x1024.Idx) : k0_pay1 (F := Ideal) g m y = average (m y) (g y) := by
  unfold k0_pay1; pointwise; rfl
theorem pay_average2 (g v : FVec Ideal S2x1024 .f32) (y : S2x1024.Idx) : k0_pay2 (F := Ideal) g v y = average2 (v y) (g y) := by
  unfold k0_pay2; pointwise; rfl
theorem pay_change (g m v w : FVec Ideal S2x1024 .f32) (y : S2x1024.Idx) :
    k0_pay3 (F := Ideal) g m v w y = change (w y) (g y) (m y) (v y) := by
  unfold k0_pay3; pointwise; rw [pay_average, pay_average2]; rfl

section
variable (m : (ℓ : Loc nD τ sig) → Buf (Elt Ideal) ℓ) (c : Dev nD)

theorem array_change : (dats m 0 c).arrAt 4 cfg0.N = fun i => change (V m c main_arg0 i) (V m c main_arg1 i) (V m c main_arg2 i) (V m c main_arg3 i) := by
  refine (dats m 0 c).arrAt_eq_of_covers 4 _ (by decide +kernel) fun t hf y => ?_
  blk_simp
  rw [after0_4]
  frame_out
  exact (pay_change _ _ _ _ y).trans rfl

theorem array_average : (dats m 0 c).arrAt 5 cfg0.N = fun i => average (V m c main_arg2 i) (V m c main_arg1 i) := by
  refine (dats m 0 c).arrAt_eq_of_covers 5 _ (by decide +kernel) fun t hf y => ?_
  blk_simp
  rw [after0_5]
  frame_out
  exact (pay_average _ _ y).trans rfl

theorem array_average2 : (dats m 0 c).arrAt 6 cfg0.N = fun i => average2 (V m c main_arg3 i) (V m c main_arg1 i) := by
  refine (dats m 0 c).arrAt_eq_of_covers 6 _ (by decide +kernel) fun t hf y => ?_
  blk_simp
  rw [after0_6]
  frame_out
  exact (pay_average2 _ _ y).trans rfl

end

section
variable (x0 x1 x2 x3 : Arr S2x1024)

/-- The reference's three results. -/
theorem reference_change : Cert.Reference34Ideal.Read.val_main_v23 (F := Ideal) x0 x1 x2 x3 = fun i => change (x0 i) (x1 i) (x2 i) (x3 i) := rfl
theorem reference_average : Cert.Reference34Ideal.Read.val_main_v4 (F := Ideal) x1 x2 = fun i => average (x2 i) (x1 i) := rfl
theorem reference_average2 : Cert.Reference34Ideal.Read.val_main_v10 (F := Ideal) x1 x3 = fun i => average2 (x3 i) (x1 i) := rfl
end

attribute [local instance] Cert.Kernel34.Gen.facts Cert.Kernel34Ideal.Gen.facts Cert.Reference34Ideal.Gen.facts

theorem frame_kernel : Cert.quiescent_Kernel34 := fun m ρ _ => Cert.Kernel34.Gen.frame m ρ
theorem frame_ideal : Cert.quiescent_Kernel34Ideal := fun m ρ _ => Cert.Kernel34Ideal.Gen.frame m ρ
theorem frame_reference : Cert.quiescent_Reference34Ideal := fun m ρ _ =>
  (θ_run Cert.Reference34Ideal.defs _ _).mono
    (fun r h => ⟨fun c => (h c).2.2.2, sem_eq_zero_of_no_sems (by decide) r.2⟩) (Cert.Reference34Ideal.Value.run (F := Ideal) m ρ)
theorem constants : Cert.preserves_Kernel34_Kernel34Ideal := trivial

theorem value : Cert.algebraic_Kernel34Ideal_Reference34Ideal := by
  intro m ρ m' ρ' _ hag
  refine ⟨fun c => (dats m 0 c).arrAt 4 cfg0.N, fun c => (dats m 0 c).arrAt 5 cfg0.N, fun c => (dats m 0 c).arrAt 6 cfg0.N, Value.run_blocks m ρ, ?_⟩
  refine (θ_run Cert.Reference34Ideal.defs _ _).mono (fun r h c => ?_) (Cert.Reference34Ideal.Value.run (F := Ideal) m' ρ')
  obtain ⟨a0, a1, a2, a3⟩ := hag c
  obtain ⟨h0, h1, h2, hargs⟩ := h c
  refine ⟨h0.trans ?_, h1.trans ?_, h2.trans ?_, hargs⟩
  · refine Eq.trans ?_ (array_change m c).symm
    rw [V_main_arg0, V_main_arg1, V_main_arg2, V_main_arg3, a0, a1, a2, a3]
    exact reference_change _ _ _ _
  · refine Eq.trans ?_ (array_average m c).symm
    rw [V_main_arg2, V_main_arg1, a2, a1]
    exact reference_average _ _
  · refine Eq.trans ?_ (array_average2 m c).symm
    rw [V_main_arg3, V_main_arg1, a3, a1]
    exact reference_average2 _ _

end Fox.Optimiser.Vectors

end
-- ==== Proof.Fox.Optimiser.FfnUp.lean ====
/-
  The AdamW step at the shape of ffn_w_up.
-/
module

public import proofs.«01_k».proof.Defs
public import proofs.«01_k».proof.Proof.Gen.Kernel35.Frame
public import proofs.«01_k».proof.Proof.Gen.Kernel35Ideal.Value
public import proofs.«01_k».proof.Proof.Gen.Reference35Ideal.Run
public import proofs.«01_k».proof.Proof.Gen.Reference35Ideal.Read
public import proofs.«01_k».proof.Proof.Fox.Optimiser.Common
public import Idealize.ShloMosaic.Adequacy
public import Idealize.ShloMosaic.Init
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.SL.Sem Cert.Kernel35Ideal Cert.Kernel35Ideal.Gen TcCoe Fox.Optimiser

namespace Fox.Optimiser.FfnUp

/-- What the body computes on one block: the two averages and the step. -/
theorem pay_average (g m : FVec Ideal S256x1408 .f32) (y : S256x1408.Idx) : k0_pay2 (F := Ideal) g m y = average (m y) (g y) := by
  unfold k0_pay2 k0_pay1; pointwise; rfl
theorem pay_average2 (g v : FVec Ideal S256x1408 .f32) (y : S256x1408.Idx) : k0_pay3 (F := Ideal) g v y = average2 (v y) (g y) := by
  unfold k0_pay3 k0_pay1; pointwise; rfl
theorem pay_change (g m v w : FVec Ideal S256x1408 .f32) (y : S256x1408.Idx) :
    k0_pay4 (F := Ideal) g m v w y = change (w y) (g y) (m y) (v y) := by
  unfold k0_pay4; pointwise; rw [pay_average, pay_average2]; rfl

section
variable (m : (ℓ : Loc nD τ sig) → Buf (Elt Ideal) ℓ) (c : Dev nD)

theorem V_0 : V m c main_v0 = (shapeCast S2048x1408 (m ((c : Thread nD τ).loc main_arg0)) shapeCasts_S2x1024x1408_S2048x1408) := by
  unfold V
  after_reads_simp
  rfl
theorem V_1 : V m c main_v1 = (shapeCast S2048x1408 (m ((c : Thread nD τ).loc main_arg1)) shapeCasts_S2x1024x1408_S2048x1408) := by
  unfold V
  after_reads_simp
  rfl
theorem V_2 : V m c main_v2 = (shapeCast S2048x1408 (m ((c : Thread nD τ).loc main_arg2)) shapeCasts_S2x1024x1408_S2048x1408) := by
  unfold V
  after_reads_simp
  rfl
theorem V_3 : V m c main_v3 = (shapeCast S2048x1408 (m ((c : Thread nD τ).loc main_arg3)) shapeCasts_S2x1024x1408_S2048x1408) := by
  unfold V
  after_reads_simp
  rfl

theorem array_change : (dats m 0 c).arrAt 4 cfg0.N = fun i => change (V m c main_v0 i) (V m c main_v1 i) (V m c main_v2 i) (V m c main_v3 i) := by
  refine (dats m 0 c).arrAt_eq_of_covers 4 _ (by decide +kernel) fun t hf y => ?_
  blk_simp
  rw [after0_4]
  frame_out
  exact (pay_change _ _ _ _ y).trans rfl

theorem array_average : (dats m 0 c).arrAt 5 cfg0.N = fun i => average (V m c main_v2 i) (V m c main_v1 i) := by
  refine (dats m 0 c).arrAt_eq_of_covers 5 _ (by decide +kernel) fun t hf y => ?_
  blk_simp
  rw [after0_5]
  frame_out
  exact (pay_average _ _ y).trans rfl

theorem array_average2 : (dats m 0 c).arrAt 6 cfg0.N = fun i => average2 (V m c main_v3 i) (V m c main_v1 i) := by
  refine (dats m 0 c).arrAt_eq_of_covers 6 _ (by decide +kernel) fun t hf y => ?_
  blk_simp
  rw [after0_6]
  frame_out
  exact (pay_average2 _ _ y).trans rfl

end

section
variable (x0 x1 x2 x3 : Arr S2x1024x1408)

/-- The reference's three results. -/
theorem reference_change : Cert.Reference35Ideal.Read.val_main_v24 (F := Ideal) x0 x1 x2 x3 = fun i => change ((shapeCast S2048x1408 x0 shapeCasts_S2x1024x1408_S2048x1408) i) ((shapeCast S2048x1408 x1 shapeCasts_S2x1024x1408_S2048x1408) i) ((shapeCast S2048x1408 x2 shapeCasts_S2x1024x1408_S2048x1408) i) ((shapeCast S2048x1408 x3 shapeCasts_S2x1024x1408_S2048x1408) i) := rfl
theorem reference_average : Cert.Reference35Ideal.Read.val_main_v25 (F := Ideal) x1 x2 = fun i => average ((shapeCast S2048x1408 x2 shapeCasts_S2x1024x1408_S2048x1408) i) ((shapeCast S2048x1408 x1 shapeCasts_S2x1024x1408_S2048x1408) i) := rfl
theorem reference_average2 : Cert.Reference35Ideal.Read.val_main_v26 (F := Ideal) x1 x3 = fun i => average2 ((shapeCast S2048x1408 x3 shapeCasts_S2x1024x1408_S2048x1408) i) ((shapeCast S2048x1408 x1 shapeCasts_S2x1024x1408_S2048x1408) i) := rfl
end

attribute [local instance] Cert.Kernel35.Gen.facts Cert.Kernel35Ideal.Gen.facts Cert.Reference35Ideal.Gen.facts

theorem frame_kernel : Cert.quiescent_Kernel35 := fun m ρ _ => Cert.Kernel35.Gen.frame m ρ
theorem frame_ideal : Cert.quiescent_Kernel35Ideal := fun m ρ _ => Cert.Kernel35Ideal.Gen.frame m ρ
theorem frame_reference : Cert.quiescent_Reference35Ideal := fun m ρ _ =>
  (θ_run Cert.Reference35Ideal.defs _ _).mono
    (fun r h => ⟨fun c => (h c).2.2.2, sem_eq_zero_of_no_sems (by decide) r.2⟩) (Cert.Reference35Ideal.Value.run (F := Ideal) m ρ)
theorem constants : Cert.preserves_Kernel35_Kernel35Ideal := trivial

theorem value : Cert.algebraic_Kernel35Ideal_Reference35Ideal := by
  intro m ρ m' ρ' _ hag
  refine ⟨fun c => (dats m 0 c).arrAt 4 cfg0.N, fun c => (dats m 0 c).arrAt 5 cfg0.N, fun c => (dats m 0 c).arrAt 6 cfg0.N, Value.run_blocks m ρ, ?_⟩
  refine (θ_run Cert.Reference35Ideal.defs _ _).mono (fun r h c => ?_) (Cert.Reference35Ideal.Value.run (F := Ideal) m' ρ')
  obtain ⟨a0, a1, a2, a3⟩ := hag c
  obtain ⟨h0, h1, h2, hargs⟩ := h c
  refine ⟨h0.trans ?_, h1.trans ?_, h2.trans ?_, hargs⟩
  · refine Eq.trans ?_ (array_change m c).symm
    rw [V_0, V_1, V_2, V_3, a0, a1, a2, a3]
    exact reference_change _ _ _ _
  · refine Eq.trans ?_ (array_average m c).symm
    rw [V_2, V_1, a2, a1]
    exact reference_average _ _
  · refine Eq.trans ?_ (array_average2 m c).symm
    rw [V_3, V_1, a3, a1]
    exact reference_average2 _ _

end Fox.Optimiser.FfnUp

end
-- ==== Proof.Fox.Optimiser.FfnConv.lean ====
/-
  The AdamW step at the shape of ffn_conv_w.
-/
module

public import proofs.«01_k».proof.Defs
public import proofs.«01_k».proof.Proof.Gen.Kernel36.Frame
public import proofs.«01_k».proof.Proof.Gen.Kernel36Ideal.Value
public import proofs.«01_k».proof.Proof.Gen.Reference36Ideal.Run
public import proofs.«01_k».proof.Proof.Gen.Reference36Ideal.Read
public import proofs.«01_k».proof.Proof.Fox.Optimiser.Common
public import Idealize.ShloMosaic.Adequacy
public import Idealize.ShloMosaic.Init
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.SL.Sem Cert.Kernel36Ideal Cert.Kernel36Ideal.Gen TcCoe Fox.Optimiser

namespace Fox.Optimiser.FfnConv

/-- What the body computes on one block: the two averages and the step. -/
theorem pay_average (g m : FVec Ideal S6x704 .f32) (y : S6x704.Idx) : k0_pay2 (F := Ideal) g m y = average (m y) (g y) := by
  unfold k0_pay2 k0_pay1; pointwise; rfl
theorem pay_average2 (g v : FVec Ideal S6x704 .f32) (y : S6x704.Idx) : k0_pay3 (F := Ideal) g v y = average2 (v y) (g y) := by
  unfold k0_pay3 k0_pay1; pointwise; rfl
theorem pay_change (g m v w : FVec Ideal S6x704 .f32) (y : S6x704.Idx) :
    k0_pay4 (F := Ideal) g m v w y = change (w y) (g y) (m y) (v y) := by
  unfold k0_pay4; pointwise; rw [pay_average, pay_average2]; rfl

section
variable (m : (ℓ : Loc nD τ sig) → Buf (Elt Ideal) ℓ) (c : Dev nD)

theorem V_0 : V m c main_v0 = (shapeCast S6x704 (m ((c : Thread nD τ).loc main_arg0)) shapeCasts_S2x3x704_S6x704) := by
  unfold V
  after_reads_simp
  rfl
theorem V_1 : V m c main_v1 = (shapeCast S6x704 (m ((c : Thread nD τ).loc main_arg1)) shapeCasts_S2x3x704_S6x704) := by
  unfold V
  after_reads_simp
  rfl
theorem V_2 : V m c main_v2 = (shapeCast S6x704 (m ((c : Thread nD τ).loc main_arg2)) shapeCasts_S2x3x704_S6x704) := by
  unfold V
  after_reads_simp
  rfl
theorem V_3 : V m c main_v3 = (shapeCast S6x704 (m ((c : Thread nD τ).loc main_arg3)) shapeCasts_S2x3x704_S6x704) := by
  unfold V
  after_reads_simp
  rfl

theorem array_change : (dats m 0 c).arrAt 4 cfg0.N = fun i => change (V m c main_v0 i) (V m c main_v1 i) (V m c main_v2 i) (V m c main_v3 i) := by
  refine (dats m 0 c).arrAt_eq_of_covers 4 _ (by decide +kernel) fun t hf y => ?_
  blk_simp
  rw [after0_4]
  frame_out
  exact (pay_change _ _ _ _ y).trans rfl

theorem array_average : (dats m 0 c).arrAt 5 cfg0.N = fun i => average (V m c main_v2 i) (V m c main_v1 i) := by
  refine (dats m 0 c).arrAt_eq_of_covers 5 _ (by decide +kernel) fun t hf y => ?_
  blk_simp
  rw [after0_5]
  frame_out
  exact (pay_average _ _ y).trans rfl

theorem array_average2 : (dats m 0 c).arrAt 6 cfg0.N = fun i => average2 (V m c main_v3 i) (V m c main_v1 i) := by
  refine (dats m 0 c).arrAt_eq_of_covers 6 _ (by decide +kernel) fun t hf y => ?_
  blk_simp
  rw [after0_6]
  frame_out
  exact (pay_average2 _ _ y).trans rfl

end

section
variable (x0 x1 x2 x3 : Arr S2x3x704)

/-- The reference's three results. -/
theorem reference_change : Cert.Reference36Ideal.Read.val_main_v24 (F := Ideal) x0 x1 x2 x3 = fun i => change ((shapeCast S6x704 x0 shapeCasts_S2x3x704_S6x704) i) ((shapeCast S6x704 x1 shapeCasts_S2x3x704_S6x704) i) ((shapeCast S6x704 x2 shapeCasts_S2x3x704_S6x704) i) ((shapeCast S6x704 x3 shapeCasts_S2x3x704_S6x704) i) := rfl
theorem reference_average : Cert.Reference36Ideal.Read.val_main_v25 (F := Ideal) x1 x2 = fun i => average ((shapeCast S6x704 x2 shapeCasts_S2x3x704_S6x704) i) ((shapeCast S6x704 x1 shapeCasts_S2x3x704_S6x704) i) := rfl
theorem reference_average2 : Cert.Reference36Ideal.Read.val_main_v26 (F := Ideal) x1 x3 = fun i => average2 ((shapeCast S6x704 x3 shapeCasts_S2x3x704_S6x704) i) ((shapeCast S6x704 x1 shapeCasts_S2x3x704_S6x704) i) := rfl
end

attribute [local instance] Cert.Kernel36.Gen.facts Cert.Kernel36Ideal.Gen.facts Cert.Reference36Ideal.Gen.facts

theorem frame_kernel : Cert.quiescent_Kernel36 := fun m ρ _ => Cert.Kernel36.Gen.frame m ρ
theorem frame_ideal : Cert.quiescent_Kernel36Ideal := fun m ρ _ => Cert.Kernel36Ideal.Gen.frame m ρ
theorem frame_reference : Cert.quiescent_Reference36Ideal := fun m ρ _ =>
  (θ_run Cert.Reference36Ideal.defs _ _).mono
    (fun r h => ⟨fun c => (h c).2.2.2, sem_eq_zero_of_no_sems (by decide) r.2⟩) (Cert.Reference36Ideal.Value.run (F := Ideal) m ρ)
theorem constants : Cert.preserves_Kernel36_Kernel36Ideal := trivial

theorem value : Cert.algebraic_Kernel36Ideal_Reference36Ideal := by
  intro m ρ m' ρ' _ hag
  refine ⟨fun c => (dats m 0 c).arrAt 4 cfg0.N, fun c => (dats m 0 c).arrAt 5 cfg0.N, fun c => (dats m 0 c).arrAt 6 cfg0.N, Value.run_blocks m ρ, ?_⟩
  refine (θ_run Cert.Reference36Ideal.defs _ _).mono (fun r h c => ?_) (Cert.Reference36Ideal.Value.run (F := Ideal) m' ρ')
  obtain ⟨a0, a1, a2, a3⟩ := hag c
  obtain ⟨h0, h1, h2, hargs⟩ := h c
  refine ⟨h0.trans ?_, h1.trans ?_, h2.trans ?_, hargs⟩
  · refine Eq.trans ?_ (array_change m c).symm
    rw [V_0, V_1, V_2, V_3, a0, a1, a2, a3]
    exact reference_change _ _ _ _
  · refine Eq.trans ?_ (array_average m c).symm
    rw [V_2, V_1, a2, a1]
    exact reference_average _ _
  · refine Eq.trans ?_ (array_average2 m c).symm
    rw [V_3, V_1, a3, a1]
    exact reference_average2 _ _

end Fox.Optimiser.FfnConv

end
-- ==== Proof.Fox.Optimiser.FfnConvBias.lean ====
/-
  The AdamW step at the shape of ffn_conv_b.
-/
module

public import proofs.«01_k».proof.Defs
public import proofs.«01_k».proof.Proof.Gen.Kernel37.Frame
public import proofs.«01_k».proof.Proof.Gen.Kernel37Ideal.Value
public import proofs.«01_k».proof.Proof.Gen.Reference37Ideal.Run
public import proofs.«01_k».proof.Proof.Gen.Reference37Ideal.Read
public import proofs.«01_k».proof.Proof.Fox.Optimiser.Common
public import Idealize.ShloMosaic.Adequacy
public import Idealize.ShloMosaic.Init
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.SL.Sem Cert.Kernel37Ideal Cert.Kernel37Ideal.Gen TcCoe Fox.Optimiser

namespace Fox.Optimiser.FfnConvBias

/-- What the body computes on one block: the two averages and the step. -/
theorem pay_average (g m : FVec Ideal S2x2816 .f32) (y : S2x2816.Idx) : k0_pay1 (F := Ideal) g m y = average (m y) (g y) := by
  unfold k0_pay1; pointwise; rfl
theorem pay_average2 (g v : FVec Ideal S2x2816 .f32) (y : S2x2816.Idx) : k0_pay2 (F := Ideal) g v y = average2 (v y) (g y) := by
  unfold k0_pay2; pointwise; rfl
theorem pay_change (g m v w : FVec Ideal S2x2816 .f32) (y : S2x2816.Idx) :
    k0_pay3 (F := Ideal) g m v w y = change (w y) (g y) (m y) (v y) := by
  unfold k0_pay3; pointwise; rw [pay_average, pay_average2]; rfl

section
variable (m : (ℓ : Loc nD τ sig) → Buf (Elt Ideal) ℓ) (c : Dev nD)

theorem array_change : (dats m 0 c).arrAt 4 cfg0.N = fun i => change (V m c main_arg0 i) (V m c main_arg1 i) (V m c main_arg2 i) (V m c main_arg3 i) := by
  refine (dats m 0 c).arrAt_eq_of_covers 4 _ (by decide +kernel) fun t hf y => ?_
  blk_simp
  rw [after0_4]
  frame_out
  exact (pay_change _ _ _ _ y).trans rfl

theorem array_average : (dats m 0 c).arrAt 5 cfg0.N = fun i => average (V m c main_arg2 i) (V m c main_arg1 i) := by
  refine (dats m 0 c).arrAt_eq_of_covers 5 _ (by decide +kernel) fun t hf y => ?_
  blk_simp
  rw [after0_5]
  frame_out
  exact (pay_average _ _ y).trans rfl

theorem array_average2 : (dats m 0 c).arrAt 6 cfg0.N = fun i => average2 (V m c main_arg3 i) (V m c main_arg1 i) := by
  refine (dats m 0 c).arrAt_eq_of_covers 6 _ (by decide +kernel) fun t hf y => ?_
  blk_simp
  rw [after0_6]
  frame_out
  exact (pay_average2 _ _ y).trans rfl

end

section
variable (x0 x1 x2 x3 : Arr S2x2816)

/-- The reference's three results. -/
theorem reference_change : Cert.Reference37Ideal.Read.val_main_v23 (F := Ideal) x0 x1 x2 x3 = fun i => change (x0 i) (x1 i) (x2 i) (x3 i) := rfl
theorem reference_average : Cert.Reference37Ideal.Read.val_main_v4 (F := Ideal) x1 x2 = fun i => average (x2 i) (x1 i) := rfl
theorem reference_average2 : Cert.Reference37Ideal.Read.val_main_v10 (F := Ideal) x1 x3 = fun i => average2 (x3 i) (x1 i) := rfl
end

attribute [local instance] Cert.Kernel37.Gen.facts Cert.Kernel37Ideal.Gen.facts Cert.Reference37Ideal.Gen.facts

theorem frame_kernel : Cert.quiescent_Kernel37 := fun m ρ _ => Cert.Kernel37.Gen.frame m ρ
theorem frame_ideal : Cert.quiescent_Kernel37Ideal := fun m ρ _ => Cert.Kernel37Ideal.Gen.frame m ρ
theorem frame_reference : Cert.quiescent_Reference37Ideal := fun m ρ _ =>
  (θ_run Cert.Reference37Ideal.defs _ _).mono
    (fun r h => ⟨fun c => (h c).2.2.2, sem_eq_zero_of_no_sems (by decide) r.2⟩) (Cert.Reference37Ideal.Value.run (F := Ideal) m ρ)
theorem constants : Cert.preserves_Kernel37_Kernel37Ideal := trivial

theorem value : Cert.algebraic_Kernel37Ideal_Reference37Ideal := by
  intro m ρ m' ρ' _ hag
  refine ⟨fun c => (dats m 0 c).arrAt 4 cfg0.N, fun c => (dats m 0 c).arrAt 5 cfg0.N, fun c => (dats m 0 c).arrAt 6 cfg0.N, Value.run_blocks m ρ, ?_⟩
  refine (θ_run Cert.Reference37Ideal.defs _ _).mono (fun r h c => ?_) (Cert.Reference37Ideal.Value.run (F := Ideal) m' ρ')
  obtain ⟨a0, a1, a2, a3⟩ := hag c
  obtain ⟨h0, h1, h2, hargs⟩ := h c
  refine ⟨h0.trans ?_, h1.trans ?_, h2.trans ?_, hargs⟩
  · refine Eq.trans ?_ (array_change m c).symm
    rw [V_main_arg0, V_main_arg1, V_main_arg2, V_main_arg3, a0, a1, a2, a3]
    exact reference_change _ _ _ _
  · refine Eq.trans ?_ (array_average m c).symm
    rw [V_main_arg2, V_main_arg1, a2, a1]
    exact reference_average _ _
  · refine Eq.trans ?_ (array_average2 m c).symm
    rw [V_main_arg3, V_main_arg1, a3, a1]
    exact reference_average2 _ _

end Fox.Optimiser.FfnConvBias

end
-- ==== Proof.Fox.Optimiser.FfnDown.lean ====
/-
  The AdamW step at the shape of ffn_w_down.
-/
module

public import proofs.«01_k».proof.Defs
public import proofs.«01_k».proof.Proof.Gen.Kernel38.Frame
public import proofs.«01_k».proof.Proof.Gen.Kernel38Ideal.Value
public import proofs.«01_k».proof.Proof.Gen.Reference38Ideal.Run
public import proofs.«01_k».proof.Proof.Gen.Reference38Ideal.Read
public import proofs.«01_k».proof.Proof.Fox.Optimiser.Common
public import Idealize.ShloMosaic.Adequacy
public import Idealize.ShloMosaic.Init
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.SL.Sem Cert.Kernel38Ideal Cert.Kernel38Ideal.Gen TcCoe Fox.Optimiser

namespace Fox.Optimiser.FfnDown

/-- What the body computes on one block: the two averages and the step. -/
theorem pay_average (g m : FVec Ideal S176x1024 .f32) (y : S176x1024.Idx) : k0_pay2 (F := Ideal) g m y = average (m y) (g y) := by
  unfold k0_pay2 k0_pay1; pointwise; rfl
theorem pay_average2 (g v : FVec Ideal S176x1024 .f32) (y : S176x1024.Idx) : k0_pay3 (F := Ideal) g v y = average2 (v y) (g y) := by
  unfold k0_pay3 k0_pay1; pointwise; rfl
theorem pay_change (g m v w : FVec Ideal S176x1024 .f32) (y : S176x1024.Idx) :
    k0_pay4 (F := Ideal) g m v w y = change (w y) (g y) (m y) (v y) := by
  unfold k0_pay4; pointwise; rw [pay_average, pay_average2]; rfl

section
variable (m : (ℓ : Loc nD τ sig) → Buf (Elt Ideal) ℓ) (c : Dev nD)

theorem V_0 : V m c main_v0 = (shapeCast S1408x1024 (m ((c : Thread nD τ).loc main_arg0)) shapeCasts_S2x704x1024_S1408x1024) := by
  unfold V
  after_reads_simp
  rfl
theorem V_1 : V m c main_v1 = (shapeCast S1408x1024 (m ((c : Thread nD τ).loc main_arg1)) shapeCasts_S2x704x1024_S1408x1024) := by
  unfold V
  after_reads_simp
  rfl
theorem V_2 : V m c main_v2 = (shapeCast S1408x1024 (m ((c : Thread nD τ).loc main_arg2)) shapeCasts_S2x704x1024_S1408x1024) := by
  unfold V
  after_reads_simp
  rfl
theorem V_3 : V m c main_v3 = (shapeCast S1408x1024 (m ((c : Thread nD τ).loc main_arg3)) shapeCasts_S2x704x1024_S1408x1024) := by
  unfold V
  after_reads_simp
  rfl

theorem array_change : (dats m 0 c).arrAt 4 cfg0.N = fun i => change (V m c main_v0 i) (V m c main_v1 i) (V m c main_v2 i) (V m c main_v3 i) := by
  refine (dats m 0 c).arrAt_eq_of_covers 4 _ (by decide +kernel) fun t hf y => ?_
  blk_simp
  rw [after0_4]
  frame_out
  exact (pay_change _ _ _ _ y).trans rfl

theorem array_average : (dats m 0 c).arrAt 5 cfg0.N = fun i => average (V m c main_v2 i) (V m c main_v1 i) := by
  refine (dats m 0 c).arrAt_eq_of_covers 5 _ (by decide +kernel) fun t hf y => ?_
  blk_simp
  rw [after0_5]
  frame_out
  exact (pay_average _ _ y).trans rfl

theorem array_average2 : (dats m 0 c).arrAt 6 cfg0.N = fun i => average2 (V m c main_v3 i) (V m c main_v1 i) := by
  refine (dats m 0 c).arrAt_eq_of_covers 6 _ (by decide +kernel) fun t hf y => ?_
  blk_simp
  rw [after0_6]
  frame_out
  exact (pay_average2 _ _ y).trans rfl

end

section
variable (x0 x1 x2 x3 : Arr S2x704x1024)

/-- The reference's three results. -/
theorem reference_change : Cert.Reference38Ideal.Read.val_main_v24 (F := Ideal) x0 x1 x2 x3 = fun i => change ((shapeCast S1408x1024 x0 shapeCasts_S2x704x1024_S1408x1024) i) ((shapeCast S1408x1024 x1 shapeCasts_S2x704x1024_S1408x1024) i) ((shapeCast S1408x1024 x2 shapeCasts_S2x704x1024_S1408x1024) i) ((shapeCast S1408x1024 x3 shapeCasts_S2x704x1024_S1408x1024) i) := rfl
theorem reference_average : Cert.Reference38Ideal.Read.val_main_v25 (F := Ideal) x1 x2 = fun i => average ((shapeCast S1408x1024 x2 shapeCasts_S2x704x1024_S1408x1024) i) ((shapeCast S1408x1024 x1 shapeCasts_S2x704x1024_S1408x1024) i) := rfl
theorem reference_average2 : Cert.Reference38Ideal.Read.val_main_v26 (F := Ideal) x1 x3 = fun i => average2 ((shapeCast S1408x1024 x3 shapeCasts_S2x704x1024_S1408x1024) i) ((shapeCast S1408x1024 x1 shapeCasts_S2x704x1024_S1408x1024) i) := rfl
end

attribute [local instance] Cert.Kernel38.Gen.facts Cert.Kernel38Ideal.Gen.facts Cert.Reference38Ideal.Gen.facts

theorem frame_kernel : Cert.quiescent_Kernel38 := fun m ρ _ => Cert.Kernel38.Gen.frame m ρ
theorem frame_ideal : Cert.quiescent_Kernel38Ideal := fun m ρ _ => Cert.Kernel38Ideal.Gen.frame m ρ
theorem frame_reference : Cert.quiescent_Reference38Ideal := fun m ρ _ =>
  (θ_run Cert.Reference38Ideal.defs _ _).mono
    (fun r h => ⟨fun c => (h c).2.2.2, sem_eq_zero_of_no_sems (by decide) r.2⟩) (Cert.Reference38Ideal.Value.run (F := Ideal) m ρ)
theorem constants : Cert.preserves_Kernel38_Kernel38Ideal := trivial

theorem value : Cert.algebraic_Kernel38Ideal_Reference38Ideal := by
  intro m ρ m' ρ' _ hag
  refine ⟨fun c => (dats m 0 c).arrAt 4 cfg0.N, fun c => (dats m 0 c).arrAt 5 cfg0.N, fun c => (dats m 0 c).arrAt 6 cfg0.N, Value.run_blocks m ρ, ?_⟩
  refine (θ_run Cert.Reference38Ideal.defs _ _).mono (fun r h c => ?_) (Cert.Reference38Ideal.Value.run (F := Ideal) m' ρ')
  obtain ⟨a0, a1, a2, a3⟩ := hag c
  obtain ⟨h0, h1, h2, hargs⟩ := h c
  refine ⟨h0.trans ?_, h1.trans ?_, h2.trans ?_, hargs⟩
  · refine Eq.trans ?_ (array_change m c).symm
    rw [V_0, V_1, V_2, V_3, a0, a1, a2, a3]
    exact reference_change _ _ _ _
  · refine Eq.trans ?_ (array_average m c).symm
    rw [V_2, V_1, a2, a1]
    exact reference_average _ _
  · refine Eq.trans ?_ (array_average2 m c).symm
    rw [V_3, V_1, a3, a1]
    exact reference_average2 _ _

end Fox.Optimiser.FfnDown

end
-- ==== Proof.Fox.Optimiser.PleProj.lean ====
/-
  The AdamW step at the shape of ple_w_proj.
-/
module

public import proofs.«01_k».proof.Defs
public import proofs.«01_k».proof.Proof.Gen.Kernel39.Frame
public import proofs.«01_k».proof.Proof.Gen.Kernel39Ideal.Value
public import proofs.«01_k».proof.Proof.Gen.Reference39Ideal.Run
public import proofs.«01_k».proof.Proof.Gen.Reference39Ideal.Read
public import proofs.«01_k».proof.Proof.Fox.Optimiser.Common
public import Idealize.ShloMosaic.Adequacy
public import Idealize.ShloMosaic.Init
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.SL.Sem Cert.Kernel39Ideal Cert.Kernel39Ideal.Gen TcCoe Fox.Optimiser

namespace Fox.Optimiser.PleProj

/-- What the body computes on one block: the two averages and the step. -/
theorem pay_average (g m : FVec Ideal S256x256 .f32) (y : S256x256.Idx) : k0_pay2 (F := Ideal) g m y = average (m y) (g y) := by
  unfold k0_pay2 k0_pay1; pointwise; rfl
theorem pay_average2 (g v : FVec Ideal S256x256 .f32) (y : S256x256.Idx) : k0_pay3 (F := Ideal) g v y = average2 (v y) (g y) := by
  unfold k0_pay3 k0_pay1; pointwise; rfl
theorem pay_change (g m v w : FVec Ideal S256x256 .f32) (y : S256x256.Idx) :
    k0_pay4 (F := Ideal) g m v w y = change (w y) (g y) (m y) (v y) := by
  unfold k0_pay4; pointwise; rw [pay_average, pay_average2]; rfl

section
variable (m : (ℓ : Loc nD τ sig) → Buf (Elt Ideal) ℓ) (c : Dev nD)

theorem V_0 : V m c main_v0 = (shapeCast S512x256 (m ((c : Thread nD τ).loc main_arg0)) shapeCasts_S2x256x256_S512x256) := by
  unfold V
  after_reads_simp
  rfl
theorem V_1 : V m c main_v1 = (shapeCast S512x256 (m ((c : Thread nD τ).loc main_arg1)) shapeCasts_S2x256x256_S512x256) := by
  unfold V
  after_reads_simp
  rfl
theorem V_2 : V m c main_v2 = (shapeCast S512x256 (m ((c : Thread nD τ).loc main_arg2)) shapeCasts_S2x256x256_S512x256) := by
  unfold V
  after_reads_simp
  rfl
theorem V_3 : V m c main_v3 = (shapeCast S512x256 (m ((c : Thread nD τ).loc main_arg3)) shapeCasts_S2x256x256_S512x256) := by
  unfold V
  after_reads_simp
  rfl

theorem array_change : (dats m 0 c).arrAt 4 cfg0.N = fun i => change (V m c main_v0 i) (V m c main_v1 i) (V m c main_v2 i) (V m c main_v3 i) := by
  refine (dats m 0 c).arrAt_eq_of_covers 4 _ (by decide +kernel) fun t hf y => ?_
  blk_simp
  rw [after0_4]
  frame_out
  exact (pay_change _ _ _ _ y).trans rfl

theorem array_average : (dats m 0 c).arrAt 5 cfg0.N = fun i => average (V m c main_v2 i) (V m c main_v1 i) := by
  refine (dats m 0 c).arrAt_eq_of_covers 5 _ (by decide +kernel) fun t hf y => ?_
  blk_simp
  rw [after0_5]
  frame_out
  exact (pay_average _ _ y).trans rfl

theorem array_average2 : (dats m 0 c).arrAt 6 cfg0.N = fun i => average2 (V m c main_v3 i) (V m c main_v1 i) := by
  refine (dats m 0 c).arrAt_eq_of_covers 6 _ (by decide +kernel) fun t hf y => ?_
  blk_simp
  rw [after0_6]
  frame_out
  exact (pay_average2 _ _ y).trans rfl

end

section
variable (x0 x1 x2 x3 : Arr S2x256x256)

/-- The reference's three results. -/
theorem reference_change : Cert.Reference39Ideal.Read.val_main_v24 (F := Ideal) x0 x1 x2 x3 = fun i => change ((shapeCast S512x256 x0 shapeCasts_S2x256x256_S512x256) i) ((shapeCast S512x256 x1 shapeCasts_S2x256x256_S512x256) i) ((shapeCast S512x256 x2 shapeCasts_S2x256x256_S512x256) i) ((shapeCast S512x256 x3 shapeCasts_S2x256x256_S512x256) i) := rfl
theorem reference_average : Cert.Reference39Ideal.Read.val_main_v25 (F := Ideal) x1 x2 = fun i => average ((shapeCast S512x256 x2 shapeCasts_S2x256x256_S512x256) i) ((shapeCast S512x256 x1 shapeCasts_S2x256x256_S512x256) i) := rfl
theorem reference_average2 : Cert.Reference39Ideal.Read.val_main_v26 (F := Ideal) x1 x3 = fun i => average2 ((shapeCast S512x256 x3 shapeCasts_S2x256x256_S512x256) i) ((shapeCast S512x256 x1 shapeCasts_S2x256x256_S512x256) i) := rfl
end

attribute [local instance] Cert.Kernel39.Gen.facts Cert.Kernel39Ideal.Gen.facts Cert.Reference39Ideal.Gen.facts

theorem frame_kernel : Cert.quiescent_Kernel39 := fun m ρ _ => Cert.Kernel39.Gen.frame m ρ
theorem frame_ideal : Cert.quiescent_Kernel39Ideal := fun m ρ _ => Cert.Kernel39Ideal.Gen.frame m ρ
theorem frame_reference : Cert.quiescent_Reference39Ideal := fun m ρ _ =>
  (θ_run Cert.Reference39Ideal.defs _ _).mono
    (fun r h => ⟨fun c => (h c).2.2.2, sem_eq_zero_of_no_sems (by decide) r.2⟩) (Cert.Reference39Ideal.Value.run (F := Ideal) m ρ)
theorem constants : Cert.preserves_Kernel39_Kernel39Ideal := trivial

theorem value : Cert.algebraic_Kernel39Ideal_Reference39Ideal := by
  intro m ρ m' ρ' _ hag
  refine ⟨fun c => (dats m 0 c).arrAt 4 cfg0.N, fun c => (dats m 0 c).arrAt 5 cfg0.N, fun c => (dats m 0 c).arrAt 6 cfg0.N, Value.run_blocks m ρ, ?_⟩
  refine (θ_run Cert.Reference39Ideal.defs _ _).mono (fun r h c => ?_) (Cert.Reference39Ideal.Value.run (F := Ideal) m' ρ')
  obtain ⟨a0, a1, a2, a3⟩ := hag c
  obtain ⟨h0, h1, h2, hargs⟩ := h c
  refine ⟨h0.trans ?_, h1.trans ?_, h2.trans ?_, hargs⟩
  · refine Eq.trans ?_ (array_change m c).symm
    rw [V_0, V_1, V_2, V_3, a0, a1, a2, a3]
    exact reference_change _ _ _ _
  · refine Eq.trans ?_ (array_average m c).symm
    rw [V_2, V_1, a2, a1]
    exact reference_average _ _
  · refine Eq.trans ?_ (array_average2 m c).symm
    rw [V_3, V_1, a3, a1]
    exact reference_average2 _ _

end Fox.Optimiser.PleProj

end
-- ==== Proof.Fox.Optimiser.PleGate.lean ====
/-
  The AdamW step at the shape of ple_w_gate.
-/
module

public import proofs.«01_k».proof.Defs
public import proofs.«01_k».proof.Proof.Gen.Kernel40.Frame
public import proofs.«01_k».proof.Proof.Gen.Kernel40Ideal.Value
public import proofs.«01_k».proof.Proof.Gen.Reference40Ideal.Run
public import proofs.«01_k».proof.Proof.Gen.Reference40Ideal.Read
public import proofs.«01_k».proof.Proof.Fox.Optimiser.Common
public import Idealize.ShloMosaic.Adequacy
public import Idealize.ShloMosaic.Init
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.SL.Sem Cert.Kernel40Ideal Cert.Kernel40Ideal.Gen TcCoe Fox.Optimiser

namespace Fox.Optimiser.PleGate

/-- What the body computes on one block: the two averages and the step. -/
theorem pay_average (g m : FVec Ideal S256x1024 .f32) (y : S256x1024.Idx) : k0_pay2 (F := Ideal) g m y = average (m y) (g y) := by
  unfold k0_pay2 k0_pay1; pointwise; rfl
theorem pay_average2 (g v : FVec Ideal S256x1024 .f32) (y : S256x1024.Idx) : k0_pay3 (F := Ideal) g v y = average2 (v y) (g y) := by
  unfold k0_pay3 k0_pay1; pointwise; rfl
theorem pay_change (g m v w : FVec Ideal S256x1024 .f32) (y : S256x1024.Idx) :
    k0_pay4 (F := Ideal) g m v w y = change (w y) (g y) (m y) (v y) := by
  unfold k0_pay4; pointwise; rw [pay_average, pay_average2]; rfl

section
variable (m : (ℓ : Loc nD τ sig) → Buf (Elt Ideal) ℓ) (c : Dev nD)

theorem V_0 : V m c main_v0 = (shapeCast S512x1024 (m ((c : Thread nD τ).loc main_arg0)) shapeCasts_S2x256x1024_S512x1024) := by
  unfold V
  after_reads_simp
  rfl
theorem V_1 : V m c main_v1 = (shapeCast S512x1024 (m ((c : Thread nD τ).loc main_arg1)) shapeCasts_S2x256x1024_S512x1024) := by
  unfold V
  after_reads_simp
  rfl
theorem V_2 : V m c main_v2 = (shapeCast S512x1024 (m ((c : Thread nD τ).loc main_arg2)) shapeCasts_S2x256x1024_S512x1024) := by
  unfold V
  after_reads_simp
  rfl
theorem V_3 : V m c main_v3 = (shapeCast S512x1024 (m ((c : Thread nD τ).loc main_arg3)) shapeCasts_S2x256x1024_S512x1024) := by
  unfold V
  after_reads_simp
  rfl

theorem array_change : (dats m 0 c).arrAt 4 cfg0.N = fun i => change (V m c main_v0 i) (V m c main_v1 i) (V m c main_v2 i) (V m c main_v3 i) := by
  refine (dats m 0 c).arrAt_eq_of_covers 4 _ (by decide +kernel) fun t hf y => ?_
  blk_simp
  rw [after0_4]
  frame_out
  exact (pay_change _ _ _ _ y).trans rfl

theorem array_average : (dats m 0 c).arrAt 5 cfg0.N = fun i => average (V m c main_v2 i) (V m c main_v1 i) := by
  refine (dats m 0 c).arrAt_eq_of_covers 5 _ (by decide +kernel) fun t hf y => ?_
  blk_simp
  rw [after0_5]
  frame_out
  exact (pay_average _ _ y).trans rfl

theorem array_average2 : (dats m 0 c).arrAt 6 cfg0.N = fun i => average2 (V m c main_v3 i) (V m c main_v1 i) := by
  refine (dats m 0 c).arrAt_eq_of_covers 6 _ (by decide +kernel) fun t hf y => ?_
  blk_simp
  rw [after0_6]
  frame_out
  exact (pay_average2 _ _ y).trans rfl

end

section
variable (x0 x1 x2 x3 : Arr S2x256x1024)

/-- The reference's three results. -/
theorem reference_change : Cert.Reference40Ideal.Read.val_main_v24 (F := Ideal) x0 x1 x2 x3 = fun i => change ((shapeCast S512x1024 x0 shapeCasts_S2x256x1024_S512x1024) i) ((shapeCast S512x1024 x1 shapeCasts_S2x256x1024_S512x1024) i) ((shapeCast S512x1024 x2 shapeCasts_S2x256x1024_S512x1024) i) ((shapeCast S512x1024 x3 shapeCasts_S2x256x1024_S512x1024) i) := rfl
theorem reference_average : Cert.Reference40Ideal.Read.val_main_v25 (F := Ideal) x1 x2 = fun i => average ((shapeCast S512x1024 x2 shapeCasts_S2x256x1024_S512x1024) i) ((shapeCast S512x1024 x1 shapeCasts_S2x256x1024_S512x1024) i) := rfl
theorem reference_average2 : Cert.Reference40Ideal.Read.val_main_v26 (F := Ideal) x1 x3 = fun i => average2 ((shapeCast S512x1024 x3 shapeCasts_S2x256x1024_S512x1024) i) ((shapeCast S512x1024 x1 shapeCasts_S2x256x1024_S512x1024) i) := rfl
end

attribute [local instance] Cert.Kernel40.Gen.facts Cert.Kernel40Ideal.Gen.facts Cert.Reference40Ideal.Gen.facts

theorem frame_kernel : Cert.quiescent_Kernel40 := fun m ρ _ => Cert.Kernel40.Gen.frame m ρ
theorem frame_ideal : Cert.quiescent_Kernel40Ideal := fun m ρ _ => Cert.Kernel40Ideal.Gen.frame m ρ
theorem frame_reference : Cert.quiescent_Reference40Ideal := fun m ρ _ =>
  (θ_run Cert.Reference40Ideal.defs _ _).mono
    (fun r h => ⟨fun c => (h c).2.2.2, sem_eq_zero_of_no_sems (by decide) r.2⟩) (Cert.Reference40Ideal.Value.run (F := Ideal) m ρ)
theorem constants : Cert.preserves_Kernel40_Kernel40Ideal := trivial

theorem value : Cert.algebraic_Kernel40Ideal_Reference40Ideal := by
  intro m ρ m' ρ' _ hag
  refine ⟨fun c => (dats m 0 c).arrAt 4 cfg0.N, fun c => (dats m 0 c).arrAt 5 cfg0.N, fun c => (dats m 0 c).arrAt 6 cfg0.N, Value.run_blocks m ρ, ?_⟩
  refine (θ_run Cert.Reference40Ideal.defs _ _).mono (fun r h c => ?_) (Cert.Reference40Ideal.Value.run (F := Ideal) m' ρ')
  obtain ⟨a0, a1, a2, a3⟩ := hag c
  obtain ⟨h0, h1, h2, hargs⟩ := h c
  refine ⟨h0.trans ?_, h1.trans ?_, h2.trans ?_, hargs⟩
  · refine Eq.trans ?_ (array_change m c).symm
    rw [V_0, V_1, V_2, V_3, a0, a1, a2, a3]
    exact reference_change _ _ _ _
  · refine Eq.trans ?_ (array_average m c).symm
    rw [V_2, V_1, a2, a1]
    exact reference_average _ _
  · refine Eq.trans ?_ (array_average2 m c).symm
    rw [V_3, V_1, a3, a1]
    exact reference_average2 _ _

end Fox.Optimiser.PleGate

end
-- ==== Proof.Fox.Loss.Head.lean ====
/-
  The loss: its part in each feature, and its gradient.
-/
module

public import proofs.«01_k».proof.Defs
public import proofs.«01_k».proof.Proof.Gen.Kernel41.Frame
public import proofs.«01_k».proof.Proof.Gen.Kernel41Ideal.Value
public import proofs.«01_k».proof.Proof.Gen.Reference41Ideal.Run
public import proofs.«01_k».proof.Proof.Gen.Reference41Ideal.Read
public import proofs.«01_k».proof.Proof.Fox.Products.Common
public import Idealize.ShloMosaic.Adequacy
public import Idealize.ShloMosaic.Init
public import Idealize.ShloMosaic.Lib.Pipeline.ValueKit
public import Idealize.ShloMosaic.Lib.Pointwise
public import Idealize.ShloMosaic.Lib.StableHlo.ReadAt

@[expose] public section

set_option maxRecDepth 16384

noncomputable section

open scoped BigOperators
open Idealize.ShloMosaic Idealize.SL.Sem Cert.Kernel41Ideal Cert.Kernel41Ideal.Gen TcCoe Fox.Products

namespace Fox.Loss

/-! ### Extended reals -/

theorem square_nonneg (x : EReal) : 0 ≤ x * x := by
  rcases le_total 0 x with h | h
  · exact mul_nonneg h h
  · have h' : 0 ≤ -x := EReal.neg_nonneg.mpr h
    rw [← neg_mul_neg]; exact mul_nonneg h' h'

/-- A factor before a sum of terms none of which is negative. -/
theorem sum_mul_nonneg {ι : Type*} (s : Finset ι) (f : ι → EReal) (hf : ∀ i, 0 ≤ f i) (c : EReal) : (∑ i ∈ s, f i) * c = ∑ i ∈ s, f i * c := by
  classical
  induction s using Finset.induction_on with
  | empty => simp
  | insert a s ha ih => rw [Finset.sum_insert ha, Finset.sum_insert ha, EReal.right_distrib_of_nonneg (hf a) (Finset.sum_nonneg fun i _ => hf i), ih]

theorem ofBits_zero : Ideal.ofBits .f32 0x00000000#32 = 0 := by simp [Ideal.ofBits, Ideal.ieee]
theorem ofBits_one : Ideal.ofBits .f32 0x3F800000#32 = ((1 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_features : Ideal.ofBits .f32 0x44800000#32 = ((1024 : ℝ) : EReal) := by
  simp [Ideal.ofBits, Ideal.ieee, -EReal.coe_mul]; norm_num
theorem ofBits_part : Ideal.ofBits .f32 0x3A000000#32 = ((1 / 2048 : ℝ) : EReal) := by
  simp [Ideal.ofBits, Ideal.ieee, -EReal.coe_mul]; norm_num
theorem ofBits_share : Ideal.ofBits .f32 0x3A800000#32 = ((1 / 1024 : ℝ) : EReal) := by
  simp [Ideal.ofBits, Ideal.ieee, -EReal.coe_mul]; norm_num

/-- Half of the quotient by the number of features. -/
theorem half_share (x : EReal) : Ideal.ofBits .f32 0x3F000000#32 * Ideal.div x (Ideal.ofBits .f32 0x44800000#32) = x * Ideal.ofBits .f32 0x3A000000#32 := by
  rw [ofBits_half, ofBits_features, ofBits_part, Ideal.div_coe (by norm_num), mul_left_comm, ← EReal.coe_mul]
  norm_num

theorem share_twice (x : EReal) :
    Ideal.div (Ideal.ofBits .f32 0x3F000000#32 * Ideal.ofBits .f32 0x3F800000#32) (Ideal.ofBits .f32 0x44800000#32) * (Ideal.ofBits .f32 0x40000000#32 * x)
      = x * Ideal.ofBits .f32 0x3A800000#32 := by
  rw [ofBits_half, ofBits_one, ofBits_features, ofBits_two, ofBits_share, Ideal.div_coe (by norm_num), ← mul_assoc, mul_comm, ← EReal.coe_mul, ← EReal.coe_mul, ← EReal.coe_mul]
  norm_num

/-! ### The kernel -/

/-- The contribution of position `i` to feature `q`. -/
def part (y t : Mat 16384 1024) (q : Fin 1024) (i : ℕ) : EReal :=
  (y (ValueIdx.ix2 (wrap 16384 i) q) - t (ValueIdx.ix2 (wrap 16384 i) q)) * (y (ValueIdx.ix2 (wrap 16384 i) q) - t (ValueIdx.ix2 (wrap 16384 i) q))
    * Ideal.ofBits .f32 0x3A000000#32

def slope (y t : Mat 16384 1024) : Mat 16384 1024 := fun i => (y i - t i) * Ideal.ofBits .f32 0x3A800000#32

/-- What the body computes on one block of positions. -/
def block (x0 x1 : FVec Ideal S512x1024 .f32) (y : S1x1024.Idx) : EReal :=
  (∑ l : Fin 512, (x0 (ValueIdx.ix2 l (y 1)) - x1 (ValueIdx.ix2 l (y 1))) * (x0 (ValueIdx.ix2 l (y 1)) - x1 (ValueIdx.ix2 l (y 1)))) * Ideal.ofBits .f32 0x3A000000#32

theorem pay_next (x0 x1 : FVec Ideal S512x1024 .f32) (x2 : FVec Ideal S1x1024 .f32) (y : S1x1024.Idx) :
    k0_pay4 (F := Ideal) x0 x1 x2 y = x2 y + block x0 x1 y := by
  unfold k0_pay4 k0_pay1; pointwise; rfl

theorem pay_first (x0 x1 : FVec Ideal S512x1024 .f32) (y : S1x1024.Idx) :
    k0_pay4 (F := Ideal) x0 x1 (k0_pay3 (F := Ideal)) y = block x0 x1 y := by
  rw [pay_next]
  show Ideal.ofBits .f32 0x00000000#32 + _ = _
  rw [ofBits_zero, zero_add]

theorem pay_gradient (x0 x1 : FVec Ideal S512x1024 .f32) (y : S512x1024.Idx) :
    k0_pay2 (F := Ideal) x0 x1 y = (x0 y - x1 y) * Ideal.ofBits .f32 0x3A800000#32 := by
  unfold k0_pay2 k0_pay1; pointwise

section
variable (m : (ℓ : Loc nD τ sig) → Buf (Elt Ideal) ℓ) (c : Dev nD)

/-- Which block each grid point works on. -/
theorem idx : ∀ t : Fin grid0.N, cc0_transform_0 (grid0.coords t) = ![t.val, 0] ∧ cc0_transform_1 (grid0.coords t) = ![t.val, 0] ∧ cc0_transform_2 (grid0.coords t) = ![0, 0] := by decide +kernel

theorem at_0 (t : Fin grid0.N) (y : S512x1024.Idx) :
    iblk m c 0 t y = m ((c : Thread nD τ).loc main_arg0) (ValueIdx.ix2 (wrap 16384 (t.val * 512 + (y 0).val)) (y 1)) := by
  have hN : t.val < 32 := lt_of_lt_of_eq t.isLt N_0
  refine Eq.trans ?_ (congrFun (V_main_arg0 m c) _)
  blk_simp [iblk]
  refine congrArg (V m c main_arg0) (place _ _ _ ?_ ?_)
  · have hy : (y 0).val < 512 := (y 0).isLt
    blk_simp; show cc0_transform_0 (grid0.coords t) 0 * 512 + (y 0).val = (wrap 16384 (t.val * 512 + (y 0).val)).val
    rw [(idx t).1, wrap_val (by omega)]; rfl
  · blk_simp; show cc0_transform_0 (grid0.coords t) 1 * 1024 + (y 1).val = (y 1).val
    rw [(idx t).1]; show 0 * 1024 + (y 1).val = (y 1).val; omega

theorem at_1 (t : Fin grid0.N) (y : S512x1024.Idx) :
    iblk m c 1 t y = m ((c : Thread nD τ).loc main_arg1) (ValueIdx.ix2 (wrap 16384 (t.val * 512 + (y 0).val)) (y 1)) := by
  have hN : t.val < 32 := lt_of_lt_of_eq t.isLt N_0
  refine Eq.trans ?_ (congrFun (V_main_arg1 m c) _)
  blk_simp [iblk]
  refine congrArg (V m c main_arg1) (place _ _ _ ?_ ?_)
  · have hy : (y 0).val < 512 := (y 0).isLt
    blk_simp; show cc0_transform_1 (grid0.coords t) 0 * 512 + (y 0).val = (wrap 16384 (t.val * 512 + (y 0).val)).val
    rw [(idx t).2.1, wrap_val (by omega)]; rfl
  · blk_simp; show cc0_transform_1 (grid0.coords t) 1 * 1024 + (y 1).val = (y 1).val
    rw [(idx t).2.1]; show 0 * 1024 + (y 1).val = (y 1).val; omega

theorem emb (t : Fin grid0.N) (y : S1x1024.Idx) : (win0_2.blk t).view.emb y = ValueIdx.ix2 (y 0) (y 1) := by
  refine place _ _ _ ?_ ?_
  · blk_simp; show cc0_transform_2 (grid0.coords t) 0 = 0
    rw [(idx t).2.2]; rfl
  · blk_simp; show cc0_transform_2 (grid0.coords t) 1 * 1024 + (y 1).val = (y 1).val
    rw [(idx t).2.2]; show 0 * 1024 + (y 1).val = (y 1).val; omega

theorem block_eq (t : Fin grid0.N) (y : S1x1024.Idx) : block (iblk m c 0 t) (iblk m c 1 t) y
    = ∑ i ∈ Finset.range 512, part (m ((c : Thread nD τ).loc main_arg0)) (m ((c : Thread nD τ).loc main_arg1)) (y 1) (t.val * 512 + i) := by
  unfold block
  rw [sum_mul_nonneg _ _ (fun _ => square_nonneg _), Finset.sum_range]
  refine Finset.sum_congr rfl fun l _ => ?_
  rw [at_0, at_1]
  rfl

/-- After point `n` the first output holds the contributions of all positions up to the point's block. -/
theorem out_eq (y : S1x1024.Idx) (n : ℕ) (hn : n < cfg0.N) : (outsAt0 m c n hn).1 y
    = ∑ i ∈ Finset.range (n % 32 * 512 + 512), part (m ((c : Thread nD τ).loc main_arg0)) (m ((c : Thread nD τ).loc main_arg1)) (y 1) i := by
  have hlt : ∀ j < cfg0.N, j < 32 := fun j h => lt_of_lt_of_eq h N_0
  refine accumulate (p := 32) (w := 512) (fun n hn => (outsAt0 m c n hn).1 y) (fun n hn => block (iblk m c 0 ⟨n, hn⟩) (iblk m c 1 ⟨n, hn⟩) y)
    (fun _ => part (m ((c : Thread nD τ).loc main_arg0)) (m ((c : Thread nD τ).loc main_arg1)) (y 1))
    (fun j hj h => ?_) (fun j hj h => ?_) (fun j hj => ?_) n hn
  · show (outsAt0 m c (⟨j, hj⟩ : Fin cfg0.N).val _).1 y = _
    rw [outsAt0_A m c ⟨j, hj⟩ h]
    dsimp only
    frame_out
    exact pay_first _ _ y
  · show (outsAt0 m c (⟨j, hj⟩ : Fin cfg0.N).val _).1 y = _
    rw [outsAt0_B m c ⟨j, hj⟩ h]
    dsimp only
    frame_out
    exact pay_next _ _ _ y
  · refine (block_eq m c ⟨j, hj⟩ y).trans ?_
    show _ = ∑ i ∈ Finset.range 512, part (m ((c : Thread nD τ).loc main_arg0)) (m ((c : Thread nD τ).loc main_arg1)) (y 1) (j % 32 * 512 + i)
    rw [Nat.mod_eq_of_lt (hlt j hj)]

/-- The kernel's results. -/
theorem array_loss : (dats m 0 c).arrAt 2 cfg0.N = fun i => ∑ l ∈ Finset.range 16384, part (m ((c : Thread nD τ).loc main_arg0)) (m ((c : Thread nD τ).loc main_arg1)) (i 1) l := by
  refine (dats m 0 c).arrAt_eq_of_covers 2 _ (by decide +kernel) fun t hf y => ?_
  have h : t.val % 32 = 31 := (flush0_2 t).mp hf
  blk_simp
  rw [after0_2]
  refine (out_eq m c y t.val t.isLt).trans ?_
  rw [show (win0_2.blk t).view.emb y = _ from emb t y, h]
  rfl

theorem array_gradient : (dats m 0 c).arrAt 3 cfg0.N = slope (V m c main_arg0) (V m c main_arg1) := by
  refine (dats m 0 c).arrAt_eq_of_covers 3 _ (by decide +kernel) fun t hf y => ?_
  blk_simp
  rw [after0_3]
  by_cases h : t.val % 32 = 0
  · rw [outsAt0_A m c t h]
    dsimp only
    frame_out
    exact (pay_gradient _ _ y).trans rfl
  · rw [outsAt0_B m c t h]
    dsimp only
    frame_out
    exact (pay_gradient _ _ y).trans rfl
end

/-! ### The reference -/

open Cert.Reference41Ideal.Read in
theorem reference_loss (x0 x1 : Mat 16384 1024) : val_main_v7 (F := Ideal) x0 x1 = fun i => ∑ l ∈ Finset.range 16384, part x0 x1 (i 1) l := by
  funext i
  rw [val_main_v7_apply, val_main_v6_apply, val_main_v4_apply, Finset.sum_range]
  show Ideal.ofBits .f32 0x3F000000#32 * (Ideal.ofBits .f32 0x00000000#32 + ∑ k : Fin 16384, Ideal.div ((x0 _ - x1 _) * (x0 _ - x1 _)) (Ideal.ofBits .f32 0x44800000#32)) = _
  rw [ofBits_zero, zero_add, mul_comm, sum_mul_nonneg _ _ fun k => ?_]
  · refine Finset.sum_congr rfl fun k _ => ?_
    have e : Cert.Reference41Ideal.Read.idx_main_v4 (Cert.Reference41Ideal.Read.idx_main_v7 i) k = ValueIdx.ix2 (wrap 16384 k.val) (i 1) :=
      place _ _ _ (wrap_val k.isLt).symm rfl
    rw [mul_comm, half_share, e]
    rfl
  · rw [ofBits_features, Ideal.div_coe (by norm_num)]
    exact mul_nonneg (square_nonneg _) (by exact_mod_cast (by norm_num : (0 : ℝ) ≤ 1 / 1024))

open Cert.Reference41Ideal.Read in
theorem reference_gradient (x0 x1 : Mat 16384 1024) : val_main_v22 (F := Ideal) x0 x1 = slope x0 x1 :=
  funext fun _ => share_twice _

attribute [local instance] Cert.Kernel41.Gen.facts Cert.Kernel41Ideal.Gen.facts Cert.Reference41Ideal.Gen.facts

theorem frame_kernel : Cert.quiescent_Kernel41 := fun m ρ _ => Cert.Kernel41.Gen.frame m ρ
theorem frame_ideal : Cert.quiescent_Kernel41Ideal := fun m ρ _ => Cert.Kernel41Ideal.Gen.frame m ρ
theorem frame_reference : Cert.quiescent_Reference41Ideal := fun m ρ _ =>
  (θ_run Cert.Reference41Ideal.defs _ _).mono
    (fun r h => ⟨fun c => (h c).2.2, sem_eq_zero_of_no_sems (by decide) r.2⟩) (Cert.Reference41Ideal.Value.run (F := Ideal) m ρ)
theorem constants : Cert.preserves_Kernel41_Kernel41Ideal := trivial

theorem value : Cert.algebraic_Kernel41Ideal_Reference41Ideal := by
  intro m ρ m' ρ' _ hag
  refine ⟨fun c => (dats m 0 c).arrAt 2 cfg0.N, fun c => (dats m 0 c).arrAt 3 cfg0.N, Value.run_blocks m ρ, ?_⟩
  refine (θ_run Cert.Reference41Ideal.defs _ _).mono (fun r h c => ?_) (Cert.Reference41Ideal.Value.run (F := Ideal) m' ρ')
  obtain ⟨a0, a1⟩ := hag c
  obtain ⟨h0, h1, hargs⟩ := h c
  refine ⟨h0.trans ?_, h1.trans ?_, hargs⟩
  · refine Eq.trans ?_ (array_loss m c).symm
    rw [a0, a1]
    exact reference_loss _ _
  · refine Eq.trans ?_ (array_gradient m c).symm
    rw [V_main_arg0 m c, V_main_arg1 m c, a0, a1]
    exact reference_gradient _ _

end Fox.Loss

end
-- ==== Proof.Fox.Layer.Norm.lean ====
/-
  The residual sum and its layer norm.
-/
module

public import proofs.«01_k».proof.Defs
public import proofs.«01_k».proof.Proof.Gen.Kernel42.Frame
public import proofs.«01_k».proof.Proof.Gen.Kernel42Ideal.Value
public import proofs.«01_k».proof.Proof.Gen.Reference42Ideal.Run
public import proofs.«01_k».proof.Proof.Gen.Reference42Ideal.Read
public import proofs.«01_k».proof.Proof.Fox.Products.Common
public import Idealize.ShloMosaic.Adequacy
public import Idealize.ShloMosaic.Init
public import Idealize.ShloMosaic.Lib.Pipeline.ValueKit
public import Idealize.ShloMosaic.Lib.Pointwise
public import Idealize.ShloMosaic.Lib.StableHlo.ReadAt

@[expose] public section

set_option maxRecDepth 16384

noncomputable section

open scoped BigOperators
open Idealize.ShloMosaic Idealize.SL.Sem Cert.Kernel42Ideal Cert.Kernel42Ideal.Gen TcCoe Fox.Products

namespace Fox.Layer.Norm

theorem ofBits_zero : Ideal.ofBits .f32 0x00000000#32 = 0 := by simp [Ideal.ofBits, Ideal.ieee]

theorem row_eq (x : FVec Ideal S1024 .f32) (i : S1x1024.Idx) : shapeCast S1x1024 x shapeCasts_S1024_S1x1024 i = x (ValueIdx.ix1 (i 1)) := by
  pointwise
  rfl

section
variable {a a' : ℕ}

/-- The residual sum, a row's mean, an entry's distance from it, and the layer norm. -/
def resid (x r : Mat a 1024) : Mat a 1024 := fun i => Ideal.ofBits .f32 0x3FB504F3#32 * x i + r i
def mean (f : Fin 1024 → EReal) : EReal := Ideal.div (∑ k, f k) (Ideal.ofBits .f32 0x44800000#32)
def dist (z : Mat a 1024) (p : Fin a) (q : Fin 1024) : EReal := z (ValueIdx.ix2 p q) - mean fun k => z (ValueIdx.ix2 p k)
def normed (z : Mat a 1024) (g b : S1024.Idx → EReal) : Mat a 1024 := fun i =>
  dist z (i 0) (i 1) * Ideal.rsqrt ((mean fun k => dist z (i 0) k * dist z (i 0) k) + Ideal.ofBits .f32 0x3727C5AC#32) * g (ValueIdx.ix1 (i 1)) + b (ValueIdx.ix1 (i 1))

/-- The norm of a block of rows is a block of rows of the norm. -/
theorem normed_block {z : Mat a 1024} {z' : Mat a' 1024} (r : Fin a' → Fin a) (h : ∀ y, z' y = z (ValueIdx.ix2 (r (y 0)) (y 1))) (g b : S1024.Idx → EReal)
    (y : (⟨2, ![a', 1024]⟩ : Shape).Idx) : normed z' g b y = normed z g b (ValueIdx.ix2 (r (y 0)) (y 1)) := by
  have hd : dist z' = fun p q => dist z (r p) q := funext fun p => funext fun q => by
    unfold dist
    rw [h, show (fun k => z' (ValueIdx.ix2 p k)) = fun k => z (ValueIdx.ix2 (r p) k) from funext fun k => h _]
    rfl
  unfold normed
  rw [hd]
  rfl
end

/-- What the body computes on one block. -/
theorem pay_resid (x r : FVec Ideal S512x1024 .f32) : k0_pay1 (F := Ideal) x r = resid (a := 512) x r := by
  funext y; unfold k0_pay1; pointwise; rfl

theorem pay_norm (x r : FVec Ideal S512x1024 .f32) (g b : FVec Ideal S1x1024 .f32) (g' b' : S1024.Idx → EReal) (hg : ∀ y : S1x1024.Idx, g y = g' (ValueIdx.ix1 (y 1)))
    (hb : ∀ y : S1x1024.Idx, b y = b' (ValueIdx.ix1 (y 1))) (y : S512x1024.Idx) :
    k0_pay2 (F := Ideal) x r g b y = normed (a := 512) (resid x r) g' b' y := by
  unfold k0_pay2
  rw [pay_resid]
  generalize resid (a := 512) x r = z
  have e : z y = z (ValueIdx.ix2 (y 0) (y 1)) := congrArg z (ValueIdx.eq_ix2 y)
  unfold normed dist mean
  pointwise
  rw [hg, hb, e]
  rfl

theorem pay_cast (x r : FVec Ideal S512x1024 .f32) (g b : FVec Ideal S1x1024 .f32) (y : S512x1024.Idx) :
    k0_pay3 (F := Ideal) x r g b y = k0_pay2 (F := Ideal) x r g b y := rfl

section
variable (m : (ℓ : Loc nD τ sig) → Buf (Elt Ideal) ℓ) (c : Dev nD)

/-- Which block each grid point works on. -/
theorem idx_0 : ∀ t : Fin grid0.N, cc0_transform_0 (grid0.coords t) = ![t.val, 0] := by decide +kernel
theorem idx_1 : ∀ t : Fin grid0.N, cc0_transform_1 (grid0.coords t) = ![t.val, 0] := by decide +kernel
theorem idx_2 : ∀ t : Fin grid0.N, cc0_transform_2 (grid0.coords t) = ![0, 0] := by decide +kernel
theorem idx_3 : ∀ t : Fin grid0.N, cc0_transform_3 (grid0.coords t) = ![0, 0] := by decide +kernel
theorem idx_4 : ∀ t : Fin grid0.N, cc0_transform_4 (grid0.coords t) = ![t.val, 0] := by decide +kernel
theorem idx_5 : ∀ t : Fin grid0.N, cc0_transform_5 (grid0.coords t) = ![t.val, 0] := by decide +kernel
theorem idx_6 : ∀ t : Fin grid0.N, cc0_transform_6 (grid0.coords t) = ![t.val, 0] := by decide +kernel

theorem at_0 (t : Fin grid0.N) (y : S512x1024.Idx) :
    iblk m c 0 t y = m ((c : Thread nD τ).loc main_arg0) (ValueIdx.ix2 (wrap 16384 (t.val * 512 + (y 0).val)) (y 1)) := by
  have hN : t.val < 32 := lt_of_lt_of_eq t.isLt N_0
  refine Eq.trans ?_ (congrFun (V_main_arg0 m c) _)
  blk_simp [iblk]
  refine congrArg (V m c main_arg0) (place _ _ _ ?_ ?_)
  · have hy : (y 0).val < 512 := (y 0).isLt
    blk_simp; show cc0_transform_0 (grid0.coords t) 0 * 512 + (y 0).val = (wrap 16384 (t.val * 512 + (y 0).val)).val
    rw [idx_0 t, wrap_val (by omega)]; rfl
  · blk_simp; show cc0_transform_0 (grid0.coords t) 1 * 1024 + (y 1).val = (y 1).val
    rw [idx_0 t]; show 0 * 1024 + (y 1).val = (y 1).val; omega

theorem at_1 (t : Fin grid0.N) (y : S512x1024.Idx) :
    iblk m c 1 t y = m ((c : Thread nD τ).loc main_arg1) (ValueIdx.ix2 (wrap 16384 (t.val * 512 + (y 0).val)) (y 1)) := by
  have hN : t.val < 32 := lt_of_lt_of_eq t.isLt N_0
  refine Eq.trans ?_ (congrFun (V_main_arg1 m c) _)
  blk_simp [iblk]
  refine congrArg (V m c main_arg1) (place _ _ _ ?_ ?_)
  · have hy : (y 0).val < 512 := (y 0).isLt
    blk_simp; show cc0_transform_1 (grid0.coords t) 0 * 512 + (y 0).val = (wrap 16384 (t.val * 512 + (y 0).val)).val
    rw [idx_1 t, wrap_val (by omega)]; rfl
  · blk_simp; show cc0_transform_1 (grid0.coords t) 1 * 1024 + (y 1).val = (y 1).val
    rw [idx_1 t]; show 0 * 1024 + (y 1).val = (y 1).val; omega

theorem V_main_v0 : V m c main_v0 = shapeCast S1x1024 (m ((c : Thread nD τ).loc main_arg2)) shapeCasts_S1024_S1x1024 := by
  unfold V
  after_reads_simp
  rfl

theorem at_2 (t : Fin grid0.N) (y : S1x1024.Idx) : iblk m c 2 t y = m ((c : Thread nD τ).loc main_arg2) (ValueIdx.ix1 (y 1)) := by
  refine Eq.trans ?_ (row_eq (m ((c : Thread nD τ).loc main_arg2)) (ValueIdx.ix2 (y 0) (y 1)))
  refine Eq.trans ?_ (congrFun (V_main_v0 m c) _)
  blk_simp [iblk]
  refine congrArg (V m c main_v0) (place _ _ _ ?_ ?_)
  · blk_simp; show cc0_transform_2 (grid0.coords t) 0 = 0
    rw [idx_2 t]; rfl
  · blk_simp; show cc0_transform_2 (grid0.coords t) 1 * 1024 + (y 1).val = (y 1).val
    rw [idx_2 t]; show 0 * 1024 + (y 1).val = (y 1).val; omega

theorem V_main_v1 : V m c main_v1 = shapeCast S1x1024 (m ((c : Thread nD τ).loc main_arg3)) shapeCasts_S1024_S1x1024 := by
  unfold V
  after_reads_simp
  rfl

theorem at_3 (t : Fin grid0.N) (y : S1x1024.Idx) : iblk m c 3 t y = m ((c : Thread nD τ).loc main_arg3) (ValueIdx.ix1 (y 1)) := by
  refine Eq.trans ?_ (row_eq (m ((c : Thread nD τ).loc main_arg3)) (ValueIdx.ix2 (y 0) (y 1)))
  refine Eq.trans ?_ (congrFun (V_main_v1 m c) _)
  blk_simp [iblk]
  refine congrArg (V m c main_v1) (place _ _ _ ?_ ?_)
  · blk_simp; show cc0_transform_3 (grid0.coords t) 0 = 0
    rw [idx_3 t]; rfl
  · blk_simp; show cc0_transform_3 (grid0.coords t) 1 * 1024 + (y 1).val = (y 1).val
    rw [idx_3 t]; show 0 * 1024 + (y 1).val = (y 1).val; omega

theorem emb_4 (t : Fin grid0.N) (y : S512x1024.Idx) : (win0_4.blk t).view.emb y = ValueIdx.ix2 (wrap 16384 (t.val * 512 + (y 0).val)) (y 1) := by
  have hN : t.val < 32 := lt_of_lt_of_eq t.isLt N_0
  refine place _ _ _ ?_ ?_
  · have hy : (y 0).val < 512 := (y 0).isLt
    blk_simp; show cc0_transform_4 (grid0.coords t) 0 * 512 + (y 0).val = (wrap 16384 (t.val * 512 + (y 0).val)).val
    rw [idx_4 t, wrap_val (by omega)]; rfl
  · blk_simp; show cc0_transform_4 (grid0.coords t) 1 * 1024 + (y 1).val = (y 1).val
    rw [idx_4 t]; show 0 * 1024 + (y 1).val = (y 1).val; omega

theorem emb_5 (t : Fin grid0.N) (y : S512x1024.Idx) : (win0_5.blk t).view.emb y = ValueIdx.ix2 (wrap 16384 (t.val * 512 + (y 0).val)) (y 1) := by
  have hN : t.val < 32 := lt_of_lt_of_eq t.isLt N_0
  refine place _ _ _ ?_ ?_
  · have hy : (y 0).val < 512 := (y 0).isLt
    blk_simp; show cc0_transform_5 (grid0.coords t) 0 * 512 + (y 0).val = (wrap 16384 (t.val * 512 + (y 0).val)).val
    rw [idx_5 t, wrap_val (by omega)]; rfl
  · blk_simp; show cc0_transform_5 (grid0.coords t) 1 * 1024 + (y 1).val = (y 1).val
    rw [idx_5 t]; show 0 * 1024 + (y 1).val = (y 1).val; omega

theorem emb_6 (t : Fin grid0.N) (y : S512x1024.Idx) : (win0_6.blk t).view.emb y = ValueIdx.ix2 (wrap 16384 (t.val * 512 + (y 0).val)) (y 1) := by
  have hN : t.val < 32 := lt_of_lt_of_eq t.isLt N_0
  refine place _ _ _ ?_ ?_
  · have hy : (y 0).val < 512 := (y 0).isLt
    blk_simp; show cc0_transform_6 (grid0.coords t) 0 * 512 + (y 0).val = (wrap 16384 (t.val * 512 + (y 0).val)).val
    rw [idx_6 t, wrap_val (by omega)]; rfl
  · blk_simp; show cc0_transform_6 (grid0.coords t) 1 * 1024 + (y 1).val = (y 1).val
    rw [idx_6 t]; show 0 * 1024 + (y 1).val = (y 1).val; omega

theorem resid_eq (t : Fin grid0.N) (y : S512x1024.Idx) : resid (a := 512) (iblk m c 0 t) (iblk m c 1 t) y = (resid (a := 16384) (m ((c : Thread nD τ).loc main_arg0)) (m ((c : Thread nD τ).loc main_arg1))) (ValueIdx.ix2 (wrap 16384 (t.val * 512 + (y 0).val)) (y 1)) := by
  unfold resid
  rw [at_0, at_1]

theorem block_eq (t : Fin grid0.N) (y : S512x1024.Idx) :
    k0_pay2 (F := Ideal) (iblk m c 0 t) (iblk m c 1 t) (iblk m c 2 t) (iblk m c 3 t) y = normed (resid (a := 16384) (m ((c : Thread nD τ).loc main_arg0)) (m ((c : Thread nD τ).loc main_arg1))) (m ((c : Thread nD τ).loc main_arg2)) (m ((c : Thread nD τ).loc main_arg3)) (ValueIdx.ix2 (wrap 16384 (t.val * 512 + (y 0).val)) (y 1)) := by
  rw [pay_norm _ _ _ _ (m ((c : Thread nD τ).loc main_arg2)) (m ((c : Thread nD τ).loc main_arg3)) (at_2 m c t) (at_3 m c t)]
  exact normed_block (fun p => wrap 16384 (t.val * 512 + p.val)) (resid_eq m c t) _ _ y

theorem array_resid : (dats m 0 c).arrAt 4 cfg0.N = resid (a := 16384) (m ((c : Thread nD τ).loc main_arg0)) (m ((c : Thread nD τ).loc main_arg1)) := by
  refine (dats m 0 c).arrAt_eq_of_covers 4 _ (by decide +kernel) fun t hf y => ?_
  blk_simp
  rw [after0_4, show (win0_4.blk t).view.emb y = _ from emb_4 t y]
  frame_out
  rw [pay_resid]
  exact resid_eq m c t y

theorem array_norm : (dats m 0 c).arrAt 5 cfg0.N = normed (resid (a := 16384) (m ((c : Thread nD τ).loc main_arg0)) (m ((c : Thread nD τ).loc main_arg1))) (m ((c : Thread nD τ).loc main_arg2)) (m ((c : Thread nD τ).loc main_arg3)) := by
  refine (dats m 0 c).arrAt_eq_of_covers 5 _ (by decide +kernel) fun t hf y => ?_
  blk_simp
  rw [after0_5, show (win0_5.blk t).view.emb y = _ from emb_5 t y]
  frame_out
  exact block_eq m c t y

theorem array_cast : (dats m 0 c).arrAt 6 cfg0.N = normed (resid (a := 16384) (m ((c : Thread nD τ).loc main_arg0)) (m ((c : Thread nD τ).loc main_arg1))) (m ((c : Thread nD τ).loc main_arg2)) (m ((c : Thread nD τ).loc main_arg3)) := by
  refine (dats m 0 c).arrAt_eq_of_covers 6 _ (by decide +kernel) fun t hf y => ?_
  blk_simp
  rw [after0_6, show (win0_6.blk t).view.emb y = _ from emb_6 t y]
  frame_out
  exact (pay_cast _ _ _ _ _).trans (block_eq m c t y)

end

section
variable (x0 x1 : Mat 16384 1024) (x2 x3 : S1024.Idx → EReal)

open Cert.Reference42Ideal.Read

/-- The reference's results. -/
theorem reference_resid : val_main_v29 (F := Ideal) x0 x1 = resid x0 x1 := rfl
theorem reference_resid' : val_main_v2 (F := Ideal) x0 x1 = resid x0 x1 := rfl

theorem reference_mean (i : S16384x1024.Idx) : val_main_v7 (F := Ideal) x0 x1 i = mean fun k => resid x0 x1 (ValueIdx.ix2 (i 0) k) := by
  rw [val_main_v7_apply, val_main_v6_apply, val_main_v5_apply, val_main_v4_apply, val_main_v3_apply, reference_resid']
  show Ideal.div (Ideal.ofBits .f32 0x00000000#32 + ∑ k : Fin 1024, _) _ = _
  rw [ofBits_zero, zero_add]
  refine congrArg (Ideal.div · _) (Finset.sum_congr rfl fun k _ => congrArg (resid x0 x1) ?_)
  exact place _ _ _ rfl rfl

theorem reference_dist (i : S16384x1024.Idx) : val_main_v8 (F := Ideal) x0 x1 i = dist (resid x0 x1) (i 0) (i 1) := by
  rw [val_main_v8_apply, reference_resid', reference_mean]
  unfold dist
  exact congrArg (· - _) (congrArg (resid x0 x1) (ValueIdx.eq_ix2 i))

theorem reference_norm : val_main_v26 (F := Ideal) x0 x1 x2 x3 = normed (resid x0 x1) x2 x3 := by
  funext i
  have hs : ∀ i : (⟨2, ![16384, 1]⟩ : Shape).Idx, val_main_v13 (F := Ideal) x0 x1 i = mean fun k => dist (resid x0 x1) (i 0) k * dist (resid x0 x1) (i 0) k := fun i => by
    rw [val_main_v13_apply, val_main_v12_apply, val_main_v11_apply, val_main_v10_apply]
    show Ideal.div (Ideal.ofBits .f32 0x00000000#32 + ∑ k : Fin 1024, _) _ = _
    rw [ofBits_zero, zero_add]
    refine congrArg (Ideal.div · _) (Finset.sum_congr rfl fun k _ => ?_)
    rw [val_main_v9_apply, reference_dist]
    rfl
  rw [val_main_v26_apply, val_main_v25_apply, val_main_v24_apply, val_main_v23_apply, val_main_v22_apply, val_main_v21_apply, val_main_v20_apply, val_main_v19_apply, val_main_v18_apply,
    val_main_v17_apply, hs, show val_main_v15 (F := Ideal) x0 x1 i = _ from reference_dist x0 x1 i]
  have e : idx_main_v21 (idx_main_v22 i) = ValueIdx.ix1 (i 1) := funext fun a => by match a with | ⟨0, _⟩ => rfl
  have e' : idx_main_v24 (idx_main_v25 i) = ValueIdx.ix1 (i 1) := funext fun a => by match a with | ⟨0, _⟩ => rfl
  rw [e, e']
  rfl

theorem reference_cast : val_main_v30 (F := Ideal) x0 x1 x2 x3 = normed (resid x0 x1) x2 x3 := reference_norm x0 x1 x2 x3
end

attribute [local instance] Cert.Kernel42.Gen.facts Cert.Kernel42Ideal.Gen.facts Cert.Reference42Ideal.Gen.facts

theorem frame_kernel : Cert.quiescent_Kernel42 := fun m ρ _ => Cert.Kernel42.Gen.frame m ρ
theorem frame_ideal : Cert.quiescent_Kernel42Ideal := fun m ρ _ => Cert.Kernel42Ideal.Gen.frame m ρ
theorem frame_reference : Cert.quiescent_Reference42Ideal := fun m ρ _ =>
  (θ_run Cert.Reference42Ideal.defs _ _).mono
    (fun r h => ⟨fun c => (h c).2.2.2, sem_eq_zero_of_no_sems (by decide) r.2⟩) (Cert.Reference42Ideal.Value.run (F := Ideal) m ρ)
theorem constants : Cert.preserves_Kernel42_Kernel42Ideal := trivial

theorem value : Cert.algebraic_Kernel42Ideal_Reference42Ideal := by
  intro m ρ m' ρ' _ hag
  refine ⟨fun c => (dats m 0 c).arrAt 4 cfg0.N, fun c => (dats m 0 c).arrAt 5 cfg0.N, fun c => (dats m 0 c).arrAt 6 cfg0.N, Value.run_blocks m ρ, ?_⟩
  refine (θ_run Cert.Reference42Ideal.defs _ _).mono (fun r h c => ?_) (Cert.Reference42Ideal.Value.run (F := Ideal) m' ρ')
  obtain ⟨a0, a1, a2, a3⟩ := hag c
  obtain ⟨h0, h1, h2, hargs⟩ := h c
  refine ⟨h0.trans ?_, h1.trans ?_, h2.trans ?_, hargs⟩
  · refine Eq.trans ?_ (array_resid m c).symm
    rw [a0, a1]
    exact reference_resid _ _
  · refine Eq.trans ?_ (array_norm m c).symm
    rw [a0, a1, a2, a3]
    exact reference_norm _ _ _ _
  · refine Eq.trans ?_ (array_cast m c).symm
    rw [a0, a1, a2, a3]
    exact reference_cast _ _ _ _

end Fox.Layer.Norm

end
-- ==== Proof.Fox.Layer.Gate.lean ====
/-
  The gated per-layer embedding added to the stream.
-/
module

public import proofs.«01_k».proof.Defs
public import proofs.«01_k».proof.Proof.Gen.Kernel43.Frame
public import proofs.«01_k».proof.Proof.Gen.Kernel43Ideal.Value
public import proofs.«01_k».proof.Proof.Gen.Reference43Ideal.Run
public import proofs.«01_k».proof.Proof.Gen.Reference43Ideal.Read
public import proofs.«01_k».proof.Proof.Fox.Products.Common
public import Idealize.ShloMosaic.Adequacy
public import Idealize.ShloMosaic.Init
public import Idealize.ShloMosaic.Lib.Pipeline.ValueKit
public import Idealize.ShloMosaic.Lib.Pointwise
public import Idealize.ShloMosaic.Lib.StableHlo.ReadAt

@[expose] public section

set_option maxRecDepth 16384

noncomputable section

open scoped BigOperators
open Idealize.ShloMosaic Idealize.SL.Sem Cert.Kernel43Ideal Cert.Kernel43Ideal.Gen TcCoe Fox.Products

namespace Fox.Layer.Gate

theorem ofBits_zero : Ideal.ofBits .f32 0x00000000#32 = 0 := by simp [Ideal.ofBits, Ideal.ieee]

theorem row_eq (x : FVec Ideal S1024 .f32) (i : S1x1024.Idx) : shapeCast S1x1024 x shapeCasts_S1024_S1x1024 i = x (ValueIdx.ix1 (i 1)) := by
  pointwise
  rfl

/-- The stream plus the projection times the sigmoid of the gate. -/
def gated {a : ℕ} (h G : Mat a 1024) (b : S1024.Idx → EReal) (p : Mat a 1024) : Mat a 1024 := fun i =>
  h i + Ideal.div (Ideal.ofBits .f32 0x3F800000#32) (Ideal.ofBits .f32 0x3F800000#32 + Ideal.exp (-(G i + b (ValueIdx.ix1 (i 1))))) * p i

/-- What the body computes on one block. -/
theorem pay (h G p : FVec Ideal S512x1024 .f32) (b : FVec Ideal S1x1024 .f32) (b' : S1024.Idx → EReal) (hb : ∀ y : S1x1024.Idx, b y = b' (ValueIdx.ix1 (y 1))) (y : S512x1024.Idx) :
    k0_pay1 (F := Ideal) h G b p y = gated (a := 512) h G b' p y := by
  unfold k0_pay1 gated
  pointwise
  rw [hb, zero_sub]
  rfl

theorem pay_cast (h G p : FVec Ideal S512x1024 .f32) (b : FVec Ideal S1x1024 .f32) (y : S512x1024.Idx) :
    k0_pay2 (F := Ideal) h G b p y = k0_pay1 (F := Ideal) h G b p y := rfl

section
variable (m : (ℓ : Loc nD τ sig) → Buf (Elt Ideal) ℓ) (c : Dev nD)

/-- Which block each grid point works on. -/
theorem idx_0 : ∀ t : Fin grid0.N, cc0_transform_0 (grid0.coords t) = ![t.val, 0] := by decide +kernel
theorem idx_1 : ∀ t : Fin grid0.N, cc0_transform_1 (grid0.coords t) = ![t.val, 0] := by decide +kernel
theorem idx_2 : ∀ t : Fin grid0.N, cc0_transform_2 (grid0.coords t) = ![0, 0] := by decide +kernel
theorem idx_3 : ∀ t : Fin grid0.N, cc0_transform_3 (grid0.coords t) = ![t.val, 0] := by decide +kernel
theorem idx_4 : ∀ t : Fin grid0.N, cc0_transform_4 (grid0.coords t) = ![t.val, 0] := by decide +kernel
theorem idx_5 : ∀ t : Fin grid0.N, cc0_transform_5 (grid0.coords t) = ![t.val, 0] := by decide +kernel

theorem at_0 (t : Fin grid0.N) (y : S512x1024.Idx) :
    iblk m c 0 t y = m ((c : Thread nD τ).loc main_arg0) (ValueIdx.ix2 (wrap 16384 (t.val * 512 + (y 0).val)) (y 1)) := by
  have hN : t.val < 32 := lt_of_lt_of_eq t.isLt N_0
  refine Eq.trans ?_ (congrFun (V_main_arg0 m c) _)
  blk_simp [iblk]
  refine congrArg (V m c main_arg0) (place _ _ _ ?_ ?_)
  · have hy : (y 0).val < 512 := (y 0).isLt
    blk_simp; show cc0_transform_0 (grid0.coords t) 0 * 512 + (y 0).val = (wrap 16384 (t.val * 512 + (y 0).val)).val
    rw [idx_0 t, wrap_val (by omega)]; rfl
  · blk_simp; show cc0_transform_0 (grid0.coords t) 1 * 1024 + (y 1).val = (y 1).val
    rw [idx_0 t]; show 0 * 1024 + (y 1).val = (y 1).val; omega

theorem at_1 (t : Fin grid0.N) (y : S512x1024.Idx) :
    iblk m c 1 t y = m ((c : Thread nD τ).loc main_arg1) (ValueIdx.ix2 (wrap 16384 (t.val * 512 + (y 0).val)) (y 1)) := by
  have hN : t.val < 32 := lt_of_lt_of_eq t.isLt N_0
  refine Eq.trans ?_ (congrFun (V_main_arg1 m c) _)
  blk_simp [iblk]
  refine congrArg (V m c main_arg1) (place _ _ _ ?_ ?_)
  · have hy : (y 0).val < 512 := (y 0).isLt
    blk_simp; show cc0_transform_1 (grid0.coords t) 0 * 512 + (y 0).val = (wrap 16384 (t.val * 512 + (y 0).val)).val
    rw [idx_1 t, wrap_val (by omega)]; rfl
  · blk_simp; show cc0_transform_1 (grid0.coords t) 1 * 1024 + (y 1).val = (y 1).val
    rw [idx_1 t]; show 0 * 1024 + (y 1).val = (y 1).val; omega

theorem V_main_v0 : V m c main_v0 = shapeCast S1x1024 (m ((c : Thread nD τ).loc main_arg2)) shapeCasts_S1024_S1x1024 := by
  unfold V
  after_reads_simp
  rfl

theorem at_2 (t : Fin grid0.N) (y : S1x1024.Idx) : iblk m c 2 t y = m ((c : Thread nD τ).loc main_arg2) (ValueIdx.ix1 (y 1)) := by
  refine Eq.trans ?_ (row_eq (m ((c : Thread nD τ).loc main_arg2)) (ValueIdx.ix2 (y 0) (y 1)))
  refine Eq.trans ?_ (congrFun (V_main_v0 m c) _)
  blk_simp [iblk]
  refine congrArg (V m c main_v0) (place _ _ _ ?_ ?_)
  · blk_simp; show cc0_transform_2 (grid0.coords t) 0 = 0
    rw [idx_2 t]; rfl
  · blk_simp; show cc0_transform_2 (grid0.coords t) 1 * 1024 + (y 1).val = (y 1).val
    rw [idx_2 t]; show 0 * 1024 + (y 1).val = (y 1).val; omega

theorem at_3 (t : Fin grid0.N) (y : S512x1024.Idx) :
    iblk m c 3 t y = m ((c : Thread nD τ).loc main_arg3) (ValueIdx.ix2 (wrap 16384 (t.val * 512 + (y 0).val)) (y 1)) := by
  have hN : t.val < 32 := lt_of_lt_of_eq t.isLt N_0
  refine Eq.trans ?_ (congrFun (V_main_arg3 m c) _)
  blk_simp [iblk]
  refine congrArg (V m c main_arg3) (place _ _ _ ?_ ?_)
  · have hy : (y 0).val < 512 := (y 0).isLt
    blk_simp; show cc0_transform_3 (grid0.coords t) 0 * 512 + (y 0).val = (wrap 16384 (t.val * 512 + (y 0).val)).val
    rw [idx_3 t, wrap_val (by omega)]; rfl
  · blk_simp; show cc0_transform_3 (grid0.coords t) 1 * 1024 + (y 1).val = (y 1).val
    rw [idx_3 t]; show 0 * 1024 + (y 1).val = (y 1).val; omega

theorem emb_4 (t : Fin grid0.N) (y : S512x1024.Idx) : (win0_4.blk t).view.emb y = ValueIdx.ix2 (wrap 16384 (t.val * 512 + (y 0).val)) (y 1) := by
  have hN : t.val < 32 := lt_of_lt_of_eq t.isLt N_0
  refine place _ _ _ ?_ ?_
  · have hy : (y 0).val < 512 := (y 0).isLt
    blk_simp; show cc0_transform_4 (grid0.coords t) 0 * 512 + (y 0).val = (wrap 16384 (t.val * 512 + (y 0).val)).val
    rw [idx_4 t, wrap_val (by omega)]; rfl
  · blk_simp; show cc0_transform_4 (grid0.coords t) 1 * 1024 + (y 1).val = (y 1).val
    rw [idx_4 t]; show 0 * 1024 + (y 1).val = (y 1).val; omega

theorem emb_5 (t : Fin grid0.N) (y : S512x1024.Idx) : (win0_5.blk t).view.emb y = ValueIdx.ix2 (wrap 16384 (t.val * 512 + (y 0).val)) (y 1) := by
  have hN : t.val < 32 := lt_of_lt_of_eq t.isLt N_0
  refine place _ _ _ ?_ ?_
  · have hy : (y 0).val < 512 := (y 0).isLt
    blk_simp; show cc0_transform_5 (grid0.coords t) 0 * 512 + (y 0).val = (wrap 16384 (t.val * 512 + (y 0).val)).val
    rw [idx_5 t, wrap_val (by omega)]; rfl
  · blk_simp; show cc0_transform_5 (grid0.coords t) 1 * 1024 + (y 1).val = (y 1).val
    rw [idx_5 t]; show 0 * 1024 + (y 1).val = (y 1).val; omega

theorem block_eq (t : Fin grid0.N) (y : S512x1024.Idx) :
    k0_pay1 (F := Ideal) (iblk m c 0 t) (iblk m c 1 t) (iblk m c 2 t) (iblk m c 3 t) y = gated (a := 16384) (m ((c : Thread nD τ).loc main_arg0)) (m ((c : Thread nD τ).loc main_arg1)) (m ((c : Thread nD τ).loc main_arg2)) (m ((c : Thread nD τ).loc main_arg3)) (ValueIdx.ix2 (wrap 16384 (t.val * 512 + (y 0).val)) (y 1)) := by
  rw [pay _ _ _ _ (m ((c : Thread nD τ).loc main_arg2)) (at_2 m c t)]
  unfold gated
  rw [at_0, at_1, at_3]

theorem array_sum : (dats m 0 c).arrAt 4 cfg0.N = gated (a := 16384) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, show (win0_4.blk t).view.emb y = _ from emb_4 t y]
  frame_out
  exact block_eq m c t y

theorem array_cast : (dats m 0 c).arrAt 5 cfg0.N = gated (a := 16384) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5, show (win0_5.blk t).view.emb y = _ from emb_5 t y]
  frame_out
  exact (pay_cast _ _ _ _ _).trans (block_eq m c t y)

end

section
variable (x0 x1 : Mat 16384 1024) (x2 : S1024.Idx → EReal) (x3 : Mat 16384 1024)

open Cert.Reference43Ideal.Read in
/-- The reference's results. -/
theorem reference_sum : val_main_v10 (F := Ideal) x0 x1 x2 x3 = gated x0 x1 x2 x3 := by
  funext i
  rw [val_main_v10_apply, val_main_v9_apply, val_main_v8_apply, val_main_v7_apply, val_main_v6_apply, val_main_v5_apply, val_main_v4_apply, val_main_v3_apply, val_main_v2_apply,
    val_main_v1_apply, val_main_v0_apply]
  have e : idx_main_v0 (idx_main_v1 i) = ValueIdx.ix1 (i 1) := funext fun a => by match a with | ⟨0, _⟩ => rfl
  rw [e]
  rfl

theorem reference_cast : Cert.Reference43Ideal.Read.val_main_v11 (F := Ideal) x0 x1 x2 x3 = gated x0 x1 x2 x3 := reference_sum x0 x1 x2 x3
end

attribute [local instance] Cert.Kernel43.Gen.facts Cert.Kernel43Ideal.Gen.facts Cert.Reference43Ideal.Gen.facts

theorem frame_kernel : Cert.quiescent_Kernel43 := fun m ρ _ => Cert.Kernel43.Gen.frame m ρ
theorem frame_ideal : Cert.quiescent_Kernel43Ideal := fun m ρ _ => Cert.Kernel43Ideal.Gen.frame m ρ
theorem frame_reference : Cert.quiescent_Reference43Ideal := fun m ρ _ =>
  (θ_run Cert.Reference43Ideal.defs _ _).mono
    (fun r h => ⟨fun c => (h c).2.2, sem_eq_zero_of_no_sems (by decide) r.2⟩) (Cert.Reference43Ideal.Value.run (F := Ideal) m ρ)
theorem constants : Cert.preserves_Kernel43_Kernel43Ideal := trivial

theorem value : Cert.algebraic_Kernel43Ideal_Reference43Ideal := by
  intro m ρ m' ρ' _ hag
  refine ⟨fun c => (dats m 0 c).arrAt 4 cfg0.N, fun c => (dats m 0 c).arrAt 5 cfg0.N, Value.run_blocks m ρ, ?_⟩
  refine (θ_run Cert.Reference43Ideal.defs _ _).mono (fun r h c => ?_) (Cert.Reference43Ideal.Value.run (F := Ideal) m' ρ')
  obtain ⟨a0, a1, a2, a3⟩ := hag c
  obtain ⟨h0, h1, hargs⟩ := h c
  refine ⟨h0.trans ?_, h1.trans ?_, hargs⟩
  · refine Eq.trans ?_ (array_sum m c).symm
    rw [a0, a1, a2, a3]
    exact reference_sum _ _ _ _
  · refine Eq.trans ?_ (array_cast m c).symm
    rw [a0, a1, a2, a3]
    exact reference_cast _ _ _ _

end Fox.Layer.Gate

end
-- ==== Proof.Fox.Layer.GateBwd.lean ====
/-
  The gated per-layer embedding's gradients: of the gate's product, of the projection's, and of the gate's bias.
-/
module

public import proofs.«01_k».proof.Defs
public import proofs.«01_k».proof.Proof.Gen.Kernel44.Frame
public import proofs.«01_k».proof.Proof.Gen.Kernel44Ideal.Value
public import proofs.«01_k».proof.Proof.Gen.Reference44Ideal.Run
public import proofs.«01_k».proof.Proof.Gen.Reference44Ideal.Read
public import proofs.«01_k».proof.Proof.Fox.Products.Common
public import Idealize.ShloMosaic.Adequacy
public import Idealize.ShloMosaic.Init
public import Idealize.ShloMosaic.Lib.Pipeline.ValueKit
public import Idealize.ShloMosaic.Lib.Pointwise
public import Idealize.ShloMosaic.Lib.StableHlo.ReadAt

@[expose] public section

set_option maxRecDepth 16384

noncomputable section

open scoped BigOperators
open Idealize.ShloMosaic Idealize.SL.Sem Cert.Kernel44Ideal Cert.Kernel44Ideal.Gen TcCoe Fox.Products

namespace Fox.Layer.GateBwd

theorem ofBits_zero : Ideal.ofBits .f32 0x00000000#32 = 0 := by simp [Ideal.ofBits, Ideal.ieee]

theorem row_eq (x : FVec Ideal S1024 .f32) (i : S1x1024.Idx) : shapeCast S1x1024 x shapeCasts_S1024_S1x1024 i = x (ValueIdx.ix1 (i 1)) := by
  pointwise
  rfl

/-- The sigmoid, and the two gradients of the gated projection at one entry. -/
def sigmoid (x : EReal) : EReal := Ideal.div (Ideal.ofBits .f32 0x3F800000#32) (Ideal.ofBits .f32 0x3F800000#32 + Ideal.exp (-x))
def slope (d p x : EReal) : EReal := d * p * (sigmoid x * (Ideal.ofBits .f32 0x3F800000#32 - sigmoid x))
def toGate {a : ℕ} (d G : Mat a 1024) (b : S1024.Idx → EReal) (p : Mat a 1024) : Mat a 1024 := fun i => slope (d i) (p i) (G i + b (ValueIdx.ix1 (i 1)))
def toProj {a : ℕ} (d G : Mat a 1024) (b : S1024.Idx → EReal) : Mat a 1024 := fun i => sigmoid (G i + b (ValueIdx.ix1 (i 1))) * d i

section
variable (d G p : FVec Ideal S512x1024 .f32) (b : FVec Ideal S1x1024 .f32) (b' : S1024.Idx → EReal) (hb : ∀ y : S1x1024.Idx, b y = b' (ValueIdx.ix1 (y 1)))
include hb

/-- What the body computes on one block. -/
theorem pay_sigmoid (y : S512x1024.Idx) : k0_pay1 (F := Ideal) G b y = sigmoid (G y + b' (ValueIdx.ix1 (y 1))) := by
  unfold k0_pay1 sigmoid
  pointwise
  rw [hb, zero_sub]
  rfl

theorem pay_slope (y : S512x1024.Idx) : k0_pay2 (F := Ideal) G b d p y = toGate (a := 512) d G b' p y := by
  show d y * p y * k0_pay1 (F := Ideal) G b y * (Ideal.ofBits .f32 0x3F800000#32 - k0_pay1 (F := Ideal) G b y) = _
  rw [pay_sigmoid G b b' hb, mul_assoc]
  rfl

theorem pay_proj (y : S512x1024.Idx) : k0_pay4 (F := Ideal) G b d y = toProj (a := 512) d G b' y := by
  show d y * k0_pay1 (F := Ideal) G b y = _
  rw [pay_sigmoid G b b' hb, mul_comm]
  rfl
end

theorem pay_gate (d G p : FVec Ideal S512x1024 .f32) (b : FVec Ideal S1x1024 .f32) (y : S512x1024.Idx) : k0_pay3 (F := Ideal) G b d p y = k0_pay2 (F := Ideal) G b d p y := rfl

theorem pay_next (d G p : FVec Ideal S512x1024 .f32) (b x : FVec Ideal S1x1024 .f32) (y : S1x1024.Idx) :
    k0_pay6 (F := Ideal) G b d p x y = x y + ∑ l : Fin 512, k0_pay2 (F := Ideal) G b d p (ValueIdx.ix2 l (y 1)) := by
  unfold k0_pay6
  generalize k0_pay2 (F := Ideal) G b d p = z
  pointwise
  rfl

theorem pay_first (d G p : FVec Ideal S512x1024 .f32) (b : FVec Ideal S1x1024 .f32) (y : S1x1024.Idx) :
    k0_pay6 (F := Ideal) G b d p (k0_pay5 (F := Ideal)) y = ∑ l : Fin 512, k0_pay2 (F := Ideal) G b d p (ValueIdx.ix2 l (y 1)) := by
  rw [pay_next]
  show Ideal.ofBits .f32 0x00000000#32 + _ = _
  rw [ofBits_zero, zero_add]

section
variable (m : (ℓ : Loc nD τ sig) → Buf (Elt Ideal) ℓ) (c : Dev nD)

/-- Which block each grid point works on. -/
theorem idx_0 : ∀ t : Fin grid0.N, cc0_transform_0 (grid0.coords t) = ![t.val, 0] := by decide +kernel
theorem idx_1 : ∀ t : Fin grid0.N, cc0_transform_1 (grid0.coords t) = ![t.val, 0] := by decide +kernel
theorem idx_2 : ∀ t : Fin grid0.N, cc0_transform_2 (grid0.coords t) = ![0, 0] := by decide +kernel
theorem idx_3 : ∀ t : Fin grid0.N, cc0_transform_3 (grid0.coords t) = ![t.val, 0] := by decide +kernel
theorem idx_4 : ∀ t : Fin grid0.N, cc0_transform_4 (grid0.coords t) = ![t.val, 0] := by decide +kernel
theorem idx_5 : ∀ t : Fin grid0.N, cc0_transform_5 (grid0.coords t) = ![t.val, 0] := by decide +kernel
theorem idx_6 : ∀ t : Fin grid0.N, cc0_transform_6 (grid0.coords t) = ![0, 0] := by decide +kernel

theorem at_0 (t : Fin grid0.N) (y : S512x1024.Idx) :
    iblk m c 0 t y = m ((c : Thread nD τ).loc main_arg0) (ValueIdx.ix2 (wrap 16384 (t.val * 512 + (y 0).val)) (y 1)) := by
  have hN : t.val < 32 := lt_of_lt_of_eq t.isLt N_0
  refine Eq.trans ?_ (congrFun (V_main_arg0 m c) _)
  blk_simp [iblk]
  refine congrArg (V m c main_arg0) (place _ _ _ ?_ ?_)
  · have hy : (y 0).val < 512 := (y 0).isLt
    blk_simp; show cc0_transform_0 (grid0.coords t) 0 * 512 + (y 0).val = (wrap 16384 (t.val * 512 + (y 0).val)).val
    rw [idx_0 t, wrap_val (by omega)]; rfl
  · blk_simp; show cc0_transform_0 (grid0.coords t) 1 * 1024 + (y 1).val = (y 1).val
    rw [idx_0 t]; show 0 * 1024 + (y 1).val = (y 1).val; omega

theorem at_1 (t : Fin grid0.N) (y : S512x1024.Idx) :
    iblk m c 1 t y = m ((c : Thread nD τ).loc main_arg1) (ValueIdx.ix2 (wrap 16384 (t.val * 512 + (y 0).val)) (y 1)) := by
  have hN : t.val < 32 := lt_of_lt_of_eq t.isLt N_0
  refine Eq.trans ?_ (congrFun (V_main_arg1 m c) _)
  blk_simp [iblk]
  refine congrArg (V m c main_arg1) (place _ _ _ ?_ ?_)
  · have hy : (y 0).val < 512 := (y 0).isLt
    blk_simp; show cc0_transform_1 (grid0.coords t) 0 * 512 + (y 0).val = (wrap 16384 (t.val * 512 + (y 0).val)).val
    rw [idx_1 t, wrap_val (by omega)]; rfl
  · blk_simp; show cc0_transform_1 (grid0.coords t) 1 * 1024 + (y 1).val = (y 1).val
    rw [idx_1 t]; show 0 * 1024 + (y 1).val = (y 1).val; omega

theorem V_main_v0 : V m c main_v0 = shapeCast S1x1024 (m ((c : Thread nD τ).loc main_arg2)) shapeCasts_S1024_S1x1024 := by
  unfold V
  after_reads_simp
  rfl

theorem at_2 (t : Fin grid0.N) (y : S1x1024.Idx) : iblk m c 2 t y = m ((c : Thread nD τ).loc main_arg2) (ValueIdx.ix1 (y 1)) := by
  refine Eq.trans ?_ (row_eq (m ((c : Thread nD τ).loc main_arg2)) (ValueIdx.ix2 (y 0) (y 1)))
  refine Eq.trans ?_ (congrFun (V_main_v0 m c) _)
  blk_simp [iblk]
  refine congrArg (V m c main_v0) (place _ _ _ ?_ ?_)
  · blk_simp; show cc0_transform_2 (grid0.coords t) 0 = 0
    rw [idx_2 t]; rfl
  · blk_simp; show cc0_transform_2 (grid0.coords t) 1 * 1024 + (y 1).val = (y 1).val
    rw [idx_2 t]; show 0 * 1024 + (y 1).val = (y 1).val; omega

theorem at_3 (t : Fin grid0.N) (y : S512x1024.Idx) :
    iblk m c 3 t y = m ((c : Thread nD τ).loc main_arg3) (ValueIdx.ix2 (wrap 16384 (t.val * 512 + (y 0).val)) (y 1)) := by
  have hN : t.val < 32 := lt_of_lt_of_eq t.isLt N_0
  refine Eq.trans ?_ (congrFun (V_main_arg3 m c) _)
  blk_simp [iblk]
  refine congrArg (V m c main_arg3) (place _ _ _ ?_ ?_)
  · have hy : (y 0).val < 512 := (y 0).isLt
    blk_simp; show cc0_transform_3 (grid0.coords t) 0 * 512 + (y 0).val = (wrap 16384 (t.val * 512 + (y 0).val)).val
    rw [idx_3 t, wrap_val (by omega)]; rfl
  · blk_simp; show cc0_transform_3 (grid0.coords t) 1 * 1024 + (y 1).val = (y 1).val
    rw [idx_3 t]; show 0 * 1024 + (y 1).val = (y 1).val; omega

theorem emb_4 (t : Fin grid0.N) (y : S512x1024.Idx) : (win0_4.blk t).view.emb y = ValueIdx.ix2 (wrap 16384 (t.val * 512 + (y 0).val)) (y 1) := by
  have hN : t.val < 32 := lt_of_lt_of_eq t.isLt N_0
  refine place _ _ _ ?_ ?_
  · have hy : (y 0).val < 512 := (y 0).isLt
    blk_simp; show cc0_transform_4 (grid0.coords t) 0 * 512 + (y 0).val = (wrap 16384 (t.val * 512 + (y 0).val)).val
    rw [idx_4 t, wrap_val (by omega)]; rfl
  · blk_simp; show cc0_transform_4 (grid0.coords t) 1 * 1024 + (y 1).val = (y 1).val
    rw [idx_4 t]; show 0 * 1024 + (y 1).val = (y 1).val; omega

theorem emb_5 (t : Fin grid0.N) (y : S512x1024.Idx) : (win0_5.blk t).view.emb y = ValueIdx.ix2 (wrap 16384 (t.val * 512 + (y 0).val)) (y 1) := by
  have hN : t.val < 32 := lt_of_lt_of_eq t.isLt N_0
  refine place _ _ _ ?_ ?_
  · have hy : (y 0).val < 512 := (y 0).isLt
    blk_simp; show cc0_transform_5 (grid0.coords t) 0 * 512 + (y 0).val = (wrap 16384 (t.val * 512 + (y 0).val)).val
    rw [idx_5 t, wrap_val (by omega)]; rfl
  · blk_simp; show cc0_transform_5 (grid0.coords t) 1 * 1024 + (y 1).val = (y 1).val
    rw [idx_5 t]; show 0 * 1024 + (y 1).val = (y 1).val; omega

theorem emb_6 (t : Fin grid0.N) (y : S1x1024.Idx) : (win0_6.blk t).view.emb y = ValueIdx.ix2 (y 0) (y 1) := by
  refine place _ _ _ ?_ ?_
  · blk_simp; show cc0_transform_6 (grid0.coords t) 0 = 0
    rw [idx_6 t]; rfl
  · blk_simp; show cc0_transform_6 (grid0.coords t) 1 * 1024 + (y 1).val = (y 1).val
    rw [idx_6 t]; show 0 * 1024 + (y 1).val = (y 1).val; omega

theorem slope_eq (t : Fin grid0.N) (y : S512x1024.Idx) : k0_pay2 (F := Ideal) (iblk m c 1 t) (iblk m c 2 t) (iblk m c 0 t) (iblk m c 3 t) y = toGate (a := 16384) (m ((c : Thread nD τ).loc main_arg0)) (m ((c : Thread nD τ).loc main_arg1)) (m ((c : Thread nD τ).loc main_arg2)) (m ((c : Thread nD τ).loc main_arg3)) (ValueIdx.ix2 (wrap 16384 (t.val * 512 + (y 0).val)) (y 1)) := by
  rw [pay_slope _ _ _ _ (m ((c : Thread nD τ).loc main_arg2)) (at_2 m c t)]
  unfold toGate
  rw [at_0, at_1, at_3]

theorem proj_eq (t : Fin grid0.N) (y : S512x1024.Idx) : k0_pay4 (F := Ideal) (iblk m c 1 t) (iblk m c 2 t) (iblk m c 0 t) y = toProj (a := 16384) (m ((c : Thread nD τ).loc main_arg0)) (m ((c : Thread nD τ).loc main_arg1)) (m ((c : Thread nD τ).loc main_arg2)) (ValueIdx.ix2 (wrap 16384 (t.val * 512 + (y 0).val)) (y 1)) := by
  rw [pay_proj _ _ _ (m ((c : Thread nD τ).loc main_arg2)) (at_2 m c t)]
  unfold toProj
  rw [at_0, at_1]

/-- The contribution of position `i` to the bias of feature `q`. -/
def part (q : Fin 1024) (i : ℕ) : EReal := toGate (a := 16384) (m ((c : Thread nD τ).loc main_arg0)) (m ((c : Thread nD τ).loc main_arg1)) (m ((c : Thread nD τ).loc main_arg2)) (m ((c : Thread nD τ).loc main_arg3)) (ValueIdx.ix2 (wrap 16384 i) q)

theorem block_eq (t : Fin grid0.N) (y : S1x1024.Idx) : (∑ l : Fin 512, k0_pay2 (F := Ideal) (iblk m c 1 t) (iblk m c 2 t) (iblk m c 0 t) (iblk m c 3 t) (ValueIdx.ix2 l (y 1)))
    = ∑ i ∈ Finset.range 512, part m c (y 1) (t.val * 512 + i) := by
  rw [Finset.sum_range]
  exact Finset.sum_congr rfl fun l _ => slope_eq m c t (ValueIdx.ix2 l (y 1))

/-- After point `n` the third output holds the contributions of all positions up to the point's block. -/
theorem out_eq (y : S1x1024.Idx) (n : ℕ) (hn : n < cfg0.N) : (outsAt0 m c n hn).2.2 y = ∑ i ∈ Finset.range (n % 32 * 512 + 512), part m c (y 1) i := by
  have hlt : ∀ j < cfg0.N, j < 32 := fun j h => lt_of_lt_of_eq h N_0
  refine accumulate (p := 32) (w := 512) (fun n hn => (outsAt0 m c n hn).2.2 y)
    (fun n hn => ∑ l : Fin 512, k0_pay2 (F := Ideal) (iblk m c 1 ⟨n, hn⟩) (iblk m c 2 ⟨n, hn⟩) (iblk m c 0 ⟨n, hn⟩) (iblk m c 3 ⟨n, hn⟩) (ValueIdx.ix2 l (y 1)))
    (fun _ => part m c (y 1)) (fun j hj h => ?_) (fun j hj h => ?_) (fun j hj => ?_) n hn
  · show (outsAt0 m c (⟨j, hj⟩ : Fin cfg0.N).val _).2.2 y = _
    rw [outsAt0_A m c ⟨j, hj⟩ h]
    dsimp only
    frame_out
    exact pay_first _ _ _ _ y
  · show (outsAt0 m c (⟨j, hj⟩ : Fin cfg0.N).val _).2.2 y = _
    rw [outsAt0_B m c ⟨j, hj⟩ h]
    dsimp only
    frame_out
    exact pay_next _ _ _ _ _ y
  · refine (block_eq m c ⟨j, hj⟩ y).trans ?_
    show _ = ∑ i ∈ Finset.range 512, part m c (y 1) (j % 32 * 512 + i)
    rw [Nat.mod_eq_of_lt (hlt j hj)]

/-- The kernel's results. -/
theorem array_bias : (dats m 0 c).arrAt 6 cfg0.N = fun i => ∑ l ∈ Finset.range 16384, part m c (i 1) l := by
  refine (dats m 0 c).arrAt_eq_of_covers 6 _ (by decide +kernel) fun t hf y => ?_
  have h : t.val % 32 = 31 := (flush0_6 t).mp hf
  blk_simp
  rw [after0_6]
  refine (out_eq m c y t.val t.isLt).trans ?_
  rw [show (win0_6.blk t).view.emb y = _ from emb_6 t y, h]
  rfl

theorem array_gate : (dats m 0 c).arrAt 4 cfg0.N = toGate (a := 16384) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, show (win0_4.blk t).view.emb y = _ from emb_4 t y]
  by_cases h : t.val % 32 = 0
  · rw [outsAt0_A m c t h]
    dsimp only
    frame_out
    exact (pay_gate _ _ _ _ _).trans (slope_eq m c t y)
  · rw [outsAt0_B m c t h]
    dsimp only
    frame_out
    exact (pay_gate _ _ _ _ _).trans (slope_eq m c t y)

theorem array_proj : (dats m 0 c).arrAt 5 cfg0.N = toProj (a := 16384) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5, show (win0_5.blk t).view.emb y = _ from emb_5 t y]
  by_cases h : t.val % 32 = 0
  · rw [outsAt0_A m c t h]
    dsimp only
    frame_out
    exact proj_eq m c t y
  · rw [outsAt0_B m c t h]
    dsimp only
    frame_out
    exact proj_eq m c t y

end

section
variable (x0 x1 : Mat 16384 1024) (x2 : S1024.Idx → EReal) (x3 : Mat 16384 1024)

open Cert.Reference44Ideal.Read

/-- The reference's results. -/
theorem reference_sigmoid (i : S16384x1024.Idx) : val_main_v8 (F := Ideal) x1 x2 i = sigmoid (x1 i + x2 (ValueIdx.ix1 (i 1))) := by
  rw [val_main_v8_apply, val_main_v7_apply, val_main_v6_apply, val_main_v5_apply, val_main_v4_apply, val_main_v3_apply, val_main_v2_apply, val_main_v1_apply, val_main_v0_apply]
  have e : idx_main_v0 (idx_main_v1 i) = ValueIdx.ix1 (i 1) := funext fun a => by match a with | ⟨0, _⟩ => rfl
  rw [e]
  rfl

theorem reference_slope : val_main_v15 (F := Ideal) x0 x1 x2 x3 = toGate x0 x1 x2 x3 := by
  funext i
  rw [val_main_v15_apply, val_main_v14_apply, val_main_v11_apply, val_main_v10_apply, val_main_v9_apply, reference_sigmoid]
  rfl

theorem reference_gate : val_main_v19 (F := Ideal) x0 x1 x2 x3 = toGate x0 x1 x2 x3 := reference_slope x0 x1 x2 x3

theorem reference_proj : val_main_v20 (F := Ideal) x0 x1 x2 = toProj x0 x1 x2 := by
  funext i
  rw [val_main_v20_apply, val_main_v13_apply, reference_sigmoid]
  rfl

theorem reference_bias : val_main_v21 (F := Ideal) x0 x1 x2 x3 = fun i => ∑ l ∈ Finset.range 16384, toGate x0 x1 x2 x3 (ValueIdx.ix2 (wrap 16384 l) (i 1)) := by
  funext i
  rw [val_main_v21_apply, val_main_v18_apply]
  show Ideal.ofBits .f32 0x00000000#32 + ∑ k : Fin 1, _ = _
  rw [ofBits_zero, zero_add, Fin.sum_univ_one, val_main_v17_apply, val_main_v16_apply]
  show Ideal.ofBits .f32 0x00000000#32 + ∑ k : Fin 16384, _ = _
  rw [ofBits_zero, zero_add, Finset.sum_range, reference_slope]
  refine Finset.sum_congr rfl fun k _ => congrArg (toGate x0 x1 x2 x3) ?_
  refine place _ _ _ (wrap_val k.isLt).symm ?_
  have h : (i 0).val < 1 := (i 0).isLt
  show 0 * 1024 + ((i 0).val * 1024 + (i 1).val) = (i 1).val
  omega
end

attribute [local instance] Cert.Kernel44.Gen.facts Cert.Kernel44Ideal.Gen.facts Cert.Reference44Ideal.Gen.facts

theorem frame_kernel : Cert.quiescent_Kernel44 := fun m ρ _ => Cert.Kernel44.Gen.frame m ρ
theorem frame_ideal : Cert.quiescent_Kernel44Ideal := fun m ρ _ => Cert.Kernel44Ideal.Gen.frame m ρ
theorem frame_reference : Cert.quiescent_Reference44Ideal := fun m ρ _ =>
  (θ_run Cert.Reference44Ideal.defs _ _).mono
    (fun r h => ⟨fun c => (h c).2.2.2, sem_eq_zero_of_no_sems (by decide) r.2⟩) (Cert.Reference44Ideal.Value.run (F := Ideal) m ρ)
theorem constants : Cert.preserves_Kernel44_Kernel44Ideal := trivial

theorem value : Cert.algebraic_Kernel44Ideal_Reference44Ideal := by
  intro m ρ m' ρ' _ hag
  refine ⟨fun c => (dats m 0 c).arrAt 4 cfg0.N, fun c => (dats m 0 c).arrAt 5 cfg0.N, fun c => (dats m 0 c).arrAt 6 cfg0.N, Value.run_blocks m ρ, ?_⟩
  refine (θ_run Cert.Reference44Ideal.defs _ _).mono (fun r h c => ?_) (Cert.Reference44Ideal.Value.run (F := Ideal) m' ρ')
  obtain ⟨a0, a1, a2, a3⟩ := hag c
  obtain ⟨h0, h1, h2, hargs⟩ := h c
  refine ⟨h0.trans ?_, h1.trans ?_, h2.trans ?_, hargs⟩
  · refine Eq.trans ?_ (array_gate m c).symm
    rw [a0, a1, a2, a3]
    exact reference_gate _ _ _ _
  · refine Eq.trans ?_ (array_proj m c).symm
    rw [a0, a1, a2]
    exact reference_proj _ _ _
  · refine Eq.trans ?_ (array_bias m c).symm
    unfold part
    rw [a0, a1, a2, a3]
    exact reference_bias _ _ _ _

end Fox.Layer.GateBwd

end
-- ==== Proof.lean ====
module

public import proofs.«01_k».proof.Defs
public import proofs.«01_k».proof.Proof.Fox.Claims
public import proofs.«01_k».proof.Proof.Fox.Products.FfnUp
public import proofs.«01_k».proof.Proof.Fox.Products.FfnUpDx
public import proofs.«01_k».proof.Proof.Fox.Products.FfnUpDw
public import proofs.«01_k».proof.Proof.Fox.Products.FfnDown
public import proofs.«01_k».proof.Proof.Fox.Products.FfnDownDx
public import proofs.«01_k».proof.Proof.Fox.Products.FfnDownDw
public import proofs.«01_k».proof.Proof.Fox.Products.AttnIn
public import proofs.«01_k».proof.Proof.Fox.Products.AttnInDx
public import proofs.«01_k».proof.Proof.Fox.Products.AttnInDw
public import proofs.«01_k».proof.Proof.Fox.Products.AttnOut
public import proofs.«01_k».proof.Proof.Fox.Products.AttnOutDx
public import proofs.«01_k».proof.Proof.Fox.Products.AttnOutDw
public import proofs.«01_k».proof.Proof.Fox.Products.SsmIn
public import proofs.«01_k».proof.Proof.Fox.Products.SsmInDx
public import proofs.«01_k».proof.Proof.Fox.Products.SsmInDw
public import proofs.«01_k».proof.Proof.Fox.Products.SsmOut
public import proofs.«01_k».proof.Proof.Fox.Products.SsmOutDx
public import proofs.«01_k».proof.Proof.Fox.Products.SsmOutDw
public import proofs.«01_k».proof.Proof.Fox.Products.PleGateMm
public import proofs.«01_k».proof.Proof.Fox.Products.PleGateDx
public import proofs.«01_k».proof.Proof.Fox.Products.PleGateDw
public import proofs.«01_k».proof.Proof.Fox.Products.PleProjMm
public import proofs.«01_k».proof.Proof.Fox.Products.PleProjDw
public import proofs.«01_k».proof.Proof.Fox.Optimiser.AttnIn
public import proofs.«01_k».proof.Proof.Fox.Optimiser.AttnBias
public import proofs.«01_k».proof.Proof.Fox.Optimiser.AttnOut
public import proofs.«01_k».proof.Proof.Fox.Optimiser.SsmIn
public import proofs.«01_k».proof.Proof.Fox.Optimiser.SsmConv
public import proofs.«01_k».proof.Proof.Fox.Optimiser.SsmConvBias
public import proofs.«01_k».proof.Proof.Fox.Optimiser.SsmHeads
public import proofs.«01_k».proof.Proof.Fox.Optimiser.SsmNorm
public import proofs.«01_k».proof.Proof.Fox.Optimiser.SsmOut
public import proofs.«01_k».proof.Proof.Fox.Optimiser.Vectors
public import proofs.«01_k».proof.Proof.Fox.Optimiser.FfnUp
public import proofs.«01_k».proof.Proof.Fox.Optimiser.FfnConv
public import proofs.«01_k».proof.Proof.Fox.Optimiser.FfnConvBias
public import proofs.«01_k».proof.Proof.Fox.Optimiser.FfnDown
public import proofs.«01_k».proof.Proof.Fox.Optimiser.PleProj
public import proofs.«01_k».proof.Proof.Fox.Optimiser.PleGate
public import proofs.«01_k».proof.Proof.Fox.Loss.Head
public import proofs.«01_k».proof.Proof.Fox.Layer.Norm
public import proofs.«01_k».proof.Proof.Fox.Layer.Gate
public import proofs.«01_k».proof.Proof.Fox.Layer.GateBwd

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts,
    Cert.Kernel32.Gen.facts, Cert.Kernel32Ideal.Gen.facts, Cert.Reference32Ideal.Gen.facts,
    Cert.Kernel33.Gen.facts, Cert.Kernel33Ideal.Gen.facts, Cert.Reference33Ideal.Gen.facts,
    Cert.Kernel34.Gen.facts, Cert.Kernel34Ideal.Gen.facts, Cert.Reference34Ideal.Gen.facts,
    Cert.Kernel35.Gen.facts, Cert.Kernel35Ideal.Gen.facts, Cert.Reference35Ideal.Gen.facts,
    Cert.Kernel36.Gen.facts, Cert.Kernel36Ideal.Gen.facts, Cert.Reference36Ideal.Gen.facts,
    Cert.Kernel37.Gen.facts, Cert.Kernel37Ideal.Gen.facts, Cert.Reference37Ideal.Gen.facts,
    Cert.Kernel38.Gen.facts, Cert.Kernel38Ideal.Gen.facts, Cert.Reference38Ideal.Gen.facts,
    Cert.Kernel39.Gen.facts, Cert.Kernel39Ideal.Gen.facts, Cert.Reference39Ideal.Gen.facts,
    Cert.Kernel40.Gen.facts, Cert.Kernel40Ideal.Gen.facts, Cert.Reference40Ideal.Gen.facts,
    Cert.Kernel41.Gen.facts, Cert.Kernel41Ideal.Gen.facts, Cert.Reference41Ideal.Gen.facts,
    Cert.Kernel42.Gen.facts, Cert.Kernel42Ideal.Gen.facts, Cert.Reference42Ideal.Gen.facts,
    Cert.Kernel43.Gen.facts, Cert.Kernel43Ideal.Gen.facts, Cert.Reference43Ideal.Gen.facts,
    Cert.Kernel44.Gen.facts, Cert.Kernel44Ideal.Gen.facts, Cert.Reference44Ideal.Gen.facts,
    Fox.pre_facts,
    Fox.frame_kernel, Fox.frame_ideal, Fox.frame_ideal_finite, Fox.frame_reference, Fox.frame_reference_finite,
    Fox.FfnUp.frame_kernel, Fox.FfnUp.frame_ideal, Fox.FfnUp.frame_reference,
    Fox.FfnUpDx.frame_kernel, Fox.FfnUpDx.frame_ideal, Fox.FfnUpDx.frame_reference,
    Fox.FfnUpDw.frame_kernel, Fox.FfnUpDw.frame_ideal, Fox.FfnUpDw.frame_reference,
    Fox.FfnDown.frame_kernel, Fox.FfnDown.frame_ideal, Fox.FfnDown.frame_reference,
    Fox.FfnDownDx.frame_kernel, Fox.FfnDownDx.frame_ideal, Fox.FfnDownDx.frame_reference,
    Fox.FfnDownDw.frame_kernel, Fox.FfnDownDw.frame_ideal, Fox.FfnDownDw.frame_reference,
    Fox.AttnIn.frame_kernel, Fox.AttnIn.frame_ideal, Fox.AttnIn.frame_reference,
    Fox.AttnInDx.frame_kernel, Fox.AttnInDx.frame_ideal, Fox.AttnInDx.frame_reference,
    Fox.AttnInDw.frame_kernel, Fox.AttnInDw.frame_ideal, Fox.AttnInDw.frame_reference,
    Fox.AttnOut.frame_kernel, Fox.AttnOut.frame_ideal, Fox.AttnOut.frame_reference,
    Fox.AttnOutDx.frame_kernel, Fox.AttnOutDx.frame_ideal, Fox.AttnOutDx.frame_reference,
    Fox.AttnOutDw.frame_kernel, Fox.AttnOutDw.frame_ideal, Fox.AttnOutDw.frame_reference,
    Fox.SsmIn.frame_kernel, Fox.SsmIn.frame_ideal, Fox.SsmIn.frame_reference,
    Fox.SsmInDx.frame_kernel, Fox.SsmInDx.frame_ideal, Fox.SsmInDx.frame_reference,
    Fox.SsmInDw.frame_kernel, Fox.SsmInDw.frame_ideal, Fox.SsmInDw.frame_reference,
    Fox.SsmOut.frame_kernel, Fox.SsmOut.frame_ideal, Fox.SsmOut.frame_reference,
    Fox.SsmOutDx.frame_kernel, Fox.SsmOutDx.frame_ideal, Fox.SsmOutDx.frame_reference,
    Fox.SsmOutDw.frame_kernel, Fox.SsmOutDw.frame_ideal, Fox.SsmOutDw.frame_reference,
    Fox.PleGateMm.frame_kernel, Fox.PleGateMm.frame_ideal, Fox.PleGateMm.frame_reference,
    Fox.PleGateDx.frame_kernel, Fox.PleGateDx.frame_ideal, Fox.PleGateDx.frame_reference,
    Fox.PleGateDw.frame_kernel, Fox.PleGateDw.frame_ideal, Fox.PleGateDw.frame_reference,
    Fox.PleProjMm.frame_kernel, Fox.PleProjMm.frame_ideal, Fox.PleProjMm.frame_reference,
    Fox.PleProjDw.frame_kernel, Fox.PleProjDw.frame_ideal, Fox.PleProjDw.frame_reference,
    Fox.Optimiser.AttnIn.frame_kernel, Fox.Optimiser.AttnIn.frame_ideal, Fox.Optimiser.AttnIn.frame_reference,
    Fox.Optimiser.AttnBias.frame_kernel, Fox.Optimiser.AttnBias.frame_ideal, Fox.Optimiser.AttnBias.frame_reference,
    Fox.Optimiser.AttnOut.frame_kernel, Fox.Optimiser.AttnOut.frame_ideal, Fox.Optimiser.AttnOut.frame_reference,
    Fox.Optimiser.SsmIn.frame_kernel, Fox.Optimiser.SsmIn.frame_ideal, Fox.Optimiser.SsmIn.frame_reference,
    Fox.Optimiser.SsmConv.frame_kernel, Fox.Optimiser.SsmConv.frame_ideal, Fox.Optimiser.SsmConv.frame_reference,
    Fox.Optimiser.SsmConvBias.frame_kernel, Fox.Optimiser.SsmConvBias.frame_ideal, Fox.Optimiser.SsmConvBias.frame_reference,
    Fox.Optimiser.SsmHeads.frame_kernel, Fox.Optimiser.SsmHeads.frame_ideal, Fox.Optimiser.SsmHeads.frame_reference,
    Fox.Optimiser.SsmNorm.frame_kernel, Fox.Optimiser.SsmNorm.frame_ideal, Fox.Optimiser.SsmNorm.frame_reference,
    Fox.Optimiser.SsmOut.frame_kernel, Fox.Optimiser.SsmOut.frame_ideal, Fox.Optimiser.SsmOut.frame_reference,
    Fox.Optimiser.Vectors.frame_kernel, Fox.Optimiser.Vectors.frame_ideal, Fox.Optimiser.Vectors.frame_reference,
    Fox.Optimiser.FfnUp.frame_kernel, Fox.Optimiser.FfnUp.frame_ideal, Fox.Optimiser.FfnUp.frame_reference,
    Fox.Optimiser.FfnConv.frame_kernel, Fox.Optimiser.FfnConv.frame_ideal, Fox.Optimiser.FfnConv.frame_reference,
    Fox.Optimiser.FfnConvBias.frame_kernel, Fox.Optimiser.FfnConvBias.frame_ideal, Fox.Optimiser.FfnConvBias.frame_reference,
    Fox.Optimiser.FfnDown.frame_kernel, Fox.Optimiser.FfnDown.frame_ideal, Fox.Optimiser.FfnDown.frame_reference,
    Fox.Optimiser.PleProj.frame_kernel, Fox.Optimiser.PleProj.frame_ideal, Fox.Optimiser.PleProj.frame_reference,
    Fox.Optimiser.PleGate.frame_kernel, Fox.Optimiser.PleGate.frame_ideal, Fox.Optimiser.PleGate.frame_reference,
    Fox.Loss.frame_kernel, Fox.Loss.frame_ideal, Fox.Loss.frame_reference,
    Fox.Layer.Norm.frame_kernel, Fox.Layer.Norm.frame_ideal, Fox.Layer.Norm.frame_reference,
    Fox.Layer.Gate.frame_kernel, Fox.Layer.Gate.frame_ideal, Fox.Layer.Gate.frame_reference,
    Fox.Layer.GateBwd.frame_kernel, Fox.Layer.GateBwd.frame_ideal, Fox.Layer.GateBwd.frame_reference,
    Fox.constants, Fox.gradients,
    Fox.FfnUp.constants, Fox.FfnUp.value,
    Fox.FfnUpDx.constants, Fox.FfnUpDx.value,
    Fox.FfnUpDw.constants, Fox.FfnUpDw.value,
    Fox.FfnDown.constants, Fox.FfnDown.value,
    Fox.FfnDownDx.constants, Fox.FfnDownDx.value,
    Fox.FfnDownDw.constants, Fox.FfnDownDw.value,
    Fox.AttnIn.constants, Fox.AttnIn.value,
    Fox.AttnInDx.constants, Fox.AttnInDx.value,
    Fox.AttnInDw.constants, Fox.AttnInDw.value,
    Fox.AttnOut.constants, Fox.AttnOut.value,
    Fox.AttnOutDx.constants, Fox.AttnOutDx.value,
    Fox.AttnOutDw.constants, Fox.AttnOutDw.value,
    Fox.SsmIn.constants, Fox.SsmIn.value,
    Fox.SsmInDx.constants, Fox.SsmInDx.value,
    Fox.SsmInDw.constants, Fox.SsmInDw.value,
    Fox.SsmOut.constants, Fox.SsmOut.value,
    Fox.SsmOutDx.constants, Fox.SsmOutDx.value,
    Fox.SsmOutDw.constants, Fox.SsmOutDw.value,
    Fox.PleGateMm.constants, Fox.PleGateMm.value,
    Fox.PleGateDx.constants, Fox.PleGateDx.value,
    Fox.PleGateDw.constants, Fox.PleGateDw.value,
    Fox.PleProjMm.constants, Fox.PleProjMm.value,
    Fox.PleProjDw.constants, Fox.PleProjDw.value,
    Fox.Optimiser.AttnIn.constants, Fox.Optimiser.AttnIn.value,
    Fox.Optimiser.AttnBias.constants, Fox.Optimiser.AttnBias.value,
    Fox.Optimiser.AttnOut.constants, Fox.Optimiser.AttnOut.value,
    Fox.Optimiser.SsmIn.constants, Fox.Optimiser.SsmIn.value,
    Fox.Optimiser.SsmConv.constants, Fox.Optimiser.SsmConv.value,
    Fox.Optimiser.SsmConvBias.constants, Fox.Optimiser.SsmConvBias.value,
    Fox.Optimiser.SsmHeads.constants, Fox.Optimiser.SsmHeads.value,
    Fox.Optimiser.SsmNorm.constants, Fox.Optimiser.SsmNorm.value,
    Fox.Optimiser.SsmOut.constants, Fox.Optimiser.SsmOut.value,
    Fox.Optimiser.Vectors.constants, Fox.Optimiser.Vectors.value,
    Fox.Optimiser.FfnUp.constants, Fox.Optimiser.FfnUp.value,
    Fox.Optimiser.FfnConv.constants, Fox.Optimiser.FfnConv.value,
    Fox.Optimiser.FfnConvBias.constants, Fox.Optimiser.FfnConvBias.value,
    Fox.Optimiser.FfnDown.constants, Fox.Optimiser.FfnDown.value,
    Fox.Optimiser.PleProj.constants, Fox.Optimiser.PleProj.value,
    Fox.Optimiser.PleGate.constants, Fox.Optimiser.PleGate.value,
    Fox.Loss.constants, Fox.Loss.value,
    Fox.Layer.Norm.constants, Fox.Layer.Norm.value,
    Fox.Layer.Gate.constants, Fox.Layer.Gate.value,
    Fox.Layer.GateBwd.constants, Fox.Layer.GateBwd.value⟩

end Cert.Proof

end
